-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x8192x64x128 .f32 := Host.absf main_arg2
  let main_cst_2 : FVec F S_ .f32 := constant S_ .f32 0x7F800000#32
  let main_v10 : FVec F S1x8192x64x128 .f32 := broadcastInDim S1x8192x64x128 ![] bcast_S_S1x8192x64x128 main_cst_2
  let main_v11 : IVec S1x8192x64x128 1 := cmpf .olt main_v9 main_v10
  let main_c_3 : IVec S_ 1 := constantI S_ 1 1#1
  let main_v12 : IVec S_ 1 := (fun x v => Host.reduce IntOp.andi x v reducesTo_S1x8192x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S8x32x1024 : Shape := ⟨3, ![8, 32, 1024]⟩
abbrev S128x64x128 : Shape := ⟨3, ![128, 64, 128]⟩
abbrev S64x33x128 : Shape := ⟨3, ![64, 33, 128]⟩
abbrev S2x8x33x128 : Shape := ⟨4, ![2, 8, 33, 128]⟩
abbrev S1152x8x128 : Shape := ⟨3, ![1152, 8, 128]⟩
abbrev S2x128x1024 : Shape := ⟨3, ![2, 128, 1024]⟩
abbrev S8 : Shape := ⟨1, ![8]⟩
abbrev S16 : Shape := ⟨1, ![16]⟩
abbrev S4 : Shape := ⟨1, ![4]⟩
abbrev S2 : Shape := ⟨1, ![2]⟩
abbrev S_ : Shape := ⟨0, ![]⟩
abbrev S1 : Shape := ⟨1, ![1]⟩
abbrev S1024x8x128 : Shape := ⟨3, ![1024, 8, 128]⟩
abbrev S1x1024x8x128 : Shape := ⟨4, ![1, 1024, 8, 128]⟩
abbrev S128x8x128 : Shape := ⟨3, ![128, 8, 128]⟩
abbrev S1x128x8x128 : Shape := ⟨4, ![1, 128, 8, 128]⟩
abbrev S32x1024 : Shape := ⟨2, ![32, 1024]⟩
abbrev S1x32x1024 : Shape := ⟨3, ![1, 32, 1024]⟩
abbrev S8x32x8x128 : Shape := ⟨4, ![8, 32, 8, 128]⟩
abbrev S8x8x32x128 : Shape := ⟨4, ![8, 8, 32, 128]⟩
abbrev S64x32x128 : Shape := ⟨3, ![64, 32, 128]⟩
abbrev S64x32 : Shape := ⟨2, ![64, 32]⟩
abbrev S1x128x64x128 : Shape := ⟨4, ![1, 128, 64, 128]⟩
abbrev S64x128x128 : Shape := ⟨3, ![64, 128, 128]⟩
abbrev S64x1x32 : Shape := ⟨3, ![64, 1, 32]⟩
abbrev S64x1x96 : Shape := ⟨3, ![64, 1, 96]⟩
abbrev S64x1x128 : Shape := ⟨3, ![64, 1, 128]⟩
abbrev S8x33x128 : Shape := ⟨3, ![8, 33, 128]⟩
abbrev S1x8x33x128 : Shape := ⟨4, ![1, 8, 33, 128]⟩
abbrev S8x32x128 : Shape := ⟨3, ![8, 32, 128]⟩
abbrev S8x1x32 : Shape := ⟨3, ![8, 1, 32]⟩
abbrev S8x32 : Shape := ⟨2, ![8, 32]⟩
abbrev S992x1152 : Shape := ⟨2, ![992, 1152]⟩
abbrev S992x128 : Shape := ⟨2, ![992, 128]⟩
abbrev S1152x1x128 : Shape := ⟨3, ![1152, 1, 128]⟩
abbrev S1152x128 : Shape := ⟨2, ![1152, 128]⟩
abbrev S992 : Shape := ⟨1, ![992]⟩
abbrev S992x1 : Shape := ⟨2, ![992, 1]⟩
abbrev S1x32x128 : Shape := ⟨3, ![1, 32, 128]⟩
abbrev S32x128 : Shape := ⟨2, ![32, 128]⟩
abbrev S1x32 : Shape := ⟨2, ![1, 32]⟩
abbrev S32 : Shape := ⟨1, ![32]⟩
abbrev S32x1 : Shape := ⟨2, ![32, 1]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 6
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x1024, .f32⟩
  | .local _ .vmem, ⟨5, _⟩ => ⟨S8x32x1024, .f32⟩
  | .local _ .vmem, ⟨6, _⟩ => ⟨S128x64x128, .f32⟩
  | .local _ .vmem, ⟨7, _⟩ => ⟨S128x64x128, .f32⟩
  | .local _ .vmem, ⟨8, _⟩ => ⟨S64x33x128, .f32⟩
  | .local _ .vmem, ⟨9, _⟩ => ⟨S2x8x33x128, .f32⟩
  | .local _ .vmem, ⟨10, _⟩ => ⟨S2x8x33x128, .f32⟩
  | .local _ .vmem, ⟨11, _⟩ => ⟨S1152x8x128, .f32⟩
  | .local _ .vmem, ⟨12, _⟩ => ⟨S1152x8x128, .f32⟩
  | .local _ .vmem, ⟨13, _⟩ => ⟨S1024x1024, .f32⟩
  | .local _ .vmem, ⟨14, _⟩ => ⟨S2x128x1024, .f32⟩
  | .local _ .vmem, ⟨15, _⟩ => ⟨S2x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 3 → Bool
  | ⟨0, _⟩ => true
  | ⟨1, _⟩ => true
  | ⟨2, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 3 52 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let v10 : BitVec 32 := Scalar.remsi v9 c8_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_29 : BitVec 32 := 8#32
  let v34 : BitVec 32 := Scalar.remsi v33 c8_i32_29
  let c1_i32_31 : BitVec 32 := 1#32
  let v35 : BitVec 32 := Scalar.muli v34 c1_i32_31
  let v36 : BitVec 32 := Scalar.addi c0_i32_32 v35
  v36.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_34 : BitVec 32 := 0#32
  let v37 : BitVec 1 := Scalar.cmpi .eq v2 c0_i32_34
  let v38 : BitVec 32 := Scalar.extui v37
  let c0_i32_35 : BitVec 32 := 0#32
  let v39 : BitVec 1 := Scalar.cmpi .ne v38 c0_i32_35
  v39

def k0_dev8 : Nat :=
  let c0_i32_1542 : BitVec 32 := 0#32
  let c1_i32_1540 : BitVec 32 := 1#32
  let c1_i32_1541 : BitVec 32 := 1#32
  let v1499 : BitVec 32 := Scalar.muli c1_i32_1540 c1_i32_1541
  let v1500 : BitVec 32 := Scalar.addi c0_i32_1542 v1499
  v1500.toNat
def k0_dev9 : Nat :=
  let c0_i32_1554 : BitVec 32 := 0#32
  let c1_i32_1552 : BitVec 32 := 1#32
  let c1_i32_1553 : BitVec 32 := 1#32
  let v1508 : BitVec 32 := Scalar.muli c1_i32_1552 c1_i32_1553
  let v1509 : BitVec 32 := Scalar.addi c0_i32_1554 v1508
  v1509.toNat
def k0_dev10 : Nat :=
  let c0_i32_1566 : BitVec 32 := 0#32
  let c2_i32_1564 : BitVec 32 := 2#32
  let c1_i32_1565 : BitVec 32 := 1#32
  let v1517 : BitVec 32 := Scalar.muli c2_i32_1564 c1_i32_1565
  let v1518 : BitVec 32 := Scalar.addi c0_i32_1566 v1517
  v1518.toNat
def k0_dev11 : Nat :=
  let c0_i32_1577 : BitVec 32 := 0#32
  let c2_i32_1575 : BitVec 32 := 2#32
  let c1_i32_1576 : BitVec 32 := 1#32
  let v1526 : BitVec 32 := Scalar.muli c2_i32_1575 c1_i32_1576
  let v1527 : BitVec 32 := Scalar.addi c0_i32_1577 v1526
  v1527.toNat
def k0_dev12 : Nat :=
  let c0_i32_1589 : BitVec 32 := 0#32
  let c3_i32_1587 : BitVec 32 := 3#32
  let c1_i32_1588 : BitVec 32 := 1#32
  let v1535 : BitVec 32 := Scalar.muli c3_i32_1587 c1_i32_1588
  let v1536 : BitVec 32 := Scalar.addi c0_i32_1589 v1535
  v1536.toNat
def k0_dev13 : Nat :=
  let c0_i32_1600 : BitVec 32 := 0#32
  let c3_i32_1598 : BitVec 32 := 3#32
  let c1_i32_1599 : BitVec 32 := 1#32
  let v1544 : BitVec 32 := Scalar.muli c3_i32_1598 c1_i32_1599
  let v1545 : BitVec 32 := Scalar.addi c0_i32_1600 v1544
  v1545.toNat
def k0_dev14 : Nat :=
  let c0_i32_1612 : BitVec 32 := 0#32
  let c4_i32_1610 : BitVec 32 := 4#32
  let c1_i32_1611 : BitVec 32 := 1#32
  let v1553 : BitVec 32 := Scalar.muli c4_i32_1610 c1_i32_1611
  let v1554 : BitVec 32 := Scalar.addi c0_i32_1612 v1553
  v1554.toNat
def k0_dev15 : Nat :=
  let c0_i32_1624 : BitVec 32 := 0#32
  let c4_i32_1622 : BitVec 32 := 4#32
  let c1_i32_1623 : BitVec 32 := 1#32
  let v1562 : BitVec 32 := Scalar.muli c4_i32_1622 c1_i32_1623
  let v1563 : BitVec 32 := Scalar.addi c0_i32_1624 v1562
  v1563.toNat
def k0_dev16 : Nat :=
  let c0_i32_1636 : BitVec 32 := 0#32
  let c5_i32_1634 : BitVec 32 := 5#32
  let c1_i32_1635 : BitVec 32 := 1#32
  let v1571 : BitVec 32 := Scalar.muli c5_i32_1634 c1_i32_1635
  let v1572 : BitVec 32 := Scalar.addi c0_i32_1636 v1571
  v1572.toNat
def k0_dev17 : Nat :=
  let c0_i32_1647 : BitVec 32 := 0#32
  let c5_i32_1645 : BitVec 32 := 5#32
  let c1_i32_1646 : BitVec 32 := 1#32
  let v1580 : BitVec 32 := Scalar.muli c5_i32_1645 c1_i32_1646
  let v1581 : BitVec 32 := Scalar.addi c0_i32_1647 v1580
  v1581.toNat
def k0_dev18 : Nat :=
  let c0_i32_1659 : BitVec 32 := 0#32
  let c6_i32_1657 : BitVec 32 := 6#32
  let c1_i32_1658 : BitVec 32 := 1#32
  let v1589 : BitVec 32 := Scalar.muli c6_i32_1657 c1_i32_1658
  let v1590 : BitVec 32 := Scalar.addi c0_i32_1659 v1589
  v1590.toNat
def k0_dev19 : Nat :=
  let c0_i32_1670 : BitVec 32 := 0#32
  let c6_i32_1668 : BitVec 32 := 6#32
  let c1_i32_1669 : BitVec 32 := 1#32
  let v1598 : BitVec 32 := Scalar.muli c6_i32_1668 c1_i32_1669
  let v1599 : BitVec 32 := Scalar.addi c0_i32_1670 v1598
  v1599.toNat
def k0_dev20 : Nat :=
  let c0_i32_1682 : BitVec 32 := 0#32
  let c7_i32_1680 : BitVec 32 := 7#32
  let c1_i32_1681 : BitVec 32 := 1#32
  let v1607 : BitVec 32 := Scalar.muli c7_i32_1680 c1_i32_1681
  let v1608 : BitVec 32 := Scalar.addi c0_i32_1682 v1607
  v1608.toNat
def k0_dev21 : Nat :=
  let c0_i32_1693 : BitVec 32 := 0#32
  let c7_i32_1691 : BitVec 32 := 7#32
  let c1_i32_1692 : BitVec 32 := 1#32
  let v1616 : BitVec 32 := Scalar.muli c7_i32_1691 c1_i32_1692
  let v1617 : BitVec 32 := Scalar.addi c0_i32_1693 v1616
  v1617.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v40 : BitVec 1 := Scalar.cmpi .eq v2 c1_i32_36
  let v41 : BitVec 32 := Scalar.extui v40
  let c0_i32_37 : BitVec 32 := 0#32
  let v42 : BitVec 1 := Scalar.cmpi .ne v41 c0_i32_37
  v42

def k0_dev22 : Nat :=
  let c0_i32_1542 : BitVec 32 := 0#32
  let c0_i32_1540 : BitVec 32 := 0#32
  let c1_i32_1541 : BitVec 32 := 1#32
  let v1499 : BitVec 32 := Scalar.muli c0_i32_1540 c1_i32_1541
  let v1500 : BitVec 32 := Scalar.addi c0_i32_1542 v1499
  v1500.toNat
def k0_dev23 : Nat :=
  let c0_i32_1553 : BitVec 32 := 0#32
  let c0_i32_1551 : BitVec 32 := 0#32
  let c1_i32_1552 : BitVec 32 := 1#32
  let v1508 : BitVec 32 := Scalar.muli c0_i32_1551 c1_i32_1552
  let v1509 : BitVec 32 := Scalar.addi c0_i32_1553 v1508
  v1509.toNat
def k0_dev24 : Nat :=
  let c0_i32_1565 : BitVec 32 := 0#32
  let c2_i32_1563 : BitVec 32 := 2#32
  let c1_i32_1564 : BitVec 32 := 1#32
  let v1517 : BitVec 32 := Scalar.muli c2_i32_1563 c1_i32_1564
  let v1518 : BitVec 32 := Scalar.addi c0_i32_1565 v1517
  v1518.toNat
def k0_dev25 : Nat :=
  let c0_i32_1576 : BitVec 32 := 0#32
  let c2_i32_1574 : BitVec 32 := 2#32
  let c1_i32_1575 : BitVec 32 := 1#32
  let v1526 : BitVec 32 := Scalar.muli c2_i32_1574 c1_i32_1575
  let v1527 : BitVec 32 := Scalar.addi c0_i32_1576 v1526
  v1527.toNat
def k0_dev26 : Nat :=
  let c0_i32_1588 : BitVec 32 := 0#32
  let c3_i32_1586 : BitVec 32 := 3#32
  let c1_i32_1587 : BitVec 32 := 1#32
  let v1535 : BitVec 32 := Scalar.muli c3_i32_1586 c1_i32_1587
  let v1536 : BitVec 32 := Scalar.addi c0_i32_1588 v1535
  v1536.toNat
def k0_dev27 : Nat :=
  let c0_i32_1599 : BitVec 32 := 0#32
  let c3_i32_1597 : BitVec 32 := 3#32
  let c1_i32_1598 : BitVec 32 := 1#32
  let v1544 : BitVec 32 := Scalar.muli c3_i32_1597 c1_i32_1598
  let v1545 : BitVec 32 := Scalar.addi c0_i32_1599 v1544
  v1545.toNat
def k0_dev28 : Nat :=
  let c0_i32_1611 : BitVec 32 := 0#32
  let c4_i32_1609 : BitVec 32 := 4#32
  let c1_i32_1610 : BitVec 32 := 1#32
  let v1553 : BitVec 32 := Scalar.muli c4_i32_1609 c1_i32_1610
  let v1554 : BitVec 32 := Scalar.addi c0_i32_1611 v1553
  v1554.toNat
def k0_dev29 : Nat :=
  let c0_i32_1623 : BitVec 32 := 0#32
  let c4_i32_1621 : BitVec 32 := 4#32
  let c1_i32_1622 : BitVec 32 := 1#32
  let v1562 : BitVec 32 := Scalar.muli c4_i32_1621 c1_i32_1622
  let v1563 : BitVec 32 := Scalar.addi c0_i32_1623 v1562
  v1563.toNat
def k0_dev30 : Nat :=
  let c0_i32_1635 : BitVec 32 := 0#32
  let c5_i32_1633 : BitVec 32 := 5#32
  let c1_i32_1634 : BitVec 32 := 1#32
  let v1571 : BitVec 32 := Scalar.muli c5_i32_1633 c1_i32_1634
  let v1572 : BitVec 32 := Scalar.addi c0_i32_1635 v1571
  v1572.toNat
def k0_dev31 : Nat :=
  let c0_i32_1646 : BitVec 32 := 0#32
  let c5_i32_1644 : BitVec 32 := 5#32
  let c1_i32_1645 : BitVec 32 := 1#32
  let v1580 : BitVec 32 := Scalar.muli c5_i32_1644 c1_i32_1645
  let v1581 : BitVec 32 := Scalar.addi c0_i32_1646 v1580
  v1581.toNat
def k0_dev32 : Nat :=
  let c0_i32_1658 : BitVec 32 := 0#32
  let c6_i32_1656 : BitVec 32 := 6#32
  let c1_i32_1657 : BitVec 32 := 1#32
  let v1589 : BitVec 32 := Scalar.muli c6_i32_1656 c1_i32_1657
  let v1590 : BitVec 32 := Scalar.addi c0_i32_1658 v1589
  v1590.toNat
def k0_dev33 : Nat :=
  let c0_i32_1669 : BitVec 32 := 0#32
  let c6_i32_1667 : BitVec 32 := 6#32
  let c1_i32_1668 : BitVec 32 := 1#32
  let v1598 : BitVec 32 := Scalar.muli c6_i32_1667 c1_i32_1668
  let v1599 : BitVec 32 := Scalar.addi c0_i32_1669 v1598
  v1599.toNat
def k0_dev34 : Nat :=
  let c0_i32_1681 : BitVec 32 := 0#32
  let c7_i32_1679 : BitVec 32 := 7#32
  let c1_i32_1680 : BitVec 32 := 1#32
  let v1607 : BitVec 32 := Scalar.muli c7_i32_1679 c1_i32_1680
  let v1608 : BitVec 32 := Scalar.addi c0_i32_1681 v1607
  v1608.toNat
def k0_dev35 : Nat :=
  let c0_i32_1692 : BitVec 32 := 0#32
  let c7_i32_1690 : BitVec 32 := 7#32
  let c1_i32_1691 : BitVec 32 := 1#32
  let v1616 : BitVec 32 := Scalar.muli c7_i32_1690 c1_i32_1691
  let v1617 : BitVec 32 := Scalar.addi c0_i32_1692 v1616
  v1617.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : Index := Scalar.indexCast v2
  let c0_44 : Index := 0#32
  let c0_45 : Index := 0#32
  ![v53.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_52 : BitVec 32 := 0#32
  let c0_i32_53 : BitVec 32 := 0#32
  ![v2.toNat, 0, 0]
def k0_dev36 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v57 : BitVec 32 := Scalar.addi v2 c1_i32_46
  let c8_i32_47 : BitVec 32 := 8#32
  let v58 : BitVec 32 := Scalar.remsi v57 c8_i32_47
  let c1_i32_50 : BitVec 32 := 1#32
  let v59 : BitVec 32 := Scalar.muli v58 c1_i32_50
  let v60 : BitVec 32 := Scalar.addi c0_i32_51 v59
  v60.toNat
def k0_dev37 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_56 : BitVec 32 := 2#32
  let v67 : BitVec 32 := Scalar.addi v2 c2_i32_56
  let c8_i32_57 : BitVec 32 := 8#32
  let v68 : BitVec 32 := Scalar.remsi v67 c8_i32_57
  let c1_i32_60 : BitVec 32 := 1#32
  let v69 : BitVec 32 := Scalar.muli v68 c1_i32_60
  let v70 : BitVec 32 := Scalar.addi c0_i32_61 v69
  v70.toNat
def k0_dev38 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_66 : BitVec 32 := 3#32
  let v77 : BitVec 32 := Scalar.addi v2 c3_i32_66
  let c8_i32_67 : BitVec 32 := 8#32
  let v78 : BitVec 32 := Scalar.remsi v77 c8_i32_67
  let c1_i32_70 : BitVec 32 := 1#32
  let v79 : BitVec 32 := Scalar.muli v78 c1_i32_70
  let v80 : BitVec 32 := Scalar.addi c0_i32_71 v79
  v80.toNat
def k0_dev39 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_76 : BitVec 32 := 4#32
  let v87 : BitVec 32 := Scalar.addi v2 c4_i32_76
  let c8_i32_77 : BitVec 32 := 8#32
  let v88 : BitVec 32 := Scalar.remsi v87 c8_i32_77
  let c1_i32_80 : BitVec 32 := 1#32
  let v89 : BitVec 32 := Scalar.muli v88 c1_i32_80
  let v90 : BitVec 32 := Scalar.addi c0_i32_81 v89
  v90.toNat
def k0_dev40 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_86 : BitVec 32 := 5#32
  let v97 : BitVec 32 := Scalar.addi v2 c5_i32_86
  let c8_i32_87 : BitVec 32 := 8#32
  let v98 : BitVec 32 := Scalar.remsi v97 c8_i32_87
  let c1_i32_90 : BitVec 32 := 1#32
  let v99 : BitVec 32 := Scalar.muli v98 c1_i32_90
  let v100 : BitVec 32 := Scalar.addi c0_i32_91 v99
  v100.toNat
def k0_dev41 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v107 : BitVec 32 := Scalar.addi v2 c6_i32_96
  let c8_i32_97 : BitVec 32 := 8#32
  let v108 : BitVec 32 := Scalar.remsi v107 c8_i32_97
  let c1_i32_100 : BitVec 32 := 1#32
  let v109 : BitVec 32 := Scalar.muli v108 c1_i32_100
  let v110 : BitVec 32 := Scalar.addi c0_i32_101 v109
  v110.toNat
def k0_dev42 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v117 : BitVec 32 := Scalar.addi v2 c7_i32_106
  let c8_i32_107 : BitVec 32 := 8#32
  let v118 : BitVec 32 := Scalar.remsi v117 c8_i32_107
  let c1_i32_110 : BitVec 32 := 1#32
  let v119 : BitVec 32 := Scalar.muli v118 c1_i32_110
  let v120 : BitVec 32 := Scalar.addi c0_i32_111 v119
  v120.toNat
def k0_off3 (d0 : Dev nD) (c1_i32_117 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_116 : BitVec 32 := 8#32
  let v127 : BitVec 32 := Scalar.addi v2 c8_i32_116
  let v128 : BitVec 32 := Scalar.subi v127 c1_i32_117
  let c8_i32_118 : BitVec 32 := 8#32
  let v129 : BitVec 32 := Scalar.remsi v128 c8_i32_118
  let c0_i32_123 : BitVec 32 := 0#32
  let c0_i32_124 : BitVec 32 := 0#32
  ![v129.toNat, 0, 0]
def k0_off4 (d0 : Dev nD) (c15_i32 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v456 : BitVec 32 := Scalar.addi v2 c15_i32
  let c8_i32_484 : BitVec 32 := 8#32
  let v457 : BitVec 32 := Scalar.remsi v456 c8_i32_484
  let c8_i32_485 : BitVec 32 := 8#32
  let v458 : BitVec 32 := Scalar.muli v457 c8_i32_485
  let v459 : Index := Scalar.indexCast v458
  let c0_486 : Index := 0#32
  let c0_487 : Index := 0#32
  ![v459.toNat, 0, 0]
def k0_dev43 (d0 : Dev nD) : Nat :=
  let c0_i32_497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_496 : BitVec 32 := 1#32
  let v464 : BitVec 32 := Scalar.muli v7 c1_i32_496
  let v465 : BitVec 32 := Scalar.addi c0_i32_497 v464
  v465.toNat
def k0_dev44 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_528 : BitVec 32 := 1#32
  let v493 : BitVec 32 := Scalar.muli v5 c1_i32_528
  let v494 : BitVec 32 := Scalar.addi c0_i32_529 v493
  v494.toNat
def k0_dev45 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_534 : BitVec 32 := 1#32
  let v495 : BitVec 32 := Scalar.muli v7 c1_i32_534
  let v496 : BitVec 32 := Scalar.addi c0_i32_535 v495
  v496.toNat
def k0_dev46 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_578 : BitVec 32 := 1#32
  let v530 : BitVec 32 := Scalar.muli v5 c1_i32_578
  let v531 : BitVec 32 := Scalar.addi c0_i32_579 v530
  v531.toNat
def k0_dev47 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_586 : BitVec 32 := 1#32
  let v532 : BitVec 32 := Scalar.muli v7 c1_i32_586
  let v533 : BitVec 32 := Scalar.addi c0_i32_587 v532
  v533.toNat
def k0_dev48 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_630 : BitVec 32 := 1#32
  let v567 : BitVec 32 := Scalar.muli v5 c1_i32_630
  let v568 : BitVec 32 := Scalar.addi c0_i32_631 v567
  v568.toNat
def k0_dev49 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_638 : BitVec 32 := 1#32
  let v569 : BitVec 32 := Scalar.muli v7 c1_i32_638
  let v570 : BitVec 32 := Scalar.addi c0_i32_639 v569
  v570.toNat
def k0_dev50 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_682 : BitVec 32 := 1#32
  let v604 : BitVec 32 := Scalar.muli v5 c1_i32_682
  let v605 : BitVec 32 := Scalar.addi c0_i32_683 v604
  v605.toNat
def k0_dev51 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_690 : BitVec 32 := 1#32
  let v606 : BitVec 32 := Scalar.muli v7 c1_i32_690
  let v607 : BitVec 32 := Scalar.addi c0_i32_691 v606
  v607.toNat
def k0_dev52 (d0 : Dev nD) : Nat :=
  let c0_i32_735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_734 : BitVec 32 := 1#32
  let v641 : BitVec 32 := Scalar.muli v5 c1_i32_734
  let v642 : BitVec 32 := Scalar.addi c0_i32_735 v641
  v642.toNat
def k0_dev53 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_742 : BitVec 32 := 1#32
  let v643 : BitVec 32 := Scalar.muli v7 c1_i32_742
  let v644 : BitVec 32 := Scalar.addi c0_i32_743 v643
  v644.toNat
def k0_dev54 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_791 : BitVec 32 := 1#32
  let v678 : BitVec 32 := Scalar.muli v7 c1_i32_791
  let v679 : BitVec 32 := Scalar.addi c0_i32_792 v678
  v679.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_837 : BitVec 32 := 8#32
  let v710 : BitVec 32 := Scalar.muli v2 c8_i32_837
  let v711 : Index := Scalar.indexCast v710
  let c0_838 : Index := 0#32
  let c0_839 : Index := 0#32
  ![v711.toNat, 0, 0]
def k0_dev55 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_976 : BitVec 32 := 1#32
  let v1000 : BitVec 32 := Scalar.muli v5 c1_i32_976
  let v1001 : BitVec 32 := Scalar.addi c0_i32_977 v1000
  v1001.toNat
def k0_dev56 (d0 : Dev nD) : Nat :=
  let c0_i32_980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_979 : BitVec 32 := 1#32
  let v1002 : BitVec 32 := Scalar.muli v7 c1_i32_979
  let v1003 : BitVec 32 := Scalar.addi c0_i32_980 v1002
  v1003.toNat
def k0_off6 (d0 : Dev nD) (c15_i32_983 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1004 : BitVec 32 := Scalar.addi v2 c15_i32_983
  let c8_i32_984 : BitVec 32 := 8#32
  let v1005 : BitVec 32 := Scalar.remsi v1004 c8_i32_984
  let c128_i32_985 : BitVec 32 := 128#32
  let v1006 : BitVec 32 := Scalar.muli v1005 c128_i32_985
  let v1007 : Index := Scalar.indexCast v1006
  let c0_986 : Index := 0#32
  ![v1007.toNat, 0]
def k0_dev57 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_994 : BitVec 32 := 1#32
  let v1012 : BitVec 32 := Scalar.muli v7 c1_i32_994
  let v1013 : BitVec 32 := Scalar.addi c0_i32_995 v1012
  v1013.toNat
def k0_dev58 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1021 : BitVec 32 := 1#32
  let v1041 : BitVec 32 := Scalar.muli v5 c1_i32_1021
  let v1042 : BitVec 32 := Scalar.addi c0_i32_1022 v1041
  v1042.toNat
def k0_dev59 (d0 : Dev nD) : Nat :=
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1027 : BitVec 32 := 1#32
  let v1043 : BitVec 32 := Scalar.muli v7 c1_i32_1027
  let v1044 : BitVec 32 := Scalar.addi c0_i32_1028 v1043
  v1044.toNat
def k0_dev60 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1063 : BitVec 32 := 1#32
  let v1078 : BitVec 32 := Scalar.muli v5 c1_i32_1063
  let v1079 : BitVec 32 := Scalar.addi c0_i32_1064 v1078
  v1079.toNat
def k0_dev61 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1071 : BitVec 32 := 1#32
  let v1080 : BitVec 32 := Scalar.muli v7 c1_i32_1071
  let v1081 : BitVec 32 := Scalar.addi c0_i32_1072 v1080
  v1081.toNat
def k0_dev62 (d0 : Dev nD) : Nat :=
  let c0_i32_1108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1107 : BitVec 32 := 1#32
  let v1115 : BitVec 32 := Scalar.muli v5 c1_i32_1107
  let v1116 : BitVec 32 := Scalar.addi c0_i32_1108 v1115
  v1116.toNat
def k0_dev63 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1115 : BitVec 32 := 1#32
  let v1117 : BitVec 32 := Scalar.muli v7 c1_i32_1115
  let v1118 : BitVec 32 := Scalar.addi c0_i32_1116 v1117
  v1118.toNat
def k0_dev64 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1151 : BitVec 32 := 1#32
  let v1152 : BitVec 32 := Scalar.muli v5 c1_i32_1151
  let v1153 : BitVec 32 := Scalar.addi c0_i32_1152 v1152
  v1153.toNat
def k0_dev65 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1159 : BitVec 32 := 1#32
  let v1154 : BitVec 32 := Scalar.muli v7 c1_i32_1159
  let v1155 : BitVec 32 := Scalar.addi c0_i32_1160 v1154
  v1155.toNat
def k0_dev66 (d0 : Dev nD) : Nat :=
  let c0_i32_1196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1195 : BitVec 32 := 1#32
  let v1189 : BitVec 32 := Scalar.muli v5 c1_i32_1195
  let v1190 : BitVec 32 := Scalar.addi c0_i32_1196 v1189
  v1190.toNat
def k0_dev67 (d0 : Dev nD) : Nat :=
  let c0_i32_1204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1203 : BitVec 32 := 1#32
  let v1191 : BitVec 32 := Scalar.muli v7 c1_i32_1203
  let v1192 : BitVec 32 := Scalar.addi c0_i32_1204 v1191
  v1192.toNat
def k0_dev68 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1244 : BitVec 32 := 1#32
  let v1226 : BitVec 32 := Scalar.muli v7 c1_i32_1244
  let v1227 : BitVec 32 := Scalar.addi c0_i32_1245 v1226
  v1227.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1281 : BitVec 32 := 128#32
  let v1258 : BitVec 32 := Scalar.muli v2 c128_i32_1281
  let v1259 : Index := Scalar.indexCast v1258
  let c0_1282 : Index := 0#32
  ![v1259.toNat, 0]
def k0_off8 (d0 : Dev nD) : Fin 3 → Nat :=
  let c0_1284 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1283 : BitVec 32 := 128#32
  let v1262 : BitVec 32 := Scalar.muli v2 c128_i32_1283
  let v1263 : Index := Scalar.indexCast v1262
  let c0_1285 : Index := 0#32
  ![0, v1263.toNat, 0]
def k0_dev69 (d0 : Dev nD) : Nat :=
  let c0_i32_1288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1287 : BitVec 32 := 1#32
  let v1267 : BitVec 32 := Scalar.muli v5 c1_i32_1287
  let v1268 : BitVec 32 := Scalar.addi c0_i32_1288 v1267
  v1268.toNat
def k0_dev70 (d0 : Dev nD) : Nat :=
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1290 : BitVec 32 := 1#32
  let v1269 : BitVec 32 := Scalar.muli v7 c1_i32_1290
  let v1270 : BitVec 32 := Scalar.addi c0_i32_1291 v1269
  v1270.toNat
def k0_off9 (d0 : Dev nD) (c8_i32_1294 : BitVec 32) : Fin 3 → Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1271 : BitVec 32 := Scalar.addi v2 c8_i32_1294
  let c8_i32_1295 : BitVec 32 := 8#32
  let v1272 : BitVec 32 := Scalar.remsi v1271 c8_i32_1295
  let c128_i32_1297 : BitVec 32 := 128#32
  let v1274 : BitVec 32 := Scalar.muli v1272 c128_i32_1297
  let c0_i32_1304 : BitVec 32 := 0#32
  ![0, v1274.toNat, 0]
def k0_off9_at (r : Fin 13) : BitVec 32 :=
  if r.val < 6 then
    if r.val < 3 then
      if r.val < 1 then
        8#32
      else
        if r.val < 2 then
          15#32
        else
          7#32
    else
      if r.val < 4 then
        14#32
      else
        if r.val < 5 then
          6#32
        else
          13#32
  else
    if r.val < 9 then
      if r.val < 7 then
        5#32
      else
        if r.val < 8 then
          12#32
        else
          4#32
    else
      if r.val < 11 then
        if r.val < 10 then
          11#32
        else
          3#32
      else
        if r.val < 12 then
          10#32
        else
          2#32
def k0_dev71 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1302 : BitVec 32 := 1#32
  let v1275 : BitVec 32 := Scalar.muli v7 c1_i32_1302
  let v1276 : BitVec 32 := Scalar.addi c0_i32_1303 v1275
  v1276.toNat
def k0_dev72 (d0 : Dev nD) : Nat :=
  let c0_i32_1322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1321 : BitVec 32 := 1#32
  let v1298 : BitVec 32 := Scalar.muli v5 c1_i32_1321
  let v1299 : BitVec 32 := Scalar.addi c0_i32_1322 v1298
  v1299.toNat
def k0_dev73 (d0 : Dev nD) : Nat :=
  let c0_i32_1330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1329 : BitVec 32 := 1#32
  let v1302 : BitVec 32 := Scalar.muli v7 c1_i32_1329
  let v1303 : BitVec 32 := Scalar.addi c0_i32_1330 v1302
  v1303.toNat
def k0_dev74 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1348 : BitVec 32 := 1#32
  let v1325 : BitVec 32 := Scalar.muli v5 c1_i32_1348
  let v1326 : BitVec 32 := Scalar.addi c0_i32_1349 v1325
  v1326.toNat
def k0_dev75 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1365 : BitVec 32 := 1#32
  let v1335 : BitVec 32 := Scalar.muli v7 c1_i32_1365
  let v1336 : BitVec 32 := Scalar.addi c0_i32_1366 v1335
  v1336.toNat
def k0_dev76 (d0 : Dev nD) : Nat :=
  let c0_i32_1385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1384 : BitVec 32 := 1#32
  let v1358 : BitVec 32 := Scalar.muli v5 c1_i32_1384
  let v1359 : BitVec 32 := Scalar.addi c0_i32_1385 v1358
  v1359.toNat
def k0_dev77 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1401 : BitVec 32 := 1#32
  let v1368 : BitVec 32 := Scalar.muli v7 c1_i32_1401
  let v1369 : BitVec 32 := Scalar.addi c0_i32_1402 v1368
  v1369.toNat
def k0_dev78 (d0 : Dev nD) : Nat :=
  let c0_i32_1421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1420 : BitVec 32 := 1#32
  let v1391 : BitVec 32 := Scalar.muli v5 c1_i32_1420
  let v1392 : BitVec 32 := Scalar.addi c0_i32_1421 v1391
  v1392.toNat
def k0_dev79 (d0 : Dev nD) : Nat :=
  let c0_i32_1438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1437 : BitVec 32 := 1#32
  let v1401 : BitVec 32 := Scalar.muli v7 c1_i32_1437
  let v1402 : BitVec 32 := Scalar.addi c0_i32_1438 v1401
  v1402.toNat
def k0_dev80 (d0 : Dev nD) : Nat :=
  let c0_i32_1457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1456 : BitVec 32 := 1#32
  let v1424 : BitVec 32 := Scalar.muli v5 c1_i32_1456
  let v1425 : BitVec 32 := Scalar.addi c0_i32_1457 v1424
  v1425.toNat
def k0_dev81 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1473 : BitVec 32 := 1#32
  let v1434 : BitVec 32 := Scalar.muli v7 c1_i32_1473
  let v1435 : BitVec 32 := Scalar.addi c0_i32_1474 v1434
  v1435.toNat
def k0_dev82 (d0 : Dev nD) : Nat :=
  let c0_i32_1507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1506 : BitVec 32 := 1#32
  let v1465 : BitVec 32 := Scalar.muli v7 c1_i32_1506
  let v1466 : BitVec 32 := Scalar.addi c0_i32_1507 v1465
  v1466.toNat
def k0_off10 (d0 : Dev nD) : Fin 3 → Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1510 : BitVec 32 := 8#32
  let v1475 : BitVec 32 := Scalar.addi v2 c8_i32_1510
  let c1_i32_1511 : BitVec 32 := 1#32
  let v1476 : BitVec 32 := Scalar.addi v1475 c1_i32_1511
  let c8_i32_1512 : BitVec 32 := 8#32
  let v1477 : BitVec 32 := Scalar.remsi v1476 c8_i32_1512
  let c128_i32_1513 : BitVec 32 := 128#32
  let v1478 : BitVec 32 := Scalar.muli v1477 c128_i32_1513
  let c0_i32_1520 : BitVec 32 := 0#32
  ![0, v1478.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S_ : Shape := ⟨0, ![]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x8192x64x128, .f32⟩
  | .hbm, ⟨3, _⟩ => ⟨S1x8192x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S8192, .i32⟩
  | .hbm, ⟨10, _⟩ => ⟨S1x8192, .i32⟩
  | .hbm, ⟨11, _⟩ => ⟨S1024x8192, .i32⟩
  | .hbm, ⟨12, _⟩ => ⟨S1024x8192, .i32⟩
  | .hbm, ⟨13, _⟩ => ⟨S1024x8192, .i32⟩
  | .hbm, ⟨14, _⟩ => ⟨S1024x8192, .i32⟩
  | .hbm, ⟨15, _⟩ => ⟨S_, .i32⟩
  | .hbm, ⟨16, _⟩ => ⟨S1024x8192, .i32⟩
  | .hbm, ⟨17, _⟩ => ⟨S1024x8192, .i1⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x8192, .i1⟩
  | .hbm, ⟨25, _⟩ => ⟨S1024x8192, .i1⟩
  | .hbm, ⟨26, _⟩ => ⟨S1024x8192, .i1⟩
  | .hbm, ⟨27, _⟩ => ⟨S1024x8192, .i1⟩
  | .hbm, ⟨28, _⟩ => ⟨S1x64x1024x8192, .f32⟩
  | .hbm, ⟨29, _⟩ => ⟨S_, .f32⟩
  | .hbm, ⟨30, _⟩ => ⟨S1x64x1024x8192, .f32⟩
  | .hbm, ⟨31, _⟩ => ⟨S1x64x1024x8192, .f32⟩
  | .hbm, ⟨32, _⟩ => ⟨S1x1x1024x8192, .i1⟩
  | .hbm, ⟨33, _⟩ => ⟨S_, .f32⟩
  | .hbm, ⟨34, _⟩ => ⟨S_, .f32⟩
  | .hbm, ⟨35, _⟩ => ⟨S1x64x1024x8192, .i1⟩
  | .hbm, ⟨36, _⟩ => ⟨S1x64x1024x8192, .f32⟩
  | .hbm, ⟨37, _⟩ => ⟨S1x64x1024x8192, .f32⟩
  | .hbm, ⟨38, _⟩ => ⟨S_, .f32⟩
  | .hbm, ⟨39, _⟩ => ⟨S1x64x1024, .f32⟩
  | .hbm, ⟨40, _⟩ => ⟨S1x64x1024x1, .f32⟩
  | .hbm, ⟨41, _⟩ => ⟨S1x64x1024x8192, .f32⟩
  | .hbm, ⟨42, _⟩ => ⟨S1x64x1024x8192, .f32⟩
  | .hbm, ⟨43, _⟩ => ⟨S1x64x1024x8192, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x64x1024, .f32⟩
  | .hbm, ⟨49, _⟩ => ⟨S1x64x1024x1, .f32⟩
  | .hbm, ⟨50, _⟩ => ⟨S_, .f32⟩
  | .hbm, ⟨51, _⟩ => ⟨S_, .f32⟩
  | .hbm, ⟨52, _⟩ => ⟨S1x64x1024x1, .i1⟩
  | .hbm, ⟨53, _⟩ => ⟨S1x64x1024x1, .f32⟩
  | .hbm, ⟨54, _⟩ => ⟨S1x64x1024x1, .f32⟩
  | .hbm, ⟨55, _⟩ => ⟨S1x64x1024x8192, .f32⟩
  | .hbm, ⟨56, _⟩ => ⟨S1x64x1024x8192, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x64x1024x8192, .i1⟩
  | .hbm, ⟨61, _⟩ => ⟨S1x64x1024x8192, .f32⟩
  | .hbm, ⟨62, _⟩ => ⟨S1x64x1024x8192, .f32⟩
  | .hbm, ⟨63, _⟩ => ⟨S1x64x128x1024, .f32⟩
  | .hbm, ⟨64, _⟩ => ⟨S1x1024x64x128, .f32⟩
  | .hbm, ⟨65, _⟩ => ⟨S1x1024x8192, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Release
public import Idealize.ShloMosaic.Lib.Pipeline.TalkSites
public import Idealize.ShloMosaic.Lib.Pipeline.SiteBlocks
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The buffers and the regions of them that move between devices -/

abbrev xM : Memref sig .tc .vmem S1x1024x1024 .f32 := Memref.whole cc0_stg0_0
abbrev wqM : Memref sig .tc .vmem S1024x1024 .f32 := Memref.whole cc0_stg1_0
abbrev kM : Memref sig .tc .hbm S1x1024x64x128 .f32 := Memref.whole main_arg2
abbrev vM : Memref sig .tc .hbm S1x1024x64x128 .f32 := Memref.whole main_arg3
abbrev woM : Memref sig .tc .vmem S1024x1024 .f32 := Memref.whole cc0_stg2_0
abbrev oM : Memref sig .tc .vmem S1x1024x1024 .f32 := Memref.whole cc0_stg3_0
abbrev qM : Memref sig .tc .vmem S1024x1024 .f32 := Memref.whole cc0_scratch0
abbrev gM : Memref sig .tc .vmem S8x32x1024 .f32 := Memref.whole cc0_scratch1
abbrev kcM : Memref sig .tc .vmem S128x64x128 .f32 := Memref.whole cc0_scratch2
abbrev vcM : Memref sig .tc .vmem S128x64x128 .f32 := Memref.whole cc0_scratch3
abbrev ndM : Memref sig .tc .vmem S64x33x128 .f32 := Memref.whole cc0_scratch4
abbrev nsM : Memref sig .tc .vmem S2x8x33x128 .f32 := Memref.whole cc0_scratch5
abbrev ncM : Memref sig .tc .vmem S2x8x33x128 .f32 := Memref.whole cc0_scratch6
abbrev kbM : Memref sig .tc .vmem S1152x8x128 .f32 := Memref.whole cc0_scratch7
abbrev vbM : Memref sig .tc .vmem S1152x8x128 .f32 := Memref.whole cc0_scratch8
abbrev paM : Memref sig .tc .vmem S1024x1024 .f32 := Memref.whole cc0_scratch9
abbrev rsM : Memref sig .tc .vmem S2x128x1024 .f32 := Memref.whole cc0_scratch10
abbrev rcM : Memref sig .tc .vmem S2x128x1024 .f32 := Memref.whole cc0_scratch11

theorem inbRow (n : ℕ) (h : n < 8) : ∀ a, (![n, 0, 0] : Fin 3 → ℕ) a + S1x32x1024.size a ≤ S8x32x1024.size a := by
  intro a; fin_cases a
  · show n + 1 ≤ 8; omega
  · exact Nat.le_refl 32
  · exact Nat.le_refl 1024

theorem inbNd (s : ℕ) (h : s < 2) : ∀ a, (![s, 0, 0, 0] : Fin 4 → ℕ) a + S1x8x33x128.size a ≤ S2x8x33x128.size a := by
  intro a; fin_cases a
  · show s + 1 ≤ 2; omega
  · exact Nat.le_refl 8
  · exact Nat.le_refl 33
  · exact Nat.le_refl 128

theorem inbRs (s : ℕ) (h : s < 2) : ∀ a, (![s, 0, 0] : Fin 3 → ℕ) a + S1x128x1024.size a ≤ S2x128x1024.size a := by
  intro a; fin_cases a
  · show s + 1 ≤ 2; omega
  · exact Nat.le_refl 128
  · exact Nat.le_refl 1024

theorem inbOut (n : ℕ) (h : n < 8) : ∀ a, (![0, 128 * n, 0] : Fin 3 → ℕ) a + S1x128x1024.size a ≤ S1x1024x1024.size a := by
  intro a; fin_cases a
  · exact Nat.le_refl 1
  · show 128 * n + 128 ≤ 1024; omega
  · exact Nat.le_refl 1024

theorem inbPa (n : ℕ) (h : n < 8) : ∀ a, (![128 * n, 0] : Fin 2 → ℕ) a + S128x1024.size a ≤ S1024x1024.size a := by
  intro a; fin_cases a
  · show 128 * n + 128 ≤ 1024; omega
  · exact Nat.le_refl 1024

theorem inbOwn (n : ℕ) (h : n < 8) : ∀ a, (![8 * n, 0, 0] : Fin 3 → ℕ) a + S8x33x128.size a ≤ S64x33x128.size a := by
  intro a; fin_cases a
  · show 8 * n + 8 ≤ 64; omega
  · exact Nat.le_refl 33
  · exact Nat.le_refl 128

theorem inbHeads (t : ℕ) (h : t < 8) : ∀ a, (![0, 0, 8 * t, 0] : Fin 4 → ℕ) a + S1x1024x8x128.size a ≤ S1x1024x64x128.size a := by
  intro a; fin_cases a
  · exact Nat.le_refl 1
  · exact Nat.le_refl 1024
  · show 8 * t + 8 ≤ 64; omega
  · exact Nat.le_refl 128

theorem inbHeads' (t : ℕ) (h : t < 8) : ∀ a, (![0, 0, 8 * t, 0] : Fin 4 → ℕ) a + S1x128x8x128.size a ≤ S1x1024x64x128.size a := by
  intro a; fin_cases a
  · exact Nat.le_refl 1
  · show 0 + 128 ≤ 1024; omega
  · show 8 * t + 8 ≤ 64; omega
  · exact Nat.le_refl 128

theorem inbChunk (i : ℕ) (h : i < 8) : ∀ a, (![0, 128 * i, 0, 0] : Fin 4 → ℕ) a + S1x128x64x128.size a ≤ S1x1024x64x128.size a := by
  intro a; fin_cases a
  · exact Nat.le_refl 1
  · show 128 * i + 128 ≤ 1024; omega
  · exact Nat.le_refl 64
  · exact Nat.le_refl 128

/-- Row `n` of the gathered queries. -/
abbrev gRow (n : ℕ) (h : n < 8) : Memref sig .tc .vmem S1x32x1024 .f32 :=
  gM.slice (Rect.unit (s := S8x32x1024) ![n, 0, 0] S1x32x1024.size (inbRow n h)) (fun _ => rfl)
abbrev gAcc (n : ℕ) (h : n < 8) : View sig .tc .vmem S1x32x1024 .f32 :=
  gM.access (Rect.unit (s := S8x32x1024) ![n, 0, 0] S1x32x1024.size (inbRow n h))
/-- Slot `s` of the outgoing and of the incoming buffer of the first ring. -/
abbrev ndSt (s : ℕ) (h : s < 2) : Memref sig .tc .vmem S8x33x128 .f32 :=
  (nsM.slice (Rect.unit (s := S2x8x33x128) ![s, 0, 0, 0] S1x8x33x128.size (inbNd s h)) (fun _ => rfl)).squeeze S8x33x128 squeezes_S1x8x33x128_S8x33x128
abbrev ndCm (s : ℕ) (h : s < 2) : Memref sig .tc .vmem S8x33x128 .f32 :=
  (ncM.slice (Rect.unit (s := S2x8x33x128) ![s, 0, 0, 0] S1x8x33x128.size (inbNd s h)) (fun _ => rfl)).squeeze S8x33x128 squeezes_S1x8x33x128_S8x33x128
/-- Slot `s` of the outgoing and of the incoming buffer of the second ring. -/
abbrev rsSt (s : ℕ) (h : s < 2) : Memref sig .tc .vmem S128x1024 .f32 :=
  (rsM.slice (Rect.unit (s := S2x128x1024) ![s, 0, 0] S1x128x1024.size (inbRs s h)) (fun _ => rfl)).squeeze S128x1024 squeezes_S1x128x1024_S128x1024
abbrev rsCm (s : ℕ) (h : s < 2) : Memref sig .tc .vmem S128x1024 .f32 :=
  (rcM.slice (Rect.unit (s := S2x128x1024) ![s, 0, 0] S1x128x1024.size (inbRs s h)) (fun _ => rfl)).squeeze S128x1024 squeezes_S1x128x1024_S128x1024
/-- Row block `n` of the result. -/
abbrev oBlk (n : ℕ) (h : n < 8) : Memref sig .tc .vmem S128x1024 .f32 :=
  (oM.slice (Rect.unit (s := S1x1024x1024) ![0, 128 * n, 0] S1x128x1024.size (inbOut n h)) (fun _ => rfl)).squeeze S128x1024 squeezes_S1x128x1024_S128x1024
/-- The two parts of the band's keys and values. -/
abbrev kbLo : Memref sig .tc .vmem S1024x8x128 .f32 :=
  kbM.slice (Rect.unit (s := S1152x8x128) ![0, 0, 0] S1024x8x128.size inb_S1152x8x128_S1024x8x128_0_0_0) (fun _ => rfl)
abbrev kbHi : Memref sig .tc .vmem S128x8x128 .f32 :=
  kbM.slice (Rect.unit (s := S1152x8x128) ![1024, 0, 0] S128x8x128.size inb_S1152x8x128_S128x8x128_1024_0_0) (fun _ => rfl)
abbrev vbLo : Memref sig .tc .vmem S1024x8x128 .f32 :=
  vbM.slice (Rect.unit (s := S1152x8x128) ![0, 0, 0] S1024x8x128.size inb_S1152x8x128_S1024x8x128_0_0_0) (fun _ => rfl)
abbrev vbHi : Memref sig .tc .vmem S128x8x128 .f32 :=
  vbM.slice (Rect.unit (s := S1152x8x128) ![1024, 0, 0] S128x8x128.size inb_S1152x8x128_S128x8x128_1024_0_0) (fun _ => rfl)
/-- Heads `8 t … 8 t + 7` of a device's keys (values): all of its rows, and its first 128. -/
abbrev kHd (t : ℕ) (h : t < 8) : Memref sig .tc .hbm S1024x8x128 .f32 :=
  (kM.slice (Rect.unit (s := S1x1024x64x128) ![0, 0, 8 * t, 0] S1x1024x8x128.size (inbHeads t h)) (fun _ => rfl)).squeeze S1024x8x128 squeezes_S1x1024x8x128_S1024x8x128
abbrev vHd (t : ℕ) (h : t < 8) : Memref sig .tc .hbm S1024x8x128 .f32 :=
  (vM.slice (Rect.unit (s := S1x1024x64x128) ![0, 0, 8 * t, 0] S1x1024x8x128.size (inbHeads t h)) (fun _ => rfl)).squeeze S1024x8x128 squeezes_S1x1024x8x128_S1024x8x128
abbrev kHd' (t : ℕ) (h : t < 8) : Memref sig .tc .hbm S128x8x128 .f32 :=
  (kM.slice (Rect.unit (s := S1x1024x64x128) ![0, 0, 8 * t, 0] S1x128x8x128.size (inbHeads' t h)) (fun _ => rfl)).squeeze S128x8x128 squeezes_S1x128x8x128_S128x8x128
abbrev vHd' (t : ℕ) (h : t < 8) : Memref sig .tc .hbm S128x8x128 .f32 :=
  (vM.slice (Rect.unit (s := S1x1024x64x128) ![0, 0, 8 * t, 0] S1x128x8x128.size (inbHeads' t h)) (fun _ => rfl)).squeeze S128x8x128 squeezes_S1x128x8x128_S128x8x128
/-- Rows `128 i … 128 i + 127` of a device's keys (values). -/
abbrev kCh (i : ℕ) (h : i < 8) : Memref sig .tc .hbm S128x64x128 .f32 :=
  (kM.slice (Rect.unit (s := S1x1024x64x128) ![0, 128 * i, 0, 0] S1x128x64x128.size (inbChunk i h)) (fun _ => rfl)).squeeze S128x64x128 squeezes_S1x128x64x128_S128x64x128
abbrev vCh (i : ℕ) (h : i < 8) : Memref sig .tc .hbm S128x64x128 .f32 :=
  (vM.slice (Rect.unit (s := S1x1024x64x128) ![0, 128 * i, 0, 0] S1x128x64x128.size (inbChunk i h)) (fun _ => rfl)).squeeze S128x64x128 squeezes_S1x128x64x128_S128x64x128

/-- The device `k` places further round the ring. -/
def sh (c : Dev nD) (k : ℕ) : Dev nD := ⟨(c.val + k) % 8, Nat.mod_lt _ (by decide)⟩

/-! ## What the buffers hold -/

variable (m : (ℓ : Loc nD τ sig) → Buf (Elt F) ℓ)

/-- The five arguments at device `c`. -/
def aX (c : Dev nD) : Vec F S1x1024x1024 .f32 := m ((c : Thread nD τ).loc main_arg0)
def aWq (c : Dev nD) : Vec F S1024x1024 .f32 := m ((c : Thread nD τ).loc main_arg1)
def aK (c : Dev nD) : Vec F S1x1024x64x128 .f32 := m ((c : Thread nD τ).loc main_arg2)
def aV (c : Dev nD) : Vec F S1x1024x64x128 .f32 := m ((c : Thread nD τ).loc main_arg3)
def aWo (c : Dev nD) : Vec F S1024x1024 .f32 := m ((c : Thread nD τ).loc main_arg4)

/-- Contents nobody reads. -/
def jk {S : Shape} : Vec F S .f32 := constant S .f32 0x00000000#32

/-! ### Queries -/

def Q0 (c : Dev nD) : Vec F S1024x1024 .f32 := k0_pay2 (aX m c) (aWq m c)
/-- Device `c`'s own row of the gathered queries. -/
def QW (c : Dev nD) : Vec F S8x32x1024 .f32 :=
  (gAcc c.val c.isLt).write (Elt F) jk (k0_pay4 (k0_pay3 (aX m c) (aWq m c))) Finset.univ
def QG : Vec F S8x32x1024 .f32 := fun i => QW m ⟨(i 0).val, (i 0).isLt⟩ i

/-! ### The first 32 queries against a device's own keys, 128 at a time -/

def kc (c : Dev nD) (i : ℕ) (h : i < 8) : Vec F S128x64x128 .f32 := (kCh i h).view.read (Elt F) (aK m c)
def vc (c : Dev nD) (i : ℕ) (h : i < 8) : Vec F S128x64x128 .f32 := (vCh i h).view.read (Elt F) (aV m c)

abbrev gq : FVec F S64x32x128 .f32 := k0_pay5 (QG m)
def nu1 (c : Dev nD) : FVec F S64x32x128 .f32 := k0_pay10 (gq m) k0_pay6 (k0_pay8 (kc m c 0 (by decide))) (vc m c 0 (by decide))
def de1 (c : Dev nD) : FVec F S64x32 .f32 := k0_pay11 (gq m) k0_pay7 (k0_pay8 (kc m c 0 (by decide)))
def nu2 (c : Dev nD) : FVec F S64x32x128 .f32 := k0_pay14 (gq m) (nu1 m c) (k0_pay12 (kc m c 1 (by decide))) (vc m c 1 (by decide))
def de2 (c : Dev nD) : FVec F S64x32 .f32 := k0_pay15 (gq m) (de1 m c) (k0_pay12 (kc m c 1 (by decide)))
def nu3 (c : Dev nD) : FVec F S64x32x128 .f32 := k0_pay17 (gq m) (nu2 m c) (kc m c 2 (by decide)) (vc m c 2 (by decide))
def de3 (c : Dev nD) : FVec F S64x32 .f32 := k0_pay18 (gq m) (de2 m c) (kc m c 2 (by decide))
def nu4 (c : Dev nD) : FVec F S64x32x128 .f32 := k0_pay20 (gq m) (nu3 m c) (kc m c 3 (by decide)) (vc m c 3 (by decide))
def de4 (c : Dev nD) : FVec F S64x32 .f32 := k0_pay21 (gq m) (de3 m c) (kc m c 3 (by decide))
def nu5 (c : Dev nD) : FVec F S64x32x128 .f32 := k0_pay23 (gq m) (nu4 m c) (kc m c 4 (by decide)) (vc m c 4 (by decide))
def de5 (c : Dev nD) : FVec F S64x32 .f32 := k0_pay24 (gq m) (de4 m c) (kc m c 4 (by decide))
def nu6 (c : Dev nD) : FVec F S64x32x128 .f32 := k0_pay26 (gq m) (nu5 m c) (kc m c 5 (by decide)) (vc m c 5 (by decide))
def de6 (c : Dev nD) : FVec F S64x32 .f32 := k0_pay27 (gq m) (de5 m c) (kc m c 5 (by decide))
def nu7 (c : Dev nD) : FVec F S64x32x128 .f32 := k0_pay29 (gq m) (nu6 m c) (kc m c 6 (by decide)) (vc m c 6 (by decide))
def de7 (c : Dev nD) : FVec F S64x32 .f32 := k0_pay30 (gq m) (de6 m c) (kc m c 6 (by decide))
/-- Numerators (32 rows) and denominators (one row) of every head, summed over `c`'s keys. -/
def ND (c : Dev nD) : FVec F S64x33x128 .f32 := k0_pay31 (gq m) (nu7 m c) (de7 m c) (kc m c 7 (by decide)) (vc m c 7 (by decide))

/-! ### The first ring -/

/-- Heads `8 n … 8 n + 7` of `f`. -/
def rdN (n : ℕ) (h : n < 8) (f : Vec F S64x33x128 .f32) : Vec F S8x33x128 .f32 :=
  ndM.view.readAt (Elt F) (Rect.unit (s := S64x33x128) ![8 * n, 0, 0] S8x33x128.size (inbOwn n h)).toLoadRect f
/-- What an outgoing slot holds once `p` is stored there, what the incoming slot it is sent to holds, and what a
    load of that gives. -/
def ndW (s : ℕ) (h : s < 2) (p : Vec F S1x8x33x128 .f32) : Vec F S2x8x33x128 .f32 :=
  (nsM.access (Rect.unit (s := S2x8x33x128) ![s, 0, 0, 0] S1x8x33x128.size (inbNd s h))).write (Elt F) jk p Finset.univ
def ndL (s : ℕ) (h : s < 2) (p : Vec F S1x8x33x128 .f32) : Vec F S2x8x33x128 .f32 :=
  (ndCm s h).view.write (Elt F) jk ((ndSt s h).view.read (Elt F) (ndW s h p)) Finset.univ
def ndR (s : ℕ) (h : s < 2) (p : Vec F S1x8x33x128 .f32) : Vec F S1x8x33x128 .f32 :=
  ncM.view.readAt (Elt F) (Rect.unit (s := S2x8x33x128) ![s, 0, 0, 0] S1x8x33x128.size (inbNd s h)).toLoadRect (ndL s h p)

theorem m8 (n : ℕ) : n % 8 < 8 := Nat.mod_lt _ (by decide)
theorem m2 (n : ℕ) : n % 2 < 2 := Nat.mod_lt _ (by decide)

/-- What device `c` sends on hop `h` of the first ring. -/
def SN : ℕ → Dev nD → Vec F S1x8x33x128 .f32
  | 0, c => k0_pay32 (rdN ((c.val + 15) % 8) (m8 _) (ND m c))
  | h + 1, c => k0_pay33 (rdN ((c.val + 14 - h) % 8) (m8 _) (ND m c)) (ndR (h % 2) (m2 _) (SN h (sh c 7)))

/-! ### The band -/

def KB (c : Dev nD) : Vec F S1152x8x128 .f32 := fun i =>
  if i ∈ (kbLo.view.set : Finset S1152x8x128.Idx) then
    kbLo.view.write (Elt F) jk ((kHd c.val c.isLt).view.read (Elt F) (aK m 0)) Finset.univ i
  else kbHi.view.write (Elt F) jk ((kHd' c.val c.isLt).view.read (Elt F) (aK m 1)) Finset.univ i
def VB (c : Dev nD) : Vec F S1152x8x128 .f32 := fun i =>
  if i ∈ (vbLo.view.set : Finset S1152x8x128.Idx) then
    vbLo.view.write (Elt F) jk ((vHd c.val c.isLt).view.read (Elt F) (aV m 0)) Finset.univ i
  else vbHi.view.write (Elt F) jk ((vHd' c.val c.isLt).view.read (Elt F) (aV m 1)) Finset.univ i

theorem inbQ (n : ℕ) (h : n < 8) : ∀ a, (![32, 128 * n] : Fin 2 → ℕ) a + S992x128.size a ≤ S1024x1024.size a := by
  intro a; fin_cases a
  · exact Nat.le_refl 1024
  · show 128 * n + 128 ≤ 1024; omega
theorem inbB (n : ℕ) (h : n < 8) : ∀ a, (![0, n, 0] : Fin 3 → ℕ) a + S1152x1x128.size a ≤ S1152x8x128.size a := by
  intro a; fin_cases a
  · exact Nat.le_refl 1152
  · show n + 1 ≤ 8; omega
  · exact Nat.le_refl 128

def rdQ (n : ℕ) (h : n < 8) (f : Vec F S1024x1024 .f32) : Vec F S992x128 .f32 :=
  qM.view.readAt (Elt F) (Rect.unit (s := S1024x1024) ![32, 128 * n] S992x128.size (inbQ n h)).toLoadRect f
def rdKB (n : ℕ) (h : n < 8) (f : Vec F S1152x8x128 .f32) : Vec F S1152x1x128 .f32 :=
  kbM.view.readAt (Elt F) (Rect.unit (s := S1152x8x128) ![0, n, 0] S1152x1x128.size (inbB n h)).toLoadRect f
def rdVB (n : ℕ) (h : n < 8) (f : Vec F S1152x8x128 .f32) : Vec F S1152x1x128 .f32 :=
  vbM.view.readAt (Elt F) (Rect.unit (s := S1152x8x128) ![0, n, 0] S1152x1x128.size (inbB n h)).toLoadRect f
def rdWo (n : ℕ) (h : n < 8) (f : Vec F S1024x1024 .f32) : Vec F S128x1024 .f32 :=
  woM.view.readAt (Elt F) (Rect.unit (s := S1024x1024) ![128 * n, 0] S128x1024.size (inbPa n h)).toLoadRect f

abbrev bq (c : Dev nD) (n : ℕ) (h : n < 8) : Vec F S992x128 .f32 := rdQ n h (Q0 m c)
abbrev bk (c : Dev nD) (n : ℕ) (h : n < 8) : Vec F S1152x1x128 .f32 := rdKB n h (KB m c)
abbrev bv (c : Dev nD) (n : ℕ) (h : n < 8) : Vec F S1152x1x128 .f32 := rdVB n h (VB m c)
abbrev bw (c : Dev nD) (n : ℕ) (h : n < 8) : Vec F S128x1024 .f32 := rdWo n h (aWo m c)

/-- What came round the first ring, and the numerators and denominators made of it. -/
def v709 (c : Dev nD) : FVec F S8x33x128 .f32 := k0_pay41 (ndR 0 (by decide) (SN m 6 (sh c 7)))
def v714 (c : Dev nD) : FVec F S8x32x128 .f32 := k0_pay43 (v709 m c) (rdN c.val c.isLt (ND m c))
def v716 (c : Dev nD) : FVec F S8x32 .f32 := k0_pay44 (v709 m c) (rdN c.val c.isLt (ND m c))
def v772 (c : Dev nD) : FVec F S1024x1024 .f32 :=
  k0_pay48 (v714 m c) (v716 m c) k0_pay45 k0_pay46 (bq m c 0 (by decide)) (k0_pay47 (bk m c 0 (by decide))) (bv m c 0 (by decide)) (bw m c 0 (by decide))
def v804 (c : Dev nD) : FVec F S1024x1024 .f32 :=
  k0_pay51 (v714 m c) (v716 m c) (v772 m c) (k0_pay49 (bv m c 1 (by decide))) (k0_pay50 k0_pay45 (bq m c 1 (by decide)) (bk m c 1 (by decide))) (bw m c 1 (by decide))
def v836 (c : Dev nD) : FVec F S1024x1024 .f32 :=
  k0_pay54 (v714 m c) (v716 m c) (v804 m c) (k0_pay52 (bv m c 2 (by decide))) (k0_pay53 k0_pay45 (bq m c 2 (by decide)) (bk m c 2 (by decide))) (constant S992x128 .f32 0x00000000#32) (bw m c 2 (by decide))
def v864 (c : Dev nD) : FVec F S1024x128 .f32 :=
  k0_pay55 (v714 m c) (v716 m c) k0_pay45 (bq m c 3 (by decide)) (bk m c 3 (by decide)) (bv m c 3 (by decide))
def v900 (c : Dev nD) : FVec F S1024x1024 .f32 :=
  k0_pay56 (v714 m c) (v716 m c) k0_pay45 (v836 m c) (v864 m c) (bw m c 3 (by decide)) (bq m c 4 (by decide)) (bk m c 4 (by decide)) (bv m c 4 (by decide)) (bw m c 4 (by decide))
def v932 (c : Dev nD) : FVec F S1024x1024 .f32 :=
  k0_pay57 (v714 m c) (v716 m c) k0_pay45 (v900 m c) (bq m c 5 (by decide)) (bk m c 5 (by decide)) (bv m c 5 (by decide)) (bw m c 5 (by decide))
def v964 (c : Dev nD) : FVec F S1024x1024 .f32 :=
  k0_pay61 (v714 m c) (v716 m c) k0_pay45 (v932 m c) (k0_pay58 (bv m c 6 (by decide))) (k0_pay59 (bq m c 6 (by decide)) (bk m c 6 (by decide))) k0_pay60 (bw m c 6 (by decide))
/-- Device `c`'s heads through their rows of the output matrix. -/
def PA (c : Dev nD) : FVec F S1024x1024 .f32 :=
  k0_pay64 (v714 m c) (v716 m c) (v964 m c) (k0_pay62 (bv m c 7 (by decide))) (k0_pay63 k0_pay45 (bq m c 7 (by decide)) (bk m c 7 (by decide))) (bw m c 7 (by decide))

/-! ### The second ring -/

def rdP (n : ℕ) (h : n < 8) (f : Vec F S1024x1024 .f32) : Vec F S128x1024 .f32 :=
  paM.view.readAt (Elt F) (Rect.unit (s := S1024x1024) ![128 * n, 0] S128x1024.size (inbPa n h)).toLoadRect f
def rsW (s : ℕ) (h : s < 2) (p : Vec F S1x128x1024 .f32) : Vec F S2x128x1024 .f32 :=
  (rsM.access (Rect.unit (s := S2x128x1024) ![s, 0, 0] S1x128x1024.size (inbRs s h))).write (Elt F) jk p Finset.univ
def rsL (s : ℕ) (h : s < 2) (p : Vec F S1x128x1024 .f32) : Vec F S2x128x1024 .f32 :=
  (rsCm s h).view.write (Elt F) jk ((rsSt s h).view.read (Elt F) (rsW s h p)) Finset.univ
def rsR (s : ℕ) (h : s < 2) (p : Vec F S1x128x1024 .f32) : Vec F S1x128x1024 .f32 :=
  rcM.view.readAt (Elt F) (Rect.unit (s := S2x128x1024) ![s, 0, 0] S1x128x1024.size (inbRs s h)).toLoadRect (rsL s h p)

/-- What device `c` sends on hop `h` of the second ring. -/
def SR : ℕ → Dev nD → Vec F S1x128x1024 .f32
  | 0, c => k0_pay65 (rdP ((c.val + 15) % 8) (m8 _) (PA m c))
  | h + 1, c => k0_pay66 (rdP ((c.val + 14 - h) % 8) (m8 _) (PA m c)) (rsR (h % 2) (m2 _) (SR h (sh c 7)))

/-- Device `c`'s own row block of the result. -/
def OW (c : Dev nD) : Vec F S1x1024x1024 .f32 :=
  (oM.access (Rect.unit (s := S1x1024x1024) ![0, 128 * c.val, 0] S1x128x1024.size (inbOut c.val c.isLt))).write (Elt F) jk
    (k0_pay75 (rsR 0 (by decide) (SR m 6 (sh c 7))) (rdP c.val c.isLt (PA m c))) Finset.univ
theorem rowDev {n : ℕ} (h : n < 1024) : n / 128 < 8 := by omega
def OUT : Vec F S1x1024x1024 .f32 := fun i => OW m ⟨(i 1).val / 128, rowDev (i 1).isLt⟩ i

end Cert.KernelIdeal.Pf
end
-- ==== Proof.Proto.lean ====
module

public import proofs.«01_k».proof.Proof.Base

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

/-! ## The resource algebra: the pipeline's own, the rounds of the kernel's semaphores, the released slots -/

abbrev UU : Type := UR sig nD τ × (URounds (GSem nD τ sig) ℕ × USlots (Dev nD × Fin 4))

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (USlots (Dev nD × Fin 4)) (MT nD τ sig ℕ (Elt F) ℕ UU ℕ) := Emb.inr.trans embR

/-- A region of a device's memory, held outright, with given contents; and with any. -/
abbrev pt {S : Shape} {e : EltTy} {sp : Space} (v : Memref sig .tc sp S e) (c : Dev nD) (f : Buf (Elt F) (v.view.loc (c : Thread nD τ))) : sProp 𝕄 :=
  (v.view.loc (c : Thread nD τ) ↦[v.view.set]{fullShare} f)
abbrev pa {S : Shape} {e : EltTy} {sp : Space} (v : Memref sig .tc sp S e) (c : Dev nD) : sProp 𝕄 :=
  slot (v.view.loc (c : Thread nD τ)) v.view.set

/-- The shares of its own row that a device lends out: `give 1`, `give 2`, … and what is left after them. -/
def rest : ℕ → PosShare TreeShare
  | 0 => fullShare
  | n + 1 => (rest n).right
def give (n : ℕ) : PosShare TreeShare := (rest (n - 1)).left

/-! ## The semaphores -/

inductive Kd where
  | bar | credit | mini | qgS (o : ℕ) | qgR (o : ℕ) | sc (i : ℕ) | kv (i : ℕ) | loc (i : ℕ) | fill (i : ℕ)
  | ndS0 | ndS1 | ndR0 | ndR1 | rgS0 | rgS1 | rgR0 | rgR1 | non

def dmaKd (n : ℕ) : Kd :=
  if n < 4 then .non else if n < 12 then .qgS (n - 4) else if n < 20 then .qgR (n - 12) else if n < 36 then .sc (n - 20)
  else if n < 40 then .kv (n - 36) else if n < 42 then .loc (n - 40) else if n < 44 then .fill (n - 42)
  else if n = 44 then .ndS0 else if n = 45 then .ndS1 else if n = 46 then .ndR0 else if n = 47 then .ndR1
  else if n = 48 then .rgS0 else if n = 49 then .rgS1 else if n = 50 then .rgR0 else if n = 51 then .rgR1 else .non
def regKd (n : ℕ) : Kd := if n = 0 then .credit else if n = 1 then .mini else .bar

def kd : SemLoc sig → Kd
  | .dma s => dmaKd s.val
  | .reg s => regKd s.val

/-- Who pays in round `r` of a semaphore of device `x`. -/
def dut (x : Dev nD) : Kd → ℕ → Finset ℕ
  | .bar, r => if r = 0 then Finset.Icc 1 7 else ∅
  | .credit, r => if r = 0 then Finset.Icc 1 15 else ∅
  | .mini, r => if r < 2 then {0, 1} else ∅
  | .qgS o, r => if r = 0 ∧ o ≠ 0 then {0} else ∅
  | .qgR o, r => if r = 0 ∧ o ≠ 0 then {0} else ∅
  | .sc i, r => if r = 0 ∧ i < 14 ∧ x.val < 2 then {0} else ∅
  | .kv i, r => if r = 0 then (if i % 2 = 0 then (if x.val = 0 then ∅ else {x.val}) else (if x.val = 1 then ∅ else {(x.val + 7) % 8})) else ∅
  | .loc _, r => if r < 8 then {0} else ∅
  | .fill _, r => if r = 0 ∧ x.val < 2 then {0} else ∅
  | .ndS0, r => if r < 4 then {0} else ∅
  | .ndS1, r => if r < 3 then {0} else ∅
  | .ndR0, r => if r < 4 then {0} else ∅
  | .ndR1, r => if r < 3 then {0} else ∅
  | .rgS0, r => if r < 8 then {0} else ∅
  | .rgS1, r => if r < 6 then {0} else ∅
  | .rgR0, r => if r < 8 then {0} else ∅
  | .rgR1, r => if r < 6 then {0} else ∅
  | .non, _ => ∅

/-- What a payment counts. -/
def amt (x : Dev nD) : Kd → ℕ
  | .bar | .credit | .mini | .non => 1
  | .qgS _ | .qgR _ => 4096
  | .sc _ => if x.val = 0 then 131072 else 16384
  | .kv i => if i % 2 = 0 then 131072 else 16384
  | .loc _ => 131072
  | .fill _ => if x.val = 0 then 131072 else 16384
  | .ndS0 | .ndS1 | .ndR0 | .ndR1 => 4224
  | .rgS0 | .rgS1 | .rgR0 | .rgR1 => 16384

theorem amt_pos (x : Dev nD) (k : Kd) : 0 < amt x k := by
  cases k <;> first | exact Nat.succ_pos _ | (show 0 < ite _ _ _; split <;> decide)

abbrev cl (x : Dev nD) (s : SemLoc sig) : GSem nD τ sig := ((x : Thread nD τ), s)

/-- The semaphores by number: the copies' own, then the three that are signalled. -/
def semOf (i : Fin 51) : SemLoc sig :=
  if h : i.val < 48 then .dma ⟨i.val + 4, by have : sig.nDmaSem = 52 := rfl; omega⟩
  else .reg ⟨i.val - 48, by have : sig.nSem = 3 := rfl; have := i.isLt; omega⟩

/-! ## What the neighbour on the right lets its left neighbour know

With its `j`th signal of the flow-control semaphore a device says how often it has given back each of the four incoming
slots, and how far its receive semaphores have come. -/

def aa (s n : ℕ) : ℕ := if s = 0 then (n + 1) / 2 else n / 2

def CPv (y : Dev nD) (n0 n1 n2 n3 q0 q1 g0 g1 b : ℕ) : sProp 𝕄 :=
  iprop(released ES (y, (0 : Fin 4)) n0 ∗ released ES (y, (1 : Fin 4)) n1 ∗ released ES (y, (2 : Fin 4)) n2 ∗ released ES (y, (3 : Fin 4)) n3
    ∗ reached ER (cl y (semOf 42)) q0 ∗ reached ER (cl y (semOf 43)) q1
    ∗ reached ER (cl y (semOf 46)) g0 ∗ reached ER (cl y (semOf 47)) g1 ∗ reached ER (cl y (semOf 49)) b)

def rr (s j : ℕ) : ℕ := if j ≤ 5 then 0 else if j ≤ 10 then aa s (j - 5) else (if s = 0 then 4 else 3) + aa s (j - 10)

def CP (y : Dev nD) (j : ℕ) : sProp 𝕄 :=
  CPv y (aa 0 (min j 5) + 1) (aa 1 (min j 5) + 1) (aa 0 (min (j - 5) 5) + 1) (aa 1 (min (j - 5) 5) + 1)
    (aa 0 (min j 5)) (aa 1 (min j 5)) (rr 0 j) (rr 1 j) (if j ≤ 5 then 0 else 1)

variable (m : (ℓ : Loc nD τ sig) → Buf (Elt F) ℓ)

/-- What device `p` hands device `x` at the barrier: where `x` will write. -/
def barPay (x p : Dev nD) (d : ℕ) : sProp 𝕄 :=
  iprop(pa (gRow x.val x.isLt) p ∗ (if x.val = 0 then iprop(pa kbLo p ∗ pa vbLo p) else iprop(emp))
    ∗ (if x.val = 1 then iprop(pa kbHi p ∗ pa vbHi p) else iprop(emp)) ∗ (if d = 7 then CP p 0 else iprop(emp)))

/-- What the right neighbour `y` of `x` hands over before the last ring: every row block of its result but its own. -/
def miniPay (x y : Dev nD) : sProp 𝕄 :=
  iprop((bigSep ({0, 1, 2, 3, 4, 5, 6} : Finset ℕ) fun h => pa (oBlk ((x.val + 8 - h) % 8) (m8 _)) y)
    ∗ reached ER (cl y (semOf 46)) 4 ∗ reached ER (cl y (semOf 47)) 3)

def kvPay (x : Dev nD) (i : ℕ) : sProp 𝕄 :=
  if i = 0 then iprop(pt kbLo x (KB m x)) else if i = 1 then iprop(pt kbHi x (KB m x)) else if i = 2 then iprop(pt vbLo x (VB m x)) else iprop(pt vbHi x (VB m x))
def locPay (x : Dev nD) (i r : ℕ) : sProp 𝕄 :=
  if i = 0 then iprop(pt kcM x (kc m x (r % 8) (m8 r))) else iprop(pt vcM x (vc m x (r % 8) (m8 r)))
def fillPay (x : Dev nD) (i : ℕ) : sProp 𝕄 :=
  if x.val = 0 then (if i = 0 then iprop(pt kbLo x (KB m x)) else iprop(pt vbLo x (VB m x)))
  else (if i = 0 then iprop(pt kbHi x (KB m x)) else iprop(pt vbHi x (VB m x)))
def qgPay (x : Dev nD) (o : ℕ) : sProp 𝕄 :=
  iprop((gRow x.val x.isLt).view.loc (x : Thread nD τ) ↦[(gRow x.val x.isLt).view.set]{give o} (QG m))
def agPay (x : Dev nD) (n : ℕ) : sProp 𝕄 := iprop(pt (oBlk (n % 8) (m8 n)) x (OUT m))
def rsPay0 (x : Dev nD) (r : ℕ) : sProp 𝕄 :=
  iprop(pt (rsCm 0 (by decide)) x (rsL 0 (by decide) (SR m (2 * r) (sh x 7))) ∗ reached ER (cl (sh x 7) (semOf 49)) 1)
def rsPay1 (x : Dev nD) (r : ℕ) : sProp 𝕄 :=
  iprop(pt (rsCm 1 (by decide)) x (rsL 1 (by decide) (SR m (2 * r + 1) (sh x 7))) ∗ reached ER (cl (sh x 7) (semOf 49)) 1)
def ndPay0 (x : Dev nD) (r : ℕ) : sProp 𝕄 := iprop(pt (ndCm 0 (by decide)) x (ndL 0 (by decide) (SN m (2 * r) (sh x 7))))
def ndPay1 (x : Dev nD) (r : ℕ) : sProp 𝕄 := iprop(pt (ndCm 1 (by decide)) x (ndL 1 (by decide) (SN m (2 * r + 1) (sh x 7))))

/-- What a payment carries. -/
def payl (x : Dev nD) (k : Kd) (r d : ℕ) : sProp 𝕄 :=
  match k with
  | .bar => barPay x (sh x (8 - d)) d
  | .credit => CP (sh x 1) d
  | .mini => if r = 1 ∧ d = 0 then miniPay x (sh x 1) else iprop(emp)
  | .qgS o => qgPay m x o
  | .qgR o => iprop(pt (gRow ((x.val + 8 - o) % 8) (m8 _)) x (QG m))
  | .sc _ => iprop(emp)
  | .kv i => kvPay m x i
  | .loc i => locPay m x i r
  | .fill i => fillPay m x i
  | .ndS0 => iprop(pa (ndSt 0 (by decide)) x)
  | .ndS1 => iprop(pa (ndSt 1 (by decide)) x)
  | .ndR0 => ndPay0 m x r
  | .ndR1 => ndPay1 m x r
  | .rgS0 => if r < 4 then iprop(pa (rsSt 0 (by decide)) x) else agPay m x (x.val + 8 - 2 * (r - 4))
  | .rgS1 => if r < 3 then iprop(pa (rsSt 1 (by decide)) x) else agPay m x (x.val + 7 - 2 * (r - 3))
  | .rgR0 => if r < 4 then rsPay0 m x r else agPay m x (x.val + 7 - 2 * (r - 4))
  | .rgR1 => if r < 3 then rsPay1 m x r else agPay m x (x.val + 6 - 2 * (r - 3))
  | .non => iprop(emp)

/-- The kernel's protocol. -/
def Rd : Rounds.Schedule (GSem nD τ sig) ℕ 𝕄 where
  duties g r := if g.1.2 = .tc then dut g.1.1 (kd g.2) r else ∅
  amount g _ _ := amt g.1.1 (kd g.2)
  payload g r d := payl m g.1.1 (kd g.2) r d
  amount_pos _ _ _ _ := amt_pos _ _

theorem ite_storable {p : Prop} [Decidable p] {P Q : sProp 𝕄} (hP : BI.Storable (upEmb : UEmb _ 𝕄) P) (hQ : BI.Storable (upEmb : UEmb _ 𝕄) Q) :
    BI.Storable (upEmb : UEmb _ 𝕄) (if p then P else Q) := by
  by_cases h : p
  · rw [if_pos h]; exact hP
  · rw [if_neg h]; exact hQ

instance CP_storable (y : Dev nD) (j : ℕ) : BI.Storable (upEmb : UEmb _ 𝕄) (CP (F := F) y j) := by
  unfold CP CPv; infer_instance
instance CPv_pers (y : Dev nD) (n0 n1 n2 n3 q0 q1 g0 g1 b : ℕ) : BI.Persistent (CPv (F := F) y n0 n1 n2 n3 q0 q1 g0 g1 b) := by
  unfold CPv; infer_instance
instance CP_pers (y : Dev nD) (j : ℕ) : BI.Persistent (CP (F := F) y j) := by
  unfold CP; infer_instance
instance barPay_storable (x p : Dev nD) (d : ℕ) : BI.Storable (upEmb : UEmb _ 𝕄) (barPay (F := F) x p d) := by
  have h1 := ite_storable (F := F) (p := x.val = 0) (P := iprop(pa kbLo p ∗ pa vbLo p)) (Q := iprop(emp)) inferInstance inferInstance
  have h2 := ite_storable (F := F) (p := x.val = 1) (P := iprop(pa kbHi p ∗ pa vbHi p)) (Q := iprop(emp)) inferInstance inferInstance
  have h3 := ite_storable (F := F) (p := d = 7) (P := CP p 0) (Q := iprop(emp)) inferInstance inferInstance
  unfold barPay; infer_instance
instance miniPay_storable (x y : Dev nD) : BI.Storable (upEmb : UEmb _ 𝕄) (miniPay (F := F) x y) := by
  unfold miniPay; infer_instance
instance qgPay_storable (x : Dev nD) (o : ℕ) : BI.Storable (upEmb : UEmb _ 𝕄) (qgPay m x o) := by unfold qgPay; infer_instance
instance agPay_storable (x : Dev nD) (o : ℕ) : BI.Storable (upEmb : UEmb _ 𝕄) (agPay m x o) := by unfold agPay; infer_instance
instance rsPay0_storable (x : Dev nD) (o : ℕ) : BI.Storable (upEmb : UEmb _ 𝕄) (rsPay0 m x o) := by unfold rsPay0; infer_instance
instance rsPay1_storable (x : Dev nD) (o : ℕ) : BI.Storable (upEmb : UEmb _ 𝕄) (rsPay1 m x o) := by unfold rsPay1; infer_instance
instance ndPay0_storable (x : Dev nD) (o : ℕ) : BI.Storable (upEmb : UEmb _ 𝕄) (ndPay0 m x o) := by unfold ndPay0; infer_instance
instance ndPay1_storable (x : Dev nD) (o : ℕ) : BI.Storable (upEmb : UEmb _ 𝕄) (ndPay1 m x o) := by unfold ndPay1; infer_instance
instance kvPay_storable (x : Dev nD) (i : ℕ) : BI.Storable (upEmb : UEmb _ 𝕄) (kvPay m x i) := by
  unfold kvPay; exact ite_storable inferInstance (ite_storable inferInstance (ite_storable inferInstance inferInstance))
instance locPay_storable (x : Dev nD) (i r : ℕ) : BI.Storable (upEmb : UEmb _ 𝕄) (locPay m x i r) := by
  unfold locPay; exact ite_storable inferInstance inferInstance
instance fillPay_storable (x : Dev nD) (i : ℕ) : BI.Storable (upEmb : UEmb _ 𝕄) (fillPay m x i) := by
  unfold fillPay; exact ite_storable (ite_storable inferInstance inferInstance) (ite_storable inferInstance inferInstance)
instance payl_storable (x : Dev nD) (k : Kd) (r d : ℕ) : BI.Storable (upEmb : UEmb _ 𝕄) (payl m x k r d) := by
  cases k
  case mini => exact ite_storable inferInstance inferInstance
  case rgS0 => exact ite_storable inferInstance inferInstance
  case rgS1 => exact ite_storable inferInstance inferInstance
  case rgR0 => exact ite_storable inferInstance inferInstance
  case rgR1 => exact ite_storable inferInstance inferInstance
  all_goals (dsimp only [payl]; infer_instance)
instance Rd_storable (g : GSem nD τ sig) (r d : ℕ) : BI.Storable (upEmb : UEmb _ 𝕄) ((Rd m).payload g r d) :=
  payl_storable m g.1.1 (kd g.2) r d

/-! ## What every device may use throughout -/

def slotOf (k : Dev nD × Fin 4) : sProp 𝕄 :=
  if k.2 = 0 then pa (ndCm 0 (by decide)) k.1 else if k.2 = 1 then pa (ndCm 1 (by decide)) k.1
  else if k.2 = 2 then pa (rsCm 0 (by decide)) k.1 else pa (rsCm 1 (by decide)) k.1
instance slotOf_storable (k : Dev nD × Fin 4) : BI.Storable (upEmb : UEmb _ 𝕄) (slotOf (F := F) k) := by
  exact ite_storable inferInstance (ite_storable inferInstance (ite_storable inferInstance inferInstance))

def ctx (κ : Dev nD × Fin 51 → ℕ) (ι : Dev nD × Fin 4 → ℕ) : sProp 𝕄 :=
  iprop((bigSep Finset.univ fun x : Dev nD × Fin 51 => cellInv ER (Rd m) (κ x) (cl x.1 (semOf x.2)))
    ∗ (bigSep Finset.univ fun x : Dev nD × Fin 51 => reached ER (cl x.1 (semOf x.2)) 0)
    ∗ (bigSep Finset.univ fun k : Dev nD × Fin 4 => slotInv ES (ι k) k (slotOf k))
    ∗ levAts (SiteBlocks.L 48) SiteBlocks.lv)
instance ctx_pers (κ : Dev nD × Fin 51 → ℕ) (ι : Dev nD × Fin 4 → ℕ) : BI.Persistent (ctx m κ ι) := by
  unfold ctx; infer_instance

theorem ctx_cell (κ : Dev nD × Fin 51 → ℕ) (ι : Dev nD × Fin 4 → ℕ) (x : Dev nD) (i : Fin 51) : ctx m κ ι ⊢ cellInv ER (Rd m) (κ (x, i)) (cl x (semOf i)) := by
  unfold ctx
  iintro ⟨H, -⟩
  have h : (bigSep Finset.univ fun x : Dev nD × Fin 51 => cellInv ER (Rd m) (κ x) (cl x.1 (semOf x.2))) ⊢ cellInv ER (Rd m) (κ (x, i)) (cl x (semOf i)) := bigSep_elim (Finset.mem_univ (x, i))
  iapply h $$ H
theorem ctx_reach (κ : Dev nD × Fin 51 → ℕ) (ι : Dev nD × Fin 4 → ℕ) (x : Dev nD) (i : Fin 51) : ctx m κ ι ⊢ reached ER (cl x (semOf i)) 0 := by
  unfold ctx
  iintro ⟨-, H, -⟩
  have h : (bigSep Finset.univ fun x : Dev nD × Fin 51 => (reached ER (cl x.1 (semOf x.2)) 0 : sProp 𝕄)) ⊢ reached ER (cl x (semOf i)) 0 := bigSep_elim (Finset.mem_univ (x, i))
  iapply h $$ H
theorem ctx_slot (κ : Dev nD × Fin 51 → ℕ) (ι : Dev nD × Fin 4 → ℕ) (k : Dev nD × Fin 4) : ctx m κ ι ⊢ slotInv ES (ι k) k (slotOf k) := by
  unfold ctx
  iintro ⟨-, -, H, -⟩
  have h : (bigSep Finset.univ fun k : Dev nD × Fin 4 => slotInv ES (ι k) k (slotOf (F := F) k)) ⊢ slotInv ES (ι k) k (slotOf k) := bigSep_elim (Finset.mem_univ k)
  iapply h $$ H
theorem ctx_lev (κ : Dev nD × Fin 51 → ℕ) (ι : Dev nD × Fin 4 → ℕ) : ctx m κ ι ⊢ levAts (SiteBlocks.L 48) SiteBlocks.lv := by
  unfold ctx
  iintro ⟨-, -, -, H⟩
  iexact H

/-! ## What a device owes, in the order it pays -/

/-- A payment: the semaphore, how many places further the device is, the round, the payer's name there, the level, the count. -/
structure Ev where
  s : SemLoc sig
  off : ℕ
  r : ℕ
  d : ℕ
  ix : ℕ
  n : ℕ

def pay (c : Dev nD) (e : Ev) : Pay nD τ sig := (cl (sh c e.off) e.s, e.ix, e.n)
def tok (c : Dev nD) (e : Ev) : sProp 𝕄 := dutyTok ER (cl (sh c e.off) e.s) e.r e.d

def Ob (c : Dev nD) (l : List Ev) : sProp 𝕄 :=
  iprop((∃ W : Waits sig ℕ, owes (c : Thread nD τ) (tallyL (l.map (pay c))) W) ∗ bigSepL l (tok c))

def evBar : List Ev := [1, 2, 3, 4, 5, 6, 7].map fun o => ⟨semOf 50, o, 0, o, 1, 1⟩
def evKV (i j : Fin 51) (n : ℕ) (l : List ℕ) : List Ev := l.flatMap fun o => [⟨semOf i, o, 0, o, 17, n⟩, ⟨semOf j, o, 0, o, 17, n⟩]
def evSc (c : Dev nD) : List Ev :=
  if c.val = 0 then evKV 32 34 131072 [1, 2, 3, 4, 5, 6, 7] else if c.val = 1 then evKV 33 35 16384 [7, 1, 2, 3, 4, 5, 6] else []
def qgSem (o : ℕ) : SemLoc sig := if h : o < 8 then .dma ⟨o + 12, by have : sig.nDmaSem = 52 := rfl; omega⟩ else semOf 0
def evQG : List Ev := [1, 2, 3, 4, 5, 6, 7].map fun o => ⟨qgSem o, o, 0, 0, 2, 4096⟩
def evC (d ix : ℕ) : Ev := ⟨semOf 48, 7, 0, d, ix, 1⟩
def evN0 (h : ℕ) : Ev := ⟨semOf 42, 1, h / 2, 0, 4 + 2 * h, 4224⟩
def evN1 (h : ℕ) : Ev := ⟨semOf 43, 1, h / 2, 0, 4 + 2 * h, 4224⟩
def evND : List Ev := [evN0 0, evC 1 5, evN1 1, evC 2 7, evN0 2, evC 3 9, evN1 3, evC 4 11, evN0 4, evC 5 13, evN1 5, evN0 6]
def evM (r ix : ℕ) : List Ev := [⟨semOf 49, 7, r, 0, ix, 1⟩, ⟨semOf 49, 1, r, 1, ix, 1⟩]
def evR0 (r ix : ℕ) : Ev := ⟨semOf 46, 1, r, 0, ix, 16384⟩
def evR1 (r ix : ℕ) : Ev := ⟨semOf 47, 1, r, 0, ix, 16384⟩
def evRS : List Ev := [evR0 0 20, evC 6 21, evR1 0 22, evC 7 23, evR0 1 24, evC 8 25, evR1 1 26, evC 9 27, evR0 2 28, evC 10 29, evR1 2 30, evR0 3 32]
def evAG : List Ev := [evR0 4 35, evC 11 36, evR1 3 37, evC 12 38, evR0 5 39, evC 13 40, evR1 4 41, evC 14 42, evR0 6 43, evC 15 44, evR1 5 45, evR0 7 47]
/-- Everything after the scatter. -/
def evT : List Ev := evQG ++ evND ++ evM 0 18 ++ evRS ++ evM 1 33 ++ evAG
abbrev OB (c : Dev nD) (n : ℕ) : sProp 𝕄 := Ob c (evT.drop n)

/-- The tokens of a device's own send semaphores, and the credits of its waits, in program order. -/
def qsSem (o : ℕ) : SemLoc sig := if h : o < 8 then .dma ⟨o + 4, by have : sig.nDmaSem = 52 := rfl; omega⟩ else semOf 0
def own (s : SemLoc sig) (r : ℕ) : Ev := ⟨s, 0, r, 0, 0, 0⟩
def tkT : List Ev := ([1, 2, 3, 4, 5, 6, 7].map fun o => own (qsSem o) 0)
  ++ [own (semOf 40) 0, own (semOf 41) 0, own (semOf 40) 1, own (semOf 41) 1, own (semOf 40) 2, own (semOf 41) 2, own (semOf 40) 3]
  ++ [own (semOf 44) 0, own (semOf 45) 0, own (semOf 44) 1, own (semOf 45) 1, own (semOf 44) 2, own (semOf 45) 2, own (semOf 44) 3]
  ++ [own (semOf 44) 4, own (semOf 45) 3, own (semOf 44) 5, own (semOf 45) 4, own (semOf 44) 6, own (semOf 45) 5, own (semOf 44) 7]
def tkE (c : Dev nD) (e : Ev) : sProp 𝕄 := dutyTok ER (cl c e.s) e.r e.d
def TK (c : Dev nD) (n : ℕ) : sProp 𝕄 := bigSepL (tkT.drop n) (tkE c)

/-- A wait: the semaphore, the level, the count. -/
structure Wt where
  s : SemLoc sig
  ix : ℕ
  n : ℕ
def crE (c : Dev nD) (w : Wt) : sProp 𝕄 := cred (tallyAt (cl c w.s) w.ix w.n)
def ringW (s0 s1 : SemLoc sig) (i N : ℕ) : List Wt :=
  [⟨s0, i + 1, N⟩, ⟨s1, i + 3, N⟩, ⟨semOf 48, i + 2, 1⟩, ⟨s0, i + 5, N⟩, ⟨semOf 48, i + 4, 1⟩, ⟨s1, i + 7, N⟩, ⟨semOf 48, i + 6, 1⟩,
   ⟨s0, i + 9, N⟩, ⟨semOf 48, i + 8, 1⟩, ⟨s1, i + 11, N⟩, ⟨semOf 48, i + 10, 1⟩, ⟨s0, i + 13, N⟩]
def crT : List Wt := ([1, 2, 3, 4, 5, 6, 7].map fun o => ⟨qgSem o, 2, 4096⟩)
  ++ ringW (semOf 42) (semOf 43) 3 4224 ++ [⟨semOf 49, 18, 2⟩] ++ ringW (semOf 46) (semOf 47) 19 16384 ++ [⟨semOf 49, 33, 2⟩]
  ++ ringW (semOf 46) (semOf 47) 34 16384
def CR (c : Dev nD) (n : ℕ) : sProp 𝕄 := bigSepL (crT.drop n) (crE c)

end Cert.KernelIdeal.Pf
end
-- ==== Proof.Steps.lean ====
module

public import proofs.«01_k».proof.Proof.Proto

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

abbrev 𝒱₀ : Variants := Variants.none

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The owner's place at a semaphore: `R` rounds over. -/
abbrev AT (c : Dev nD) (i : Fin 51) (R : ℕ) : sProp 𝕄 := atPos ER (cl c (semOf i)) R ∅ 0
abbrev RE (c : Dev nD) (i : Fin 51) (R : ℕ) : sProp 𝕄 := reached ER (cl c (semOf i)) R
abbrev CD (c : Dev nD) (i : Fin 51) (ix N : ℕ) : sProp 𝕄 := cred (tallyAt (cl c (semOf i)) ix N)

theorem sh_sh {c : Dev nD} {a b : ℕ} (h : (a + b) % 8 = 0) : sh (sh c a) b = c := by
  apply Fin.ext
  show ((c.val + a) % 8 + b) % 8 = c.val
  have := c.isLt
  have h8 : nD = 8 := rfl
  omega

/-! ## The list of what is owed -/

/-- Everything in `l` is above level `ix`. -/
def lvOk (ix : ℕ) (l : List Ev) : Bool := decide (ix < 48) && l.all fun e => decide (ix < e.ix) && decide (e.ix < 48)

theorem mayWait_l {c : Dev nD} {s : SemLoc sig} {ix : ℕ} {l : List Ev} (h : lvOk ix l = true) :
    (levAts (SiteBlocks.L 48) SiteBlocks.lv : sProp 𝕄) ⊢ MayWait (c : Thread nD τ) s ix (tallyL (l.map (pay c))) := by
  unfold lvOk at h
  rw [Bool.and_eq_true] at h
  refine SiteBlocks.mayWait_of (of_decide_eq_true h.1) c s _ fun g k hk => ?_
  obtain ⟨x, hx, hg, hi⟩ := tallyL_pos hk
  obtain ⟨e, he, rfl⟩ := List.mem_map.mp hx
  have h2 := List.all_eq_true.mp h.2 e he
  rw [Bool.and_eq_true] at h2
  have h3 : k = e.ix := hi
  subst h3
  refine ⟨?_, of_decide_eq_true h2.1⟩
  rw [hg]
  exact SiteBlocks.mem_L _ _ (of_decide_eq_true h2.2)

theorem Ob_cons (c : Dev nD) (e : Ev) (l : List Ev) : Ob (F := F) c (e :: l) ⊢ iprop((∃ W : Waits sig ℕ, owes (c : Thread nD τ) (tallyL (pay c e :: l.map (pay c))) W)
    ∗ tok c e ∗ bigSepL l (tok c)) := by
  unfold Ob
  rw [bigSepL_cons]
  exact Entails.refl _

theorem tallyL_push (c : Dev nD) (e : Ev) (l : List Ev) :
    tallyL (pay c e :: l.map (pay c)) = tallyL (l.map (pay c)) + tallyAt (cl (sh c e.off) e.s) e.ix e.n := by
  rw [tallyL, add_comm]; rfl

variable (m : (ℓ : Loc nD τ sig) → Buf (Elt F) ℓ) (κ : Dev nD × Fin 51 → ℕ) (ι : Dev nD × Fin 4 → ℕ)

/-! ## Signals and waits -/

theorem st_sig (c : Dev nD) (i : Fin 51) {dst : Dev nD} {sem : Sem sig} {l : List Ev} (l' : List Ev) (off r d ix : ℕ) {α : Type} {Q : α → sProp 𝕄}
    {k : PUnit → Prog (TpuEff nD τ sig (Elt F) Λ₀ .tc) α} (hdst : dst = sh c off) (hs : semOf i = .reg sem)
    (he : l = ⟨semOf i, off, r, d, ix, 1⟩ :: l')
    (hd : d ∈ dut (sh c off) (kd (semOf i)) r) (ha : amt (sh c off) (kd (semOf i)) = 1)
    (P : sProp 𝕄) (hP : P ⊢ payl m (sh c off) (kd (semOf i)) r d) :
    ctx m κ ι ⊢ iprop(Ob c l -∗ RE (sh c off) i r -∗ P -∗ (Ob c l' -∗ WP c (k ⟨⟩) Q) -∗ WP c (.op (.semSignal (dst : Thread nD τ) sem 1) k) Q) := by
  unfold RE
  have hcell := ctx_cell m κ ι (sh c off) i
  subst hdst he
  generalize semOf i = s at *
  subst hs
  have hP' : P ⊢ (Rd m).payload (cl (sh c off) (.reg sem)) r d := hP
  iintro #Hctx HO #Hr HP Hk
  ihave HO := (Ob_cons c _ l') $$ HO
  icases HO with ⟨⟨%W, HO⟩, Ht, Hts⟩
  ihave #Hi := hcell $$ Hctx
  ihave HP := hP' $$ HP
  unfold Ob tok
  iapply (Rounds.wp_signal 𝒱₀ ER (Rd m) (c : Thread nD τ) none (dst := ((sh c off : Dev nD) : Thread nD τ)) (sem := sem) (r := r) (d := d) (κ := κ (sh c off, i))
    (hd := hd) (hk := ha) ix (tallyL (l'.map (pay c))) (tallyL_push c ⟨.reg sem, off, r, d, ix, 1⟩ l')) $$ [HO Ht HP]
  · isplitr; · iexact Hi
    isplitl [HO]; · iexact HO
    isplitl [Ht]; · iexact Ht
    isplitl [HP]; · iexact HP
    iexact Hr
  iintro HO
  iapply Hk
  isplitl [HO]; · iexists W; iexact HO
  iexact Hts

theorem st_waitD (c : Dev nD) (i : Fin 51) {sem : DmaSem sig} {sp sp' : Space} {S S' : Shape} {e e' : EltTy} {src : Memref sig .tc sp' S' e'}
    {dst : Memref sig .tc sp S e} {hsrc : src.view.WordExact} {hdst : dst.view.WordExact}
    (ix N R : ℕ) {l : List Ev} {α : Type} {Q : α → sProp 𝕄} {k : PUnit → Prog (TpuEff nD τ sig (Elt F) Λ₀ .tc) α}
    (hs : semOf i = .dma sem) (hN : dst.view.dmaCredit = N) (hd : dut c (kd (semOf i)) R = {0}) (ha : amt c (kd (semOf i)) = N)
    (hl : lvOk ix l = true) (P : sProp 𝕄) (hP : payl m c (kd (semOf i)) R 0 ⊢ P) :
    ctx m κ ι ⊢ iprop(CD c i ix N -∗ Ob c l -∗ AT c i R -∗ (Ob c l -∗ AT c i (R + 1) -∗ RE c i (R + 1) -∗ P -∗ WP c (k ⟨⟩) Q)
      -∗ WP c (.op (.waitDma2 sem src dst hsrc hdst) k) Q) := by
  unfold CD AT RE
  have hcell := ctx_cell m κ ι c i
  subst hN
  generalize semOf i = s at *
  subst hs
  have h1 : (Rd m).duties ((c : Thread nD τ), .dma sem) R = {0} := hd
  have h2 : (bigSep ((Rd m).duties ((c : Thread nD τ), .dma sem) R \ ∅) fun d => (Rd m).payload ((c : Thread nD τ), .dma sem) R d) ⊢ P := by
    rw [h1, Finset.sdiff_empty, bigSep_singleton]; exact hP
  unfold Ob
  iintro #Hctx Hc ⟨⟨%W, HO⟩, Ht⟩ Hat Hk
  ihave #Hi := hcell $$ Hctx
  ihave #HL := (ctx_lev m κ ι) $$ Hctx
  ihave #HM := (mayWait_l (c := c) (s := .dma sem) hl) $$ HL
  iapply (Rounds.wp_wait_rest_token 𝒱₀ ER (Rd m) (c : Thread nD τ) none (κ := κ (c, i)) (wpE_waitDma2_eq 𝒱₀ (c : Thread nD τ) none Set.univ) (Set.mem_univ _) ix
    (O := tallyL (l.map (pay c))) (W := W) (R := R) (m := 0) (T := ∅) (by
      unfold Schedule.expect Schedule.amountOf
      rw [h1, Finset.sum_singleton, Nat.zero_add]; exact ha.symm)) $$ [Hc HO Hat]
  · isplitr; · iexact Hi
    isplitl [Hc]; · iexact Hc
    isplitl [HO]; · iexact HO
    isplitr; · iexact HM
    iexact Hat
  iintro ⟨HO, Hat, Hr, Hp⟩
  ihave Hp := h2 $$ Hp
  iapply Hk $$ [HO Ht] Hat Hr Hp
  isplitl [HO]; · iexists _; iexact HO
  iexact Ht

/-! ## The lists of own tokens and credits -/

theorem CR_pop (c : Dev nD) (n : ℕ) (w : Wt) (h : crT.drop n = w :: crT.drop (n + 1)) : CR (F := F) c n ⊢ iprop(crE c w ∗ CR c (n + 1)) := by
  unfold CR
  rw [h, bigSepL_cons]
  exact Entails.refl _
theorem TK_pop (c : Dev nD) (n : ℕ) (w : Ev) (h : tkT.drop n = w :: tkT.drop (n + 1)) : TK (F := F) c n ⊢ iprop(tkE c w ∗ TK c (n + 1)) := by
  unfold TK
  rw [h, bigSepL_cons]
  exact Entails.refl _

/-- A wait whose credit is next in the list. -/
theorem st_recv (c : Dev nD) (i : Fin 51) {sem : DmaSem sig} {sp sp' : Space} {S S' : Shape} {e e' : EltTy} {src : Memref sig .tc sp' S' e'}
    {dst : Memref sig .tc sp S e} {hsrc : src.view.WordExact} {hdst : dst.view.WordExact}
    (n ix N R : ℕ) {l : List Ev} {α : Type} {Q : α → sProp 𝕄} {k : PUnit → Prog (TpuEff nD τ sig (Elt F) Λ₀ .tc) α}
    (hn : crT.drop n = ⟨semOf i, ix, N⟩ :: crT.drop (n + 1))
    (hs : semOf i = .dma sem) (hN : dst.view.dmaCredit = N) (hd : dut c (kd (semOf i)) R = {0}) (ha : amt c (kd (semOf i)) = N)
    (hl : lvOk ix l = true) (P : sProp 𝕄) (hP : payl m c (kd (semOf i)) R 0 ⊢ P) :
    ctx m κ ι ⊢ iprop(CR c n -∗ Ob c l -∗ AT c i R -∗ (CR c (n + 1) -∗ Ob c l -∗ AT c i (R + 1) -∗ RE c i (R + 1) -∗ P -∗ WP c (k ⟨⟩) Q)
      -∗ WP c (.op (.waitDma2 sem src dst hsrc hdst) k) Q) := by
  iintro #Hctx HC HO Hat Hk
  ihave HC := (CR_pop c n _ hn) $$ HC
  icases HC with ⟨Hc, HC⟩
  unfold crE
  iapply (st_waitD m κ ι c i ix N R hs hN hd ha hl P hP) $$ Hctx Hc HO Hat
  iapply Hk $$ HC

/-! ## Copies to another device -/

theorem st_send (c : Dev nD) (iS iR : Fin 51) {n : Dev nD} {sS sR : DmaSem sig} {sp sp' : Space} {S : Shape} {e : EltTy} {src : Memref sig .tc sp S e}
    {dst : Memref sig .tc sp' S e} {hsc : (dst : Memref sig (Dev.tc n : Thread nD τ).2.kind sp' S e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α} (q : PosShare TreeShare)
    (fs : Buf (Elt F) (src.view.loc (c : Thread nD τ))) (off rS r d ix N : ℕ)
    (fd : Buf (Elt F) (dst.view.loc ((sh c off : Dev nD) : Thread nD τ))) {l : List Ev} (l' : List Ev)
    (hn : n = sh c off) (hS : semOf iS = .dma sS) (hR : semOf iR = .dma sR)
    (he : l = ⟨semOf iR, off, r, d, ix, N⟩ :: l') (hN : dst.view.dmaCredit = N)
    (hd₁ : 0 ∈ dut c (kd (semOf iS)) rS) (hd₂ : d ∈ dut (sh c off) (kd (semOf iR)) r)
    (hk₁ : amt c (kd (semOf iS)) = N) (hk₂ : amt (sh c off) (kd (semOf iR)) = N)
    (hpay₁ : (src.view.loc (c : Thread nD τ) ↦[src.view.set]{q} fs) ⊢ payl m c (kd (semOf iS)) rS 0)
    (hpay₂ : pt dst (sh c off) (dst.view.write (Elt F) fd (src.view.read (Elt F) fs) Finset.univ) ⊢ payl m (sh c off) (kd (semOf iR)) r d) :
    ctx m κ ι ⊢ iprop(Ob c l -∗ dutyTok ER (cl c (semOf iS)) rS 0 -∗ RE c iS rS -∗ RE (sh c off) iR r
      -∗ (src.view.loc (c : Thread nD τ) ↦[src.view.set]{q} fs) -∗ pt dst (sh c off) fd
      -∗ (Ob c l' -∗ CD c iS 0 N -∗ WP c (k ⟨⟩) Q)
      -∗ WP c (.op (.enqueueDma src (.remote (Dev.tc n : Thread nD τ) dst (.dma sS) hsc) (.dma sR) hsrc hdst hsem) k) Q) := by
  unfold RE CD
  have hcS := ctx_cell m κ ι c iS
  have hcR := ctx_cell m κ ι (sh c off) iR
  subst hn he
  generalize semOf iS = s₁ at *
  generalize semOf iR = s₂ at *
  subst hS hR
  iintro #Hctx HO HtS #HrS #HrR Hsrc Hdst Hk
  ihave HO := (Ob_cons c _ l') $$ HO
  icases HO with ⟨⟨%W, HO⟩, Ht, Hts⟩
  ihave #HiS := hcS $$ Hctx
  ihave #HiR := hcR $$ Hctx
  unfold Ob tok
  iapply (Rounds.wp_send_pointsTo 𝒱₀ ER (Rd m) (c : Thread nD τ) none (c' := ((sh c off : Dev nD) : Thread nD τ)) (src := src) (dst := dst) (q := q) (fs := fs) (fd := fd)
    (sS := .dma sS) (sem := .dma sR) (κ₁ := κ (c, iS)) (κ₂ := κ (sh c off, iR)) (r₁ := rS) (r₂ := r) (d₁ := 0) (d₂ := d) hd₁ hd₂ ix 0 N hN hk₁ hk₂ (tallyL (l'.map (pay c)))
    (tallyL_push c ⟨.dma sR, off, r, d, ix, N⟩ l') (W := W) hpay₁ hpay₂) $$ [HO Ht HtS Hsrc Hdst]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [Ht]; · iexact Ht
    iexact HrR
  iintro ⟨Hcd, HO⟩
  iapply Hk $$ [HO Hts] Hcd
  isplitl [HO]; · iexists W; iexact HO
  iexact Hts

/-- A copy whose landing hands over `A` besides. -/
theorem st_sendW (c : Dev nD) (iS iR : Fin 51) {n : Dev nD} {sS sR : DmaSem sig} {sp sp' : Space} {S : Shape} {e : EltTy} {src : Memref sig .tc sp S e}
    {dst : Memref sig .tc sp' S e} {hsc : (dst : Memref sig (Dev.tc n : Thread nD τ).2.kind sp' S e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α} (q : PosShare TreeShare)
    (fs : Buf (Elt F) (src.view.loc (c : Thread nD τ))) (off rS r d ix N : ℕ)
    (fd : Buf (Elt F) (dst.view.loc ((sh c off : Dev nD) : Thread nD τ))) {l : List Ev} (l' : List Ev)
    (hn : n = sh c off) (hS : semOf iS = .dma sS) (hR : semOf iR = .dma sR)
    (he : l = ⟨semOf iR, off, r, d, ix, N⟩ :: l') (hN : dst.view.dmaCredit = N)
    (hd₁ : 0 ∈ dut c (kd (semOf iS)) rS) (hd₂ : d ∈ dut (sh c off) (kd (semOf iR)) r)
    (hk₁ : amt c (kd (semOf iS)) = N) (hk₂ : amt (sh c off) (kd (semOf iR)) = N)
    (A : sProp 𝕄)
    (hpay₁ : (src.view.loc (c : Thread nD τ) ↦[src.view.set]{q} fs) ⊢ payl m c (kd (semOf iS)) rS 0)
    (hpay₂ : iprop(pt dst (sh c off) (dst.view.write (Elt F) fd (src.view.read (Elt F) fs) Finset.univ) ∗ A) ⊢ payl m (sh c off) (kd (semOf iR)) r d) :
    ctx m κ ι ⊢ iprop(Ob c l -∗ dutyTok ER (cl c (semOf iS)) rS 0 -∗ RE c iS rS -∗ RE (sh c off) iR r -∗ A
      -∗ (src.view.loc (c : Thread nD τ) ↦[src.view.set]{q} fs) -∗ pt dst (sh c off) fd
      -∗ (Ob c l' -∗ CD c iS 0 N -∗ WP c (k ⟨⟩) Q)
      -∗ WP c (.op (.enqueueDma src (.remote (Dev.tc n : Thread nD τ) dst (.dma sS) hsc) (.dma sR) hsrc hdst hsem) k) Q) := by
  unfold RE CD
  have hcS := ctx_cell m κ ι c iS
  have hcR := ctx_cell m κ ι (sh c off) iR
  subst hn he
  generalize semOf iS = s₁ at *
  generalize semOf iR = s₂ at *
  subst hS hR
  iintro #Hctx HO HtS #HrS #HrR HA Hsrc Hdst Hk
  ihave HO := (Ob_cons c _ l') $$ HO
  icases HO with ⟨⟨%W, HO⟩, Ht, Hts⟩
  ihave #HiS := hcS $$ Hctx
  ihave #HiR := hcR $$ Hctx
  unfold Ob tok
  iapply (Rounds.wp_send_pointsTo_with 𝒱₀ ER (Rd m) (c : Thread nD τ) none (c' := ((sh c off : Dev nD) : Thread nD τ)) (src := src) (dst := dst) (q := q) (fs := fs) (fd := fd)
    (sS := .dma sS) (sem := .dma sR) (κ₁ := κ (c, iS)) (κ₂ := κ (sh c off, iR)) (r₁ := rS) (r₂ := r) (d₁ := 0) (d₂ := d) hd₁ hd₂ ix 0 N hN hk₁ hk₂ (tallyL (l'.map (pay c)))
    (tallyL_push c ⟨.dma sR, off, r, d, ix, N⟩ l') (W := W) hpay₁ hpay₂) $$ [HO Ht HtS Hsrc HA Hdst]
  · isplitr; · iexact HiS
    isplitr; · iexact HiR
    isplitl [Hsrc]; · iexact Hsrc
    isplitl [Hdst HA]
    · isplitl [Hdst]; · iexact Hdst
      iexact HA
    isplitl [HO]; · iexact HO
    isplitl [HtS]; · iexact HtS
    isplitr; · iexact HrS
    isplitl [Ht]; · iexact Ht
    iexact HrR
  iintro ⟨Hcd, HO⟩
  iapply Hk $$ [HO Hts] Hcd
  isplitl [HO]; · iexists W; iexact HO
  iexact Hts

/-! ## Loads and stores -/

/-- A load of a region held at contents `f`, whose value is known. -/
theorem st_load (c : Dev nD) {sp : CoreSpace} {S : Shape} {e : EltTy} {M : Memref sig .tc sp S e} {r : Rect S} {hl : M.view.LoadsAt r.toLoadRect}
    {α : Type} {Q : α → sProp 𝕄} {k : (r.shape.Idx → Elt F e) → Prog (TpuEff nD τ sig (Elt F) Λ₀ .tc) α}
    (I : Finset (Idx ((M.access r).loc (c : Thread nD τ)))) (q : PosShare TreeShare) (f : Buf (Elt F) ((M.access r).loc (c : Thread nD τ))) (v : r.shape.Idx → Elt F e)
    (hS : (M.access r).set ⊆ I) (hv : (M.access r).read (Elt F) f = v) :
    ((M.access r).loc (c : Thread nD τ) ↦[I]{q} f) ⊢ iprop((((M.access r).loc (c : Thread nD τ) ↦[I]{q} f) -∗ WP c (k v) Q) -∗ WP c (.op (.load M r.toLoadRect hl) k) Q) := by
  subst hv
  exact Idealize.ShloMosaic.wp_load_rect 𝒱₀ (c : Thread nD τ) none Set.univ hS

/-- A load of a region held at unknown contents. -/
theorem st_loadA (c : Dev nD) {sp : CoreSpace} {S : Shape} {e : EltTy} {M : Memref sig .tc sp S e} {r : Rect S} {hl : M.view.LoadsAt r.toLoadRect}
    {α : Type} {Q : α → sProp 𝕄} {k : (r.shape.Idx → Elt F e) → Prog (TpuEff nD τ sig (Elt F) Λ₀ .tc) α}
    (I : Finset (Idx ((M.access r).loc (c : Thread nD τ)))) (hS : (M.access r).set ⊆ I) :
    slot ((M.access r).loc (c : Thread nD τ)) I ⊢ iprop((∀ v, slot ((M.access r).loc (c : Thread nD τ)) I -∗ WP c (k v) Q) -∗ WP c (.op (.load M r.toLoadRect hl) k) Q) := by
  unfold slot
  iintro ⟨%f, H⟩ Hk
  iapply (st_load c I fullShare f _ hS rfl) $$ H
  iintro H
  iapply Hk
  iexists f; iexact H

/-- A store over a whole region held at unknown contents. -/
theorem st_storeA (c : Dev nD) {sp : CoreSpace} {S : Shape} {e : EltTy} {M : Memref sig .tc sp S e} {r : Rect S} {w : r.shape.Idx → Elt F e}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    (I : Finset (Idx ((M.access r).loc (c : Thread nD τ)))) (f₀ : Buf (Elt F) ((M.access r).loc (c : Thread nD τ))) (hS : (M.access r).set = I) :
    slot ((M.access r).loc (c : Thread nD τ)) I
      ⊢ iprop((((M.access r).loc (c : Thread nD τ) ↦[I]{fullShare} ((M.access r).write (Elt F) f₀ w Finset.univ)) -∗ WP c (k ⟨⟩) Q)
        -∗ WP c (.op (.store M r w Finset.univ hx hm) k) Q) := by
  subst hS
  unfold slot
  iintro ⟨%f, H⟩ Hk
  iapply (Idealize.ShloMosaic.wp_store 𝒱₀ (c : Thread nD τ) none Set.univ (S := (M.access r).set) (by rw [View.setOn_univ])) $$ H
  iintro H
  iapply Hk
  have h : ((M.access r).loc (c : Thread nD τ) ↦[(M.access r).set]{fullShare} ((M.access r).write (Elt F) f w Finset.univ) : sProp 𝕄)
      ⊢ ((M.access r).loc (c : Thread nD τ) ↦[(M.access r).set]{fullShare} ((M.access r).write (Elt F) f₀ w Finset.univ)) :=
    Entails.of_eq (pointsTo_congr fun i hi => View.write_congr (fun _ _ _ => rfl) fun h => absurd hi (by rw [← View.setOn_univ]; exact h))
  iapply h $$ H

end Cert.KernelIdeal.Pf
end
-- ==== Proof.Know.lean ====
module

public import proofs.«01_k».proof.Proof.Steps

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

/-! ## What the neighbours know of each other -/

theorem CP_use (y : Dev nD) (j : ℕ) : CP (F := F) y j ⊢ CPv y (aa 0 (min j 5) + 1) (aa 1 (min j 5) + 1) (aa 0 (min (j - 5) 5) + 1) (aa 1 (min (j - 5) 5) + 1)
    (aa 0 (min j 5)) (aa 1 (min j 5)) (rr 0 j) (rr 1 j) (if j ≤ 5 then 0 else 1) := by
  unfold CP; exact Entails.refl _

theorem CPv_mono (y : Dev nD) {n0 n1 n2 n3 q0 q1 g0 g1 b n0' n1' n2' n3' q0' q1' g0' g1' b' : ℕ} (h0 : n0' ≤ n0) (h1 : n1' ≤ n1) (h2 : n2' ≤ n2) (h3 : n3' ≤ n3)
    (h4 : q0' ≤ q0) (h5 : q1' ≤ q1) (h6 : g0' ≤ g0) (h7 : g1' ≤ g1) (h8 : b' ≤ b) :
    CPv (F := F) y n0 n1 n2 n3 q0 q1 g0 g1 b ⊢ CPv y n0' n1' n2' n3' q0' q1' g0' g1' b' := by
  unfold CPv
  iintro ⟨#H0, #H1, #H2, #H3, #H4, #H5, #H6, #H7, #H8⟩
  isplitr; · iapply (released_mono ES h0) $$ H0
  isplitr; · iapply (released_mono ES h1) $$ H1
  isplitr; · iapply (released_mono ES h2) $$ H2
  isplitr; · iapply (released_mono ES h3) $$ H3
  isplitr; · iapply (reached_mono ER h4) $$ H4
  isplitr; · iapply (reached_mono ER h5) $$ H5
  isplitr; · iapply (reached_mono ER h6) $$ H6
  isplitr; · iapply (reached_mono ER h7) $$ H7
  iapply (reached_mono ER h8) $$ H8

theorem CP_mono (y : Dev nD) {j k : ℕ} (hk : k ≤ j) (hj : j ≤ 15) : CP (F := F) y j ⊢ CP y k := by
  unfold CP
  have key : ∀ j : Fin 16, ∀ k : Fin 16, k.val ≤ j.val →
      (aa 0 (min k.val 5) + 1 ≤ aa 0 (min j.val 5) + 1 ∧ aa 1 (min k.val 5) + 1 ≤ aa 1 (min j.val 5) + 1
        ∧ aa 0 (min (k.val - 5) 5) + 1 ≤ aa 0 (min (j.val - 5) 5) + 1 ∧ aa 1 (min (k.val - 5) 5) + 1 ≤ aa 1 (min (j.val - 5) 5) + 1
        ∧ rr 0 k.val ≤ rr 0 j.val ∧ rr 1 k.val ≤ rr 1 j.val ∧ (if k.val ≤ 5 then 0 else 1) ≤ (if j.val ≤ 5 then 0 else 1)) := by decide
  obtain ⟨a, b, c, d, e, f, g⟩ := key ⟨j, by omega⟩ ⟨k, by omega⟩ hk
  exact CPv_mono y a b c d (Nat.le_of_succ_le_succ a) (Nat.le_of_succ_le_succ b) e f g

theorem CPv_n0 (y : Dev nD) {n0 n1 n2 n3 q0 q1 g0 g1 b n q : ℕ} :
    iprop(CPv (F := F) y n0 n1 n2 n3 q0 q1 g0 g1 b ∗ released ES (y, (0 : Fin 4)) n ∗ RE y 42 q) ⊢ CPv y n n1 n2 n3 q q1 g0 g1 b := by
  unfold CPv
  iintro ⟨⟨#H0, #H1, #H2, #H3, #H4, #H5, #H6, #H7, #H8⟩, #Hn, #Hq⟩
  isplitr; · iexact Hn
  isplitr; · iexact H1
  isplitr; · iexact H2
  isplitr; · iexact H3
  isplitr; · iexact Hq
  isplitr; · iexact H5
  isplitr; · iexact H6
  isplitr; · iexact H7
  iexact H8
theorem CPv_r0 (y : Dev nD) {n0 n1 n2 n3 q0 q1 g0 g1 b n q b' : ℕ} :
    iprop(CPv (F := F) y n0 n1 n2 n3 q0 q1 g0 g1 b ∗ released ES (y, (2 : Fin 4)) n ∗ RE y 46 q ∗ RE y 49 b') ⊢ CPv y n0 n1 n n3 q0 q1 q g1 b' := by
  unfold CPv
  iintro ⟨⟨#H0, #H1, #H2, #H3, #H4, #H5, #H6, #H7, #H8⟩, #Hn, #Hq, #Hb⟩
  isplitr; · iexact H0
  isplitr; · iexact H1
  isplitr; · iexact Hn
  isplitr; · iexact H3
  isplitr; · iexact H4
  isplitr; · iexact H5
  isplitr; · iexact Hq
  isplitr; · iexact H7
  iexact Hb
theorem CPv_g0 (y : Dev nD) {n0 n1 n2 n3 q0 q1 g0 g1 b q : ℕ} :
    iprop(CPv (F := F) y n0 n1 n2 n3 q0 q1 g0 g1 b ∗ RE y 46 q) ⊢ CPv y n0 n1 n2 n3 q0 q1 q g1 b := by
  unfold CPv
  iintro ⟨⟨#H0, #H1, #H2, #H3, #H4, #H5, #H6, #H7, #H8⟩, #Hq⟩
  isplitr; · iexact H0
  isplitr; · iexact H1
  isplitr; · iexact H2
  isplitr; · iexact H3
  isplitr; · iexact H4
  isplitr; · iexact H5
  isplitr; · iexact Hq
  isplitr; · iexact H7
  iexact H8
theorem CPv_n1 (y : Dev nD) {n0 n1 n2 n3 q0 q1 g0 g1 b n q : ℕ} :
    iprop(CPv (F := F) y n0 n1 n2 n3 q0 q1 g0 g1 b ∗ released ES (y, (1 : Fin 4)) n ∗ RE y 43 q) ⊢ CPv y n0 n n2 n3 q0 q g0 g1 b := by
  unfold CPv
  iintro ⟨⟨#H0, #H1, #H2, #H3, #H4, #H5, #H6, #H7, #H8⟩, #Hn, #Hq⟩
  isplitr; · iexact H0
  isplitr; · iexact Hn
  isplitr; · iexact H2
  isplitr; · iexact H3
  isplitr; · iexact H4
  isplitr; · iexact Hq
  isplitr; · iexact H6
  isplitr; · iexact H7
  iexact H8
theorem CPv_r1 (y : Dev nD) {n0 n1 n2 n3 q0 q1 g0 g1 b n q b' : ℕ} :
    iprop(CPv (F := F) y n0 n1 n2 n3 q0 q1 g0 g1 b ∗ released ES (y, (3 : Fin 4)) n ∗ RE y 47 q ∗ RE y 49 b') ⊢ CPv y n0 n1 n2 n q0 q1 g0 q b' := by
  unfold CPv
  iintro ⟨⟨#H0, #H1, #H2, #H3, #H4, #H5, #H6, #H7, #H8⟩, #Hn, #Hq, #Hb⟩
  isplitr; · iexact H0
  isplitr; · iexact H1
  isplitr; · iexact H2
  isplitr; · iexact Hn
  isplitr; · iexact H4
  isplitr; · iexact H5
  isplitr; · iexact H6
  isplitr; · iexact Hq
  iexact Hb
theorem CPv_g1 (y : Dev nD) {n0 n1 n2 n3 q0 q1 g0 g1 b q : ℕ} :
    iprop(CPv (F := F) y n0 n1 n2 n3 q0 q1 g0 g1 b ∗ RE y 47 q) ⊢ CPv y n0 n1 n2 n3 q0 q1 g0 q b := by
  unfold CPv
  iintro ⟨⟨#H0, #H1, #H2, #H3, #H4, #H5, #H6, #H7, #H8⟩, #Hq⟩
  isplitr; · iexact H0
  isplitr; · iexact H1
  isplitr; · iexact H2
  isplitr; · iexact H3
  isplitr; · iexact H4
  isplitr; · iexact H5
  isplitr; · iexact H6
  isplitr; · iexact Hq
  iexact H8

end Cert.KernelIdeal.Pf
end
-- ==== Proof.RingSteps.lean ====
module

public import proofs.«01_k».proof.Proof.Know

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

/-- The tokens of the writes into the right neighbour's slots, in program order. -/
def wkT : List (Fin 4 × ℕ) := [(0, 1), (1, 1), (0, 2), (1, 2), (0, 3), (1, 3), (0, 4), (2, 1), (3, 1), (2, 2), (3, 2), (2, 3), (3, 3), (2, 4)]
def wkE (c : Dev nD) (x : Fin 4 × ℕ) : sProp 𝕄 := writeTok ES (sh c 1, x.1) x.2
def WK (c : Dev nD) (n : ℕ) : sProp 𝕄 := bigSepL (wkT.drop n) (wkE c)
theorem WK_pop (c : Dev nD) (n : ℕ) (w : Fin 4 × ℕ) (h : wkT.drop n = w :: wkT.drop (n + 1)) : WK (F := F) c n ⊢ iprop(wkE c w ∗ WK c (n + 1)) := by
  unfold WK
  rw [h, bigSepL_cons]
  exact Entails.refl _

variable (m : (ℓ : Loc nD τ sig) → Buf (Elt F) ℓ) (κ : Dev nD × Fin 51 → ℕ) (ι : Dev nD × Fin 4 → ℕ)

theorem landed_pt {S : Shape} {e : EltTy} {sp : Space} (v : Memref sig .tc sp S e) (c : Dev nD) (f g : Buf (Elt F) (v.view.loc (c : Thread nD τ))) (w : S.Idx → Elt F e) :
    pt v c (v.view.write (Elt F) f w Finset.univ) = pt v c (v.view.write (Elt F) g w Finset.univ) :=
  pointsTo_congr fun i hi => View.write_congr (fun _ _ _ => rfl) fun h => absurd (show i ∈ v.view.setOn Finset.univ by rw [View.setOn_univ]; exact hi) h

theorem pt_pa {S : Shape} {e : EltTy} {sp : Space} (v : Memref sig .tc sp S e) (c : Dev nD) (f : Buf (Elt F) (v.view.loc (c : Thread nD τ))) : pt v c f ⊢ pa v c := by
  unfold pa slot
  iintro H
  iexists f
  iexact H

/-! ## The flow-control semaphore -/

/-- A device's signal number `j` to its left neighbour. -/
theorem st_sigC (c : Dev nD) {dst : Dev nD} {sem : Sem sig} (n j ix : ℕ) {α : Type} {Q : α → sProp 𝕄}
    {k : PUnit → Prog (TpuEff nD τ sig (Elt F) Λ₀ .tc) α} (hdst : dst = sh c 7) (hs : semOf 48 = .reg sem)
    (he : evT.drop n = evC j ix :: evT.drop (n + 1)) (h1 : 1 ≤ j) (h2 : j ≤ 15) :
    ctx m κ ι ⊢ iprop(OB c n -∗ CP c j -∗ (OB c (n + 1) -∗ WP c (k ⟨⟩) Q) -∗ WP c (.op (.semSignal (dst : Thread nD τ) sem 1) k) Q) := by
  iintro #Hctx HO #HC Hk
  ihave #Hr := (ctx_reach m κ ι (sh c 7) 48) $$ Hctx
  iapply (st_sig m κ ι c 48 (evT.drop (n + 1)) 7 0 j ix hdst hs he (show j ∈ Finset.Icc 1 15 from Finset.mem_Icc.2 ⟨h1, h2⟩) rfl (CP c j)
    (show CP c j ⊢ CP (sh (sh c 7) 1) j by rw [sh_sh rfl])) $$ Hctx HO Hr HC Hk

/-- What is known after `k` waits on it. -/
def CS (c : Dev nD) (k : ℕ) : sProp 𝕄 :=
  iprop(∃ T : Finset ℕ, ⌜T ⊆ Finset.Icc 1 15 ∧ k ≤ T.card⌝ ∗ atPos ER (cl c (semOf 48)) 0 T k ∗ bigSep T fun j => CP (sh c 1) j)

theorem CS_zero (c : Dev nD) : AT (F := F) c 48 0 ⊢ CS c 0 := by
  unfold CS
  iintro H
  iexists ∅
  isplitr; · ipureintro; exact ⟨Finset.empty_subset _, Nat.zero_le _⟩
  isplitl [H]; · iexact H
  rw [bigSep_empty]
  iempintro

theorem pick {T : Finset ℕ} {k : ℕ} (hT : T ⊆ Finset.Icc 1 15) (hk : k ≤ T.card) (h0 : 0 < k) : ∃ j ∈ T, k ≤ j ∧ j ≤ 15 := by
  by_contra h
  push Not at h
  have h1 : T ⊆ Finset.Icc 1 (k - 1) := fun j hj => by
    have h2 := Finset.mem_Icc.1 (hT hj)
    by_cases hkj : k ≤ j
    · exact absurd h2.2 (not_le.2 (h j hj hkj))
    · exact Finset.mem_Icc.2 ⟨h2.1, by omega⟩
  have h2 := Finset.card_le_card h1
  rw [Nat.card_Icc] at h2
  omega

theorem CS_know (y : Dev nD) {T : Finset ℕ} {k : ℕ} (hT : T ⊆ Finset.Icc 1 15) (hk : k ≤ T.card) (h0 : 0 < k) :
    (bigSep T fun j => CP (F := F) y j) ⊢ CP y k := by
  obtain ⟨j, hj, hkj, hj15⟩ := pick hT hk h0
  exact (show (bigSep T fun j => CP (F := F) y j) ⊢ CP y j from bigSep_elim hj).trans (CP_mono y hkj hj15)

instance bigCP_pers (y : Dev nD) (T : Finset ℕ) : BI.Persistent (bigSep T fun j => CP (F := F) y j) := inferInstance

theorem kd48 : kd (semOf 48) = .credit := rfl
theorem credit_dut (c : Dev nD) : (Rd m).duties (cl c (semOf 48)) 0 = Finset.Icc 1 15 := by
  show dut c (kd (semOf 48)) 0 = _
  rw [kd48]; rfl
theorem credit_exp (c : Dev nD) : (Rd m).expect (cl c (semOf 48)) 0 = 15 := by
  show (dut c (kd (semOf 48)) 0).sum (fun _ => amt c (kd (semOf 48))) = 15
  rw [kd48]; rfl
theorem credit_pay (c : Dev nD) (d : ℕ) : (Rd m).payload (cl c (semOf 48)) 0 d = CP (sh c 1) d := by
  show payl m c (kd (semOf 48)) 0 d = _
  rw [kd48]; rfl

theorem st_credit (c : Dev nD) {sem : Sem sig} (n k ix : ℕ) {l : List Ev} {α : Type} {Q : α → sProp 𝕄}
    {kk : PUnit → Prog (TpuEff nD τ sig (Elt F) Λ₀ .tc) α} (hs : semOf 48 = .reg sem)
    (hn : crT.drop n = ⟨semOf 48, ix, 1⟩ :: crT.drop (n + 1)) (hk : k < 15) (hl : lvOk ix l = true) :
    ctx m κ ι ⊢ iprop(CR c n -∗ Ob c l -∗ CS c k -∗ (CR c (n + 1) -∗ Ob c l -∗ CS c (k + 1) -∗ CP (sh c 1) (k + 1) -∗ WP c (kk ⟨⟩) Q)
      -∗ WP c (.op (.semWait sem 1) kk) Q) := by
  have hcell := ctx_cell m κ ι c 48
  have hdut := credit_dut m c
  have hpay := credit_pay m c
  have hexp := credit_exp m c
  have hpop := CR_pop (F := F) c n _ hn
  unfold CS Ob
  unfold crE at hpop
  dsimp only at hpop
  generalize semOf 48 = s at *
  subst hs
  iintro #Hctx HC ⟨⟨%W, HO⟩, Ht⟩ ⟨%T, %hT, Hat, #HT⟩ Hk
  ihave HC := hpop $$ HC
  icases HC with ⟨Hc, HC⟩
  ihave #Hi := hcell $$ Hctx
  ihave #HL := (ctx_lev m κ ι) $$ Hctx
  ihave #HM := (mayWait_l (c := c) (s := .reg sem) hl) $$ HL
  iapply (Rounds.wp_wait 𝒱₀ ER (Rd m) (c : Thread nD τ) none (κ := κ (c, 48)) (wpE_semWait_eq 𝒱₀ (c : Thread nD τ) none Set.univ) (Set.mem_univ _)
    (cr := Finsupp.single ix 1) (O := tallyL (l.map (pay c))) (W := W) {((.reg sem : SemLoc sig), ix)} (R := 0) (m := k) (T := T) (by rw [Util.total_single])
    (image_single_subset (.reg sem : SemLoc sig) ix 1)) $$ [Hc HO Hat]
  · isplitr; · iexact Hi
    isplitl [Hc]; · iexact Hc
    isplitl [HO]; · iexact HO
    isplitr; · iexact HM
    iexact Hat
  iintro %S ⟨%hS, HO, Hat, Hp⟩
  have hS2 : S ⊆ Finset.Icc 1 15 := by rw [← hdut]; exact hS.2.1
  have hS3 : k + 1 ≤ S.card := by
    have h1 := hS.2.2
    have h2 : (Finset.Icc 1 15 \ S).card + S.card = (Finset.Icc 1 15).card := Finset.card_sdiff_add_card_eq_card hS2
    have h3 : (Finset.Icc 1 15).card = 15 := rfl
    have h4 : k + 1 + (Finset.Icc 1 15 \ S).card ≤ 15 := by
      rw [show (Rd m).duties ((c : Thread nD τ), .reg sem) 0 = _ from hdut, show (Rd m).expect ((c : Thread nD τ), .reg sem) 0 = _ from hexp] at h1
      exact h1
    omega
  have hjoin : iprop((bigSep T fun j => CP (F := F) (sh c 1) j) ∗ bigSep (S \ T) fun d => (Rd m).payload ((c : Thread nD τ), .reg sem) 0 d)
      ⊢ bigSep S fun j => CP (F := F) (sh c 1) j := by
    have h1 : (bigSep (S \ T) fun d => (Rd m).payload ((c : Thread nD τ), .reg sem) 0 d) = bigSep (S \ T) fun d => CP (F := F) (sh c 1) d :=
      bigSep_congr fun d _ => hpay d
    rw [h1]
    have h2 := bigSep_union (Φ := fun j => CP (F := F) (sh c 1) j) (Finset.disjoint_sdiff (s := T) (t := S))
    rw [Finset.union_sdiff_of_subset hS.1] at h2
    exact Entails.of_eq h2.symm
  ihave Hj := hjoin $$ [Hp]
  · isplitr; · iexact HT
    iexact Hp
  icases Hj with #Hj
  ihave #Hkn := (CS_know (sh c 1) hS2 hS3 (Nat.succ_pos _)) $$ Hj
  iapply Hk $$ HC [HO Ht] [Hat] Hkn
  · isplitl [HO]; · iexists _; iexact HO
    iexact Ht
  · iexists S
    isplitr; · ipureintro; exact ⟨hS2, hS3⟩
    isplitl [Hat]; · iexact Hat
    iexact Hj

/-! ## Loads and stores of the first ring -/

theorem ndSt_set (s : ℕ) (h : s < 2) : (ndSt s h).view.set = (nsM.access (Rect.unit (s := S2x8x33x128) ![s, 0, 0, 0] S1x8x33x128.size (inbNd s h))).set := View.set_reshape _ _
theorem ndCm_set (s : ℕ) (h : s < 2) : (ndCm s h).view.set = (ncM.access (Rect.unit (s := S2x8x33x128) ![s, 0, 0, 0] S1x8x33x128.size (inbNd s h))).set := View.set_reshape _ _

theorem nd_store (c : Dev nD) (s : ℕ) (h : s < 2) {w : Vec F S1x8x33x128 .f32}
    {hx : (nsM.access (Rect.unit (s := S2x8x33x128) ![s, 0, 0, 0] S1x8x33x128.size (inbNd s h))).Stores Finset.univ} {hm : (Finset.univ : Finset (Rect.unit (s := S2x8x33x128) ![s, 0, 0, 0] S1x8x33x128.size (inbNd s h)).shape.Idx) = Finset.univ ∨ ∀ a, (Rect.unit (s := S2x8x33x128) ![s, 0, 0, 0] S1x8x33x128.size (inbNd s h)).stride a = 1}
    {α : Type} {Q : α → sProp 𝕄} {k : PUnit → Prog (TpuEff nD τ sig (Elt F) Λ₀ .tc) α} :
    pa (ndSt s h) c ⊢ iprop((pt (ndSt s h) c (ndW s h w) -∗ WP c (k ⟨⟩) Q) -∗ WP c (.op (.store nsM (Rect.unit (s := S2x8x33x128) ![s, 0, 0, 0] S1x8x33x128.size (inbNd s h)) w Finset.univ hx hm) k) Q) :=
  st_storeA c (M := nsM) (r := (Rect.unit (s := S2x8x33x128) ![s, 0, 0, 0] S1x8x33x128.size (inbNd s h))) (w := w) ((ndSt s h).view.set) jk (ndSt_set s h).symm

theorem nd_any (c : Dev nD) (s : ℕ) (h : s < 2)
    {hl : nsM.view.LoadsAt (Rect.unit (s := S2x8x33x128) ![s, 0, 0, 0] S1x8x33x128.size (inbNd s h)).toLoadRect}
    {α : Type} {Q : α → sProp 𝕄} {k : ((Rect.unit (s := S2x8x33x128) ![s, 0, 0, 0] S1x8x33x128.size (inbNd s h)).shape.Idx → Elt F .f32) → Prog (TpuEff nD τ sig (Elt F) Λ₀ .tc) α} :
    pa (ndSt s h) c ⊢ iprop((∀ v, pa (ndSt s h) c -∗ WP c (k v) Q) -∗ WP c (.op (.load nsM (Rect.unit (s := S2x8x33x128) ![s, 0, 0, 0] S1x8x33x128.size (inbNd s h)).toLoadRect hl) k) Q) :=
  st_loadA c (M := nsM) (r := (Rect.unit (s := S2x8x33x128) ![s, 0, 0, 0] S1x8x33x128.size (inbNd s h))) ((ndSt s h).view.set) (by rw [ndSt_set])

theorem nd_cm (c : Dev nD) (s : ℕ) (h : s < 2) (p : Vec F S1x8x33x128 .f32)
    {hl : ncM.view.LoadsAt (Rect.unit (s := S2x8x33x128) ![s, 0, 0, 0] S1x8x33x128.size (inbNd s h)).toLoadRect}
    {α : Type} {Q : α → sProp 𝕄} {k : ((Rect.unit (s := S2x8x33x128) ![s, 0, 0, 0] S1x8x33x128.size (inbNd s h)).shape.Idx → Elt F .f32) → Prog (TpuEff nD τ sig (Elt F) Λ₀ .tc) α} :
    pt (ndCm s h) c (ndL s h p) ⊢ iprop((pt (ndCm s h) c (ndL s h p) -∗ WP c (k (ndR s h p)) Q) -∗ WP c (.op (.load ncM (Rect.unit (s := S2x8x33x128) ![s, 0, 0, 0] S1x8x33x128.size (inbNd s h)).toLoadRect hl) k) Q) :=
  st_load c (M := ncM) (r := (Rect.unit (s := S2x8x33x128) ![s, 0, 0, 0] S1x8x33x128.size (inbNd s h))) (ndCm s h).view.set fullShare (ndL s h p) (ndR s h p) (by rw [ndCm_set]) rfl

/-! ## Loads and stores of the second ring -/

theorem rsSt_set (s : ℕ) (h : s < 2) : (rsSt s h).view.set = (rsM.access (Rect.unit (s := S2x128x1024) ![s, 0, 0] S1x128x1024.size (inbRs s h))).set := View.set_reshape _ _
theorem rsCm_set (s : ℕ) (h : s < 2) : (rsCm s h).view.set = (rcM.access (Rect.unit (s := S2x128x1024) ![s, 0, 0] S1x128x1024.size (inbRs s h))).set := View.set_reshape _ _

theorem rs_store (c : Dev nD) (s : ℕ) (h : s < 2) {w : Vec F S1x128x1024 .f32}
    {hx : (rsM.access (Rect.unit (s := S2x128x1024) ![s, 0, 0] S1x128x1024.size (inbRs s h))).Stores Finset.univ} {hm : (Finset.univ : Finset (Rect.unit (s := S2x128x1024) ![s, 0, 0] S1x128x1024.size (inbRs s h)).shape.Idx) = Finset.univ ∨ ∀ a, (Rect.unit (s := S2x128x1024) ![s, 0, 0] S1x128x1024.size (inbRs s h)).stride a = 1}
    {α : Type} {Q : α → sProp 𝕄} {k : PUnit → Prog (TpuEff nD τ sig (Elt F) Λ₀ .tc) α} :
    pa (rsSt s h) c ⊢ iprop((pt (rsSt s h) c (rsW s h w) -∗ WP c (k ⟨⟩) Q) -∗ WP c (.op (.store rsM (Rect.unit (s := S2x128x1024) ![s, 0, 0] S1x128x1024.size (inbRs s h)) w Finset.univ hx hm) k) Q) :=
  st_storeA c (M := rsM) (r := (Rect.unit (s := S2x128x1024) ![s, 0, 0] S1x128x1024.size (inbRs s h))) (w := w) ((rsSt s h).view.set) jk (rsSt_set s h).symm

theorem rs_any (c : Dev nD) (s : ℕ) (h : s < 2)
    {hl : rsM.view.LoadsAt (Rect.unit (s := S2x128x1024) ![s, 0, 0] S1x128x1024.size (inbRs s h)).toLoadRect}
    {α : Type} {Q : α → sProp 𝕄} {k : ((Rect.unit (s := S2x128x1024) ![s, 0, 0] S1x128x1024.size (inbRs s h)).shape.Idx → Elt F .f32) → Prog (TpuEff nD τ sig (Elt F) Λ₀ .tc) α} :
    pa (rsSt s h) c ⊢ iprop((∀ v, pa (rsSt s h) c -∗ WP c (k v) Q) -∗ WP c (.op (.load rsM (Rect.unit (s := S2x128x1024) ![s, 0, 0] S1x128x1024.size (inbRs s h)).toLoadRect hl) k) Q) :=
  st_loadA c (M := rsM) (r := (Rect.unit (s := S2x128x1024) ![s, 0, 0] S1x128x1024.size (inbRs s h))) ((rsSt s h).view.set) (by rw [rsSt_set])

theorem rs_cm (c : Dev nD) (s : ℕ) (h : s < 2) (p : Vec F S1x128x1024 .f32)
    {hl : rcM.view.LoadsAt (Rect.unit (s := S2x128x1024) ![s, 0, 0] S1x128x1024.size (inbRs s h)).toLoadRect}
    {α : Type} {Q : α → sProp 𝕄} {k : ((Rect.unit (s := S2x128x1024) ![s, 0, 0] S1x128x1024.size (inbRs s h)).shape.Idx → Elt F .f32) → Prog (TpuEff nD τ sig (Elt F) Λ₀ .tc) α} :
    pt (rsCm s h) c (rsL s h p) ⊢ iprop((pt (rsCm s h) c (rsL s h p) -∗ WP c (k (rsR s h p)) Q) -∗ WP c (.op (.load rcM (Rect.unit (s := S2x128x1024) ![s, 0, 0] S1x128x1024.size (inbRs s h)).toLoadRect hl) k) Q) :=
  st_load c (M := rcM) (r := (Rect.unit (s := S2x128x1024) ![s, 0, 0] S1x128x1024.size (inbRs s h))) (rsCm s h).view.set fullShare (rsL s h p) (rsR s h p) (by rw [rsCm_set]) rfl

theorem z2 : 0 < 2 := by decide
theorem o2 : 1 < 2 := by decide
theorem slotOf_0 (c : Dev nD) : slotOf (F := F) (c, 0) = pa (ndCm 0 z2) c := by unfold slotOf; rw [if_pos rfl]
theorem slotOf_1 (c : Dev nD) : slotOf (F := F) (c, 1) = pa (ndCm 1 o2) c := by unfold slotOf; rw [if_neg (show ¬ (1 : Fin 4) = 0 by decide), if_pos rfl]
theorem slotOf_2 (c : Dev nD) : slotOf (F := F) (c, 2) = pa (rsCm 0 z2) c := by
  unfold slotOf; rw [if_neg (show ¬ (2 : Fin 4) = 0 by decide), if_neg (show ¬ (2 : Fin 4) = 1 by decide), if_pos rfl]
theorem slotOf_3 (c : Dev nD) : slotOf (F := F) (c, 3) = pa (rsCm 1 o2) c := by
  unfold slotOf; rw [if_neg (show ¬ (3 : Fin 4) = 0 by decide), if_neg (show ¬ (3 : Fin 4) = 1 by decide), if_neg (show ¬ (3 : Fin 4) = 2 by decide)]

end Cert.KernelIdeal.Pf
end
-- ==== Proof.RingMsgs.lean ====
module

public import proofs.«01_k».proof.Proof.RingSteps

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

/-! ## Slot 0 of the first ring -/

/-- Message `2 R + 0` is sent. -/
theorem nd0_send (c : Dev nD) {dn : Dev nD} {sS sR : DmaSem sig} {hsc : ((ndCm 0 z2) : Memref sig (Dev.tc dn : Thread nD τ).2.kind _ _ _).view.ref.isScScratch = false}
    {hsrc : (ndSt 0 z2).view.WordExact} {hdst : (ndCm 0 z2).view.WordExact}
    {hsem : DmaTarget.Typed .vmem (.dma sR) (.remote (Dev.tc dn : Thread nD τ) (ndCm 0 z2) (.dma sS) hsc)}
    {α : Type} {Q : α → sProp 𝕄} {k : PUnit → Prog (TpuEff nD τ sig (Elt F) Λ₀ .tc) α} (n t w R j : ℕ)
    (hn : dn = sh c 1) (hS : semOf 40 = .dma sS) (hR : semOf 42 = .dma sR)
    (he : evT.drop n = evN0 (2 * R + 0) :: evT.drop (n + 1)) (ht : tkT.drop t = own (semOf 40) R :: tkT.drop (t + 1))
    (hw : wkT.drop w = ((0 : Fin 4), R + 1) :: wkT.drop (w + 1)) (hR4 : R < 4)
    (hj : R = aa 0 (min j 5)) :
    ctx m κ ι ⊢ iprop(OB c n -∗ TK c t -∗ WK c w -∗ RE c 40 R -∗ CP (sh c 1) j -∗ pt (ndSt 0 z2) c (ndW 0 z2 (SN m (2 * R + 0) c))
      -∗ (OB c (n + 1) -∗ TK c (t + 1) -∗ WK c (w + 1) -∗ CD c 40 0 4224 -∗ WP c (k ⟨⟩) Q)
      -∗ WP c (.op (.enqueueDma (ndSt 0 z2) (.remote (Dev.tc dn : Thread nD τ) (ndCm 0 z2) (.dma sS) hsc) (.dma sR) hsrc hdst hsem) k) Q) := by
  iintro #Hctx HO HT HW #Hr #HC Hsrc Hk
  ihave #HS := (ctx_slot m κ ι (sh c 1, (0 : Fin 4))) $$ Hctx
  ihave #HC' := (CP_use (sh c 1) j) $$ HC
  unfold CPv
  icases HC' with ⟨#H0, #H1, #H2, #H3, #H4, #H5, #H6, #H7, -⟩
  rw [← hj]
  ihave HT := (TK_pop c t _ ht) $$ HT
  icases HT with ⟨Ht, HT⟩
  ihave Ht := (show tkE (F := F) c (own (semOf 40) R) ⊢ dutyTok ER (cl c (semOf 40)) R 0 from Entails.refl _) $$ Ht
  ihave HW := (WK_pop c w _ hw) $$ HW
  icases HW with ⟨Hw, HW⟩
  unfold wkE
  imod (slot_take ES (Set.mem_univ _) (R + 1)) $$ [Hw] with Hsl
  · isplitr; · iexact HS
    isplitr; · iexact H0
    iexact Hw
  ihave Hsl := (show slotOf (F := F) (sh c 1, (0 : Fin 4)) ⊢ iprop(∃ f, pt (ndCm 0 z2) (sh c 1) f) from Entails.of_eq (slotOf_0 _)) $$ Hsl
  icases Hsl with ⟨%fd, Hsl⟩
  iapply (st_send m κ ι c 40 42 (src := (ndSt 0 z2)) fullShare (ndW 0 z2 (SN m (2 * R + 0) c)) 1 R R 0 (4 + 2 * (2 * R + 0)) 4224 fd (evT.drop (n + 1)) hn hS hR (he.trans (by unfold evN0; rw [show (2 * R + 0) / 2 = R by omega])) rfl
    (show 0 ∈ (if R < 4 then ({0} : Finset ℕ) else ∅) by rw [if_pos hR4]; exact Finset.mem_singleton_self 0) (show 0 ∈ (if R < 4 then ({0} : Finset ℕ) else ∅) by rw [if_pos hR4]; exact Finset.mem_singleton_self 0) rfl rfl
    (pt_pa (ndSt 0 z2) c _) (by
      rw [landed_pt (ndCm 0 z2) (sh c 1) fd jk]
      show _ ⊢ ndPay0 m (sh c 1) R
      unfold ndPay0
      rw [sh_sh rfl]
      try exact Entails.refl _)) $$ Hctx HO Ht Hr H4 Hsrc Hsl
  iintro HO Hc
  iapply Hk $$ HO HT HW Hc

theorem nd0_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R : ℕ) {α : Type} {Q : α → sProp 𝕄} {k : PUnit → Prog (TpuEff nD τ sig (Elt F) Λ₀ .tc) α}
    (hn : crT.drop n = ⟨semOf 42, 4 + 2 * (2 * R + 0), 4224⟩ :: crT.drop (n + 1)) (hR : R < 4)
    (hs : semOf 42 = .dma sem) (hN : dst.view.dmaCredit = 4224) (hl : lvOk (4 + 2 * (2 * R + 0)) (evT.drop o) = true) :
    ctx m κ ι ⊢ iprop(CR c n -∗ OB c o -∗ AT c 42 R -∗ (CR c (n + 1) -∗ OB c o -∗ AT c 42 (R + 1) -∗ RE c 42 (R + 1)
        -∗ pt (ndCm 0 z2) c (ndL 0 z2 (SN m (2 * R + 0) (sh c 7))) -∗ WP c (k ⟨⟩) Q)
      -∗ WP c (.op (.waitDma2 sem src dst hsrc hdst) k) Q) := by
  exact st_recv m κ ι c 42 n _ 4224 R hn hs hN (show (if R < 4 then ({0} : Finset ℕ) else ∅) = {0} from if_pos hR) rfl hl _ (Entails.refl (ndPay0 m c R))

theorem nd0_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R : ℕ) {α : Type} {Q : α → sProp 𝕄} {k : PUnit → Prog (TpuEff nD τ sig (Elt F) Λ₀ .tc) α} (hR : R < 4)
    (hs : semOf 40 = .dma sem) (hN : dst.view.dmaCredit = 4224) (hl : lvOk 0 (evT.drop o) = true) :
    ctx m κ ι ⊢ iprop(CD c 40 0 4224 -∗ OB c o -∗ AT c 40 R -∗ (OB c o -∗ AT c 40 (R + 1) -∗ RE c 40 (R + 1) -∗ pa (ndSt 0 z2) c -∗ WP c (k ⟨⟩) Q)
      -∗ WP c (.op (.waitDma2 sem src dst hsrc hdst) k) Q) :=
  st_waitD m κ ι c 40 0 4224 R hs hN (show (if R < 4 then ({0} : Finset ℕ) else ∅) = {0} from if_pos (by omega)) rfl hl (pa (ndSt 0 z2) c)
    (Entails.refl _)

/-- The incoming slot is given back. -/
theorem nd0_rel (c : Dev nD) (n : ℕ) (f : Buf (Elt F) ((ndCm 0 z2).view.loc (c : Thread nD τ))) :
    ctx m κ ι ⊢ iprop(readerAt ES (c, (0 : Fin 4)) n -∗ pt (ndCm 0 z2) c f -∗ |={Set.univ}=> (readerAt ES (c, (0 : Fin 4)) (n + 1) ∗ released ES (c, (0 : Fin 4)) (n + 1))) := by
  iintro #Hctx Hr Hp
  ihave #HS := (ctx_slot m κ ι (c, (0 : Fin 4))) $$ Hctx
  iapply (slot_release ES (ι := ι (c, (0 : Fin 4))) (k := (c, (0 : Fin 4))) (S := slotOf (c, (0 : Fin 4))) (Set.mem_univ _)
    (by rw [slotOf_0]; exact slot_slot_false ((ndCm 0 z2).view.set_nonempty (by decide))) n)
  isplitr; · iexact HS
  isplitl [Hr]; · iexact Hr
  rw [slotOf_0]
  iapply (pt_pa (ndCm 0 z2) c f) $$ Hp

/-! ## Slot 1 of the first ring -/

/-- Message `2 R + 1` is sent. -/
theorem nd1_send (c : Dev nD) {dn : Dev nD} {sS sR : DmaSem sig} {hsc : ((ndCm 1 o2) : Memref sig (Dev.tc dn : Thread nD τ).2.kind _ _ _).view.ref.isScScratch = false}
    {hsrc : (ndSt 1 o2).view.WordExact} {hdst : (ndCm 1 o2).view.WordExact}
    {hsem : DmaTarget.Typed .vmem (.dma sR) (.remote (Dev.tc dn : Thread nD τ) (ndCm 1 o2) (.dma sS) hsc)}
    {α : Type} {Q : α → sProp 𝕄} {k : PUnit → Prog (TpuEff nD τ sig (Elt F) Λ₀ .tc) α} (n t w R j : ℕ)
    (hn : dn = sh c 1) (hS : semOf 41 = .dma sS) (hR : semOf 43 = .dma sR)
    (he : evT.drop n = evN1 (2 * R + 1) :: evT.drop (n + 1)) (ht : tkT.drop t = own (semOf 41) R :: tkT.drop (t + 1))
    (hw : wkT.drop w = ((1 : Fin 4), R + 1) :: wkT.drop (w + 1)) (hR4 : R < 3)
    (hj : R = aa 1 (min j 5)) :
    ctx m κ ι ⊢ iprop(OB c n -∗ TK c t -∗ WK c w -∗ RE c 41 R -∗ CP (sh c 1) j -∗ pt (ndSt 1 o2) c (ndW 1 o2 (SN m (2 * R + 1) c))
      -∗ (OB c (n + 1) -∗ TK c (t + 1) -∗ WK c (w + 1) -∗ CD c 41 0 4224 -∗ WP c (k ⟨⟩) Q)
      -∗ WP c (.op (.enqueueDma (ndSt 1 o2) (.remote (Dev.tc dn : Thread nD τ) (ndCm 1 o2) (.dma sS) hsc) (.dma sR) hsrc hdst hsem) k) Q) := by
  iintro #Hctx HO HT HW #Hr #HC Hsrc Hk
  ihave #HS := (ctx_slot m κ ι (sh c 1, (1 : Fin 4))) $$ Hctx
  ihave #HC' := (CP_use (sh c 1) j) $$ HC
  unfold CPv
  icases HC' with ⟨#H0, #H1, #H2, #H3, #H4, #H5, #H6, #H7, -⟩
  rw [← hj]
  ihave HT := (TK_pop c t _ ht) $$ HT
  icases HT with ⟨Ht, HT⟩
  ihave Ht := (show tkE (F := F) c (own (semOf 41) R) ⊢ dutyTok ER (cl c (semOf 41)) R 0 from Entails.refl _) $$ Ht
  ihave HW := (WK_pop c w _ hw) $$ HW
  icases HW with ⟨Hw, HW⟩
  unfold wkE
  imod (slot_take ES (Set.mem_univ _) (R + 1)) $$ [Hw] with Hsl
  · isplitr; · iexact HS
    isplitr; · iexact H1
    iexact Hw
  ihave Hsl := (show slotOf (F := F) (sh c 1, (1 : Fin 4)) ⊢ iprop(∃ f, pt (ndCm 1 o2) (sh c 1) f) from Entails.of_eq (slotOf_1 _)) $$ Hsl
  icases Hsl with ⟨%fd, Hsl⟩
  iapply (st_send m κ ι c 41 43 (src := (ndSt 1 o2)) fullShare (ndW 1 o2 (SN m (2 * R + 1) c)) 1 R R 0 (4 + 2 * (2 * R + 1)) 4224 fd (evT.drop (n + 1)) hn hS hR (he.trans (by unfold evN1; rw [show (2 * R + 1) / 2 = R by omega])) rfl
    (show 0 ∈ (if R < 3 then ({0} : Finset ℕ) else ∅) by rw [if_pos hR4]; exact Finset.mem_singleton_self 0) (show 0 ∈ (if R < 3 then ({0} : Finset ℕ) else ∅) by rw [if_pos hR4]; exact Finset.mem_singleton_self 0) rfl rfl
    (pt_pa (ndSt 1 o2) c _) (by
      rw [landed_pt (ndCm 1 o2) (sh c 1) fd jk]
      show _ ⊢ ndPay1 m (sh c 1) R
      unfold ndPay1
      rw [sh_sh rfl]
      try exact Entails.refl _)) $$ Hctx HO Ht Hr H5 Hsrc Hsl
  iintro HO Hc
  iapply Hk $$ HO HT HW Hc

theorem nd1_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R : ℕ) {α : Type} {Q : α → sProp 𝕄} {k : PUnit → Prog (TpuEff nD τ sig (Elt F) Λ₀ .tc) α}
    (hn : crT.drop n = ⟨semOf 43, 4 + 2 * (2 * R + 1), 4224⟩ :: crT.drop (n + 1)) (hR : R < 3)
    (hs : semOf 43 = .dma sem) (hN : dst.view.dmaCredit = 4224) (hl : lvOk (4 + 2 * (2 * R + 1)) (evT.drop o) = true) :
    ctx m κ ι ⊢ iprop(CR c n -∗ OB c o -∗ AT c 43 R -∗ (CR c (n + 1) -∗ OB c o -∗ AT c 43 (R + 1) -∗ RE c 43 (R + 1)
        -∗ pt (ndCm 1 o2) c (ndL 1 o2 (SN m (2 * R + 1) (sh c 7))) -∗ WP c (k ⟨⟩) Q)
      -∗ WP c (.op (.waitDma2 sem src dst hsrc hdst) k) Q) := by
  exact st_recv m κ ι c 43 n _ 4224 R hn hs hN (show (if R < 3 then ({0} : Finset ℕ) else ∅) = {0} from if_pos hR) rfl hl _ (Entails.refl (ndPay1 m c R))

theorem nd1_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R : ℕ) {α : Type} {Q : α → sProp 𝕄} {k : PUnit → Prog (TpuEff nD τ sig (Elt F) Λ₀ .tc) α} (hR : R < 3)
    (hs : semOf 41 = .dma sem) (hN : dst.view.dmaCredit = 4224) (hl : lvOk 0 (evT.drop o) = true) :
    ctx m κ ι ⊢ iprop(CD c 41 0 4224 -∗ OB c o -∗ AT c 41 R -∗ (OB c o -∗ AT c 41 (R + 1) -∗ RE c 41 (R + 1) -∗ pa (ndSt 1 o2) c -∗ WP c (k ⟨⟩) Q)
      -∗ WP c (.op (.waitDma2 sem src dst hsrc hdst) k) Q) :=
  st_waitD m κ ι c 41 0 4224 R hs hN (show (if R < 3 then ({0} : Finset ℕ) else ∅) = {0} from if_pos (by omega)) rfl hl (pa (ndSt 1 o2) c)
    (Entails.refl _)

/-- The incoming slot is given back. -/
theorem nd1_rel (c : Dev nD) (n : ℕ) (f : Buf (Elt F) ((ndCm 1 o2).view.loc (c : Thread nD τ))) :
    ctx m κ ι ⊢ iprop(readerAt ES (c, (1 : Fin 4)) n -∗ pt (ndCm 1 o2) c f -∗ |={Set.univ}=> (readerAt ES (c, (1 : Fin 4)) (n + 1) ∗ released ES (c, (1 : Fin 4)) (n + 1))) := by
  iintro #Hctx Hr Hp
  ihave #HS := (ctx_slot m κ ι (c, (1 : Fin 4))) $$ Hctx
  iapply (slot_release ES (ι := ι (c, (1 : Fin 4))) (k := (c, (1 : Fin 4))) (S := slotOf (c, (1 : Fin 4))) (Set.mem_univ _)
    (by rw [slotOf_1]; exact slot_slot_false ((ndCm 1 o2).view.set_nonempty (by decide))) n)
  isplitr; · iexact HS
  isplitl [Hr]; · iexact Hr
  rw [slotOf_1]
  iapply (pt_pa (ndCm 1 o2) c f) $$ Hp

/-! ## Slot 0 of the second ring -/

/-- Message `2 R + 0` is sent. -/
theorem rs0_send (c : Dev nD) {dn : Dev nD} {sS sR : DmaSem sig} {hsc : ((rsCm 0 z2) : Memref sig (Dev.tc dn : Thread nD τ).2.kind _ _ _).view.ref.isScScratch = false}
    {hsrc : (rsSt 0 z2).view.WordExact} {hdst : (rsCm 0 z2).view.WordExact}
    {hsem : DmaTarget.Typed .vmem (.dma sR) (.remote (Dev.tc dn : Thread nD τ) (rsCm 0 z2) (.dma sS) hsc)}
    {α : Type} {Q : α → sProp 𝕄} {k : PUnit → Prog (TpuEff nD τ sig (Elt F) Λ₀ .tc) α} (n t w R j : ℕ)
    (hn : dn = sh c 1) (hS : semOf 44 = .dma sS) (hR : semOf 46 = .dma sR)
    (he : evT.drop n = evR0 R (20 + 2 * (2 * R + 0)) :: evT.drop (n + 1)) (ht : tkT.drop t = own (semOf 44) R :: tkT.drop (t + 1))
    (hw : wkT.drop w = ((2 : Fin 4), R + 1) :: wkT.drop (w + 1)) (hR4 : R < 4)
    (hj : R = aa 0 (min (j - 5) 5) ∧ R = rr 0 j) :
    ctx m κ ι ⊢ iprop(OB c n -∗ TK c t -∗ WK c w -∗ RE c 44 R -∗ CP (sh c 1) j -∗ RE c 49 1 -∗ pt (rsSt 0 z2) c (rsW 0 z2 (SR m (2 * R + 0) c))
      -∗ (OB c (n + 1) -∗ TK c (t + 1) -∗ WK c (w + 1) -∗ CD c 44 0 16384 -∗ WP c (k ⟨⟩) Q)
      -∗ WP c (.op (.enqueueDma (rsSt 0 z2) (.remote (Dev.tc dn : Thread nD τ) (rsCm 0 z2) (.dma sS) hsc) (.dma sR) hsrc hdst hsem) k) Q) := by
  iintro #Hctx HO HT HW #Hr #HC #Hm Hsrc Hk
  ihave #HS := (ctx_slot m κ ι (sh c 1, (2 : Fin 4))) $$ Hctx
  ihave #HC' := (CP_use (sh c 1) j) $$ HC
  unfold CPv
  icases HC' with ⟨#H0, #H1, #H2, #H3, #H4, #H5, #H6, #H7, -⟩
  rw [← hj.1, ← hj.2]
  ihave HT := (TK_pop c t _ ht) $$ HT
  icases HT with ⟨Ht, HT⟩
  ihave Ht := (show tkE (F := F) c (own (semOf 44) R) ⊢ dutyTok ER (cl c (semOf 44)) R 0 from Entails.refl _) $$ Ht
  ihave HW := (WK_pop c w _ hw) $$ HW
  icases HW with ⟨Hw, HW⟩
  unfold wkE
  imod (slot_take ES (Set.mem_univ _) (R + 1)) $$ [Hw] with Hsl
  · isplitr; · iexact HS
    isplitr; · iexact H2
    iexact Hw
  ihave Hsl := (show slotOf (F := F) (sh c 1, (2 : Fin 4)) ⊢ iprop(∃ f, pt (rsCm 0 z2) (sh c 1) f) from Entails.of_eq (slotOf_2 _)) $$ Hsl
  icases Hsl with ⟨%fd, Hsl⟩
  have hadd : pt (rsCm 0 z2) (sh c 1) ((rsCm 0 z2).view.write (Elt F) fd ((rsSt 0 z2).view.read (Elt F) (rsW 0 z2 (SR m (2 * R + 0) c))) Finset.univ) = pt (rsCm 0 z2) (sh c 1) (rsL 0 z2 (SR m (2 * R + 0) c)) :=
    landed_pt (rsCm 0 z2) (sh c 1) fd jk _
  iapply (st_sendW m κ ι c 44 46 (src := (rsSt 0 z2)) fullShare (rsW 0 z2 (SR m (2 * R + 0) c)) 1 R R 0 (20 + 2 * (2 * R + 0)) 16384 fd (evT.drop (n + 1)) hn hS hR he rfl
    (show 0 ∈ (if R < 8 then ({0} : Finset ℕ) else ∅) by rw [if_pos (by omega)]; exact Finset.mem_singleton_self 0) (show 0 ∈ (if R < 8 then ({0} : Finset ℕ) else ∅) by rw [if_pos (by omega)]; exact Finset.mem_singleton_self 0) rfl rfl (RE c 49 1)
    (show _ ⊢ (if R < 4 then iprop(pa (rsSt 0 z2) c) else agPay m c (c.val + 8 - 2 * (R - 4))) by rw [if_pos hR4]; exact pt_pa (rsSt 0 z2) c _) (by
      rw [hadd]
      show _ ⊢ (if R < 4 then rsPay0 m (sh c 1) R else agPay m (sh c 1) ((sh c 1).val + 7 - 2 * (R - 4)))
      rw [if_pos hR4]
      unfold rsPay0
      rw [sh_sh rfl]
      try exact Entails.refl _)) $$ Hctx HO Ht Hr H6 Hm Hsrc Hsl
  iintro HO Hc
  iapply Hk $$ HO HT HW Hc

theorem rs0_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R : ℕ) {α : Type} {Q : α → sProp 𝕄} {k : PUnit → Prog (TpuEff nD τ sig (Elt F) Λ₀ .tc) α}
    (hn : crT.drop n = ⟨semOf 46, 20 + 2 * (2 * R + 0), 16384⟩ :: crT.drop (n + 1)) (hR : R < 4)
    (hs : semOf 46 = .dma sem) (hN : dst.view.dmaCredit = 16384) (hl : lvOk (20 + 2 * (2 * R + 0)) (evT.drop o) = true) :
    ctx m κ ι ⊢ iprop(CR c n -∗ OB c o -∗ AT c 46 R -∗ (CR c (n + 1) -∗ OB c o -∗ AT c 46 (R + 1) -∗ RE c 46 (R + 1)
        -∗ pt (rsCm 0 z2) c (rsL 0 z2 (SR m (2 * R + 0) (sh c 7))) -∗ RE (sh c 7) 49 1 -∗ WP c (k ⟨⟩) Q)
      -∗ WP c (.op (.waitDma2 sem src dst hsrc hdst) k) Q) := by
  iintro #Hctx HC HO Ha Hk
  iapply (st_recv m κ ι c 46 n _ 16384 R hn hs hN (show (if R < 8 then ({0} : Finset ℕ) else ∅) = {0} from if_pos (by omega)) rfl hl (rsPay0 m c R)
    (show (if R < 4 then rsPay0 m c R else agPay m c (c.val + 7 - 2 * (R - 4))) ⊢ rsPay0 m c R by rw [if_pos hR])) $$ Hctx HC HO Ha
  iintro HC HO Ha Hr Hp
  unfold rsPay0
  icases Hp with ⟨Hp, Hm⟩
  iapply Hk $$ HC HO Ha Hr Hp Hm

theorem rs0_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R : ℕ) {α : Type} {Q : α → sProp 𝕄} {k : PUnit → Prog (TpuEff nD τ sig (Elt F) Λ₀ .tc) α} (hR : R < 4)
    (hs : semOf 44 = .dma sem) (hN : dst.view.dmaCredit = 16384) (hl : lvOk 0 (evT.drop o) = true) :
    ctx m κ ι ⊢ iprop(CD c 44 0 16384 -∗ OB c o -∗ AT c 44 R -∗ (OB c o -∗ AT c 44 (R + 1) -∗ RE c 44 (R + 1) -∗ pa (rsSt 0 z2) c -∗ WP c (k ⟨⟩) Q)
      -∗ WP c (.op (.waitDma2 sem src dst hsrc hdst) k) Q) :=
  st_waitD m κ ι c 44 0 16384 R hs hN (show (if R < 8 then ({0} : Finset ℕ) else ∅) = {0} from if_pos (by omega)) rfl hl (pa (rsSt 0 z2) c)
    (show (if R < 4 then iprop(pa (rsSt 0 z2) c) else agPay m c (c.val + 8 - 2 * (R - 4))) ⊢ pa (rsSt 0 z2) c by rw [if_pos hR])

/-- The incoming slot is given back. -/
theorem rs0_rel (c : Dev nD) (n : ℕ) (f : Buf (Elt F) ((rsCm 0 z2).view.loc (c : Thread nD τ))) :
    ctx m κ ι ⊢ iprop(readerAt ES (c, (2 : Fin 4)) n -∗ pt (rsCm 0 z2) c f -∗ |={Set.univ}=> (readerAt ES (c, (2 : Fin 4)) (n + 1) ∗ released ES (c, (2 : Fin 4)) (n + 1))) := by
  iintro #Hctx Hr Hp
  ihave #HS := (ctx_slot m κ ι (c, (2 : Fin 4))) $$ Hctx
  iapply (slot_release ES (ι := ι (c, (2 : Fin 4))) (k := (c, (2 : Fin 4))) (S := slotOf (c, (2 : Fin 4))) (Set.mem_univ _)
    (by rw [slotOf_2]; exact slot_slot_false ((rsCm 0 z2).view.set_nonempty (by decide))) n)
  isplitr; · iexact HS
  isplitl [Hr]; · iexact Hr
  rw [slotOf_2]
  iapply (pt_pa (rsCm 0 z2) c f) $$ Hp

/-! ## Slot 1 of the second ring -/

/-- Message `2 R + 1` is sent. -/
theorem rs1_send (c : Dev nD) {dn : Dev nD} {sS sR : DmaSem sig} {hsc : ((rsCm 1 o2) : Memref sig (Dev.tc dn : Thread nD τ).2.kind _ _ _).view.ref.isScScratch = false}
    {hsrc : (rsSt 1 o2).view.WordExact} {hdst : (rsCm 1 o2).view.WordExact}
    {hsem : DmaTarget.Typed .vmem (.dma sR) (.remote (Dev.tc dn : Thread nD τ) (rsCm 1 o2) (.dma sS) hsc)}
    {α : Type} {Q : α → sProp 𝕄} {k : PUnit → Prog (TpuEff nD τ sig (Elt F) Λ₀ .tc) α} (n t w R j : ℕ)
    (hn : dn = sh c 1) (hS : semOf 45 = .dma sS) (hR : semOf 47 = .dma sR)
    (he : evT.drop n = evR1 R (20 + 2 * (2 * R + 1)) :: evT.drop (n + 1)) (ht : tkT.drop t = own (semOf 45) R :: tkT.drop (t + 1))
    (hw : wkT.drop w = ((3 : Fin 4), R + 1) :: wkT.drop (w + 1)) (hR4 : R < 3)
    (hj : R = aa 1 (min (j - 5) 5) ∧ R = rr 1 j) :
    ctx m κ ι ⊢ iprop(OB c n -∗ TK c t -∗ WK c w -∗ RE c 45 R -∗ CP (sh c 1) j -∗ RE c 49 1 -∗ pt (rsSt 1 o2) c (rsW 1 o2 (SR m (2 * R + 1) c))
      -∗ (OB c (n + 1) -∗ TK c (t + 1) -∗ WK c (w + 1) -∗ CD c 45 0 16384 -∗ WP c (k ⟨⟩) Q)
      -∗ WP c (.op (.enqueueDma (rsSt 1 o2) (.remote (Dev.tc dn : Thread nD τ) (rsCm 1 o2) (.dma sS) hsc) (.dma sR) hsrc hdst hsem) k) Q) := by
  iintro #Hctx HO HT HW #Hr #HC #Hm Hsrc Hk
  ihave #HS := (ctx_slot m κ ι (sh c 1, (3 : Fin 4))) $$ Hctx
  ihave #HC' := (CP_use (sh c 1) j) $$ HC
  unfold CPv
  icases HC' with ⟨#H0, #H1, #H2, #H3, #H4, #H5, #H6, #H7, -⟩
  rw [← hj.1, ← hj.2]
  ihave HT := (TK_pop c t _ ht) $$ HT
  icases HT with ⟨Ht, HT⟩
  ihave Ht := (show tkE (F := F) c (own (semOf 45) R) ⊢ dutyTok ER (cl c (semOf 45)) R 0 from Entails.refl _) $$ Ht
  ihave HW := (WK_pop c w _ hw) $$ HW
  icases HW with ⟨Hw, HW⟩
  unfold wkE
  imod (slot_take ES (Set.mem_univ _) (R + 1)) $$ [Hw] with Hsl
  · isplitr; · iexact HS
    isplitr; · iexact H3
    iexact Hw
  ihave Hsl := (show slotOf (F := F) (sh c 1, (3 : Fin 4)) ⊢ iprop(∃ f, pt (rsCm 1 o2) (sh c 1) f) from Entails.of_eq (slotOf_3 _)) $$ Hsl
  icases Hsl with ⟨%fd, Hsl⟩
  have hadd : pt (rsCm 1 o2) (sh c 1) ((rsCm 1 o2).view.write (Elt F) fd ((rsSt 1 o2).view.read (Elt F) (rsW 1 o2 (SR m (2 * R + 1) c))) Finset.univ) = pt (rsCm 1 o2) (sh c 1) (rsL 1 o2 (SR m (2 * R + 1) c)) :=
    landed_pt (rsCm 1 o2) (sh c 1) fd jk _
  iapply (st_sendW m κ ι c 45 47 (src := (rsSt 1 o2)) fullShare (rsW 1 o2 (SR m (2 * R + 1) c)) 1 R R 0 (20 + 2 * (2 * R + 1)) 16384 fd (evT.drop (n + 1)) hn hS hR he rfl
    (show 0 ∈ (if R < 6 then ({0} : Finset ℕ) else ∅) by rw [if_pos (by omega)]; exact Finset.mem_singleton_self 0) (show 0 ∈ (if R < 6 then ({0} : Finset ℕ) else ∅) by rw [if_pos (by omega)]; exact Finset.mem_singleton_self 0) rfl rfl (RE c 49 1)
    (show _ ⊢ (if R < 3 then iprop(pa (rsSt 1 o2) c) else agPay m c (c.val + 7 - 2 * (R - 3))) by rw [if_pos hR4]; exact pt_pa (rsSt 1 o2) c _) (by
      rw [hadd]
      show _ ⊢ (if R < 3 then rsPay1 m (sh c 1) R else agPay m (sh c 1) ((sh c 1).val + 6 - 2 * (R - 3)))
      rw [if_pos hR4]
      unfold rsPay1
      rw [sh_sh rfl]
      try exact Entails.refl _)) $$ Hctx HO Ht Hr H7 Hm Hsrc Hsl
  iintro HO Hc
  iapply Hk $$ HO HT HW Hc

theorem rs1_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R : ℕ) {α : Type} {Q : α → sProp 𝕄} {k : PUnit → Prog (TpuEff nD τ sig (Elt F) Λ₀ .tc) α}
    (hn : crT.drop n = ⟨semOf 47, 20 + 2 * (2 * R + 1), 16384⟩ :: crT.drop (n + 1)) (hR : R < 3)
    (hs : semOf 47 = .dma sem) (hN : dst.view.dmaCredit = 16384) (hl : lvOk (20 + 2 * (2 * R + 1)) (evT.drop o) = true) :
    ctx m κ ι ⊢ iprop(CR c n -∗ OB c o -∗ AT c 47 R -∗ (CR c (n + 1) -∗ OB c o -∗ AT c 47 (R + 1) -∗ RE c 47 (R + 1)
        -∗ pt (rsCm 1 o2) c (rsL 1 o2 (SR m (2 * R + 1) (sh c 7))) -∗ RE (sh c 7) 49 1 -∗ WP c (k ⟨⟩) Q)
      -∗ WP c (.op (.waitDma2 sem src dst hsrc hdst) k) Q) := by
  iintro #Hctx HC HO Ha Hk
  iapply (st_recv m κ ι c 47 n _ 16384 R hn hs hN (show (if R < 6 then ({0} : Finset ℕ) else ∅) = {0} from if_pos (by omega)) rfl hl (rsPay1 m c R)
    (show (if R < 3 then rsPay1 m c R else agPay m c (c.val + 6 - 2 * (R - 3))) ⊢ rsPay1 m c R by rw [if_pos hR])) $$ Hctx HC HO Ha
  iintro HC HO Ha Hr Hp
  unfold rsPay1
  icases Hp with ⟨Hp, Hm⟩
  iapply Hk $$ HC HO Ha Hr Hp Hm

theorem rs1_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R : ℕ) {α : Type} {Q : α → sProp 𝕄} {k : PUnit → Prog (TpuEff nD τ sig (Elt F) Λ₀ .tc) α} (hR : R < 3)
    (hs : semOf 45 = .dma sem) (hN : dst.view.dmaCredit = 16384) (hl : lvOk 0 (evT.drop o) = true) :
    ctx m κ ι ⊢ iprop(CD c 45 0 16384 -∗ OB c o -∗ AT c 45 R -∗ (OB c o -∗ AT c 45 (R + 1) -∗ RE c 45 (R + 1) -∗ pa (rsSt 1 o2) c -∗ WP c (k ⟨⟩) Q)
      -∗ WP c (.op (.waitDma2 sem src dst hsrc hdst) k) Q) :=
  st_waitD m κ ι c 45 0 16384 R hs hN (show (if R < 6 then ({0} : Finset ℕ) else ∅) = {0} from if_pos (by omega)) rfl hl (pa (rsSt 1 o2) c)
    (show (if R < 3 then iprop(pa (rsSt 1 o2) c) else agPay m c (c.val + 7 - 2 * (R - 3))) ⊢ pa (rsSt 1 o2) c by rw [if_pos hR])

/-- The incoming slot is given back. -/
theorem rs1_rel (c : Dev nD) (n : ℕ) (f : Buf (Elt F) ((rsCm 1 o2).view.loc (c : Thread nD τ))) :
    ctx m κ ι ⊢ iprop(readerAt ES (c, (3 : Fin 4)) n -∗ pt (rsCm 1 o2) c f -∗ |={Set.univ}=> (readerAt ES (c, (3 : Fin 4)) (n + 1) ∗ released ES (c, (3 : Fin 4)) (n + 1))) := by
  iintro #Hctx Hr Hp
  ihave #HS := (ctx_slot m κ ι (c, (3 : Fin 4))) $$ Hctx
  iapply (slot_release ES (ι := ι (c, (3 : Fin 4))) (k := (c, (3 : Fin 4))) (S := slotOf (c, (3 : Fin 4))) (Set.mem_univ _)
    (by rw [slotOf_3]; exact slot_slot_false ((rsCm 1 o2).view.set_nonempty (by decide))) n)
  isplitr; · iexact HS
  isplitl [Hr]; · iexact Hr
  rw [slotOf_3]
  iapply (pt_pa (rsCm 1 o2) c f) $$ Hp

end Cert.KernelIdeal.Pf
end
-- ==== Proof.Moves.lean ====
module

public import proofs.«01_k».proof.Proof.RingMsgs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

theorem int1 : (1#32 : BitVec 32).toInt = 1 := rfl
theorem int2 : (2#32 : BitVec 32).toInt = 2 := rfl
theorem int7 : (7#32 : BitVec 32).toInt = 7 := rfl

/-- A wait that takes the whole round of a semaphore that is signalled. -/
theorem st_waitReg (c : Dev nD) (i : Fin 51) {sem : Sem sig} (ix N R : ℕ) {l : List Ev} {α : Type} {Q : α → sProp 𝕄}
    {k : PUnit → Prog (TpuEff nD τ sig (Elt F) Λ₀ .tc) α} (hs : semOf i = .reg sem) (he : (Rd m).expect (cl c (semOf i)) R = N)
    (hl : lvOk ix l = true) (P : sProp 𝕄) (hP : (bigSep (dut c (kd (semOf i)) R) fun d => payl m c (kd (semOf i)) R d) ⊢ P) :
    ctx m κ ι ⊢ iprop(CD c i ix N -∗ Ob c l -∗ AT c i R -∗ (Ob c l -∗ AT c i (R + 1) -∗ RE c i (R + 1) -∗ P -∗ WP c (k ⟨⟩) Q)
      -∗ WP c (.op (.semWait sem N) k) Q) := by
  unfold CD AT RE
  have hcell := ctx_cell m κ ι c i
  generalize semOf i = s at *
  subst hs
  have h2 : (bigSep ((Rd m).duties ((c : Thread nD τ), .reg sem) R \ ∅) fun d => (Rd m).payload ((c : Thread nD τ), .reg sem) R d) ⊢ P := by
    rw [Finset.sdiff_empty]; exact hP
  unfold Ob
  iintro #Hctx Hc ⟨⟨%W, HO⟩, Ht⟩ Hat Hk
  ihave #Hi := hcell $$ Hctx
  ihave #HL := (ctx_lev m κ ι) $$ Hctx
  ihave #HM := (mayWait_l (c := c) (s := .reg sem) hl) $$ HL
  iapply (Rounds.wp_wait_rest_token 𝒱₀ ER (Rd m) (c : Thread nD τ) none (κ := κ (c, i)) (wpE_semWait_eq 𝒱₀ (c : Thread nD τ) none Set.univ) (Set.mem_univ _) ix
    (O := tallyL (l.map (pay c))) (W := W) (R := R) (m := 0) (T := ∅) (by rw [Nat.zero_add]; exact he.symm)) $$ [Hc HO Hat]
  · isplitr; · iexact Hi
    isplitl [Hc]; · iexact Hc
    isplitl [HO]; · iexact HO
    isplitr; · iexact HM
    iexact Hat
  iintro ⟨HO, Hat, Hr, Hp⟩
  ihave Hp := h2 $$ Hp
  iapply Hk $$ [HO Ht] Hat Hr Hp
  isplitl [HO]; · iexists _; iexact HO
  iexact Ht

theorem wp_done (c : Dev nD) {α : Type} {a : α} {Q : α → sProp 𝕄} : Q a ⊢ WP c (Prog.ret a) Q := by
  show Q a ⊢ iprop(|={Set.univ}=> Q a)
  iintro H
  imodintro
  iexact H

theorem kd49 : kd (semOf 49) = .mini := rfl
theorem mini_exp (c : Dev nD) (R : ℕ) (h : R < 2) : (Rd m).expect (cl c (semOf 49)) R = 2 := by
  show (dut c (kd (semOf 49)) R).sum (fun _ => amt c (kd (semOf 49))) = 2
  rw [kd49]
  show (if R < 2 then ({0, 1} : Finset ℕ) else ∅).sum (fun _ => 1) = 2
  rw [if_pos h]; rfl

/-- The two waits for both neighbours. -/
theorem st_mini0 (c : Dev nD) {sem : Sem sig} (n o : ℕ) {α : Type} {Q : α → sProp 𝕄}
    {k : PUnit → Prog (TpuEff nD τ sig (Elt F) Λ₀ .tc) α} (hs : semOf 49 = .reg sem)
    (hn : crT.drop n = ⟨semOf 49, 18, 2⟩ :: crT.drop (n + 1)) (hl : lvOk 18 (evT.drop o) = true) :
    ctx m κ ι ⊢ iprop(CR c n -∗ OB c o -∗ AT c 49 0 -∗ (CR c (n + 1) -∗ OB c o -∗ AT c 49 1 -∗ RE c 49 1 -∗ WP c (k ⟨⟩) Q)
      -∗ WP c (.op (.semWait sem 2) k) Q) := by
  iintro #Hctx HC HO Ha Hk
  ihave HC := (CR_pop c n _ hn) $$ HC
  icases HC with ⟨Hc, HC⟩
  ihave Hc := (show crE (F := F) c ⟨semOf 49, 18, 2⟩ ⊢ CD c 49 18 2 from Entails.refl _) $$ Hc
  iapply (st_waitReg m κ ι c 49 18 2 0 hs (mini_exp m c 0 (by decide)) hl iprop(emp) Affine.affine) $$ Hctx Hc HO Ha
  iintro HO Ha Hr -
  iapply Hk $$ HC HO Ha Hr

theorem st_mini1 (c : Dev nD) {sem : Sem sig} (n o : ℕ) {α : Type} {Q : α → sProp 𝕄}
    {k : PUnit → Prog (TpuEff nD τ sig (Elt F) Λ₀ .tc) α} (hs : semOf 49 = .reg sem)
    (hn : crT.drop n = ⟨semOf 49, 33, 2⟩ :: crT.drop (n + 1)) (hl : lvOk 33 (evT.drop o) = true) :
    ctx m κ ι ⊢ iprop(CR c n -∗ OB c o -∗ AT c 49 1 -∗ (CR c (n + 1) -∗ OB c o -∗ AT c 49 2 -∗ RE c 49 2 -∗ miniPay c (sh c 1) -∗ WP c (k ⟨⟩) Q)
      -∗ WP c (.op (.semWait sem 2) k) Q) := by
  have hp : (bigSep (dut c (kd (semOf 49)) 1) fun d => payl m c (kd (semOf 49)) 1 d) ⊢ miniPay c (sh c 1) := by
    rw [kd49]
    show (bigSep ({0, 1} : Finset ℕ) fun d => if 1 = 1 ∧ d = 0 then miniPay c (sh c 1) else iprop(emp)) ⊢ miniPay c (sh c 1)
    exact (show (bigSep ({0, 1} : Finset ℕ) fun d => if 1 = 1 ∧ d = 0 then miniPay c (sh c 1) else iprop(emp)) ⊢ (if 1 = 1 ∧ 0 = 0 then miniPay c (sh c 1) else iprop(emp)) from
      bigSep_elim (Finset.mem_insert_self 0 {1})).trans (by rw [if_pos ⟨rfl, rfl⟩])
  iintro #Hctx HC HO Ha Hk
  ihave HC := (CR_pop c n _ hn) $$ HC
  icases HC with ⟨Hc, HC⟩
  ihave Hc := (show crE (F := F) c ⟨semOf 49, 33, 2⟩ ⊢ CD c 49 33 2 from Entails.refl _) $$ Hc
  iapply (st_waitReg m κ ι c 49 33 2 1 hs (mini_exp m c 1 (by decide)) hl (miniPay c (sh c 1)) hp) $$ Hctx Hc HO Ha
  iintro HO Ha Hr Hp
  iapply Hk $$ HC HO Ha Hr Hp

/-- The signals to both neighbours: first the left one, then the right one. -/
theorem st_miniL (c : Dev nD) {dst : Dev nD} {sem : Sem sig} (n r ix : ℕ) {α : Type} {Q : α → sProp 𝕄}
    {k : PUnit → Prog (TpuEff nD τ sig (Elt F) Λ₀ .tc) α} (hdst : dst = sh c 7) (hs : semOf 49 = .reg sem)
    (he : evT.drop n = ⟨semOf 49, 7, r, 0, ix, 1⟩ :: evT.drop (n + 1)) (hr : r < 2) :
    ctx m κ ι ⊢ iprop(OB c n -∗ RE (sh c 7) 49 r -∗ (if r = 1 then miniPay (sh c 7) c else iprop(emp)) -∗ (OB c (n + 1) -∗ WP c (k ⟨⟩) Q)
      -∗ WP c (.op (.semSignal (dst : Thread nD τ) sem 1) k) Q) := by
  iintro #Hctx HO #Hr HP Hk
  iapply (st_sig m κ ι c 49 (evT.drop (n + 1)) 7 r 0 ix hdst hs he
    (show 0 ∈ (if r < 2 then ({0, 1} : Finset ℕ) else ∅) by rw [if_pos hr]; decide) rfl (if r = 1 then miniPay (sh c 7) c else iprop(emp))
    (show _ ⊢ (if r = 1 ∧ 0 = 0 then miniPay (sh c 7) (sh (sh c 7) 1) else iprop(emp)) by
      rw [sh_sh rfl]
      by_cases h : r = 1
      · rw [if_pos h, if_pos ⟨h, rfl⟩]
      · rw [if_neg h]; exact Entails.trans Affine.affine (by rw [if_neg (fun h' => h h'.1)]))) $$ Hctx HO Hr HP Hk
theorem st_miniR (c : Dev nD) {dst : Dev nD} {sem : Sem sig} (n r ix : ℕ) {α : Type} {Q : α → sProp 𝕄}
    {k : PUnit → Prog (TpuEff nD τ sig (Elt F) Λ₀ .tc) α} (hdst : dst = sh c 1) (hs : semOf 49 = .reg sem)
    (he : evT.drop n = ⟨semOf 49, 1, r, 1, ix, 1⟩ :: evT.drop (n + 1)) (hr : r < 2) :
    ctx m κ ι ⊢ iprop(OB c n -∗ RE (sh c 1) 49 r -∗ (OB c (n + 1) -∗ WP c (k ⟨⟩) Q)
      -∗ WP c (.op (.semSignal (dst : Thread nD τ) sem 1) k) Q) := by
  iintro #Hctx HO #Hr Hk
  iapply (st_sig m κ ι c 49 (evT.drop (n + 1)) 1 r 1 ix hdst hs he
    (show 1 ∈ (if r < 2 then ({0, 1} : Finset ℕ) else ∅) by rw [if_pos hr]; decide) rfl iprop(emp)
    (show _ ⊢ (if r = 1 ∧ 1 = 0 then miniPay (sh c 1) (sh (sh c 1) 1) else iprop(emp)) by
      rw [if_neg (fun h' => absurd h'.2 (by decide))])) $$ Hctx HO Hr [] Hk
  iempintro

/-! ## Loads at the device's own offsets -/

theorem ld_nd (c : Dev nD) (n : ℕ) (h : n < 8) {off : Fin 3 → ℕ} {inb : ∀ a, off a + S8x33x128.size a ≤ S64x33x128.size a} (ho : off = ![8 * n, 0, 0])
    (f : Vec F S64x33x128 .f32) {hl : ndM.view.LoadsAt (Rect.unit (s := S64x33x128) off S8x33x128.size inb).toLoadRect}
    {α : Type} {Q : α → sProp 𝕄} {k : (S8x33x128.Idx → Elt F .f32) → Prog (TpuEff nD τ sig (Elt F) Λ₀ .tc) α} :
    pt ndM c f ⊢ iprop((pt ndM c f -∗ WP c (k (rdN n h f)) Q) -∗ WP c (.op (.load ndM (Rect.unit (s := S64x33x128) off S8x33x128.size inb).toLoadRect hl) k) Q) := by
  subst ho
  exact st_load c (M := ndM) (r := Rect.unit (s := S64x33x128) ![8 * n, 0, 0] S8x33x128.size inb) ndM.view.set fullShare f (rdN n h f) (by rw [View.set_whole]; exact Finset.subset_univ _) rfl

theorem ld_pa (c : Dev nD) (n : ℕ) (h : n < 8) {off : Fin 2 → ℕ} {inb : ∀ a, off a + S128x1024.size a ≤ S1024x1024.size a} (ho : off = ![128 * n, 0])
    (f : Vec F S1024x1024 .f32) {hl : paM.view.LoadsAt (Rect.unit (s := S1024x1024) off S128x1024.size inb).toLoadRect}
    {α : Type} {Q : α → sProp 𝕄} {k : (S128x1024.Idx → Elt F .f32) → Prog (TpuEff nD τ sig (Elt F) Λ₀ .tc) α} :
    pt paM c f ⊢ iprop((pt paM c f -∗ WP c (k (rdP n h f)) Q) -∗ WP c (.op (.load paM (Rect.unit (s := S1024x1024) off S128x1024.size inb).toLoadRect hl) k) Q) := by
  subst ho
  exact st_load c (M := paM) (r := Rect.unit (s := S1024x1024) ![128 * n, 0] S128x1024.size inb) paM.view.set fullShare f (rdP n h f) (by rw [View.set_whole]; exact Finset.subset_univ _) rfl

theorem off4_9 : ∀ c : Dev nD, k0_off4 c 9#32 = ![8 * ((c.val + 14 - 5) % 8), 0, 0] := by decide +kernel
theorem off6_9 : ∀ c : Dev nD, k0_off6 c 9#32 = ![128 * ((c.val + 14 - 5) % 8), 0] := by decide +kernel
theorem off4_10 : ∀ c : Dev nD, k0_off4 c 10#32 = ![8 * ((c.val + 14 - 4) % 8), 0, 0] := by decide +kernel
theorem off6_10 : ∀ c : Dev nD, k0_off6 c 10#32 = ![128 * ((c.val + 14 - 4) % 8), 0] := by decide +kernel
theorem off4_11 : ∀ c : Dev nD, k0_off4 c 11#32 = ![8 * ((c.val + 14 - 3) % 8), 0, 0] := by decide +kernel
theorem off6_11 : ∀ c : Dev nD, k0_off6 c 11#32 = ![128 * ((c.val + 14 - 3) % 8), 0] := by decide +kernel
theorem off4_12 : ∀ c : Dev nD, k0_off4 c 12#32 = ![8 * ((c.val + 14 - 2) % 8), 0, 0] := by decide +kernel
theorem off6_12 : ∀ c : Dev nD, k0_off6 c 12#32 = ![128 * ((c.val + 14 - 2) % 8), 0] := by decide +kernel
theorem off4_13 : ∀ c : Dev nD, k0_off4 c 13#32 = ![8 * ((c.val + 14 - 1) % 8), 0, 0] := by decide +kernel
theorem off6_13 : ∀ c : Dev nD, k0_off6 c 13#32 = ![128 * ((c.val + 14 - 1) % 8), 0] := by decide +kernel
theorem off4_14 : ∀ c : Dev nD, k0_off4 c 14#32 = ![8 * ((c.val + 14 - 0) % 8), 0, 0] := by decide +kernel
theorem off6_14 : ∀ c : Dev nD, k0_off6 c 14#32 = ![128 * ((c.val + 14 - 0) % 8), 0] := by decide +kernel
theorem off4_15 : ∀ c : Dev nD, k0_off4 c 15#32 = ![8 * ((c.val + 15) % 8), 0, 0] := by decide +kernel
theorem off6_15 : ∀ c : Dev nD, k0_off6 c 15#32 = ![128 * ((c.val + 15) % 8), 0] := by decide +kernel
theorem off9_8 : ∀ c : Dev nD, k0_off9 c 8#32 = ![0, 128 * ((c.val + 8 - 0) % 8), 0] := by decide +kernel
theorem off9_7 : ∀ c : Dev nD, k0_off9 c 7#32 = ![0, 128 * ((c.val + 8 - 1) % 8), 0] := by decide +kernel
theorem off9_6 : ∀ c : Dev nD, k0_off9 c 6#32 = ![0, 128 * ((c.val + 8 - 2) % 8), 0] := by decide +kernel
theorem off9_5 : ∀ c : Dev nD, k0_off9 c 5#32 = ![0, 128 * ((c.val + 8 - 3) % 8), 0] := by decide +kernel
theorem off9_4 : ∀ c : Dev nD, k0_off9 c 4#32 = ![0, 128 * ((c.val + 8 - 4) % 8), 0] := by decide +kernel
theorem off9_3 : ∀ c : Dev nD, k0_off9 c 3#32 = ![0, 128 * ((c.val + 8 - 5) % 8), 0] := by decide +kernel
theorem off9_2 : ∀ c : Dev nD, k0_off9 c 2#32 = ![0, 128 * ((c.val + 8 - 6) % 8), 0] := by decide +kernel

/-! ## What is known after one more slot is given back -/

theorem cp_0 (c : Dev nD) : iprop(CP (F := F) c 0 ∗ released ES (c, (0 : Fin 4)) 2 ∗ RE c 42 1) ⊢ CP c 1 := CPv_n0 c
theorem cp_1 (c : Dev nD) : iprop(CP (F := F) c 1 ∗ released ES (c, (1 : Fin 4)) 2 ∗ RE c 43 1) ⊢ CP c 2 := CPv_n1 c
theorem cp_2 (c : Dev nD) : iprop(CP (F := F) c 2 ∗ released ES (c, (0 : Fin 4)) 3 ∗ RE c 42 2) ⊢ CP c 3 := CPv_n0 c
theorem cp_3 (c : Dev nD) : iprop(CP (F := F) c 3 ∗ released ES (c, (1 : Fin 4)) 3 ∗ RE c 43 2) ⊢ CP c 4 := CPv_n1 c
theorem cp_4 (c : Dev nD) : iprop(CP (F := F) c 4 ∗ released ES (c, (0 : Fin 4)) 4 ∗ RE c 42 3) ⊢ CP c 5 := CPv_n0 c
theorem cp_5 (c : Dev nD) : iprop(CP (F := F) c 5 ∗ released ES (c, (2 : Fin 4)) 2 ∗ RE c 46 1 ∗ RE c 49 1) ⊢ CP c 6 := CPv_r0 c
theorem cp_6 (c : Dev nD) : iprop(CP (F := F) c 6 ∗ released ES (c, (3 : Fin 4)) 2 ∗ RE c 47 1 ∗ RE c 49 1) ⊢ CP c 7 := CPv_r1 c
theorem cp_7 (c : Dev nD) : iprop(CP (F := F) c 7 ∗ released ES (c, (2 : Fin 4)) 3 ∗ RE c 46 2 ∗ RE c 49 1) ⊢ CP c 8 := CPv_r0 c
theorem cp_8 (c : Dev nD) : iprop(CP (F := F) c 8 ∗ released ES (c, (3 : Fin 4)) 3 ∗ RE c 47 2 ∗ RE c 49 1) ⊢ CP c 9 := CPv_r1 c
theorem cp_9 (c : Dev nD) : iprop(CP (F := F) c 9 ∗ released ES (c, (2 : Fin 4)) 4 ∗ RE c 46 3 ∗ RE c 49 1) ⊢ CP c 10 := CPv_r0 c
theorem cp_10 (c : Dev nD) : iprop(CP (F := F) c 10 ∗ RE c 46 5 ∗ RE c 47 3) ⊢ CP c 11 := by
  have h1 : iprop(CP (F := F) c 10 ∗ RE c 46 5) ⊢ CPv c 4 3 4 3 3 2 5 2 1 := CPv_g0 c
  have h2 : iprop(CPv (F := F) c 4 3 4 3 3 2 5 2 1 ∗ RE c 47 3) ⊢ CP c 11 := CPv_g1 c
  iintro ⟨H1, H2, H3⟩
  iapply h2
  isplitl [H1 H2]
  · iapply h1
    isplitl [H1]; · iexact H1
    iexact H2
  iexact H3
theorem cp_11 (c : Dev nD) : iprop(CP (F := F) c 11 ∗ RE c 47 4) ⊢ CP c 12 := CPv_g1 c
theorem cp_12 (c : Dev nD) : iprop(CP (F := F) c 12 ∗ RE c 46 6) ⊢ CP c 13 := CPv_g0 c
theorem cp_13 (c : Dev nD) : iprop(CP (F := F) c 13 ∗ RE c 47 5) ⊢ CP c 14 := CPv_g1 c
theorem cp_14 (c : Dev nD) : iprop(CP (F := F) c 14 ∗ RE c 46 7) ⊢ CP c 15 := CPv_g0 c

/-- Block `h` is passed on in the last ring, round `R`. -/
theorem ag0_send (c : Dev nD) {dn : Dev nD} {sS sR : DmaSem sig} {off : Fin 3 → ℕ} {inb : ∀ a, off a + S1x128x1024.size a ≤ S1x1024x1024.size a}
    {hu : ∀ a, (Rect.unit (s := S1x1024x1024) off S1x128x1024.size inb).stride a = 1} {hq : S1x128x1024.Squeezes S128x1024}
    {hsc : ((((oM.slice (Rect.unit (s := S1x1024x1024) off S1x128x1024.size inb) hu).squeeze S128x1024 hq : Memref sig .tc _ _ _)) : Memref sig (Dev.tc dn : Thread nD τ).2.kind _ _ _).view.ref.isScScratch = false}
    {hsrc : ((oM.slice (Rect.unit (s := S1x1024x1024) off S1x128x1024.size inb) hu).squeeze S128x1024 hq).view.WordExact}
    {hdst : ((oM.slice (Rect.unit (s := S1x1024x1024) off S1x128x1024.size inb) hu).squeeze S128x1024 hq).view.WordExact}
    {hsem : DmaTarget.Typed .vmem (.dma sR) (.remote (Dev.tc dn : Thread nD τ) ((oM.slice (Rect.unit (s := S1x1024x1024) off S1x128x1024.size inb) hu).squeeze S128x1024 hq) (.dma sS) hsc)}
    {α : Type} {Q : α → sProp 𝕄} {k : PUnit → Prog (TpuEff nD τ sig (Elt F) Λ₀ .tc) α} (n t R h ix : ℕ)
    (ho : off = ![0, 128 * ((c.val + 8 - h) % 8), 0]) (hn : dn = sh c 1) (hS : semOf 44 = .dma sS) (hR : semOf 46 = .dma sR)
    (he : evT.drop n = evR0 R ix :: evT.drop (n + 1)) (ht : tkT.drop t = own (semOf 44) R :: tkT.drop (t + 1))
    (hR4 : R < 8) (hb : 4 ≤ R) (hh : h = 2 * (R - 4) + 0) (h7 : h < 8) :
    ctx m κ ι ⊢ iprop(OB c n -∗ TK c t -∗ RE c 44 R -∗ RE (sh c 1) 46 R -∗ agPay m c (c.val + 8 - h) -∗ pa (oBlk ((c.val + 8 - h) % 8) (m8 _)) (sh c 1)
      -∗ (OB c (n + 1) -∗ TK c (t + 1) -∗ CD c 44 0 16384 -∗ WP c (k ⟨⟩) Q)
      -∗ WP c (.op (.enqueueDma ((oM.slice (Rect.unit (s := S1x1024x1024) off S1x128x1024.size inb) hu).squeeze S128x1024 hq)
        (.remote (Dev.tc dn : Thread nD τ) ((oM.slice (Rect.unit (s := S1x1024x1024) off S1x128x1024.size inb) hu).squeeze S128x1024 hq) (.dma sS) hsc) (.dma sR) hsrc hdst hsem) k) Q) := by
  subst ho
  have e1 : c.val + 8 - 2 * (R - 4) = c.val + 8 - h := by omega
  have e2 : ((sh c 1).val + 7 - 2 * (R - 4)) % 8 = (c.val + 8 - h) % 8 := by
    show ((c.val + 1) % 8 + 7 - 2 * (R - 4)) % 8 = _
    have := c.isLt
    omega
  have hp2 : ∀ n' : ℕ, n' % 8 = (c.val + 8 - h) % 8 → pt (oBlk ((c.val + 8 - h) % 8) (m8 _)) (sh c 1) (OUT m) ⊢ agPay m (sh c 1) n' := by
    intro n' hn'
    unfold agPay
    have : ∀ a b : ℕ, ∀ (ha : a < 8) (hb : b < 8), a = b → pt (oBlk b hb) (sh c 1) (OUT m) ⊢ pt (oBlk a ha) (sh c 1) (OUT m) := by
      intro a b ha hb hab
      subst hab
      exact Entails.refl _
    exact this _ _ _ _ hn'
  have hw : ∀ fd, pt (oBlk ((c.val + 8 - h) % 8) (m8 _)) (sh c 1) ((oBlk ((c.val + 8 - h) % 8) (m8 _)).view.write (Elt F) fd ((oBlk ((c.val + 8 - h) % 8) (m8 _)).view.read (Elt F) (OUT m)) Finset.univ)
      = pt (oBlk ((c.val + 8 - h) % 8) (m8 _)) (sh c 1) (OUT m) := by
    intro fd
    refine pointsTo_congr fun i hi => ?_
    rw [View.write_read_eq_piecewise, Finset.piecewise_eq_of_mem _ _ _ (by rw [View.setOn_univ]; exact hi)]
  iintro #Hctx HO HT #Hr #Hr2 Hsrc Hsl Hk
  ihave HT := (TK_pop c t _ ht) $$ HT
  icases HT with ⟨Ht, HT⟩
  ihave Ht := (show tkE (F := F) c (own (semOf 44) R) ⊢ dutyTok ER (cl c (semOf 44)) R 0 from Entails.refl _) $$ Ht
  unfold pa slot
  icases Hsl with ⟨%fd, Hsl⟩
  ihave Hsrc := (show agPay m c (c.val + 8 - h) ⊢ pt (oBlk ((c.val + 8 - h) % 8) (m8 _)) c (OUT m) from Entails.refl _) $$ Hsrc
  iapply (st_send m κ ι c 44 46 (src := oBlk ((c.val + 8 - h) % 8) (m8 _)) (dst := oBlk ((c.val + 8 - h) % 8) (m8 _)) fullShare (OUT m) 1 R R 0 ix 16384 fd (evT.drop (n + 1)) hn hS hR he rfl
    (show 0 ∈ (if R < 8 then ({0} : Finset ℕ) else ∅) by rw [if_pos hR4]; exact Finset.mem_singleton_self 0)
    (show 0 ∈ (if R < 8 then ({0} : Finset ℕ) else ∅) by rw [if_pos hR4]; exact Finset.mem_singleton_self 0) rfl rfl
    (show _ ⊢ (if R < 4 then iprop(pa (rsSt 0 (by decide)) c) else agPay m c (c.val + 8 - 2 * (R - 4))) by
      rw [if_neg (by omega), e1]
      exact Entails.refl _) (by
      rw [hw fd]
      show _ ⊢ (if R < 4 then rsPay0 m (sh c 1) R else agPay m (sh c 1) ((sh c 1).val + 7 - 2 * (R - 4)))
      rw [if_neg (by omega)]
      exact hp2 _ e2)) $$ Hctx HO Ht Hr Hr2 Hsrc Hsl
  iintro HO Hc
  iapply Hk $$ HO HT Hc

theorem ag0_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R h ix : ℕ) {α : Type} {Q : α → sProp 𝕄} {k : PUnit → Prog (TpuEff nD τ sig (Elt F) Λ₀ .tc) α}
    (hn : crT.drop n = ⟨semOf 46, ix, 16384⟩ :: crT.drop (n + 1)) (hR : R < 8) (hb : 4 ≤ R) (hh : h = 2 * (R - 4) + 1) (h7 : h < 8)
    (hs : semOf 46 = .dma sem) (hN : dst.view.dmaCredit = 16384) (hl : lvOk ix (evT.drop o) = true) :
    ctx m κ ι ⊢ iprop(CR c n -∗ OB c o -∗ AT c 46 R -∗ (CR c (n + 1) -∗ OB c o -∗ AT c 46 (R + 1) -∗ RE c 46 (R + 1)
        -∗ agPay m c (c.val + 8 - h) -∗ WP c (k ⟨⟩) Q)
      -∗ WP c (.op (.waitDma2 sem src dst hsrc hdst) k) Q) := by
  have e1 : c.val + 7 - 2 * (R - 4) = c.val + 8 - h := by omega
  exact st_recv m κ ι c 46 n ix 16384 R hn hs hN (show (if R < 8 then ({0} : Finset ℕ) else ∅) = {0} from if_pos hR) rfl hl (agPay m c (c.val + 8 - h))
    (show (if R < 4 then rsPay0 m c R else agPay m c (c.val + 7 - 2 * (R - 4))) ⊢ _ by rw [if_neg (by omega), e1])

theorem ag0_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R h : ℕ) {α : Type} {Q : α → sProp 𝕄} {k : PUnit → Prog (TpuEff nD τ sig (Elt F) Λ₀ .tc) α} (hR : R < 8) (hb : 4 ≤ R) (hh : h = 2 * (R - 4) + 0) (h7 : h < 8)
    (hs : semOf 44 = .dma sem) (hN : dst.view.dmaCredit = 16384) (hl : lvOk 0 (evT.drop o) = true) :
    ctx m κ ι ⊢ iprop(CD c 44 0 16384 -∗ OB c o -∗ AT c 44 R -∗ (OB c o -∗ AT c 44 (R + 1) -∗ RE c 44 (R + 1) -∗ agPay m c (c.val + 8 - h) -∗ WP c (k ⟨⟩) Q)
      -∗ WP c (.op (.waitDma2 sem src dst hsrc hdst) k) Q) := by
  have e1 : c.val + 8 - 2 * (R - 4) = c.val + 8 - h := by omega
  exact st_waitD m κ ι c 44 0 16384 R hs hN (show (if R < 8 then ({0} : Finset ℕ) else ∅) = {0} from if_pos hR) rfl hl (agPay m c (c.val + 8 - h))
    (show (if R < 4 then iprop(pa (rsSt 0 (by decide)) c) else agPay m c (c.val + 8 - 2 * (R - 4))) ⊢ _ by rw [if_neg (by omega), e1])

/-- Block `h` is passed on in the last ring, round `R`. -/
theorem ag1_send (c : Dev nD) {dn : Dev nD} {sS sR : DmaSem sig} {off : Fin 3 → ℕ} {inb : ∀ a, off a + S1x128x1024.size a ≤ S1x1024x1024.size a}
    {hu : ∀ a, (Rect.unit (s := S1x1024x1024) off S1x128x1024.size inb).stride a = 1} {hq : S1x128x1024.Squeezes S128x1024}
    {hsc : ((((oM.slice (Rect.unit (s := S1x1024x1024) off S1x128x1024.size inb) hu).squeeze S128x1024 hq : Memref sig .tc _ _ _)) : Memref sig (Dev.tc dn : Thread nD τ).2.kind _ _ _).view.ref.isScScratch = false}
    {hsrc : ((oM.slice (Rect.unit (s := S1x1024x1024) off S1x128x1024.size inb) hu).squeeze S128x1024 hq).view.WordExact}
    {hdst : ((oM.slice (Rect.unit (s := S1x1024x1024) off S1x128x1024.size inb) hu).squeeze S128x1024 hq).view.WordExact}
    {hsem : DmaTarget.Typed .vmem (.dma sR) (.remote (Dev.tc dn : Thread nD τ) ((oM.slice (Rect.unit (s := S1x1024x1024) off S1x128x1024.size inb) hu).squeeze S128x1024 hq) (.dma sS) hsc)}
    {α : Type} {Q : α → sProp 𝕄} {k : PUnit → Prog (TpuEff nD τ sig (Elt F) Λ₀ .tc) α} (n t R h ix : ℕ)
    (ho : off = ![0, 128 * ((c.val + 8 - h) % 8), 0]) (hn : dn = sh c 1) (hS : semOf 45 = .dma sS) (hR : semOf 47 = .dma sR)
    (he : evT.drop n = evR1 R ix :: evT.drop (n + 1)) (ht : tkT.drop t = own (semOf 45) R :: tkT.drop (t + 1))
    (hR4 : R < 6) (hb : 3 ≤ R) (hh : h = 2 * (R - 3) + 1) (h7 : h < 8) :
    ctx m κ ι ⊢ iprop(OB c n -∗ TK c t -∗ RE c 45 R -∗ RE (sh c 1) 47 R -∗ agPay m c (c.val + 8 - h) -∗ pa (oBlk ((c.val + 8 - h) % 8) (m8 _)) (sh c 1)
      -∗ (OB c (n + 1) -∗ TK c (t + 1) -∗ CD c 45 0 16384 -∗ WP c (k ⟨⟩) Q)
      -∗ WP c (.op (.enqueueDma ((oM.slice (Rect.unit (s := S1x1024x1024) off S1x128x1024.size inb) hu).squeeze S128x1024 hq)
        (.remote (Dev.tc dn : Thread nD τ) ((oM.slice (Rect.unit (s := S1x1024x1024) off S1x128x1024.size inb) hu).squeeze S128x1024 hq) (.dma sS) hsc) (.dma sR) hsrc hdst hsem) k) Q) := by
  subst ho
  have e1 : c.val + 7 - 2 * (R - 3) = c.val + 8 - h := by omega
  have e2 : ((sh c 1).val + 6 - 2 * (R - 3)) % 8 = (c.val + 8 - h) % 8 := by
    show ((c.val + 1) % 8 + 6 - 2 * (R - 3)) % 8 = _
    have := c.isLt
    omega
  have hp2 : ∀ n' : ℕ, n' % 8 = (c.val + 8 - h) % 8 → pt (oBlk ((c.val + 8 - h) % 8) (m8 _)) (sh c 1) (OUT m) ⊢ agPay m (sh c 1) n' := by
    intro n' hn'
    unfold agPay
    have : ∀ a b : ℕ, ∀ (ha : a < 8) (hb : b < 8), a = b → pt (oBlk b hb) (sh c 1) (OUT m) ⊢ pt (oBlk a ha) (sh c 1) (OUT m) := by
      intro a b ha hb hab
      subst hab
      exact Entails.refl _
    exact this _ _ _ _ hn'
  have hw : ∀ fd, pt (oBlk ((c.val + 8 - h) % 8) (m8 _)) (sh c 1) ((oBlk ((c.val + 8 - h) % 8) (m8 _)).view.write (Elt F) fd ((oBlk ((c.val + 8 - h) % 8) (m8 _)).view.read (Elt F) (OUT m)) Finset.univ)
      = pt (oBlk ((c.val + 8 - h) % 8) (m8 _)) (sh c 1) (OUT m) := by
    intro fd
    refine pointsTo_congr fun i hi => ?_
    rw [View.write_read_eq_piecewise, Finset.piecewise_eq_of_mem _ _ _ (by rw [View.setOn_univ]; exact hi)]
  iintro #Hctx HO HT #Hr #Hr2 Hsrc Hsl Hk
  ihave HT := (TK_pop c t _ ht) $$ HT
  icases HT with ⟨Ht, HT⟩
  ihave Ht := (show tkE (F := F) c (own (semOf 45) R) ⊢ dutyTok ER (cl c (semOf 45)) R 0 from Entails.refl _) $$ Ht
  unfold pa slot
  icases Hsl with ⟨%fd, Hsl⟩
  ihave Hsrc := (show agPay m c (c.val + 8 - h) ⊢ pt (oBlk ((c.val + 8 - h) % 8) (m8 _)) c (OUT m) from Entails.refl _) $$ Hsrc
  iapply (st_send m κ ι c 45 47 (src := oBlk ((c.val + 8 - h) % 8) (m8 _)) (dst := oBlk ((c.val + 8 - h) % 8) (m8 _)) fullShare (OUT m) 1 R R 0 ix 16384 fd (evT.drop (n + 1)) hn hS hR he rfl
    (show 0 ∈ (if R < 6 then ({0} : Finset ℕ) else ∅) by rw [if_pos hR4]; exact Finset.mem_singleton_self 0)
    (show 0 ∈ (if R < 6 then ({0} : Finset ℕ) else ∅) by rw [if_pos hR4]; exact Finset.mem_singleton_self 0) rfl rfl
    (show _ ⊢ (if R < 3 then iprop(pa (rsSt 1 (by decide)) c) else agPay m c (c.val + 7 - 2 * (R - 3))) by
      rw [if_neg (by omega), e1]
      exact Entails.refl _) (by
      rw [hw fd]
      show _ ⊢ (if R < 3 then rsPay1 m (sh c 1) R else agPay m (sh c 1) ((sh c 1).val + 6 - 2 * (R - 3)))
      rw [if_neg (by omega)]
      exact hp2 _ e2)) $$ Hctx HO Ht Hr Hr2 Hsrc Hsl
  iintro HO Hc
  iapply Hk $$ HO HT Hc

theorem ag1_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n o R h ix : ℕ) {α : Type} {Q : α → sProp 𝕄} {k : PUnit → Prog (TpuEff nD τ sig (Elt F) Λ₀ .tc) α}
    (hn : crT.drop n = ⟨semOf 47, ix, 16384⟩ :: crT.drop (n + 1)) (hR : R < 6) (hb : 3 ≤ R) (hh : h = 2 * (R - 3) + 2) (h7 : h < 8)
    (hs : semOf 47 = .dma sem) (hN : dst.view.dmaCredit = 16384) (hl : lvOk ix (evT.drop o) = true) :
    ctx m κ ι ⊢ iprop(CR c n -∗ OB c o -∗ AT c 47 R -∗ (CR c (n + 1) -∗ OB c o -∗ AT c 47 (R + 1) -∗ RE c 47 (R + 1)
        -∗ agPay m c (c.val + 8 - h) -∗ WP c (k ⟨⟩) Q)
      -∗ WP c (.op (.waitDma2 sem src dst hsrc hdst) k) Q) := by
  have e1 : c.val + 6 - 2 * (R - 3) = c.val + 8 - h := by omega
  exact st_recv m κ ι c 47 n ix 16384 R hn hs hN (show (if R < 6 then ({0} : Finset ℕ) else ∅) = {0} from if_pos hR) rfl hl (agPay m c (c.val + 8 - h))
    (show (if R < 3 then rsPay1 m c R else agPay m c (c.val + 6 - 2 * (R - 3))) ⊢ _ by rw [if_neg (by omega), e1])

theorem ag1_back (c : Dev nD) {sem : DmaSem sig} {sp sp' : Space} {S S' : Shape} {e e' : EltTy} {src : Memref sig .tc sp' S' e'}
    {dst : Memref sig .tc sp S e} {hsrc : src.view.WordExact} {hdst : dst.view.WordExact}
    (o R h : ℕ) {α : Type} {Q : α → sProp 𝕄} {k : PUnit → Prog (TpuEff nD τ sig (Elt F) Λ₀ .tc) α} (hR : R < 6) (hb : 3 ≤ R) (hh : h = 2 * (R - 3) + 1) (h7 : h < 8)
    (hs : semOf 45 = .dma sem) (hN : dst.view.dmaCredit = 16384) (hl : lvOk 0 (evT.drop o) = true) :
    ctx m κ ι ⊢ iprop(CD c 45 0 16384 -∗ OB c o -∗ AT c 45 R -∗ (OB c o -∗ AT c 45 (R + 1) -∗ RE c 45 (R + 1) -∗ agPay m c (c.val + 8 - h) -∗ WP c (k ⟨⟩) Q)
      -∗ WP c (.op (.waitDma2 sem src dst hsrc hdst) k) Q) := by
  have e1 : c.val + 7 - 2 * (R - 3) = c.val + 8 - h := by omega
  exact st_waitD m κ ι c 45 0 16384 R hs hN (show (if R < 6 then ({0} : Finset ℕ) else ∅) = {0} from if_pos hR) rfl hl (agPay m c (c.val + 8 - h))
    (show (if R < 3 then iprop(pa (rsSt 1 (by decide)) c) else agPay m c (c.val + 7 - 2 * (R - 3))) ⊢ _ by rw [if_neg (by omega), e1])

end Cert.KernelIdeal.Pf
end
-- ==== Proof.OutSteps.lean ====
module

public import proofs.«01_k».proof.Proof.Moves

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

theorem CP_b (y : Dev nD) (j : ℕ) (h : 6 ≤ j) : CP (F := F) y j ⊢ RE y 49 1 := by
  iintro #H
  ihave #H := (CP_use y j) $$ H
  unfold CPv
  icases H with ⟨-, -, -, -, -, -, -, -, #H8⟩
  rw [if_neg (show ¬ j ≤ 5 by omega)]
  iexact H8
theorem CP_r0 (y : Dev nD) (j : ℕ) : CP (F := F) y j ⊢ RE y 46 (rr 0 j) := by
  iintro #H
  ihave #H := (CP_use y j) $$ H
  unfold CPv
  icases H with ⟨-, -, -, -, -, -, #H6, -, -⟩
  iexact H6
theorem CP_r1 (y : Dev nD) (j : ℕ) : CP (F := F) y j ⊢ RE y 47 (rr 1 j) := by
  iintro #H
  ihave #H := (CP_use y j) $$ H
  unfold CPv
  icases H with ⟨-, -, -, -, -, -, -, #H7, -⟩
  iexact H7

/-- The blocks handed over, one by one. -/
theorem mini_open (x y : Dev nD) : miniPay (F := F) x y ⊢ iprop(pa (oBlk ((x.val + 8 - 0) % 8) (m8 _)) y ∗ pa (oBlk ((x.val + 8 - 1) % 8) (m8 _)) y ∗ pa (oBlk ((x.val + 8 - 2) % 8) (m8 _)) y
    ∗ pa (oBlk ((x.val + 8 - 3) % 8) (m8 _)) y ∗ pa (oBlk ((x.val + 8 - 4) % 8) (m8 _)) y ∗ pa (oBlk ((x.val + 8 - 5) % 8) (m8 _)) y ∗ pa (oBlk ((x.val + 8 - 6) % 8) (m8 _)) y
    ∗ RE y 46 4 ∗ RE y 47 3) := by
  unfold miniPay
  rw [bigSep_eq_bigSepL_of_eq [0, 1, 2, 3, 4, 5, 6] (by decide) (by decide), bigSepL_cons, bigSepL_cons, bigSepL_cons, bigSepL_cons, bigSepL_cons, bigSepL_cons, bigSepL_singleton]
  have : ∀ a b d e f g h i : sProp 𝕄, iprop((a ∗ b ∗ d ∗ e ∗ f ∗ g ∗ h) ∗ i) ⊢ iprop(a ∗ b ∗ d ∗ e ∗ f ∗ g ∗ h ∗ i) := by
    intro a b d e f g h i
    iintro ⟨⟨H1, H2, H3, H4, H5, H6, H7⟩, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  exact this _ _ _ _ _ _ _ _

theorem mini_close (x y : Dev nD) : iprop((bigSep ({0, 1, 2, 3, 4, 5, 6} : Finset ℕ) fun h => pa (F := F) (oBlk ((x.val + 8 - h) % 8) (m8 _)) y)
    ∗ RE y 46 4 ∗ RE y 47 3) ⊢ if 1 = 1 then miniPay x y else iprop(emp) := by
  rw [if_pos rfl]
  exact Entails.refl _

/-! ## The device's own block of the result -/

theorem mem_oBlk {n : ℕ} {h : n < 8} {i : S1x1024x1024.Idx} (hi : i ∈ (oBlk n h).view.set) : (i 1).val / 128 = n := by
  have h1 : i ∈ (Rect.unit (s := S1x1024x1024) ![0, 128 * n, 0] S1x128x1024.size (inbOut n h)).set := by
    rw [show (oBlk n h).view.set = (oM.view.slice (Rect.unit (s := S1x1024x1024) ![0, 128 * n, 0] S1x128x1024.size (inbOut n h))).set from View.set_reshape _ _] at hi
    rw [← View.set_slice_whole cc0_stg3_0]
    exact hi
  have h2 := (Rect.mem_set_unit.1 h1) 1
  have h3 : 128 * n ≤ (i 1).val := h2.1
  have h4 : (i 1).val < 128 * n + 128 := h2.2
  omega

theorem own_out (c : Dev nD) : pt (oBlk c.val c.isLt) c (OW m c) ⊢ agPay m c (c.val + 8 - 0) := by
  have h1 : pt (oBlk c.val c.isLt) c (OW m c) = pt (oBlk c.val c.isLt) c (OUT m) := pointsTo_congr fun i hi => by
    unfold OUT
    have h2 := mem_oBlk hi
    have h3 : (⟨(i 1).val / 128, rowDev (i 1).isLt⟩ : Dev nD) = c := Fin.ext h2
    rw [h3]
  rw [h1]
  unfold agPay
  have h4 : ∀ a : ℕ, ∀ ha : a < 8, a = c.val → pt (oBlk c.val c.isLt) c (OUT m) ⊢ pt (oBlk a ha) c (OUT m) := by
    intro a ha hh
    subst hh
    exact Entails.refl _
  have h6 : c.val < 8 := c.isLt
  have h7 : (c.val + 8 - 0) % 8 = c.val := by clear h1 h4; omega
  exact h4 _ _ h7

theorem own_store (c : Dev nD) {off : Fin 3 → ℕ} {inb : ∀ a, off a + S1x128x1024.size a ≤ S1x1024x1024.size a} (ho : off = ![0, 128 * c.val, 0])
    {hx : (oM.access (Rect.unit (s := S1x1024x1024) off S1x128x1024.size inb)).Stores Finset.univ}
    {hm : (Finset.univ : Finset (Rect.unit (s := S1x1024x1024) off S1x128x1024.size inb).shape.Idx) = Finset.univ ∨ ∀ a, (Rect.unit (s := S1x1024x1024) off S1x128x1024.size inb).stride a = 1}
    {α : Type} {Q : α → sProp 𝕄} {k : PUnit → Prog (TpuEff nD τ sig (Elt F) Λ₀ .tc) α} :
    pa (oBlk c.val c.isLt) c ⊢ iprop((agPay m c (c.val + 8 - 0) -∗ WP c (k ⟨⟩) Q)
      -∗ WP c (.op (.store oM (Rect.unit (s := S1x1024x1024) off S1x128x1024.size inb) (k0_pay75 (rsR 0 z2 (SR m 6 (sh c 7))) (rdP c.val c.isLt (PA m c))) Finset.univ hx hm) k) Q) := by
  subst ho
  iintro H Hk
  iapply (st_storeA c (M := oM) (r := Rect.unit (s := S1x1024x1024) ![0, 128 * c.val, 0] S1x128x1024.size inb)
    ((oBlk c.val c.isLt).view.set) jk (View.set_reshape _ _).symm) $$ H
  iintro H
  ihave H := (show ((oM.access (Rect.unit (s := S1x1024x1024) ![0, 128 * c.val, 0] S1x128x1024.size inb)).loc (c : Thread nD τ) ↦[(oBlk c.val c.isLt).view.set]{fullShare}
    ((oM.access (Rect.unit (s := S1x1024x1024) ![0, 128 * c.val, 0] S1x128x1024.size inb)).write (Elt F) jk
      (k0_pay75 (rsR 0 z2 (SR m 6 (sh c 7))) (rdP c.val c.isLt (PA m c))) Finset.univ) : sProp 𝕄) ⊢ agPay m c (c.val + 8 - 0) from own_out m c) $$ H
  iapply Hk $$ H

theorem own_any (c : Dev nD) {off : Fin 3 → ℕ} {inb : ∀ a, off a + S1x128x1024.size a ≤ S1x1024x1024.size a} (ho : off = ![0, 128 * c.val, 0])
    {hl : oM.view.LoadsAt (Rect.unit (s := S1x1024x1024) off S1x128x1024.size inb).toLoadRect}
    {α : Type} {Q : α → sProp 𝕄} {k : (S1x128x1024.Idx → Elt F .f32) → Prog (TpuEff nD τ sig (Elt F) Λ₀ .tc) α} :
    pa (oBlk c.val c.isLt) c ⊢ iprop((∀ v, pa (oBlk c.val c.isLt) c -∗ WP c (k v) Q)
      -∗ WP c (.op (.load oM (Rect.unit (s := S1x1024x1024) off S1x128x1024.size inb).toLoadRect hl) k) Q) := by
  subst ho
  exact st_loadA c (M := oM) (r := Rect.unit (s := S1x1024x1024) ![0, 128 * c.val, 0] S1x128x1024.size inb) ((oBlk c.val c.isLt).view.set)
    (by rw [show (oBlk c.val c.isLt).view.set = (oM.access (Rect.unit (s := S1x1024x1024) ![0, 128 * c.val, 0] S1x128x1024.size inb)).set from View.set_reshape _ _])

end Cert.KernelIdeal.Pf
end
-- ==== Proof.Loads.lean ====
module

public import proofs.«01_k».proof.Proof.OutSteps

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

/-! ## Loads of the bands and of whole buffers -/

theorem ld_q (c : Dev nD) (n : ℕ) (h : n < 8) (f : Vec F S1024x1024 .f32) {off : Fin 2 → ℕ} (ho : off = ![32, 128 * n]) {inb : ∀ a, off a + S992x128.size a ≤ S1024x1024.size a}
    {hl : qM.view.LoadsAt (Rect.unit (s := S1024x1024) off S992x128.size inb).toLoadRect}
    {α : Type} {Q : α → sProp 𝕄} {k : (S992x128.Idx → Elt F .f32) → Prog (TpuEff nD τ sig (Elt F) Λ₀ .tc) α} :
    pt qM c f ⊢ iprop((pt qM c f -∗ WP c (k (rdQ n h f)) Q) -∗ WP c (.op (.load qM (Rect.unit (s := S1024x1024) off S992x128.size inb).toLoadRect hl) k) Q) := by
  subst ho
  exact st_load c (M := qM) (r := Rect.unit (s := S1024x1024) ![32, 128 * n] S992x128.size (inbQ n h)) qM.view.set fullShare f (rdQ n h f) (by rw [View.set_whole]; exact Finset.subset_univ _) rfl

theorem ld_kb (c : Dev nD) (n : ℕ) (h : n < 8) (f : Vec F S1152x8x128 .f32) {off : Fin 3 → ℕ} (ho : off = ![0, n, 0]) {inb : ∀ a, off a + S1152x1x128.size a ≤ S1152x8x128.size a}
    {hl : kbM.view.LoadsAt (Rect.unit (s := S1152x8x128) off S1152x1x128.size inb).toLoadRect}
    {α : Type} {Q : α → sProp 𝕄} {k : (S1152x1x128.Idx → Elt F .f32) → Prog (TpuEff nD τ sig (Elt F) Λ₀ .tc) α} :
    pt kbM c f ⊢ iprop((pt kbM c f -∗ WP c (k (rdKB n h f)) Q) -∗ WP c (.op (.load kbM (Rect.unit (s := S1152x8x128) off S1152x1x128.size inb).toLoadRect hl) k) Q) := by
  subst ho
  exact st_load c (M := kbM) (r := Rect.unit (s := S1152x8x128) ![0, n, 0] S1152x1x128.size (inbB n h)) kbM.view.set fullShare f (rdKB n h f) (by rw [View.set_whole]; exact Finset.subset_univ _) rfl

theorem ld_vb (c : Dev nD) (n : ℕ) (h : n < 8) (f : Vec F S1152x8x128 .f32) {off : Fin 3 → ℕ} (ho : off = ![0, n, 0]) {inb : ∀ a, off a + S1152x1x128.size a ≤ S1152x8x128.size a}
    {hl : vbM.view.LoadsAt (Rect.unit (s := S1152x8x128) off S1152x1x128.size inb).toLoadRect}
    {α : Type} {Q : α → sProp 𝕄} {k : (S1152x1x128.Idx → Elt F .f32) → Prog (TpuEff nD τ sig (Elt F) Λ₀ .tc) α} :
    pt vbM c f ⊢ iprop((pt vbM c f -∗ WP c (k (rdVB n h f)) Q) -∗ WP c (.op (.load vbM (Rect.unit (s := S1152x8x128) off S1152x1x128.size inb).toLoadRect hl) k) Q) := by
  subst ho
  exact st_load c (M := vbM) (r := Rect.unit (s := S1152x8x128) ![0, n, 0] S1152x1x128.size (inbB n h)) vbM.view.set fullShare f (rdVB n h f) (by rw [View.set_whole]; exact Finset.subset_univ _) rfl

theorem ld_wo (c : Dev nD) (n : ℕ) (h : n < 8) (f : Vec F S1024x1024 .f32) {off : Fin 2 → ℕ} (ho : off = ![128 * n, 0]) {inb : ∀ a, off a + S128x1024.size a ≤ S1024x1024.size a}
    {hl : woM.view.LoadsAt (Rect.unit (s := S1024x1024) off S128x1024.size inb).toLoadRect}
    {α : Type} {Q : α → sProp 𝕄} {k : (S128x1024.Idx → Elt F .f32) → Prog (TpuEff nD τ sig (Elt F) Λ₀ .tc) α} :
    pt woM c f ⊢ iprop((pt woM c f -∗ WP c (k (rdWo n h f)) Q) -∗ WP c (.op (.load woM (Rect.unit (s := S1024x1024) off S128x1024.size inb).toLoadRect hl) k) Q) := by
  subst ho
  exact st_load c (M := woM) (r := Rect.unit (s := S1024x1024) ![128 * n, 0] S128x1024.size (inbPa n h)) woM.view.set fullShare f (rdWo n h f) (by rw [View.set_whole]; exact Finset.subset_univ _) rfl

theorem lw_x (c : Dev nD) (q : PosShare TreeShare) (f : Vec F S1x1024x1024 .f32) {inb : ∀ a, (![0, 0, 0] : Fin 3 → ℕ) a + S1x1024x1024.size a ≤ S1x1024x1024.size a}
    {hl : xM.view.LoadsAt (Rect.unit (s := S1x1024x1024) ![0, 0, 0] S1x1024x1024.size inb).toLoadRect}
    {α : Type} {Q : α → sProp 𝕄} {k : (S1x1024x1024.Idx → Elt F .f32) → Prog (TpuEff nD τ sig (Elt F) Λ₀ .tc) α} :
    (xM.view.loc (c : Thread nD τ) ↦[xM.view.set]{q} f) ⊢ iprop(((xM.view.loc (c : Thread nD τ) ↦[xM.view.set]{q} f) -∗ WP c (k f) Q) -∗ WP c (.op (.load xM (Rect.unit (s := S1x1024x1024) ![0, 0, 0] S1x1024x1024.size inb).toLoadRect hl) k) Q) := by
  exact st_load c (M := xM) (r := Rect.unit (s := S1x1024x1024) ![0, 0, 0] S1x1024x1024.size inb) xM.view.set q f f (by rw [View.set_whole]; exact Finset.subset_univ _)
    (Memref.read_access_unit_zero (Elt F) cc0_stg0_0 (by funext a; fin_cases a <;> rfl) inb f)

theorem lw_wq (c : Dev nD) (q : PosShare TreeShare) (f : Vec F S1024x1024 .f32) {inb : ∀ a, (![0, 0] : Fin 2 → ℕ) a + S1024x1024.size a ≤ S1024x1024.size a}
    {hl : wqM.view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    (wqM.view.loc (c : Thread nD τ) ↦[wqM.view.set]{q} f) ⊢ iprop(((wqM.view.loc (c : Thread nD τ) ↦[wqM.view.set]{q} f) -∗ WP c (k f) Q) -∗ WP c (.op (.load wqM (Rect.unit (s := S1024x1024) ![0, 0] S1024x1024.size inb).toLoadRect hl) k) Q) := by
  exact st_load c (M := wqM) (r := Rect.unit (s := S1024x1024) ![0, 0] S1024x1024.size inb) wqM.view.set q f f (by rw [View.set_whole]; exact Finset.subset_univ _)
    (Memref.read_access_unit_zero (Elt F) cc0_stg1_0 (by funext a; fin_cases a <;> rfl) inb f)

theorem la_q (c : Dev nD) {inb : ∀ a, (![0, 0] : Fin 2 → ℕ) a + S1024x1024.size a ≤ S1024x1024.size a}
    {hl : qM.view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    pa qM c ⊢ iprop((∀ v, pa qM c -∗ WP c (k v) Q) -∗ WP c (.op (.load qM (Rect.unit (s := S1024x1024) ![0, 0] S1024x1024.size inb).toLoadRect hl) k) Q) :=
  st_loadA c (M := qM) (r := Rect.unit (s := S1024x1024) ![0, 0] S1024x1024.size inb) qM.view.set (by rw [View.set_whole]; exact Finset.subset_univ _)

theorem sw_q (c : Dev nD) (w : Vec F S1024x1024 .f32) {inb : ∀ a, (![0, 0] : Fin 2 → ℕ) a + S1024x1024.size a ≤ S1024x1024.size a}
    {hx : (qM.access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1}
    {α : Type} {Q : α → sProp 𝕄} {k : PUnit → Prog (TpuEff nD τ sig (Elt F) Λ₀ .tc) α} :
    pa qM c ⊢ iprop((pt qM c w -∗ WP c (k ⟨⟩) Q) -∗ WP c (.op (.store qM (Rect.unit (s := S1024x1024) ![0, 0] S1024x1024.size inb) w Finset.univ hx hm) k) Q) := by
  have hz : (![0, 0] : Fin 2 → ℕ) = fun _ => 0 := by funext a; fin_cases a <;> rfl
  have hu : qM.view.set = (Finset.univ : Finset S1024x1024.Idx) := View.set_whole _
  have hs : (qM.access (Rect.unit (s := S1024x1024) ![0, 0] S1024x1024.size inb)).set = qM.view.set := by
    rw [hu]
    refine (View.set_slice_whole cc0_scratch0 _).trans ?_
    exact Finset.eq_univ_of_forall fun i => (Rect.mem_set_unit).2 fun a => ⟨by rw [hz]; exact Nat.zero_le _, by rw [hz]; show (i a).val < 0 + S1024x1024.size a; rw [Nat.zero_add]; exact (i a).isLt⟩
  have hw : (qM.access (Rect.unit (s := S1024x1024) ![0, 0] S1024x1024.size inb)).write (Elt F) jk w Finset.univ = w := Memref.write_access_unit_zero_univ (Elt F) cc0_scratch0 hz inb jk w
  iintro H Hk
  iapply (st_storeA c (M := qM) (r := Rect.unit (s := S1024x1024) ![0, 0] S1024x1024.size inb) qM.view.set jk hs) $$ H
  iintro H
  iapply Hk
  have hh : ((qM.access (Rect.unit (s := S1024x1024) ![0, 0] S1024x1024.size inb)).loc (c : Thread nD τ) ↦[qM.view.set]{fullShare} ((qM.access (Rect.unit (s := S1024x1024) ![0, 0] S1024x1024.size inb)).write (Elt F) jk w Finset.univ) : sProp 𝕄)
      ⊢ pt qM c w := by rw [hw]
  iapply hh $$ H

theorem la_pa (c : Dev nD) {inb : ∀ a, (![0, 0] : Fin 2 → ℕ) a + S1024x1024.size a ≤ S1024x1024.size a}
    {hl : paM.view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    pa paM c ⊢ iprop((∀ v, pa paM c -∗ WP c (k v) Q) -∗ WP c (.op (.load paM (Rect.unit (s := S1024x1024) ![0, 0] S1024x1024.size inb).toLoadRect hl) k) Q) :=
  st_loadA c (M := paM) (r := Rect.unit (s := S1024x1024) ![0, 0] S1024x1024.size inb) paM.view.set (by rw [View.set_whole]; exact Finset.subset_univ _)

theorem sw_pa (c : Dev nD) (w : Vec F S1024x1024 .f32) {inb : ∀ a, (![0, 0] : Fin 2 → ℕ) a + S1024x1024.size a ≤ S1024x1024.size a}
    {hx : (paM.access (Rect.unit (s := S1024x1024) ![0, 0] S1024x1024.size inb)).Stores Finset.univ}
    {hm : (Finset.univ : Finset (Rect.unit (s := S1024x1024) ![0, 0] S1024x1024.size inb).shape.Idx) = Finset.univ ∨ ∀ a, (Rect.unit (s := S1024x1024) ![0, 0] S1024x1024.size inb).stride a = 1}
    {α : Type} {Q : α → sProp 𝕄} {k : PUnit → Prog (TpuEff nD τ sig (Elt F) Λ₀ .tc) α} :
    pa paM c ⊢ iprop((pt paM c w -∗ WP c (k ⟨⟩) Q) -∗ WP c (.op (.store paM (Rect.unit (s := S1024x1024) ![0, 0] S1024x1024.size inb) w Finset.univ hx hm) k) Q) := by
  have hz : (![0, 0] : Fin 2 → ℕ) = fun _ => 0 := by funext a; fin_cases a <;> rfl
  have hu : paM.view.set = (Finset.univ : Finset S1024x1024.Idx) := View.set_whole _
  have hs : (paM.access (Rect.unit (s := S1024x1024) ![0, 0] S1024x1024.size inb)).set = paM.view.set := by
    rw [hu]
    refine (View.set_slice_whole cc0_scratch9 _).trans ?_
    exact Finset.eq_univ_of_forall fun i => (Rect.mem_set_unit).2 fun a => ⟨by rw [hz]; exact Nat.zero_le _, by rw [hz]; show (i a).val < 0 + S1024x1024.size a; rw [Nat.zero_add]; exact (i a).isLt⟩
  have hw : (paM.access (Rect.unit (s := S1024x1024) ![0, 0] S1024x1024.size inb)).write (Elt F) jk w Finset.univ = w := Memref.write_access_unit_zero_univ (Elt F) cc0_scratch9 hz inb jk w
  iintro H Hk
  iapply (st_storeA c (M := paM) (r := Rect.unit (s := S1024x1024) ![0, 0] S1024x1024.size inb) paM.view.set jk hs) $$ H
  iintro H
  iapply Hk
  have hh : ((paM.access (Rect.unit (s := S1024x1024) ![0, 0] S1024x1024.size inb)).loc (c : Thread nD τ) ↦[paM.view.set]{fullShare} ((paM.access (Rect.unit (s := S1024x1024) ![0, 0] S1024x1024.size inb)).write (Elt F) jk w Finset.univ) : sProp 𝕄)
      ⊢ pt paM c w := by rw [hw]
  iapply hh $$ H

theorem la_nd (c : Dev nD) {inb : ∀ a, (![0, 0, 0] : Fin 3 → ℕ) a + S64x33x128.size a ≤ S64x33x128.size a}
    {hl : ndM.view.LoadsAt (Rect.unit (s := S64x33x128) ![0, 0, 0] S64x33x128.size inb).toLoadRect}
    {α : Type} {Q : α → sProp 𝕄} {k : (S64x33x128.Idx → Elt F .f32) → Prog (TpuEff nD τ sig (Elt F) Λ₀ .tc) α} :
    pa ndM c ⊢ iprop((∀ v, pa ndM c -∗ WP c (k v) Q) -∗ WP c (.op (.load ndM (Rect.unit (s := S64x33x128) ![0, 0, 0] S64x33x128.size inb).toLoadRect hl) k) Q) :=
  st_loadA c (M := ndM) (r := Rect.unit (s := S64x33x128) ![0, 0, 0] S64x33x128.size inb) ndM.view.set (by rw [View.set_whole]; exact Finset.subset_univ _)

theorem sw_nd (c : Dev nD) (w : Vec F S64x33x128 .f32) {inb : ∀ a, (![0, 0, 0] : Fin 3 → ℕ) a + S64x33x128.size a ≤ S64x33x128.size a}
    {hx : (ndM.access (Rect.unit (s := S64x33x128) ![0, 0, 0] S64x33x128.size inb)).Stores Finset.univ}
    {hm : (Finset.univ : Finset (Rect.unit (s := S64x33x128) ![0, 0, 0] S64x33x128.size inb).shape.Idx) = Finset.univ ∨ ∀ a, (Rect.unit (s := S64x33x128) ![0, 0, 0] S64x33x128.size inb).stride a = 1}
    {α : Type} {Q : α → sProp 𝕄} {k : PUnit → Prog (TpuEff nD τ sig (Elt F) Λ₀ .tc) α} :
    pa ndM c ⊢ iprop((pt ndM c w -∗ WP c (k ⟨⟩) Q) -∗ WP c (.op (.store ndM (Rect.unit (s := S64x33x128) ![0, 0, 0] S64x33x128.size inb) w Finset.univ hx hm) k) Q) := by
  have hz : (![0, 0, 0] : Fin 3 → ℕ) = fun _ => 0 := by funext a; fin_cases a <;> rfl
  have hu : ndM.view.set = (Finset.univ : Finset S64x33x128.Idx) := View.set_whole _
  have hs : (ndM.access (Rect.unit (s := S64x33x128) ![0, 0, 0] S64x33x128.size inb)).set = ndM.view.set := by
    rw [hu]
    refine (View.set_slice_whole cc0_scratch4 _).trans ?_
    exact Finset.eq_univ_of_forall fun i => (Rect.mem_set_unit).2 fun a => ⟨by rw [hz]; exact Nat.zero_le _, by rw [hz]; show (i a).val < 0 + S64x33x128.size a; rw [Nat.zero_add]; exact (i a).isLt⟩
  have hw : (ndM.access (Rect.unit (s := S64x33x128) ![0, 0, 0] S64x33x128.size inb)).write (Elt F) jk w Finset.univ = w := Memref.write_access_unit_zero_univ (Elt F) cc0_scratch4 hz inb jk w
  iintro H Hk
  iapply (st_storeA c (M := ndM) (r := Rect.unit (s := S64x33x128) ![0, 0, 0] S64x33x128.size inb) ndM.view.set jk hs) $$ H
  iintro H
  iapply Hk
  have hh : ((ndM.access (Rect.unit (s := S64x33x128) ![0, 0, 0] S64x33x128.size inb)).loc (c : Thread nD τ) ↦[ndM.view.set]{fullShare} ((ndM.access (Rect.unit (s := S64x33x128) ![0, 0, 0] S64x33x128.size inb)).write (Elt F) jk w Finset.univ) : sProp 𝕄)
      ⊢ pt ndM c w := by rw [hw]
  iapply hh $$ H

theorem lw_g (c : Dev nD) (q : PosShare TreeShare) (f : Vec F S8x32x1024 .f32) {inb : ∀ a, (![0, 0, 0] : Fin 3 → ℕ) a + S8x32x1024.size a ≤ S8x32x1024.size a}
    {hl : gM.view.LoadsAt (Rect.unit (s := S8x32x1024) ![0, 0, 0] S8x32x1024.size inb).toLoadRect}
    {α : Type} {Q : α → sProp 𝕄} {k : (S8x32x1024.Idx → Elt F .f32) → Prog (TpuEff nD τ sig (Elt F) Λ₀ .tc) α} :
    (gM.view.loc (c : Thread nD τ) ↦[gM.view.set]{q} f) ⊢ iprop(((gM.view.loc (c : Thread nD τ) ↦[gM.view.set]{q} f) -∗ WP c (k f) Q) -∗ WP c (.op (.load gM (Rect.unit (s := S8x32x1024) ![0, 0, 0] S8x32x1024.size inb).toLoadRect hl) k) Q) := by
  exact st_load c (M := gM) (r := Rect.unit (s := S8x32x1024) ![0, 0, 0] S8x32x1024.size inb) gM.view.set q f f (by rw [View.set_whole]; exact Finset.subset_univ _)
    (Memref.read_access_unit_zero (Elt F) cc0_scratch1 (by funext a; fin_cases a <;> rfl) inb f)

theorem lw_kc (c : Dev nD) (q : PosShare TreeShare) (f : Vec F S128x64x128 .f32) {inb : ∀ a, (![0, 0, 0] : Fin 3 → ℕ) a + S128x64x128.size a ≤ S128x64x128.size a}
    {hl : kcM.view.LoadsAt (Rect.unit (s := S128x64x128) ![0, 0, 0] S128x64x128.size inb).toLoadRect}
    {α : Type} {Q : α → sProp 𝕄} {k : (S128x64x128.Idx → Elt F .f32) → Prog (TpuEff nD τ sig (Elt F) Λ₀ .tc) α} :
    (kcM.view.loc (c : Thread nD τ) ↦[kcM.view.set]{q} f) ⊢ iprop(((kcM.view.loc (c : Thread nD τ) ↦[kcM.view.set]{q} f) -∗ WP c (k f) Q) -∗ WP c (.op (.load kcM (Rect.unit (s := S128x64x128) ![0, 0, 0] S128x64x128.size inb).toLoadRect hl) k) Q) := by
  exact st_load c (M := kcM) (r := Rect.unit (s := S128x64x128) ![0, 0, 0] S128x64x128.size inb) kcM.view.set q f f (by rw [View.set_whole]; exact Finset.subset_univ _)
    (Memref.read_access_unit_zero (Elt F) cc0_scratch2 (by funext a; fin_cases a <;> rfl) inb f)

theorem lw_vc (c : Dev nD) (q : PosShare TreeShare) (f : Vec F S128x64x128 .f32) {inb : ∀ a, (![0, 0, 0] : Fin 3 → ℕ) a + S128x64x128.size a ≤ S128x64x128.size a}
    {hl : vcM.view.LoadsAt (Rect.unit (s := S128x64x128) ![0, 0, 0] S128x64x128.size inb).toLoadRect}
    {α : Type} {Q : α → sProp 𝕄} {k : (S128x64x128.Idx → Elt F .f32) → Prog (TpuEff nD τ sig (Elt F) Λ₀ .tc) α} :
    (vcM.view.loc (c : Thread nD τ) ↦[vcM.view.set]{q} f) ⊢ iprop(((vcM.view.loc (c : Thread nD τ) ↦[vcM.view.set]{q} f) -∗ WP c (k f) Q) -∗ WP c (.op (.load vcM (Rect.unit (s := S128x64x128) ![0, 0, 0] S128x64x128.size inb).toLoadRect hl) k) Q) := by
  exact st_load c (M := vcM) (r := Rect.unit (s := S128x64x128) ![0, 0, 0] S128x64x128.size inb) vcM.view.set q f f (by rw [View.set_whole]; exact Finset.subset_univ _)
    (Memref.read_access_unit_zero (Elt F) cc0_scratch3 (by funext a; fin_cases a <;> rfl) inb f)

/-! ## The signals of the two little barriers -/

theorem st_miniL0 (c : Dev nD) {dst : Dev nD} {sem : Sem sig} (n ix : ℕ) {α : Type} {Q : α → sProp 𝕄}
    {k : PUnit → Prog (TpuEff nD τ sig (Elt F) Λ₀ .tc) α} (hdst : dst = sh c 7) (hs : semOf 49 = .reg sem)
    (he : evT.drop n = ⟨semOf 49, 7, 0, 0, ix, 1⟩ :: evT.drop (n + 1)) :
    ctx m κ ι ⊢ iprop(OB c n -∗ (OB c (n + 1) -∗ WP c (k ⟨⟩) Q) -∗ WP c (.op (.semSignal (dst : Thread nD τ) sem 1) k) Q) := by
  iintro #Hctx HO Hk
  ihave #Hr := (ctx_reach m κ ι (sh c 7) 49) $$ Hctx
  iapply (st_miniL m κ ι c n 0 ix hdst hs he (by decide)) $$ Hctx HO Hr [] Hk
  rw [if_neg (by decide)]
  iempintro
theorem st_miniR0 (c : Dev nD) {dst : Dev nD} {sem : Sem sig} (n ix : ℕ) {α : Type} {Q : α → sProp 𝕄}
    {k : PUnit → Prog (TpuEff nD τ sig (Elt F) Λ₀ .tc) α} (hdst : dst = sh c 1) (hs : semOf 49 = .reg sem)
    (he : evT.drop n = ⟨semOf 49, 1, 0, 1, ix, 1⟩ :: evT.drop (n + 1)) :
    ctx m κ ι ⊢ iprop(OB c n -∗ (OB c (n + 1) -∗ WP c (k ⟨⟩) Q) -∗ WP c (.op (.semSignal (dst : Thread nD τ) sem 1) k) Q) := by
  iintro #Hctx HO Hk
  ihave #Hr := (ctx_reach m κ ι (sh c 1) 49) $$ Hctx
  iapply (st_miniR m κ ι c n 0 ix hdst hs he (by decide)) $$ Hctx HO Hr Hk
theorem st_miniL1 (c : Dev nD) {dst : Dev nD} {sem : Sem sig} (n ix : ℕ) {α : Type} {Q : α → sProp 𝕄}
    {k : PUnit → Prog (TpuEff nD τ sig (Elt F) Λ₀ .tc) α} (hdst : dst = sh c 7) (hs : semOf 49 = .reg sem)
    (he : evT.drop n = ⟨semOf 49, 7, 1, 0, ix, 1⟩ :: evT.drop (n + 1)) :
    ctx m κ ι ⊢ iprop(OB c n -∗ RE (sh c 7) 49 1 -∗ (bigSep ({0, 1, 2, 3, 4, 5, 6} : Finset ℕ) fun h => pa (F := F) (oBlk (((sh c 7).val + 8 - h) % 8) (m8 _)) c)
      -∗ RE c 46 4 -∗ RE c 47 3 -∗ (OB c (n + 1) -∗ WP c (k ⟨⟩) Q) -∗ WP c (.op (.semSignal (dst : Thread nD τ) sem 1) k) Q) := by
  iintro #Hctx HO #Hr HB #H6 #H7 Hk
  iapply (st_miniL m κ ι c n 1 ix hdst hs he (by decide)) $$ Hctx HO Hr [HB] Hk
  iapply (mini_close (sh c 7) c)
  isplitl [HB]; · iexact HB
  isplitr; · iexact H6
  iexact H7
theorem PA_store (c : Dev nD) : pt paM c (k0_pay64 (v714 m c) (v716 m c) (v964 m c) (k0_pay62 (bv m c 7 (by decide))) (k0_pay63 k0_pay45 (bq m c 7 (by decide)) (bk m c 7 (by decide))) (rdWo 7 (by decide) (aWo m c)))
    ⊢ pt paM c (PA m c) := Entails.refl _
theorem off7_eq (c : Dev nD) : k0_off7 c = ![128 * c.val, 0] := by revert c; decide +kernel
theorem off8_eq (c : Dev nD) : k0_off8 c = ![0, 128 * c.val, 0] := by revert c; decide +kernel
theorem off5_eq (c : Dev nD) : k0_off5 c = ![8 * c.val, 0, 0] := by revert c; decide +kernel

end Cert.KernelIdeal.Pf
end
-- ==== Proof.Gather.lean ====
module

public import proofs.«01_k».proof.Proof.Loads

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

/-! ## Shares of a region -/

theorem rest_split {ℓ : Loc nD τ sig} {I : Finset (Idx ℓ)} {f : Buf (Elt F) ℓ} (n : ℕ) :
    (ℓ ↦[I]{rest n} f : sProp 𝕄) ⊢ iprop((ℓ ↦[I]{give (n + 1)} f) ∗ (ℓ ↦[I]{rest (n + 1)} f)) :=
  (pointsTo_share (PosShare.mem_left_op_right (rest n))).1
theorem rest_join {ℓ : Loc nD τ sig} {I : Finset (Idx ℓ)} {f : Buf (Elt F) ℓ} (n : ℕ) :
    iprop((ℓ ↦[I]{give (n + 1)} f) ∗ (ℓ ↦[I]{rest (n + 1)} f)) ⊢ (ℓ ↦[I]{rest n} f : sProp 𝕄) :=
  (pointsTo_share (PosShare.mem_left_op_right (rest n))).2

/-- What is lent out of a region in seven pieces. -/
def lent (ℓ : Loc nD τ sig) (I : Finset (Idx ℓ)) (f : Buf (Elt F) ℓ) : sProp 𝕄 := iprop((ℓ ↦[I]{give 1} f) ∗ (ℓ ↦[I]{give 2} f) ∗ (ℓ ↦[I]{give 3} f) ∗ (ℓ ↦[I]{give 4} f) ∗ (ℓ ↦[I]{give 5} f) ∗ (ℓ ↦[I]{give 6} f) ∗ (ℓ ↦[I]{give 7} f))
theorem lend {ℓ : Loc nD τ sig} {I : Finset (Idx ℓ)} {f : Buf (Elt F) ℓ} : (ℓ ↦[I]{fullShare} f : sProp 𝕄) ⊢ iprop(lent ℓ I f ∗ (ℓ ↦[I]{rest 7} f)) := by
  unfold lent
  iintro H
  ihave H := (show (ℓ ↦[I]{fullShare} f : sProp 𝕄) ⊢ (ℓ ↦[I]{rest 0} f) from Entails.refl _) $$ H
  ihave H := (show (ℓ ↦[I]{rest 0} f : sProp 𝕄) ⊢ iprop((ℓ ↦[I]{give (0 + 1)} f) ∗ (ℓ ↦[I]{rest (0 + 1)} f)) from rest_split 0) $$ H
  icases H with ⟨H1, H⟩
  ihave H := (show (ℓ ↦[I]{rest 1} f : sProp 𝕄) ⊢ iprop((ℓ ↦[I]{give (1 + 1)} f) ∗ (ℓ ↦[I]{rest (1 + 1)} f)) from rest_split 1) $$ H
  icases H with ⟨H2, H⟩
  ihave H := (show (ℓ ↦[I]{rest 2} f : sProp 𝕄) ⊢ iprop((ℓ ↦[I]{give (2 + 1)} f) ∗ (ℓ ↦[I]{rest (2 + 1)} f)) from rest_split 2) $$ H
  icases H with ⟨H3, H⟩
  ihave H := (show (ℓ ↦[I]{rest 3} f : sProp 𝕄) ⊢ iprop((ℓ ↦[I]{give (3 + 1)} f) ∗ (ℓ ↦[I]{rest (3 + 1)} f)) from rest_split 3) $$ H
  icases H with ⟨H4, H⟩
  ihave H := (show (ℓ ↦[I]{rest 4} f : sProp 𝕄) ⊢ iprop((ℓ ↦[I]{give (4 + 1)} f) ∗ (ℓ ↦[I]{rest (4 + 1)} f)) from rest_split 4) $$ H
  icases H with ⟨H5, H⟩
  ihave H := (show (ℓ ↦[I]{rest 5} f : sProp 𝕄) ⊢ iprop((ℓ ↦[I]{give (5 + 1)} f) ∗ (ℓ ↦[I]{rest (5 + 1)} f)) from rest_split 5) $$ H
  icases H with ⟨H6, H⟩
  ihave H := (show (ℓ ↦[I]{rest 6} f : sProp 𝕄) ⊢ iprop((ℓ ↦[I]{give (6 + 1)} f) ∗ (ℓ ↦[I]{rest (6 + 1)} f)) from rest_split 6) $$ H
  icases H with ⟨H7, H⟩
  isplitr [H]
  · isplitl [H1]; · iexact H1
    isplitl [H2]; · iexact H2
    isplitl [H3]; · iexact H3
    isplitl [H4]; · iexact H4
    isplitl [H5]; · iexact H5
    isplitl [H6]; · iexact H6
    iexact H7
  iexact H
theorem unlend {ℓ : Loc nD τ sig} {I : Finset (Idx ℓ)} {f : Buf (Elt F) ℓ} : iprop(lent ℓ I f ∗ (ℓ ↦[I]{rest 7} f)) ⊢ (ℓ ↦[I]{fullShare} f : sProp 𝕄) := by
  unfold lent
  iintro ⟨⟨H1, H2, H3, H4, H5, H6, H7⟩, H⟩
  ihave H := (rest_join (F := F) 6) $$ [H7 H]
  · isplitl [H7]; · iexact H7
    iexact H
  ihave H := (rest_join (F := F) 5) $$ [H6 H]
  · isplitl [H6]; · iexact H6
    iexact H
  ihave H := (rest_join (F := F) 4) $$ [H5 H]
  · isplitl [H5]; · iexact H5
    iexact H
  ihave H := (rest_join (F := F) 3) $$ [H4 H]
  · isplitl [H4]; · iexact H4
    iexact H
  ihave H := (rest_join (F := F) 2) $$ [H3 H]
  · isplitl [H3]; · iexact H3
    iexact H
  ihave H := (rest_join (F := F) 1) $$ [H2 H]
  · isplitl [H2]; · iexact H2
    iexact H
  ihave H := (rest_join (F := F) 0) $$ [H1 H]
  · isplitl [H1]; · iexact H1
    iexact H
  iexact H

/-! ## The rows of the gathered queries -/

theorem mem_gRow {n : ℕ} {h : n < 8} {i : S8x32x1024.Idx} : i ∈ (gRow n h).view.set ↔ (i 0).val = n := by
  rw [show (gRow n h).view.set = (Rect.unit (s := S8x32x1024) ![n, 0, 0] S1x32x1024.size (inbRow n h)).set from View.set_slice_whole cc0_scratch1 _, Rect.mem_set_unit]
  constructor
  · intro h0
    have h1 : n ≤ (i 0).val := (h0 0).1
    have h2 : (i 0).val < n + 1 := (h0 0).2
    omega
  · intro h0 a
    fin_cases a
    · exact ⟨Nat.le_of_eq h0.symm, show (i 0).val < n + 1 by omega⟩
    · exact ⟨Nat.zero_le _, show (i 1).val < 0 + 32 by have : (i 1).val < 32 := (i 1).isLt; omega⟩
    · exact ⟨Nat.zero_le _, show (i 2).val < 0 + 1024 by have : (i 2).val < 1024 := (i 2).isLt; omega⟩

/-- All eight rows are the whole, whatever order they come in. -/
theorem rows_eq (c : Dev nD) (q : PosShare TreeShare) (f : Vec F S8x32x1024 .f32) (σ : ℕ → ℕ) (hσ : ∀ o, σ o < 8) (hi : ∀ a b, a < 8 → b < 8 → σ a = σ b → a = b)
    (hs : ∀ n, n < 8 → ∃ o, o < 8 ∧ σ o = n) :
    (gM.view.loc (c : Thread nD τ) ↦[gM.view.set]{q} f : sProp 𝕄) = bigSep (Finset.range 8) fun o => ((gRow (σ o) (hσ o)).view.loc (c : Thread nD τ) ↦[(gRow (σ o) (hσ o)).view.set]{q} f) := by
  have h1 : gM.view.set = (Finset.range 8).biUnion fun o => (gRow (σ o) (hσ o)).view.set := by
    rw [show gM.view.set = (Finset.univ : Finset S8x32x1024.Idx) from View.set_whole _]
    symm
    rw [Finset.eq_univ_iff_forall]
    intro i
    have h0 : (i 0).val < 8 := (i 0).isLt
    obtain ⟨o, ho, he⟩ := hs _ h0
    exact Finset.mem_biUnion.2 ⟨o, Finset.mem_range.2 ho, mem_gRow.2 he.symm⟩
  rw [h1]
  exact pointsTo_biUnion (ℓ := gM.view.loc (c : Thread nD τ)) (Finset.range 8) (fun o => (gRow (σ o) (hσ o)).view.set) fun a ha b hb hab => by
    rw [Finset.disjoint_left]
    intro i h2 h3
    exact hab (hi a b (Finset.mem_range.1 ha) (Finset.mem_range.1 hb) ((mem_gRow.1 h2).symm.trans (mem_gRow.1 h3)))

theorem eight (Φ : ℕ → sProp 𝕄) : bigSep (Finset.range 8) Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide), bigSepL_cons, bigSepL_cons, bigSepL_cons, bigSepL_cons, bigSepL_cons, bigSepL_cons, bigSepL_cons, bigSepL_singleton]
  rfl

theorem sub8_inj (c : ℕ) : ∀ a b, a < 8 → b < 8 → (c + 8 - a) % 8 = (c + 8 - b) % 8 → a = b := by intro a b ha hb h; omega
theorem sub8_sur (c : ℕ) (hc : c < 8) : ∀ n, n < 8 → ∃ o, o < 8 ∧ (c + 8 - o) % 8 = n := by
  intro n hn; exact ⟨(c + 8 - n) % 8, by omega, by omega⟩
theorem add8_inj (c : ℕ) : ∀ a b, a < 8 → b < 8 → (c + a) % 8 = (c + b) % 8 → a = b := by intro a b ha hb h; omega
theorem add8_sur (c : ℕ) (hc : c < 8) : ∀ n, n < 8 → ∃ o, o < 8 ∧ (c + o) % 8 = n := by
  intro n hn; exact ⟨(n + 8 - c) % 8, by omega, by omega⟩

/-- Row `o` places back, at share `q`. -/
def gs (c : Dev nD) (q : PosShare TreeShare) (o : ℕ) : sProp 𝕄 :=
  ((gRow ((c.val + 8 - o) % 8) (m8 _)).view.loc (c : Thread nD τ) ↦[(gRow ((c.val + 8 - o) % 8) (m8 _)).view.set]{q} (QG m))
/-- The device's own row, at share `q`. -/
def gself (c : Dev nD) (q : PosShare TreeShare) : sProp 𝕄 :=
  ((gRow c.val c.isLt).view.loc (c : Thread nD τ) ↦[(gRow c.val c.isLt).view.set]{q} (QG m))
theorem gself_eq (c : Dev nD) (q : PosShare TreeShare) : gself m c q = gs m c q 0 := by
  have h : ∀ a : ℕ, ∀ ha : a < 8, a = c.val → gself m c q = ((gRow a ha).view.loc (c : Thread nD τ) ↦[(gRow a ha).view.set]{q} (QG m)) := by
    intro a ha hh
    subst hh
    rfl
  have h6 : c.val < 8 := c.isLt
  exact h _ _ (by omega)

theorem whole_gs (c : Dev nD) (q : PosShare TreeShare) : (gM.view.loc (c : Thread nD τ) ↦[gM.view.set]{q} (QG m) : sProp 𝕄)
    = iprop(gs m c q 0 ∗ gs m c q 1 ∗ gs m c q 2 ∗ gs m c q 3 ∗ gs m c q 4 ∗ gs m c q 5 ∗ gs m c q 6 ∗ gs m c q 7) := by
  rw [rows_eq c q (QG m) (fun o => (c.val + 8 - o) % 8) (fun o => m8 _) (sub8_inj _) (sub8_sur _ c.isLt), eight]
  rfl

/-- A load of all rows, one's own partly lent out. -/
theorem ld_rows (c : Dev nD) {inb : ∀ a, (![0, 0, 0] : Fin 3 → ℕ) a + S8x32x1024.size a ≤ S8x32x1024.size a}
    {hl : gM.view.LoadsAt (Rect.unit (s := S8x32x1024) ![0, 0, 0] S8x32x1024.size inb).toLoadRect}
    {α : Type} {Q : α → sProp 𝕄} {k : (S8x32x1024.Idx → Elt F .f32) → Prog (TpuEff nD τ sig (Elt F) Λ₀ .tc) α} :
    gself m c (rest 7) ⊢ iprop(gs m c fullShare 1 -∗ gs m c fullShare 2 -∗ gs m c fullShare 3 -∗ gs m c fullShare 4 -∗ gs m c fullShare 5 -∗ gs m c fullShare 6 -∗ gs m c fullShare 7
      -∗ (gself m c (rest 7) -∗ gs m c fullShare 1 -∗ gs m c fullShare 2 -∗ gs m c fullShare 3 -∗ gs m c fullShare 4 -∗ gs m c fullShare 5 -∗ gs m c fullShare 6 -∗ gs m c fullShare 7 -∗ WP c (k (QG m)) Q)
      -∗ WP c (.op (.load gM (Rect.unit (s := S8x32x1024) ![0, 0, 0] S8x32x1024.size inb).toLoadRect hl) k) Q) := by
  rw [gself_eq]
  have hlend : ∀ o, gs m c fullShare o ⊢ iprop(lent ((gRow ((c.val + 8 - o) % 8) (m8 _)).view.loc (c : Thread nD τ)) (gRow ((c.val + 8 - o) % 8) (m8 _)).view.set (QG m) ∗ gs m c (rest 7) o) := fun o => lend
  have hunl : ∀ o, iprop(lent ((gRow ((c.val + 8 - o) % 8) (m8 _)).view.loc (c : Thread nD τ)) (gRow ((c.val + 8 - o) % 8) (m8 _)).view.set (QG m) ∗ gs m c (rest 7) o) ⊢ gs m c fullShare o := fun o => unlend
  have hw := whole_gs m c (rest 7)
  have hw1 : iprop(gs m c (rest 7) 0 ∗ gs m c (rest 7) 1 ∗ gs m c (rest 7) 2 ∗ gs m c (rest 7) 3 ∗ gs m c (rest 7) 4 ∗ gs m c (rest 7) 5 ∗ gs m c (rest 7) 6 ∗ gs m c (rest 7) 7)
    ⊢ (gM.view.loc (c : Thread nD τ) ↦[gM.view.set]{rest 7} (QG m) : sProp 𝕄) := by rw [hw]
  have hw2 : (gM.view.loc (c : Thread nD τ) ↦[gM.view.set]{rest 7} (QG m) : sProp 𝕄)
    ⊢ iprop(gs m c (rest 7) 0 ∗ gs m c (rest 7) 1 ∗ gs m c (rest 7) 2 ∗ gs m c (rest 7) 3 ∗ gs m c (rest 7) 4 ∗ gs m c (rest 7) 5 ∗ gs m c (rest 7) 6 ∗ gs m c (rest 7) 7) := by rw [hw]
  iintro H0 H1 H2 H3 H4 H5 H6 H7 Hk
  ihave H1 := (hlend 1) $$ H1
  icases H1 with ⟨L1, H1⟩
  ihave H2 := (hlend 2) $$ H2
  icases H2 with ⟨L2, H2⟩
  ihave H3 := (hlend 3) $$ H3
  icases H3 with ⟨L3, H3⟩
  ihave H4 := (hlend 4) $$ H4
  icases H4 with ⟨L4, H4⟩
  ihave H5 := (hlend 5) $$ H5
  icases H5 with ⟨L5, H5⟩
  ihave H6 := (hlend 6) $$ H6
  icases H6 with ⟨L6, H6⟩
  ihave H7 := (hlend 7) $$ H7
  icases H7 with ⟨L7, H7⟩
  ihave H := hw1 $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iapply (lw_g c (rest 7) (QG m)) $$ H
  iintro H
  ihave H := hw2 $$ H
  icases H with ⟨H0, H1, H2, H3, H4, H5, H6, H7⟩
  ihave H1 := (hunl 1) $$ [L1 H1]
  · isplitl [L1]; · iexact L1
    iexact H1
  ihave H2 := (hunl 2) $$ [L2 H2]
  · isplitl [L2]; · iexact L2
    iexact H2
  ihave H3 := (hunl 3) $$ [L3 H3]
  · isplitl [L3]; · iexact L3
    iexact H3
  ihave H4 := (hunl 4) $$ [L4 H4]
  · isplitl [L4]; · iexact L4
    iexact H4
  ihave H5 := (hunl 5) $$ [L5 H5]
  · isplitl [L5]; · iexact L5
    iexact H5
  ihave H6 := (hunl 6) $$ [L6 H6]
  · isplitl [L6]; · iexact L6
    iexact H6
  ihave H7 := (hunl 7) $$ [L7 H7]
  · isplitl [L7]; · iexact L7
    iexact H7
  iapply Hk $$ H0 H1 H2 H3 H4 H5 H6 H7

/-- The rows put back together. -/
theorem rows_back (c : Dev nD) : iprop(qgPay m c 1 ∗ qgPay m c 2 ∗ qgPay m c 3 ∗ qgPay m c 4 ∗ qgPay m c 5 ∗ qgPay m c 6 ∗ qgPay m c 7 ∗ gself m c (rest 7) ∗ gs m c fullShare 1 ∗ gs m c fullShare 2 ∗ gs m c fullShare 3 ∗ gs m c fullShare 4 ∗ gs m c fullShare 5 ∗ gs m c fullShare 6 ∗ gs m c fullShare 7)
    ⊢ pa gM c := by
  have h1 : iprop(lent ((gRow c.val c.isLt).view.loc (c : Thread nD τ)) (gRow c.val c.isLt).view.set (QG m) ∗ gself m c (rest 7)) ⊢ gs m c fullShare 0 := by
    rw [← gself_eq]; exact unlend
  have h2 : iprop(qgPay m c 1 ∗ qgPay m c 2 ∗ qgPay m c 3 ∗ qgPay m c 4 ∗ qgPay m c 5 ∗ qgPay m c 6 ∗ qgPay m c 7) ⊢ lent ((gRow c.val c.isLt).view.loc (c : Thread nD τ)) (gRow c.val c.isLt).view.set (QG m) := Entails.refl _
  have hw1 : iprop(gs m c fullShare 0 ∗ gs m c fullShare 1 ∗ gs m c fullShare 2 ∗ gs m c fullShare 3 ∗ gs m c fullShare 4 ∗ gs m c fullShare 5 ∗ gs m c fullShare 6 ∗ gs m c fullShare 7)
    ⊢ pa gM c := by rw [← whole_gs]; exact pt_pa gM c (QG m)
  iintro ⟨P1, P2, P3, P4, P5, P6, P7, H0, H1, H2, H3, H4, H5, H6, H7⟩
  ihave L := h2 $$ [P1 P2 P3 P4 P5 P6 P7]
  · isplitl [P1]; · iexact P1
    isplitl [P2]; · iexact P2
    isplitl [P3]; · iexact P3
    isplitl [P4]; · iexact P4
    isplitl [P5]; · iexact P5
    isplitl [P6]; · iexact P6
    iexact P7
  ihave H0 := h1 $$ [L H0]
  · isplitl [L]; · iexact L
    iexact H0
  iapply hw1
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The device's own row: read, written, and its contents as all devices know them. -/
theorem row_any (c : Dev nD) {off : Fin 3 → ℕ} {inb : ∀ a, off a + S1x32x1024.size a ≤ S8x32x1024.size a} (ho : off = ![c.val, 0, 0])
    {hl : gM.view.LoadsAt (Rect.unit (s := S8x32x1024) off S1x32x1024.size inb).toLoadRect}
    {α : Type} {Q : α → sProp 𝕄} {k : (S1x32x1024.Idx → Elt F .f32) → Prog (TpuEff nD τ sig (Elt F) Λ₀ .tc) α} :
    pa (gRow c.val c.isLt) c ⊢ iprop((∀ v, pa (gRow c.val c.isLt) c -∗ WP c (k v) Q)
      -∗ WP c (.op (.load gM (Rect.unit (s := S8x32x1024) off S1x32x1024.size inb).toLoadRect hl) k) Q) := by
  subst ho
  exact st_loadA c (M := gM) (r := Rect.unit (s := S8x32x1024) ![c.val, 0, 0] S1x32x1024.size inb) ((gRow c.val c.isLt).view.set) (Finset.Subset.refl _)
theorem row_own (c : Dev nD) : pt (gRow c.val c.isLt) c (QW m c) ⊢ gself m c (rest 0) := by
  have h1 : pt (gRow c.val c.isLt) c (QW m c) = pt (gRow c.val c.isLt) c (QG m) := pointsTo_congr fun i hi => by
    unfold QG
    have h3 : (⟨(i 0).val, (i 0).isLt⟩ : Dev nD) = c := Fin.ext (mem_gRow.1 hi)
    exact (congrArg (fun d => QW m d i) h3).symm
  rw [h1]
  exact Entails.refl _
theorem row_store (c : Dev nD) {off : Fin 3 → ℕ} {inb : ∀ a, off a + S1x32x1024.size a ≤ S8x32x1024.size a} (ho : off = ![c.val, 0, 0])
    {hx : (gM.access (Rect.unit (s := S8x32x1024) off S1x32x1024.size inb)).Stores Finset.univ}
    {hm : (Finset.univ : Finset (Rect.unit (s := S8x32x1024) off S1x32x1024.size inb).shape.Idx) = Finset.univ ∨ ∀ a, (Rect.unit (s := S8x32x1024) off S1x32x1024.size inb).stride a = 1}
    {α : Type} {Q : α → sProp 𝕄} {k : PUnit → Prog (TpuEff nD τ sig (Elt F) Λ₀ .tc) α} :
    pa (gRow c.val c.isLt) c ⊢ iprop((gself m c (rest 0) -∗ WP c (k ⟨⟩) Q)
      -∗ WP c (.op (.store gM (Rect.unit (s := S8x32x1024) off S1x32x1024.size inb) (k0_pay4 (k0_pay3 (aX m c) (aWq m c))) Finset.univ hx hm) k) Q) := by
  subst ho
  iintro H Hk
  iapply (st_storeA c (M := gM) (r := Rect.unit (s := S8x32x1024) ![c.val, 0, 0] S1x32x1024.size inb) ((gRow c.val c.isLt).view.set) jk rfl) $$ H
  iintro H
  ihave H := (show ((gM.access (Rect.unit (s := S8x32x1024) ![c.val, 0, 0] S1x32x1024.size inb)).loc (c : Thread nD τ) ↦[(gRow c.val c.isLt).view.set]{fullShare}
    ((gM.access (Rect.unit (s := S8x32x1024) ![c.val, 0, 0] S1x32x1024.size inb)).write (Elt F) jk (k0_pay4 (k0_pay3 (aX m c) (aWq m c))) Finset.univ) : sProp 𝕄) ⊢ gself m c (rest 0) from row_own m c) $$ H
  iapply Hk $$ H

/-! ## The queries' copies -/

theorem qg_land (c : Dev nD) (o : ℕ) (h7 : o < 8) (fd : Buf (Elt F) ((gRow c.val c.isLt).view.loc ((sh c o : Dev nD) : Thread nD τ))) :
    pt (gRow c.val c.isLt) (sh c o) ((gRow c.val c.isLt).view.write (Elt F) fd ((gRow c.val c.isLt).view.read (Elt F) (QG m)) Finset.univ)
      ⊢ iprop(pt (gRow (((sh c o).val + 8 - o) % 8) (m8 _)) (sh c o) (QG m)) := by
  have h1 : pt (gRow c.val c.isLt) (sh c o) ((gRow c.val c.isLt).view.write (Elt F) fd ((gRow c.val c.isLt).view.read (Elt F) (QG m)) Finset.univ)
      = pt (gRow c.val c.isLt) (sh c o) (QG m) := pointsTo_congr fun i hi => by
    rw [View.write_read_eq_piecewise, View.setOn_univ]
    exact Finset.piecewise_eq_of_mem _ _ _ hi
  rw [h1]
  have h : ∀ a : ℕ, ∀ ha : a < 8, a = c.val → pt (gRow c.val c.isLt) (sh c o) (QG m) ⊢ pt (gRow a ha) (sh c o) (QG m) := by
    intro a ha hh
    subst hh
    exact Entails.refl _
  have h6 : c.val < 8 := c.isLt
  exact h _ _ (show ((c.val + o) % 8 + 8 - o) % 8 = c.val by omega)

theorem qg_send (c : Dev nD) {dn : Dev nD} {sS sR : DmaSem sig} {off : Fin 3 → ℕ} {inb : ∀ a, off a + S1x32x1024.size a ≤ S8x32x1024.size a}
    {hu : ∀ a, (Rect.unit (s := S8x32x1024) off S1x32x1024.size inb).stride a = 1}
    {hsc : ((gM.slice (Rect.unit (s := S8x32x1024) off S1x32x1024.size inb) hu : Memref sig .tc _ _ _) : Memref sig (Dev.tc dn : Thread nD τ).2.kind _ _ _).view.ref.isScScratch = false}
    {hsrc : (gM.slice (Rect.unit (s := S8x32x1024) off S1x32x1024.size inb) hu).view.WordExact}
    {hdst : (gM.slice (Rect.unit (s := S8x32x1024) off S1x32x1024.size inb) hu).view.WordExact}
    {hsem : DmaTarget.Typed .vmem (.dma sR) (.remote (Dev.tc dn : Thread nD τ) (gM.slice (Rect.unit (s := S8x32x1024) off S1x32x1024.size inb) hu) (.dma sS) hsc)}
    {α : Type} {Q : α → sProp 𝕄} {k : PUnit → Prog (TpuEff nD τ sig (Elt F) Λ₀ .tc) α} (n t o : ℕ) (iS iR : Fin 51)
    (ho : off = ![c.val, 0, 0]) (hn : dn = sh c (o + 1)) (hS : semOf iS = .dma sS) (hR : semOf iR = .dma sR) (h7 : o + 1 < 8)
    (hkS : kd (semOf iS) = .qgS (o + 1)) (hkR : kd (semOf iR) = .qgR (o + 1))
    (he : evT.drop n = ⟨semOf iR, o + 1, 0, 0, 2, 4096⟩ :: evT.drop (n + 1)) (ht : tkT.drop t = own (semOf iS) 0 :: tkT.drop (t + 1)) :
    ctx m κ ι ⊢ iprop(OB c n -∗ TK c t -∗ gself m c (rest o) -∗ pa (gRow c.val c.isLt) (sh c (o + 1))
      -∗ (OB c (n + 1) -∗ TK c (t + 1) -∗ CD c iS 0 4096 -∗ gself m c (rest (o + 1)) -∗ WP c (k ⟨⟩) Q)
      -∗ WP c (.op (.enqueueDma (gM.slice (Rect.unit (s := S8x32x1024) off S1x32x1024.size inb) hu)
        (.remote (Dev.tc dn : Thread nD τ) (gM.slice (Rect.unit (s := S8x32x1024) off S1x32x1024.size inb) hu) (.dma sS) hsc) (.dma sR) hsrc hdst hsem) k) Q) := by
  subst ho
  have hp1 : ((gRow c.val c.isLt).view.loc (c : Thread nD τ) ↦[(gRow c.val c.isLt).view.set]{give (o + 1)} (QG m) : sProp 𝕄) ⊢ payl m c (kd (semOf iS)) 0 0 := by
    rw [hkS]; exact Entails.refl _
  have hd1 : 0 ∈ dut c (kd (semOf iS)) 0 := by
    rw [hkS]; show 0 ∈ (if 0 = 0 ∧ o + 1 ≠ 0 then ({0} : Finset ℕ) else ∅); rw [if_pos ⟨rfl, Nat.succ_ne_zero _⟩]; decide
  have hd2 : 0 ∈ dut (sh c (o + 1)) (kd (semOf iR)) 0 := by
    rw [hkR]; show 0 ∈ (if 0 = 0 ∧ o + 1 ≠ 0 then ({0} : Finset ℕ) else ∅); rw [if_pos ⟨rfl, Nat.succ_ne_zero _⟩]; decide
  have hk1 : amt c (kd (semOf iS)) = 4096 := by rw [hkS]; rfl
  have hk2 : amt (sh c (o + 1)) (kd (semOf iR)) = 4096 := by rw [hkR]; rfl
  iintro #Hctx HO HT Hs Hd Hk
  unfold pa slot
  icases Hd with ⟨%fd, Hd⟩
  have hp2 : pt (gRow c.val c.isLt) (sh c (o + 1)) ((gRow c.val c.isLt).view.write (Elt F) fd ((gRow c.val c.isLt).view.read (Elt F) (QG m)) Finset.univ) ⊢ payl m (sh c (o + 1)) (kd (semOf iR)) 0 0 := by
    rw [hkR]; exact qg_land m c (o + 1) h7 fd
  ihave HT := (TK_pop c t _ ht) $$ HT
  icases HT with ⟨Ht, HT⟩
  ihave Ht := (show tkE (F := F) c (own (semOf iS) 0) ⊢ dutyTok ER (cl c (semOf iS)) 0 0 from Entails.refl _) $$ Ht
  ihave #HrS := (ctx_reach m κ ι c iS) $$ Hctx
  ihave #HrR := (ctx_reach m κ ι (sh c (o + 1)) iR) $$ Hctx
  ihave Hs := (show gself m c (rest o) ⊢ iprop(((gRow c.val c.isLt).view.loc (c : Thread nD τ) ↦[(gRow c.val c.isLt).view.set]{give (o + 1)} (QG m)) ∗ gself m c (rest (o + 1))) from rest_split o) $$ Hs
  icases Hs with ⟨Hg, Hs⟩
  iapply (st_send m κ ι c iS iR (src := gRow c.val c.isLt) (dst := gRow c.val c.isLt) (give (o + 1)) (QG m) (o + 1) 0 0 0 2 4096 fd (evT.drop (n + 1)) hn hS hR he rfl hd1 hd2 hk1 hk2 hp1 hp2) $$ Hctx HO Ht HrS HrR Hg Hd
  iintro HO Hc
  iapply Hk $$ HO HT Hc Hs

theorem qg_recv (c : Dev nD) {sem : DmaSem sig} {sp sp' : Space} {S S' : Shape} {e e' : EltTy} {src : Memref sig .tc sp' S' e'}
    {dst : Memref sig .tc sp S e} {hsrc : src.view.WordExact} {hdst : dst.view.WordExact}
    (n b o : ℕ) (iR : Fin 51) {α : Type} {Q : α → sProp 𝕄} {k : PUnit → Prog (TpuEff nD τ sig (Elt F) Λ₀ .tc) α}
    (hkR : kd (semOf iR) = .qgR (o + 1)) (hn : crT.drop n = ⟨semOf iR, 2, 4096⟩ :: crT.drop (n + 1))
    (hs : semOf iR = .dma sem) (hN : dst.view.dmaCredit = 4096) (hl : lvOk 2 (evT.drop b) = true) :
    ctx m κ ι ⊢ iprop(CR c n -∗ OB c b -∗ AT c iR 0 -∗ (CR c (n + 1) -∗ OB c b -∗ AT c iR 1 -∗ gs m c fullShare (o + 1) -∗ WP c (k ⟨⟩) Q)
      -∗ WP c (.op (.waitDma2 sem src dst hsrc hdst) k) Q) := by
  have hp : payl m c (kd (semOf iR)) 0 0 ⊢ gs m c fullShare (o + 1) := by rw [hkR]; exact Entails.refl _
  have hd : dut c (kd (semOf iR)) 0 = {0} := by rw [hkR]; show (if 0 = 0 ∧ o + 1 ≠ 0 then ({0} : Finset ℕ) else ∅) = {0}; exact if_pos ⟨rfl, Nat.succ_ne_zero _⟩
  have ha : amt c (kd (semOf iR)) = 4096 := by rw [hkR]; rfl
  iintro #Hctx HC HO HA Hk
  iapply (st_recv m κ ι c iR n 2 4096 0 hn hs hN hd ha hl (gs m c fullShare (o + 1)) hp) $$ Hctx HC HO HA
  iintro HC HO HA - HP
  iapply Hk $$ HC HO HA HP

theorem qg_back (c : Dev nD) {sem : DmaSem sig} {sp sp' : Space} {S S' : Shape} {e e' : EltTy} {src : Memref sig .tc sp' S' e'}
    {dst : Memref sig .tc sp S e} {hsrc : src.view.WordExact} {hdst : dst.view.WordExact}
    (b o : ℕ) (iS : Fin 51) {α : Type} {Q : α → sProp 𝕄} {k : PUnit → Prog (TpuEff nD τ sig (Elt F) Λ₀ .tc) α}
    (hkS : kd (semOf iS) = .qgS (o + 1))
    (hs : semOf iS = .dma sem) (hN : dst.view.dmaCredit = 4096) (hl : lvOk 0 (evT.drop b) = true) :
    ctx m κ ι ⊢ iprop(CD c iS 0 4096 -∗ OB c b -∗ AT c iS 0 -∗ (OB c b -∗ AT c iS 1 -∗ qgPay m c (o + 1) -∗ WP c (k ⟨⟩) Q)
      -∗ WP c (.op (.waitDma2 sem src dst hsrc hdst) k) Q) := by
  have hp : payl m c (kd (semOf iS)) 0 0 ⊢ qgPay m c (o + 1) := by rw [hkS]; exact Entails.refl _
  have hd : dut c (kd (semOf iS)) 0 = {0} := by rw [hkS]; show (if 0 = 0 ∧ o + 1 ≠ 0 then ({0} : Finset ℕ) else ∅) = {0}; exact if_pos ⟨rfl, Nat.succ_ne_zero _⟩
  have ha : amt c (kd (semOf iS)) = 4096 := by rw [hkS]; rfl
  iintro #Hctx HC HO HA Hk
  iapply (st_waitD m κ ι c iS 0 4096 0 hs hN hd ha hl (qgPay m c (o + 1)) hp) $$ Hctx HC HO HA
  iintro HO HA - HP
  iapply Hk $$ HO HA HP

end Cert.KernelIdeal.Pf
end
-- ==== Proof.Chunk.lean ====
module

public import proofs.«01_k».proof.Proof.Gather

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ)

/-! ## The key and value arguments: held at some share, part of it lent to every copy out of them -/

def KA (c : Dev nD) : sProp 𝕄 := iprop(∃ q : PosShare TreeShare, (kM.view.loc (c : Thread nD τ) ↦[kM.view.set]{q} (aK m c)))
def VA (c : Dev nD) : sProp 𝕄 := iprop(∃ q : PosShare TreeShare, (vM.view.loc (c : Thread nD τ) ↦[vM.view.set]{q} (aV m c)))

/-- The tokens of the local copies, in program order. -/
def lkT : List Ev := [own (semOf 36) 0, own (semOf 37) 0, own (semOf 36) 1, own (semOf 37) 1, own (semOf 36) 2, own (semOf 37) 2, own (semOf 36) 3, own (semOf 37) 3,
  own (semOf 36) 4, own (semOf 37) 4, own (semOf 36) 5, own (semOf 37) 5, own (semOf 36) 6, own (semOf 37) 6, own (semOf 36) 7, own (semOf 37) 7]
def LK (c : Dev nD) (n : ℕ) : sProp 𝕄 := bigSepL (lkT.drop n) (tkE c)
theorem LK_pop (c : Dev nD) (n : ℕ) (w : Ev) (h : lkT.drop n = w :: lkT.drop (n + 1)) : LK (F := F) c n ⊢ iprop(tkE c w ∗ LK c (n + 1)) := by
  unfold LK
  rw [h, bigSepL_cons]
  exact Entails.refl _

/-- A copy within the device, of a semaphore's round `r`. -/
theorem st_copy (c : Dev nD) (i : Fin 51) {sem : DmaSem sig} {sp sp' : Space} {S : Shape} {e : EltTy} {src : Memref sig .tc sp S e} {dst : Memref sig .tc sp' S e}
    {hsrc : src.view.WordExact} {hdst : dst.view.WordExact} {hsem : DmaTarget.Typed (nD := nD) (τ := τ) (p := .tc) sp (.dma sem) (.here dst)}
    {α : Type} {Q : α → sProp 𝕄} {k : PUnit → Prog (TpuEff nD τ sig (Elt F) Λ₀ .tc) α} (q : PosShare TreeShare)
    (fs : Buf (Elt F) (src.view.loc (c : Thread nD τ))) (fd : Buf (Elt F) (dst.view.loc (c : Thread nD τ))) (r N : ℕ)
    (hs : semOf i = .dma sem) (hN : dst.view.dmaCredit = N) (hd : 0 ∈ dut c (kd (semOf i)) r) (ha : amt c (kd (semOf i)) = N)
    (hpay : pt dst c (dst.view.write (Elt F) fd (src.view.read (Elt F) fs) Finset.univ) ⊢ payl m c (kd (semOf i)) r 0) :
    ctx m κ ι ⊢ iprop(dutyTok ER (cl c (semOf i)) r 0 -∗ RE c i r -∗ (src.view.loc (c : Thread nD τ) ↦[src.view.set]{q} fs) -∗ pt dst c fd
      -∗ (CD c i 0 N -∗ WP c (k ⟨⟩) Q)
      -∗ WP c (.op (.enqueueDma src (.here dst) (.dma sem) hsrc hdst hsem) k) Q) := by
  unfold RE CD
  have hcell := ctx_cell m κ ι c i
  generalize semOf i = s at *
  subst hs
  iintro #Hctx Ht #Hr Hsrc Hdst Hk
  ihave #Hi := hcell $$ Hctx
  iapply (Rounds.wp_copy_pointsTo 𝒱₀ ER (Rd m) (c : Thread nD τ) none (src := src) (dst := dst) (sem := .dma sem) (q := q) (fs := fs) (fd := fd) (r := r) (d := 0)
    (κ := κ (c, i)) hd 0 N hN ha ((show iprop(pt dst c (dst.view.write (Elt F) fd (src.view.read (Elt F) fs) Finset.univ) ∗ (src.view.loc (c : Thread nD τ) ↦[src.view.set]{q} fs))
      ⊢ pt dst c (dst.view.write (Elt F) fd (src.view.read (Elt F) fs) Finset.univ) by iintro ⟨H, -⟩; iexact H).trans hpay)) $$ [Ht Hsrc Hdst]
  · isplitr; · iexact Hi
    isplitl [Hsrc]; · iexact Hsrc
    isplitl [Hdst]; · iexact Hdst
    isplitl [Ht]; · iexact Ht
    iexact Hr
  iexact Hk
theorem k8_0 : 0 < 8 := by decide
theorem k8_1 : 1 < 8 := by decide
theorem k8_2 : 2 < 8 := by decide
theorem k8_3 : 3 < 8 := by decide
theorem k8_4 : 4 < 8 := by decide
theorem k8_5 : 5 < 8 := by decide
theorem k8_6 : 6 < 8 := by decide
theorem k8_7 : 7 < 8 := by decide

theorem takek (c : Dev nD) (I : Finset S1x1024x64x128.Idx) :
    KA m c ⊢ iprop(KA m c ∗ ∃ q : PosShare TreeShare, (kM.view.loc (c : Thread nD τ) ↦[I]{q} (aK m c))) := by
  unfold KA
  iintro ⟨%q, H⟩
  ihave H := (show (kM.view.loc (c : Thread nD τ) ↦[kM.view.set]{q} (aK m c) : sProp 𝕄) ⊢ iprop((kM.view.loc (c : Thread nD τ) ↦[kM.view.set]{q.left} (aK m c)) ∗ (kM.view.loc (c : Thread nD τ) ↦[kM.view.set]{q.right} (aK m c)))
    from (pointsTo_share (PosShare.mem_left_op_right q)).1) $$ H
  icases H with ⟨H1, H2⟩
  isplitl [H1]; · iexists q.left; iexact H1
  iexists q.right
  have h : I ⊆ (kM.view.set : Finset S1x1024x64x128.Idx) := by rw [show (kM.view.set : Finset S1x1024x64x128.Idx) = Finset.univ from View.set_whole _]; exact Finset.subset_univ _
  ihave H2 := (show (kM.view.loc (c : Thread nD τ) ↦[kM.view.set]{q.right} (aK m c) : sProp 𝕄) ⊢ iprop((kM.view.loc (c : Thread nD τ) ↦[I]{q.right} (aK m c)) ∗ (kM.view.loc (c : Thread nD τ) ↦[kM.view.set \ I]{q.right} (aK m c)))
    from (pointsTo_split_subset h).1) $$ H2
  icases H2 with ⟨H2, -⟩
  iexact H2

theorem landk (c : Dev nD) (r : ℕ) (h : r < 8) (fd : Buf (Elt F) (kcM.view.loc (c : Thread nD τ))) :
    pt kcM c (kcM.view.write (Elt F) fd ((kCh r h).view.read (Elt F) (aK m c)) Finset.univ) ⊢ locPay m c 0 r := by
  have h1 : kcM.view.write (Elt F) fd ((kCh r h).view.read (Elt F) (aK m c)) Finset.univ = kc m c r h := View.write_whole_univ cc0_scratch2 fd _
  rw [h1]
  have h2 : ∀ a : ℕ, ∀ ha : a < 8, a = r → pt kcM c (kc m c r h) ⊢ pt kcM c (kc m c a ha) := by
    intro a ha hh; subst hh; exact Entails.refl _
  unfold locPay
  rw [if_pos rfl]
  exact h2 _ _ (by omega)

theorem chk_copy (c : Dev nD) {sem : DmaSem sig} {off : Fin 4 → ℕ} {inb : ∀ a, off a + S1x128x64x128.size a ≤ S1x1024x64x128.size a}
    {hu : ∀ a, (Rect.unit (s := S1x1024x64x128) off S1x128x64x128.size inb).stride a = 1} {hq : S1x128x64x128.Squeezes S128x64x128}
    {hsrc : ((kM.slice (Rect.unit (s := S1x1024x64x128) off S1x128x64x128.size inb) hu).squeeze S128x64x128 hq).view.WordExact} {hdst : kcM.view.WordExact}
    {hsem : DmaTarget.Typed (nD := nD) (τ := τ) (p := .tc) .hbm (.dma sem) (.here kcM)}
    {α : Type} {Q : α → sProp 𝕄} {k : PUnit → Prog (TpuEff nD τ sig (Elt F) Λ₀ .tc) α} (t r : ℕ) (h : r < 8) (ho : off = ![0, 128 * r, 0, 0])
    (hs : semOf 36 = .dma sem) (ht : lkT.drop t = own (semOf 36) r :: lkT.drop (t + 1)) :
    ctx m κ ι ⊢ iprop(LK c t -∗ KA m c -∗ RE c 36 r -∗ pa kcM c -∗ (LK c (t + 1) -∗ KA m c -∗ CD c 36 0 131072 -∗ WP c (k ⟨⟩) Q)
      -∗ WP c (.op (.enqueueDma ((kM.slice (Rect.unit (s := S1x1024x64x128) off S1x128x64x128.size inb) hu).squeeze S128x64x128 hq) (.here kcM) (.dma sem) hsrc hdst hsem) k) Q) := by
  subst ho
  iintro #Hctx HT HK #Hr Hd Hk
  unfold pa slot
  icases Hd with ⟨%fd, Hd⟩
  ihave HT := (LK_pop c t _ ht) $$ HT
  icases HT with ⟨Ht, HT⟩
  ihave Ht := (show tkE (F := F) c (own (semOf 36) r) ⊢ dutyTok ER (cl c (semOf 36)) r 0 from Entails.refl _) $$ Ht
  ihave HK := (takek m c (kCh r h).view.set) $$ HK
  icases HK with ⟨HK, %q, Hs⟩
  iapply (st_copy m κ ι c 36 (src := kCh r h) (dst := kcM) q (aK m c) fd r 131072 hs rfl
    (show 0 ∈ (if r < 8 then ({0} : Finset ℕ) else ∅) by rw [if_pos h]; decide) rfl (landk m c r h fd)) $$ Hctx Ht Hr Hs Hd
  iintro Hc
  iapply Hk $$ HT HK Hc

theorem chk_wait (c : Dev nD) {sem : DmaSem sig} {sp sp' : Space} {S S' : Shape} {e e' : EltTy} {src : Memref sig .tc sp' S' e'}
    {dst : Memref sig .tc sp S e} {hsrc : src.view.WordExact} {hdst : dst.view.WordExact}
    (b r : ℕ) (h : r < 8) {α : Type} {Q : α → sProp 𝕄} {k : PUnit → Prog (TpuEff nD τ sig (Elt F) Λ₀ .tc) α}
    (hs : semOf 36 = .dma sem) (hN : dst.view.dmaCredit = 131072) (hl : lvOk 0 (evT.drop b) = true) :
    ctx m κ ι ⊢ iprop(CD c 36 0 131072 -∗ OB c b -∗ AT c 36 r -∗ (OB c b -∗ AT c 36 (r + 1) -∗ RE c 36 (r + 1) -∗ pt kcM c (kc m c r h) -∗ WP c (k ⟨⟩) Q)
      -∗ WP c (.op (.waitDma2 sem src dst hsrc hdst) k) Q) := by
  have hp : locPay m c 0 r ⊢ pt kcM c (kc m c r h) := by
    have h2 : ∀ a : ℕ, ∀ ha : a < 8, a = r → pt kcM c (kc m c a ha) ⊢ pt kcM c (kc m c r h) := by
      intro a ha hh; subst hh; exact Entails.refl _
    unfold locPay
    rw [if_pos rfl]
    exact h2 _ _ (by omega)
  exact st_waitD m κ ι c 36 0 131072 r hs hN (show (if r < 8 then ({0} : Finset ℕ) else ∅) = {0} from if_pos h) rfl hl (pt kcM c (kc m c r h)) hp

theorem takev (c : Dev nD) (I : Finset S1x1024x64x128.Idx) :
    VA m c ⊢ iprop(VA m c ∗ ∃ q : PosShare TreeShare, (vM.view.loc (c : Thread nD τ) ↦[I]{q} (aV m c))) := by
  unfold VA
  iintro ⟨%q, H⟩
  ihave H := (show (vM.view.loc (c : Thread nD τ) ↦[vM.view.set]{q} (aV m c) : sProp 𝕄) ⊢ iprop((vM.view.loc (c : Thread nD τ) ↦[vM.view.set]{q.left} (aV m c)) ∗ (vM.view.loc (c : Thread nD τ) ↦[vM.view.set]{q.right} (aV m c)))
    from (pointsTo_share (PosShare.mem_left_op_right q)).1) $$ H
  icases H with ⟨H1, H2⟩
  isplitl [H1]; · iexists q.left; iexact H1
  iexists q.right
  have h : I ⊆ (vM.view.set : Finset S1x1024x64x128.Idx) := by rw [show (vM.view.set : Finset S1x1024x64x128.Idx) = Finset.univ from View.set_whole _]; exact Finset.subset_univ _
  ihave H2 := (show (vM.view.loc (c : Thread nD τ) ↦[vM.view.set]{q.right} (aV m c) : sProp 𝕄) ⊢ iprop((vM.view.loc (c : Thread nD τ) ↦[I]{q.right} (aV m c)) ∗ (vM.view.loc (c : Thread nD τ) ↦[vM.view.set \ I]{q.right} (aV m c)))
    from (pointsTo_split_subset h).1) $$ H2
  icases H2 with ⟨H2, -⟩
  iexact H2

theorem landv (c : Dev nD) (r : ℕ) (h : r < 8) (fd : Buf (Elt F) (vcM.view.loc (c : Thread nD τ))) :
    pt vcM c (vcM.view.write (Elt F) fd ((vCh r h).view.read (Elt F) (aV m c)) Finset.univ) ⊢ locPay m c 1 r := by
  have h1 : vcM.view.write (Elt F) fd ((vCh r h).view.read (Elt F) (aV m c)) Finset.univ = vc m c r h := View.write_whole_univ cc0_scratch3 fd _
  rw [h1]
  have h2 : ∀ a : ℕ, ∀ ha : a < 8, a = r → pt vcM c (vc m c r h) ⊢ pt vcM c (vc m c a ha) := by
    intro a ha hh; subst hh; exact Entails.refl _
  unfold locPay
  rw [if_neg (by decide)]
  exact h2 _ _ (by omega)

theorem chv_copy (c : Dev nD) {sem : DmaSem sig} {off : Fin 4 → ℕ} {inb : ∀ a, off a + S1x128x64x128.size a ≤ S1x1024x64x128.size a}
    {hu : ∀ a, (Rect.unit (s := S1x1024x64x128) off S1x128x64x128.size inb).stride a = 1} {hq : S1x128x64x128.Squeezes S128x64x128}
    {hsrc : ((vM.slice (Rect.unit (s := S1x1024x64x128) off S1x128x64x128.size inb) hu).squeeze S128x64x128 hq).view.WordExact} {hdst : vcM.view.WordExact}
    {hsem : DmaTarget.Typed (nD := nD) (τ := τ) (p := .tc) .hbm (.dma sem) (.here vcM)}
    {α : Type} {Q : α → sProp 𝕄} {k : PUnit → Prog (TpuEff nD τ sig (Elt F) Λ₀ .tc) α} (t r : ℕ) (h : r < 8) (ho : off = ![0, 128 * r, 0, 0])
    (hs : semOf 37 = .dma sem) (ht : lkT.drop t = own (semOf 37) r :: lkT.drop (t + 1)) :
    ctx m κ ι ⊢ iprop(LK c t -∗ VA m c -∗ RE c 37 r -∗ pa vcM c -∗ (LK c (t + 1) -∗ VA m c -∗ CD c 37 0 131072 -∗ WP c (k ⟨⟩) Q)
      -∗ WP c (.op (.enqueueDma ((vM.slice (Rect.unit (s := S1x1024x64x128) off S1x128x64x128.size inb) hu).squeeze S128x64x128 hq) (.here vcM) (.dma sem) hsrc hdst hsem) k) Q) := by
  subst ho
  iintro #Hctx HT HK #Hr Hd Hk
  unfold pa slot
  icases Hd with ⟨%fd, Hd⟩
  ihave HT := (LK_pop c t _ ht) $$ HT
  icases HT with ⟨Ht, HT⟩
  ihave Ht := (show tkE (F := F) c (own (semOf 37) r) ⊢ dutyTok ER (cl c (semOf 37)) r 0 from Entails.refl _) $$ Ht
  ihave HK := (takev m c (vCh r h).view.set) $$ HK
  icases HK with ⟨HK, %q, Hs⟩
  iapply (st_copy m κ ι c 37 (src := vCh r h) (dst := vcM) q (aV m c) fd r 131072 hs rfl
    (show 0 ∈ (if r < 8 then ({0} : Finset ℕ) else ∅) by rw [if_pos h]; decide) rfl (landv m c r h fd)) $$ Hctx Ht Hr Hs Hd
  iintro Hc
  iapply Hk $$ HT HK Hc

theorem chv_wait (c : Dev nD) {sem : DmaSem sig} {sp sp' : Space} {S S' : Shape} {e e' : EltTy} {src : Memref sig .tc sp' S' e'}
    {dst : Memref sig .tc sp S e} {hsrc : src.view.WordExact} {hdst : dst.view.WordExact}
    (b r : ℕ) (h : r < 8) {α : Type} {Q : α → sProp 𝕄} {k : PUnit → Prog (TpuEff nD τ sig (Elt F) Λ₀ .tc) α}
    (hs : semOf 37 = .dma sem) (hN : dst.view.dmaCredit = 131072) (hl : lvOk 0 (evT.drop b) = true) :
    ctx m κ ι ⊢ iprop(CD c 37 0 131072 -∗ OB c b -∗ AT c 37 r -∗ (OB c b -∗ AT c 37 (r + 1) -∗ RE c 37 (r + 1) -∗ pt vcM c (vc m c r h) -∗ WP c (k ⟨⟩) Q)
      -∗ WP c (.op (.waitDma2 sem src dst hsrc hdst) k) Q) := by
  have hp : locPay m c 1 r ⊢ pt vcM c (vc m c r h) := by
    have h2 : ∀ a : ℕ, ∀ ha : a < 8, a = r → pt vcM c (vc m c a ha) ⊢ pt vcM c (vc m c r h) := by
      intro a ha hh; subst hh; exact Entails.refl _
    unfold locPay
    rw [if_neg (by decide)]
    exact h2 _ _ (by omega)
  exact st_waitD m κ ι c 37 0 131072 r hs hN (show (if r < 8 then ({0} : Finset ℕ) else ∅) = {0} from if_pos h) rfl hl (pt vcM c (vc m c r h)) hp

end Cert.KernelIdeal.Pf
end
-- ==== Proof.Front.lean ====
module

public import proofs.«01_k».proof.Proof.Chunk

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ) (c : Dev nD)

theorem p21 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 : BitVec 32) {Q : _ → sProp 𝕄} :
    ctx m κ ι ⊢ iprop(pa (gRow c.val c.isLt) c -∗ OB c 0 -∗ TK c 0 -∗ pa (gRow c.val c.isLt) (sh c 1) -∗ pa (gRow c.val c.isLt) (sh c 2) -∗ (CD c 1 0 4096 -∗ OB c 2 -∗ TK c 2 -∗ CD c 2 0 4096 -∗ gself m c (rest 2) -∗ Q ⟨⟩) -∗ WP c (k0_part21 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 (k0_pay3 (aX m c) (aWq m c))) Q) := by
  rw [k0_part21_eq_skeleton]
  simp only [k0_part21_skel, semSignalWord, semWaitWord, Prog.lift, Prog.bind_op, Prog.bind_ret, Prog.pure_eq_ret, wp_deviceId, int1, int2, int7]
  iintro #Hctx GR HO HT D1 D2 Hk
  iapply (row_any c (Gen.k0_off1_eq c)) $$ GR
  iintro %v54 GR
  iapply (row_store m c (Gen.k0_off1_eq c)) $$ GR
  iintro GS
  iapply (qg_send m κ ι c 0 0 0 1 9 (Gen.k0_off2_eq c) (Fin.ext (k0_dev36_eq c)) rfl rfl (by decide) rfl rfl rfl rfl) $$ Hctx HO HT GS D1
  iintro HO HT CD1 GS
  iapply (qg_send m κ ι c 1 1 1 2 10 (Gen.k0_off2_eq c) (Fin.ext (k0_dev37_eq c)) rfl rfl (by decide) rfl rfl rfl rfl) $$ Hctx HO HT GS D2
  iintro HO HT CD2 GS
  iapply (wp_done c)
  iapply Hk $$ CD1 HO HT CD2 GS

theorem p22 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 : BitVec 32) {Q : _ → sProp 𝕄} :
    ctx m κ ι ⊢ iprop(OB c 2 -∗ TK c 2 -∗ gself m c (rest 2) -∗ pa (gRow c.val c.isLt) (sh c 3) -∗ pa (gRow c.val c.isLt) (sh c 4) -∗ pa (gRow c.val c.isLt) (sh c 5) -∗ (CD c 3 0 4096 -∗ CD c 4 0 4096 -∗ OB c 5 -∗ TK c 5 -∗ CD c 5 0 4096 -∗ gself m c (rest 5) -∗ Q ⟨(Scalar.remsi (Scalar.addi v2 6#32) 8#32), 1#32⟩) -∗ WP c (k0_part22 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2) Q) := by
  rw [k0_part22_eq_skeleton]
  simp only [k0_part22_skel, semSignalWord, semWaitWord, Prog.lift, Prog.bind_op, Prog.bind_ret, Prog.pure_eq_ret, wp_deviceId, int1, int2, int7]
  iintro #Hctx HO HT GS D3 D4 D5 Hk
  iapply (qg_send m κ ι c 2 2 2 3 11 (Gen.k0_off2_eq c) (Fin.ext (k0_dev38_eq c)) rfl rfl (by decide) rfl rfl rfl rfl) $$ Hctx HO HT GS D3
  iintro HO HT CD3 GS
  iapply (qg_send m κ ι c 3 3 3 4 12 (Gen.k0_off2_eq c) (Fin.ext (k0_dev39_eq c)) rfl rfl (by decide) rfl rfl rfl rfl) $$ Hctx HO HT GS D4
  iintro HO HT CD4 GS
  iapply (qg_send m κ ι c 4 4 4 5 13 (Gen.k0_off2_eq c) (Fin.ext (k0_dev40_eq c)) rfl rfl (by decide) rfl rfl rfl rfl) $$ Hctx HO HT GS D5
  iintro HO HT CD5 GS
  iapply (wp_done c)
  iapply Hk $$ CD3 CD4 HO HT CD5 GS

theorem p23 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v108 c1_i32_100 : BitVec 32) {Q : _ → sProp 𝕄} :
    ctx m κ ι ⊢ iprop(OB c 5 -∗ TK c 5 -∗ gself m c (rest 5) -∗ pa (gRow c.val c.isLt) (sh c 6) -∗ pa (gRow c.val c.isLt) (sh c 7) -∗ CR c 0 -∗ AT c 9 0 -∗ (CD c 6 0 4096 -∗ TK c 7 -∗ CD c 7 0 4096 -∗ gself m c (rest 7) -∗ CR c 1 -∗ OB c 7 -∗ AT c 9 1 -∗ gs m c fullShare 1 -∗ Q (Scalar.subi (Scalar.addi v2 8#32) 2#32)) -∗ WP c (k0_part23 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v108 c1_i32_100) Q) := by
  rw [k0_part23_eq_skeleton]
  simp only [k0_part23_skel, semSignalWord, semWaitWord, Prog.lift, Prog.bind_op, Prog.bind_ret, Prog.pure_eq_ret, wp_deviceId, int1, int2, int7]
  iintro #Hctx HO HT GS D6 D7 HC A9 Hk
  iapply (qg_send m κ ι c 5 5 5 6 14 (Gen.k0_off2_eq c) (Fin.ext (k0_dev41_eq c)) rfl rfl (by decide) rfl rfl rfl rfl) $$ Hctx HO HT GS D6
  iintro HO HT CD6 GS
  iapply (qg_send m κ ι c 6 6 6 7 15 (Gen.k0_off2_eq c) (Fin.ext (k0_dev42_eq c)) rfl rfl (by decide) rfl rfl rfl rfl) $$ Hctx HO HT GS D7
  iintro HO HT CD7 GS
  iapply (qg_recv m κ ι c 0 7 0 9 rfl rfl rfl rfl (by decide)) $$ Hctx HC HO A9
  iintro HC HO A9 G1
  iapply (wp_done c)
  iapply Hk $$ CD6 HT CD7 GS HC HO A9 G1

theorem p24 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v137 : BitVec 32) {Q : _ → sProp 𝕄} :
    ctx m κ ι ⊢ iprop(CR c 1 -∗ OB c 7 -∗ AT c 10 0 -∗ AT c 11 0 -∗ AT c 12 0 -∗ (AT c 10 1 -∗ gs m c fullShare 2 -∗ AT c 11 1 -∗ gs m c fullShare 3 -∗ CR c 4 -∗ OB c 7 -∗ AT c 12 1 -∗ gs m c fullShare 4 -∗ Q (8#32)) -∗ WP c (k0_part24 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v137) Q) := by
  rw [k0_part24_eq_skeleton]
  simp only [k0_part24_skel, semSignalWord, semWaitWord, Prog.lift, Prog.bind_op, Prog.bind_ret, Prog.pure_eq_ret, wp_deviceId, int1, int2, int7]
  iintro #Hctx HC HO A10 A11 A12 Hk
  iapply (qg_recv m κ ι c 1 7 1 10 rfl rfl rfl rfl (by decide)) $$ Hctx HC HO A10
  iintro HC HO A10 G2
  iapply (qg_recv m κ ι c 2 7 2 11 rfl rfl rfl rfl (by decide)) $$ Hctx HC HO A11
  iintro HC HO A11 G3
  iapply (qg_recv m κ ι c 3 7 3 12 rfl rfl rfl rfl (by decide)) $$ Hctx HC HO A12
  iintro HC HO A12 G4
  iapply (wp_done c)
  iapply Hk $$ A10 G2 A11 G3 HC HO A12 G4

theorem p25 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 c8_i32_160 : BitVec 32) {Q : _ → sProp 𝕄} :
    ctx m κ ι ⊢ iprop(CR c 4 -∗ OB c 7 -∗ AT c 13 0 -∗ AT c 14 0 -∗ (AT c 13 1 -∗ gs m c fullShare 5 -∗ CR c 6 -∗ OB c 7 -∗ AT c 14 1 -∗ gs m c fullShare 6 -∗ Q ⟨⟩) -∗ WP c (k0_part25 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 c8_i32_160) Q) := by
  rw [k0_part25_eq_skeleton]
  simp only [k0_part25_skel, semSignalWord, semWaitWord, Prog.lift, Prog.bind_op, Prog.bind_ret, Prog.pure_eq_ret, wp_deviceId, int1, int2, int7]
  iintro #Hctx HC HO A13 A14 Hk
  iapply (qg_recv m κ ι c 4 7 4 13 rfl rfl rfl rfl (by decide)) $$ Hctx HC HO A13
  iintro HC HO A13 G5
  iapply (qg_recv m κ ι c 5 7 5 14 rfl rfl rfl rfl (by decide)) $$ Hctx HC HO A14
  iintro HC HO A14 G6
  iapply (wp_done c)
  iapply Hk $$ A13 G5 HC HO A14 G6

theorem p26 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CR c 6 -∗ OB c 7 -∗ AT c 15 0 -∗ gself m c (rest 7) -∗ gs m c fullShare 1 -∗ gs m c fullShare 2 -∗ gs m c fullShare 3 -∗ gs m c fullShare 4 -∗ gs m c fullShare 5 -∗ gs m c fullShare 6 -∗ LK c 0 -∗ KA m c -∗ pa kcM c -∗ VA m c -∗ pa vcM c -∗ AT c 36 0 -∗ AT c 37 0 -∗ (RE c 36 0 -∗ RE c 37 0 -∗ RE c 36 1 -∗ RE c 37 1 -∗ CR c 7 -∗ AT c 15 1 -∗ gself m c (rest 7) -∗ gs m c fullShare 1 -∗ gs m c fullShare 2 -∗ gs m c fullShare 3 -∗ gs m c fullShare 4 -∗ gs m c fullShare 5 -∗ gs m c fullShare 6 -∗ gs m c fullShare 7 -∗ KA m c -∗ LK c 2 -∗ VA m c -∗ AT c 36 1 -∗ OB c 7 -∗ AT c 37 1 -∗ pt vcM c (vc m c 0 k8_0) -∗ pt kcM c (kc m c 0 k8_0) -∗ Q ⟨gq m, k0_pay6 (F := F), k0_pay7 (F := F), k0_pay8 (kc m c 0 (by decide))⟩) -∗ WP c (k0_part26 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c) Q) := by
  rw [k0_part26_eq_skeleton]
  simp only [k0_part26_skel, semSignalWord, semWaitWord, Prog.lift, Prog.bind_op, Prog.bind_ret, Prog.pure_eq_ret, wp_deviceId, int1, int2, int7]
  iintro #Hctx HC HO A15 GS G1 G2 G3 G4 G5 G6 HL HKA KC HVA VC A36 A37 Hk
  iapply (qg_recv m κ ι c 6 7 6 15 rfl rfl rfl rfl (by decide)) $$ Hctx HC HO A15
  iintro HC HO A15 G7
  iapply (ld_rows m c) $$ GS G1 G2 G3 G4 G5 G6 G7
  iintro GS G1 G2 G3 G4 G5 G6 G7
  ihave #r36_0 := (ctx_reach m κ ι c 36) $$ Hctx
  iapply (chk_copy m κ ι c 0 0 (by decide) rfl rfl rfl) $$ Hctx HL HKA r36_0 KC
  iintro HL HKA CD36
  ihave #r37_0 := (ctx_reach m κ ι c 37) $$ Hctx
  iapply (chv_copy m κ ι c 1 0 (by decide) rfl rfl rfl) $$ Hctx HL HVA r37_0 VC
  iintro HL HVA CD37
  iapply (chk_wait m κ ι c 7 0 (by decide) rfl rfl (by decide)) $$ Hctx CD36 HO A36
  iintro HO A36 #r36_1 KC
  iapply (chv_wait m κ ι c 7 0 (by decide) rfl rfl (by decide)) $$ Hctx CD37 HO A37
  iintro HO A37 #r37_1 VC
  iapply (lw_kc c fullShare (kc m c 0 k8_0)) $$ KC
  iintro KC
  iapply (wp_done c)
  iapply Hk $$ r36_0 r37_0 r36_1 r37_1 HC A15 GS G1 G2 G3 G4 G5 G6 G7 HKA HL HVA A36 HO A37 VC KC

theorem p27 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt vcM c (vc m c 0 k8_0) -∗ pt kcM c (kc m c 0 k8_0) -∗ LK c 2 -∗ KA m c -∗ RE c 36 1 -∗ VA m c -∗ RE c 37 1 -∗ OB c 7 -∗ AT c 36 1 -∗ AT c 37 1 -∗ (RE c 36 2 -∗ RE c 37 2 -∗ KA m c -∗ LK c 4 -∗ VA m c -∗ AT c 36 2 -∗ OB c 7 -∗ AT c 37 2 -∗ pt vcM c (vc m c 1 k8_1) -∗ pt kcM c (kc m c 1 k8_1) -∗ Q ⟨nu1 m c, de1 m c, k0_pay12 (kc m c 1 (by decide))⟩) -∗ WP c (k0_part27 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (k0_pay6 (F := F)) (k0_pay7 (F := F)) (k0_pay8 (kc m c 0 (by decide)))) Q) := by
  rw [k0_part27_eq_skeleton]
  simp only [k0_part27_skel, semSignalWord, semWaitWord, Prog.lift, Prog.bind_op, Prog.bind_ret, Prog.pure_eq_ret, wp_deviceId, int1, int2, int7]
  unfold nu1 de1
  iintro #Hctx VC KC HL HKA #r36_1 HVA #r37_1 HO A36 A37 Hk
  iapply (lw_vc c fullShare (vc m c 0 k8_0)) $$ VC
  iintro VC
  ihave KC := (pt_pa kcM c _) $$ KC
  ihave VC := (pt_pa vcM c _) $$ VC
  iapply (chk_copy m κ ι c 2 1 (by decide) rfl rfl rfl) $$ Hctx HL HKA r36_1 KC
  iintro HL HKA CD36
  iapply (chv_copy m κ ι c 3 1 (by decide) rfl rfl rfl) $$ Hctx HL HVA r37_1 VC
  iintro HL HVA CD37
  iapply (chk_wait m κ ι c 7 1 (by decide) rfl rfl (by decide)) $$ Hctx CD36 HO A36
  iintro HO A36 #r36_2 KC
  iapply (chv_wait m κ ι c 7 1 (by decide) rfl rfl (by decide)) $$ Hctx CD37 HO A37
  iintro HO A37 #r37_2 VC
  iapply (lw_kc c fullShare (kc m c 1 k8_1)) $$ KC
  iintro KC
  iapply (wp_done c)
  iapply Hk $$ r36_2 r37_2 HKA HL HVA A36 HO A37 VC KC

theorem p28 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt vcM c (vc m c 1 k8_1) -∗ pt kcM c (kc m c 1 k8_1) -∗ LK c 4 -∗ KA m c -∗ RE c 36 2 -∗ VA m c -∗ RE c 37 2 -∗ OB c 7 -∗ AT c 36 2 -∗ AT c 37 2 -∗ (RE c 36 3 -∗ RE c 37 3 -∗ KA m c -∗ LK c 6 -∗ VA m c -∗ AT c 36 3 -∗ pt kcM c (kc m c 2 k8_2) -∗ OB c 7 -∗ AT c 37 3 -∗ pt vcM c (vc m c 2 k8_2) -∗ Q ⟨nu2 m c, de2 m c⟩) -∗ WP c (k0_part28 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu1 m c) (de1 m c) (k0_pay12 (kc m c 1 (by decide)))) Q) := by
  rw [k0_part28_eq_skeleton]
  simp only [k0_part28_skel, semSignalWord, semWaitWord, Prog.lift, Prog.bind_op, Prog.bind_ret, Prog.pure_eq_ret, wp_deviceId, int1, int2, int7]
  unfold nu2 de2
  iintro #Hctx VC KC HL HKA #r36_2 HVA #r37_2 HO A36 A37 Hk
  iapply (lw_vc c fullShare (vc m c 1 k8_1)) $$ VC
  iintro VC
  ihave KC := (pt_pa kcM c _) $$ KC
  ihave VC := (pt_pa vcM c _) $$ VC
  iapply (chk_copy m κ ι c 4 2 (by decide) rfl rfl rfl) $$ Hctx HL HKA r36_2 KC
  iintro HL HKA CD36
  iapply (chv_copy m κ ι c 5 2 (by decide) rfl rfl rfl) $$ Hctx HL HVA r37_2 VC
  iintro HL HVA CD37
  iapply (chk_wait m κ ι c 7 2 (by decide) rfl rfl (by decide)) $$ Hctx CD36 HO A36
  iintro HO A36 #r36_3 KC
  iapply (chv_wait m κ ι c 7 2 (by decide) rfl rfl (by decide)) $$ Hctx CD37 HO A37
  iintro HO A37 #r37_3 VC
  iapply (wp_done c)
  iapply Hk $$ r36_3 r37_3 HKA HL HVA A36 KC HO A37 VC

theorem p29 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt kcM c (kc m c 2 k8_2) -∗ pt vcM c (vc m c 2 k8_2) -∗ LK c 6 -∗ KA m c -∗ RE c 36 3 -∗ VA m c -∗ RE c 37 3 -∗ OB c 7 -∗ AT c 36 3 -∗ AT c 37 3 -∗ (RE c 36 4 -∗ RE c 37 4 -∗ KA m c -∗ LK c 8 -∗ VA m c -∗ AT c 36 4 -∗ pt kcM c (kc m c 3 k8_3) -∗ OB c 7 -∗ AT c 37 4 -∗ pt vcM c (vc m c 3 k8_3) -∗ Q ⟨nu3 m c, de3 m c⟩) -∗ WP c (k0_part29 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu2 m c) (de2 m c)) Q) := by
  rw [k0_part29_eq_skeleton]
  simp only [k0_part29_skel, semSignalWord, semWaitWord, Prog.lift, Prog.bind_op, Prog.bind_ret, Prog.pure_eq_ret, wp_deviceId, int1, int2, int7]
  unfold nu3 de3
  iintro #Hctx KC VC HL HKA #r36_3 HVA #r37_3 HO A36 A37 Hk
  iapply (lw_kc c fullShare (kc m c 2 k8_2)) $$ KC
  iintro KC
  iapply (lw_vc c fullShare (vc m c 2 k8_2)) $$ VC
  iintro VC
  ihave KC := (pt_pa kcM c _) $$ KC
  ihave VC := (pt_pa vcM c _) $$ VC
  iapply (chk_copy m κ ι c 6 3 (by decide) rfl rfl rfl) $$ Hctx HL HKA r36_3 KC
  iintro HL HKA CD36
  iapply (chv_copy m κ ι c 7 3 (by decide) rfl rfl rfl) $$ Hctx HL HVA r37_3 VC
  iintro HL HVA CD37
  iapply (chk_wait m κ ι c 7 3 (by decide) rfl rfl (by decide)) $$ Hctx CD36 HO A36
  iintro HO A36 #r36_4 KC
  iapply (chv_wait m κ ι c 7 3 (by decide) rfl rfl (by decide)) $$ Hctx CD37 HO A37
  iintro HO A37 #r37_4 VC
  iapply (wp_done c)
  iapply Hk $$ r36_4 r37_4 HKA HL HVA A36 KC HO A37 VC

theorem p30 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt kcM c (kc m c 3 k8_3) -∗ pt vcM c (vc m c 3 k8_3) -∗ LK c 8 -∗ KA m c -∗ RE c 36 4 -∗ VA m c -∗ RE c 37 4 -∗ OB c 7 -∗ AT c 36 4 -∗ (RE c 36 5 -∗ KA m c -∗ LK c 10 -∗ VA m c -∗ CD c 37 0 131072 -∗ OB c 7 -∗ AT c 36 5 -∗ pt kcM c (kc m c 4 k8_4) -∗ Q ⟨nu4 m c, de4 m c⟩) -∗ WP c (k0_part30 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu3 m c) (de3 m c)) Q) := by
  rw [k0_part30_eq_skeleton]
  simp only [k0_part30_skel, semSignalWord, semWaitWord, Prog.lift, Prog.bind_op, Prog.bind_ret, Prog.pure_eq_ret, wp_deviceId, int1, int2, int7]
  unfold nu4 de4
  iintro #Hctx KC VC HL HKA #r36_4 HVA #r37_4 HO A36 Hk
  iapply (lw_kc c fullShare (kc m c 3 k8_3)) $$ KC
  iintro KC
  iapply (lw_vc c fullShare (vc m c 3 k8_3)) $$ VC
  iintro VC
  ihave KC := (pt_pa kcM c _) $$ KC
  ihave VC := (pt_pa vcM c _) $$ VC
  iapply (chk_copy m κ ι c 8 4 (by decide) rfl rfl rfl) $$ Hctx HL HKA r36_4 KC
  iintro HL HKA CD36
  iapply (chv_copy m κ ι c 9 4 (by decide) rfl rfl rfl) $$ Hctx HL HVA r37_4 VC
  iintro HL HVA CD37
  iapply (chk_wait m κ ι c 7 4 (by decide) rfl rfl (by decide)) $$ Hctx CD36 HO A36
  iintro HO A36 #r36_5 KC
  iapply (wp_done c)
  iapply Hk $$ r36_5 HKA HL HVA CD37 HO A36 KC

theorem p31 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CD c 37 0 131072 -∗ OB c 7 -∗ AT c 37 4 -∗ pt kcM c (kc m c 4 k8_4) -∗ LK c 10 -∗ KA m c -∗ RE c 36 5 -∗ VA m c -∗ AT c 36 5 -∗ (RE c 37 5 -∗ RE c 36 6 -∗ AT c 37 5 -∗ KA m c -∗ LK c 12 -∗ VA m c -∗ CD c 37 0 131072 -∗ OB c 7 -∗ AT c 36 6 -∗ pt kcM c (kc m c 5 k8_5) -∗ Q ⟨nu5 m c, de5 m c⟩) -∗ WP c (k0_part31 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu4 m c) (de4 m c)) Q) := by
  rw [k0_part31_eq_skeleton]
  simp only [k0_part31_skel, semSignalWord, semWaitWord, Prog.lift, Prog.bind_op, Prog.bind_ret, Prog.pure_eq_ret, wp_deviceId, int1, int2, int7]
  unfold nu5 de5
  iintro #Hctx CD37 HO A37 KC HL HKA #r36_5 HVA A36 Hk
  iapply (chv_wait m κ ι c 7 4 (by decide) rfl rfl (by decide)) $$ Hctx CD37 HO A37
  iintro HO A37 #r37_5 VC
  iapply (lw_kc c fullShare (kc m c 4 k8_4)) $$ KC
  iintro KC
  iapply (lw_vc c fullShare (vc m c 4 k8_4)) $$ VC
  iintro VC
  ihave KC := (pt_pa kcM c _) $$ KC
  ihave VC := (pt_pa vcM c _) $$ VC
  iapply (chk_copy m κ ι c 10 5 (by decide) rfl rfl rfl) $$ Hctx HL HKA r36_5 KC
  iintro HL HKA CD36
  iapply (chv_copy m κ ι c 11 5 (by decide) rfl rfl rfl) $$ Hctx HL HVA r37_5 VC
  iintro HL HVA CD37
  iapply (chk_wait m κ ι c 7 5 (by decide) rfl rfl (by decide)) $$ Hctx CD36 HO A36
  iintro HO A36 #r36_6 KC
  iapply (wp_done c)
  iapply Hk $$ r37_5 r36_6 A37 HKA HL HVA CD37 HO A36 KC

theorem p32 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CD c 37 0 131072 -∗ OB c 7 -∗ AT c 37 5 -∗ pt kcM c (kc m c 5 k8_5) -∗ LK c 12 -∗ KA m c -∗ RE c 36 6 -∗ VA m c -∗ AT c 36 6 -∗ (RE c 37 6 -∗ RE c 36 7 -∗ AT c 37 6 -∗ KA m c -∗ LK c 14 -∗ VA m c -∗ CD c 37 0 131072 -∗ OB c 7 -∗ AT c 36 7 -∗ pt kcM c (kc m c 6 k8_6) -∗ Q ⟨nu6 m c, de6 m c⟩) -∗ WP c (k0_part32 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu5 m c) (de5 m c)) Q) := by
  rw [k0_part32_eq_skeleton]
  simp only [k0_part32_skel, semSignalWord, semWaitWord, Prog.lift, Prog.bind_op, Prog.bind_ret, Prog.pure_eq_ret, wp_deviceId, int1, int2, int7]
  unfold nu6 de6
  iintro #Hctx CD37 HO A37 KC HL HKA #r36_6 HVA A36 Hk
  iapply (chv_wait m κ ι c 7 5 (by decide) rfl rfl (by decide)) $$ Hctx CD37 HO A37
  iintro HO A37 #r37_6 VC
  iapply (lw_kc c fullShare (kc m c 5 k8_5)) $$ KC
  iintro KC
  iapply (lw_vc c fullShare (vc m c 5 k8_5)) $$ VC
  iintro VC
  ihave KC := (pt_pa kcM c _) $$ KC
  ihave VC := (pt_pa vcM c _) $$ VC
  iapply (chk_copy m κ ι c 12 6 (by decide) rfl rfl rfl) $$ Hctx HL HKA r36_6 KC
  iintro HL HKA CD36
  iapply (chv_copy m κ ι c 13 6 (by decide) rfl rfl rfl) $$ Hctx HL HVA r37_6 VC
  iintro HL HVA CD37
  iapply (chk_wait m κ ι c 7 6 (by decide) rfl rfl (by decide)) $$ Hctx CD36 HO A36
  iintro HO A36 #r36_7 KC
  iapply (wp_done c)
  iapply Hk $$ r37_6 r36_7 A37 HKA HL HVA CD37 HO A36 KC

theorem p33 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CD c 37 0 131072 -∗ OB c 7 -∗ AT c 37 6 -∗ pt kcM c (kc m c 6 k8_6) -∗ LK c 14 -∗ KA m c -∗ RE c 36 7 -∗ VA m c -∗ AT c 36 7 -∗ (RE c 37 7 -∗ RE c 36 8 -∗ AT c 37 7 -∗ KA m c -∗ LK c 16 -∗ VA m c -∗ CD c 37 0 131072 -∗ OB c 7 -∗ AT c 36 8 -∗ pt kcM c (kc m c 7 k8_7) -∗ Q ⟨nu7 m c, de7 m c⟩) -∗ WP c (k0_part33 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (gq m) (nu6 m c) (de6 m c)) Q) := by
  rw [k0_part33_eq_skeleton]
  simp only [k0_part33_skel, semSignalWord, semWaitWord, Prog.lift, Prog.bind_op, Prog.bind_ret, Prog.pure_eq_ret, wp_deviceId, int1, int2, int7]
  unfold nu7 de7
  iintro #Hctx CD37 HO A37 KC HL HKA #r36_7 HVA A36 Hk
  iapply (chv_wait m κ ι c 7 6 (by decide) rfl rfl (by decide)) $$ Hctx CD37 HO A37
  iintro HO A37 #r37_7 VC
  iapply (lw_kc c fullShare (kc m c 6 k8_6)) $$ KC
  iintro KC
  iapply (lw_vc c fullShare (vc m c 6 k8_6)) $$ VC
  iintro VC
  ihave KC := (pt_pa kcM c _) $$ KC
  ihave VC := (pt_pa vcM c _) $$ VC
  iapply (chk_copy m κ ι c 14 7 (by decide) rfl rfl rfl) $$ Hctx HL HKA r36_7 KC
  iintro HL HKA CD36
  iapply (chv_copy m κ ι c 15 7 (by decide) rfl rfl rfl) $$ Hctx HL HVA r37_7 VC
  iintro HL HVA CD37
  iapply (chk_wait m κ ι c 7 7 (by decide) rfl rfl (by decide)) $$ Hctx CD36 HO A36
  iintro HO A36 #r36_8 KC
  iapply (wp_done c)
  iapply Hk $$ r37_7 r36_8 A37 HKA HL HVA CD37 HO A36 KC

theorem p34 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CD c 37 0 131072 -∗ OB c 7 -∗ AT c 37 7 -∗ pt kcM c (kc m c 7 k8_7) -∗ pa ndM c -∗ CD c 1 0 4096 -∗ AT c 1 0 -∗ (RE c 37 8 -∗ AT c 37 8 -∗ pt kcM c (kc m c 7 k8_7) -∗ pt vcM c (vc m c 7 k8_7) -∗ pt ndM c (ND m c) -∗ OB c 7 -∗ AT c 1 1 -∗ qgPay m c 1 -∗ Q ⟨⟩) -∗ WP c (k0_part34 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c (gq m) (nu7 m c) (de7 m c)) Q) := by
  rw [k0_part34_eq_skeleton]
  simp only [k0_part34_skel, semSignalWord, semWaitWord, Prog.lift, Prog.bind_op, Prog.bind_ret, Prog.pure_eq_ret, wp_deviceId, int1, int2, int7]
  iintro #Hctx CD37 HO A37 KC ND CD1 A1 Hk
  iapply (chv_wait m κ ι c 7 7 (by decide) rfl rfl (by decide)) $$ Hctx CD37 HO A37
  iintro HO A37 #r37_8 VC
  iapply (lw_kc c fullShare (kc m c 7 k8_7)) $$ KC
  iintro KC
  iapply (lw_vc c fullShare (vc m c 7 k8_7)) $$ VC
  iintro VC
  iapply (la_nd c) $$ ND
  iintro %v425 ND
  iapply (sw_nd c (ND m c)) $$ ND
  iintro ND
  iapply (qg_back m κ ι c 7 0 1 rfl rfl rfl (by decide)) $$ Hctx CD1 HO A1
  iintro HO A1 B1
  iapply (wp_done c)
  iapply Hk $$ r37_8 A37 KC VC ND HO A1 B1

theorem p35 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(CD c 2 0 4096 -∗ OB c 7 -∗ AT c 2 0 -∗ CD c 3 0 4096 -∗ AT c 3 0 -∗ CD c 4 0 4096 -∗ AT c 4 0 -∗ CD c 5 0 4096 -∗ AT c 5 0 -∗ CD c 6 0 4096 -∗ AT c 6 0 -∗ (AT c 2 1 -∗ qgPay m c 2 -∗ AT c 3 1 -∗ qgPay m c 3 -∗ AT c 4 1 -∗ qgPay m c 4 -∗ AT c 5 1 -∗ qgPay m c 5 -∗ OB c 7 -∗ AT c 6 1 -∗ qgPay m c 6 -∗ Q ⟨⟩) -∗ WP c (k0_part35 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c) Q) := by
  rw [k0_part35_eq_skeleton]
  simp only [k0_part35_skel, semSignalWord, semWaitWord, Prog.lift, Prog.bind_op, Prog.bind_ret, Prog.pure_eq_ret, wp_deviceId, int1, int2, int7]
  iintro #Hctx CD2 HO A2 CD3 A3 CD4 A4 CD5 A5 CD6 A6 Hk
  iapply (qg_back m κ ι c 7 1 2 rfl rfl rfl (by decide)) $$ Hctx CD2 HO A2
  iintro HO A2 B2
  iapply (qg_back m κ ι c 7 2 3 rfl rfl rfl (by decide)) $$ Hctx CD3 HO A3
  iintro HO A3 B3
  iapply (qg_back m κ ι c 7 3 4 rfl rfl rfl (by decide)) $$ Hctx CD4 HO A4
  iintro HO A4 B4
  iapply (qg_back m κ ι c 7 4 5 rfl rfl rfl (by decide)) $$ Hctx CD5 HO A5
  iintro HO A5 B5
  iapply (qg_back m κ ι c 7 5 6 rfl rfl rfl (by decide)) $$ Hctx CD6 HO A6
  iintro HO A6 B6
  iapply (wp_done c)
  iapply Hk $$ A2 B2 A3 B3 A4 B4 A5 B5 HO A6 B6

theorem p36 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(CD c 7 0 4096 -∗ OB c 7 -∗ AT c 7 0 -∗ pt ndM c (ND m c) -∗ pa (ndSt 0 z2) c -∗ TK c 7 -∗ WK c 0 -∗ CP (sh c 1) 0 -∗ (RE c 40 0 -∗ AT c 7 1 -∗ qgPay m c 7 -∗ pt ndM c (ND m c) -∗ OB c 8 -∗ TK c 8 -∗ WK c 1 -∗ CD c 40 0 4224 -∗ Q ⟨⟩) -∗ WP c (k0_part36 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part36_eq_skeleton]
  simp only [k0_part36_skel, semSignalWord, semWaitWord, Prog.lift, Prog.bind_op, Prog.bind_ret, Prog.pure_eq_ret, wp_deviceId, int1, int2, int7]
  iintro #Hctx CD7 HO A7 ND S0 HT HW #KP0 Hk
  iapply (qg_back m κ ι c 7 6 7 rfl rfl rfl (by decide)) $$ Hctx CD7 HO A7
  iintro HO A7 B7
  iapply (ld_nd c ((c.val + 15) % 8) (m8 _) (off4_15 c) (ND m c)) $$ ND
  iintro ND
  iapply (nd_any c 0 z2) $$ S0
  iintro %v S0
  iapply (nd_store c 0 z2) $$ S0
  iintro S0
  ihave S0 := (show pt (ndSt 0 z2) c (ndW 0 z2 (k0_pay32 (rdN ((c.val + 15) % 8) (m8 _) (ND m c)))) ⊢ pt (ndSt 0 z2) c (ndW 0 z2 (SN m (2 * 0 + 0) c)) from Entails.refl _) $$ S0
  ihave #r40_0 := (ctx_reach m κ ι c 40) $$ Hctx
  iapply (nd0_send m κ ι c 7 7 0 0 0 (Fin.ext (k0_dev43_eq c)) rfl rfl rfl rfl rfl (by decide) rfl) $$ Hctx HO HT HW r40_0 KP0 S0
  iintro HO HT HW CD40
  iapply (wp_done c)
  iapply Hk $$ r40_0 A7 B7 ND HO HT HW CD40

end Cert.KernelIdeal.Pf
end
-- ==== Proof.Scatter.lean ====
module

public import proofs.«01_k».proof.Proof.Front

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The keys and values that devices 0 and 1 send to all -/

def ev0 : List Ev := evKV 32 34 131072 [1, 2, 3, 4, 5, 6, 7]
def ev1 : List Ev := evKV 33 35 16384 [7, 1, 2, 3, 4, 5, 6]
theorem evSc_0 (c : Dev nD) (h : c.val = 0) : evSc c = ev0 := by unfold evSc; rw [if_pos h]; rfl
theorem evSc_1 (c : Dev nD) (h : c.val = 1) : evSc c = ev1 := by unfold evSc; rw [if_neg (by omega), if_pos h]; rfl
theorem evSc_2 (c : Dev nD) (h0 : c.val ≠ 0) (h1 : c.val ≠ 1) : evSc c = [] := by unfold evSc; rw [if_neg h0, if_neg h1]

/-- The tokens of the sends, and of the two copies a device makes for itself. -/
def scT : List Ev := [own (semOf 16) 0, own (semOf 23) 0, own (semOf 17) 0, own (semOf 24) 0, own (semOf 18) 0, own (semOf 25) 0, own (semOf 19) 0, own (semOf 26) 0,
  own (semOf 20) 0, own (semOf 27) 0, own (semOf 21) 0, own (semOf 28) 0, own (semOf 22) 0, own (semOf 29) 0, own (semOf 38) 0, own (semOf 39) 0]
def SK (c : Dev nD) (n : ℕ) : sProp 𝕄 := bigSepL (scT.drop n) (tkE c)
theorem SK_pop (c : Dev nD) (n : ℕ) (w : Ev) (h : scT.drop n = w :: scT.drop (n + 1)) : SK (F := F) c n ⊢ iprop(tkE c w ∗ SK c (n + 1)) := by
  unfold SK
  rw [h, bigSepL_cons]
  exact Entails.refl _

theorem st_waitE (c : Dev nD) (i : Fin 51) {sem : DmaSem sig} {sp sp' : Space} {S S' : Shape} {e e' : EltTy} {src : Memref sig .tc sp' S' e'}
    {dst : Memref sig .tc sp S e} {hsrc : src.view.WordExact} {hdst : dst.view.WordExact}
    (ix N R d : ℕ) {l : List Ev} {α : Type} {Q : α → sProp 𝕄} {k : PUnit → Prog (TpuEff nD τ sig (Elt F) Λ₀ .tc) α}
    (hs : semOf i = .dma sem) (hN : dst.view.dmaCredit = N) (hd : dut c (kd (semOf i)) R = {d}) (ha : amt c (kd (semOf i)) = N)
    (hl : lvOk ix l = true) (P : sProp 𝕄) (hP : payl m c (kd (semOf i)) R d ⊢ P) :
    ctx m κ ι ⊢ iprop(CD c i ix N -∗ Ob c l -∗ AT c i R -∗ (Ob c l -∗ AT c i (R + 1) -∗ P -∗ WP c (k ⟨⟩) Q)
      -∗ WP c (.op (.waitDma2 sem src dst hsrc hdst) k) Q) := by
  unfold CD AT
  have hcell := ctx_cell m κ ι c i
  subst hN
  generalize semOf i = s at *
  subst hs
  have h1 : (Rd m).duties ((c : Thread nD τ), .dma sem) R = {d} := hd
  have h2 : (bigSep ((Rd m).duties ((c : Thread nD τ), .dma sem) R \ ∅) fun d => (Rd m).payload ((c : Thread nD τ), .dma sem) R d) ⊢ P := by
    rw [h1, Finset.sdiff_empty, bigSep_singleton]; exact hP
  unfold Ob
  iintro #Hctx Hc ⟨⟨%W, HO⟩, Ht⟩ Hat Hk
  ihave #Hi := hcell $$ Hctx
  ihave #HL := (ctx_lev m κ ι) $$ Hctx
  ihave #HM := (mayWait_l (c := c) (s := .dma sem) hl) $$ HL
  iapply (Rounds.wp_wait_rest_token 𝒱₀ ER (Rd m) (c : Thread nD τ) none (κ := κ (c, i)) (wpE_waitDma2_eq 𝒱₀ (c : Thread nD τ) none Set.univ) (Set.mem_univ _) ix
    (O := tallyL (l.map (pay c))) (W := W) (R := R) (m := 0) (T := ∅) (by
      unfold Schedule.expect Schedule.amountOf
      rw [h1, Finset.sum_singleton, Nat.zero_add]; exact ha.symm)) $$ [Hc HO Hat]
  · isplitr; · iexact Hi
    isplitl [Hc]; · iexact Hc
    isplitl [HO]; · iexact HO
    isplitr; · iexact HM
    iexact Hat
  iintro ⟨HO, Hat, -, Hp⟩
  ihave Hp := h2 $$ Hp
  iapply Hk $$ [HO Ht] Hat Hp
  isplitl [HO]; · iexists _; iexact HO
  iexact Ht

theorem mem_klo {i : S1152x8x128.Idx} : i ∈ kbLo.view.set ↔ (i 0).val < 1024 := by
  rw [show kbLo.view.set = (Rect.unit (s := S1152x8x128) ![0, 0, 0] S1024x8x128.size inb_S1152x8x128_S1024x8x128_0_0_0).set from View.set_slice_whole cc0_scratch7 _, Rect.mem_set_unit]
  constructor
  · intro h0
    have h2 : (i 0).val < 0 + 1024 := (h0 0).2
    omega
  · intro h0 a
    fin_cases a
    · exact ⟨Nat.zero_le _, show (i 0).val < 0 + 1024 by omega⟩
    · exact ⟨Nat.zero_le _, show (i 1).val < 0 + 8 by have : (i 1).val < 8 := (i 1).isLt; omega⟩
    · exact ⟨Nat.zero_le _, show (i 2).val < 0 + 128 by have : (i 2).val < 128 := (i 2).isLt; omega⟩
theorem mem_khi {i : S1152x8x128.Idx} : i ∈ kbHi.view.set ↔ 1024 ≤ (i 0).val := by
  rw [show kbHi.view.set = (Rect.unit (s := S1152x8x128) ![1024, 0, 0] S128x8x128.size inb_S1152x8x128_S128x8x128_1024_0_0).set from View.set_slice_whole cc0_scratch7 _, Rect.mem_set_unit]
  constructor
  · intro h0
    exact (h0 0).1
  · intro h0 a
    fin_cases a
    · exact ⟨h0, show (i 0).val < 1024 + 128 by have : (i 0).val < 1152 := (i 0).isLt; omega⟩
    · exact ⟨Nat.zero_le _, show (i 1).val < 0 + 8 by have : (i 1).val < 8 := (i 1).isLt; omega⟩
    · exact ⟨Nat.zero_le _, show (i 2).val < 0 + 128 by have : (i 2).val < 128 := (i 2).isLt; omega⟩
theorem ksplit (c : Dev nD) (f : Vec F S1152x8x128 .f32) : pt kbM c f ⊣⊢ iprop(pt kbLo c f ∗ pt kbHi c f) := by
  have h : (kbM.view.set : Finset S1152x8x128.Idx) = kbLo.view.set ∪ kbHi.view.set := by
    rw [show (kbM.view.set : Finset S1152x8x128.Idx) = Finset.univ from View.set_whole _]
    ext i
    rw [Finset.mem_union, mem_klo, mem_khi]
    exact ⟨fun _ => Nat.lt_or_ge _ _, fun _ => Finset.mem_univ _⟩
  have hdj : Disjoint (kbLo.view.set : Finset S1152x8x128.Idx) kbHi.view.set := by
    rw [Finset.disjoint_left]
    intro i h1 h2
    rw [mem_klo] at h1; rw [mem_khi] at h2
    omega
  show (kbM.view.loc (c : Thread nD τ) ↦[(kbM.view.set : Finset S1152x8x128.Idx)]{fullShare} f : sProp 𝕄) ⊣⊢ _
  rw [h]
  exact pointsTo_union hdj
theorem ksplit_a (c : Dev nD) : pa (F := F) kbM c ⊢ iprop(pa kbLo c ∗ pa kbHi c) := by
  have h1 : ∀ f : Vec F S1152x8x128 .f32, pt kbM c f ⊢ iprop(pt kbLo c f ∗ pt kbHi c f) := fun f => (ksplit c f).1
  iintro H
  unfold pa slot
  icases H with ⟨%f, H⟩
  ihave H := (h1 f) $$ H
  icases H with ⟨H1, H2⟩
  isplitl [H1]; · iexists f; iexact H1
  iexists f; iexact H2
theorem kjoin (c : Dev nD) : iprop(pt kbLo c (KB m c) ∗ pt kbHi c (KB m c)) ⊢ pt kbM c (KB m c) := (ksplit c _).2

theorem land_klo (c x : Dev nD) (hc : c.val = 0) (t : ℕ) (h : t < 8) (ht : t = x.val) (fd : Buf (Elt F) (kbLo.view.loc (x : Thread nD τ))) :
    pt kbLo x (kbLo.view.write (Elt F) fd ((kHd t h).view.read (Elt F) (aK m c)) Finset.univ) ⊢ pt kbLo x (KB m x) := by
  have hc' : c = (0 : Dev nD) := Fin.ext hc
  subst hc'
  subst ht
  have h1 : pt kbLo x (kbLo.view.write (Elt F) fd ((kHd x.val h).view.read (Elt F) (aK m 0)) Finset.univ) = pt kbLo x (KB m x) := pointsTo_congr fun i hi => by
    rw [show KB m x i = kbLo.view.write (Elt F) jk ((kHd x.val x.isLt).view.read (Elt F) (aK m 0)) Finset.univ i from if_pos hi]
    exact View.write_congr (fun _ _ _ => rfl) fun h => absurd (show i ∈ kbLo.view.setOn Finset.univ by rw [View.setOn_univ]; exact hi) h
  rw [h1]
theorem land_khi (c x : Dev nD) (hc : c.val = 1) (t : ℕ) (h : t < 8) (ht : t = x.val) (fd : Buf (Elt F) (kbHi.view.loc (x : Thread nD τ))) :
    pt kbHi x (kbHi.view.write (Elt F) fd ((kHd' t h).view.read (Elt F) (aK m c)) Finset.univ) ⊢ pt kbHi x (KB m x) := by
  have hc' : c = (1 : Dev nD) := Fin.ext hc
  subst hc'
  subst ht
  have h1 : pt kbHi x (kbHi.view.write (Elt F) fd ((kHd' x.val h).view.read (Elt F) (aK m 1)) Finset.univ) = pt kbHi x (KB m x) := pointsTo_congr fun i hi => by
    rw [show KB m x i = kbHi.view.write (Elt F) jk ((kHd' x.val x.isLt).view.read (Elt F) (aK m 1)) Finset.univ i from
      if_neg (fun h' => by rw [mem_klo] at h'; rw [mem_khi] at hi; omega)]
    exact View.write_congr (fun _ _ _ => rfl) fun h => absurd (show i ∈ kbHi.view.setOn Finset.univ by rw [View.setOn_univ]; exact hi) h
  rw [h1]

theorem sklo (c : Dev nD) (hc : c.val = 0) {dn : Dev nD} {sS sR : DmaSem sig} {off : Fin 4 → ℕ} {inb : ∀ a, off a + S1x1024x8x128.size a ≤ S1x1024x64x128.size a}
    {hu : ∀ a, (Rect.unit (s := S1x1024x64x128) off S1x1024x8x128.size inb).stride a = 1} {hq : S1x1024x8x128.Squeezes S1024x8x128}
    {inb2 : ∀ a, (![0, 0, 0] : Fin 3 → ℕ) a + S1024x8x128.size a ≤ S1152x8x128.size a} {hu2 : ∀ a, (Rect.unit (s := S1152x8x128) ![0, 0, 0] S1024x8x128.size inb2).stride a = 1}
    {hsc : ((kbM.slice (Rect.unit (s := S1152x8x128) ![0, 0, 0] S1024x8x128.size inb2) hu2) : Memref sig (Dev.tc dn : Thread nD τ).2.kind _ _ _).view.ref.isScScratch = false}
    {hsrc : ((kM.slice (Rect.unit (s := S1x1024x64x128) off S1x1024x8x128.size inb) hu).squeeze S1024x8x128 hq).view.WordExact}
    {hdst : (kbM.slice (Rect.unit (s := S1152x8x128) ![0, 0, 0] S1024x8x128.size inb2) hu2).view.WordExact}
    {hsem : DmaTarget.Typed .hbm (.dma sR) (.remote (Dev.tc dn : Thread nD τ) (kbM.slice (Rect.unit (s := S1152x8x128) ![0, 0, 0] S1024x8x128.size inb2) hu2) (.dma sS) hsc)}
    {α : Type} {Q : α → sProp 𝕄} {k : PUnit → Prog (TpuEff nD τ sig (Elt F) Λ₀ .tc) α} (t : ℕ) (h1 : 1 ≤ t) (h8 : t < 8) (n i : ℕ) (iS : Fin 51) {l : List Ev} (l' : List Ev)
    (ho : off = ![0, 0, 8 * t, 0]) (hn : dn = sh c t) (hS : semOf iS = .dma sS) (hR : semOf 32 = .dma sR) (hk : kd (semOf iS) = .sc i) (hi : i < 14)
    (he : l = ⟨semOf 32, t, 0, t, 17, 131072⟩ :: l') (ht : scT.drop n = own (semOf iS) 0 :: scT.drop (n + 1)) :
    ctx m κ ι ⊢ iprop(Ob c l -∗ SK c n -∗ KA m c -∗ pa kbLo (sh c t) -∗ (Ob c l' -∗ SK c (n + 1) -∗ KA m c -∗ CD c iS 0 131072 -∗ WP c (k ⟨⟩) Q)
      -∗ WP c (.op (.enqueueDma ((kM.slice (Rect.unit (s := S1x1024x64x128) off S1x1024x8x128.size inb) hu).squeeze S1024x8x128 hq) (.remote (Dev.tc dn : Thread nD τ) (kbM.slice (Rect.unit (s := S1152x8x128) ![0, 0, 0] S1024x8x128.size inb2) hu2) (.dma sS) hsc) (.dma sR) hsrc hdst hsem) k) Q) := by
  subst ho
  have hx : (sh c t).val = t := by show (c.val + t) % 8 = t; omega
  have hd1 : 0 ∈ dut c (kd (semOf iS)) 0 := by
    rw [hk]; show 0 ∈ (if 0 = 0 ∧ i < 14 ∧ c.val < 2 then ({0} : Finset ℕ) else ∅); rw [if_pos ⟨rfl, hi, by omega⟩]; decide
  have hk1 : amt c (kd (semOf iS)) = 131072 := by
    rw [hk]; show (if c.val = 0 then 131072 else 16384) = 131072; rw [if_pos hc]
  have hd2 : t ∈ dut (sh c t) (kd (semOf 32)) 0 := by
    show t ∈ (if 0 = 0 then (if 0 % 2 = 0 then (if (sh c t).val = 0 then (∅ : Finset ℕ) else {(sh c t).val}) else (if (sh c t).val = 1 then ∅ else {((sh c t).val + 7) % 8})) else ∅)
    rw [if_pos rfl, if_pos (by decide), if_neg (by omega), Finset.mem_singleton]; omega
  have hp1 : ∀ q : PosShare TreeShare, (((kHd t h8).view.loc (c : Thread nD τ)) ↦[(kHd t h8).view.set]{q} (aK m c) : sProp 𝕄) ⊢ payl m c (kd (semOf iS)) 0 0 := by
    intro q; rw [hk]; exact Affine.affine
  have hp2 : ∀ fd, pt kbLo (sh c t) (kbLo.view.write (Elt F) fd ((kHd t h8).view.read (Elt F) (aK m c)) Finset.univ) ⊢ payl m (sh c t) (kd (semOf 32)) 0 t :=
    fun fd => land_klo m c (sh c t) hc t h8 hx.symm fd
  iintro #Hctx HO HT HK Hd Hk
  unfold pa slot
  icases Hd with ⟨%fd, Hd⟩
  ihave HT := (SK_pop c n _ ht) $$ HT
  icases HT with ⟨Ht, HT⟩
  ihave Ht := (show tkE (F := F) c (own (semOf iS) 0) ⊢ dutyTok ER (cl c (semOf iS)) 0 0 from Entails.refl _) $$ Ht
  ihave HK := (takek m c (kHd t h8).view.set) $$ HK
  icases HK with ⟨HK, %q, Hs⟩
  ihave #Hr1 := (ctx_reach m κ ι c iS) $$ Hctx
  ihave #Hr2 := (ctx_reach m κ ι (sh c t) 32) $$ Hctx
  iapply (st_send m κ ι c iS 32 (src := kHd t h8) (dst := kbLo) q (aK m c) t 0 0 t 17 131072 fd l' hn hS hR he rfl hd1 hd2 hk1 rfl (hp1 q) (hp2 fd)) $$ Hctx HO Ht Hr1 Hr2 Hs Hd
  iintro HO Hc
  iapply Hk $$ HO HT HK Hc

theorem fklo (c : Dev nD) (hc : c.val = 0) {sem : DmaSem sig} {off : Fin 4 → ℕ} {inb : ∀ a, off a + S1x1024x8x128.size a ≤ S1x1024x64x128.size a}
    {hu : ∀ a, (Rect.unit (s := S1x1024x64x128) off S1x1024x8x128.size inb).stride a = 1} {hq : S1x1024x8x128.Squeezes S1024x8x128}
    {inb2 : ∀ a, (![0, 0, 0] : Fin 3 → ℕ) a + S1024x8x128.size a ≤ S1152x8x128.size a} {hu2 : ∀ a, (Rect.unit (s := S1152x8x128) ![0, 0, 0] S1024x8x128.size inb2).stride a = 1}
    {hsrc : ((kM.slice (Rect.unit (s := S1x1024x64x128) off S1x1024x8x128.size inb) hu).squeeze S1024x8x128 hq).view.WordExact}
    {hdst : (kbM.slice (Rect.unit (s := S1152x8x128) ![0, 0, 0] S1024x8x128.size inb2) hu2).view.WordExact}
    {hsem : DmaTarget.Typed (nD := nD) (τ := τ) (p := .tc) .hbm (.dma sem) (.here (kbM.slice (Rect.unit (s := S1152x8x128) ![0, 0, 0] S1024x8x128.size inb2) hu2))}
    {α : Type} {Q : α → sProp 𝕄} {k : PUnit → Prog (TpuEff nD τ sig (Elt F) Λ₀ .tc) α} (n : ℕ)
    (ho : off = ![0, 0, 8 * 0, 0]) (hs : semOf 38 = .dma sem) (ht : scT.drop n = own (semOf 38) 0 :: scT.drop (n + 1)) :
    ctx m κ ι ⊢ iprop(SK c n -∗ KA m c -∗ pa kbLo c -∗ (SK c (n + 1) -∗ KA m c -∗ CD c 38 0 131072 -∗ WP c (k ⟨⟩) Q)
      -∗ WP c (.op (.enqueueDma ((kM.slice (Rect.unit (s := S1x1024x64x128) off S1x1024x8x128.size inb) hu).squeeze S1024x8x128 hq) (.here (kbM.slice (Rect.unit (s := S1152x8x128) ![0, 0, 0] S1024x8x128.size inb2) hu2)) (.dma sem) hsrc hdst hsem) k) Q) := by
  subst ho
  have hd1 : 0 ∈ dut c (kd (semOf 38)) 0 := by
    show 0 ∈ (if 0 = 0 ∧ c.val < 2 then ({0} : Finset ℕ) else ∅); rw [if_pos ⟨rfl, by omega⟩]; decide
  have hk1 : amt c (kd (semOf 38)) = 131072 := by
    show (if c.val = 0 then 131072 else 16384) = 131072; rw [if_pos hc]
  have hp2 : ∀ fd, pt kbLo c (kbLo.view.write (Elt F) fd ((kHd 0 k8_0).view.read (Elt F) (aK m c)) Finset.univ) ⊢ payl m c (kd (semOf 38)) 0 0 := by
    intro fd
    have h2 : payl m c (kd (semOf 38)) 0 0 = pt kbLo c (KB m c) := by
      show fillPay m c 0 = _
      unfold fillPay
      rw [if_pos hc, if_pos rfl]
    rw [h2]
    exact land_klo m c c hc 0 k8_0 hc.symm fd
  iintro #Hctx HT HK Hd Hk
  unfold pa slot
  icases Hd with ⟨%fd, Hd⟩
  ihave HT := (SK_pop c n _ ht) $$ HT
  icases HT with ⟨Ht, HT⟩
  ihave Ht := (show tkE (F := F) c (own (semOf 38) 0) ⊢ dutyTok ER (cl c (semOf 38)) 0 0 from Entails.refl _) $$ Ht
  ihave HK := (takek m c (kHd 0 k8_0).view.set) $$ HK
  icases HK with ⟨HK, %q, Hs⟩
  ihave #Hr1 := (ctx_reach m κ ι c 38) $$ Hctx
  iapply (st_copy m κ ι c 38 (src := kHd 0 k8_0) (dst := kbLo) q (aK m c) fd 0 131072 hs rfl hd1 hk1 (hp2 fd)) $$ Hctx Ht Hr1 Hs Hd
  iintro Hc
  iapply Hk $$ HT HK Hc

theorem fklo_wait (c : Dev nD) (hc : c.val = 0) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 38 = .dma sem) (hN : dst.view.dmaCredit = 131072) (hl : lvOk 0 (evT.drop b) = true) :
    ctx m κ ι ⊢ iprop(CD c 38 0 131072 -∗ OB c b -∗ AT c 38 0 -∗ (OB c b -∗ AT c 38 1 -∗ pt kbLo c (KB m c) -∗ WP c (k ⟨⟩) Q)
      -∗ WP c (.op (.waitDma2 sem src dst hsrc hdst) k) Q) := by
  refine st_waitE m κ ι c 38 0 131072 0 0 hs hN ?_ ?_ hl (pt kbLo c (KB m c)) ?_
  · show (if 0 = 0 ∧ c.val < 2 then ({0} : Finset ℕ) else ∅) = {0}; exact if_pos ⟨rfl, by omega⟩
  · show (if c.val = 0 then 131072 else 16384) = 131072; rw [if_pos hc]
  · show fillPay m c 0 ⊢ _
    unfold fillPay
    rw [if_pos hc, if_pos rfl]

theorem wklo (c : Dev nD) (hc : c.val ≠ 0) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 32 = .dma sem) (hN : dst.view.dmaCredit = 131072) (hl : lvOk 17 (evT.drop b) = true) :
    ctx m κ ι ⊢ iprop(CD c 32 17 131072 -∗ OB c b -∗ AT c 32 0 -∗ (OB c b -∗ AT c 32 1 -∗ pt kbLo c (KB m c) -∗ WP c (k ⟨⟩) Q)
      -∗ WP c (.op (.waitDma2 sem src dst hsrc hdst) k) Q) := by
  refine st_waitE m κ ι c 32 17 131072 0 (c.val) hs hN ?_ rfl hl (pt kbLo c (KB m c)) (Entails.refl _)
  show (if 0 = 0 then (if 0 % 2 = 0 then (if c.val = 0 then (∅ : Finset ℕ) else {c.val}) else (if c.val = 1 then ∅ else {(c.val + 7) % 8})) else ∅) = _
  rw [if_pos rfl, if_pos (by decide), if_neg hc]

theorem skhi (c : Dev nD) (hc : c.val = 1) {dn : Dev nD} {sS sR : DmaSem sig} {off : Fin 4 → ℕ} {inb : ∀ a, off a + S1x128x8x128.size a ≤ S1x1024x64x128.size a}
    {hu : ∀ a, (Rect.unit (s := S1x1024x64x128) off S1x128x8x128.size inb).stride a = 1} {hq : S1x128x8x128.Squeezes S128x8x128}
    {inb2 : ∀ a, (![1024, 0, 0] : Fin 3 → ℕ) a + S128x8x128.size a ≤ S1152x8x128.size a} {hu2 : ∀ a, (Rect.unit (s := S1152x8x128) ![1024, 0, 0] S128x8x128.size inb2).stride a = 1}
    {hsc : ((kbM.slice (Rect.unit (s := S1152x8x128) ![1024, 0, 0] S128x8x128.size inb2) hu2) : Memref sig (Dev.tc dn : Thread nD τ).2.kind _ _ _).view.ref.isScScratch = false}
    {hsrc : ((kM.slice (Rect.unit (s := S1x1024x64x128) off S1x128x8x128.size inb) hu).squeeze S128x8x128 hq).view.WordExact}
    {hdst : (kbM.slice (Rect.unit (s := S1152x8x128) ![1024, 0, 0] S128x8x128.size inb2) hu2).view.WordExact}
    {hsem : DmaTarget.Typed .hbm (.dma sR) (.remote (Dev.tc dn : Thread nD τ) (kbM.slice (Rect.unit (s := S1152x8x128) ![1024, 0, 0] S128x8x128.size inb2) hu2) (.dma sS) hsc)}
    {α : Type} {Q : α → sProp 𝕄} {k : PUnit → Prog (TpuEff nD τ sig (Elt F) Λ₀ .tc) α} (o t : ℕ) (h1 : 1 ≤ o) (h9 : o < 8) (h8 : t < 8) (hot : (1 + o) % 8 = t) (n i : ℕ) (iS : Fin 51) {l : List Ev} (l' : List Ev)
    (ho : off = ![0, 0, 8 * t, 0]) (hn : dn = sh c o) (hS : semOf iS = .dma sS) (hR : semOf 33 = .dma sR) (hk : kd (semOf iS) = .sc i) (hi : i < 14)
    (he : l = ⟨semOf 33, o, 0, o, 17, 16384⟩ :: l') (ht : scT.drop n = own (semOf iS) 0 :: scT.drop (n + 1)) :
    ctx m κ ι ⊢ iprop(Ob c l -∗ SK c n -∗ KA m c -∗ pa kbHi (sh c o) -∗ (Ob c l' -∗ SK c (n + 1) -∗ KA m c -∗ CD c iS 0 16384 -∗ WP c (k ⟨⟩) Q)
      -∗ WP c (.op (.enqueueDma ((kM.slice (Rect.unit (s := S1x1024x64x128) off S1x128x8x128.size inb) hu).squeeze S128x8x128 hq) (.remote (Dev.tc dn : Thread nD τ) (kbM.slice (Rect.unit (s := S1152x8x128) ![1024, 0, 0] S128x8x128.size inb2) hu2) (.dma sS) hsc) (.dma sR) hsrc hdst hsem) k) Q) := by
  subst ho
  have hx : (sh c o).val = t := by show (c.val + o) % 8 = t; omega
  have hd1 : 0 ∈ dut c (kd (semOf iS)) 0 := by
    rw [hk]; show 0 ∈ (if 0 = 0 ∧ i < 14 ∧ c.val < 2 then ({0} : Finset ℕ) else ∅); rw [if_pos ⟨rfl, hi, by omega⟩]; decide
  have hk1 : amt c (kd (semOf iS)) = 16384 := by
    rw [hk]; show (if c.val = 0 then 131072 else 16384) = 16384; rw [if_neg (by omega)]
  have hd2 : o ∈ dut (sh c o) (kd (semOf 33)) 0 := by
    show o ∈ (if 0 = 0 then (if 1 % 2 = 0 then (if (sh c o).val = 0 then (∅ : Finset ℕ) else {(sh c o).val}) else (if (sh c o).val = 1 then ∅ else {((sh c o).val + 7) % 8})) else ∅)
    rw [if_pos rfl, if_neg (by decide), if_neg (by omega), Finset.mem_singleton]; omega
  have hp1 : ∀ q : PosShare TreeShare, (((kHd' t h8).view.loc (c : Thread nD τ)) ↦[(kHd' t h8).view.set]{q} (aK m c) : sProp 𝕄) ⊢ payl m c (kd (semOf iS)) 0 0 := by
    intro q; rw [hk]; exact Affine.affine
  have hp2 : ∀ fd, pt kbHi (sh c o) (kbHi.view.write (Elt F) fd ((kHd' t h8).view.read (Elt F) (aK m c)) Finset.univ) ⊢ payl m (sh c o) (kd (semOf 33)) 0 o :=
    fun fd => land_khi m c (sh c o) hc t h8 hx.symm fd
  iintro #Hctx HO HT HK Hd Hk
  unfold pa slot
  icases Hd with ⟨%fd, Hd⟩
  ihave HT := (SK_pop c n _ ht) $$ HT
  icases HT with ⟨Ht, HT⟩
  ihave Ht := (show tkE (F := F) c (own (semOf iS) 0) ⊢ dutyTok ER (cl c (semOf iS)) 0 0 from Entails.refl _) $$ Ht
  ihave HK := (takek m c (kHd' t h8).view.set) $$ HK
  icases HK with ⟨HK, %q, Hs⟩
  ihave #Hr1 := (ctx_reach m κ ι c iS) $$ Hctx
  ihave #Hr2 := (ctx_reach m κ ι (sh c o) 33) $$ Hctx
  iapply (st_send m κ ι c iS 33 (src := kHd' t h8) (dst := kbHi) q (aK m c) o 0 0 o 17 16384 fd l' hn hS hR he rfl hd1 hd2 hk1 rfl (hp1 q) (hp2 fd)) $$ Hctx HO Ht Hr1 Hr2 Hs Hd
  iintro HO Hc
  iapply Hk $$ HO HT HK Hc

theorem fkhi (c : Dev nD) (hc : c.val = 1) {sem : DmaSem sig} {off : Fin 4 → ℕ} {inb : ∀ a, off a + S1x128x8x128.size a ≤ S1x1024x64x128.size a}
    {hu : ∀ a, (Rect.unit (s := S1x1024x64x128) off S1x128x8x128.size inb).stride a = 1} {hq : S1x128x8x128.Squeezes S128x8x128}
    {inb2 : ∀ a, (![1024, 0, 0] : Fin 3 → ℕ) a + S128x8x128.size a ≤ S1152x8x128.size a} {hu2 : ∀ a, (Rect.unit (s := S1152x8x128) ![1024, 0, 0] S128x8x128.size inb2).stride a = 1}
    {hsrc : ((kM.slice (Rect.unit (s := S1x1024x64x128) off S1x128x8x128.size inb) hu).squeeze S128x8x128 hq).view.WordExact}
    {hdst : (kbM.slice (Rect.unit (s := S1152x8x128) ![1024, 0, 0] S128x8x128.size inb2) hu2).view.WordExact}
    {hsem : DmaTarget.Typed (nD := nD) (τ := τ) (p := .tc) .hbm (.dma sem) (.here (kbM.slice (Rect.unit (s := S1152x8x128) ![1024, 0, 0] S128x8x128.size inb2) hu2))}
    {α : Type} {Q : α → sProp 𝕄} {k : PUnit → Prog (TpuEff nD τ sig (Elt F) Λ₀ .tc) α} (n : ℕ)
    (ho : off = ![0, 0, 8 * 1, 0]) (hs : semOf 38 = .dma sem) (ht : scT.drop n = own (semOf 38) 0 :: scT.drop (n + 1)) :
    ctx m κ ι ⊢ iprop(SK c n -∗ KA m c -∗ pa kbHi c -∗ (SK c (n + 1) -∗ KA m c -∗ CD c 38 0 16384 -∗ WP c (k ⟨⟩) Q)
      -∗ WP c (.op (.enqueueDma ((kM.slice (Rect.unit (s := S1x1024x64x128) off S1x128x8x128.size inb) hu).squeeze S128x8x128 hq) (.here (kbM.slice (Rect.unit (s := S1152x8x128) ![1024, 0, 0] S128x8x128.size inb2) hu2)) (.dma sem) hsrc hdst hsem) k) Q) := by
  subst ho
  have hd1 : 0 ∈ dut c (kd (semOf 38)) 0 := by
    show 0 ∈ (if 0 = 0 ∧ c.val < 2 then ({0} : Finset ℕ) else ∅); rw [if_pos ⟨rfl, by omega⟩]; decide
  have hk1 : amt c (kd (semOf 38)) = 16384 := by
    show (if c.val = 0 then 131072 else 16384) = 16384; rw [if_neg (by omega)]
  have hp2 : ∀ fd, pt kbHi c (kbHi.view.write (Elt F) fd ((kHd' 1 k8_1).view.read (Elt F) (aK m c)) Finset.univ) ⊢ payl m c (kd (semOf 38)) 0 0 := by
    intro fd
    have h2 : payl m c (kd (semOf 38)) 0 0 = pt kbHi c (KB m c) := by
      show fillPay m c 0 = _
      unfold fillPay
      rw [if_neg (by omega), if_pos rfl]
    rw [h2]
    exact land_khi m c c hc 1 k8_1 hc.symm fd
  iintro #Hctx HT HK Hd Hk
  unfold pa slot
  icases Hd with ⟨%fd, Hd⟩
  ihave HT := (SK_pop c n _ ht) $$ HT
  icases HT with ⟨Ht, HT⟩
  ihave Ht := (show tkE (F := F) c (own (semOf 38) 0) ⊢ dutyTok ER (cl c (semOf 38)) 0 0 from Entails.refl _) $$ Ht
  ihave HK := (takek m c (kHd' 1 k8_1).view.set) $$ HK
  icases HK with ⟨HK, %q, Hs⟩
  ihave #Hr1 := (ctx_reach m κ ι c 38) $$ Hctx
  iapply (st_copy m κ ι c 38 (src := kHd' 1 k8_1) (dst := kbHi) q (aK m c) fd 0 16384 hs rfl hd1 hk1 (hp2 fd)) $$ Hctx Ht Hr1 Hs Hd
  iintro Hc
  iapply Hk $$ HT HK Hc

theorem fkhi_wait (c : Dev nD) (hc : c.val = 1) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 38 = .dma sem) (hN : dst.view.dmaCredit = 16384) (hl : lvOk 0 (evT.drop b) = true) :
    ctx m κ ι ⊢ iprop(CD c 38 0 16384 -∗ OB c b -∗ AT c 38 0 -∗ (OB c b -∗ AT c 38 1 -∗ pt kbHi c (KB m c) -∗ WP c (k ⟨⟩) Q)
      -∗ WP c (.op (.waitDma2 sem src dst hsrc hdst) k) Q) := by
  refine st_waitE m κ ι c 38 0 16384 0 0 hs hN ?_ ?_ hl (pt kbHi c (KB m c)) ?_
  · show (if 0 = 0 ∧ c.val < 2 then ({0} : Finset ℕ) else ∅) = {0}; exact if_pos ⟨rfl, by omega⟩
  · show (if c.val = 0 then 131072 else 16384) = 16384; rw [if_neg (by omega)]
  · show fillPay m c 0 ⊢ _
    unfold fillPay
    rw [if_neg (by omega), if_pos rfl]

theorem wkhi (c : Dev nD) (hc : c.val ≠ 1) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 33 = .dma sem) (hN : dst.view.dmaCredit = 16384) (hl : lvOk 17 (evT.drop b) = true) :
    ctx m κ ι ⊢ iprop(CD c 33 17 16384 -∗ OB c b -∗ AT c 33 0 -∗ (OB c b -∗ AT c 33 1 -∗ pt kbHi c (KB m c) -∗ WP c (k ⟨⟩) Q)
      -∗ WP c (.op (.waitDma2 sem src dst hsrc hdst) k) Q) := by
  refine st_waitE m κ ι c 33 17 16384 0 ((c.val + 7) % 8) hs hN ?_ rfl hl (pt kbHi c (KB m c)) (Entails.refl _)
  show (if 0 = 0 then (if 1 % 2 = 0 then (if c.val = 0 then (∅ : Finset ℕ) else {c.val}) else (if c.val = 1 then ∅ else {(c.val + 7) % 8})) else ∅) = _
  rw [if_pos rfl, if_neg (by decide), if_neg hc]

theorem mem_vlo {i : S1152x8x128.Idx} : i ∈ vbLo.view.set ↔ (i 0).val < 1024 := by
  rw [show vbLo.view.set = (Rect.unit (s := S1152x8x128) ![0, 0, 0] S1024x8x128.size inb_S1152x8x128_S1024x8x128_0_0_0).set from View.set_slice_whole cc0_scratch8 _, Rect.mem_set_unit]
  constructor
  · intro h0
    have h2 : (i 0).val < 0 + 1024 := (h0 0).2
    omega
  · intro h0 a
    fin_cases a
    · exact ⟨Nat.zero_le _, show (i 0).val < 0 + 1024 by omega⟩
    · exact ⟨Nat.zero_le _, show (i 1).val < 0 + 8 by have : (i 1).val < 8 := (i 1).isLt; omega⟩
    · exact ⟨Nat.zero_le _, show (i 2).val < 0 + 128 by have : (i 2).val < 128 := (i 2).isLt; omega⟩
theorem mem_vhi {i : S1152x8x128.Idx} : i ∈ vbHi.view.set ↔ 1024 ≤ (i 0).val := by
  rw [show vbHi.view.set = (Rect.unit (s := S1152x8x128) ![1024, 0, 0] S128x8x128.size inb_S1152x8x128_S128x8x128_1024_0_0).set from View.set_slice_whole cc0_scratch8 _, Rect.mem_set_unit]
  constructor
  · intro h0
    exact (h0 0).1
  · intro h0 a
    fin_cases a
    · exact ⟨h0, show (i 0).val < 1024 + 128 by have : (i 0).val < 1152 := (i 0).isLt; omega⟩
    · exact ⟨Nat.zero_le _, show (i 1).val < 0 + 8 by have : (i 1).val < 8 := (i 1).isLt; omega⟩
    · exact ⟨Nat.zero_le _, show (i 2).val < 0 + 128 by have : (i 2).val < 128 := (i 2).isLt; omega⟩
theorem vsplit (c : Dev nD) (f : Vec F S1152x8x128 .f32) : pt vbM c f ⊣⊢ iprop(pt vbLo c f ∗ pt vbHi c f) := by
  have h : (vbM.view.set : Finset S1152x8x128.Idx) = vbLo.view.set ∪ vbHi.view.set := by
    rw [show (vbM.view.set : Finset S1152x8x128.Idx) = Finset.univ from View.set_whole _]
    ext i
    rw [Finset.mem_union, mem_vlo, mem_vhi]
    exact ⟨fun _ => Nat.lt_or_ge _ _, fun _ => Finset.mem_univ _⟩
  have hdj : Disjoint (vbLo.view.set : Finset S1152x8x128.Idx) vbHi.view.set := by
    rw [Finset.disjoint_left]
    intro i h1 h2
    rw [mem_vlo] at h1; rw [mem_vhi] at h2
    omega
  show (vbM.view.loc (c : Thread nD τ) ↦[(vbM.view.set : Finset S1152x8x128.Idx)]{fullShare} f : sProp 𝕄) ⊣⊢ _
  rw [h]
  exact pointsTo_union hdj
theorem vsplit_a (c : Dev nD) : pa (F := F) vbM c ⊢ iprop(pa vbLo c ∗ pa vbHi c) := by
  have h1 : ∀ f : Vec F S1152x8x128 .f32, pt vbM c f ⊢ iprop(pt vbLo c f ∗ pt vbHi c f) := fun f => (vsplit c f).1
  iintro H
  unfold pa slot
  icases H with ⟨%f, H⟩
  ihave H := (h1 f) $$ H
  icases H with ⟨H1, H2⟩
  isplitl [H1]; · iexists f; iexact H1
  iexists f; iexact H2
theorem vjoin (c : Dev nD) : iprop(pt vbLo c (VB m c) ∗ pt vbHi c (VB m c)) ⊢ pt vbM c (VB m c) := (vsplit c _).2

theorem land_vlo (c x : Dev nD) (hc : c.val = 0) (t : ℕ) (h : t < 8) (ht : t = x.val) (fd : Buf (Elt F) (vbLo.view.loc (x : Thread nD τ))) :
    pt vbLo x (vbLo.view.write (Elt F) fd ((vHd t h).view.read (Elt F) (aV m c)) Finset.univ) ⊢ pt vbLo x (VB m x) := by
  have hc' : c = (0 : Dev nD) := Fin.ext hc
  subst hc'
  subst ht
  have h1 : pt vbLo x (vbLo.view.write (Elt F) fd ((vHd x.val h).view.read (Elt F) (aV m 0)) Finset.univ) = pt vbLo x (VB m x) := pointsTo_congr fun i hi => by
    rw [show VB m x i = vbLo.view.write (Elt F) jk ((vHd x.val x.isLt).view.read (Elt F) (aV m 0)) Finset.univ i from if_pos hi]
    exact View.write_congr (fun _ _ _ => rfl) fun h => absurd (show i ∈ vbLo.view.setOn Finset.univ by rw [View.setOn_univ]; exact hi) h
  rw [h1]
theorem land_vhi (c x : Dev nD) (hc : c.val = 1) (t : ℕ) (h : t < 8) (ht : t = x.val) (fd : Buf (Elt F) (vbHi.view.loc (x : Thread nD τ))) :
    pt vbHi x (vbHi.view.write (Elt F) fd ((vHd' t h).view.read (Elt F) (aV m c)) Finset.univ) ⊢ pt vbHi x (VB m x) := by
  have hc' : c = (1 : Dev nD) := Fin.ext hc
  subst hc'
  subst ht
  have h1 : pt vbHi x (vbHi.view.write (Elt F) fd ((vHd' x.val h).view.read (Elt F) (aV m 1)) Finset.univ) = pt vbHi x (VB m x) := pointsTo_congr fun i hi => by
    rw [show VB m x i = vbHi.view.write (Elt F) jk ((vHd' x.val x.isLt).view.read (Elt F) (aV m 1)) Finset.univ i from
      if_neg (fun h' => by rw [mem_vlo] at h'; rw [mem_vhi] at hi; omega)]
    exact View.write_congr (fun _ _ _ => rfl) fun h => absurd (show i ∈ vbHi.view.setOn Finset.univ by rw [View.setOn_univ]; exact hi) h
  rw [h1]

theorem svlo (c : Dev nD) (hc : c.val = 0) {dn : Dev nD} {sS sR : DmaSem sig} {off : Fin 4 → ℕ} {inb : ∀ a, off a + S1x1024x8x128.size a ≤ S1x1024x64x128.size a}
    {hu : ∀ a, (Rect.unit (s := S1x1024x64x128) off S1x1024x8x128.size inb).stride a = 1} {hq : S1x1024x8x128.Squeezes S1024x8x128}
    {inb2 : ∀ a, (![0, 0, 0] : Fin 3 → ℕ) a + S1024x8x128.size a ≤ S1152x8x128.size a} {hu2 : ∀ a, (Rect.unit (s := S1152x8x128) ![0, 0, 0] S1024x8x128.size inb2).stride a = 1}
    {hsc : ((vbM.slice (Rect.unit (s := S1152x8x128) ![0, 0, 0] S1024x8x128.size inb2) hu2) : Memref sig (Dev.tc dn : Thread nD τ).2.kind _ _ _).view.ref.isScScratch = false}
    {hsrc : ((vM.slice (Rect.unit (s := S1x1024x64x128) off S1x1024x8x128.size inb) hu).squeeze S1024x8x128 hq).view.WordExact}
    {hdst : (vbM.slice (Rect.unit (s := S1152x8x128) ![0, 0, 0] S1024x8x128.size inb2) hu2).view.WordExact}
    {hsem : DmaTarget.Typed .hbm (.dma sR) (.remote (Dev.tc dn : Thread nD τ) (vbM.slice (Rect.unit (s := S1152x8x128) ![0, 0, 0] S1024x8x128.size inb2) hu2) (.dma sS) hsc)}
    {α : Type} {Q : α → sProp 𝕄} {k : PUnit → Prog (TpuEff nD τ sig (Elt F) Λ₀ .tc) α} (t : ℕ) (h1 : 1 ≤ t) (h8 : t < 8) (n i : ℕ) (iS : Fin 51) {l : List Ev} (l' : List Ev)
    (ho : off = ![0, 0, 8 * t, 0]) (hn : dn = sh c t) (hS : semOf iS = .dma sS) (hR : semOf 34 = .dma sR) (hk : kd (semOf iS) = .sc i) (hi : i < 14)
    (he : l = ⟨semOf 34, t, 0, t, 17, 131072⟩ :: l') (ht : scT.drop n = own (semOf iS) 0 :: scT.drop (n + 1)) :
    ctx m κ ι ⊢ iprop(Ob c l -∗ SK c n -∗ VA m c -∗ pa vbLo (sh c t) -∗ (Ob c l' -∗ SK c (n + 1) -∗ VA m c -∗ CD c iS 0 131072 -∗ WP c (k ⟨⟩) Q)
      -∗ WP c (.op (.enqueueDma ((vM.slice (Rect.unit (s := S1x1024x64x128) off S1x1024x8x128.size inb) hu).squeeze S1024x8x128 hq) (.remote (Dev.tc dn : Thread nD τ) (vbM.slice (Rect.unit (s := S1152x8x128) ![0, 0, 0] S1024x8x128.size inb2) hu2) (.dma sS) hsc) (.dma sR) hsrc hdst hsem) k) Q) := by
  subst ho
  have hx : (sh c t).val = t := by show (c.val + t) % 8 = t; omega
  have hd1 : 0 ∈ dut c (kd (semOf iS)) 0 := by
    rw [hk]; show 0 ∈ (if 0 = 0 ∧ i < 14 ∧ c.val < 2 then ({0} : Finset ℕ) else ∅); rw [if_pos ⟨rfl, hi, by omega⟩]; decide
  have hk1 : amt c (kd (semOf iS)) = 131072 := by
    rw [hk]; show (if c.val = 0 then 131072 else 16384) = 131072; rw [if_pos hc]
  have hd2 : t ∈ dut (sh c t) (kd (semOf 34)) 0 := by
    show t ∈ (if 0 = 0 then (if 2 % 2 = 0 then (if (sh c t).val = 0 then (∅ : Finset ℕ) else {(sh c t).val}) else (if (sh c t).val = 1 then ∅ else {((sh c t).val + 7) % 8})) else ∅)
    rw [if_pos rfl, if_pos (by decide), if_neg (by omega), Finset.mem_singleton]; omega
  have hp1 : ∀ q : PosShare TreeShare, (((vHd t h8).view.loc (c : Thread nD τ)) ↦[(vHd t h8).view.set]{q} (aV m c) : sProp 𝕄) ⊢ payl m c (kd (semOf iS)) 0 0 := by
    intro q; rw [hk]; exact Affine.affine
  have hp2 : ∀ fd, pt vbLo (sh c t) (vbLo.view.write (Elt F) fd ((vHd t h8).view.read (Elt F) (aV m c)) Finset.univ) ⊢ payl m (sh c t) (kd (semOf 34)) 0 t :=
    fun fd => land_vlo m c (sh c t) hc t h8 hx.symm fd
  iintro #Hctx HO HT HK Hd Hk
  unfold pa slot
  icases Hd with ⟨%fd, Hd⟩
  ihave HT := (SK_pop c n _ ht) $$ HT
  icases HT with ⟨Ht, HT⟩
  ihave Ht := (show tkE (F := F) c (own (semOf iS) 0) ⊢ dutyTok ER (cl c (semOf iS)) 0 0 from Entails.refl _) $$ Ht
  ihave HK := (takev m c (vHd t h8).view.set) $$ HK
  icases HK with ⟨HK, %q, Hs⟩
  ihave #Hr1 := (ctx_reach m κ ι c iS) $$ Hctx
  ihave #Hr2 := (ctx_reach m κ ι (sh c t) 34) $$ Hctx
  iapply (st_send m κ ι c iS 34 (src := vHd t h8) (dst := vbLo) q (aV m c) t 0 0 t 17 131072 fd l' hn hS hR he rfl hd1 hd2 hk1 rfl (hp1 q) (hp2 fd)) $$ Hctx HO Ht Hr1 Hr2 Hs Hd
  iintro HO Hc
  iapply Hk $$ HO HT HK Hc

theorem fvlo (c : Dev nD) (hc : c.val = 0) {sem : DmaSem sig} {off : Fin 4 → ℕ} {inb : ∀ a, off a + S1x1024x8x128.size a ≤ S1x1024x64x128.size a}
    {hu : ∀ a, (Rect.unit (s := S1x1024x64x128) off S1x1024x8x128.size inb).stride a = 1} {hq : S1x1024x8x128.Squeezes S1024x8x128}
    {inb2 : ∀ a, (![0, 0, 0] : Fin 3 → ℕ) a + S1024x8x128.size a ≤ S1152x8x128.size a} {hu2 : ∀ a, (Rect.unit (s := S1152x8x128) ![0, 0, 0] S1024x8x128.size inb2).stride a = 1}
    {hsrc : ((vM.slice (Rect.unit (s := S1x1024x64x128) off S1x1024x8x128.size inb) hu).squeeze S1024x8x128 hq).view.WordExact}
    {hdst : (vbM.slice (Rect.unit (s := S1152x8x128) ![0, 0, 0] S1024x8x128.size inb2) hu2).view.WordExact}
    {hsem : DmaTarget.Typed (nD := nD) (τ := τ) (p := .tc) .hbm (.dma sem) (.here (vbM.slice (Rect.unit (s := S1152x8x128) ![0, 0, 0] S1024x8x128.size inb2) hu2))}
    {α : Type} {Q : α → sProp 𝕄} {k : PUnit → Prog (TpuEff nD τ sig (Elt F) Λ₀ .tc) α} (n : ℕ)
    (ho : off = ![0, 0, 8 * 0, 0]) (hs : semOf 39 = .dma sem) (ht : scT.drop n = own (semOf 39) 0 :: scT.drop (n + 1)) :
    ctx m κ ι ⊢ iprop(SK c n -∗ VA m c -∗ pa vbLo c -∗ (SK c (n + 1) -∗ VA m c -∗ CD c 39 0 131072 -∗ WP c (k ⟨⟩) Q)
      -∗ WP c (.op (.enqueueDma ((vM.slice (Rect.unit (s := S1x1024x64x128) off S1x1024x8x128.size inb) hu).squeeze S1024x8x128 hq) (.here (vbM.slice (Rect.unit (s := S1152x8x128) ![0, 0, 0] S1024x8x128.size inb2) hu2)) (.dma sem) hsrc hdst hsem) k) Q) := by
  subst ho
  have hd1 : 0 ∈ dut c (kd (semOf 39)) 0 := by
    show 0 ∈ (if 0 = 0 ∧ c.val < 2 then ({0} : Finset ℕ) else ∅); rw [if_pos ⟨rfl, by omega⟩]; decide
  have hk1 : amt c (kd (semOf 39)) = 131072 := by
    show (if c.val = 0 then 131072 else 16384) = 131072; rw [if_pos hc]
  have hp2 : ∀ fd, pt vbLo c (vbLo.view.write (Elt F) fd ((vHd 0 k8_0).view.read (Elt F) (aV m c)) Finset.univ) ⊢ payl m c (kd (semOf 39)) 0 0 := by
    intro fd
    have h2 : payl m c (kd (semOf 39)) 0 0 = pt vbLo c (VB m c) := by
      show fillPay m c 1 = _
      unfold fillPay
      rw [if_pos hc, if_neg (by decide)]
    rw [h2]
    exact land_vlo m c c hc 0 k8_0 hc.symm fd
  iintro #Hctx HT HK Hd Hk
  unfold pa slot
  icases Hd with ⟨%fd, Hd⟩
  ihave HT := (SK_pop c n _ ht) $$ HT
  icases HT with ⟨Ht, HT⟩
  ihave Ht := (show tkE (F := F) c (own (semOf 39) 0) ⊢ dutyTok ER (cl c (semOf 39)) 0 0 from Entails.refl _) $$ Ht
  ihave HK := (takev m c (vHd 0 k8_0).view.set) $$ HK
  icases HK with ⟨HK, %q, Hs⟩
  ihave #Hr1 := (ctx_reach m κ ι c 39) $$ Hctx
  iapply (st_copy m κ ι c 39 (src := vHd 0 k8_0) (dst := vbLo) q (aV m c) fd 0 131072 hs rfl hd1 hk1 (hp2 fd)) $$ Hctx Ht Hr1 Hs Hd
  iintro Hc
  iapply Hk $$ HT HK Hc

theorem fvlo_wait (c : Dev nD) (hc : c.val = 0) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 39 = .dma sem) (hN : dst.view.dmaCredit = 131072) (hl : lvOk 0 (evT.drop b) = true) :
    ctx m κ ι ⊢ iprop(CD c 39 0 131072 -∗ OB c b -∗ AT c 39 0 -∗ (OB c b -∗ AT c 39 1 -∗ pt vbLo c (VB m c) -∗ WP c (k ⟨⟩) Q)
      -∗ WP c (.op (.waitDma2 sem src dst hsrc hdst) k) Q) := by
  refine st_waitE m κ ι c 39 0 131072 0 0 hs hN ?_ ?_ hl (pt vbLo c (VB m c)) ?_
  · show (if 0 = 0 ∧ c.val < 2 then ({0} : Finset ℕ) else ∅) = {0}; exact if_pos ⟨rfl, by omega⟩
  · show (if c.val = 0 then 131072 else 16384) = 131072; rw [if_pos hc]
  · show fillPay m c 1 ⊢ _
    unfold fillPay
    rw [if_pos hc, if_neg (by decide)]

theorem wvlo (c : Dev nD) (hc : c.val ≠ 0) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 34 = .dma sem) (hN : dst.view.dmaCredit = 131072) (hl : lvOk 17 (evT.drop b) = true) :
    ctx m κ ι ⊢ iprop(CD c 34 17 131072 -∗ OB c b -∗ AT c 34 0 -∗ (OB c b -∗ AT c 34 1 -∗ pt vbLo c (VB m c) -∗ WP c (k ⟨⟩) Q)
      -∗ WP c (.op (.waitDma2 sem src dst hsrc hdst) k) Q) := by
  refine st_waitE m κ ι c 34 17 131072 0 (c.val) hs hN ?_ rfl hl (pt vbLo c (VB m c)) (Entails.refl _)
  show (if 0 = 0 then (if 2 % 2 = 0 then (if c.val = 0 then (∅ : Finset ℕ) else {c.val}) else (if c.val = 1 then ∅ else {(c.val + 7) % 8})) else ∅) = _
  rw [if_pos rfl, if_pos (by decide), if_neg hc]

theorem svhi (c : Dev nD) (hc : c.val = 1) {dn : Dev nD} {sS sR : DmaSem sig} {off : Fin 4 → ℕ} {inb : ∀ a, off a + S1x128x8x128.size a ≤ S1x1024x64x128.size a}
    {hu : ∀ a, (Rect.unit (s := S1x1024x64x128) off S1x128x8x128.size inb).stride a = 1} {hq : S1x128x8x128.Squeezes S128x8x128}
    {inb2 : ∀ a, (![1024, 0, 0] : Fin 3 → ℕ) a + S128x8x128.size a ≤ S1152x8x128.size a} {hu2 : ∀ a, (Rect.unit (s := S1152x8x128) ![1024, 0, 0] S128x8x128.size inb2).stride a = 1}
    {hsc : ((vbM.slice (Rect.unit (s := S1152x8x128) ![1024, 0, 0] S128x8x128.size inb2) hu2) : Memref sig (Dev.tc dn : Thread nD τ).2.kind _ _ _).view.ref.isScScratch = false}
    {hsrc : ((vM.slice (Rect.unit (s := S1x1024x64x128) off S1x128x8x128.size inb) hu).squeeze S128x8x128 hq).view.WordExact}
    {hdst : (vbM.slice (Rect.unit (s := S1152x8x128) ![1024, 0, 0] S128x8x128.size inb2) hu2).view.WordExact}
    {hsem : DmaTarget.Typed .hbm (.dma sR) (.remote (Dev.tc dn : Thread nD τ) (vbM.slice (Rect.unit (s := S1152x8x128) ![1024, 0, 0] S128x8x128.size inb2) hu2) (.dma sS) hsc)}
    {α : Type} {Q : α → sProp 𝕄} {k : PUnit → Prog (TpuEff nD τ sig (Elt F) Λ₀ .tc) α} (o t : ℕ) (h1 : 1 ≤ o) (h9 : o < 8) (h8 : t < 8) (hot : (1 + o) % 8 = t) (n i : ℕ) (iS : Fin 51) {l : List Ev} (l' : List Ev)
    (ho : off = ![0, 0, 8 * t, 0]) (hn : dn = sh c o) (hS : semOf iS = .dma sS) (hR : semOf 35 = .dma sR) (hk : kd (semOf iS) = .sc i) (hi : i < 14)
    (he : l = ⟨semOf 35, o, 0, o, 17, 16384⟩ :: l') (ht : scT.drop n = own (semOf iS) 0 :: scT.drop (n + 1)) :
    ctx m κ ι ⊢ iprop(Ob c l -∗ SK c n -∗ VA m c -∗ pa vbHi (sh c o) -∗ (Ob c l' -∗ SK c (n + 1) -∗ VA m c -∗ CD c iS 0 16384 -∗ WP c (k ⟨⟩) Q)
      -∗ WP c (.op (.enqueueDma ((vM.slice (Rect.unit (s := S1x1024x64x128) off S1x128x8x128.size inb) hu).squeeze S128x8x128 hq) (.remote (Dev.tc dn : Thread nD τ) (vbM.slice (Rect.unit (s := S1152x8x128) ![1024, 0, 0] S128x8x128.size inb2) hu2) (.dma sS) hsc) (.dma sR) hsrc hdst hsem) k) Q) := by
  subst ho
  have hx : (sh c o).val = t := by show (c.val + o) % 8 = t; omega
  have hd1 : 0 ∈ dut c (kd (semOf iS)) 0 := by
    rw [hk]; show 0 ∈ (if 0 = 0 ∧ i < 14 ∧ c.val < 2 then ({0} : Finset ℕ) else ∅); rw [if_pos ⟨rfl, hi, by omega⟩]; decide
  have hk1 : amt c (kd (semOf iS)) = 16384 := by
    rw [hk]; show (if c.val = 0 then 131072 else 16384) = 16384; rw [if_neg (by omega)]
  have hd2 : o ∈ dut (sh c o) (kd (semOf 35)) 0 := by
    show o ∈ (if 0 = 0 then (if 3 % 2 = 0 then (if (sh c o).val = 0 then (∅ : Finset ℕ) else {(sh c o).val}) else (if (sh c o).val = 1 then ∅ else {((sh c o).val + 7) % 8})) else ∅)
    rw [if_pos rfl, if_neg (by decide), if_neg (by omega), Finset.mem_singleton]; omega
  have hp1 : ∀ q : PosShare TreeShare, (((vHd' t h8).view.loc (c : Thread nD τ)) ↦[(vHd' t h8).view.set]{q} (aV m c) : sProp 𝕄) ⊢ payl m c (kd (semOf iS)) 0 0 := by
    intro q; rw [hk]; exact Affine.affine
  have hp2 : ∀ fd, pt vbHi (sh c o) (vbHi.view.write (Elt F) fd ((vHd' t h8).view.read (Elt F) (aV m c)) Finset.univ) ⊢ payl m (sh c o) (kd (semOf 35)) 0 o :=
    fun fd => land_vhi m c (sh c o) hc t h8 hx.symm fd
  iintro #Hctx HO HT HK Hd Hk
  unfold pa slot
  icases Hd with ⟨%fd, Hd⟩
  ihave HT := (SK_pop c n _ ht) $$ HT
  icases HT with ⟨Ht, HT⟩
  ihave Ht := (show tkE (F := F) c (own (semOf iS) 0) ⊢ dutyTok ER (cl c (semOf iS)) 0 0 from Entails.refl _) $$ Ht
  ihave HK := (takev m c (vHd' t h8).view.set) $$ HK
  icases HK with ⟨HK, %q, Hs⟩
  ihave #Hr1 := (ctx_reach m κ ι c iS) $$ Hctx
  ihave #Hr2 := (ctx_reach m κ ι (sh c o) 35) $$ Hctx
  iapply (st_send m κ ι c iS 35 (src := vHd' t h8) (dst := vbHi) q (aV m c) o 0 0 o 17 16384 fd l' hn hS hR he rfl hd1 hd2 hk1 rfl (hp1 q) (hp2 fd)) $$ Hctx HO Ht Hr1 Hr2 Hs Hd
  iintro HO Hc
  iapply Hk $$ HO HT HK Hc

theorem fvhi (c : Dev nD) (hc : c.val = 1) {sem : DmaSem sig} {off : Fin 4 → ℕ} {inb : ∀ a, off a + S1x128x8x128.size a ≤ S1x1024x64x128.size a}
    {hu : ∀ a, (Rect.unit (s := S1x1024x64x128) off S1x128x8x128.size inb).stride a = 1} {hq : S1x128x8x128.Squeezes S128x8x128}
    {inb2 : ∀ a, (![1024, 0, 0] : Fin 3 → ℕ) a + S128x8x128.size a ≤ S1152x8x128.size a} {hu2 : ∀ a, (Rect.unit (s := S1152x8x128) ![1024, 0, 0] S128x8x128.size inb2).stride a = 1}
    {hsrc : ((vM.slice (Rect.unit (s := S1x1024x64x128) off S1x128x8x128.size inb) hu).squeeze S128x8x128 hq).view.WordExact}
    {hdst : (vbM.slice (Rect.unit (s := S1152x8x128) ![1024, 0, 0] S128x8x128.size inb2) hu2).view.WordExact}
    {hsem : DmaTarget.Typed (nD := nD) (τ := τ) (p := .tc) .hbm (.dma sem) (.here (vbM.slice (Rect.unit (s := S1152x8x128) ![1024, 0, 0] S128x8x128.size inb2) hu2))}
    {α : Type} {Q : α → sProp 𝕄} {k : PUnit → Prog (TpuEff nD τ sig (Elt F) Λ₀ .tc) α} (n : ℕ)
    (ho : off = ![0, 0, 8 * 1, 0]) (hs : semOf 39 = .dma sem) (ht : scT.drop n = own (semOf 39) 0 :: scT.drop (n + 1)) :
    ctx m κ ι ⊢ iprop(SK c n -∗ VA m c -∗ pa vbHi c -∗ (SK c (n + 1) -∗ VA m c -∗ CD c 39 0 16384 -∗ WP c (k ⟨⟩) Q)
      -∗ WP c (.op (.enqueueDma ((vM.slice (Rect.unit (s := S1x1024x64x128) off S1x128x8x128.size inb) hu).squeeze S128x8x128 hq) (.here (vbM.slice (Rect.unit (s := S1152x8x128) ![1024, 0, 0] S128x8x128.size inb2) hu2)) (.dma sem) hsrc hdst hsem) k) Q) := by
  subst ho
  have hd1 : 0 ∈ dut c (kd (semOf 39)) 0 := by
    show 0 ∈ (if 0 = 0 ∧ c.val < 2 then ({0} : Finset ℕ) else ∅); rw [if_pos ⟨rfl, by omega⟩]; decide
  have hk1 : amt c (kd (semOf 39)) = 16384 := by
    show (if c.val = 0 then 131072 else 16384) = 16384; rw [if_neg (by omega)]
  have hp2 : ∀ fd, pt vbHi c (vbHi.view.write (Elt F) fd ((vHd' 1 k8_1).view.read (Elt F) (aV m c)) Finset.univ) ⊢ payl m c (kd (semOf 39)) 0 0 := by
    intro fd
    have h2 : payl m c (kd (semOf 39)) 0 0 = pt vbHi c (VB m c) := by
      show fillPay m c 1 = _
      unfold fillPay
      rw [if_neg (by omega), if_neg (by decide)]
    rw [h2]
    exact land_vhi m c c hc 1 k8_1 hc.symm fd
  iintro #Hctx HT HK Hd Hk
  unfold pa slot
  icases Hd with ⟨%fd, Hd⟩
  ihave HT := (SK_pop c n _ ht) $$ HT
  icases HT with ⟨Ht, HT⟩
  ihave Ht := (show tkE (F := F) c (own (semOf 39) 0) ⊢ dutyTok ER (cl c (semOf 39)) 0 0 from Entails.refl _) $$ Ht
  ihave HK := (takev m c (vHd' 1 k8_1).view.set) $$ HK
  icases HK with ⟨HK, %q, Hs⟩
  ihave #Hr1 := (ctx_reach m κ ι c 39) $$ Hctx
  iapply (st_copy m κ ι c 39 (src := vHd' 1 k8_1) (dst := vbHi) q (aV m c) fd 0 16384 hs rfl hd1 hk1 (hp2 fd)) $$ Hctx Ht Hr1 Hs Hd
  iintro Hc
  iapply Hk $$ HT HK Hc

theorem fvhi_wait (c : Dev nD) (hc : c.val = 1) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 39 = .dma sem) (hN : dst.view.dmaCredit = 16384) (hl : lvOk 0 (evT.drop b) = true) :
    ctx m κ ι ⊢ iprop(CD c 39 0 16384 -∗ OB c b -∗ AT c 39 0 -∗ (OB c b -∗ AT c 39 1 -∗ pt vbHi c (VB m c) -∗ WP c (k ⟨⟩) Q)
      -∗ WP c (.op (.waitDma2 sem src dst hsrc hdst) k) Q) := by
  refine st_waitE m κ ι c 39 0 16384 0 0 hs hN ?_ ?_ hl (pt vbHi c (VB m c)) ?_
  · show (if 0 = 0 ∧ c.val < 2 then ({0} : Finset ℕ) else ∅) = {0}; exact if_pos ⟨rfl, by omega⟩
  · show (if c.val = 0 then 131072 else 16384) = 16384; rw [if_neg (by omega)]
  · show fillPay m c 1 ⊢ _
    unfold fillPay
    rw [if_neg (by omega), if_neg (by decide)]

theorem wvhi (c : Dev nD) (hc : c.val ≠ 1) {sem : DmaSem sig} {sp sp' : Space} {S S' : Shape} {e e' : EltTy} {src : Memref sig .tc sp' S' e'}
    {dst : Memref sig .tc sp S e} {hsrc : src.view.WordExact} {hdst : dst.view.WordExact}
    (b : ℕ) {α : Type} {Q : α → sProp 𝕄} {k : PUnit → Prog (TpuEff nD τ sig (Elt F) Λ₀ .tc) α}
    (hs : semOf 35 = .dma sem) (hN : dst.view.dmaCredit = 16384) (hl : lvOk 17 (evT.drop b) = true) :
    ctx m κ ι ⊢ iprop(CD c 35 17 16384 -∗ OB c b -∗ AT c 35 0 -∗ (OB c b -∗ AT c 35 1 -∗ pt vbHi c (VB m c) -∗ WP c (k ⟨⟩) Q)
      -∗ WP c (.op (.waitDma2 sem src dst hsrc hdst) k) Q) := by
  refine st_waitE m κ ι c 35 17 16384 0 ((c.val + 7) % 8) hs hN ?_ rfl hl (pt vbHi c (VB m c)) (Entails.refl _)
  show (if 0 = 0 then (if 3 % 2 = 0 then (if c.val = 0 then (∅ : Finset ℕ) else {c.val}) else (if c.val = 1 then ∅ else {(c.val + 7) % 8})) else ∅) = _
  rw [if_pos rfl, if_neg (by decide), if_neg hc]

theorem scback (c : Dev nD) (N : ℕ) {sem : DmaSem sig} {sp sp' : Space} {S S' : Shape} {e e' : EltTy} {src : Memref sig .tc sp' S' e'}
    {dst : Memref sig .tc sp S e} {hsrc : src.view.WordExact} {hdst : dst.view.WordExact}
    (b i : ℕ) (iS : Fin 51) {α : Type} {Q : α → sProp 𝕄} {k : PUnit → Prog (TpuEff nD τ sig (Elt F) Λ₀ .tc) α}
    (h2 : c.val < 2) (hN' : N = if c.val = 0 then 131072 else 16384) (hk : kd (semOf iS) = .sc i) (hi : i < 14)
    (hs : semOf iS = .dma sem) (hN : dst.view.dmaCredit = N) (hl : lvOk 0 (evT.drop b) = true) :
    ctx m κ ι ⊢ iprop(CD c iS 0 N -∗ OB c b -∗ AT c iS 0 -∗ (OB c b -∗ AT c iS 1 -∗ WP c (k ⟨⟩) Q)
      -∗ WP c (.op (.waitDma2 sem src dst hsrc hdst) k) Q) := by
  have h := st_waitE m κ ι c iS 0 N 0 0 (l := evT.drop b) (Q := Q) (k := k) (src := src) (dst := dst) (hsrc := hsrc) (hdst := hdst) hs hN
    (by rw [hk]; show (if 0 = 0 ∧ i < 14 ∧ c.val < 2 then ({0} : Finset ℕ) else ∅) = {0}; exact if_pos ⟨rfl, hi, h2⟩)
    (by rw [hk]; exact hN'.symm) hl (iprop(emp)) (by rw [hk]; exact Entails.refl _)
  iintro #Hctx Hc HO HA Hk
  iapply h $$ Hctx Hc HO HA
  iintro HO HA -
  iapply Hk $$ HO HA

end Cert.KernelIdeal.Pf
end
-- ==== Proof.ScatA.lean ====
module

public import proofs.«01_k».proof.Proof.Scatter

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ) (c : Dev nD)

theorem dv0 (c : Dev nD) (hc : c.val = 0) (t : ℕ) (h : t < 8) {n : ℕ} {hn : n < nD} (hh : n = t) : (⟨n, hn⟩ : Dev nD) = sh c t :=
  Fin.ext (hh.trans (show t = (c.val + t) % 8 by omega))
theorem dv1 (c : Dev nD) (hc : c.val = 1) (o t : ℕ) (h : (1 + o) % 8 = t) {n : ℕ} {hn : n < nD} (hh : n = t) : (⟨n, hn⟩ : Dev nD) = sh c o :=
  Fin.ext (hh.trans (show t = (c.val + o) % 8 by rw [hc]; exact h.symm))

theorem p1 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) (k0_h1 : k0_cond1 c = 1#1) {Q : _ → sProp 𝕄} :
    ctx m κ ι ⊢ iprop(Ob c (ev0.drop 0 ++ evT) -∗ SK c 0 -∗ KA m c -∗ pa kbLo (sh c 1) -∗ VA m c -∗ pa vbLo (sh c 1) -∗ (KA m c -∗ CD c 16 0 131072 -∗ Ob c (ev0.drop 2 ++ evT) -∗ SK c 2 -∗ VA m c -∗ CD c 23 0 131072 -∗ Q ⟨⟩) -∗ WP c (k0_part1 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h1) Q) := by
  rw [k0_part1_eq_skeleton]
  simp only [k0_part1_skel, semSignalWord, semWaitWord, Prog.lift, Prog.bind_op, Prog.bind_ret, Prog.pure_eq_ret, wp_deviceId, int1, int2, int7]
  iintro #Hctx HO HS HKA DK1 HVA DV1 Hk
  iapply (sklo m κ ι c hc 1 (by decide) (by decide) 0 0 16 (l := ev0.drop 0 ++ evT) (ev0.drop 1 ++ evT) rfl (dv0 c hc 1 (by decide) k0_dev8_eq) rfl rfl rfl (by decide) rfl rfl) $$ Hctx HO HS HKA DK1
  iintro HO HS HKA CD16
  iapply (svlo m κ ι c hc 1 (by decide) (by decide) 1 7 23 (l := ev0.drop 1 ++ evT) (ev0.drop 2 ++ evT) rfl (dv0 c hc 1 (by decide) k0_dev9_eq) rfl rfl rfl (by decide) rfl rfl) $$ Hctx HO HS HVA DV1
  iintro HO HS HVA CD23
  iapply (wp_done c)
  iapply Hk $$ HKA CD16 HO HS HVA CD23

theorem p2 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) (k0_h1 : k0_cond1 c = 1#1) {Q : _ → sProp 𝕄} :
    ctx m κ ι ⊢ iprop(Ob c (ev0.drop 2 ++ evT) -∗ SK c 2 -∗ KA m c -∗ pa kbLo (sh c 2) -∗ VA m c -∗ pa vbLo (sh c 2) -∗ pa kbLo (sh c 3) -∗ (CD c 17 0 131072 -∗ VA m c -∗ CD c 24 0 131072 -∗ Ob c (ev0.drop 5 ++ evT) -∗ SK c 5 -∗ KA m c -∗ CD c 18 0 131072 -∗ Q ⟨⟩) -∗ WP c (k0_part2 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h1) Q) := by
  rw [k0_part2_eq_skeleton]
  simp only [k0_part2_skel, semSignalWord, semWaitWord, Prog.lift, Prog.bind_op, Prog.bind_ret, Prog.pure_eq_ret, wp_deviceId, int1, int2, int7]
  iintro #Hctx HO HS HKA DK2 HVA DV2 DK3 Hk
  iapply (sklo m κ ι c hc 2 (by decide) (by decide) 2 1 17 (l := ev0.drop 2 ++ evT) (ev0.drop 3 ++ evT) rfl (dv0 c hc 2 (by decide) k0_dev10_eq) rfl rfl rfl (by decide) rfl rfl) $$ Hctx HO HS HKA DK2
  iintro HO HS HKA CD17
  iapply (svlo m κ ι c hc 2 (by decide) (by decide) 3 8 24 (l := ev0.drop 3 ++ evT) (ev0.drop 4 ++ evT) rfl (dv0 c hc 2 (by decide) k0_dev11_eq) rfl rfl rfl (by decide) rfl rfl) $$ Hctx HO HS HVA DV2
  iintro HO HS HVA CD24
  iapply (sklo m κ ι c hc 3 (by decide) (by decide) 4 2 18 (l := ev0.drop 4 ++ evT) (ev0.drop 5 ++ evT) rfl (dv0 c hc 3 (by decide) k0_dev12_eq) rfl rfl rfl (by decide) rfl rfl) $$ Hctx HO HS HKA DK3
  iintro HO HS HKA CD18
  iapply (wp_done c)
  iapply Hk $$ CD17 HVA CD24 HO HS HKA CD18

theorem p3 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) (k0_h1 : k0_cond1 c = 1#1) {Q : _ → sProp 𝕄} :
    ctx m κ ι ⊢ iprop(Ob c (ev0.drop 5 ++ evT) -∗ SK c 5 -∗ VA m c -∗ pa vbLo (sh c 3) -∗ KA m c -∗ pa kbLo (sh c 4) -∗ pa vbLo (sh c 4) -∗ (CD c 25 0 131072 -∗ KA m c -∗ CD c 19 0 131072 -∗ Ob c (ev0.drop 8 ++ evT) -∗ SK c 8 -∗ VA m c -∗ CD c 26 0 131072 -∗ Q (5#32)) -∗ WP c (k0_part3 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h1) Q) := by
  rw [k0_part3_eq_skeleton]
  simp only [k0_part3_skel, semSignalWord, semWaitWord, Prog.lift, Prog.bind_op, Prog.bind_ret, Prog.pure_eq_ret, wp_deviceId, int1, int2, int7]
  iintro #Hctx HO HS HVA DV3 HKA DK4 DV4 Hk
  iapply (svlo m κ ι c hc 3 (by decide) (by decide) 5 9 25 (l := ev0.drop 5 ++ evT) (ev0.drop 6 ++ evT) rfl (dv0 c hc 3 (by decide) k0_dev13_eq) rfl rfl rfl (by decide) rfl rfl) $$ Hctx HO HS HVA DV3
  iintro HO HS HVA CD25
  iapply (sklo m κ ι c hc 4 (by decide) (by decide) 6 3 19 (l := ev0.drop 6 ++ evT) (ev0.drop 7 ++ evT) rfl (dv0 c hc 4 (by decide) k0_dev14_eq) rfl rfl rfl (by decide) rfl rfl) $$ Hctx HO HS HKA DK4
  iintro HO HS HKA CD19
  iapply (svlo m κ ι c hc 4 (by decide) (by decide) 7 10 26 (l := ev0.drop 7 ++ evT) (ev0.drop 8 ++ evT) rfl (dv0 c hc 4 (by decide) k0_dev15_eq) rfl rfl rfl (by decide) rfl rfl) $$ Hctx HO HS HVA DV4
  iintro HO HS HVA CD26
  iapply (wp_done c)
  iapply Hk $$ CD25 HKA CD19 HO HS HVA CD26

theorem p4 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) (k0_h1 : k0_cond1 c = 1#1) (c5_i32_1634 : BitVec 32) {Q : _ → sProp 𝕄} :
    ctx m κ ι ⊢ iprop(Ob c (ev0.drop 8 ++ evT) -∗ SK c 8 -∗ KA m c -∗ pa kbLo (sh c 5) -∗ VA m c -∗ pa vbLo (sh c 5) -∗ (KA m c -∗ CD c 20 0 131072 -∗ Ob c (ev0.drop 10 ++ evT) -∗ SK c 10 -∗ VA m c -∗ CD c 27 0 131072 -∗ Q ⟨⟩) -∗ WP c (k0_part4 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h1 c5_i32_1634) Q) := by
  rw [k0_part4_eq_skeleton]
  simp only [k0_part4_skel, semSignalWord, semWaitWord, Prog.lift, Prog.bind_op, Prog.bind_ret, Prog.pure_eq_ret, wp_deviceId, int1, int2, int7]
  iintro #Hctx HO HS HKA DK5 HVA DV5 Hk
  iapply (sklo m κ ι c hc 5 (by decide) (by decide) 8 4 20 (l := ev0.drop 8 ++ evT) (ev0.drop 9 ++ evT) rfl (dv0 c hc 5 (by decide) k0_dev16_eq) rfl rfl rfl (by decide) rfl rfl) $$ Hctx HO HS HKA DK5
  iintro HO HS HKA CD20
  iapply (svlo m κ ι c hc 5 (by decide) (by decide) 9 11 27 (l := ev0.drop 9 ++ evT) (ev0.drop 10 ++ evT) rfl (dv0 c hc 5 (by decide) k0_dev17_eq) rfl rfl rfl (by decide) rfl rfl) $$ Hctx HO HS HVA DV5
  iintro HO HS HVA CD27
  iapply (wp_done c)
  iapply Hk $$ HKA CD20 HO HS HVA CD27

theorem p5 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) (k0_h1 : k0_cond1 c = 1#1) {Q : _ → sProp 𝕄} :
    ctx m κ ι ⊢ iprop(Ob c (ev0.drop 10 ++ evT) -∗ SK c 10 -∗ KA m c -∗ pa kbLo (sh c 6) -∗ VA m c -∗ pa vbLo (sh c 6) -∗ pa kbLo (sh c 7) -∗ (CD c 21 0 131072 -∗ VA m c -∗ CD c 28 0 131072 -∗ Ob c (ev0.drop 13 ++ evT) -∗ SK c 13 -∗ KA m c -∗ CD c 22 0 131072 -∗ Q ⟨⟩) -∗ WP c (k0_part5 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h1) Q) := by
  rw [k0_part5_eq_skeleton]
  simp only [k0_part5_skel, semSignalWord, semWaitWord, Prog.lift, Prog.bind_op, Prog.bind_ret, Prog.pure_eq_ret, wp_deviceId, int1, int2, int7]
  iintro #Hctx HO HS HKA DK6 HVA DV6 DK7 Hk
  iapply (sklo m κ ι c hc 6 (by decide) (by decide) 10 5 21 (l := ev0.drop 10 ++ evT) (ev0.drop 11 ++ evT) rfl (dv0 c hc 6 (by decide) k0_dev18_eq) rfl rfl rfl (by decide) rfl rfl) $$ Hctx HO HS HKA DK6
  iintro HO HS HKA CD21
  iapply (svlo m κ ι c hc 6 (by decide) (by decide) 11 12 28 (l := ev0.drop 11 ++ evT) (ev0.drop 12 ++ evT) rfl (dv0 c hc 6 (by decide) k0_dev19_eq) rfl rfl rfl (by decide) rfl rfl) $$ Hctx HO HS HVA DV6
  iintro HO HS HVA CD28
  iapply (sklo m κ ι c hc 7 (by decide) (by decide) 12 6 22 (l := ev0.drop 12 ++ evT) (ev0.drop 13 ++ evT) rfl (dv0 c hc 7 (by decide) k0_dev20_eq) rfl rfl rfl (by decide) rfl rfl) $$ Hctx HO HS HKA DK7
  iintro HO HS HKA CD22
  iapply (wp_done c)
  iapply Hk $$ CD21 HVA CD28 HO HS HKA CD22

theorem p6 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) (k0_h2 : k0_cond2 c = 1#1) {Q : _ → sProp 𝕄} :
    ctx m κ ι ⊢ iprop(Ob c (ev1.drop 0 ++ evT) -∗ SK c 0 -∗ KA m c -∗ pa kbHi (sh c 7) -∗ VA m c -∗ pa vbHi (sh c 7) -∗ (KA m c -∗ CD c 16 0 16384 -∗ Ob c (ev1.drop 2 ++ evT) -∗ SK c 2 -∗ VA m c -∗ CD c 23 0 16384 -∗ Q ⟨⟩) -∗ WP c (k0_part6 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h2) Q) := by
  rw [k0_part6_eq_skeleton]
  simp only [k0_part6_skel, semSignalWord, semWaitWord, Prog.lift, Prog.bind_op, Prog.bind_ret, Prog.pure_eq_ret, wp_deviceId, int1, int2, int7]
  iintro #Hctx HO HS HKA DK7 HVA DV7 Hk
  iapply (skhi m κ ι c hc 7 0 (by decide) (by decide) (by decide) rfl 0 0 16 (l := ev1.drop 0 ++ evT) (ev1.drop 1 ++ evT) rfl (dv1 c hc 7 0 rfl k0_dev22_eq) rfl rfl rfl (by decide) rfl rfl) $$ Hctx HO HS HKA DK7
  iintro HO HS HKA CD16
  iapply (svhi m κ ι c hc 7 0 (by decide) (by decide) (by decide) rfl 1 7 23 (l := ev1.drop 1 ++ evT) (ev1.drop 2 ++ evT) rfl (dv1 c hc 7 0 rfl k0_dev23_eq) rfl rfl rfl (by decide) rfl rfl) $$ Hctx HO HS HVA DV7
  iintro HO HS HVA CD23
  iapply (wp_done c)
  iapply Hk $$ HKA CD16 HO HS HVA CD23

theorem p7 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) (k0_h2 : k0_cond2 c = 1#1) {Q : _ → sProp 𝕄} :
    ctx m κ ι ⊢ iprop(Ob c (ev1.drop 2 ++ evT) -∗ SK c 2 -∗ KA m c -∗ pa kbHi (sh c 1) -∗ VA m c -∗ pa vbHi (sh c 1) -∗ pa kbHi (sh c 2) -∗ (CD c 17 0 16384 -∗ VA m c -∗ CD c 24 0 16384 -∗ Ob c (ev1.drop 5 ++ evT) -∗ SK c 5 -∗ KA m c -∗ CD c 18 0 16384 -∗ Q ⟨⟩) -∗ WP c (k0_part7 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h2) Q) := by
  rw [k0_part7_eq_skeleton]
  simp only [k0_part7_skel, semSignalWord, semWaitWord, Prog.lift, Prog.bind_op, Prog.bind_ret, Prog.pure_eq_ret, wp_deviceId, int1, int2, int7]
  iintro #Hctx HO HS HKA DK1 HVA DV1 DK2 Hk
  iapply (skhi m κ ι c hc 1 2 (by decide) (by decide) (by decide) rfl 2 1 17 (l := ev1.drop 2 ++ evT) (ev1.drop 3 ++ evT) rfl (dv1 c hc 1 2 rfl k0_dev24_eq) rfl rfl rfl (by decide) rfl rfl) $$ Hctx HO HS HKA DK1
  iintro HO HS HKA CD17
  iapply (svhi m κ ι c hc 1 2 (by decide) (by decide) (by decide) rfl 3 8 24 (l := ev1.drop 3 ++ evT) (ev1.drop 4 ++ evT) rfl (dv1 c hc 1 2 rfl k0_dev25_eq) rfl rfl rfl (by decide) rfl rfl) $$ Hctx HO HS HVA DV1
  iintro HO HS HVA CD24
  iapply (skhi m κ ι c hc 2 3 (by decide) (by decide) (by decide) rfl 4 2 18 (l := ev1.drop 4 ++ evT) (ev1.drop 5 ++ evT) rfl (dv1 c hc 2 3 rfl k0_dev26_eq) rfl rfl rfl (by decide) rfl rfl) $$ Hctx HO HS HKA DK2
  iintro HO HS HKA CD18
  iapply (wp_done c)
  iapply Hk $$ CD17 HVA CD24 HO HS HKA CD18

theorem p8 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) (k0_h2 : k0_cond2 c = 1#1) {Q : _ → sProp 𝕄} :
    ctx m κ ι ⊢ iprop(Ob c (ev1.drop 5 ++ evT) -∗ SK c 5 -∗ VA m c -∗ pa vbHi (sh c 2) -∗ KA m c -∗ pa kbHi (sh c 3) -∗ pa vbHi (sh c 3) -∗ (CD c 25 0 16384 -∗ KA m c -∗ CD c 19 0 16384 -∗ Ob c (ev1.drop 8 ++ evT) -∗ SK c 8 -∗ VA m c -∗ CD c 26 0 16384 -∗ Q (5#32)) -∗ WP c (k0_part8 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h2) Q) := by
  rw [k0_part8_eq_skeleton]
  simp only [k0_part8_skel, semSignalWord, semWaitWord, Prog.lift, Prog.bind_op, Prog.bind_ret, Prog.pure_eq_ret, wp_deviceId, int1, int2, int7]
  iintro #Hctx HO HS HVA DV2 HKA DK3 DV3 Hk
  iapply (svhi m κ ι c hc 2 3 (by decide) (by decide) (by decide) rfl 5 9 25 (l := ev1.drop 5 ++ evT) (ev1.drop 6 ++ evT) rfl (dv1 c hc 2 3 rfl k0_dev27_eq) rfl rfl rfl (by decide) rfl rfl) $$ Hctx HO HS HVA DV2
  iintro HO HS HVA CD25
  iapply (skhi m κ ι c hc 3 4 (by decide) (by decide) (by decide) rfl 6 3 19 (l := ev1.drop 6 ++ evT) (ev1.drop 7 ++ evT) rfl (dv1 c hc 3 4 rfl k0_dev28_eq) rfl rfl rfl (by decide) rfl rfl) $$ Hctx HO HS HKA DK3
  iintro HO HS HKA CD19
  iapply (svhi m κ ι c hc 3 4 (by decide) (by decide) (by decide) rfl 7 10 26 (l := ev1.drop 7 ++ evT) (ev1.drop 8 ++ evT) rfl (dv1 c hc 3 4 rfl k0_dev29_eq) rfl rfl rfl (by decide) rfl rfl) $$ Hctx HO HS HVA DV3
  iintro HO HS HVA CD26
  iapply (wp_done c)
  iapply Hk $$ CD25 HKA CD19 HO HS HVA CD26

theorem p9 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) (k0_h2 : k0_cond2 c = 1#1) (c5_i32_1633 : BitVec 32) {Q : _ → sProp 𝕄} :
    ctx m κ ι ⊢ iprop(Ob c (ev1.drop 8 ++ evT) -∗ SK c 8 -∗ KA m c -∗ pa kbHi (sh c 4) -∗ VA m c -∗ pa vbHi (sh c 4) -∗ (KA m c -∗ CD c 20 0 16384 -∗ Ob c (ev1.drop 10 ++ evT) -∗ SK c 10 -∗ VA m c -∗ CD c 27 0 16384 -∗ Q ⟨⟩) -∗ WP c (k0_part9 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h2 c5_i32_1633) Q) := by
  rw [k0_part9_eq_skeleton]
  simp only [k0_part9_skel, semSignalWord, semWaitWord, Prog.lift, Prog.bind_op, Prog.bind_ret, Prog.pure_eq_ret, wp_deviceId, int1, int2, int7]
  iintro #Hctx HO HS HKA DK4 HVA DV4 Hk
  iapply (skhi m κ ι c hc 4 5 (by decide) (by decide) (by decide) rfl 8 4 20 (l := ev1.drop 8 ++ evT) (ev1.drop 9 ++ evT) rfl (dv1 c hc 4 5 rfl k0_dev30_eq) rfl rfl rfl (by decide) rfl rfl) $$ Hctx HO HS HKA DK4
  iintro HO HS HKA CD20
  iapply (svhi m κ ι c hc 4 5 (by decide) (by decide) (by decide) rfl 9 11 27 (l := ev1.drop 9 ++ evT) (ev1.drop 10 ++ evT) rfl (dv1 c hc 4 5 rfl k0_dev31_eq) rfl rfl rfl (by decide) rfl rfl) $$ Hctx HO HS HVA DV4
  iintro HO HS HVA CD27
  iapply (wp_done c)
  iapply Hk $$ HKA CD20 HO HS HVA CD27

theorem p10 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) (k0_h2 : k0_cond2 c = 1#1) {Q : _ → sProp 𝕄} :
    ctx m κ ι ⊢ iprop(Ob c (ev1.drop 10 ++ evT) -∗ SK c 10 -∗ KA m c -∗ pa kbHi (sh c 5) -∗ VA m c -∗ pa vbHi (sh c 5) -∗ pa kbHi (sh c 6) -∗ (CD c 21 0 16384 -∗ VA m c -∗ CD c 28 0 16384 -∗ Ob c (ev1.drop 13 ++ evT) -∗ SK c 13 -∗ KA m c -∗ CD c 22 0 16384 -∗ Q ⟨⟩) -∗ WP c (k0_part10 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c k0_h2) Q) := by
  rw [k0_part10_eq_skeleton]
  simp only [k0_part10_skel, semSignalWord, semWaitWord, Prog.lift, Prog.bind_op, Prog.bind_ret, Prog.pure_eq_ret, wp_deviceId, int1, int2, int7]
  iintro #Hctx HO HS HKA DK5 HVA DV5 DK6 Hk
  iapply (skhi m κ ι c hc 5 6 (by decide) (by decide) (by decide) rfl 10 5 21 (l := ev1.drop 10 ++ evT) (ev1.drop 11 ++ evT) rfl (dv1 c hc 5 6 rfl k0_dev32_eq) rfl rfl rfl (by decide) rfl rfl) $$ Hctx HO HS HKA DK5
  iintro HO HS HKA CD21
  iapply (svhi m κ ι c hc 5 6 (by decide) (by decide) (by decide) rfl 11 12 28 (l := ev1.drop 11 ++ evT) (ev1.drop 12 ++ evT) rfl (dv1 c hc 5 6 rfl k0_dev33_eq) rfl rfl rfl (by decide) rfl rfl) $$ Hctx HO HS HVA DV5
  iintro HO HS HVA CD28
  iapply (skhi m κ ι c hc 6 7 (by decide) (by decide) (by decide) rfl 12 6 22 (l := ev1.drop 12 ++ evT) (ev1.drop 13 ++ evT) rfl (dv1 c hc 6 7 rfl k0_dev34_eq) rfl rfl rfl (by decide) rfl rfl) $$ Hctx HO HS HKA DK6
  iintro HO HS HKA CD22
  iapply (wp_done c)
  iapply Hk $$ CD21 HVA CD28 HO HS HKA CD22

theorem p11 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) {Q : _ → sProp 𝕄} :
    ctx m κ ι ⊢ iprop(CD c 16 0 131072 -∗ OB c 19 -∗ AT c 16 0 -∗ CD c 23 0 131072 -∗ AT c 23 0 -∗ CD c 17 0 131072 -∗ AT c 17 0 -∗ (AT c 16 1 -∗ AT c 23 1 -∗ OB c 19 -∗ AT c 17 1 -∗ Q ⟨⟩) -∗ WP c (k0_part11 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part11_eq_skeleton]
  simp only [k0_part11_skel, semSignalWord, semWaitWord, Prog.lift, Prog.bind_op, Prog.bind_ret, Prog.pure_eq_ret, wp_deviceId, int1, int2, int7]
  iintro #Hctx CD16 HO A16 CD23 A23 CD17 A17 Hk
  iapply (scback m κ ι c 131072 19 0 16 (by omega) (if_pos hc).symm rfl (by decide) rfl rfl (by decide)) $$ Hctx CD16 HO A16
  iintro HO A16
  iapply (scback m κ ι c 131072 19 7 23 (by omega) (if_pos hc).symm rfl (by decide) rfl rfl (by decide)) $$ Hctx CD23 HO A23
  iintro HO A23
  iapply (scback m κ ι c 131072 19 1 17 (by omega) (if_pos hc).symm rfl (by decide) rfl rfl (by decide)) $$ Hctx CD17 HO A17
  iintro HO A17
  iapply (wp_done c)
  iapply Hk $$ A16 A23 HO A17

theorem p12 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) {Q : _ → sProp 𝕄} :
    ctx m κ ι ⊢ iprop(CD c 24 0 131072 -∗ OB c 19 -∗ AT c 24 0 -∗ CD c 18 0 131072 -∗ AT c 18 0 -∗ CD c 25 0 131072 -∗ AT c 25 0 -∗ CD c 19 0 131072 -∗ AT c 19 0 -∗ (AT c 24 1 -∗ AT c 18 1 -∗ AT c 25 1 -∗ OB c 19 -∗ AT c 19 1 -∗ Q ⟨⟩) -∗ WP c (k0_part12 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part12_eq_skeleton]
  simp only [k0_part12_skel, semSignalWord, semWaitWord, Prog.lift, Prog.bind_op, Prog.bind_ret, Prog.pure_eq_ret, wp_deviceId, int1, int2, int7]
  iintro #Hctx CD24 HO A24 CD18 A18 CD25 A25 CD19 A19 Hk
  iapply (scback m κ ι c 131072 19 8 24 (by omega) (if_pos hc).symm rfl (by decide) rfl rfl (by decide)) $$ Hctx CD24 HO A24
  iintro HO A24
  iapply (scback m κ ι c 131072 19 2 18 (by omega) (if_pos hc).symm rfl (by decide) rfl rfl (by decide)) $$ Hctx CD18 HO A18
  iintro HO A18
  iapply (scback m κ ι c 131072 19 9 25 (by omega) (if_pos hc).symm rfl (by decide) rfl rfl (by decide)) $$ Hctx CD25 HO A25
  iintro HO A25
  iapply (scback m κ ι c 131072 19 3 19 (by omega) (if_pos hc).symm rfl (by decide) rfl rfl (by decide)) $$ Hctx CD19 HO A19
  iintro HO A19
  iapply (wp_done c)
  iapply Hk $$ A24 A18 A25 HO A19

theorem p13 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) {Q : _ → sProp 𝕄} :
    ctx m κ ι ⊢ iprop(CD c 26 0 131072 -∗ OB c 19 -∗ AT c 26 0 -∗ CD c 20 0 131072 -∗ AT c 20 0 -∗ CD c 27 0 131072 -∗ AT c 27 0 -∗ (AT c 26 1 -∗ AT c 20 1 -∗ OB c 19 -∗ AT c 27 1 -∗ Q ⟨⟩) -∗ WP c (k0_part13 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part13_eq_skeleton]
  simp only [k0_part13_skel, semSignalWord, semWaitWord, Prog.lift, Prog.bind_op, Prog.bind_ret, Prog.pure_eq_ret, wp_deviceId, int1, int2, int7]
  iintro #Hctx CD26 HO A26 CD20 A20 CD27 A27 Hk
  iapply (scback m κ ι c 131072 19 10 26 (by omega) (if_pos hc).symm rfl (by decide) rfl rfl (by decide)) $$ Hctx CD26 HO A26
  iintro HO A26
  iapply (scback m κ ι c 131072 19 4 20 (by omega) (if_pos hc).symm rfl (by decide) rfl rfl (by decide)) $$ Hctx CD20 HO A20
  iintro HO A20
  iapply (scback m κ ι c 131072 19 11 27 (by omega) (if_pos hc).symm rfl (by decide) rfl rfl (by decide)) $$ Hctx CD27 HO A27
  iintro HO A27
  iapply (wp_done c)
  iapply Hk $$ A26 A20 HO A27

theorem p14 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 0) {Q : _ → sProp 𝕄} :
    ctx m κ ι ⊢ iprop(CD c 21 0 131072 -∗ OB c 19 -∗ AT c 21 0 -∗ CD c 28 0 131072 -∗ AT c 28 0 -∗ CD c 22 0 131072 -∗ AT c 22 0 -∗ CD c 29 0 131072 -∗ AT c 29 0 -∗ (AT c 21 1 -∗ AT c 28 1 -∗ AT c 22 1 -∗ OB c 19 -∗ AT c 29 1 -∗ Q ⟨⟩) -∗ WP c (k0_part14 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part14_eq_skeleton]
  simp only [k0_part14_skel, semSignalWord, semWaitWord, Prog.lift, Prog.bind_op, Prog.bind_ret, Prog.pure_eq_ret, wp_deviceId, int1, int2, int7]
  iintro #Hctx CD21 HO A21 CD28 A28 CD22 A22 CD29 A29 Hk
  iapply (scback m κ ι c 131072 19 5 21 (by omega) (if_pos hc).symm rfl (by decide) rfl rfl (by decide)) $$ Hctx CD21 HO A21
  iintro HO A21
  iapply (scback m κ ι c 131072 19 12 28 (by omega) (if_pos hc).symm rfl (by decide) rfl rfl (by decide)) $$ Hctx CD28 HO A28
  iintro HO A28
  iapply (scback m κ ι c 131072 19 6 22 (by omega) (if_pos hc).symm rfl (by decide) rfl rfl (by decide)) $$ Hctx CD22 HO A22
  iintro HO A22
  iapply (scback m κ ι c 131072 19 13 29 (by omega) (if_pos hc).symm rfl (by decide) rfl rfl (by decide)) $$ Hctx CD29 HO A29
  iintro HO A29
  iapply (wp_done c)
  iapply Hk $$ A21 A28 A22 HO A29

theorem p15 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) {Q : _ → sProp 𝕄} :
    ctx m κ ι ⊢ iprop(CD c 16 0 16384 -∗ OB c 19 -∗ AT c 16 0 -∗ CD c 23 0 16384 -∗ AT c 23 0 -∗ CD c 17 0 16384 -∗ AT c 17 0 -∗ (AT c 16 1 -∗ AT c 23 1 -∗ OB c 19 -∗ AT c 17 1 -∗ Q ⟨⟩) -∗ WP c (k0_part15 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part15_eq_skeleton]
  simp only [k0_part15_skel, semSignalWord, semWaitWord, Prog.lift, Prog.bind_op, Prog.bind_ret, Prog.pure_eq_ret, wp_deviceId, int1, int2, int7]
  iintro #Hctx CD16 HO A16 CD23 A23 CD17 A17 Hk
  iapply (scback m κ ι c 16384 19 0 16 (by omega) (if_neg (by omega)).symm rfl (by decide) rfl rfl (by decide)) $$ Hctx CD16 HO A16
  iintro HO A16
  iapply (scback m κ ι c 16384 19 7 23 (by omega) (if_neg (by omega)).symm rfl (by decide) rfl rfl (by decide)) $$ Hctx CD23 HO A23
  iintro HO A23
  iapply (scback m κ ι c 16384 19 1 17 (by omega) (if_neg (by omega)).symm rfl (by decide) rfl rfl (by decide)) $$ Hctx CD17 HO A17
  iintro HO A17
  iapply (wp_done c)
  iapply Hk $$ A16 A23 HO A17

theorem p16 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) {Q : _ → sProp 𝕄} :
    ctx m κ ι ⊢ iprop(CD c 24 0 16384 -∗ OB c 19 -∗ AT c 24 0 -∗ CD c 18 0 16384 -∗ AT c 18 0 -∗ CD c 25 0 16384 -∗ AT c 25 0 -∗ CD c 19 0 16384 -∗ AT c 19 0 -∗ (AT c 24 1 -∗ AT c 18 1 -∗ AT c 25 1 -∗ OB c 19 -∗ AT c 19 1 -∗ Q ⟨⟩) -∗ WP c (k0_part16 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part16_eq_skeleton]
  simp only [k0_part16_skel, semSignalWord, semWaitWord, Prog.lift, Prog.bind_op, Prog.bind_ret, Prog.pure_eq_ret, wp_deviceId, int1, int2, int7]
  iintro #Hctx CD24 HO A24 CD18 A18 CD25 A25 CD19 A19 Hk
  iapply (scback m κ ι c 16384 19 8 24 (by omega) (if_neg (by omega)).symm rfl (by decide) rfl rfl (by decide)) $$ Hctx CD24 HO A24
  iintro HO A24
  iapply (scback m κ ι c 16384 19 2 18 (by omega) (if_neg (by omega)).symm rfl (by decide) rfl rfl (by decide)) $$ Hctx CD18 HO A18
  iintro HO A18
  iapply (scback m κ ι c 16384 19 9 25 (by omega) (if_neg (by omega)).symm rfl (by decide) rfl rfl (by decide)) $$ Hctx CD25 HO A25
  iintro HO A25
  iapply (scback m κ ι c 16384 19 3 19 (by omega) (if_neg (by omega)).symm rfl (by decide) rfl rfl (by decide)) $$ Hctx CD19 HO A19
  iintro HO A19
  iapply (wp_done c)
  iapply Hk $$ A24 A18 A25 HO A19

theorem p17 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) {Q : _ → sProp 𝕄} :
    ctx m κ ι ⊢ iprop(CD c 26 0 16384 -∗ OB c 19 -∗ AT c 26 0 -∗ CD c 20 0 16384 -∗ AT c 20 0 -∗ CD c 27 0 16384 -∗ AT c 27 0 -∗ (AT c 26 1 -∗ AT c 20 1 -∗ OB c 19 -∗ AT c 27 1 -∗ Q ⟨⟩) -∗ WP c (k0_part17 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part17_eq_skeleton]
  simp only [k0_part17_skel, semSignalWord, semWaitWord, Prog.lift, Prog.bind_op, Prog.bind_ret, Prog.pure_eq_ret, wp_deviceId, int1, int2, int7]
  iintro #Hctx CD26 HO A26 CD20 A20 CD27 A27 Hk
  iapply (scback m κ ι c 16384 19 10 26 (by omega) (if_neg (by omega)).symm rfl (by decide) rfl rfl (by decide)) $$ Hctx CD26 HO A26
  iintro HO A26
  iapply (scback m κ ι c 16384 19 4 20 (by omega) (if_neg (by omega)).symm rfl (by decide) rfl rfl (by decide)) $$ Hctx CD20 HO A20
  iintro HO A20
  iapply (scback m κ ι c 16384 19 11 27 (by omega) (if_neg (by omega)).symm rfl (by decide) rfl rfl (by decide)) $$ Hctx CD27 HO A27
  iintro HO A27
  iapply (wp_done c)
  iapply Hk $$ A26 A20 HO A27

theorem p18 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (hc : c.val = 1) {Q : _ → sProp 𝕄} :
    ctx m κ ι ⊢ iprop(CD c 21 0 16384 -∗ OB c 19 -∗ AT c 21 0 -∗ CD c 28 0 16384 -∗ AT c 28 0 -∗ CD c 22 0 16384 -∗ AT c 22 0 -∗ CD c 29 0 16384 -∗ AT c 29 0 -∗ (AT c 21 1 -∗ AT c 28 1 -∗ AT c 22 1 -∗ OB c 19 -∗ AT c 29 1 -∗ Q ⟨⟩) -∗ WP c (k0_part18 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 ) Q) := by
  rw [k0_part18_eq_skeleton]
  simp only [k0_part18_skel, semSignalWord, semWaitWord, Prog.lift, Prog.bind_op, Prog.bind_ret, Prog.pure_eq_ret, wp_deviceId, int1, int2, int7]
  iintro #Hctx CD21 HO A21 CD28 A28 CD22 A22 CD29 A29 Hk
  iapply (scback m κ ι c 16384 19 5 21 (by omega) (if_neg (by omega)).symm rfl (by decide) rfl rfl (by decide)) $$ Hctx CD21 HO A21
  iintro HO A21
  iapply (scback m κ ι c 16384 19 12 28 (by omega) (if_neg (by omega)).symm rfl (by decide) rfl rfl (by decide)) $$ Hctx CD28 HO A28
  iintro HO A28
  iapply (scback m κ ι c 16384 19 6 22 (by omega) (if_neg (by omega)).symm rfl (by decide) rfl rfl (by decide)) $$ Hctx CD22 HO A22
  iintro HO A22
  iapply (scback m κ ι c 16384 19 13 29 (by omega) (if_neg (by omega)).symm rfl (by decide) rfl rfl (by decide)) $$ Hctx CD29 HO A29
  iintro HO A29
  iapply (wp_done c)
  iapply Hk $$ A21 A28 A22 HO A29

end Cert.KernelIdeal.Pf
end
-- ==== Proof.Barrier.lean ====
module

public import proofs.«01_k».proof.Proof.ScatA

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The barrier: every device hands each other one the places it will write -/

theorem dist_none (A : sProp 𝕄) (p : ℕ → Prop) [DecidablePred p] (l : List ℕ) (h : ∀ o ∈ l, ¬ p o) :
    (iprop(emp) : sProp 𝕄) ⊢ bigSepL l fun o => if p o then A else iprop(emp) := by
  induction l with
  | nil => exact Entails.refl _
  | cons a l ih =>
    rw [bigSepL_cons, if_neg (h a (by simp))]
    show _ ⊢ iprop(emp ∗ bigSepL l fun o => if p o then A else iprop(emp))
    have ih' := ih fun o ho => h o (by simp [ho])
    iintro -
    isplitr; · iempintro
    iapply ih' $$ []
    iempintro
theorem dist_list (A : sProp 𝕄) (p : ℕ → Prop) [DecidablePred p] (k : ℕ) (l : List ℕ) (hl : l.Nodup) (h : ∀ o ∈ l, p o ↔ o = k) :
    A ⊢ bigSepL l fun o => if p o then A else iprop(emp) := by
  induction l with
  | nil => exact Affine.affine
  | cons a l ih =>
    rw [bigSepL_cons]
    have hl' := List.nodup_cons.mp hl
    by_cases ha : p a
    · rw [if_pos ha]
      have hk : a = k := (h a (by simp)).mp ha
      have hn := dist_none A p l fun o ho hp => hl'.1 (by
        have : o = k := (h o (by simp [ho])).mp hp
        rw [hk, ← this]; exact ho)
      show _ ⊢ iprop(A ∗ bigSepL l fun o => if p o then A else iprop(emp))
      iintro H
      isplitl [H]; · iexact H
      iapply hn $$ []
      iempintro
    · rw [if_neg ha]
      have ih' := ih hl'.2 fun o ho => h o (by simp [ho])
      show _ ⊢ iprop(emp ∗ bigSepL l fun o => if p o then A else iprop(emp))
      iintro H
      isplitr; · iempintro
      iapply ih' $$ H

def kl (c : Dev nD) (o : ℕ) : sProp 𝕄 := if (sh c o).val = 0 then iprop(pa kbLo c ∗ pa vbLo c) else iprop(emp)
def kh (c : Dev nD) (o : ℕ) : sProp 𝕄 := if (sh c o).val = 1 then iprop(pa kbHi c ∗ pa vbHi c) else iprop(emp)
def bbE (c : Dev nD) (o : ℕ) : sProp 𝕄 := iprop(pa (gRow (sh c o).val (sh c o).isLt) c ∗ kl c o ∗ kh c o)
def BB (c : Dev nD) (n : ℕ) : sProp 𝕄 := bigSepL (([1, 2, 3, 4, 5, 6, 7, 0] : List ℕ).drop n) (bbE c)
theorem BB_pop (c : Dev nD) (n o : ℕ) (h : ([1, 2, 3, 4, 5, 6, 7, 0] : List ℕ).drop n = o :: ([1, 2, 3, 4, 5, 6, 7, 0] : List ℕ).drop (n + 1)) :
    BB (F := F) c n ⊢ iprop(bbE c o ∗ BB c (n + 1)) := by
  unfold BB
  rw [h, bigSepL_cons]
  exact Entails.refl _
theorem bb_init (c : Dev nD) : iprop(pa gM c ∗ pa kbM c ∗ pa vbM c) ⊢ BB (F := F) c 0 := by
  have h8 : c.val < 8 := c.isLt
  have hr : pa (F := F) gM c ⊢ bigSep (Finset.range 8) fun o => pa (gRow (sh c o).val (sh c o).isLt) c := by
    have h1 : ∀ f : Vec F S8x32x1024 .f32, pt gM c f ⊢ bigSep (Finset.range 8) fun o => pa (F := F) (gRow (sh c o).val (sh c o).isLt) c := by
      intro f
      have h2 := rows_eq c fullShare f (fun o => (c.val + o) % 8) (fun o => m8 _) (add8_inj c.val) (add8_sur c.val h8)
      unfold pt
      refine (Entails.of_eq h2).trans ?_
      exact bigSep_mono fun o _ => pt_pa (gRow (sh c o).val (sh c o).isLt) c f
    iintro H
    unfold pa slot
    icases H with ⟨%f, H⟩
    iapply (h1 f) $$ H
  have hk : (iprop(pa kbLo c ∗ pa vbLo c) : sProp 𝕄) ⊢ bigSep (Finset.range 8) fun o => kl c o := by
    rw [bigSep_eq_bigSepL_of_eq [0, 1, 2, 3, 4, 5, 6, 7] (by decide) (by decide)]
    refine dist_list _ (fun o => (sh c o).val = 0) ((8 - c.val) % 8) _ (by decide) fun o ho => ?_
    have ho8 : o < 8 := by simp at ho; omega
    show (c.val + o) % 8 = 0 ↔ _
    omega
  have hh : (iprop(pa kbHi c ∗ pa vbHi c) : sProp 𝕄) ⊢ bigSep (Finset.range 8) fun o => kh c o := by
    rw [bigSep_eq_bigSepL_of_eq [0, 1, 2, 3, 4, 5, 6, 7] (by decide) (by decide)]
    refine dist_list _ (fun o => (sh c o).val = 1) ((9 - c.val) % 8) _ (by decide) fun o ho => ?_
    have ho8 : o < 8 := by simp at ho; omega
    show (c.val + o) % 8 = 1 ↔ _
    omega
  have he : BB (F := F) c 0 = bigSep (Finset.range 8) (bbE c) := (bigSep_eq_bigSepL_of_eq [1, 2, 3, 4, 5, 6, 7, 0] (by decide) (by decide) _).symm
  have he2 : (bigSep (Finset.range 8) (bbE (F := F) c)) = iprop((bigSep (Finset.range 8) fun o => pa (gRow (sh c o).val (sh c o).isLt) c) ∗ (bigSep (Finset.range 8) fun o => kl c o) ∗ (bigSep (Finset.range 8) fun o => kh c o)) := by
    have h1 : (bigSep (Finset.range 8) (bbE (F := F) c)) = bigSep (Finset.range 8) (fun o => iprop(pa (gRow (sh c o).val (sh c o).isLt) c ∗ (kl c o ∗ kh c o))) := rfl
    rw [h1, bigSep_sep', bigSep_sep']
  rw [he, he2]
  iintro ⟨H1, H2, H3⟩
  ihave H2 := (ksplit_a c) $$ H2
  icases H2 with ⟨K1, K2⟩
  ihave H3 := (vsplit_a c) $$ H3
  icases H3 with ⟨V1, V2⟩
  isplitl [H1]; · iapply hr $$ H1
  isplitl [K1 V1]
  · iapply hk $$ [K1 V1]
    isplitl [K1]; · iexact K1
    iexact V1
  iapply hh $$ [K2 V2]
  isplitl [K2]; · iexact K2
  iexact V2

abbrev OBB (c : Dev nD) (n : ℕ) : sProp 𝕄 := Ob c (evBar.drop n ++ (evSc c ++ evT))

theorem st_bar (c : Dev nD) {dst : Dev nD} {sem : Sem sig} (n o : ℕ) {α : Type} {Q : α → sProp 𝕄}
    {k : PUnit → Prog (TpuEff nD τ sig (Elt F) Λ₀ .tc) α} (hdst : dst = sh c o) (hs : semOf 50 = .reg sem) (h1 : 1 ≤ o) (h7 : o ≤ 7)
    (he : evBar.drop n = ⟨semOf 50, o, 0, o, 1, 1⟩ :: evBar.drop (n + 1))
    (h : ([1, 2, 3, 4, 5, 6, 7, 0] : List ℕ).drop n = o :: ([1, 2, 3, 4, 5, 6, 7, 0] : List ℕ).drop (n + 1)) :
    ctx m κ ι ⊢ iprop(OBB c n -∗ BB c n -∗ CP c 0 -∗ (OBB c (n + 1) -∗ BB c (n + 1) -∗ WP c (k ⟨⟩) Q) -∗ WP c (.op (.semSignal (dst : Thread nD τ) sem 1) k) Q) := by
  have hd : o ∈ dut (sh c o) (kd (semOf 50)) 0 := by
    show o ∈ (if 0 = 0 then Finset.Icc 1 7 else ∅)
    rw [if_pos rfl, Finset.mem_Icc]; exact ⟨h1, h7⟩
  have hP : iprop(bbE c o ∗ CP c 0) ⊢ payl m (sh c o) (kd (semOf 50)) 0 o := by
    show _ ⊢ barPay (sh c o) (sh (sh c o) (8 - o)) o
    rw [sh_sh (c := c) (a := o) (b := 8 - o) (by omega)]
    unfold bbE kl kh barPay
    iintro ⟨⟨H1, H2, H3⟩, H4⟩
    isplitl [H1]; · iexact H1
    isplitl [H2]; · iexact H2
    isplitl [H3]; · iexact H3
    by_cases h : o = 7
    · rw [if_pos h]; iexact H4
    · rw [if_neg h]; iempintro
  iintro #Hctx HO HB #HC Hk
  ihave HB := (BB_pop c n o h) $$ HB
  icases HB with ⟨Hb, HB⟩
  ihave #Hr := (ctx_reach m κ ι (sh c o) 50) $$ Hctx
  iapply (st_sig m κ ι c 50 (l := evBar.drop n ++ (evSc c ++ evT)) (evBar.drop (n + 1) ++ (evSc c ++ evT)) o 0 o 1 hdst hs (by rw [he]; rfl) hd rfl _ hP) $$ Hctx HO Hr [Hb]
  · isplitl [Hb]; · iexact Hb
    iexact HC
  iintro HO
  iapply Hk $$ HO HB

def BI (c : Dev nD) (n : ℕ) : sProp 𝕄 := bigSepL (([1, 2, 3, 4, 5, 6, 7] : List ℕ).drop n) fun d => barPay c (sh c (8 - d)) d
def kli (c : Dev nD) (o : ℕ) : sProp 𝕄 := if c.val = 0 then iprop(pa kbLo (sh c o) ∗ pa vbLo (sh c o)) else iprop(emp)
def khi (c : Dev nD) (o : ℕ) : sProp 𝕄 := if c.val = 1 then iprop(pa kbHi (sh c o) ∗ pa vbHi (sh c o)) else iprop(emp)
theorem BI_pop (c : Dev nD) (n o : ℕ) (h : ([1, 2, 3, 4, 5, 6, 7] : List ℕ).drop n = (8 - o) :: ([1, 2, 3, 4, 5, 6, 7] : List ℕ).drop (n + 1)) (h8 : o < 8) :
    BI (F := F) c n ⊢ iprop((pa (gRow c.val c.isLt) (sh c o) ∗ kli c o ∗ khi c o ∗ (if 8 - o = 7 then CP (sh c o) 0 else iprop(emp))) ∗ BI c (n + 1)) := by
  unfold BI
  rw [h, bigSepL_cons, show 8 - (8 - o) = o by omega]
  exact Entails.refl _
theorem lv_bar (c : Dev nD) : lvOk 1 (evBar.drop 7 ++ (evSc c ++ evT)) = true := by
  unfold evSc
  split_ifs <;> decide
theorem st_barW (c : Dev nD) {sem : Sem sig} {α : Type} {Q : α → sProp 𝕄} {k : PUnit → Prog (TpuEff nD τ sig (Elt F) Λ₀ .tc) α} (hs : semOf 50 = .reg sem) :
    ctx m κ ι ⊢ iprop(CD c 50 1 7 -∗ OBB c 7 -∗ AT c 50 0 -∗ (OBB c 7 -∗ AT c 50 1 -∗ BI c 0 -∗ WP c (k ⟨⟩) Q) -∗ WP c (.op (.semWait sem 7) k) Q) := by
  have h := st_waitReg m κ ι c 50 1 7 0 (l := evBar.drop 7 ++ (evSc c ++ evT)) (Q := Q) (k := k) hs
    (by show (dut c (kd (semOf 50)) 0).sum (fun _ => amt c (kd (semOf 50))) = 7; rfl) (lv_bar c) (BI c 0) (by
    have hd : dut c (kd (semOf 50)) 0 = ([1, 2, 3, 4, 5, 6, 7] : List ℕ).toFinset := by
      show (if 0 = 0 then Finset.Icc 1 7 else ∅) = _
      decide
    rw [bigSep_eq_bigSepL_of_eq [1, 2, 3, 4, 5, 6, 7] hd (by decide)]
    exact Entails.refl _)
  iintro #Hctx Hc HO HA Hk
  iapply h $$ Hctx Hc HO HA
  iintro HO HA - HB
  iapply Hk $$ HO HA HB

/-- The credits of the sends and fills, of devices 0 and 1. -/
def SCl (c : Dev nD) (N : ℕ) : sProp 𝕄 := iprop(CD c 16 0 N ∗ CD c 17 0 N ∗ CD c 18 0 N ∗ CD c 19 0 N ∗ CD c 20 0 N ∗ CD c 21 0 N ∗ CD c 22 0 N ∗ CD c 23 0 N ∗ CD c 24 0 N ∗ CD c 25 0 N ∗ CD c 26 0 N ∗ CD c 27 0 N ∗ CD c 28 0 N ∗ CD c 29 0 N ∗ CD c 38 0 N ∗ CD c 39 0 N)
def SC (c : Dev nD) : sProp 𝕄 := if c.val = 0 then SCl c 131072 else if c.val = 1 then SCl c 16384 else iprop(emp)

theorem cond1_pos : ∀ c : Dev nD, c.val = 0 → k0_cond1 c = 1#1 := by decide +kernel
theorem cond1_neg : ∀ c : Dev nD, c.val ≠ 0 → ¬ k0_cond1 c = 1#1 := by decide +kernel
theorem cond2_pos : ∀ c : Dev nD, c.val = 1 → k0_cond2 c = 1#1 := by decide +kernel
theorem cond2_neg : ∀ c : Dev nD, c.val ≠ 1 → ¬ k0_cond2 c = 1#1 := by decide +kernel

variable (c : Dev nD)

theorem p19 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(OBB c 0 -∗ BB c 0 -∗ CP c 0 -∗ (OBB c 4 -∗ BB c 4 -∗ Q ⟨c, (Scalar.remsi (Scalar.divsi (Dev.word c) 1#32) 8#32), (Scalar.remsi (Scalar.subi (Scalar.addi (Scalar.remsi (Scalar.divsi (Dev.word c) 1#32) 8#32) 8#32) 1#32) 8#32), (Scalar.remsi (Scalar.addi (Scalar.remsi (Scalar.divsi (Dev.word c) 1#32) 8#32) 1#32) 8#32), (SemArray.scalar (sig.barrier 0 rfl)), (Scalar.addi (Scalar.remsi (Scalar.divsi (Dev.word c) 1#32) 8#32) 5#32), 8#32⟩) -∗ WP c (k0_part19 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23) Q) := by
  rw [k0_part19_eq_skeleton]
  simp only [k0_part19_skel, semSignalWord, semWaitWord, Prog.lift, Prog.bind_op, Prog.bind_ret, Prog.pure_eq_ret, wp_deviceId, int1, int2, int7]
  iintro #Hctx HO HB #HC Hk
  iapply (st_bar m κ ι c 0 1 (Fin.ext (k0_dev1_eq c)) rfl (by decide) (by decide) rfl rfl) $$ Hctx HO HB HC
  iintro HO HB
  iapply (st_bar m κ ι c 1 2 (Fin.ext (k0_dev2_eq c)) rfl (by decide) (by decide) rfl rfl) $$ Hctx HO HB HC
  iintro HO HB
  iapply (st_bar m κ ι c 2 3 (Fin.ext (k0_dev3_eq c)) rfl (by decide) (by decide) rfl rfl) $$ Hctx HO HB HC
  iintro HO HB
  iapply (st_bar m κ ι c 3 4 (Fin.ext (k0_dev4_eq c)) rfl (by decide) (by decide) rfl rfl) $$ Hctx HO HB HC
  iintro HO HB
  iapply (wp_done c)
  iapply Hk $$ HO HB

theorem sh_zero (c : Dev nD) : sh c 0 = c := by
  apply Fin.ext
  show (c.val + 0) % 8 = c.val
  have h8 : c.val < 8 := c.isLt
  omega
theorem BB_last (c : Dev nD) : BB (F := F) c 7 ⊢ iprop(pa (gRow c.val c.isLt) c ∗ kl c 0 ∗ kh c 0) := by
  have h : ∀ d : Dev nD, d = c → pa (F := F) (gRow d.val d.isLt) c ⊢ pa (gRow c.val c.isLt) c := by
    intro d hd; subst hd; exact Entails.refl _
  have h1 : BB (F := F) c 7 ⊢ iprop(pa (gRow (sh c 0).val (sh c 0).isLt) c ∗ kl c 0 ∗ kh c 0) := Entails.refl _
  have h2 := h _ (sh_zero c)
  iintro H
  ihave H := h1 $$ H
  icases H with ⟨H1, H2, H3⟩
  isplitl [H1]; · iapply h2 $$ H1
  isplitl [H2]; · iexact H2
  iexact H3

theorem p20 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v25 c8_i32_21 : BitVec 32) {Q : _ → sProp 𝕄} :
    ctx m κ ι ⊢ iprop(OBB c 4 -∗ BB c 4 -∗ CP c 0 -∗ CD c 50 1 7 -∗ AT c 50 0 -∗ SK c 0 -∗ KA m c -∗ VA m c -∗ pt xM c (aX m c) -∗ pt wqM c (aWq m c) -∗ pa qM c -∗ (OB c 0 -∗ AT c 50 1 -∗ KA m c -∗ VA m c -∗ SC c -∗ pt xM c (aX m c) -∗ pt wqM c (aWq m c) -∗ pt qM c (Q0 m c) -∗ CP (sh c 1) 0 -∗ pa (gRow c.val c.isLt) c -∗ pa (gRow c.val c.isLt) (sh c 1) -∗ pa (gRow c.val c.isLt) (sh c 2) -∗ pa (gRow c.val c.isLt) (sh c 3) -∗ pa (gRow c.val c.isLt) (sh c 4) -∗ pa (gRow c.val c.isLt) (sh c 5) -∗ pa (gRow c.val c.isLt) (sh c 6) -∗ pa (gRow c.val c.isLt) (sh c 7) -∗ Q (k0_pay3 (aX m c) (aWq m c)))
      -∗ WP c (k0_part20 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 (SemArray.scalar (sig.barrier 0 rfl)) v25 c8_i32_21) Q) := by
  rw [k0_part20_eq_skeleton]
  simp only [k0_part20_skel, semSignalWord, semWaitWord, Prog.lift, Prog.bind_op, Prog.bind_ret, Prog.pure_eq_ret, wp_deviceId, int1, int2, int7]
  iintro #Hctx HO HB #HC Hc HA50 HS HKA HVA HX HWQ HQ Hk
  iapply (st_bar m κ ι c 4 5 (Fin.ext (k0_dev5_eq c)) rfl (by decide) (by decide) rfl rfl) $$ Hctx HO HB HC
  iintro HO HB
  iapply (st_bar m κ ι c 5 6 (Fin.ext (k0_dev6_eq c)) rfl (by decide) (by decide) rfl rfl) $$ Hctx HO HB HC
  iintro HO HB
  iapply (st_bar m κ ι c 6 7 (Fin.ext (k0_dev7_eq c)) rfl (by decide) (by decide) rfl rfl) $$ Hctx HO HB HC
  iintro HO HB
  ihave HB := (BB_last c) $$ HB
  icases HB with ⟨GR, OL, OH⟩
  iapply (st_barW m κ ι c rfl) $$ Hctx Hc HO HA50
  iintro HO HA50 HB
  ihave HB := (BI_pop c 0 7 rfl (by decide)) $$ HB
  icases HB with ⟨⟨D7, KL7, KH7, -⟩, HB⟩
  ihave HB := (BI_pop c 1 6 rfl (by decide)) $$ HB
  icases HB with ⟨⟨D6, KL6, KH6, -⟩, HB⟩
  ihave HB := (BI_pop c 2 5 rfl (by decide)) $$ HB
  icases HB with ⟨⟨D5, KL5, KH5, -⟩, HB⟩
  ihave HB := (BI_pop c 3 4 rfl (by decide)) $$ HB
  icases HB with ⟨⟨D4, KL4, KH4, -⟩, HB⟩
  ihave HB := (BI_pop c 4 3 rfl (by decide)) $$ HB
  icases HB with ⟨⟨D3, KL3, KH3, -⟩, HB⟩
  ihave HB := (BI_pop c 5 2 rfl (by decide)) $$ HB
  icases HB with ⟨⟨D2, KL2, KH2, -⟩, HB⟩
  ihave HB := (BI_pop c 6 1 rfl (by decide)) $$ HB
  icases HB with ⟨⟨D1, KL1, KH1, HP⟩, HB⟩
  ihave #HP := (show iprop(if 8 - 1 = 7 then CP (sh c 1) 0 else iprop(emp)) ⊢ CP (F := F) (sh c 1) 0 by rw [if_pos rfl]) $$ HP
  by_cases hc : c.val = 0
  · have k0_h1 := cond1_pos c hc
    have k0_h2 := cond2_neg c (by omega)
    rw [dif_pos k0_h1, dif_neg k0_h2]
    simp only [wp_bind, Prog.bind_op, Prog.bind_ret]
    ihave HO := (show Ob (F := F) c (evBar.drop 7 ++ (evSc c ++ evT)) ⊢ Ob c (ev0.drop 0 ++ evT) by rw [evSc_0 c hc]; exact Entails.refl _) $$ HO
    ihave KL1 := (show kli (F := F) c 1 ⊢ iprop(pa kbLo (sh c 1) ∗ pa vbLo (sh c 1)) by unfold kli; rw [if_pos hc]) $$ KL1
    icases KL1 with ⟨DK1, DV1⟩
    ihave KL2 := (show kli (F := F) c 2 ⊢ iprop(pa kbLo (sh c 2) ∗ pa vbLo (sh c 2)) by unfold kli; rw [if_pos hc]) $$ KL2
    icases KL2 with ⟨DK2, DV2⟩
    ihave KL3 := (show kli (F := F) c 3 ⊢ iprop(pa kbLo (sh c 3) ∗ pa vbLo (sh c 3)) by unfold kli; rw [if_pos hc]) $$ KL3
    icases KL3 with ⟨DK3, DV3⟩
    ihave KL4 := (show kli (F := F) c 4 ⊢ iprop(pa kbLo (sh c 4) ∗ pa vbLo (sh c 4)) by unfold kli; rw [if_pos hc]) $$ KL4
    icases KL4 with ⟨DK4, DV4⟩
    ihave KL5 := (show kli (F := F) c 5 ⊢ iprop(pa kbLo (sh c 5) ∗ pa vbLo (sh c 5)) by unfold kli; rw [if_pos hc]) $$ KL5
    icases KL5 with ⟨DK5, DV5⟩
    ihave KL6 := (show kli (F := F) c 6 ⊢ iprop(pa kbLo (sh c 6) ∗ pa vbLo (sh c 6)) by unfold kli; rw [if_pos hc]) $$ KL6
    icases KL6 with ⟨DK6, DV6⟩
    ihave KL7 := (show kli (F := F) c 7 ⊢ iprop(pa kbLo (sh c 7) ∗ pa vbLo (sh c 7)) by unfold kli; rw [if_pos hc]) $$ KL7
    icases KL7 with ⟨DK7, DV7⟩
    ihave OWN := (show kl (F := F) c 0 ⊢ iprop(pa kbLo c ∗ pa vbLo c) by unfold kl; rw [sh_zero, if_pos hc]) $$ OL
    icases OWN with ⟨FK, FV⟩
    iapply (p1 m κ ι c hc k0_h1) $$ Hctx HO HS HKA DK1 HVA DV1
    iintro HKA CD16 HO HS HVA CD23
    iapply (p2 m κ ι c hc k0_h1) $$ Hctx HO HS HKA DK2 HVA DV2 DK3
    iintro CD17 HVA CD24 HO HS HKA CD18
    iapply (p3 m κ ι c hc k0_h1) $$ Hctx HO HS HVA DV3 HKA DK4 DV4
    iintro CD25 HKA CD19 HO HS HVA CD26
    iapply (p4 m κ ι c hc k0_h1) $$ Hctx HO HS HKA DK5 HVA DV5
    iintro HKA CD20 HO HS HVA CD27
    iapply (p5 m κ ι c hc k0_h1) $$ Hctx HO HS HKA DK6 HVA DV6 DK7
    iintro CD21 HVA CD28 HO HS HKA CD22
    iapply (svlo m κ ι c hc 7 (by decide) (by decide) 13 13 29 (l := ev0.drop 13 ++ evT) (ev0.drop 14 ++ evT) rfl (dv0 c hc 7 (by decide) k0_dev21_eq) rfl rfl rfl (by decide) rfl rfl) $$ Hctx HO HS HVA DV7
    iintro HO HS HVA CD29
    iapply (fklo m κ ι c hc 14 rfl rfl rfl) $$ Hctx HS HKA FK
    iintro HS HKA CD38
    iapply (fvlo m κ ι c hc 15 rfl rfl rfl) $$ Hctx HS HVA FV
    iintro HS HVA CD39
    ihave HO := (show Ob (F := F) c (ev0.drop 14 ++ evT) ⊢ OB c 0 from Entails.refl _) $$ HO
    iapply (lw_x c fullShare (aX m c)) $$ HX
    iintro HX
    iapply (lw_wq c fullShare (aWq m c)) $$ HWQ
    iintro HWQ
    iapply (la_q c) $$ HQ
    iintro %v48 HQ
    iapply (sw_q c (k0_pay2 (aX m c) (aWq m c))) $$ HQ
    iintro HQ
    ihave HQ := (show pt (F := F) qM c (k0_pay2 (aX m c) (aWq m c)) ⊢ pt qM c (Q0 m c) from Entails.refl _) $$ HQ
    iapply (wp_done c)
    iapply Hk $$ HO HA50 HKA HVA [CD16 CD17 CD18 CD19 CD20 CD21 CD22 CD23 CD24 CD25 CD26 CD27 CD28 CD29 CD38 CD39] HX HWQ HQ HP GR D1 D2 D3 D4 D5 D6 D7
    unfold SC
    rw [if_pos hc]
    unfold SCl
    isplitl [CD16]; · iexact CD16
    isplitl [CD17]; · iexact CD17
    isplitl [CD18]; · iexact CD18
    isplitl [CD19]; · iexact CD19
    isplitl [CD20]; · iexact CD20
    isplitl [CD21]; · iexact CD21
    isplitl [CD22]; · iexact CD22
    isplitl [CD23]; · iexact CD23
    isplitl [CD24]; · iexact CD24
    isplitl [CD25]; · iexact CD25
    isplitl [CD26]; · iexact CD26
    isplitl [CD27]; · iexact CD27
    isplitl [CD28]; · iexact CD28
    isplitl [CD29]; · iexact CD29
    isplitl [CD38]; · iexact CD38
    iexact CD39
  by_cases hc : c.val = 1
  · have k0_h1 := cond1_neg c (by omega)
    have k0_h2 := cond2_pos c hc
    rw [dif_neg k0_h1, dif_pos k0_h2]
    simp only [wp_bind, Prog.bind_op, Prog.bind_ret]
    ihave HO := (show Ob (F := F) c (evBar.drop 7 ++ (evSc c ++ evT)) ⊢ Ob c (ev1.drop 0 ++ evT) by rw [evSc_1 c hc]; exact Entails.refl _) $$ HO
    ihave KH1 := (show khi (F := F) c 1 ⊢ iprop(pa kbHi (sh c 1) ∗ pa vbHi (sh c 1)) by unfold khi; rw [if_pos hc]) $$ KH1
    icases KH1 with ⟨DK1, DV1⟩
    ihave KH2 := (show khi (F := F) c 2 ⊢ iprop(pa kbHi (sh c 2) ∗ pa vbHi (sh c 2)) by unfold khi; rw [if_pos hc]) $$ KH2
    icases KH2 with ⟨DK2, DV2⟩
    ihave KH3 := (show khi (F := F) c 3 ⊢ iprop(pa kbHi (sh c 3) ∗ pa vbHi (sh c 3)) by unfold khi; rw [if_pos hc]) $$ KH3
    icases KH3 with ⟨DK3, DV3⟩
    ihave KH4 := (show khi (F := F) c 4 ⊢ iprop(pa kbHi (sh c 4) ∗ pa vbHi (sh c 4)) by unfold khi; rw [if_pos hc]) $$ KH4
    icases KH4 with ⟨DK4, DV4⟩
    ihave KH5 := (show khi (F := F) c 5 ⊢ iprop(pa kbHi (sh c 5) ∗ pa vbHi (sh c 5)) by unfold khi; rw [if_pos hc]) $$ KH5
    icases KH5 with ⟨DK5, DV5⟩
    ihave KH6 := (show khi (F := F) c 6 ⊢ iprop(pa kbHi (sh c 6) ∗ pa vbHi (sh c 6)) by unfold khi; rw [if_pos hc]) $$ KH6
    icases KH6 with ⟨DK6, DV6⟩
    ihave KH7 := (show khi (F := F) c 7 ⊢ iprop(pa kbHi (sh c 7) ∗ pa vbHi (sh c 7)) by unfold khi; rw [if_pos hc]) $$ KH7
    icases KH7 with ⟨DK7, DV7⟩
    ihave OWN := (show kh (F := F) c 0 ⊢ iprop(pa kbHi c ∗ pa vbHi c) by unfold kh; rw [sh_zero, if_pos hc]) $$ OH
    icases OWN with ⟨FK, FV⟩
    iapply (p6 m κ ι c hc k0_h2) $$ Hctx HO HS HKA DK7 HVA DV7
    iintro HKA CD16 HO HS HVA CD23
    iapply (p7 m κ ι c hc k0_h2) $$ Hctx HO HS HKA DK1 HVA DV1 DK2
    iintro CD17 HVA CD24 HO HS HKA CD18
    iapply (p8 m κ ι c hc k0_h2) $$ Hctx HO HS HVA DV2 HKA DK3 DV3
    iintro CD25 HKA CD19 HO HS HVA CD26
    iapply (p9 m κ ι c hc k0_h2) $$ Hctx HO HS HKA DK4 HVA DV4
    iintro HKA CD20 HO HS HVA CD27
    iapply (p10 m κ ι c hc k0_h2) $$ Hctx HO HS HKA DK5 HVA DV5 DK6
    iintro CD21 HVA CD28 HO HS HKA CD22
    iapply (svhi m κ ι c hc 6 7 (by decide) (by decide) (by decide) rfl 13 13 29 (l := ev1.drop 13 ++ evT) (ev1.drop 14 ++ evT) rfl (dv1 c hc 6 7 rfl k0_dev35_eq) rfl rfl rfl (by decide) rfl rfl) $$ Hctx HO HS HVA DV6
    iintro HO HS HVA CD29
    iapply (fkhi m κ ι c hc 14 rfl rfl rfl) $$ Hctx HS HKA FK
    iintro HS HKA CD38
    iapply (fvhi m κ ι c hc 15 rfl rfl rfl) $$ Hctx HS HVA FV
    iintro HS HVA CD39
    ihave HO := (show Ob (F := F) c (ev1.drop 14 ++ evT) ⊢ OB c 0 from Entails.refl _) $$ HO
    iapply (lw_x c fullShare (aX m c)) $$ HX
    iintro HX
    iapply (lw_wq c fullShare (aWq m c)) $$ HWQ
    iintro HWQ
    iapply (la_q c) $$ HQ
    iintro %v48 HQ
    iapply (sw_q c (k0_pay2 (aX m c) (aWq m c))) $$ HQ
    iintro HQ
    ihave HQ := (show pt (F := F) qM c (k0_pay2 (aX m c) (aWq m c)) ⊢ pt qM c (Q0 m c) from Entails.refl _) $$ HQ
    iapply (wp_done c)
    iapply Hk $$ HO HA50 HKA HVA [CD16 CD17 CD18 CD19 CD20 CD21 CD22 CD23 CD24 CD25 CD26 CD27 CD28 CD29 CD38 CD39] HX HWQ HQ HP GR D1 D2 D3 D4 D5 D6 D7
    unfold SC
    rw [if_neg (show ¬ c.val = 0 by omega), if_pos hc]
    unfold SCl
    isplitl [CD16]; · iexact CD16
    isplitl [CD17]; · iexact CD17
    isplitl [CD18]; · iexact CD18
    isplitl [CD19]; · iexact CD19
    isplitl [CD20]; · iexact CD20
    isplitl [CD21]; · iexact CD21
    isplitl [CD22]; · iexact CD22
    isplitl [CD23]; · iexact CD23
    isplitl [CD24]; · iexact CD24
    isplitl [CD25]; · iexact CD25
    isplitl [CD26]; · iexact CD26
    isplitl [CD27]; · iexact CD27
    isplitl [CD28]; · iexact CD28
    isplitl [CD29]; · iexact CD29
    isplitl [CD38]; · iexact CD38
    iexact CD39
  have k0_h1 := cond1_neg c (by omega)
  have k0_h2 := cond2_neg c (by omega)
  rw [dif_neg k0_h1, dif_neg k0_h2]
  simp only [wp_bind, Prog.bind_op, Prog.bind_ret]
  ihave HO := (show Ob (F := F) c (evBar.drop 7 ++ (evSc c ++ evT)) ⊢ OB c 0 by rw [evSc_2 c (by omega) (by omega)]; exact Entails.refl _) $$ HO
  iapply (lw_x c fullShare (aX m c)) $$ HX
  iintro HX
  iapply (lw_wq c fullShare (aWq m c)) $$ HWQ
  iintro HWQ
  iapply (la_q c) $$ HQ
  iintro %v48 HQ
  iapply (sw_q c (k0_pay2 (aX m c) (aWq m c))) $$ HQ
  iintro HQ
  ihave HQ := (show pt (F := F) qM c (k0_pay2 (aX m c) (aWq m c)) ⊢ pt qM c (Q0 m c) from Entails.refl _) $$ HQ
  iapply (wp_done c)
  iapply Hk $$ HO HA50 HKA HVA [] HX HWQ HQ HP GR D1 D2 D3 D4 D5 D6 D7
  unfold SC
  rw [if_neg (show ¬ c.val = 0 by omega), if_neg (show ¬ c.val = 1 by omega)]
  iempintro

end Cert.KernelIdeal.Pf
end
-- ==== Proof.Keys.lean ====
module

public import proofs.«01_k».proof.Proof.Barrier

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The waits for the band's keys and values -/

/-- The position at a counter past its last round. -/
def DN (c : Dev nD) (i : Fin 51) : sProp 𝕄 := iprop(∃ R, ⌜∀ r, R ≤ r → dut c (kd (semOf i)) r = ∅⌝ ∗ AT c i R)
theorem DN_intro (c : Dev nD) (i : Fin 51) (R : ℕ) (h : ∀ r, R ≤ r → dut c (kd (semOf i)) r = ∅) : AT (F := F) c i R ⊢ DN c i := by
  unfold DN
  iintro H
  iexists R
  isplitr
  · ipureintro; exact h
  iexact H
def KC0 (c : Dev nD) : sProp 𝕄 := if c.val = 0 then iprop(emp) else iprop(CD c 32 17 131072 ∗ CD c 34 17 131072)
def KC1 (c : Dev nD) : sProp 𝕄 := if c.val = 1 then iprop(emp) else iprop(CD c 33 17 16384 ∗ CD c 35 17 16384)

/-- The device's word in the kernel. -/
abbrev wd (c : Dev nD) : BitVec 32 := Scalar.remsi (Scalar.divsi (Dev.word c) 1#32) 8#32
theorem w0_pos : ∀ c : Dev nD, c.val = 0 → (Scalar.cmpi .ne (Scalar.extui (Scalar.cmpi .eq (wd c) 0#32)) 0#32) = 1#1 := by decide +kernel
theorem w0_neg : ∀ c : Dev nD, c.val ≠ 0 → ¬ (Scalar.cmpi .ne (Scalar.extui (Scalar.cmpi .eq (wd c) 0#32)) 0#32) = 1#1 := by decide +kernel
theorem w1_pos : ∀ c : Dev nD, c.val = 1 → (Scalar.cmpi .ne (Scalar.extui (Scalar.cmpi .eq (wd c) 1#32)) 0#32) = 1#1 := by decide +kernel
theorem w1_neg : ∀ c : Dev nD, c.val ≠ 1 → ¬ (Scalar.cmpi .ne (Scalar.extui (Scalar.cmpi .eq (wd c) 1#32)) 0#32) = 1#1 := by decide +kernel
theorem n0_pos : ∀ c : Dev nD, c.val ≠ 0 → (Scalar.cmpi .ne (Scalar.extui (Scalar.cmpi .ne (wd c) 0#32)) 0#32) = 1#1 := by decide +kernel
theorem n0_neg : ∀ c : Dev nD, c.val = 0 → ¬ (Scalar.cmpi .ne (Scalar.extui (Scalar.cmpi .ne (wd c) 0#32)) 0#32) = 1#1 := by decide +kernel
theorem n1_pos : ∀ c : Dev nD, c.val ≠ 1 → (Scalar.cmpi .ne (Scalar.extui (Scalar.cmpi .ne (wd c) 1#32)) 0#32) = 1#1 := by decide +kernel
theorem n1_neg : ∀ c : Dev nD, c.val = 1 → ¬ (Scalar.cmpi .ne (Scalar.extui (Scalar.cmpi .ne (wd c) 1#32)) 0#32) = 1#1 := by decide +kernel

theorem dn_sc (c : Dev nD) (i : Fin 51) (j : ℕ) (hi : kd (semOf i) = .sc j) (R : ℕ) (h : (¬ c.val < 2) ∨ 1 ≤ R) : ∀ r, R ≤ r → dut c (kd (semOf i)) r = ∅ := by
  intro r hr; rw [hi]
  show (if r = 0 ∧ j < 14 ∧ c.val < 2 then ({0} : Finset ℕ) else ∅) = ∅
  exact if_neg (by omega)
theorem dn_kv (c : Dev nD) (i : Fin 51) (R : ℕ) (hi : i = 32 ∧ (c.val = 0 ∨ 1 ≤ R) ∨ i = 34 ∧ (c.val = 0 ∨ 1 ≤ R) ∨ i = 33 ∧ (c.val = 1 ∨ 1 ≤ R) ∨ i = 35 ∧ (c.val = 1 ∨ 1 ≤ R)) :
    ∀ r, R ≤ r → dut c (kd (semOf i)) r = ∅ := by
  intro r hr
  have hh : ∀ a b : Finset ℕ, 1 ≤ r → (if r = 0 then a else b) = b := fun a b h => if_neg (by omega)
  rcases hi with ⟨rfl, h⟩ | ⟨rfl, h⟩ | ⟨rfl, h⟩ | ⟨rfl, h⟩
  · show (if r = 0 then (if c.val = 0 then ∅ else {c.val}) else ∅) = (∅ : Finset ℕ)
    rcases h with h | h
    · rw [if_pos h]; split <;> rfl
    · exact hh _ _ (by omega)
  · show (if r = 0 then (if c.val = 0 then ∅ else {c.val}) else ∅) = (∅ : Finset ℕ)
    rcases h with h | h
    · rw [if_pos h]; split <;> rfl
    · exact hh _ _ (by omega)
  · show (if r = 0 then (if c.val = 1 then ∅ else {(c.val + 7) % 8}) else ∅) = (∅ : Finset ℕ)
    rcases h with h | h
    · rw [if_pos h]; split <;> rfl
    · exact hh _ _ (by omega)
  · show (if r = 0 then (if c.val = 1 then ∅ else {(c.val + 7) % 8}) else ∅) = (∅ : Finset ℕ)
    rcases h with h | h
    · rw [if_pos h]; split <;> rfl
    · exact hh _ _ (by omega)
theorem dn_fill (c : Dev nD) (i : Fin 51) (R : ℕ) (hi : i = 38 ∨ i = 39) (h : (¬ c.val < 2) ∨ 1 ≤ R) : ∀ r, R ≤ r → dut c (kd (semOf i)) r = ∅ := by
  intro r hr
  rcases hi with rfl | rfl
  · show (if r = 0 ∧ c.val < 2 then ({0} : Finset ℕ) else ∅) = ∅
    exact if_neg (by omega)
  · show (if r = 0 ∧ c.val < 2 then ({0} : Finset ℕ) else ∅) = ∅
    exact if_neg (by omega)

variable (c : Dev nD)

theorem p47 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt ndM c (ND m c) -∗ SC c -∗ KC0 c -∗ KC1 c -∗ OB c 19 -∗ AT c 16 0 -∗ AT c 17 0 -∗ AT c 18 0 -∗ AT c 19 0 -∗ AT c 20 0 -∗ AT c 21 0 -∗ AT c 22 0 -∗ AT c 23 0 -∗ AT c 24 0 -∗ AT c 25 0 -∗ AT c 26 0 -∗ AT c 27 0 -∗ AT c 28 0 -∗ AT c 29 0 -∗ AT c 38 0 -∗ AT c 39 0 -∗ AT c 32 0 -∗ AT c 33 0 -∗ AT c 34 0 -∗ AT c 35 0 -∗ pt qM c (Q0 m c) -∗ (pt ndM c (ND m c) -∗ OB c 19 -∗ pt qM c (Q0 m c) -∗ pt kbM c (KB m c) -∗ pt vbM c (VB m c) -∗ DN c 16 -∗ DN c 17 -∗ DN c 18 -∗ DN c 19 -∗ DN c 20 -∗ DN c 21 -∗ DN c 22 -∗ DN c 23 -∗ DN c 24 -∗ DN c 25 -∗ DN c 26 -∗ DN c 27 -∗ DN c 28 -∗ DN c 29 -∗ DN c 38 -∗ DN c 39 -∗ DN c 32 -∗ DN c 33 -∗ DN c 34 -∗ DN c 35 -∗ Q ⟨v714 m c, v716 m c, k0_pay45, k0_pay46 (F := F), bq m c 0 (by decide), k0_pay47 (bk m c 0 (by decide))⟩)
      -∗ WP c (k0_part47 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c (wd c) (v709 m c) 8#32) Q) := by
  rw [k0_part47_eq_skeleton]
  simp only [k0_part47_skel, semSignalWord, semWaitWord, Prog.lift, Prog.bind_op, Prog.bind_ret, Prog.pure_eq_ret, wp_deviceId, int1, int2, int7]
  unfold v714 v716 bq bk
  iintro #Hctx ND SC K0 K1 HO A16 A17 A18 A19 A20 A21 A22 A23 A24 A25 A26 A27 A28 A29 A38 A39 A32 A33 A34 A35 QQ Hk
  iapply (ld_nd c c.val c.isLt (off5_eq c) (ND m c)) $$ ND
  iintro ND
  by_cases hc : c.val = 0
  · have z1 : c.val ≠ 1 := by omega
    rw [dif_pos (w0_pos c hc), dif_neg (w1_neg c z1), dif_neg (n0_neg c hc), dif_pos (n1_pos c z1)]
    simp only [wp_bind, Prog.bind_op, Prog.bind_ret]
    ihave SC := (show SC (F := F) c ⊢ iprop(CD c 16 0 131072 ∗ CD c 17 0 131072 ∗ CD c 18 0 131072 ∗ CD c 19 0 131072 ∗ CD c 20 0 131072 ∗ CD c 21 0 131072 ∗ CD c 22 0 131072 ∗ CD c 23 0 131072 ∗ CD c 24 0 131072 ∗ CD c 25 0 131072 ∗ CD c 26 0 131072 ∗ CD c 27 0 131072 ∗ CD c 28 0 131072 ∗ CD c 29 0 131072 ∗ CD c 38 0 131072 ∗ CD c 39 0 131072) by unfold SC SCl; rw [if_pos hc]) $$ SC
    icases SC with ⟨CD16, CD17, CD18, CD19, CD20, CD21, CD22, CD23, CD24, CD25, CD26, CD27, CD28, CD29, CD38, CD39⟩
    iapply (p11 m κ ι c hc) $$ Hctx CD16 HO A16 CD23 A23 CD17 A17
    iintro A16 A23 HO A17
    iapply (p12 m κ ι c hc) $$ Hctx CD24 HO A24 CD18 A18 CD25 A25 CD19 A19
    iintro A24 A18 A25 HO A19
    iapply (p13 m κ ι c hc) $$ Hctx CD26 HO A26 CD20 A20 CD27 A27
    iintro A26 A20 HO A27
    iapply (p14 m κ ι c hc) $$ Hctx CD21 HO A21 CD28 A28 CD22 A22 CD29 A29
    iintro A21 A28 A22 HO A29
    iapply (fklo_wait m κ ι c hc 19 rfl rfl rfl) $$ Hctx CD38 HO A38
    iintro HO A38 Klo
    iapply (fvlo_wait m κ ι c hc 19 rfl rfl rfl) $$ Hctx CD39 HO A39
    iintro HO A39 Vlo
    ihave K1 := (show KC1 (F := F) c ⊢ iprop(CD c 33 17 16384 ∗ CD c 35 17 16384) by unfold KC1; rw [if_neg z1]) $$ K1
    icases K1 with ⟨C33, C35⟩
    iapply (wkhi m κ ι c z1 19 rfl rfl rfl) $$ Hctx C33 HO A33
    iintro HO A33 Khi
    iapply (wvhi m κ ι c z1 19 rfl rfl rfl) $$ Hctx C35 HO A35
    iintro HO A35 Vhi
    ihave KB := (kjoin m c) $$ [Klo Khi]
    · isplitl [Klo]; · iexact Klo
      iexact Khi
    ihave VB := (vjoin m c) $$ [Vlo Vhi]
    · isplitl [Vlo]; · iexact Vlo
      iexact Vhi
    iapply (ld_q c 0 k8_0 (Q0 m c) rfl) $$ QQ
    iintro QQ
    iapply (ld_kb c 0 k8_0 (KB m c) rfl) $$ KB
    iintro KB
    iapply (wp_done c)
    ihave A16 := (DN_intro c 16 1 (dn_sc c 16 0 rfl 1 (by omega))) $$ A16
    ihave A17 := (DN_intro c 17 1 (dn_sc c 17 1 rfl 1 (by omega))) $$ A17
    ihave A18 := (DN_intro c 18 1 (dn_sc c 18 2 rfl 1 (by omega))) $$ A18
    ihave A19 := (DN_intro c 19 1 (dn_sc c 19 3 rfl 1 (by omega))) $$ A19
    ihave A20 := (DN_intro c 20 1 (dn_sc c 20 4 rfl 1 (by omega))) $$ A20
    ihave A21 := (DN_intro c 21 1 (dn_sc c 21 5 rfl 1 (by omega))) $$ A21
    ihave A22 := (DN_intro c 22 1 (dn_sc c 22 6 rfl 1 (by omega))) $$ A22
    ihave A23 := (DN_intro c 23 1 (dn_sc c 23 7 rfl 1 (by omega))) $$ A23
    ihave A24 := (DN_intro c 24 1 (dn_sc c 24 8 rfl 1 (by omega))) $$ A24
    ihave A25 := (DN_intro c 25 1 (dn_sc c 25 9 rfl 1 (by omega))) $$ A25
    ihave A26 := (DN_intro c 26 1 (dn_sc c 26 10 rfl 1 (by omega))) $$ A26
    ihave A27 := (DN_intro c 27 1 (dn_sc c 27 11 rfl 1 (by omega))) $$ A27
    ihave A28 := (DN_intro c 28 1 (dn_sc c 28 12 rfl 1 (by omega))) $$ A28
    ihave A29 := (DN_intro c 29 1 (dn_sc c 29 13 rfl 1 (by omega))) $$ A29
    ihave A38 := (DN_intro c 38 1 (dn_fill c 38 1 (by decide) (by omega))) $$ A38
    ihave A39 := (DN_intro c 39 1 (dn_fill c 39 1 (by decide) (by omega))) $$ A39
    ihave A32 := (DN_intro c 32 0 (dn_kv c 32 0 (by simp [hc] <;> omega))) $$ A32
    ihave A33 := (DN_intro c 33 1 (dn_kv c 33 1 (by simp [hc] <;> omega))) $$ A33
    ihave A34 := (DN_intro c 34 0 (dn_kv c 34 0 (by simp [hc] <;> omega))) $$ A34
    ihave A35 := (DN_intro c 35 1 (dn_kv c 35 1 (by simp [hc] <;> omega))) $$ A35
    iapply Hk $$ ND HO QQ KB VB A16 A17 A18 A19 A20 A21 A22 A23 A24 A25 A26 A27 A28 A29 A38 A39 A32 A33 A34 A35
  by_cases hc : c.val = 1
  · have z0 : c.val ≠ 0 := by omega
    rw [dif_neg (w0_neg c z0), dif_pos (w1_pos c hc), dif_pos (n0_pos c z0), dif_neg (n1_neg c hc)]
    simp only [wp_bind, Prog.bind_op, Prog.bind_ret]
    ihave SC := (show SC (F := F) c ⊢ iprop(CD c 16 0 16384 ∗ CD c 17 0 16384 ∗ CD c 18 0 16384 ∗ CD c 19 0 16384 ∗ CD c 20 0 16384 ∗ CD c 21 0 16384 ∗ CD c 22 0 16384 ∗ CD c 23 0 16384 ∗ CD c 24 0 16384 ∗ CD c 25 0 16384 ∗ CD c 26 0 16384 ∗ CD c 27 0 16384 ∗ CD c 28 0 16384 ∗ CD c 29 0 16384 ∗ CD c 38 0 16384 ∗ CD c 39 0 16384) by unfold SC SCl; rw [if_neg (show ¬ c.val = 0 by omega), if_pos hc]) $$ SC
    icases SC with ⟨CD16, CD17, CD18, CD19, CD20, CD21, CD22, CD23, CD24, CD25, CD26, CD27, CD28, CD29, CD38, CD39⟩
    iapply (p15 m κ ι c hc) $$ Hctx CD16 HO A16 CD23 A23 CD17 A17
    iintro A16 A23 HO A17
    iapply (p16 m κ ι c hc) $$ Hctx CD24 HO A24 CD18 A18 CD25 A25 CD19 A19
    iintro A24 A18 A25 HO A19
    iapply (p17 m κ ι c hc) $$ Hctx CD26 HO A26 CD20 A20 CD27 A27
    iintro A26 A20 HO A27
    iapply (p18 m κ ι c hc) $$ Hctx CD21 HO A21 CD28 A28 CD22 A22 CD29 A29
    iintro A21 A28 A22 HO A29
    iapply (fkhi_wait m κ ι c hc 19 rfl rfl rfl) $$ Hctx CD38 HO A38
    iintro HO A38 Khi
    iapply (fvhi_wait m κ ι c hc 19 rfl rfl rfl) $$ Hctx CD39 HO A39
    iintro HO A39 Vhi
    ihave K0 := (show KC0 (F := F) c ⊢ iprop(CD c 32 17 131072 ∗ CD c 34 17 131072) by unfold KC0; rw [if_neg z0]) $$ K0
    icases K0 with ⟨C32, C34⟩
    iapply (wklo m κ ι c z0 19 rfl rfl rfl) $$ Hctx C32 HO A32
    iintro HO A32 Klo
    iapply (wvlo m κ ι c z0 19 rfl rfl rfl) $$ Hctx C34 HO A34
    iintro HO A34 Vlo
    ihave KB := (kjoin m c) $$ [Klo Khi]
    · isplitl [Klo]; · iexact Klo
      iexact Khi
    ihave VB := (vjoin m c) $$ [Vlo Vhi]
    · isplitl [Vlo]; · iexact Vlo
      iexact Vhi
    iapply (ld_q c 0 k8_0 (Q0 m c) rfl) $$ QQ
    iintro QQ
    iapply (ld_kb c 0 k8_0 (KB m c) rfl) $$ KB
    iintro KB
    iapply (wp_done c)
    ihave A16 := (DN_intro c 16 1 (dn_sc c 16 0 rfl 1 (by omega))) $$ A16
    ihave A17 := (DN_intro c 17 1 (dn_sc c 17 1 rfl 1 (by omega))) $$ A17
    ihave A18 := (DN_intro c 18 1 (dn_sc c 18 2 rfl 1 (by omega))) $$ A18
    ihave A19 := (DN_intro c 19 1 (dn_sc c 19 3 rfl 1 (by omega))) $$ A19
    ihave A20 := (DN_intro c 20 1 (dn_sc c 20 4 rfl 1 (by omega))) $$ A20
    ihave A21 := (DN_intro c 21 1 (dn_sc c 21 5 rfl 1 (by omega))) $$ A21
    ihave A22 := (DN_intro c 22 1 (dn_sc c 22 6 rfl 1 (by omega))) $$ A22
    ihave A23 := (DN_intro c 23 1 (dn_sc c 23 7 rfl 1 (by omega))) $$ A23
    ihave A24 := (DN_intro c 24 1 (dn_sc c 24 8 rfl 1 (by omega))) $$ A24
    ihave A25 := (DN_intro c 25 1 (dn_sc c 25 9 rfl 1 (by omega))) $$ A25
    ihave A26 := (DN_intro c 26 1 (dn_sc c 26 10 rfl 1 (by omega))) $$ A26
    ihave A27 := (DN_intro c 27 1 (dn_sc c 27 11 rfl 1 (by omega))) $$ A27
    ihave A28 := (DN_intro c 28 1 (dn_sc c 28 12 rfl 1 (by omega))) $$ A28
    ihave A29 := (DN_intro c 29 1 (dn_sc c 29 13 rfl 1 (by omega))) $$ A29
    ihave A38 := (DN_intro c 38 1 (dn_fill c 38 1 (by decide) (by omega))) $$ A38
    ihave A39 := (DN_intro c 39 1 (dn_fill c 39 1 (by decide) (by omega))) $$ A39
    ihave A32 := (DN_intro c 32 1 (dn_kv c 32 1 (by simp [hc] <;> omega))) $$ A32
    ihave A33 := (DN_intro c 33 0 (dn_kv c 33 0 (by simp [hc] <;> omega))) $$ A33
    ihave A34 := (DN_intro c 34 1 (dn_kv c 34 1 (by simp [hc] <;> omega))) $$ A34
    ihave A35 := (DN_intro c 35 0 (dn_kv c 35 0 (by simp [hc] <;> omega))) $$ A35
    iapply Hk $$ ND HO QQ KB VB A16 A17 A18 A19 A20 A21 A22 A23 A24 A25 A26 A27 A28 A29 A38 A39 A32 A33 A34 A35
  have z0 : c.val ≠ 0 := by omega
  have z1 : c.val ≠ 1 := by omega
  simp only [dif_neg (w0_neg c z0), dif_neg (w1_neg c z1), dif_pos (n0_pos c z0), dif_pos (n1_pos c z1), wp_bind, Prog.bind_op, Prog.bind_ret]
  beta_reduce
  ihave K0 := (show KC0 (F := F) c ⊢ iprop(CD c 32 17 131072 ∗ CD c 34 17 131072) by unfold KC0; rw [if_neg z0]) $$ K0
  icases K0 with ⟨C32, C34⟩
  iapply (wklo m κ ι c z0 19 rfl rfl rfl) $$ Hctx C32 HO A32
  iintro HO A32 Klo
  iapply (wvlo m κ ι c z0 19 rfl rfl rfl) $$ Hctx C34 HO A34
  iintro HO A34 Vlo
  ihave K1 := (show KC1 (F := F) c ⊢ iprop(CD c 33 17 16384 ∗ CD c 35 17 16384) by unfold KC1; rw [if_neg z1]) $$ K1
  icases K1 with ⟨C33, C35⟩
  iapply (wkhi m κ ι c z1 19 rfl rfl rfl) $$ Hctx C33 HO A33
  iintro HO A33 Khi
  iapply (wvhi m κ ι c z1 19 rfl rfl rfl) $$ Hctx C35 HO A35
  iintro HO A35 Vhi
  ihave KB := (kjoin m c) $$ [Klo Khi]
  · isplitl [Klo]; · iexact Klo
    iexact Khi
  ihave VB := (vjoin m c) $$ [Vlo Vhi]
  · isplitl [Vlo]; · iexact Vlo
    iexact Vhi
  iapply (ld_q c 0 k8_0 (Q0 m c) rfl) $$ QQ
  iintro QQ
  iapply (ld_kb c 0 k8_0 (KB m c) rfl) $$ KB
  iintro KB
  iapply (wp_done c)
  ihave A16 := (DN_intro c 16 0 (dn_sc c 16 0 rfl 0 (by omega))) $$ A16
  ihave A17 := (DN_intro c 17 0 (dn_sc c 17 1 rfl 0 (by omega))) $$ A17
  ihave A18 := (DN_intro c 18 0 (dn_sc c 18 2 rfl 0 (by omega))) $$ A18
  ihave A19 := (DN_intro c 19 0 (dn_sc c 19 3 rfl 0 (by omega))) $$ A19
  ihave A20 := (DN_intro c 20 0 (dn_sc c 20 4 rfl 0 (by omega))) $$ A20
  ihave A21 := (DN_intro c 21 0 (dn_sc c 21 5 rfl 0 (by omega))) $$ A21
  ihave A22 := (DN_intro c 22 0 (dn_sc c 22 6 rfl 0 (by omega))) $$ A22
  ihave A23 := (DN_intro c 23 0 (dn_sc c 23 7 rfl 0 (by omega))) $$ A23
  ihave A24 := (DN_intro c 24 0 (dn_sc c 24 8 rfl 0 (by omega))) $$ A24
  ihave A25 := (DN_intro c 25 0 (dn_sc c 25 9 rfl 0 (by omega))) $$ A25
  ihave A26 := (DN_intro c 26 0 (dn_sc c 26 10 rfl 0 (by omega))) $$ A26
  ihave A27 := (DN_intro c 27 0 (dn_sc c 27 11 rfl 0 (by omega))) $$ A27
  ihave A28 := (DN_intro c 28 0 (dn_sc c 28 12 rfl 0 (by omega))) $$ A28
  ihave A29 := (DN_intro c 29 0 (dn_sc c 29 13 rfl 0 (by omega))) $$ A29
  ihave A38 := (DN_intro c 38 0 (dn_fill c 38 0 (by decide) (by omega))) $$ A38
  ihave A39 := (DN_intro c 39 0 (dn_fill c 39 0 (by decide) (by omega))) $$ A39
  ihave A32 := (DN_intro c 32 1 (dn_kv c 32 1 (by simp))) $$ A32
  ihave A33 := (DN_intro c 33 1 (dn_kv c 33 1 (by simp))) $$ A33
  ihave A34 := (DN_intro c 34 1 (dn_kv c 34 1 (by simp))) $$ A34
  ihave A35 := (DN_intro c 35 1 (dn_kv c 35 1 (by simp))) $$ A35
  iapply Hk $$ ND HO QQ KB VB A16 A17 A18 A19 A20 A21 A22 A23 A24 A25 A26 A27 A28 A29 A38 A39 A32 A33 A34 A35

end Cert.KernelIdeal.Pf
end
-- ==== Proof.Band.lean ====
module

public import proofs.«01_k».proof.Proof.Loads

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ) (c : Dev nD)

theorem p48 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt vbM c (VB m c) -∗ pt woM c (aWo m c) -∗ pt qM c (Q0 m c) -∗ pt kbM c (KB m c) -∗ (pt woM c (aWo m c) -∗ pt qM c (Q0 m c) -∗ pt kbM c (KB m c) -∗ pt vbM c (VB m c) -∗ Q ⟨v772 m c, k0_pay49 (bv m c 1 (by decide)), k0_pay50 k0_pay45 (bq m c 1 (by decide)) (bk m c 1 (by decide))⟩) -∗ WP c (k0_part48 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (k0_pay46 (F := F)) (bq m c 0 (by decide)) (k0_pay47 (bk m c 0 (by decide)))) Q) := by
  rw [k0_part48_eq_skeleton]
  simp only [k0_part48_skel, semSignalWord, semWaitWord, Prog.lift, Prog.bind_op, Prog.bind_ret, Prog.pure_eq_ret, wp_deviceId, int1, int2, int7]
  unfold v772
  iintro #Hctx VB WO QQ KB Hk
  iapply (ld_vb c 0 (by decide) (VB m c) rfl) $$ VB
  iintro VB
  iapply (ld_wo c 0 (by decide) (aWo m c) rfl) $$ WO
  iintro WO
  iapply (ld_q c 1 (by decide) (Q0 m c) rfl) $$ QQ
  iintro QQ
  iapply (ld_kb c 1 (by decide) (KB m c) rfl) $$ KB
  iintro KB
  iapply (ld_vb c 1 (by decide) (VB m c) rfl) $$ VB
  iintro VB
  iapply (wp_done c)
  iapply Hk $$ WO QQ KB VB

theorem p49 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt woM c (aWo m c) -∗ pt qM c (Q0 m c) -∗ pt kbM c (KB m c) -∗ pt vbM c (VB m c) -∗ (pt woM c (aWo m c) -∗ pt qM c (Q0 m c) -∗ pt kbM c (KB m c) -∗ pt vbM c (VB m c) -∗ Q ⟨v804 m c, k0_pay52 (bv m c 2 (by decide)), k0_pay53 k0_pay45 (bq m c 2 (by decide)) (bk m c 2 (by decide)), constant S992x128 .f32 0x00000000#32⟩) -∗ WP c (k0_part49 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (v772 m c) (k0_pay49 (bv m c 1 (by decide))) (k0_pay50 k0_pay45 (bq m c 1 (by decide)) (bk m c 1 (by decide)))) Q) := by
  rw [k0_part49_eq_skeleton]
  simp only [k0_part49_skel, semSignalWord, semWaitWord, Prog.lift, Prog.bind_op, Prog.bind_ret, Prog.pure_eq_ret, wp_deviceId, int1, int2, int7]
  unfold v804
  iintro #Hctx WO QQ KB VB Hk
  iapply (ld_wo c 1 (by decide) (aWo m c) rfl) $$ WO
  iintro WO
  iapply (ld_q c 2 (by decide) (Q0 m c) rfl) $$ QQ
  iintro QQ
  iapply (ld_kb c 2 (by decide) (KB m c) rfl) $$ KB
  iintro KB
  iapply (ld_vb c 2 (by decide) (VB m c) rfl) $$ VB
  iintro VB
  iapply (wp_done c)
  iapply Hk $$ WO QQ KB VB

theorem p50 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt woM c (aWo m c) -∗ pt qM c (Q0 m c) -∗ pt kbM c (KB m c) -∗ pt vbM c (VB m c) -∗ (pt woM c (aWo m c) -∗ pt qM c (Q0 m c) -∗ pt kbM c (KB m c) -∗ pt vbM c (VB m c) -∗ Q ⟨v836 m c, v864 m c⟩) -∗ WP c (k0_part50 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (v804 m c) (k0_pay52 (bv m c 2 (by decide))) (k0_pay53 k0_pay45 (bq m c 2 (by decide)) (bk m c 2 (by decide))) (constant S992x128 .f32 0x00000000#32)) Q) := by
  rw [k0_part50_eq_skeleton]
  simp only [k0_part50_skel, semSignalWord, semWaitWord, Prog.lift, Prog.bind_op, Prog.bind_ret, Prog.pure_eq_ret, wp_deviceId, int1, int2, int7]
  unfold v836 v864
  iintro #Hctx WO QQ KB VB Hk
  iapply (ld_wo c 2 (by decide) (aWo m c) rfl) $$ WO
  iintro WO
  iapply (ld_q c 3 (by decide) (Q0 m c) rfl) $$ QQ
  iintro QQ
  iapply (ld_kb c 3 (by decide) (KB m c) rfl) $$ KB
  iintro KB
  iapply (ld_vb c 3 (by decide) (VB m c) rfl) $$ VB
  iintro VB
  iapply (wp_done c)
  iapply Hk $$ WO QQ KB VB

theorem p51 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt woM c (aWo m c) -∗ pt qM c (Q0 m c) -∗ pt kbM c (KB m c) -∗ pt vbM c (VB m c) -∗ (pt kbM c (KB m c) -∗ pt vbM c (VB m c) -∗ pt woM c (aWo m c) -∗ pt qM c (Q0 m c) -∗ Q ⟨v900 m c, bq m c 5 (by decide)⟩) -∗ WP c (k0_part51 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (v836 m c) (v864 m c)) Q) := by
  rw [k0_part51_eq_skeleton]
  simp only [k0_part51_skel, semSignalWord, semWaitWord, Prog.lift, Prog.bind_op, Prog.bind_ret, Prog.pure_eq_ret, wp_deviceId, int1, int2, int7]
  unfold v900
  iintro #Hctx WO QQ KB VB Hk
  iapply (ld_wo c 3 (by decide) (aWo m c) rfl) $$ WO
  iintro WO
  iapply (ld_q c 4 (by decide) (Q0 m c) rfl) $$ QQ
  iintro QQ
  iapply (ld_kb c 4 (by decide) (KB m c) rfl) $$ KB
  iintro KB
  iapply (ld_vb c 4 (by decide) (VB m c) rfl) $$ VB
  iintro VB
  iapply (ld_wo c 4 (by decide) (aWo m c) rfl) $$ WO
  iintro WO
  iapply (ld_q c 5 (by decide) (Q0 m c) rfl) $$ QQ
  iintro QQ
  iapply (wp_done c)
  iapply Hk $$ KB VB WO QQ

theorem p52 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt kbM c (KB m c) -∗ pt vbM c (VB m c) -∗ pt woM c (aWo m c) -∗ pt qM c (Q0 m c) -∗ (pt woM c (aWo m c) -∗ pt qM c (Q0 m c) -∗ pt kbM c (KB m c) -∗ pt vbM c (VB m c) -∗ Q ⟨v932 m c, k0_pay58 (bv m c 6 (by decide)), k0_pay59 (bq m c 6 (by decide)) (bk m c 6 (by decide)), k0_pay60 (F := F)⟩) -∗ WP c (k0_part52 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (v900 m c) (bq m c 5 (by decide))) Q) := by
  rw [k0_part52_eq_skeleton]
  simp only [k0_part52_skel, semSignalWord, semWaitWord, Prog.lift, Prog.bind_op, Prog.bind_ret, Prog.pure_eq_ret, wp_deviceId, int1, int2, int7]
  unfold v932
  iintro #Hctx KB VB WO QQ Hk
  iapply (ld_kb c 5 (by decide) (KB m c) rfl) $$ KB
  iintro KB
  iapply (ld_vb c 5 (by decide) (VB m c) rfl) $$ VB
  iintro VB
  iapply (ld_wo c 5 (by decide) (aWo m c) rfl) $$ WO
  iintro WO
  iapply (ld_q c 6 (by decide) (Q0 m c) rfl) $$ QQ
  iintro QQ
  iapply (ld_kb c 6 (by decide) (KB m c) rfl) $$ KB
  iintro KB
  iapply (ld_vb c 6 (by decide) (VB m c) rfl) $$ VB
  iintro VB
  iapply (wp_done c)
  iapply Hk $$ WO QQ KB VB

theorem p53 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(pt woM c (aWo m c) -∗ pt qM c (Q0 m c) -∗ pt kbM c (KB m c) -∗ pt vbM c (VB m c) -∗ (pt woM c (aWo m c) -∗ pt qM c (Q0 m c) -∗ pt kbM c (KB m c) -∗ pt vbM c (VB m c) -∗ Q ⟨v964 m c, k0_pay62 (bv m c 7 (by decide)), k0_pay63 k0_pay45 (bq m c 7 (by decide)) (bk m c 7 (by decide))⟩) -∗ WP c (k0_part53 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 (v714 m c) (v716 m c) (k0_pay45) (v932 m c) (k0_pay58 (bv m c 6 (by decide))) (k0_pay59 (bq m c 6 (by decide)) (bk m c 6 (by decide))) (k0_pay60 (F := F))) Q) := by
  rw [k0_part53_eq_skeleton]
  simp only [k0_part53_skel, semSignalWord, semWaitWord, Prog.lift, Prog.bind_op, Prog.bind_ret, Prog.pure_eq_ret, wp_deviceId, int1, int2, int7]
  unfold v964
  iintro #Hctx WO QQ KB VB Hk
  iapply (ld_wo c 6 (by decide) (aWo m c) rfl) $$ WO
  iintro WO
  iapply (ld_q c 7 (by decide) (Q0 m c) rfl) $$ QQ
  iintro QQ
  iapply (ld_kb c 7 (by decide) (KB m c) rfl) $$ KB
  iintro KB
  iapply (ld_vb c 7 (by decide) (VB m c) rfl) $$ VB
  iintro VB
  iapply (wp_done c)
  iapply Hk $$ WO QQ KB VB

end Cert.KernelIdeal.Pf
end
-- ==== Proof.RingA.lean ====
module

public import proofs.«01_k».proof.Proof.Moves

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

variable (m : (ℓ : Loc nD τ sig) → Buf (Elt F) ℓ) (κ : Dev nD × Fin 51 → ℕ) (ι : Dev nD × Fin 4 → ℕ) (c : Dev nD)

theorem p37 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(CR c 7 -∗ OB c 8 -∗ AT c 42 0 -∗ pt ndM c (ND m c) -∗ pa (ndSt 1 o2) c -∗ readerAt ES (c, (0 : Fin 4)) 1 -∗ CP c 0 -∗ (RE c 42 1 -∗ CP c 1 -∗ CR c 8 -∗ AT c 42 1 -∗ pt ndM c (ND m c) -∗ pt (ndSt 1 o2) c (ndW 1 o2 (SN m (2 * 0 + 1) c)) -∗ readerAt ES (c, (0 : Fin 4)) 2 -∗ OB c 9 -∗ Q ⟨⟩) -∗ WP c (k0_part37 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7) Q) := by
  rw [k0_part37_eq_skeleton]
  simp only [k0_part37_skel, semSignalWord, semWaitWord, Prog.lift, Prog.bind_op, Prog.bind_ret, Prog.pure_eq_ret, wp_deviceId, int1, int2, int7]
  iintro #Hctx HC HO A42 ND S1 RA0 #KM0 Hk
  iapply (nd0_recv m κ ι c 7 8 0 rfl (by decide) rfl rfl rfl) $$ Hctx HC HO A42
  iintro HC HO A42 #r42_1 C0
  iapply (ld_nd c ((c.val + 14 - 0) % 8) (m8 _) (off4_14 c) (ND m c)) $$ ND
  iintro ND
  iapply (nd_cm c 0 z2 (SN m (2 * 0 + 0) (sh c 7))) $$ C0
  iintro C0
  iapply (nd_any c 1 o2) $$ S1
  iintro %v490 S1
  iapply (nd_store c 1 o2) $$ S1
  iintro S1
  ihave S1 := (show pt (ndSt 1 o2) c (ndW 1 o2 (k0_pay33 (rdN ((c.val + 14 - 0) % 8) (m8 _) (ND m c)) (ndR 0 z2 (SN m (2 * 0 + 0) (sh c 7))))) ⊢ pt (ndSt 1 o2) c (ndW 1 o2 (SN m (2 * 0 + 1) c)) from Entails.refl _) $$ S1
  imod (nd0_rel m κ ι c 1 _) $$ Hctx RA0 C0 with ⟨RA0, #L0⟩
  ihave #KM1 := (cp_0 c) $$ []
  · isplitr; · iexact KM0
    isplitr; · iexact L0
    iexact r42_1
  iapply (st_sigC m κ ι c 8 1 5 (Fin.ext (k0_dev44_eq c)) rfl rfl (by decide) (by decide)) $$ Hctx HO KM1
  iintro HO
  iapply (wp_done c)
  iapply Hk $$ r42_1 KM1 HC A42 ND S1 RA0 HO

theorem p38 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(OB c 9 -∗ TK c 8 -∗ WK c 1 -∗ CP (sh c 1) 0 -∗ pt (ndSt 1 o2) c (ndW 1 o2 (SN m (2 * 0 + 1) c)) -∗ CR c 8 -∗ AT c 43 0 -∗ pt ndM c (ND m c) -∗ CD c 40 0 4224 -∗ AT c 40 0 -∗ (RE c 41 0 -∗ RE c 43 1 -∗ RE c 40 1 -∗ TK c 9 -∗ WK c 2 -∗ CD c 41 0 4224 -∗ CR c 9 -∗ AT c 43 1 -∗ pt ndM c (ND m c) -∗ pt (ndCm 1 o2) c (ndL 1 o2 (SN m (2 * 0 + 1) (sh c 7))) -∗ OB c 10 -∗ AT c 40 1 -∗ pa (ndSt 0 z2) c -∗ Q (k0_pay34 (rdN ((c.val + 14 - 1) % 8) (m8 _) (ND m c)) (ndR 1 o2 (SN m (2 * 0 + 1) (sh c 7))))) -∗ WP c (k0_part38 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part38_eq_skeleton]
  simp only [k0_part38_skel, semSignalWord, semWaitWord, Prog.lift, Prog.bind_op, Prog.bind_ret, Prog.pure_eq_ret, wp_deviceId, int1, int2, int7]
  iintro #Hctx HO HT HW #KP0 S1 HC A43 ND CD40 A40 Hk
  ihave #r41_0 := (ctx_reach m κ ι c 41) $$ Hctx
  iapply (nd1_send m κ ι c 9 8 1 0 0 (Fin.ext (k0_dev45_eq c)) rfl rfl rfl rfl rfl (by decide) rfl) $$ Hctx HO HT HW r41_0 KP0 S1
  iintro HO HT HW CD41
  iapply (nd1_recv m κ ι c 8 10 0 rfl (by decide) rfl rfl rfl) $$ Hctx HC HO A43
  iintro HC HO A43 #r43_1 C1
  iapply (ld_nd c ((c.val + 14 - 1) % 8) (m8 _) (off4_13 c) (ND m c)) $$ ND
  iintro ND
  iapply (nd_cm c 1 o2 (SN m (2 * 0 + 1) (sh c 7))) $$ C1
  iintro C1
  iapply (nd0_back m κ ι c 10 0 (by decide) rfl rfl rfl) $$ Hctx CD40 HO A40
  iintro HO A40 #r40_1 S0
  iapply (wp_done c)
  iapply Hk $$ r41_0 r43_1 r40_1 HT HW CD41 HC A43 ND C1 HO A40 S0

theorem p39 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v5 v7 : BitVec 32) {Q : _ → sProp 𝕄} :
    ctx m κ ι ⊢ iprop(pa (ndSt 0 z2) c -∗ readerAt ES (c, (1 : Fin 4)) 1 -∗ pt (ndCm 1 o2) c (ndL 1 o2 (SN m (2 * 0 + 1) (sh c 7))) -∗ RE c 43 1 -∗ CP c 1 -∗ OB c 10 -∗ CR c 9 -∗ CS c 0 -∗ TK c 9 -∗ WK c 2 -∗ RE c 40 1 -∗ AT c 42 1 -∗ (CP c 2 -∗ CP (sh c 1) 1 -∗ RE c 42 2 -∗ readerAt ES (c, (1 : Fin 4)) 2 -∗ CS c 1 -∗ TK c 10 -∗ WK c 3 -∗ CD c 40 0 4224 -∗ CR c 11 -∗ OB c 12 -∗ AT c 42 2 -∗ pt (ndCm 0 z2) c (ndL 0 z2 (SN m (2 * 1 + 0) (sh c 7))) -∗ Q (12#32)) -∗ WP c (k0_part39 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v5 v7 (k0_pay34 (rdN ((c.val + 14 - 1) % 8) (m8 _) (ND m c)) (ndR 1 o2 (SN m (2 * 0 + 1) (sh c 7))))) Q) := by
  rw [k0_part39_eq_skeleton]
  simp only [k0_part39_skel, semSignalWord, semWaitWord, Prog.lift, Prog.bind_op, Prog.bind_ret, Prog.pure_eq_ret, wp_deviceId, int1, int2, int7]
  iintro #Hctx S0 RA1 C1 #r43_1 #KM1 HO HC HCS HT HW #r40_1 A42 Hk
  iapply (nd_any c 0 z2) $$ S0
  iintro %v S0
  iapply (nd_store c 0 z2) $$ S0
  iintro S0
  ihave S0 := (show pt (ndSt 0 z2) c (ndW 0 z2 (k0_pay35 (k0_pay34 (rdN ((c.val + 14 - 1) % 8) (m8 _) (ND m c)) (ndR 1 o2 (SN m (2 * 0 + 1) (sh c 7)))))) ⊢ pt (ndSt 0 z2) c (ndW 0 z2 (SN m (2 * 1 + 0) c)) from Entails.refl _) $$ S0
  imod (nd1_rel m κ ι c 1 _) $$ Hctx RA1 C1 with ⟨RA1, #L1⟩
  ihave #KM2 := (cp_1 c) $$ []
  · isplitr; · iexact KM1
    isplitr; · iexact L1
    iexact r43_1
  iapply (st_sigC m κ ι c 10 2 7 (Fin.ext (k0_dev46_eq c)) rfl rfl (by decide) (by decide)) $$ Hctx HO KM2
  iintro HO
  iapply (st_credit m κ ι c 9 0 5 rfl rfl (by decide) rfl) $$ Hctx HC HO HCS
  iintro HC HO HCS #KP1
  iapply (nd0_send m κ ι c 11 9 2 1 1 (Fin.ext (k0_dev47_eq c)) rfl rfl rfl rfl rfl (by decide) rfl) $$ Hctx HO HT HW r40_1 KP1 S0
  iintro HO HT HW CD40
  iapply (nd0_recv m κ ι c 10 12 1 rfl (by decide) rfl rfl rfl) $$ Hctx HC HO A42
  iintro HC HO A42 #r42_2 C0
  iapply (wp_done c)
  iapply Hk $$ KM2 KP1 r42_2 RA1 HCS HT HW CD40 HC HO A42 C0

theorem p40 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 c12_i32 : BitVec 32) {Q : _ → sProp 𝕄} :
    ctx m κ ι ⊢ iprop(pt ndM c (ND m c) -∗ pt (ndCm 0 z2) c (ndL 0 z2 (SN m (2 * 1 + 0) (sh c 7))) -∗ CD c 41 0 4224 -∗ OB c 12 -∗ AT c 41 0 -∗ readerAt ES (c, (0 : Fin 4)) 2 -∗ RE c 42 2 -∗ CP c 2 -∗ CR c 11 -∗ CS c 1 -∗ (RE c 41 1 -∗ CP c 3 -∗ CP (sh c 1) 2 -∗ pt ndM c (ND m c) -∗ AT c 41 1 -∗ pt (ndSt 1 o2) c (ndW 1 o2 (SN m (2 * 1 + 1) c)) -∗ readerAt ES (c, (0 : Fin 4)) 3 -∗ CR c 12 -∗ OB c 13 -∗ CS c 2 -∗ Q ⟨⟩) -∗ WP c (k0_part40 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 c12_i32) Q) := by
  rw [k0_part40_eq_skeleton]
  simp only [k0_part40_skel, semSignalWord, semWaitWord, Prog.lift, Prog.bind_op, Prog.bind_ret, Prog.pure_eq_ret, wp_deviceId, int1, int2, int7]
  iintro #Hctx ND C0 CD41 HO A41 RA0 #r42_2 #KM2 HC HCS Hk
  iapply (ld_nd c ((c.val + 14 - 2) % 8) (m8 _) (off4_12 c) (ND m c)) $$ ND
  iintro ND
  iapply (nd_cm c 0 z2 (SN m (2 * 1 + 0) (sh c 7))) $$ C0
  iintro C0
  iapply (nd1_back m κ ι c 12 0 (by decide) rfl rfl rfl) $$ Hctx CD41 HO A41
  iintro HO A41 #r41_1 S1
  iapply (nd_any c 1 o2) $$ S1
  iintro %v S1
  iapply (nd_store c 1 o2) $$ S1
  iintro S1
  ihave S1 := (show pt (ndSt 1 o2) c (ndW 1 o2 (k0_pay36 (rdN ((c.val + 14 - 2) % 8) (m8 _) (ND m c)) (ndR 0 z2 (SN m (2 * 1 + 0) (sh c 7))))) ⊢ pt (ndSt 1 o2) c (ndW 1 o2 (SN m (2 * 1 + 1) c)) from Entails.refl _) $$ S1
  imod (nd0_rel m κ ι c 2 _) $$ Hctx RA0 C0 with ⟨RA0, #L0⟩
  ihave #KM3 := (cp_2 c) $$ []
  · isplitr; · iexact KM2
    isplitr; · iexact L0
    iexact r42_2
  iapply (st_sigC m κ ι c 12 3 9 (Fin.ext (k0_dev48_eq c)) rfl rfl (by decide) (by decide)) $$ Hctx HO KM3
  iintro HO
  iapply (st_credit m κ ι c 11 1 7 rfl rfl (by decide) rfl) $$ Hctx HC HO HCS
  iintro HC HO HCS #KP2
  iapply (wp_done c)
  iapply Hk $$ r41_1 KM3 KP2 ND A41 S1 RA0 HC HO HCS

theorem p41 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(OB c 13 -∗ TK c 10 -∗ WK c 3 -∗ RE c 41 1 -∗ CP (sh c 1) 2 -∗ pt (ndSt 1 o2) c (ndW 1 o2 (SN m (2 * 1 + 1) c)) -∗ CR c 12 -∗ AT c 43 1 -∗ pt ndM c (ND m c) -∗ (RE c 43 2 -∗ TK c 11 -∗ WK c 4 -∗ CD c 41 0 4224 -∗ CR c 13 -∗ OB c 14 -∗ AT c 43 2 -∗ pt ndM c (ND m c) -∗ pt (ndCm 1 o2) c (ndL 1 o2 (SN m (2 * 1 + 1) (sh c 7))) -∗ Q (k0_pay37 (rdN ((c.val + 14 - 3) % 8) (m8 _) (ND m c)) (ndR 1 o2 (SN m (2 * 1 + 1) (sh c 7))))) -∗ WP c (k0_part41 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part41_eq_skeleton]
  simp only [k0_part41_skel, semSignalWord, semWaitWord, Prog.lift, Prog.bind_op, Prog.bind_ret, Prog.pure_eq_ret, wp_deviceId, int1, int2, int7]
  iintro #Hctx HO HT HW #r41_1 #KP2 S1 HC A43 ND Hk
  iapply (nd1_send m κ ι c 13 10 3 1 2 (Fin.ext (k0_dev49_eq c)) rfl rfl rfl rfl rfl (by decide) rfl) $$ Hctx HO HT HW r41_1 KP2 S1
  iintro HO HT HW CD41
  iapply (nd1_recv m κ ι c 12 14 1 rfl (by decide) rfl rfl rfl) $$ Hctx HC HO A43
  iintro HC HO A43 #r43_2 C1
  iapply (ld_nd c ((c.val + 14 - 3) % 8) (m8 _) (off4_11 c) (ND m c)) $$ ND
  iintro ND
  iapply (nd_cm c 1 o2 (SN m (2 * 1 + 1) (sh c 7))) $$ C1
  iintro C1
  iapply (wp_done c)
  iapply Hk $$ r43_2 HT HW CD41 HC HO A43 ND C1

theorem p42 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v5 v7 : BitVec 32) {Q : _ → sProp 𝕄} :
    ctx m κ ι ⊢ iprop(CD c 40 0 4224 -∗ OB c 14 -∗ AT c 40 1 -∗ readerAt ES (c, (1 : Fin 4)) 2 -∗ pt (ndCm 1 o2) c (ndL 1 o2 (SN m (2 * 1 + 1) (sh c 7))) -∗ RE c 43 2 -∗ CP c 3 -∗ CR c 13 -∗ CS c 2 -∗ TK c 11 -∗ WK c 4 -∗ (RE c 40 2 -∗ CP c 4 -∗ CP (sh c 1) 3 -∗ AT c 40 2 -∗ readerAt ES (c, (1 : Fin 4)) 3 -∗ CR c 14 -∗ CS c 3 -∗ OB c 16 -∗ TK c 12 -∗ WK c 5 -∗ CD c 40 0 4224 -∗ Q ⟨⟩) -∗ WP c (k0_part42 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v5 v7 (k0_pay37 (rdN ((c.val + 14 - 3) % 8) (m8 _) (ND m c)) (ndR 1 o2 (SN m (2 * 1 + 1) (sh c 7))))) Q) := by
  rw [k0_part42_eq_skeleton]
  simp only [k0_part42_skel, semSignalWord, semWaitWord, Prog.lift, Prog.bind_op, Prog.bind_ret, Prog.pure_eq_ret, wp_deviceId, int1, int2, int7]
  iintro #Hctx CD40 HO A40 RA1 C1 #r43_2 #KM3 HC HCS HT HW Hk
  iapply (nd0_back m κ ι c 14 1 (by decide) rfl rfl rfl) $$ Hctx CD40 HO A40
  iintro HO A40 #r40_2 S0
  iapply (nd_any c 0 z2) $$ S0
  iintro %v S0
  iapply (nd_store c 0 z2) $$ S0
  iintro S0
  ihave S0 := (show pt (ndSt 0 z2) c (ndW 0 z2 (k0_pay38 (k0_pay37 (rdN ((c.val + 14 - 3) % 8) (m8 _) (ND m c)) (ndR 1 o2 (SN m (2 * 1 + 1) (sh c 7)))))) ⊢ pt (ndSt 0 z2) c (ndW 0 z2 (SN m (2 * 2 + 0) c)) from Entails.refl _) $$ S0
  imod (nd1_rel m κ ι c 2 _) $$ Hctx RA1 C1 with ⟨RA1, #L1⟩
  ihave #KM4 := (cp_3 c) $$ []
  · isplitr; · iexact KM3
    isplitr; · iexact L1
    iexact r43_2
  iapply (st_sigC m κ ι c 14 4 11 (Fin.ext (k0_dev50_eq c)) rfl rfl (by decide) (by decide)) $$ Hctx HO KM4
  iintro HO
  iapply (st_credit m κ ι c 13 2 9 rfl rfl (by decide) rfl) $$ Hctx HC HO HCS
  iintro HC HO HCS #KP3
  iapply (nd0_send m κ ι c 15 11 4 2 3 (Fin.ext (k0_dev51_eq c)) rfl rfl rfl rfl rfl (by decide) rfl) $$ Hctx HO HT HW r40_2 KP3 S0
  iintro HO HT HW CD40
  iapply (wp_done c)
  iapply Hk $$ r40_2 KM4 KP3 A40 RA1 HC HCS HO HT HW CD40

theorem p43 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 : BitVec 32) {Q : _ → sProp 𝕄} :
    ctx m κ ι ⊢ iprop(CR c 14 -∗ OB c 16 -∗ AT c 42 2 -∗ pt ndM c (ND m c) -∗ CD c 41 0 4224 -∗ AT c 41 1 -∗ readerAt ES (c, (0 : Fin 4)) 3 -∗ CP c 4 -∗ (RE c 42 3 -∗ RE c 41 2 -∗ CP c 5 -∗ CR c 15 -∗ AT c 42 3 -∗ pt ndM c (ND m c) -∗ AT c 41 2 -∗ pt (ndSt 1 o2) c (ndW 1 o2 (SN m (2 * 2 + 1) c)) -∗ readerAt ES (c, (0 : Fin 4)) 4 -∗ OB c 17 -∗ Q ⟨⟩) -∗ WP c (k0_part43 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5) Q) := by
  rw [k0_part43_eq_skeleton]
  simp only [k0_part43_skel, semSignalWord, semWaitWord, Prog.lift, Prog.bind_op, Prog.bind_ret, Prog.pure_eq_ret, wp_deviceId, int1, int2, int7]
  iintro #Hctx HC HO A42 ND CD41 A41 RA0 #KM4 Hk
  iapply (nd0_recv m κ ι c 14 16 2 rfl (by decide) rfl rfl rfl) $$ Hctx HC HO A42
  iintro HC HO A42 #r42_3 C0
  iapply (ld_nd c ((c.val + 14 - 4) % 8) (m8 _) (off4_10 c) (ND m c)) $$ ND
  iintro ND
  iapply (nd_cm c 0 z2 (SN m (2 * 2 + 0) (sh c 7))) $$ C0
  iintro C0
  iapply (nd1_back m κ ι c 16 1 (by decide) rfl rfl rfl) $$ Hctx CD41 HO A41
  iintro HO A41 #r41_2 S1
  iapply (nd_any c 1 o2) $$ S1
  iintro %v S1
  iapply (nd_store c 1 o2) $$ S1
  iintro S1
  ihave S1 := (show pt (ndSt 1 o2) c (ndW 1 o2 (k0_pay39 (rdN ((c.val + 14 - 4) % 8) (m8 _) (ND m c)) (ndR 0 z2 (SN m (2 * 2 + 0) (sh c 7))))) ⊢ pt (ndSt 1 o2) c (ndW 1 o2 (SN m (2 * 2 + 1) c)) from Entails.refl _) $$ S1
  imod (nd0_rel m κ ι c 3 _) $$ Hctx RA0 C0 with ⟨RA0, #L0⟩
  ihave #KM5 := (cp_4 c) $$ []
  · isplitr; · iexact KM4
    isplitr; · iexact L0
    iexact r42_3
  iapply (st_sigC m κ ι c 16 5 13 (Fin.ext (k0_dev52_eq c)) rfl rfl (by decide) (by decide)) $$ Hctx HO KM5
  iintro HO
  iapply (wp_done c)
  iapply Hk $$ r42_3 r41_2 KM5 HC A42 ND A41 S1 RA0 HO

theorem p44 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(CR c 15 -∗ OB c 17 -∗ CS c 3 -∗ TK c 12 -∗ WK c 5 -∗ RE c 41 2 -∗ pt (ndSt 1 o2) c (ndW 1 o2 (SN m (2 * 2 + 1) c)) -∗ AT c 43 2 -∗ pt ndM c (ND m c) -∗ (CP (sh c 1) 4 -∗ RE c 43 3 -∗ CS c 4 -∗ TK c 13 -∗ WK c 6 -∗ CD c 41 0 4224 -∗ CR c 17 -∗ OB c 18 -∗ AT c 43 3 -∗ pt (ndCm 1 o2) c (ndL 1 o2 (SN m (2 * 2 + 1) (sh c 7))) -∗ pt ndM c (ND m c) -∗ Q (rdN ((c.val + 14 - 5) % 8) (m8 _) (ND m c))) -∗ WP c (k0_part44 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part44_eq_skeleton]
  simp only [k0_part44_skel, semSignalWord, semWaitWord, Prog.lift, Prog.bind_op, Prog.bind_ret, Prog.pure_eq_ret, wp_deviceId, int1, int2, int7]
  iintro #Hctx HC HO HCS HT HW #r41_2 S1 A43 ND Hk
  iapply (st_credit m κ ι c 15 3 11 rfl rfl (by decide) rfl) $$ Hctx HC HO HCS
  iintro HC HO HCS #KP4
  iapply (nd1_send m κ ι c 17 12 5 2 4 (Fin.ext (k0_dev53_eq c)) rfl rfl rfl rfl rfl (by decide) rfl) $$ Hctx HO HT HW r41_2 KP4 S1
  iintro HO HT HW CD41
  iapply (nd1_recv m κ ι c 16 18 2 rfl (by decide) rfl rfl rfl) $$ Hctx HC HO A43
  iintro HC HO A43 #r43_3 C1
  iapply (ld_nd c ((c.val + 14 - 5) % 8) (m8 _) (off4_9 c) (ND m c)) $$ ND
  iintro ND
  iapply (wp_done c)
  iapply Hk $$ KP4 r43_3 HCS HT HW CD41 HC HO A43 C1 ND

theorem p45 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v7 : BitVec 32) {Q : _ → sProp 𝕄} :
    ctx m κ ι ⊢ iprop(pt (ndCm 1 o2) c (ndL 1 o2 (SN m (2 * 2 + 1) (sh c 7))) -∗ CD c 40 0 4224 -∗ OB c 18 -∗ AT c 40 2 -∗ CR c 17 -∗ CS c 4 -∗ TK c 13 -∗ WK c 6 -∗ (RE c 40 3 -∗ CP (sh c 1) 5 -∗ pt (ndCm 1 o2) c (ndL 1 o2 (SN m (2 * 2 + 1) (sh c 7))) -∗ AT c 40 3 -∗ CR c 18 -∗ CS c 5 -∗ OB c 19 -∗ TK c 14 -∗ WK c 7 -∗ CD c 40 0 4224 -∗ Q ⟨⟩) -∗ WP c (k0_part45 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v7 ((rdN ((c.val + 14 - 5) % 8) (m8 _) (ND m c)))) Q) := by
  rw [k0_part45_eq_skeleton]
  simp only [k0_part45_skel, semSignalWord, semWaitWord, Prog.lift, Prog.bind_op, Prog.bind_ret, Prog.pure_eq_ret, wp_deviceId, int1, int2, int7]
  iintro #Hctx C1 CD40 HO A40 HC HCS HT HW Hk
  iapply (nd_cm c 1 o2 (SN m (2 * 2 + 1) (sh c 7))) $$ C1
  iintro C1
  iapply (nd0_back m κ ι c 18 2 (by decide) rfl rfl rfl) $$ Hctx CD40 HO A40
  iintro HO A40 #r40_3 S0
  iapply (nd_any c 0 z2) $$ S0
  iintro %v S0
  iapply (nd_store c 0 z2) $$ S0
  iintro S0
  ihave S0 := (show pt (ndSt 0 z2) c (ndW 0 z2 (k0_pay40 (rdN ((c.val + 14 - 5) % 8) (m8 _) (ND m c)) (ndR 1 o2 (SN m (2 * 2 + 1) (sh c 7))))) ⊢ pt (ndSt 0 z2) c (ndW 0 z2 (SN m (2 * 3 + 0) c)) from Entails.refl _) $$ S0
  iapply (st_credit m κ ι c 17 4 13 rfl rfl (by decide) rfl) $$ Hctx HC HO HCS
  iintro HC HO HCS #KP5
  iapply (nd0_send m κ ι c 18 13 6 3 5 (Fin.ext (k0_dev54_eq c)) rfl rfl rfl rfl rfl (by decide) rfl) $$ Hctx HO HT HW r40_3 KP5 S0
  iintro HO HT HW CD40
  iapply (wp_done c)
  iapply Hk $$ r40_3 KP5 C1 A40 HC HCS HO HT HW CD40

theorem p46 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v7 : BitVec 32) {Q : _ → sProp 𝕄} :
    ctx m κ ι ⊢ iprop(CR c 18 -∗ OB c 19 -∗ AT c 42 3 -∗ CD c 41 0 4224 -∗ AT c 41 2 -∗ CD c 40 0 4224 -∗ AT c 40 3 -∗ (RE c 42 4 -∗ RE c 41 3 -∗ RE c 40 4 -∗ CR c 19 -∗ AT c 42 4 -∗ AT c 41 3 -∗ pa (ndSt 1 o2) c -∗ OB c 19 -∗ AT c 40 4 -∗ pa (ndSt 0 z2) c -∗ pt (ndCm 0 z2) c (ndL 0 z2 (SN m (2 * 3 + 0) (sh c 7))) -∗ Q ⟨k0_pay41 (ndR 0 z2 (SN m (2 * 3 + 0) (sh c 7))), 8#32⟩) -∗ WP c (k0_part46 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 v7) Q) := by
  rw [k0_part46_eq_skeleton]
  simp only [k0_part46_skel, semSignalWord, semWaitWord, Prog.lift, Prog.bind_op, Prog.bind_ret, Prog.pure_eq_ret, wp_deviceId, int1, int2, int7]
  iintro #Hctx HC HO A42 CD41 A41 CD40 A40 Hk
  iapply (nd0_recv m κ ι c 18 19 3 rfl (by decide) rfl rfl rfl) $$ Hctx HC HO A42
  iintro HC HO A42 #r42_4 C0
  iapply (nd1_back m κ ι c 19 2 (by decide) rfl rfl rfl) $$ Hctx CD41 HO A41
  iintro HO A41 #r41_3 S1
  iapply (nd0_back m κ ι c 19 3 (by decide) rfl rfl rfl) $$ Hctx CD40 HO A40
  iintro HO A40 #r40_4 S0
  iapply (nd_cm c 0 z2 (SN m (2 * 3 + 0) (sh c 7))) $$ C0
  iintro C0
  iapply (wp_done c)
  iapply Hk $$ r42_4 r41_3 r40_4 HC A42 A41 S1 HO A40 S0 C0

end Cert.KernelIdeal.Pf
end
-- ==== Proof.RingB.lean ====
module

public import proofs.«01_k».proof.Proof.Loads

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ) (c : Dev nD)

theorem p54 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(pt woM c (aWo m c) -∗ pa paM c -∗ OB c 19 -∗ CR c 19 -∗ AT c 49 0 -∗ pa (rsSt 0 z2) c -∗ (RE c 49 1 -∗ pt woM c (aWo m c) -∗ CR c 20 -∗ OB c 21 -∗ AT c 49 1 -∗ pt paM c (PA m c) -∗ pt (rsSt 0 z2) c (rsW 0 z2 (SR m (2 * 0 + 0) c)) -∗ Q ⟨⟩) -∗ WP c (k0_part54 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 (v714 m c) (v716 m c) (v964 m c) (k0_pay62 (bv m c 7 (by decide))) (k0_pay63 k0_pay45 (bq m c 7 (by decide)) (bk m c 7 (by decide)))) Q) := by
  rw [k0_part54_eq_skeleton]
  simp only [k0_part54_skel, semSignalWord, semWaitWord, Prog.lift, Prog.bind_op, Prog.bind_ret, Prog.pure_eq_ret, wp_deviceId, int1, int2, int7]
  iintro #Hctx WO PA HO HC A49 T0 Hk
  iapply (ld_wo c 7 (by decide) (aWo m c) rfl) $$ WO
  iintro WO
  iapply (la_pa c) $$ PA
  iintro %vv PA
  iapply (sw_pa c _) $$ PA
  iintro PA
  ihave PA := (PA_store m c) $$ PA
  iapply (st_miniL0 m κ ι c 19 18 (Fin.ext (k0_dev55_eq c)) rfl rfl) $$ Hctx HO
  iintro HO
  iapply (st_miniR0 m κ ι c 20 18 (Fin.ext (k0_dev56_eq c)) rfl rfl) $$ Hctx HO
  iintro HO
  iapply (st_mini0 m κ ι c 19 21 rfl rfl rfl) $$ Hctx HC HO A49
  iintro HC HO A49 #r49_1
  iapply (ld_pa c ((c.val + 15) % 8) (m8 _) (off6_15 c) (PA m c)) $$ PA
  iintro PA
  iapply (rs_any c 0 z2) $$ T0
  iintro %v T0
  iapply (rs_store c 0 z2) $$ T0
  iintro T0
  ihave T0 := (show pt (rsSt 0 z2) c (rsW 0 z2 (k0_pay65 (rdP ((c.val + 15) % 8) (m8 _) (PA m c)))) ⊢ pt (rsSt 0 z2) c (rsW 0 z2 (SR m (2 * 0 + 0) c)) from Entails.refl _) $$ T0
  iapply (wp_done c)
  iapply Hk $$ r49_1 WO HC HO A49 PA T0

theorem p55 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(OB c 21 -∗ TK c 14 -∗ WK c 7 -∗ CP (sh c 1) 5 -∗ RE c 49 1 -∗ pt (rsSt 0 z2) c (rsW 0 z2 (SR m (2 * 0 + 0) c)) -∗ CR c 20 -∗ AT c 46 0 -∗ pt paM c (PA m c) -∗ pa (rsSt 1 o2) c -∗ (RE c 44 0 -∗ RE c 46 1 -∗ RE (sh c 7) 49 1 -∗ TK c 15 -∗ WK c 8 -∗ CD c 44 0 16384 -∗ CR c 21 -∗ OB c 22 -∗ AT c 46 1 -∗ pt paM c (PA m c) -∗ pt (rsCm 0 z2) c (rsL 0 z2 (SR m (2 * 0 + 0) (sh c 7))) -∗ pt (rsSt 1 o2) c (rsW 1 o2 (SR m (2 * 0 + 1) c)) -∗ Q ⟨⟩) -∗ WP c (k0_part55 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part55_eq_skeleton]
  simp only [k0_part55_skel, semSignalWord, semWaitWord, Prog.lift, Prog.bind_op, Prog.bind_ret, Prog.pure_eq_ret, wp_deviceId, int1, int2, int7]
  iintro #Hctx HO HT HW #KP5 #r49_1 T0 HC A46 PA T1 Hk
  ihave #r44_0 := (ctx_reach m κ ι c 44) $$ Hctx
  iapply (rs0_send m κ ι c 21 14 7 0 5 (Fin.ext (k0_dev57_eq c)) rfl rfl rfl rfl rfl (by decide) ⟨rfl, rfl⟩) $$ Hctx HO HT HW r44_0 KP5 r49_1 T0
  iintro HO HT HW CD44
  iapply (rs0_recv m κ ι c 20 22 0 rfl (by decide) rfl rfl rfl) $$ Hctx HC HO A46
  iintro HC HO A46 #r46_1 D0 #rL49
  iapply (ld_pa c ((c.val + 14 - 0) % 8) (m8 _) (off6_14 c) (PA m c)) $$ PA
  iintro PA
  iapply (rs_cm c 0 z2 (SR m (2 * 0 + 0) (sh c 7))) $$ D0
  iintro D0
  iapply (rs_any c 1 o2) $$ T1
  iintro %v T1
  iapply (rs_store c 1 o2) $$ T1
  iintro T1
  ihave T1 := (show pt (rsSt 1 o2) c (rsW 1 o2 (k0_pay66 (rdP ((c.val + 14 - 0) % 8) (m8 _) (PA m c)) (rsR 0 z2 (SR m (2 * 0 + 0) (sh c 7))))) ⊢ pt (rsSt 1 o2) c (rsW 1 o2 (SR m (2 * 0 + 1) c)) from Entails.refl _) $$ T1
  iapply (wp_done c)
  iapply Hk $$ r44_0 r46_1 rL49 HT HW CD44 HC HO A46 PA D0 T1

theorem p56 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(readerAt ES (c, (2 : Fin 4)) 1 -∗ pt (rsCm 0 z2) c (rsL 0 z2 (SR m (2 * 0 + 0) (sh c 7))) -∗ RE c 46 1 -∗ CP c 5 -∗ RE c 49 1 -∗ OB c 22 -∗ TK c 15 -∗ WK c 8 -∗ CP (sh c 1) 5 -∗ pt (rsSt 1 o2) c (rsW 1 o2 (SR m (2 * 0 + 1) c)) -∗ CR c 21 -∗ AT c 47 0 -∗ pt paM c (PA m c) -∗ (CP c 6 -∗ RE c 45 0 -∗ RE c 47 1 -∗ readerAt ES (c, (2 : Fin 4)) 2 -∗ TK c 16 -∗ WK c 9 -∗ CD c 45 0 16384 -∗ CR c 22 -∗ OB c 24 -∗ AT c 47 1 -∗ pt paM c (PA m c) -∗ pt (rsCm 1 o2) c (rsL 1 o2 (SR m (2 * 0 + 1) (sh c 7))) -∗ Q ⟨(rdP ((c.val + 14 - 1) % 8) (m8 _) (PA m c)), k0_pay67 (rsR 1 o2 (SR m (2 * 0 + 1) (sh c 7)))⟩) -∗ WP c (k0_part56 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7) Q) := by
  rw [k0_part56_eq_skeleton]
  simp only [k0_part56_skel, semSignalWord, semWaitWord, Prog.lift, Prog.bind_op, Prog.bind_ret, Prog.pure_eq_ret, wp_deviceId, int1, int2, int7]
  iintro #Hctx RA2 D0 #r46_1 #KM5 #r49_1 HO HT HW #KP5 T1 HC A47 PA Hk
  imod (rs0_rel m κ ι c 1 _) $$ Hctx RA2 D0 with ⟨RA2, #L2⟩
  ihave #KM6 := (cp_5 c) $$ []
  · isplitr; · iexact KM5
    isplitr; · iexact L2
    isplitr; · iexact r46_1
    iexact r49_1
  iapply (st_sigC m κ ι c 22 6 21 (Fin.ext (k0_dev58_eq c)) rfl rfl (by decide) (by decide)) $$ Hctx HO KM6
  iintro HO
  ihave #r45_0 := (ctx_reach m κ ι c 45) $$ Hctx
  iapply (rs1_send m κ ι c 23 15 8 0 5 (Fin.ext (k0_dev59_eq c)) rfl rfl rfl rfl rfl (by decide) ⟨rfl, rfl⟩) $$ Hctx HO HT HW r45_0 KP5 r49_1 T1
  iintro HO HT HW CD45
  iapply (rs1_recv m κ ι c 21 24 0 rfl (by decide) rfl rfl rfl) $$ Hctx HC HO A47
  iintro HC HO A47 #r47_1 D1 -
  iapply (ld_pa c ((c.val + 14 - 1) % 8) (m8 _) (off6_13 c) (PA m c)) $$ PA
  iintro PA
  iapply (rs_cm c 1 o2 (SR m (2 * 0 + 1) (sh c 7))) $$ D1
  iintro D1
  iapply (wp_done c)
  iapply Hk $$ KM6 r45_0 r47_1 RA2 HT HW CD45 HC HO A47 PA D1

theorem p57 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v5 v7 : BitVec 32) {Q : _ → sProp 𝕄} :
    ctx m κ ι ⊢ iprop(CD c 44 0 16384 -∗ OB c 24 -∗ AT c 44 0 -∗ readerAt ES (c, (3 : Fin 4)) 1 -∗ pt (rsCm 1 o2) c (rsL 1 o2 (SR m (2 * 0 + 1) (sh c 7))) -∗ RE c 47 1 -∗ CP c 6 -∗ RE c 49 1 -∗ CR c 22 -∗ CS c 5 -∗ TK c 16 -∗ WK c 9 -∗ (RE c 44 1 -∗ CP c 7 -∗ CP (sh c 1) 6 -∗ AT c 44 1 -∗ readerAt ES (c, (3 : Fin 4)) 2 -∗ CR c 23 -∗ CS c 6 -∗ OB c 26 -∗ TK c 17 -∗ WK c 10 -∗ CD c 44 0 16384 -∗ Q (Scalar.muli v7 1#32)) -∗ WP c (k0_part57 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v5 v7 ((rdP ((c.val + 14 - 1) % 8) (m8 _) (PA m c))) (k0_pay67 (rsR 1 o2 (SR m (2 * 0 + 1) (sh c 7))))) Q) := by
  rw [k0_part57_eq_skeleton]
  simp only [k0_part57_skel, semSignalWord, semWaitWord, Prog.lift, Prog.bind_op, Prog.bind_ret, Prog.pure_eq_ret, wp_deviceId, int1, int2, int7]
  iintro #Hctx CD44 HO A44 RA3 D1 #r47_1 #KM6 #r49_1 HC HCS HT HW Hk
  iapply (rs0_back m κ ι c 24 0 (by decide) rfl rfl rfl) $$ Hctx CD44 HO A44
  iintro HO A44 #r44_1 T0
  iapply (rs_any c 0 z2) $$ T0
  iintro %v T0
  iapply (rs_store c 0 z2) $$ T0
  iintro T0
  ihave T0 := (show pt (rsSt 0 z2) c (rsW 0 z2 (k0_pay68 (rdP ((c.val + 14 - 1) % 8) (m8 _) (PA m c)) (k0_pay67 (rsR 1 o2 (SR m (2 * 0 + 1) (sh c 7)))))) ⊢ pt (rsSt 0 z2) c (rsW 0 z2 (SR m (2 * 1 + 0) c)) from Entails.refl _) $$ T0
  imod (rs1_rel m κ ι c 1 _) $$ Hctx RA3 D1 with ⟨RA3, #L3⟩
  ihave #KM7 := (cp_6 c) $$ []
  · isplitr; · iexact KM6
    isplitr; · iexact L3
    isplitr; · iexact r47_1
    iexact r49_1
  iapply (st_sigC m κ ι c 24 7 23 (Fin.ext (k0_dev60_eq c)) rfl rfl (by decide) (by decide)) $$ Hctx HO KM7
  iintro HO
  iapply (st_credit m κ ι c 22 5 21 rfl rfl (by decide) rfl) $$ Hctx HC HO HCS
  iintro HC HO HCS #KP6
  iapply (rs0_send m κ ι c 25 16 9 1 6 (Fin.ext (k0_dev61_eq c)) rfl rfl rfl rfl rfl (by decide) ⟨rfl, rfl⟩) $$ Hctx HO HT HW r44_1 KP6 r49_1 T0
  iintro HO HT HW CD44
  iapply (wp_done c)
  iapply Hk $$ r44_1 KM7 KP6 A44 RA3 HC HCS HO HT HW CD44

theorem p58 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v1090 : BitVec 32) {Q : _ → sProp 𝕄} :
    ctx m κ ι ⊢ iprop(CR c 23 -∗ OB c 26 -∗ AT c 46 1 -∗ pt paM c (PA m c) -∗ CD c 45 0 16384 -∗ AT c 45 0 -∗ readerAt ES (c, (2 : Fin 4)) 2 -∗ CP c 7 -∗ RE c 49 1 -∗ CS c 6 -∗ (RE c 46 2 -∗ RE c 45 1 -∗ CP c 8 -∗ CP (sh c 1) 7 -∗ AT c 46 2 -∗ pt paM c (PA m c) -∗ AT c 45 1 -∗ pt (rsSt 1 o2) c (rsW 1 o2 (SR m (2 * 1 + 1) c)) -∗ readerAt ES (c, (2 : Fin 4)) 3 -∗ CR c 25 -∗ OB c 27 -∗ CS c 7 -∗ Q ⟨⟩) -∗ WP c (k0_part58 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v1090) Q) := by
  rw [k0_part58_eq_skeleton]
  simp only [k0_part58_skel, semSignalWord, semWaitWord, Prog.lift, Prog.bind_op, Prog.bind_ret, Prog.pure_eq_ret, wp_deviceId, int1, int2, int7]
  iintro #Hctx HC HO A46 PA CD45 A45 RA2 #KM7 #r49_1 HCS Hk
  iapply (rs0_recv m κ ι c 23 26 1 rfl (by decide) rfl rfl rfl) $$ Hctx HC HO A46
  iintro HC HO A46 #r46_2 D0 -
  iapply (ld_pa c ((c.val + 14 - 2) % 8) (m8 _) (off6_12 c) (PA m c)) $$ PA
  iintro PA
  iapply (rs_cm c 0 z2 (SR m (2 * 1 + 0) (sh c 7))) $$ D0
  iintro D0
  iapply (rs1_back m κ ι c 26 0 (by decide) rfl rfl rfl) $$ Hctx CD45 HO A45
  iintro HO A45 #r45_1 T1
  iapply (rs_any c 1 o2) $$ T1
  iintro %v T1
  iapply (rs_store c 1 o2) $$ T1
  iintro T1
  ihave T1 := (show pt (rsSt 1 o2) c (rsW 1 o2 (k0_pay69 (rdP ((c.val + 14 - 2) % 8) (m8 _) (PA m c)) (rsR 0 z2 (SR m (2 * 1 + 0) (sh c 7))))) ⊢ pt (rsSt 1 o2) c (rsW 1 o2 (SR m (2 * 1 + 1) c)) from Entails.refl _) $$ T1
  imod (rs0_rel m κ ι c 2 _) $$ Hctx RA2 D0 with ⟨RA2, #L2⟩
  ihave #KM8 := (cp_7 c) $$ []
  · isplitr; · iexact KM7
    isplitr; · iexact L2
    isplitr; · iexact r46_2
    iexact r49_1
  iapply (st_sigC m κ ι c 26 8 25 (Fin.ext (k0_dev62_eq c)) rfl rfl (by decide) (by decide)) $$ Hctx HO KM8
  iintro HO
  iapply (st_credit m κ ι c 24 6 23 rfl rfl (by decide) rfl) $$ Hctx HC HO HCS
  iintro HC HO HCS #KP7
  iapply (wp_done c)
  iapply Hk $$ r46_2 r45_1 KM8 KP7 A46 PA A45 T1 RA2 HC HO HCS

theorem p59 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 : BitVec 32) {Q : _ → sProp 𝕄} :
    ctx m κ ι ⊢ iprop(OB c 27 -∗ TK c 17 -∗ WK c 10 -∗ RE c 45 1 -∗ CP (sh c 1) 7 -∗ RE c 49 1 -∗ pt (rsSt 1 o2) c (rsW 1 o2 (SR m (2 * 1 + 1) c)) -∗ CR c 25 -∗ AT c 47 1 -∗ pt paM c (PA m c) -∗ (RE c 47 2 -∗ TK c 18 -∗ WK c 11 -∗ CD c 45 0 16384 -∗ CR c 26 -∗ OB c 28 -∗ AT c 47 2 -∗ pt paM c (PA m c) -∗ pt (rsCm 1 o2) c (rsL 1 o2 (SR m (2 * 1 + 1) (sh c 7))) -∗ Q (k0_pay70 (rdP ((c.val + 14 - 3) % 8) (m8 _) (PA m c)) (rsR 1 o2 (SR m (2 * 1 + 1) (sh c 7))))) -∗ WP c (k0_part59 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7) Q) := by
  rw [k0_part59_eq_skeleton]
  simp only [k0_part59_skel, semSignalWord, semWaitWord, Prog.lift, Prog.bind_op, Prog.bind_ret, Prog.pure_eq_ret, wp_deviceId, int1, int2, int7]
  iintro #Hctx HO HT HW #r45_1 #KP7 #r49_1 T1 HC A47 PA Hk
  iapply (rs1_send m κ ι c 27 17 10 1 7 (Fin.ext (k0_dev63_eq c)) rfl rfl rfl rfl rfl (by decide) ⟨rfl, rfl⟩) $$ Hctx HO HT HW r45_1 KP7 r49_1 T1
  iintro HO HT HW CD45
  iapply (rs1_recv m κ ι c 25 28 1 rfl (by decide) rfl rfl rfl) $$ Hctx HC HO A47
  iintro HC HO A47 #r47_2 D1 -
  iapply (ld_pa c ((c.val + 14 - 3) % 8) (m8 _) (off6_11 c) (PA m c)) $$ PA
  iintro PA
  iapply (rs_cm c 1 o2 (SR m (2 * 1 + 1) (sh c 7))) $$ D1
  iintro D1
  iapply (wp_done c)
  iapply Hk $$ r47_2 HT HW CD45 HC HO A47 PA D1

theorem p60 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v5 v7 : BitVec 32) {Q : _ → sProp 𝕄} :
    ctx m κ ι ⊢ iprop(CD c 44 0 16384 -∗ OB c 28 -∗ AT c 44 1 -∗ readerAt ES (c, (3 : Fin 4)) 2 -∗ pt (rsCm 1 o2) c (rsL 1 o2 (SR m (2 * 1 + 1) (sh c 7))) -∗ RE c 47 2 -∗ CP c 8 -∗ RE c 49 1 -∗ CR c 26 -∗ CS c 7 -∗ TK c 18 -∗ WK c 11 -∗ (RE c 44 2 -∗ CP c 9 -∗ CP (sh c 1) 8 -∗ AT c 44 2 -∗ readerAt ES (c, (3 : Fin 4)) 3 -∗ CR c 27 -∗ CS c 8 -∗ OB c 30 -∗ TK c 19 -∗ WK c 12 -∗ CD c 44 0 16384 -∗ Q ⟨⟩) -∗ WP c (k0_part60 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v5 v7 (k0_pay70 (rdP ((c.val + 14 - 3) % 8) (m8 _) (PA m c)) (rsR 1 o2 (SR m (2 * 1 + 1) (sh c 7))))) Q) := by
  rw [k0_part60_eq_skeleton]
  simp only [k0_part60_skel, semSignalWord, semWaitWord, Prog.lift, Prog.bind_op, Prog.bind_ret, Prog.pure_eq_ret, wp_deviceId, int1, int2, int7]
  iintro #Hctx CD44 HO A44 RA3 D1 #r47_2 #KM8 #r49_1 HC HCS HT HW Hk
  iapply (rs0_back m κ ι c 28 1 (by decide) rfl rfl rfl) $$ Hctx CD44 HO A44
  iintro HO A44 #r44_2 T0
  iapply (rs_any c 0 z2) $$ T0
  iintro %v T0
  iapply (rs_store c 0 z2) $$ T0
  iintro T0
  ihave T0 := (show pt (rsSt 0 z2) c (rsW 0 z2 (k0_pay71 (k0_pay70 (rdP ((c.val + 14 - 3) % 8) (m8 _) (PA m c)) (rsR 1 o2 (SR m (2 * 1 + 1) (sh c 7)))))) ⊢ pt (rsSt 0 z2) c (rsW 0 z2 (SR m (2 * 2 + 0) c)) from Entails.refl _) $$ T0
  imod (rs1_rel m κ ι c 2 _) $$ Hctx RA3 D1 with ⟨RA3, #L3⟩
  ihave #KM9 := (cp_8 c) $$ []
  · isplitr; · iexact KM8
    isplitr; · iexact L3
    isplitr; · iexact r47_2
    iexact r49_1
  iapply (st_sigC m κ ι c 28 9 27 (Fin.ext (k0_dev64_eq c)) rfl rfl (by decide) (by decide)) $$ Hctx HO KM9
  iintro HO
  iapply (st_credit m κ ι c 26 7 25 rfl rfl (by decide) rfl) $$ Hctx HC HO HCS
  iintro HC HO HCS #KP8
  iapply (rs0_send m κ ι c 29 18 11 2 8 (Fin.ext (k0_dev65_eq c)) rfl rfl rfl rfl rfl (by decide) ⟨rfl, rfl⟩) $$ Hctx HO HT HW r44_2 KP8 r49_1 T0
  iintro HO HT HW CD44
  iapply (wp_done c)
  iapply Hk $$ r44_2 KM9 KP8 A44 RA3 HC HCS HO HT HW CD44

theorem p61 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(CR c 27 -∗ OB c 30 -∗ AT c 46 2 -∗ pt paM c (PA m c) -∗ CD c 45 0 16384 -∗ AT c 45 1 -∗ readerAt ES (c, (2 : Fin 4)) 3 -∗ CP c 9 -∗ RE c 49 1 -∗ CS c 8 -∗ (RE c 46 3 -∗ RE c 45 2 -∗ CP c 10 -∗ CP (sh c 1) 9 -∗ AT c 46 3 -∗ pt paM c (PA m c) -∗ AT c 45 2 -∗ pt (rsSt 1 o2) c (rsW 1 o2 (SR m (2 * 2 + 1) c)) -∗ readerAt ES (c, (2 : Fin 4)) 4 -∗ CR c 29 -∗ OB c 31 -∗ CS c 9 -∗ Q (Scalar.muli v7 1#32)) -∗ WP c (k0_part61 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7) Q) := by
  rw [k0_part61_eq_skeleton]
  simp only [k0_part61_skel, semSignalWord, semWaitWord, Prog.lift, Prog.bind_op, Prog.bind_ret, Prog.pure_eq_ret, wp_deviceId, int1, int2, int7]
  iintro #Hctx HC HO A46 PA CD45 A45 RA2 #KM9 #r49_1 HCS Hk
  iapply (rs0_recv m κ ι c 27 30 2 rfl (by decide) rfl rfl rfl) $$ Hctx HC HO A46
  iintro HC HO A46 #r46_3 D0 -
  iapply (ld_pa c ((c.val + 14 - 4) % 8) (m8 _) (off6_10 c) (PA m c)) $$ PA
  iintro PA
  iapply (rs_cm c 0 z2 (SR m (2 * 2 + 0) (sh c 7))) $$ D0
  iintro D0
  iapply (rs1_back m κ ι c 30 1 (by decide) rfl rfl rfl) $$ Hctx CD45 HO A45
  iintro HO A45 #r45_2 T1
  iapply (rs_any c 1 o2) $$ T1
  iintro %v T1
  iapply (rs_store c 1 o2) $$ T1
  iintro T1
  ihave T1 := (show pt (rsSt 1 o2) c (rsW 1 o2 (k0_pay72 (rdP ((c.val + 14 - 4) % 8) (m8 _) (PA m c)) (rsR 0 z2 (SR m (2 * 2 + 0) (sh c 7))))) ⊢ pt (rsSt 1 o2) c (rsW 1 o2 (SR m (2 * 2 + 1) c)) from Entails.refl _) $$ T1
  imod (rs0_rel m κ ι c 3 _) $$ Hctx RA2 D0 with ⟨RA2, #L2⟩
  ihave #KM10 := (cp_9 c) $$ []
  · isplitr; · iexact KM9
    isplitr; · iexact L2
    isplitr; · iexact r46_3
    iexact r49_1
  iapply (st_sigC m κ ι c 30 10 29 (Fin.ext (k0_dev66_eq c)) rfl rfl (by decide) (by decide)) $$ Hctx HO KM10
  iintro HO
  iapply (st_credit m κ ι c 28 8 27 rfl rfl (by decide) rfl) $$ Hctx HC HO HCS
  iintro HC HO HCS #KP9
  iapply (wp_done c)
  iapply Hk $$ r46_3 r45_2 KM10 KP9 A46 PA A45 T1 RA2 HC HO HCS

theorem p62 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v7 v1191 : BitVec 32) {Q : _ → sProp 𝕄} :
    ctx m κ ι ⊢ iprop(OB c 31 -∗ TK c 19 -∗ WK c 12 -∗ RE c 45 2 -∗ CP (sh c 1) 9 -∗ RE c 49 1 -∗ pt (rsSt 1 o2) c (rsW 1 o2 (SR m (2 * 2 + 1) c)) -∗ CR c 29 -∗ AT c 47 2 -∗ pt paM c (PA m c) -∗ (RE c 47 3 -∗ TK c 20 -∗ WK c 13 -∗ CD c 45 0 16384 -∗ CR c 30 -∗ OB c 32 -∗ AT c 47 3 -∗ pt paM c (PA m c) -∗ pt (rsCm 1 o2) c (rsL 1 o2 (SR m (2 * 2 + 1) (sh c 7))) -∗ Q (k0_pay73 (rdP ((c.val + 14 - 5) % 8) (m8 _) (PA m c)) (rsR 1 o2 (SR m (2 * 2 + 1) (sh c 7))))) -∗ WP c (k0_part62 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v7 v1191) Q) := by
  rw [k0_part62_eq_skeleton]
  simp only [k0_part62_skel, semSignalWord, semWaitWord, Prog.lift, Prog.bind_op, Prog.bind_ret, Prog.pure_eq_ret, wp_deviceId, int1, int2, int7]
  iintro #Hctx HO HT HW #r45_2 #KP9 #r49_1 T1 HC A47 PA Hk
  iapply (rs1_send m κ ι c 31 19 12 2 9 (Fin.ext (k0_dev67_eq c)) rfl rfl rfl rfl rfl (by decide) ⟨rfl, rfl⟩) $$ Hctx HO HT HW r45_2 KP9 r49_1 T1
  iintro HO HT HW CD45
  iapply (rs1_recv m κ ι c 29 32 2 rfl (by decide) rfl rfl rfl) $$ Hctx HC HO A47
  iintro HC HO A47 #r47_3 D1 -
  iapply (ld_pa c ((c.val + 14 - 5) % 8) (m8 _) (off6_9 c) (PA m c)) $$ PA
  iintro PA
  iapply (rs_cm c 1 o2 (SR m (2 * 2 + 1) (sh c 7))) $$ D1
  iintro D1
  iapply (wp_done c)
  iapply Hk $$ r47_3 HT HW CD45 HC HO A47 PA D1

theorem p63 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v7 : BitVec 32) {Q : _ → sProp 𝕄} :
    ctx m κ ι ⊢ iprop(CD c 44 0 16384 -∗ OB c 32 -∗ AT c 44 2 -∗ CR c 30 -∗ CS c 9 -∗ TK c 20 -∗ WK c 13 -∗ RE c 49 1 -∗ AT c 46 3 -∗ (RE c 44 3 -∗ CP (sh c 1) 10 -∗ RE c 46 4 -∗ AT c 44 3 -∗ CS c 10 -∗ TK c 21 -∗ WK c 14 -∗ CD c 44 0 16384 -∗ CR c 32 -∗ OB c 33 -∗ AT c 46 4 -∗ pt (rsCm 0 z2) c (rsL 0 z2 (SR m (2 * 3 + 0) (sh c 7))) -∗ Q ⟨⟩) -∗ WP c (k0_part63 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v7 (k0_pay73 (rdP ((c.val + 14 - 5) % 8) (m8 _) (PA m c)) (rsR 1 o2 (SR m (2 * 2 + 1) (sh c 7))))) Q) := by
  rw [k0_part63_eq_skeleton]
  simp only [k0_part63_skel, semSignalWord, semWaitWord, Prog.lift, Prog.bind_op, Prog.bind_ret, Prog.pure_eq_ret, wp_deviceId, int1, int2, int7]
  iintro #Hctx CD44 HO A44 HC HCS HT HW #r49_1 A46 Hk
  iapply (rs0_back m κ ι c 32 2 (by decide) rfl rfl rfl) $$ Hctx CD44 HO A44
  iintro HO A44 #r44_3 T0
  iapply (rs_any c 0 z2) $$ T0
  iintro %v T0
  iapply (rs_store c 0 z2) $$ T0
  iintro T0
  ihave T0 := (show pt (rsSt 0 z2) c (rsW 0 z2 (k0_pay74 (k0_pay73 (rdP ((c.val + 14 - 5) % 8) (m8 _) (PA m c)) (rsR 1 o2 (SR m (2 * 2 + 1) (sh c 7)))))) ⊢ pt (rsSt 0 z2) c (rsW 0 z2 (SR m (2 * 3 + 0) c)) from Entails.refl _) $$ T0
  iapply (st_credit m κ ι c 30 9 29 rfl rfl (by decide) rfl) $$ Hctx HC HO HCS
  iintro HC HO HCS #KP10
  iapply (rs0_send m κ ι c 32 20 13 3 10 (Fin.ext (k0_dev68_eq c)) rfl rfl rfl rfl rfl (by decide) ⟨rfl, rfl⟩) $$ Hctx HO HT HW r44_3 KP10 r49_1 T0
  iintro HO HT HW CD44
  iapply (rs0_recv m κ ι c 31 33 3 rfl (by decide) rfl rfl rfl) $$ Hctx HC HO A46
  iintro HC HO A46 #r46_4 D0 -
  iapply (wp_done c)
  iapply Hk $$ r44_3 KP10 r46_4 A44 HCS HT HW CD44 HC HO A46 D0

theorem p64 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(CD c 45 0 16384 -∗ OB c 33 -∗ AT c 45 2 -∗ CD c 44 0 16384 -∗ AT c 44 3 -∗ pt (rsCm 0 z2) c (rsL 0 z2 (SR m (2 * 3 + 0) (sh c 7))) -∗ pt paM c (PA m c) -∗ pa (oBlk c.val c.isLt) c -∗ RE (sh c 7) 49 1 -∗ (bigSep ({0, 1, 2, 3, 4, 5, 6} : Finset ℕ) fun h => pa (F := F) (oBlk (((sh c 7).val + 8 - h) % 8) (m8 _)) c) -∗ RE c 46 4 -∗ RE c 47 3 -∗ CP (sh c 1) 10 -∗ (RE c 45 3 -∗ RE c 44 4 -∗ AT c 45 3 -∗ pa (rsSt 1 o2) c -∗ AT c 44 4 -∗ pa (rsSt 0 z2) c -∗ pt (rsCm 0 z2) c (rsL 0 z2 (SR m (2 * 3 + 0) (sh c 7))) -∗ pt paM c (PA m c) -∗ agPay m c (c.val + 8 - 0) -∗ OB c 35 -∗ Q ⟨⟩) -∗ WP c (k0_part64 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7) Q) := by
  rw [k0_part64_eq_skeleton]
  simp only [k0_part64_skel, semSignalWord, semWaitWord, Prog.lift, Prog.bind_op, Prog.bind_ret, Prog.pure_eq_ret, wp_deviceId, int1, int2, int7]
  iintro #Hctx CD45 HO A45 CD44 A44 D0 PA OWN #rL49 OTH #r46_4 #r47_3 #KP10 Hk
  iapply (rs1_back m κ ι c 33 2 (by decide) rfl rfl rfl) $$ Hctx CD45 HO A45
  iintro HO A45 #r45_3 T1
  iapply (rs0_back m κ ι c 33 3 (by decide) rfl rfl rfl) $$ Hctx CD44 HO A44
  iintro HO A44 #r44_4 T0
  iapply (rs_cm c 0 z2 (SR m (2 * 3 + 0) (sh c 7))) $$ D0
  iintro D0
  iapply (ld_pa c c.val c.isLt (off7_eq c) (PA m c)) $$ PA
  iintro PA
  iapply (own_any c (off8_eq c)) $$ OWN
  iintro %w OWN
  iapply (own_store m c (off8_eq c)) $$ OWN
  iintro Y0
  iapply (st_miniL1 m κ ι c 33 33 (Fin.ext (k0_dev69_eq c)) rfl rfl) $$ Hctx HO rL49 OTH r46_4 r47_3
  iintro HO
  ihave #rR49 := (CP_b (sh c 1) 10 (by decide)) $$ KP10
  iapply (st_miniR m κ ι c 34 1 33 (Fin.ext (k0_dev70_eq c)) rfl rfl (by decide)) $$ Hctx HO rR49
  iintro HO
  iapply (wp_done c)
  iapply Hk $$ r45_3 r44_4 A45 T1 A44 T0 D0 PA Y0 HO

end Cert.KernelIdeal.Pf
end
-- ==== Proof.RingC.lean ====
module

public import proofs.«01_k».proof.Proof.Loads

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ) (c : Dev nD)

theorem p65 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 : BitVec 32) {Q : _ → sProp 𝕄} :
    ctx m κ ι ⊢ iprop(CR c 32 -∗ OB c 35 -∗ AT c 49 1 -∗ TK c 21 -∗ RE c 44 4 -∗ agPay m c (c.val + 8 - 0) -∗ AT c 46 4 -∗ (RE (sh c 1) 46 4 -∗ RE (sh c 1) 47 3 -∗ RE c 46 5 -∗ AT c 49 2 -∗ pa (oBlk ((c.val + 8 - 1) % 8) (m8 _)) (sh c 1) -∗ pa (oBlk ((c.val + 8 - 2) % 8) (m8 _)) (sh c 1) -∗ pa (oBlk ((c.val + 8 - 3) % 8) (m8 _)) (sh c 1) -∗ pa (oBlk ((c.val + 8 - 4) % 8) (m8 _)) (sh c 1) -∗ pa (oBlk ((c.val + 8 - 5) % 8) (m8 _)) (sh c 1) -∗ pa (oBlk ((c.val + 8 - 6) % 8) (m8 _)) (sh c 1) -∗ TK c 22 -∗ CD c 44 0 16384 -∗ CR c 34 -∗ OB c 36 -∗ AT c 46 5 -∗ agPay m c (c.val + 8 - 1) -∗ Q ⟨(Scalar.remsi (Scalar.addi v2 7#32) 8#32), (Scalar.muli v5 1#32)⟩) -∗ WP c (k0_part65 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7) Q) := by
  rw [k0_part65_eq_skeleton]
  simp only [k0_part65_skel, semSignalWord, semWaitWord, Prog.lift, Prog.bind_op, Prog.bind_ret, Prog.pure_eq_ret, wp_deviceId, int1, int2, int7]
  iintro #Hctx HC HO A49 HT #r44_4 Y0 A46 Hk
  iapply (st_mini1 m κ ι c 32 35 rfl rfl rfl) $$ Hctx HC HO A49
  iintro HC HO A49 - HM
  ihave HM := (mini_open c (sh c 1)) $$ HM
  icases HM with ⟨X0, X1, X2, X3, X4, X5, X6, #x46_4, #x47_3⟩
  iapply (ag0_send m κ ι c 35 21 4 0 35 (off9_8 c) (Fin.ext (k0_dev71_eq c)) rfl rfl rfl rfl (by decide) (by decide) rfl (by decide)) $$ Hctx HO HT r44_4 x46_4 Y0 X0
  iintro HO HT CD44
  iapply (ag0_recv m κ ι c 33 36 4 1 35 rfl (by decide) (by decide) rfl (by decide) rfl rfl rfl) $$ Hctx HC HO A46
  iintro HC HO A46 #r46_5 Y1
  iapply (wp_done c)
  iapply Hk $$ x46_4 x47_3 r46_5 A49 X1 X2 X3 X4 X5 X6 HT CD44 HC HO A46 Y1

theorem p66 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 v1286 v1298 : BitVec 32) {Q : _ → sProp 𝕄} :
    ctx m κ ι ⊢ iprop(RE c 46 5 -∗ CP c 10 -∗ RE c 47 3 -∗ OB c 36 -∗ TK c 22 -∗ RE c 45 3 -∗ RE (sh c 1) 47 3 -∗ agPay m c (c.val + 8 - 1) -∗ pa (oBlk ((c.val + 8 - 1) % 8) (m8 _)) (sh c 1) -∗ CR c 34 -∗ AT c 47 3 -∗ (CP c 11 -∗ RE c 47 4 -∗ CP c 12 -∗ TK c 23 -∗ CD c 45 0 16384 -∗ CR c 35 -∗ AT c 47 4 -∗ agPay m c (c.val + 8 - 2) -∗ OB c 39 -∗ Q (Scalar.remsi (Scalar.addi v2 6#32) 8#32)) -∗ WP c (k0_part66 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 v1286 v1298) Q) := by
  rw [k0_part66_eq_skeleton]
  simp only [k0_part66_skel, semSignalWord, semWaitWord, Prog.lift, Prog.bind_op, Prog.bind_ret, Prog.pure_eq_ret, wp_deviceId, int1, int2, int7]
  iintro #Hctx #r46_5 #KM10 #r47_3 HO HT #r45_3 #x47_3 Y1 X1 HC A47 Hk
  ihave #KM11 := (cp_10 c) $$ []
  · isplitr; · iexact KM10
    isplitr; · iexact r46_5
    iexact r47_3
  iapply (st_sigC m κ ι c 36 11 36 (Fin.ext (k0_dev72_eq c)) rfl rfl (by decide) (by decide)) $$ Hctx HO KM11
  iintro HO
  iapply (ag1_send m κ ι c 37 22 3 1 37 (off9_7 c) (Fin.ext (k0_dev73_eq c)) rfl rfl rfl rfl (by decide) (by decide) rfl (by decide)) $$ Hctx HO HT r45_3 x47_3 Y1 X1
  iintro HO HT CD45
  iapply (ag1_recv m κ ι c 34 38 3 2 37 rfl (by decide) (by decide) rfl (by decide) rfl rfl rfl) $$ Hctx HC HO A47
  iintro HC HO A47 #r47_4 Y2
  ihave #KM12 := (cp_11 c) $$ []
  · isplitr; · iexact KM11
    iexact r47_4
  iapply (st_sigC m κ ι c 38 12 38 (Fin.ext (k0_dev74_eq c)) rfl rfl (by decide) (by decide)) $$ Hctx HO KM12
  iintro HO
  iapply (wp_done c)
  iapply Hk $$ KM11 r47_4 KM12 HT CD45 HC A47 Y2 HO

theorem p67 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 v1313 : BitVec 32) {Q : _ → sProp 𝕄} :
    ctx m κ ι ⊢ iprop(CD c 44 0 16384 -∗ OB c 39 -∗ AT c 44 4 -∗ CR c 35 -∗ CS c 10 -∗ TK c 23 -∗ agPay m c (c.val + 8 - 2) -∗ pa (oBlk ((c.val + 8 - 2) % 8) (m8 _)) (sh c 1) -∗ (RE c 44 5 -∗ CP (sh c 1) 11 -∗ RE (sh c 1) 46 5 -∗ AT c 44 5 -∗ agPay m c (c.val + 8 - 0) -∗ CR c 36 -∗ CS c 11 -∗ OB c 40 -∗ TK c 24 -∗ CD c 44 0 16384 -∗ Q (Scalar.remsi (Scalar.addi v2 5#32) 8#32)) -∗ WP c (k0_part67 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 v1313) Q) := by
  rw [k0_part67_eq_skeleton]
  simp only [k0_part67_skel, semSignalWord, semWaitWord, Prog.lift, Prog.bind_op, Prog.bind_ret, Prog.pure_eq_ret, wp_deviceId, int1, int2, int7]
  iintro #Hctx CD44 HO A44 HC HCS HT Y2 X2 Hk
  iapply (ag0_back m κ ι c 39 4 0 (by decide) (by decide) rfl (by decide) rfl rfl rfl) $$ Hctx CD44 HO A44
  iintro HO A44 #r44_5 Y0
  iapply (st_credit m κ ι c 35 10 36 rfl rfl (by decide) rfl) $$ Hctx HC HO HCS
  iintro HC HO HCS #KP11
  ihave #x46_5 := (show CP (F := F) (sh c 1) 11 ⊢ RE (sh c 1) 46 5 from CP_r0 (sh c 1) 11) $$ KP11
  iapply (ag0_send m κ ι c 39 23 5 2 39 (off9_6 c) (Fin.ext (k0_dev75_eq c)) rfl rfl rfl rfl (by decide) (by decide) rfl (by decide)) $$ Hctx HO HT r44_5 x46_5 Y2 X2
  iintro HO HT CD44
  iapply (wp_done c)
  iapply Hk $$ r44_5 KP11 x46_5 A44 Y0 HC HCS HO HT CD44

theorem p68 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 v1346 : BitVec 32) {Q : _ → sProp 𝕄} :
    ctx m κ ι ⊢ iprop(CR c 36 -∗ OB c 40 -∗ AT c 46 5 -∗ CP c 12 -∗ CD c 45 0 16384 -∗ AT c 45 3 -∗ CS c 11 -∗ TK c 24 -∗ pa (oBlk ((c.val + 8 - 3) % 8) (m8 _)) (sh c 1) -∗ (RE c 46 6 -∗ CP c 13 -∗ RE c 45 4 -∗ CP (sh c 1) 12 -∗ RE (sh c 1) 47 4 -∗ AT c 46 6 -∗ AT c 45 4 -∗ agPay m c (c.val + 8 - 1) -∗ CR c 38 -∗ CS c 12 -∗ OB c 42 -∗ TK c 25 -∗ CD c 45 0 16384 -∗ Q ⟨(Scalar.remsi (Scalar.addi v2 4#32) 8#32), (Scalar.addi v2 12#32)⟩) -∗ WP c (k0_part68 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 v1346) Q) := by
  rw [k0_part68_eq_skeleton]
  simp only [k0_part68_skel, semSignalWord, semWaitWord, Prog.lift, Prog.bind_op, Prog.bind_ret, Prog.pure_eq_ret, wp_deviceId, int1, int2, int7]
  iintro #Hctx HC HO A46 #KM12 CD45 A45 HCS HT X3 Hk
  iapply (ag0_recv m κ ι c 36 40 5 3 39 rfl (by decide) (by decide) rfl (by decide) rfl rfl rfl) $$ Hctx HC HO A46
  iintro HC HO A46 #r46_6 Y3
  ihave #KM13 := (cp_12 c) $$ []
  · isplitr; · iexact KM12
    iexact r46_6
  iapply (st_sigC m κ ι c 40 13 40 (Fin.ext (k0_dev76_eq c)) rfl rfl (by decide) (by decide)) $$ Hctx HO KM13
  iintro HO
  iapply (ag1_back m κ ι c 41 3 1 (by decide) (by decide) rfl (by decide) rfl rfl rfl) $$ Hctx CD45 HO A45
  iintro HO A45 #r45_4 Y1
  iapply (st_credit m κ ι c 37 11 38 rfl rfl (by decide) rfl) $$ Hctx HC HO HCS
  iintro HC HO HCS #KP12
  ihave #x47_4 := (show CP (F := F) (sh c 1) 12 ⊢ RE (sh c 1) 47 4 from CP_r1 (sh c 1) 12) $$ KP12
  iapply (ag1_send m κ ι c 41 24 4 3 41 (off9_5 c) (Fin.ext (k0_dev77_eq c)) rfl rfl rfl rfl (by decide) (by decide) rfl (by decide)) $$ Hctx HO HT r45_4 x47_4 Y3 X3
  iintro HO HT CD45
  iapply (wp_done c)
  iapply Hk $$ r46_6 KM13 r45_4 KP12 x47_4 A46 A45 Y1 HC HCS HO HT CD45

theorem p69 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v5 v7 v1379 v1380 : BitVec 32) {Q : _ → sProp 𝕄} :
    ctx m κ ι ⊢ iprop(CR c 38 -∗ OB c 42 -∗ AT c 47 4 -∗ CP c 13 -∗ CD c 44 0 16384 -∗ AT c 44 5 -∗ CS c 12 -∗ (RE c 47 5 -∗ CP c 14 -∗ RE c 44 6 -∗ CP (sh c 1) 13 -∗ AT c 47 5 -∗ agPay m c (c.val + 8 - 4) -∗ AT c 44 6 -∗ agPay m c (c.val + 8 - 2) -∗ CR c 40 -∗ OB c 43 -∗ CS c 13 -∗ Q ⟨⟩) -∗ WP c (k0_part69 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v5 v7 v1379 v1380) Q) := by
  rw [k0_part69_eq_skeleton]
  simp only [k0_part69_skel, semSignalWord, semWaitWord, Prog.lift, Prog.bind_op, Prog.bind_ret, Prog.pure_eq_ret, wp_deviceId, int1, int2, int7]
  iintro #Hctx HC HO A47 #KM13 CD44 A44 HCS Hk
  iapply (ag1_recv m κ ι c 38 42 4 4 41 rfl (by decide) (by decide) rfl (by decide) rfl rfl rfl) $$ Hctx HC HO A47
  iintro HC HO A47 #r47_5 Y4
  ihave #KM14 := (cp_13 c) $$ []
  · isplitr; · iexact KM13
    iexact r47_5
  iapply (st_sigC m κ ι c 42 14 42 (Fin.ext (k0_dev78_eq c)) rfl rfl (by decide) (by decide)) $$ Hctx HO KM14
  iintro HO
  iapply (ag0_back m κ ι c 43 5 2 (by decide) (by decide) rfl (by decide) rfl rfl rfl) $$ Hctx CD44 HO A44
  iintro HO A44 #r44_6 Y2
  iapply (st_credit m κ ι c 39 12 40 rfl rfl (by decide) rfl) $$ Hctx HC HO HCS
  iintro HC HO HCS #KP13
  iapply (wp_done c)
  iapply Hk $$ r47_5 KM14 r44_6 KP13 A47 Y4 A44 Y2 HC HO HCS

theorem p70 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 : BitVec 32) {Q : _ → sProp 𝕄} :
    ctx m κ ι ⊢ iprop(CP (sh c 1) 13 -∗ OB c 43 -∗ TK c 25 -∗ RE c 44 6 -∗ agPay m c (c.val + 8 - 4) -∗ pa (oBlk ((c.val + 8 - 4) % 8) (m8 _)) (sh c 1) -∗ CR c 40 -∗ AT c 46 6 -∗ CP c 14 -∗ CD c 45 0 16384 -∗ AT c 45 4 -∗ CS c 13 -∗ (RE (sh c 1) 46 6 -∗ RE c 46 7 -∗ CP c 15 -∗ RE c 45 5 -∗ CP (sh c 1) 14 -∗ TK c 26 -∗ CD c 44 0 16384 -∗ AT c 46 7 -∗ agPay m c (c.val + 8 - 5) -∗ AT c 45 5 -∗ agPay m c (c.val + 8 - 3) -∗ CR c 42 -∗ OB c 45 -∗ CS c 14 -∗ Q ⟨(Scalar.remsi (Scalar.addi v2 3#32) 8#32), 128#32⟩) -∗ WP c (k0_part70 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5) Q) := by
  rw [k0_part70_eq_skeleton]
  simp only [k0_part70_skel, semSignalWord, semWaitWord, Prog.lift, Prog.bind_op, Prog.bind_ret, Prog.pure_eq_ret, wp_deviceId, int1, int2, int7]
  iintro #Hctx #KP13 HO HT #r44_6 Y4 X4 HC A46 #KM14 CD45 A45 HCS Hk
  ihave #x46_6 := (show CP (F := F) (sh c 1) 13 ⊢ RE (sh c 1) 46 6 from CP_r0 (sh c 1) 13) $$ KP13
  iapply (ag0_send m κ ι c 43 25 6 4 43 (off9_4 c) (Fin.ext (k0_dev79_eq c)) rfl rfl rfl rfl (by decide) (by decide) rfl (by decide)) $$ Hctx HO HT r44_6 x46_6 Y4 X4
  iintro HO HT CD44
  iapply (ag0_recv m κ ι c 40 44 6 5 43 rfl (by decide) (by decide) rfl (by decide) rfl rfl rfl) $$ Hctx HC HO A46
  iintro HC HO A46 #r46_7 Y5
  ihave #KM15 := (cp_14 c) $$ []
  · isplitr; · iexact KM14
    iexact r46_7
  iapply (st_sigC m κ ι c 44 15 44 (Fin.ext (k0_dev80_eq c)) rfl rfl (by decide) (by decide)) $$ Hctx HO KM15
  iintro HO
  iapply (ag1_back m κ ι c 45 4 3 (by decide) (by decide) rfl (by decide) rfl rfl rfl) $$ Hctx CD45 HO A45
  iintro HO A45 #r45_5 Y3
  iapply (st_credit m κ ι c 41 13 42 rfl rfl (by decide) rfl) $$ Hctx HC HO HCS
  iintro HC HO HCS #KP14
  iapply (wp_done c)
  iapply Hk $$ x46_6 r46_7 KM15 r45_5 KP14 HT CD44 A46 Y5 A45 Y3 HC HO HCS

theorem p71 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 v1412 c128_i32_1467 : BitVec 32) {Q : _ → sProp 𝕄} :
    ctx m κ ι ⊢ iprop(CP (sh c 1) 14 -∗ OB c 45 -∗ TK c 26 -∗ RE c 45 5 -∗ agPay m c (c.val + 8 - 5) -∗ pa (oBlk ((c.val + 8 - 5) % 8) (m8 _)) (sh c 1) -∗ CR c 42 -∗ AT c 47 5 -∗ (RE (sh c 1) 47 5 -∗ RE c 47 6 -∗ TK c 27 -∗ CD c 45 0 16384 -∗ CR c 43 -∗ OB c 46 -∗ AT c 47 6 -∗ agPay m c (c.val + 8 - 6) -∗ Q (Scalar.remsi (Scalar.addi v2 2#32) 8#32)) -∗ WP c (k0_part71 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 v1412 c128_i32_1467) Q) := by
  rw [k0_part71_eq_skeleton]
  simp only [k0_part71_skel, semSignalWord, semWaitWord, Prog.lift, Prog.bind_op, Prog.bind_ret, Prog.pure_eq_ret, wp_deviceId, int1, int2, int7]
  iintro #Hctx #KP14 HO HT #r45_5 Y5 X5 HC A47 Hk
  ihave #x47_5 := (show CP (F := F) (sh c 1) 14 ⊢ RE (sh c 1) 47 5 from CP_r1 (sh c 1) 14) $$ KP14
  iapply (ag1_send m κ ι c 45 26 5 5 45 (off9_3 c) (Fin.ext (k0_dev81_eq c)) rfl rfl rfl rfl (by decide) (by decide) rfl (by decide)) $$ Hctx HO HT r45_5 x47_5 Y5 X5
  iintro HO HT CD45
  iapply (ag1_recv m κ ι c 42 46 5 6 45 rfl (by decide) (by decide) rfl (by decide) rfl rfl rfl) $$ Hctx HC HO A47
  iintro HC HO A47 #r47_6 Y6
  iapply (wp_done c)
  iapply Hk $$ x47_5 r47_6 HT CD45 HC HO A47 Y6

end Cert.KernelIdeal.Pf
end
-- ==== Proof.Finish.lean ====
module

public import proofs.«01_k».proof.Proof.Keys
public import proofs.«01_k».proof.Proof.Front
public import proofs.«01_k».proof.Proof.Band
public import proofs.«01_k».proof.Proof.RingA
public import proofs.«01_k».proof.Proof.RingB
public import proofs.«01_k».proof.Proof.RingC

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The last credit, and the whole body -/

theorem st_creditL (c : Dev nD) {sem : Sem sig} (n ix : ℕ) {l : List Ev} {α : Type} {Q : α → sProp 𝕄}
    {kk : PUnit → Prog (TpuEff nD τ sig (Elt F) Λ₀ .tc) α} (hs : semOf 48 = .reg sem)
    (hn : crT.drop n = ⟨semOf 48, ix, 1⟩ :: crT.drop (n + 1)) (hl : lvOk ix l = true) :
    ctx m κ ι ⊢ iprop(CR c n -∗ Ob c l -∗ CS c 14 -∗ (CR c (n + 1) -∗ Ob c l -∗ AT c 48 1 -∗ CP (sh c 1) 15 -∗ WP c (kk ⟨⟩) Q)
      -∗ WP c (.op (.semWait sem 1) kk) Q) := by
  have hcell := ctx_cell m κ ι c 48
  have hdut := credit_dut m c
  have hpay := credit_pay m c
  have hexp := credit_exp m c
  have hpop := CR_pop (F := F) c n _ hn
  unfold CS Ob AT
  unfold crE at hpop
  dsimp only at hpop
  generalize semOf 48 = s at *
  subst hs
  iintro #Hctx HC ⟨⟨%W, HO⟩, Ht⟩ ⟨%T, %hT, Hat, #HT⟩ Hk
  ihave HC := hpop $$ HC
  icases HC with ⟨Hc, HC⟩
  ihave #Hi := hcell $$ Hctx
  ihave #HL := (ctx_lev m κ ι) $$ Hctx
  ihave #HM := (mayWait_l (c := c) (s := .reg sem) hl) $$ HL
  iapply (Rounds.wp_wait_rest_token 𝒱₀ ER (Rd m) (c : Thread nD τ) none (κ := κ (c, 48)) (wpE_semWait_eq 𝒱₀ (c : Thread nD τ) none Set.univ) (Set.mem_univ _)
    ix (O := tallyL (l.map (pay c))) (W := W) (R := 0) (m := 14) (T := T) (by rw [show (Rd m).expect ((c : Thread nD τ), .reg sem) 0 = _ from hexp])) $$ [Hc HO Hat]
  · isplitr; · iexact Hi
    isplitl [Hc]; · iexact Hc
    isplitl [HO]; · iexact HO
    isplitr; · iexact HM
    iexact Hat
  iintro ⟨HO, Hat, -, Hp⟩
  have hjoin : iprop((bigSep T fun j => CP (F := F) (sh c 1) j) ∗ bigSep ((Rd m).duties ((c : Thread nD τ), .reg sem) 0 \ T) fun d => (Rd m).payload ((c : Thread nD τ), .reg sem) 0 d)
      ⊢ CP (F := F) (sh c 1) 15 := by
    rw [show (Rd m).duties ((c : Thread nD τ), .reg sem) 0 = _ from hdut]
    have h1 : (bigSep (Finset.Icc 1 15 \ T) fun d => (Rd m).payload ((c : Thread nD τ), .reg sem) 0 d) = bigSep (Finset.Icc 1 15 \ T) fun d => CP (F := F) (sh c 1) d :=
      bigSep_congr fun d _ => hpay d
    rw [h1]
    have h2 := bigSep_union (Φ := fun j => CP (F := F) (sh c 1) j) (Finset.disjoint_sdiff (s := T) (t := Finset.Icc 1 15))
    rw [Finset.union_sdiff_of_subset hT.1] at h2
    refine (Entails.of_eq h2.symm).trans ?_
    exact (bigSep_elim (i := 15) (by decide))
  ihave #Hkn := hjoin $$ [Hp]
  · isplitr; · iexact HT
    iexact Hp
  iapply Hk $$ HC [HO Ht] Hat Hkn
  isplitl [HO]; · iexists _; iexact HO
  iexact Ht

variable (c : Dev nD)

theorem p72 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} (v2 v5 v7 v1445 : BitVec 32) {Q : _ → sProp 𝕄} :
    ctx m κ ι ⊢ iprop(CD c 44 0 16384 -∗ OB c 46 -∗ AT c 44 6 -∗ CR c 43 -∗ CS c 14 -∗ TK c 27 -∗ agPay m c (c.val + 8 - 6) -∗ pa (oBlk ((c.val + 8 - 6) % 8) (m8 _)) (sh c 1) -∗ AT c 46 7 -∗ (RE c 44 7 -∗ CP (sh c 1) 15 -∗ RE (sh c 1) 46 7 -∗ RE c 46 8 -∗ AT c 44 7 -∗ agPay m c (c.val + 8 - 4) -∗ AT c 48 1 -∗ TK c 28 -∗ CD c 44 0 16384 -∗ CR c 45 -∗ OB c 47 -∗ AT c 46 8 -∗ agPay m c (c.val + 8 - 7) -∗ Q ⟨⟩) -∗ WP c (k0_part72 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23 c v2 v5 v7 v1445) Q) := by
  rw [k0_part72_eq_skeleton]
  simp only [k0_part72_skel, semSignalWord, semWaitWord, Prog.lift, Prog.bind_op, Prog.bind_ret, Prog.pure_eq_ret, wp_deviceId, int1, int2, int7]
  iintro #Hctx CD44 HO A44 HC HCS HT Y6 X6 A46 Hk
  iapply (ag0_back m κ ι c 46 6 4 (by decide) (by decide) rfl (by decide) rfl rfl rfl) $$ Hctx CD44 HO A44
  iintro HO A44 #r44_7 Y4
  iapply (st_creditL m κ ι c 43 44 rfl rfl rfl) $$ Hctx HC HO HCS
  iintro HC HO HCS #KP15
  ihave #x46_7 := (show CP (F := F) (sh c 1) 15 ⊢ RE (sh c 1) 46 7 from CP_r0 (sh c 1) 15) $$ KP15
  iapply (ag0_send m κ ι c 46 27 7 6 47 (off9_2 c) (Fin.ext (k0_dev82_eq c)) rfl rfl rfl rfl (by decide) (by decide) rfl (by decide)) $$ Hctx HO HT r44_7 x46_7 Y6 X6
  iintro HO HT CD44
  iapply (ag0_recv m κ ι c 44 47 7 7 47 rfl (by decide) (by decide) rfl (by decide) rfl rfl rfl) $$ Hctx HC HO A46
  iintro HC HO A46 #r46_8 Y7
  iapply (wp_done c)
  iapply Hk $$ r44_7 KP15 x46_7 r46_8 A44 Y4 HCS HT CD44 HC HO A46 Y7

theorem wp_seq {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

end Cert.KernelIdeal.Pf
end
-- ==== Proof.Whole.lean ====
module

public import proofs.«01_k».proof.Proof.Finish

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 2000000

variable (m : (ℓ : Loc nD τ sig) → Buf (Elt F) ℓ) (κ : Dev nD × Fin 51 → ℕ) (ι : Dev nD × Fin 4 → ℕ) (c : Dev nD)

/-! ## The body of the kernel on one device -/

theorem p73 {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : _ → sProp 𝕄} :
    ctx m κ ι ⊢ iprop(OBB c 0 -∗ BB c 0 -∗ CP c 0 -∗ CD c 50 1 7 -∗ AT c 50 0 -∗ SK c 0 -∗ KA m c -∗ VA m c -∗ pt xM c (aX m c) -∗ pt wqM c (aWq m c) -∗ pa qM c -∗ TK c 0 -∗ CR c 0 -∗ AT c 9 0 -∗ AT c 10 0 -∗ AT c 11 0 -∗ AT c 12 0 -∗ AT c 13 0 -∗ AT c 14 0 -∗ AT c 15 0 -∗ LK c 0 -∗ pa kcM c -∗ pa vcM c -∗ AT c 36 0 -∗ AT c 37 0 -∗ pa ndM c -∗ AT c 1 0 -∗ AT c 2 0 -∗ AT c 3 0 -∗ AT c 4 0 -∗ AT c 5 0 -∗ AT c 6 0 -∗ AT c 7 0 -∗ pa (ndSt 0 z2) c -∗ WK c 0 -∗ AT c 42 0 -∗ pa (ndSt 1 o2) c -∗ readerAt ES (c, (0 : Fin 4)) 1 -∗ AT c 43 0 -∗ AT c 40 0 -∗ readerAt ES (c, (1 : Fin 4)) 1 -∗ CS c 0 -∗ AT c 41 0 -∗ KC0 c -∗ KC1 c -∗ AT c 16 0 -∗ AT c 17 0 -∗ AT c 18 0 -∗ AT c 19 0 -∗ AT c 20 0 -∗ AT c 21 0 -∗ AT c 22 0 -∗ AT c 23 0 -∗ AT c 24 0 -∗ AT c 25 0 -∗ AT c 26 0 -∗ AT c 27 0 -∗ AT c 28 0 -∗ AT c 29 0 -∗ AT c 38 0 -∗ AT c 39 0 -∗ AT c 32 0 -∗ AT c 33 0 -∗ AT c 34 0 -∗ AT c 35 0 -∗ pt woM c (aWo m c) -∗ pa paM c -∗ AT c 49 0 -∗ pa (rsSt 0 z2) c -∗ AT c 46 0 -∗ pa (rsSt 1 o2) c -∗ readerAt ES (c, (2 : Fin 4)) 1 -∗ AT c 47 0 -∗ AT c 44 0 -∗ readerAt ES (c, (3 : Fin 4)) 1 -∗ AT c 45 0 -∗ pa (oBlk c.val c.isLt) c -∗ (bigSep ({0, 1, 2, 3, 4, 5, 6} : Finset ℕ) fun h => pa (F := F) (oBlk (((sh c 7).val + 8 - h) % 8) (m8 _)) c) -∗ (AT c 50 1 -∗ pt xM c (aX m c) -∗ pt wqM c (aWq m c) -∗ AT c 9 1 -∗ AT c 10 1 -∗ AT c 11 1 -∗ AT c 12 1 -∗ AT c 13 1 -∗ AT c 14 1 -∗ AT c 15 1 -∗ gself m c (rest 7) -∗ gs m c fullShare 1 -∗ gs m c fullShare 2 -∗ gs m c fullShare 3 -∗ gs m c fullShare 4 -∗ gs m c fullShare 5 -∗ gs m c fullShare 6 -∗ gs m c fullShare 7 -∗ KA m c -∗ LK c 16 -∗ VA m c -∗ AT c 36 8 -∗ AT c 37 8 -∗ pt kcM c (kc m c 7 k8_7) -∗ pt vcM c (vc m c 7 k8_7) -∗ AT c 1 1 -∗ qgPay m c 1 -∗ AT c 2 1 -∗ qgPay m c 2 -∗ AT c 3 1 -∗ qgPay m c 3 -∗ AT c 4 1 -∗ qgPay m c 4 -∗ AT c 5 1 -∗ qgPay m c 5 -∗ AT c 6 1 -∗ qgPay m c 6 -∗ AT c 7 1 -∗ qgPay m c 7 -∗ readerAt ES (c, (1 : Fin 4)) 3 -∗ readerAt ES (c, (0 : Fin 4)) 4 -∗ AT c 43 3 -∗ pt (ndCm 1 o2) c (ndL 1 o2 (SN m (2 * 2 + 1) (sh c 7))) -∗ AT c 42 4 -∗ AT c 41 3 -∗ pa (ndSt 1 o2) c -∗ AT c 40 4 -∗ pa (ndSt 0 z2) c -∗ pt (ndCm 0 z2) c (ndL 0 z2 (SN m (2 * 3 + 0) (sh c 7))) -∗ pt ndM c (ND m c) -∗ DN c 16 -∗ DN c 17 -∗ DN c 18 -∗ DN c 19 -∗ DN c 20 -∗ DN c 21 -∗ DN c 22 -∗ DN c 23 -∗ DN c 24 -∗ DN c 25 -∗ DN c 26 -∗ DN c 27 -∗ DN c 28 -∗ DN c 29 -∗ DN c 38 -∗ DN c 39 -∗ DN c 32 -∗ DN c 33 -∗ DN c 34 -∗ DN c 35 -∗ pt qM c (Q0 m c) -∗ pt kbM c (KB m c) -∗ pt vbM c (VB m c) -∗ pt woM c (aWo m c) -∗ readerAt ES (c, (3 : Fin 4)) 3 -∗ readerAt ES (c, (2 : Fin 4)) 4 -∗ pt (rsCm 1 o2) c (rsL 1 o2 (SR m (2 * 2 + 1) (sh c 7))) -∗ WK c 14 -∗ pa (rsSt 1 o2) c -∗ pa (rsSt 0 z2) c -∗ pt (rsCm 0 z2) c (rsL 0 z2 (SR m (2 * 3 + 0) (sh c 7))) -∗ pt paM c (PA m c) -∗ AT c 49 2 -∗ agPay m c (c.val + 8 - 0) -∗ agPay m c (c.val + 8 - 1) -∗ agPay m c (c.val + 8 - 2) -∗ AT c 45 5 -∗ agPay m c (c.val + 8 - 3) -∗ CD c 45 0 16384 -∗ AT c 47 6 -∗ AT c 44 7 -∗ agPay m c (c.val + 8 - 4) -∗ AT c 48 1 -∗ TK c 28 -∗ CD c 44 0 16384 -∗ CR c 45 -∗ OB c 47 -∗ AT c 46 8 -∗ agPay m c (c.val + 8 - 7) -∗ Q c)
      -∗ WP c (k0_part73 xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23) Q) := by
  rw [k0_part73_eq_skeleton]
  unfold k0_part73_skel
  iintro #Hctx Z1 Z2 #Z3 Z6 Z7 Z8 Z9 Z10 Z11 Z12 Z13 Z31 Z43 Z44 Z53 Z54 Z55 Z64 Z65 Z72 Z73 Z74 Z75 Z76 Z77 Z162 Z163 Z171 Z172 Z173 Z174 Z175 Z187 Z188 Z189 Z197 Z198 Z199 Z207 Z208 Z221 Z222 Z234 Z298 Z299 Z300 Z301 Z302 Z303 Z304 Z305 Z306 Z307 Z308 Z309 Z310 Z311 Z312 Z313 Z314 Z315 Z316 Z317 Z318 Z319 Z345 Z370 Z371 Z372 Z380 Z381 Z393 Z394 Z406 Z407 Z417 Z478 Z479 Hk
  iapply (wp_seq c)
  iapply (p19 m κ ι c) $$ Hctx Z1 Z2 Z3
  iintro Z4 Z5
  try dsimp only
  iapply (wp_seq c)
  iapply (p20 m κ ι c _ _ _) $$ Hctx Z4 Z5 Z3 Z6 Z7 Z8 Z9 Z10 Z11 Z12 Z13
  iintro Z14 Z15 Z16 Z17 Z18 Z19 Z20 Z21 #Z22 Z23 Z24 Z25 Z26 Z27 Z28 Z29 Z30
  try dsimp only
  iapply (wp_seq c)
  iapply (p21 m κ ι c _) $$ Hctx Z23 Z14 Z31 Z24 Z25
  iintro Z32 Z33 Z34 Z35 Z36
  try dsimp only
  iapply (wp_seq c)
  iapply (p22 m κ ι c _) $$ Hctx Z33 Z34 Z36 Z26 Z27 Z28
  iintro Z37 Z38 Z39 Z40 Z41 Z42
  try dsimp only
  iapply (wp_seq c)
  iapply (p23 m κ ι c _ _ _) $$ Hctx Z39 Z40 Z42 Z29 Z30 Z43 Z44
  iintro Z45 Z46 Z47 Z48 Z49 Z50 Z51 Z52
  try dsimp only
  iapply (wp_seq c)
  iapply (p24 m κ ι c _ _) $$ Hctx Z49 Z50 Z53 Z54 Z55
  iintro Z56 Z57 Z58 Z59 Z60 Z61 Z62 Z63
  try dsimp only
  iapply (wp_seq c)
  iapply (p25 m κ ι c _ _) $$ Hctx Z60 Z61 Z64 Z65
  iintro Z66 Z67 Z68 Z69 Z70 Z71
  try dsimp only
  iapply (wp_seq c)
  iapply (p26 m κ ι c) $$ Hctx Z68 Z69 Z72 Z48 Z52 Z57 Z59 Z63 Z67 Z71 Z73 Z16 Z74 Z17 Z75 Z76 Z77
  iintro - - #Z78 #Z79 Z80 Z81 Z82 Z83 Z84 Z85 Z86 Z87 Z88 Z89 Z90 Z91 Z92 Z93 Z94 Z95 Z96 Z97
  try dsimp only
  iapply (wp_seq c)
  iapply (p27 m κ ι c) $$ Hctx Z96 Z97 Z91 Z90 Z78 Z92 Z79 Z94 Z93 Z95
  iintro #Z98 #Z99 Z100 Z101 Z102 Z103 Z104 Z105 Z106 Z107
  try dsimp only
  iapply (wp_seq c)
  iapply (p28 m κ ι c) $$ Hctx Z106 Z107 Z101 Z100 Z98 Z102 Z99 Z104 Z103 Z105
  iintro #Z108 #Z109 Z110 Z111 Z112 Z113 Z114 Z115 Z116 Z117
  try dsimp only
  iapply (wp_seq c)
  iapply (p29 m κ ι c) $$ Hctx Z114 Z117 Z111 Z110 Z108 Z112 Z109 Z115 Z113 Z116
  iintro #Z118 #Z119 Z120 Z121 Z122 Z123 Z124 Z125 Z126 Z127
  try dsimp only
  iapply (wp_seq c)
  iapply (p30 m κ ι c) $$ Hctx Z124 Z127 Z121 Z120 Z118 Z122 Z119 Z125 Z123
  iintro #Z128 Z129 Z130 Z131 Z132 Z133 Z134 Z135
  try dsimp only
  iapply (wp_seq c)
  iapply (p31 m κ ι c) $$ Hctx Z132 Z133 Z126 Z135 Z130 Z129 Z128 Z131 Z134
  iintro - #Z136 Z137 Z138 Z139 Z140 Z141 Z142 Z143 Z144
  try dsimp only
  iapply (wp_seq c)
  iapply (p32 m κ ι c) $$ Hctx Z141 Z142 Z137 Z144 Z139 Z138 Z136 Z140 Z143
  iintro - #Z145 Z146 Z147 Z148 Z149 Z150 Z151 Z152 Z153
  try dsimp only
  iapply (wp_seq c)
  iapply (p33 m κ ι c) $$ Hctx Z150 Z151 Z146 Z153 Z148 Z147 Z145 Z149 Z152
  iintro - - Z154 Z155 Z156 Z157 Z158 Z159 Z160 Z161
  try dsimp only
  iapply (wp_seq c)
  iapply (p34 m κ ι c) $$ Hctx Z158 Z159 Z154 Z161 Z162 Z32 Z163
  iintro - Z164 Z165 Z166 Z167 Z168 Z169 Z170
  try dsimp only
  iapply (wp_seq c)
  iapply (p35 m κ ι c) $$ Hctx Z35 Z168 Z171 Z37 Z172 Z38 Z173 Z41 Z174 Z45 Z175
  iintro Z176 Z177 Z178 Z179 Z180 Z181 Z182 Z183 Z184 Z185 Z186
  try dsimp only
  iapply (wp_seq c)
  iapply (p36 m κ ι c _ _) $$ Hctx Z47 Z184 Z187 Z167 Z188 Z46 Z189 Z22
  iintro - Z190 Z191 Z192 Z193 Z194 Z195 Z196
  try dsimp only
  iapply (wp_seq c)
  iapply (p37 m κ ι c _ _ _) $$ Hctx Z80 Z193 Z197 Z192 Z198 Z199 Z3
  iintro - #Z200 Z201 Z202 Z203 Z204 Z205 Z206
  try dsimp only
  iapply (wp_seq c)
  iapply (p38 m κ ι c _ _) $$ Hctx Z206 Z194 Z195 Z22 Z204 Z201 Z207 Z203 Z196 Z208
  iintro - #Z209 #Z210 Z211 Z212 Z213 Z214 Z215 Z216 Z217 Z218 Z219 Z220
  try dsimp only
  iapply (wp_seq c)
  iapply (p39 m κ ι c _ _) $$ Hctx Z220 Z221 Z217 Z209 Z200 Z218 Z214 Z222 Z211 Z212 Z210 Z202
  iintro #Z223 - #Z224 Z225 Z226 Z227 Z228 Z229 Z230 Z231 Z232 Z233
  try dsimp only
  iapply (wp_seq c)
  iapply (p40 m κ ι c _ _ _ _) $$ Hctx Z216 Z233 Z213 Z231 Z234 Z205 Z224 Z223 Z230 Z226
  iintro #Z235 #Z236 #Z237 Z238 Z239 Z240 Z241 Z242 Z243 Z244
  try dsimp only
  iapply (wp_seq c)
  iapply (p41 m κ ι c _ _) $$ Hctx Z243 Z227 Z228 Z235 Z237 Z240 Z242 Z215 Z238
  iintro #Z245 Z246 Z247 Z248 Z249 Z250 Z251 Z252 Z253
  try dsimp only
  iapply (wp_seq c)
  iapply (p42 m κ ι c _ _) $$ Hctx Z229 Z250 Z219 Z225 Z253 Z245 Z236 Z249 Z244 Z246 Z247
  iintro - #Z254 - Z255 Z256 Z257 Z258 Z259 Z260 Z261 Z262
  try dsimp only
  iapply (wp_seq c)
  iapply (p43 m κ ι c _ _) $$ Hctx Z257 Z259 Z232 Z252 Z248 Z239 Z241 Z254
  iintro - #Z263 #Z264 Z265 Z266 Z267 Z268 Z269 Z270 Z271
  try dsimp only
  iapply (wp_seq c)
  iapply (p44 m κ ι c _ _) $$ Hctx Z265 Z271 Z258 Z260 Z261 Z263 Z269 Z251 Z267
  iintro - - Z272 Z273 Z274 Z275 Z276 Z277 Z278 Z279 Z280
  try dsimp only
  iapply (wp_seq c)
  iapply (p45 m κ ι c _) $$ Hctx Z279 Z262 Z277 Z255 Z276 Z272 Z273 Z274
  iintro - #Z281 Z282 Z283 Z284 Z285 Z286 Z287 Z288 Z289
  try dsimp only
  iapply (wp_seq c)
  iapply (p46 m κ ι c _) $$ Hctx Z284 Z286 Z266 Z275 Z268 Z289 Z283
  iintro - - - Z290 Z291 Z292 Z293 Z294 Z295 Z296 Z297
  try dsimp only
  iapply (wp_seq c)
  iapply (p47 m κ ι c) $$ Hctx Z280 Z18 Z298 Z299 Z294 Z300 Z301 Z302 Z303 Z304 Z305 Z306 Z307 Z308 Z309 Z310 Z311 Z312 Z313 Z314 Z315 Z316 Z317 Z318 Z319 Z21
  iintro Z320 Z321 Z322 Z323 Z324 Z325 Z326 Z327 Z328 Z329 Z330 Z331 Z332 Z333 Z334 Z335 Z336 Z337 Z338 Z339 Z340 Z341 Z342 Z343 Z344
  try dsimp only
  iapply (wp_seq c)
  iapply (p48 m κ ι c) $$ Hctx Z324 Z345 Z322 Z323
  iintro Z346 Z347 Z348 Z349
  try dsimp only
  iapply (wp_seq c)
  iapply (p49 m κ ι c) $$ Hctx Z346 Z347 Z348 Z349
  iintro Z350 Z351 Z352 Z353
  try dsimp only
  iapply (wp_seq c)
  iapply (p50 m κ ι c) $$ Hctx Z350 Z351 Z352 Z353
  iintro Z354 Z355 Z356 Z357
  try dsimp only
  iapply (wp_seq c)
  iapply (p51 m κ ι c) $$ Hctx Z354 Z355 Z356 Z357
  iintro Z358 Z359 Z360 Z361
  try dsimp only
  iapply (wp_seq c)
  iapply (p52 m κ ι c) $$ Hctx Z358 Z359 Z360 Z361
  iintro Z362 Z363 Z364 Z365
  try dsimp only
  iapply (wp_seq c)
  iapply (p53 m κ ι c) $$ Hctx Z362 Z363 Z364 Z365
  iintro Z366 Z367 Z368 Z369
  try dsimp only
  iapply (wp_seq c)
  iapply (p54 m κ ι c _ _ _) $$ Hctx Z366 Z370 Z321 Z290 Z371 Z372
  iintro #Z373 Z374 Z375 Z376 Z377 Z378 Z379
  try dsimp only
  iapply (wp_seq c)
  iapply (p55 m κ ι c _ _) $$ Hctx Z376 Z287 Z288 Z281 Z373 Z379 Z375 Z380 Z378 Z381
  iintro - #Z382 #Z383 Z384 Z385 Z386 Z387 Z388 Z389 Z390 Z391 Z392
  try dsimp only
  iapply (wp_seq c)
  iapply (p56 m κ ι c _ _ _) $$ Hctx Z393 Z391 Z382 Z264 Z373 Z388 Z384 Z385 Z281 Z392 Z387 Z394 Z390
  iintro #Z395 - #Z396 Z397 Z398 Z399 Z400 Z401 Z402 Z403 Z404 Z405
  try dsimp only
  iapply (wp_seq c)
  iapply (p57 m κ ι c _ _) $$ Hctx Z386 Z402 Z406 Z407 Z405 Z396 Z395 Z373 Z401 Z285 Z398 Z399
  iintro - #Z408 - Z409 Z410 Z411 Z412 Z413 Z414 Z415 Z416
  try dsimp only
  iapply (wp_seq c)
  iapply (p58 m κ ι c _ _ _) $$ Hctx Z411 Z413 Z389 Z404 Z400 Z417 Z397 Z408 Z373 Z412
  iintro - #Z418 #Z419 #Z420 Z421 Z422 Z423 Z424 Z425 Z426 Z427 Z428
  try dsimp only
  iapply (wp_seq c)
  iapply (p59 m κ ι c _ _) $$ Hctx Z427 Z414 Z415 Z418 Z420 Z373 Z424 Z426 Z403 Z422
  iintro #Z429 Z430 Z431 Z432 Z433 Z434 Z435 Z436 Z437
  try dsimp only
  iapply (wp_seq c)
  iapply (p60 m κ ι c _ _) $$ Hctx Z416 Z434 Z409 Z410 Z437 Z429 Z419 Z373 Z433 Z428 Z430 Z431
  iintro - #Z438 - Z439 Z440 Z441 Z442 Z443 Z444 Z445 Z446
  try dsimp only
  iapply (wp_seq c)
  iapply (p61 m κ ι c _ _ _) $$ Hctx Z441 Z443 Z421 Z436 Z432 Z423 Z425 Z438 Z373 Z442
  iintro - #Z447 #Z448 #Z449 Z450 Z451 Z452 Z453 Z454 Z455 Z456 Z457
  try dsimp only
  iapply (wp_seq c)
  iapply (p62 m κ ι c _ _ _) $$ Hctx Z456 Z444 Z445 Z447 Z449 Z373 Z453 Z455 Z435 Z451
  iintro #Z458 Z459 Z460 Z461 Z462 Z463 Z464 Z465 Z466
  try dsimp only
  iapply (wp_seq c)
  iapply (p63 m κ ι c _) $$ Hctx Z446 Z463 Z439 Z462 Z457 Z459 Z460 Z373 Z450
  iintro - #Z467 #Z468 Z469 Z470 Z471 Z472 Z473 Z474 Z475 Z476 Z477
  try dsimp only
  iapply (wp_seq c)
  iapply (p64 m κ ι c _ _ _) $$ Hctx Z461 Z475 Z452 Z473 Z469 Z477 Z465 Z478 Z383 Z479 Z468 Z458 Z467
  iintro #Z480 #Z481 Z482 Z483 Z484 Z485 Z486 Z487 Z488 Z489
  try dsimp only
  iapply (wp_seq c)
  iapply (p65 m κ ι c _ _ _) $$ Hctx Z474 Z489 Z377 Z471 Z481 Z488 Z476
  iintro - #Z490 #Z491 Z492 Z493 Z494 Z495 Z496 Z497 Z498 Z499 Z500 Z501 Z502 Z503 Z504
  try dsimp only
  iapply (wp_seq c)
  iapply (p66 m κ ι c _ _ _ _ _) $$ Hctx Z491 Z448 Z458 Z502 Z499 Z480 Z490 Z504 Z493 Z501 Z464
  iintro - - #Z505 Z506 Z507 Z508 Z509 Z510 Z511
  try dsimp only
  iapply (wp_seq c)
  iapply (p67 m κ ι c _ _ _ _) $$ Hctx Z500 Z511 Z484 Z508 Z470 Z506 Z510 Z494
  iintro - - - Z512 Z513 Z514 Z515 Z516 Z517 Z518
  try dsimp only
  iapply (wp_seq c)
  iapply (p68 m κ ι c _ _ _ _) $$ Hctx Z514 Z516 Z503 Z505 Z507 Z482 Z515 Z517 Z495
  iintro - #Z519 - - - Z520 Z521 Z522 Z523 Z524 Z525 Z526 Z527
  try dsimp only
  iapply (wp_seq c)
  iapply (p69 m κ ι c _ _ _ _) $$ Hctx Z523 Z525 Z509 Z519 Z518 Z512 Z524
  iintro - #Z528 #Z529 #Z530 Z531 Z532 Z533 Z534 Z535 Z536 Z537
  try dsimp only
  iapply (wp_seq c)
  iapply (p70 m κ ι c _ _) $$ Hctx Z530 Z536 Z526 Z529 Z532 Z496 Z535 Z520 Z528 Z527 Z521 Z537
  iintro - - - #Z538 #Z539 Z540 Z541 Z542 Z543 Z544 Z545 Z546 Z547 Z548
  try dsimp only
  iapply (wp_seq c)
  iapply (p71 m κ ι c _ _ _ _ _) $$ Hctx Z539 Z547 Z540 Z538 Z543 Z497 Z546 Z531
  iintro - - Z549 Z550 Z551 Z552 Z553 Z554
  try dsimp only
  iapply (wp_seq c)
  iapply (p72 m κ ι c _ _ _ _) $$ Hctx Z541 Z552 Z533 Z551 Z548 Z549 Z554 Z498 Z542
  iintro - - - - Z555 Z556 Z557 Z558 Z559 Z560 Z561 Z562 Z563
  try dsimp only
  iapply (wp_done c)
  iapply Hk $$ Z15 Z19 Z20 Z51 Z56 Z58 Z62 Z66 Z70 Z81 Z82 Z83 Z84 Z85 Z86 Z87 Z88 Z89 Z155 Z156 Z157 Z160 Z164 Z165 Z166 Z169 Z170 Z176 Z177 Z178 Z179 Z180 Z181 Z182 Z183 Z185 Z186 Z190 Z191 Z256 Z270 Z278 Z282 Z291 Z292 Z293 Z295 Z296 Z297 Z320 Z325 Z326 Z327 Z328 Z329 Z330 Z331 Z332 Z333 Z334 Z335 Z336 Z337 Z338 Z339 Z340 Z341 Z342 Z343 Z344 Z367 Z368 Z369 Z374 Z440 Z454 Z466 Z472 Z483 Z485 Z486 Z487 Z492 Z513 Z522 Z534 Z544 Z545 Z550 Z553 Z555 Z556 Z557 Z558 Z559 Z560 Z561 Z562 Z563

end Cert.KernelIdeal.Pf
end
-- ==== Proof.Parts.lean ====
module

public import proofs.«01_k».proof.Proof.Whole

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The buffers cut into the parts the kernel addresses, and put together again -/

theorem slot_cut {ℓ : Loc nD τ sig} {I A B : Finset (Idx ℓ)} (h : I = A ∪ B) (hd : Disjoint A B) : (slot ℓ I : sProp 𝕄) ⊢ iprop(slot ℓ A ∗ slot ℓ B) := by
  subst h
  unfold slot
  iintro ⟨%f, H⟩
  ihave H := (pointsTo_union hd).1 $$ H
  icases H with ⟨H1, H2⟩
  isplitl [H1] <;> (iexists f; iassumption)
theorem slot_join {ℓ : Loc nD τ sig} {I A B : Finset (Idx ℓ)} (h : I = A ∪ B) (hd : Disjoint A B) : iprop(slot ℓ A ∗ slot ℓ B) ⊢ (slot ℓ I : sProp 𝕄) := by
  subst h
  unfold slot
  iintro ⟨⟨%f, H1⟩, ⟨%g, H2⟩⟩
  iexists _
  iapply (pointsTo_join hd)
  isplitl [H1] <;> iassumption

theorem mem_nd {s : ℕ} {h : s < 2} {i : S2x8x33x128.Idx} : i ∈ (Rect.unit (s := S2x8x33x128) ![s, 0, 0, 0] S1x8x33x128.size (inbNd s h)).set ↔ (i 0).val = s := by
  rw [Rect.mem_set_unit]
  constructor
  · intro h0
    have h1 : s ≤ (i 0).val := (h0 0).1
    have h2 : (i 0).val < s + 1 := (h0 0).2
    omega
  · intro h0 a
    fin_cases a
    · exact ⟨Nat.le_of_eq h0.symm, show (i 0).val < s + 1 by omega⟩
    · exact ⟨Nat.zero_le _, show (i 1).val < 0 + 8 by have : (i 1).val < 8 := (i 1).isLt; omega⟩
    · exact ⟨Nat.zero_le _, show (i 2).val < 0 + 33 by have : (i 2).val < 33 := (i 2).isLt; omega⟩
    · exact ⟨Nat.zero_le _, show (i 3).val < 0 + 128 by have : (i 3).val < 128 := (i 3).isLt; omega⟩
theorem mem_rs {s : ℕ} {h : s < 2} {i : S2x128x1024.Idx} : i ∈ (Rect.unit (s := S2x128x1024) ![s, 0, 0] S1x128x1024.size (inbRs s h)).set ↔ (i 0).val = s := by
  rw [Rect.mem_set_unit]
  constructor
  · intro h0
    have h1 : s ≤ (i 0).val := (h0 0).1
    have h2 : (i 0).val < s + 1 := (h0 0).2
    omega
  · intro h0 a
    fin_cases a
    · exact ⟨Nat.le_of_eq h0.symm, show (i 0).val < s + 1 by omega⟩
    · exact ⟨Nat.zero_le _, show (i 1).val < 0 + 128 by have : (i 1).val < 128 := (i 1).isLt; omega⟩
    · exact ⟨Nat.zero_le _, show (i 2).val < 0 + 1024 by have : (i 2).val < 1024 := (i 2).isLt; omega⟩

theorem set_ns (s : ℕ) (h : s < 2) : (ndSt s h).view.set = (Rect.unit (s := S2x8x33x128) ![s, 0, 0, 0] S1x8x33x128.size (inbNd s h)).set :=
  (View.set_reshape _ _).trans (View.set_slice_whole cc0_scratch5 _)
theorem set_nc (s : ℕ) (h : s < 2) : (ndCm s h).view.set = (Rect.unit (s := S2x8x33x128) ![s, 0, 0, 0] S1x8x33x128.size (inbNd s h)).set :=
  (View.set_reshape _ _).trans (View.set_slice_whole cc0_scratch6 _)
theorem set_rs (s : ℕ) (h : s < 2) : (rsSt s h).view.set = (Rect.unit (s := S2x128x1024) ![s, 0, 0] S1x128x1024.size (inbRs s h)).set :=
  (View.set_reshape _ _).trans (View.set_slice_whole cc0_scratch10 _)
theorem set_rc (s : ℕ) (h : s < 2) : (rsCm s h).view.set = (Rect.unit (s := S2x128x1024) ![s, 0, 0] S1x128x1024.size (inbRs s h)).set :=
  (View.set_reshape _ _).trans (View.set_slice_whole cc0_scratch11 _)

theorem nd_cover : (Finset.univ : Finset S2x8x33x128.Idx)
    = (Rect.unit (s := S2x8x33x128) ![0, 0, 0, 0] S1x8x33x128.size (inbNd 0 z2)).set ∪ (Rect.unit (s := S2x8x33x128) ![1, 0, 0, 0] S1x8x33x128.size (inbNd 1 o2)).set := by
  symm
  rw [Finset.eq_univ_iff_forall]
  intro i
  have h0 : (i 0).val < 2 := (i 0).isLt
  rcases (show (i 0).val = 0 ∨ (i 0).val = 1 by omega) with h | h
  · exact Finset.mem_union_left _ ((mem_nd (h := z2)).2 h)
  · exact Finset.mem_union_right _ ((mem_nd (h := o2)).2 h)
theorem nd_disj : Disjoint (Rect.unit (s := S2x8x33x128) ![0, 0, 0, 0] S1x8x33x128.size (inbNd 0 z2)).set
    (Rect.unit (s := S2x8x33x128) ![1, 0, 0, 0] S1x8x33x128.size (inbNd 1 o2)).set := by
  rw [Finset.disjoint_left]
  intro i h2 h3
  have h4 := (mem_nd (h := z2)).1 h2
  have h5 := (mem_nd (h := o2)).1 h3
  omega
theorem rs_cover : (Finset.univ : Finset S2x128x1024.Idx)
    = (Rect.unit (s := S2x128x1024) ![0, 0, 0] S1x128x1024.size (inbRs 0 z2)).set ∪ (Rect.unit (s := S2x128x1024) ![1, 0, 0] S1x128x1024.size (inbRs 1 o2)).set := by
  symm
  rw [Finset.eq_univ_iff_forall]
  intro i
  have h0 : (i 0).val < 2 := (i 0).isLt
  rcases (show (i 0).val = 0 ∨ (i 0).val = 1 by omega) with h | h
  · exact Finset.mem_union_left _ ((mem_rs (h := z2)).2 h)
  · exact Finset.mem_union_right _ ((mem_rs (h := o2)).2 h)
theorem rs_disj : Disjoint (Rect.unit (s := S2x128x1024) ![0, 0, 0] S1x128x1024.size (inbRs 0 z2)).set
    (Rect.unit (s := S2x128x1024) ![1, 0, 0] S1x128x1024.size (inbRs 1 o2)).set := by
  rw [Finset.disjoint_left]
  intro i h2 h3
  have h4 := (mem_rs (h := z2)).1 h2
  have h5 := (mem_rs (h := o2)).1 h3
  omega

theorem ns_cover' : nsM.view.set = (ndSt 0 z2).view.set ∪ (ndSt 1 o2).view.set := by
  rw [set_ns, set_ns, show nsM.view.set = Finset.univ from View.set_whole _]; exact nd_cover
theorem ns_disj' : Disjoint (ndSt 0 z2).view.set (ndSt 1 o2).view.set := by
  rw [set_ns, set_ns]; exact nd_disj
theorem ns_cut (c : Dev nD) : pa nsM c ⊢ iprop(pa (ndSt 0 z2) c ∗ pa (F := F) (ndSt 1 o2) c) := slot_cut ns_cover' ns_disj'
theorem ns_join (c : Dev nD) : iprop(pa (ndSt 0 z2) c ∗ pa (F := F) (ndSt 1 o2) c) ⊢ pa nsM c := slot_join ns_cover' ns_disj'
theorem nc_cover' : ncM.view.set = (ndCm 0 z2).view.set ∪ (ndCm 1 o2).view.set := by
  rw [set_nc, set_nc, show ncM.view.set = Finset.univ from View.set_whole _]; exact nd_cover
theorem nc_disj' : Disjoint (ndCm 0 z2).view.set (ndCm 1 o2).view.set := by
  rw [set_nc, set_nc]; exact nd_disj
theorem nc_cut (c : Dev nD) : pa ncM c ⊢ iprop(pa (ndCm 0 z2) c ∗ pa (F := F) (ndCm 1 o2) c) := slot_cut nc_cover' nc_disj'
theorem nc_join (c : Dev nD) : iprop(pa (ndCm 0 z2) c ∗ pa (F := F) (ndCm 1 o2) c) ⊢ pa ncM c := slot_join nc_cover' nc_disj'
theorem rs_cover' : rsM.view.set = (rsSt 0 z2).view.set ∪ (rsSt 1 o2).view.set := by
  rw [set_rs, set_rs, show rsM.view.set = Finset.univ from View.set_whole _]; exact rs_cover
theorem rs_disj' : Disjoint (rsSt 0 z2).view.set (rsSt 1 o2).view.set := by
  rw [set_rs, set_rs]; exact rs_disj
theorem rs_cut (c : Dev nD) : pa rsM c ⊢ iprop(pa (rsSt 0 z2) c ∗ pa (F := F) (rsSt 1 o2) c) := slot_cut rs_cover' rs_disj'
theorem rs_join (c : Dev nD) : iprop(pa (rsSt 0 z2) c ∗ pa (F := F) (rsSt 1 o2) c) ⊢ pa rsM c := slot_join rs_cover' rs_disj'
theorem rc_cover' : rcM.view.set = (rsCm 0 z2).view.set ∪ (rsCm 1 o2).view.set := by
  rw [set_rc, set_rc, show rcM.view.set = Finset.univ from View.set_whole _]; exact rs_cover
theorem rc_disj' : Disjoint (rsCm 0 z2).view.set (rsCm 1 o2).view.set := by
  rw [set_rc, set_rc]; exact rs_disj
theorem rc_cut (c : Dev nD) : pa rcM c ⊢ iprop(pa (rsCm 0 z2) c ∗ pa (F := F) (rsCm 1 o2) c) := slot_cut rc_cover' rc_disj'
theorem rc_join (c : Dev nD) : iprop(pa (rsCm 0 z2) c ∗ pa (F := F) (rsCm 1 o2) c) ⊢ pa rcM c := slot_join rc_cover' rc_disj'

theorem mem_oB {n : ℕ} {h : n < 8} {i : S1x1024x1024.Idx} : i ∈ (oBlk n h).view.set ↔ (i 1).val / 128 = n := by
  refine ⟨mem_oBlk, fun h0 => ?_⟩
  rw [show (oBlk n h).view.set = (Rect.unit (s := S1x1024x1024) ![0, 128 * n, 0] S1x128x1024.size (inbOut n h)).set from
    (View.set_reshape _ _).trans (View.set_slice_whole cc0_stg3_0 _), Rect.mem_set_unit]
  intro a
  fin_cases a
  · exact ⟨Nat.zero_le _, show (i 0).val < 0 + 1 by have : (i 0).val < 1 := (i 0).isLt; omega⟩
  · exact ⟨show 128 * n ≤ (i 1).val by omega, show (i 1).val < 128 * n + 128 by omega⟩
  · exact ⟨Nat.zero_le _, show (i 2).val < 0 + 1024 by have : (i 2).val < 1024 := (i 2).isLt; omega⟩

theorem blocks_eq (c : Dev nD) (f : Vec F S1x1024x1024 .f32) (σ : ℕ → ℕ) (hσ : ∀ o, σ o < 8) (hi : ∀ a b, a < 8 → b < 8 → σ a = σ b → a = b)
    (hs : ∀ n, n < 8 → ∃ o, o < 8 ∧ σ o = n) : pt oM c f = bigSep (Finset.range 8) fun o => pt (oBlk (σ o) (hσ o)) c f := by
  have h1 : oM.view.set = (Finset.range 8).biUnion fun o => (oBlk (σ o) (hσ o)).view.set := by
    rw [show oM.view.set = (Finset.univ : Finset S1x1024x1024.Idx) from View.set_whole _]
    symm
    rw [Finset.eq_univ_iff_forall]
    intro i
    have h0 : (i 1).val < 1024 := (i 1).isLt
    obtain ⟨o, ho, he⟩ := hs ((i 1).val / 128) (by omega)
    exact Finset.mem_biUnion.2 ⟨o, Finset.mem_range.2 ho, mem_oB.2 he.symm⟩
  unfold pt
  rw [h1]
  exact pointsTo_biUnion (ℓ := oM.view.loc (c : Thread nD τ)) (Finset.range 8) (fun o => (oBlk (σ o) (hσ o)).view.set) fun a ha b hb hab => by
    rw [Finset.disjoint_left]
    intro i h2 h3
    exact hab (hi a b (Finset.mem_range.1 ha) (Finset.mem_range.1 hb) ((mem_oB.1 h2).symm.trans (mem_oB.1 h3)))

theorem seven (Φ : ℕ → sProp 𝕄) : bigSep (Finset.range 8) Φ = iprop(Φ 7 ∗ bigSep ({0, 1, 2, 3, 4, 5, 6} : Finset ℕ) Φ) := by
  rw [show Finset.range 8 = insert 7 ({0, 1, 2, 3, 4, 5, 6} : Finset ℕ) by decide, bigSep_insert (by decide)]
  rfl

/-- Any block of the result, and the device's own. -/
def ob (c : Dev nD) (n : ℕ) (h : n < 8) : sProp 𝕄 := pa (oBlk n h) c
theorem ob_eq (c : Dev nD) (a b : ℕ) (ha : a < 8) (hb : b < 8) (h : a = b) : ob (F := F) c a ha = ob c b hb := by subst h; rfl
theorem blk_any (c : Dev nD) (f : Vec F S1x1024x1024 .f32) (n : ℕ) (h : n < 8) : pt (oBlk n h) c f ⊢ ob c n h := pt_pa (oBlk n h) c f
theorem out_any (c : Dev nD) (f : Vec F S1x1024x1024 .f32) (σ : ℕ → ℕ) (hσ : ∀ o, σ o < 8) (hi : ∀ a b, a < 8 → b < 8 → σ a = σ b → a = b)
    (hs : ∀ n, n < 8 → ∃ o, o < 8 ∧ σ o = n) : pt oM c f ⊢ iprop(ob c (σ 7) (hσ 7) ∗ bigSep ({0, 1, 2, 3, 4, 5, 6} : Finset ℕ) fun h => ob c (σ h) (hσ h)) := by
  rw [blocks_eq c f σ hσ hi hs, ← seven fun h => ob c (σ h) (hσ h)]
  exact bigSep_mono fun o _ => blk_any c f (σ o) (hσ o)

theorem out_cut' (c : Dev nD) : pa oM c ⊢ iprop(ob c c.val c.isLt
    ∗ bigSep ({0, 1, 2, 3, 4, 5, 6} : Finset ℕ) fun h => ob (F := F) c (((sh c 7).val + 8 - h) % 8) (m8 _)) := by
  have hs : (sh c 7).val < 8 := (sh c 7).isLt
  have h7 : ((sh c 7).val + 8 - 7) % 8 = c.val := by
    have h8 : c.val < 8 := c.isLt
    have : (sh c 7).val = (c.val + 7) % 8 := rfl
    omega
  have h1 : ∀ f : Vec F S1x1024x1024 .f32, _ := fun f => out_any c f (fun o => ((sh c 7).val + 8 - o) % 8) (fun o => m8 _) (sub8_inj _) (sub8_sur _ hs)
  rw [ob_eq c _ _ (m8 ((sh c 7).val + 8 - 7)) c.isLt h7] at h1
  iintro H
  unfold pa slot
  icases H with ⟨%f, H⟩
  iapply (h1 f) $$ H

theorem out_cut (c : Dev nD) : pa oM c ⊢ iprop(pa (oBlk c.val c.isLt) c
    ∗ bigSep ({0, 1, 2, 3, 4, 5, 6} : Finset ℕ) fun h => pa (F := F) (oBlk (((sh c 7).val + 8 - h) % 8) (m8 _)) c) := out_cut' c

theorem out_join (c : Dev nD) : iprop(agPay m c (c.val + 8 - 0) ∗ agPay m c (c.val + 8 - 1) ∗ agPay m c (c.val + 8 - 2) ∗ agPay m c (c.val + 8 - 3)
    ∗ agPay m c (c.val + 8 - 4) ∗ agPay m c (c.val + 8 - 5) ∗ agPay m c (c.val + 8 - 6) ∗ agPay m c (c.val + 8 - 7)) ⊢ pt oM c (OUT m) := by
  rw [blocks_eq c (OUT m) (fun o => (c.val + 8 - o) % 8) (fun o => m8 _) (sub8_inj _) (sub8_sur _ c.isLt), eight]
  exact Entails.refl _

/-! ## The end: every semaphore's counter is at zero -/

/-- `DN` holds once the rounds are over. -/
theorem dn_close (c : Dev nD) (i : Fin 51) : iprop(ctx m κ ι ∗ DN c i) ⊢ (|={Set.univ}=> semVal (cl c (semOf i)) 0 : sProp 𝕄) := by
  have h1 : ∀ r, (Rd m).duties (cl c (semOf i)) r = dut c (kd (semOf i)) r := fun r => rfl
  unfold DN
  iintro ⟨#Hctx, ⟨%R, %hR, H⟩⟩
  ihave Hc := (ctx_cell m κ ι c i) $$ Hctx
  iapply (cell_close ER (Rd m) (κ := κ (c, i)) (g := cl c (semOf i)) (Set.mem_univ _) (fun h => h) (R := R) (fun r hr => (h1 r).trans (hR r hr)))
  isplitl [Hc] <;> iassumption

theorem all_close (c : Dev nD) : iprop(ctx m κ ι ∗ bigSep Finset.univ fun i : Fin 51 => DN c i)
    ⊢ (|={Set.univ}=> bigSep Finset.univ fun i : Fin 51 => semVal (cl c (semOf i)) 0 : sProp 𝕄) :=
  (bigSep_with_persistent fun i _ => dn_close m κ ι c i).trans (bigSep_fupd _ _)

theorem fin51 (Φ : Fin 51 → sProp 𝕄) : bigSep Finset.univ Φ = bigSepL [0, 1, 2, 3, 4, 5, 6, 7, 8, 9, 10, 11, 12, 13, 14, 15, 16, 17, 18, 19, 20, 21, 22, 23, 24, 25, 26, 27,
    28, 29, 30, 31, 32, 33, 34, 35, 36, 37, 38, 39, 40, 41, 42, 43, 44, 45, 46, 47, 48, 49, 50] Φ := bigSep_univ_eq_bigSepL _ (by decide) (by decide) Φ

end Cert.KernelIdeal.Pf
end
-- ==== Proof.Fund.lean ====
module

public import Idealize.ShloMosaic.Lib.Pipeline.BigSepL
public import proofs.«01_k».proof.Proof.Keys
public import proofs.«01_k».proof.Proof.Barrier

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The launch: the credits a device starts with, and the tokens dealt to it -/

/-- A device owes this before the barrier. -/
def O₀ (d : Dev nD) : CellTallies nD τ sig ℕ := tallyL ((evBar ++ (evSc d ++ evT)).map (pay d))

/-- What arrives at device `c` of an event that every device makes. -/
def inp (c : Dev nD) (e : Ev) : Pay nD τ sig := (cl c e.s, e.ix, e.n)
def kvDue (d : Dev nD) : List (Pay nD τ sig) := (evSc d).map (pay d)
def inKV (c : Dev nD) : List (Pay nD τ sig) :=
  (if c.val = 0 then [] else [(cl c (semOf 32), 17, 131072), (cl c (semOf 34), 17, 131072)])
    ++ (if c.val = 1 then [] else [(cl c (semOf 33), 17, 16384), (cl c (semOf 35), 17, 16384)])
def T₀ (c : Dev nD) : CellTallies nD τ sig ℕ := tallyL (evBar.map (inp c) ++ (inKV c ++ evT.map (inp c)))

def shE (k : ℕ) : Dev nD ≃ Dev nD :=
  Equiv.ofBijective (fun c => sh c k) (Finite.injective_iff_bijective.mp fun a b h => by
    have h1 : (a.val + k) % 8 = (b.val + k) % 8 := congrArg Fin.val h
    have ha : a.val < 8 := a.isLt
    have hb : b.val < 8 := b.isLt
    exact Fin.ext (by omega))

theorem sum_pay (l : List Ev) : (∑ d, tallyL (l.map (pay d))) = ∑ c, tallyL (l.map (inp c)) := by
  induction l with
  | nil => rfl
  | cons e l ih =>
    simp only [List.map_cons, tallyL, Finset.sum_add_distrib]
    rw [ih]
    congr 1
    exact Fintype.sum_equiv (shE e.off) _ _ fun d => rfl

theorem kv_in : ∀ c, credOf kvDue c = inKV c := by decide +kernel

theorem sum_O₀ : (∑ d, O₀ d) = ∑ c, T₀ c := by
  unfold O₀ T₀
  simp only [List.map_append, tallyL_append, Finset.sum_add_distrib]
  rw [sum_pay, sum_pay]
  congr 2
  have h := sum_tallyL_filter (allPays kvDue) (fun x hx => by
    obtain ⟨d, -, hd⟩ := List.mem_flatMap.mp hx
    obtain ⟨e, -, rfl⟩ := List.mem_map.mp hd
    rfl)
  rw [← sum_tallyL] at h
  refine Eq.trans (Eq.symm h) (Finset.sum_congr rfl fun c _ => ?_)
  exact congrArg tallyL (kv_in c)

theorem T₀_at (d : Dev nD) (g : GSem nD τ sig) (h : T₀ d g ≠ 0) : g.1 = (d.tc : Thread nD τ) := by
  obtain ⟨i, hi⟩ := Finsupp.ne_iff.mp h
  obtain ⟨x, hx, rfl, -⟩ := tallyL_pos (Nat.pos_of_ne_zero hi)
  rcases List.mem_append.mp hx with hx | hx
  · obtain ⟨e, -, rfl⟩ := List.mem_map.mp hx; rfl
  · rcases List.mem_append.mp hx with hx | hx
    · unfold inKV at hx
      rcases List.mem_append.mp hx with hx | hx <;> split at hx <;> simp only [List.mem_cons, List.not_mem_nil, or_false] at hx <;> rcases hx with rfl | rfl <;> rfl
    · obtain ⟨e, -, rfl⟩ := List.mem_map.mp hx; rfl

/-- The events of the rounds as waits, in any order. -/
def evW (e : Ev) : SemLoc sig × ℕ × ℕ := (e.s, e.ix, e.n)
def wtW (w : Wt) : SemLoc sig × ℕ × ℕ := (w.s, w.ix, w.n)
def atD (c : Dev nD) (x : SemLoc sig × ℕ × ℕ) : Pay nD τ sig := (cl c x.1, x.2.1, x.2.2)
def halves (w : Wt) : List Wt := if w.n = 2 then [⟨w.s, w.ix, 1⟩, ⟨w.s, w.ix, 1⟩] else [w]

theorem tallyL_perm {l l' : List (Pay nD τ sig)} (h : l.Perm l') : tallyL l = tallyL l' := by
  induction h with
  | nil => rfl
  | cons x _ ih => simp only [tallyL, ih]
  | swap x y l => simp only [tallyL]; exact add_left_comm _ _ _
  | trans _ _ h1 h2 => exact h1.trans h2

theorem tallyL_halves (c : Dev nD) (l : List Wt) : tallyL ((l.flatMap halves).map (atD c ∘ wtW)) = tallyL (l.map (atD c ∘ wtW)) := by
  induction l with
  | nil => rfl
  | cons w l ih =>
    simp only [List.flatMap_cons, List.map_append, tallyL_append, ih, List.map_cons, tallyL]
    congr 1
    unfold halves
    split
    case isTrue h =>
      show tallyAt (cl c w.s) w.ix 1 + (tallyAt (cl c w.s) w.ix 1 + 0) = tallyAt (cl c w.s) w.ix w.n
      rw [add_zero, tallyAt_add, h]
    case isFalse h => exact add_zero _

theorem ev_wt : (evT.map evW).Perm ((crT.flatMap halves).map wtW) := by decide +kernel

theorem evT_in (c : Dev nD) : tallyL (evT.map (inp c)) = tallyL (crT.map (atD c ∘ wtW)) := by
  rw [← tallyL_halves]
  have h := tallyL_perm (ev_wt.map (atD c))
  rw [List.map_map, List.map_map] at h
  exact h

theorem evBar_in (c : Dev nD) : tallyL (evBar.map (inp c)) = tallyAt (cl c (semOf 50)) 1 7 := by
  show tallyAt (cl c (semOf 50)) 1 1 + (tallyAt (cl c (semOf 50)) 1 1 + (tallyAt (cl c (semOf 50)) 1 1 + (tallyAt (cl c (semOf 50)) 1 1
    + (tallyAt (cl c (semOf 50)) 1 1 + (tallyAt (cl c (semOf 50)) 1 1 + (tallyAt (cl c (semOf 50)) 1 1 + 0)))))) = _
  simp only [add_zero, tallyAt_add]

theorem cr_list (c : Dev nD) (l : List Wt) : (cred (tallyL (l.map (atD c ∘ wtW))) : sProp 𝕄) = bigSepL l (crE c) := by
  rw [cred_tallyL]
  induction l with
  | nil => rfl
  | cons w l ih => rw [List.map_cons, bigSepL_cons, bigSepL_cons, ih]; rfl

theorem kc_in (c : Dev nD) : (cred (tallyL (inKV c)) : sProp 𝕄) ⊢ iprop(KC0 c ∗ KC1 c) := by
  have e : (cred (tallyL (inKV c)) : sProp 𝕄) ⊢ iprop(cred (tallyL (if c.val = 0 then [] else [(cl c (semOf 32), 17, 131072), (cl c (semOf 34), 17, 131072)]))
      ∗ cred (tallyL (if c.val = 1 then [] else [(cl c (semOf 33), 17, 16384), (cl c (semOf 35), 17, 16384)]))) := by
    unfold inKV; rw [tallyL_append]; exact (cred_add _ _).1
  have e0 : (cred (tallyL (if c.val = 0 then [] else [(cl c (semOf 32), 17, 131072), (cl c (semOf 34), 17, 131072)])) : sProp 𝕄) ⊢ KC0 c := by
    unfold KC0
    split
    · exact Entails.of_eq cred_zero
    · rw [cred_tallyL]
      show iprop(CD c 32 17 131072 ∗ CD c 34 17 131072) ⊢ _
      exact Entails.refl _
  have e1 : (cred (tallyL (if c.val = 1 then [] else [(cl c (semOf 33), 17, 16384), (cl c (semOf 35), 17, 16384)])) : sProp 𝕄) ⊢ KC1 c := by
    unfold KC1
    split
    · exact Entails.of_eq cred_zero
    · rw [cred_tallyL]
      show iprop(CD c 33 17 16384 ∗ CD c 35 17 16384) ⊢ _
      exact Entails.refl _
  iintro H
  ihave H := e $$ H
  icases H with ⟨H1, H2⟩
  isplitl [H1]; · iapply e0; iexact H1
  iapply e1; iexact H2

theorem creds (c : Dev nD) : (launchCred O₀ c : sProp 𝕄) ⊢ iprop(CD c 50 1 7 ∗ CR c 0 ∗ KC0 c ∗ KC1 c) := by
  rw [launchCred_of_sum O₀ T₀ sum_O₀ T₀_at c]
  unfold T₀
  have e : (cred (tallyL (evBar.map (inp c) ++ (inKV c ++ evT.map (inp c)))) : sProp 𝕄) ⊢ iprop(CD c 50 1 7 ∗ cred (tallyL (inKV c)) ∗ CR c 0) := by
    unfold CR
    rw [tallyL_append, tallyL_append, evBar_in, evT_in, List.drop_zero, ← cr_list]
    iintro H
    ihave H := (cred_add _ _).1 $$ H
    icases H with ⟨H1, H⟩
    ihave H := (cred_add _ _).1 $$ H
    icases H with ⟨H2, H3⟩
    isplitl [H1]; · iexact H1
    isplitl [H2] <;> iassumption
  iintro H
  ihave H := e $$ H
  icases H with ⟨H1, H2, H3⟩
  isplitl [H1]; · iexact H1
  isplitl [H3]; · iexact H3
  iapply (kc_in c); iexact H2

/-! The tokens -/

/-- All the duties a device pays, itself or to others. -/
def allT : List Ev := evBar ++ (evKV 32 34 131072 [1, 2, 3, 4, 5, 6, 7] ++ evKV 33 35 16384 [7, 1, 2, 3, 4, 5, 6]) ++ evT ++ (tkT ++ lkT ++ scT)
def key (e : Ev) : SemLoc sig × ℕ × ℕ := (e.s, e.r, e.d)
def tokOf (c : Dev nD) (e : Ev) : GSem nD τ sig × ℕ × ℕ := (cl (sh c e.off) e.s, e.r, e.d)
theorem allT_nodup : (allT.map key).Nodup := by decide +kernel

theorem tokOf_inj (c c' : Dev nD) (e e' : Ev) (he : e ∈ allT) (he' : e' ∈ allT) (h : tokOf c e = tokOf c' e') : c = c' ∧ e = e' := by
  have h1 : key e = key e' := congrArg (fun x : GSem nD τ sig × ℕ × ℕ => (x.1.2, x.2.1, x.2.2)) h
  have h2 : e = e' := List.inj_on_of_nodup_map allT_nodup he he' h1
  subst h2
  exact ⟨(shE e.off).injective (congrArg (fun x : GSem nD τ sig × ℕ × ℕ => x.1.1.1) h), rfl⟩

theorem deal {A X : Type} (L : List A) (S : Finset X) (g : Dev nD → A → X) (hnd : L.Nodup)
    (hinj : ∀ c c' a a', a ∈ L → a' ∈ L → g c a = g c' a' → c = c' ∧ a = a') (hS : ∀ c, ∀ a ∈ L, g c a ∈ S) (Φ : X → sProp 𝕄) :
    bigSep S Φ ⊢ bigSep Finset.univ fun c : Dev nD => bigSepL L fun a => Φ (g c a) := by
  classical
  have hi : Function.Injective fun x : Dev nD × Fin L.length => g x.1 (L.get x.2) := by
    rintro ⟨c, i⟩ ⟨c', i'⟩ h
    obtain ⟨h1, h2⟩ := hinj c c' (L.get i) (L.get i') (List.get_mem _ _) (List.get_mem _ _) h
    exact Prod.ext h1 (List.nodup_iff_injective_get.mp hnd h2)
  refine (bigSep_subset (t := Finset.univ.map ⟨_, hi⟩) ?_).trans ?_
  · intro x hx
    obtain ⟨⟨c, i⟩, -, rfl⟩ := Finset.mem_map.mp hx
    exact hS c _ (List.get_mem _ _)
  · rw [bigSep_map, bigSep_univ_prod]
    refine bigSep_mono fun c _ => ?_
    have h1 : bigSep Finset.univ (fun i : Fin L.length => Φ (g c (L.get i))) = bigSepL (List.finRange L.length) fun i => Φ (g c (L.get i)) :=
      bigSep_univ_eq_bigSepL _ (by ext i; simp) (List.nodup_finRange _) _
    have h2 := bigSepL_map (fun i : Fin L.length => L.get i) (List.finRange L.length) fun a => Φ (g c a)
    rw [List.map_get_finRange] at h2
    exact Entails.of_eq (h1.trans h2.symm)

theorem bigSepL_congr' {I : Type} {l : List I} {Φ Ψ : I → sProp 𝕄} (h : ∀ i ∈ l, Φ i = Ψ i) : bigSepL l Φ ⊢ bigSepL l Ψ :=
  bigSepL_mono fun i hi => Entails.of_eq (h i hi)

def toks : Finset (GSem nD τ sig × ℕ × ℕ) := by
  classical
  exact (Finset.univ : Finset (Dev nD)).biUnion fun c => (allT.map (tokOf c)).toFinset
theorem toks_mem (c : Dev nD) (e : Ev) (he : e ∈ allT) : tokOf c e ∈ toks := by
  classical
  unfold toks
  exact Finset.mem_biUnion.mpr ⟨c, Finset.mem_univ _, List.mem_toFinset.mpr (List.mem_map_of_mem he)⟩

theorem deal_toks : (bigSep toks fun x => (dutyTok ER x.1 x.2.1 x.2.2 : sProp 𝕄)) ⊢ bigSep Finset.univ fun c : Dev nD => bigSepL allT (tok c) :=
  deal allT toks tokOf (List.Nodup.of_map _ allT_nodup) tokOf_inj toks_mem _

def wkKey (c : Dev nD) (x : Fin 4 × ℕ) : (Dev nD × Fin 4) × ℕ := ((sh c 1, x.1), x.2 - 1)
theorem wkT_nodup : (wkT.map fun x => (x.1, x.2 - 1)).Nodup := by decide +kernel
theorem wkT_pos : ∀ x ∈ wkT, x.2 - 1 + 1 = x.2 ∧ x.2 - 1 < 4 := by decide +kernel

theorem deal_wk : (bigSep ((Finset.univ : Finset (Dev nD × Fin 4)) ×ˢ Finset.range 4) fun x => (writeTok ES x.1 (x.2 + 1) : sProp 𝕄)) ⊢ bigSep Finset.univ fun c : Dev nD => WK c 0 := by
  refine (deal wkT _ wkKey (List.Nodup.of_map _ wkT_nodup) (fun c c' a a' ha ha' h => ?_) (fun c a ha => ?_) _).trans (bigSep_mono fun c _ => ?_)
  · have h1 : (a.1, a.2 - 1) = (a'.1, a'.2 - 1) := congrArg (fun x : (Dev nD × Fin 4) × ℕ => (x.1.2, x.2)) h
    have h2 := List.inj_on_of_nodup_map wkT_nodup ha ha' h1
    subst h2
    exact ⟨(shE 1).injective (congrArg (fun x : (Dev nD × Fin 4) × ℕ => x.1.1) h), rfl⟩
  · exact Finset.mem_product.mpr ⟨Finset.mem_univ _, Finset.mem_range.mpr (wkT_pos a ha).2⟩
  · unfold WK
    rw [List.drop_zero]
    refine bigSepL_congr' fun a ha => ?_
    show writeTok ES (sh c 1, a.1) (a.2 - 1 + 1) = writeTok ES (sh c 1, a.1) a.2
    rw [(wkT_pos a ha).1]

theorem own_toks (c : Dev nD) (l : List Ev) (h : ∀ e ∈ l, e.off = 0) : bigSepL l (tok c) ⊢ (bigSepL l (tkE c) : sProp 𝕄) :=
  bigSepL_congr' fun e he => by unfold tok tkE; rw [h e he, sh_zero]

theorem ts_off : ∀ e ∈ tkT, e.off = 0 := by decide +kernel
theorem lk_off : ∀ e ∈ lkT, e.off = 0 := by decide +kernel
theorem sc_off : ∀ e ∈ scT, e.off = 0 := by decide +kernel

theorem deal_own (c : Dev nD) : bigSepL allT (tok (F := F) c) ⊢ iprop(bigSepL (evBar ++ (evSc c ++ evT)) (tok c) ∗ TK c 0 ∗ LK c 0 ∗ SK c 0) := by
  unfold allT TK LK SK
  rw [List.drop_zero, List.drop_zero, List.drop_zero, bigSepL_append, bigSepL_append, bigSepL_append, bigSepL_append, bigSepL_append, bigSepL_append, bigSepL_append, bigSepL_append]
  iintro ⟨⟨⟨H1, ⟨H2, H3⟩⟩, H4⟩, ⟨⟨H5, H6⟩, H7⟩⟩
  isplitl [H1 H2 H3 H4]
  · isplitl [H1]; · iexact H1
    isplitl [H2 H3]
    · unfold evSc
      split
      · iexact H2
      · split
        · iexact H3
        · rw [bigSepL_nil]; iempintro
    · iexact H4
  isplitl [H5]; · iapply (own_toks c tkT ts_off); iexact H5
  isplitl [H6]; · iapply (own_toks c lkT lk_off); iexact H6
  iapply (own_toks c scT sc_off); iexact H7

end Cert.KernelIdeal.Pf
end
-- ==== Proof.Close.lean ====
module

public import proofs.«01_k».proof.Proof.Parts
public import proofs.«01_k».proof.Proof.Fund

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline Idealize.ShloMosaic.TalkSites

variable {F : FTy → Type} [FloatOps F] [Named F]

local notation "𝕄" => MT nD τ sig ℕ (Elt F) ℕ UU ℕ

set_option maxHeartbeats 1000000

variable (m : (ℓ : Loc nD τ sig) → Buf (Elt F) ℓ) (κ : Dev nD × Fin 51 → ℕ) (ι : Dev nD × Fin 4 → ℕ)

/-! ## The whole body, from what a device has at the start to what it has at the end -/

/-- A device's places, tokens and slots at the start. -/
def lin (c : Dev nD) : sProp 𝕄 :=
  iprop((bigSep Finset.univ fun i : Fin 51 => AT c i 0) ∗ (bigSepL (evBar ++ (evSc c ++ evT)) (tok c) ∗ TK c 0 ∗ LK c 0 ∗ SK c 0) ∗ WK c 0
    ∗ bigSep Finset.univ fun k : Fin 4 => readerAt ES (c, k) 0)
/-- The credits it waits with. -/
def startCr (c : Dev nD) : sProp 𝕄 := iprop(CD c 50 1 7 ∗ CR c 0 ∗ KC0 c ∗ KC1 c)
/-- The kernel's own buffers. -/
def scr (c : Dev nD) : sProp 𝕄 :=
  iprop(pa qM c ∗ pa gM c ∗ pa kcM c ∗ pa vcM c ∗ pa ndM c ∗ pa nsM c ∗ pa ncM c ∗ pa kbM c ∗ pa vbM c ∗ pa paM c ∗ pa rsM c ∗ pa (F := F) rcM c)

theorem dn_of (c : Dev nD) (i : Fin 51) (k : Kd) (hi : kd (semOf i) = k) (R : ℕ) (h : ∀ r, R ≤ r → dut c k r = ∅) : AT (F := F) c i R ⊢ DN c i :=
  DN_intro c i R fun r hr => by rw [hi]; exact h r hr
theorem du_bar (c : Dev nD) : ∀ r, 1 ≤ r → dut c .bar r = ∅ := fun r hr => (if_neg (by omega) : (if r = 0 then Finset.Icc 1 7 else ∅) = ∅)
theorem du_credit (c : Dev nD) : ∀ r, 1 ≤ r → dut c .credit r = ∅ := fun r hr => (if_neg (by omega) : (if r = 0 then Finset.Icc 1 15 else ∅) = ∅)
theorem du_mini (c : Dev nD) : ∀ r, 2 ≤ r → dut c .mini r = ∅ := fun r hr => (if_neg (by omega) : (if r < 2 then ({0, 1} : Finset ℕ) else ∅) = ∅)
theorem du_qgS (c : Dev nD) (o R : ℕ) (h : o = 0 ∨ 1 ≤ R) : ∀ r, R ≤ r → dut c (.qgS o) r = ∅ := fun r hr => (if_neg (by omega) : (if r = 0 ∧ o ≠ 0 then ({0} : Finset ℕ) else ∅) = ∅)
theorem du_qgR (c : Dev nD) (o R : ℕ) (h : o = 0 ∨ 1 ≤ R) : ∀ r, R ≤ r → dut c (.qgR o) r = ∅ := fun r hr => (if_neg (by omega) : (if r = 0 ∧ o ≠ 0 then ({0} : Finset ℕ) else ∅) = ∅)
theorem du_sc (c : Dev nD) (o R : ℕ) (h : 14 ≤ o) : ∀ r, R ≤ r → dut c (.sc o) r = ∅ := fun r hr => (if_neg (by omega) : (if r = 0 ∧ o < 14 ∧ c.val < 2 then ({0} : Finset ℕ) else ∅) = ∅)
theorem du_loc (c : Dev nD) (o : ℕ) : ∀ r, 8 ≤ r → dut c (.loc o) r = ∅ := fun r hr => (if_neg (by omega) : (if r < 8 then ({0} : Finset ℕ) else ∅) = ∅)
theorem du_ndS0 (c : Dev nD) : ∀ r, 4 ≤ r → dut c .ndS0 r = ∅ := fun r hr => (if_neg (by omega) : (if r < 4 then ({0} : Finset ℕ) else ∅) = ∅)
theorem du_ndS1 (c : Dev nD) : ∀ r, 3 ≤ r → dut c .ndS1 r = ∅ := fun r hr => (if_neg (by omega) : (if r < 3 then ({0} : Finset ℕ) else ∅) = ∅)
theorem du_ndR0 (c : Dev nD) : ∀ r, 4 ≤ r → dut c .ndR0 r = ∅ := fun r hr => (if_neg (by omega) : (if r < 4 then ({0} : Finset ℕ) else ∅) = ∅)
theorem du_ndR1 (c : Dev nD) : ∀ r, 3 ≤ r → dut c .ndR1 r = ∅ := fun r hr => (if_neg (by omega) : (if r < 3 then ({0} : Finset ℕ) else ∅) = ∅)
theorem du_rgS0 (c : Dev nD) : ∀ r, 8 ≤ r → dut c .rgS0 r = ∅ := fun r hr => (if_neg (by omega) : (if r < 8 then ({0} : Finset ℕ) else ∅) = ∅)
theorem du_rgS1 (c : Dev nD) : ∀ r, 6 ≤ r → dut c .rgS1 r = ∅ := fun r hr => (if_neg (by omega) : (if r < 6 then ({0} : Finset ℕ) else ∅) = ∅)
theorem du_rgR0 (c : Dev nD) : ∀ r, 8 ≤ r → dut c .rgR0 r = ∅ := fun r hr => (if_neg (by omega) : (if r < 8 then ({0} : Finset ℕ) else ∅) = ∅)
theorem du_rgR1 (c : Dev nD) : ∀ r, 6 ≤ r → dut c .rgR1 r = ∅ := fun r hr => (if_neg (by omega) : (if r < 6 then ({0} : Finset ℕ) else ∅) = ∅)

theorem at_all (c : Dev nD) : (bigSep Finset.univ fun i : Fin 51 => AT (F := F) c i 0) ⊢ iprop(AT c 0 0 ∗ AT c 1 0 ∗ AT c 2 0 ∗ AT c 3 0 ∗ AT c 4 0 ∗ AT c 5 0 ∗ AT c 6 0 ∗ AT c 7 0 ∗ AT c 8 0 ∗ AT c 9 0 ∗ AT c 10 0 ∗ AT c 11 0 ∗ AT c 12 0 ∗ AT c 13 0 ∗ AT c 14 0 ∗ AT c 15 0 ∗ AT c 16 0 ∗ AT c 17 0 ∗ AT c 18 0 ∗ AT c 19 0 ∗ AT c 20 0 ∗ AT c 21 0 ∗ AT c 22 0 ∗ AT c 23 0 ∗ AT c 24 0 ∗ AT c 25 0 ∗ AT c 26 0 ∗ AT c 27 0 ∗ AT c 28 0 ∗ AT c 29 0 ∗ AT c 30 0 ∗ AT c 31 0 ∗ AT c 32 0 ∗ AT c 33 0 ∗ AT c 34 0 ∗ AT c 35 0 ∗ AT c 36 0 ∗ AT c 37 0 ∗ AT c 38 0 ∗ AT c 39 0 ∗ AT c 40 0 ∗ AT c 41 0 ∗ AT c 42 0 ∗ AT c 43 0 ∗ AT c 44 0 ∗ AT c 45 0 ∗ AT c 46 0 ∗ AT c 47 0 ∗ AT c 48 0 ∗ AT c 49 0 ∗ AT c 50 0) := by
  rw [fin51]
  exact Entails.refl _

/-- What is left of the places at the end. -/
def ends (c : Dev nD) : sProp 𝕄 := iprop(AT c 0 0 ∗ AT c 1 1 ∗ AT c 2 1 ∗ AT c 3 1 ∗ AT c 4 1 ∗ AT c 5 1 ∗ AT c 6 1 ∗ AT c 7 1 ∗ AT c 8 0 ∗ AT c 9 1 ∗ AT c 10 1 ∗ AT c 11 1 ∗ AT c 12 1 ∗ AT c 13 1 ∗ AT c 14 1 ∗ AT c 15 1 ∗ DN c 16 ∗ DN c 17 ∗ DN c 18 ∗ DN c 19 ∗ DN c 20 ∗ DN c 21 ∗ DN c 22 ∗ DN c 23 ∗ DN c 24 ∗ DN c 25 ∗ DN c 26 ∗ DN c 27 ∗ DN c 28 ∗ DN c 29 ∗ AT c 30 0 ∗ AT c 31 0 ∗ DN c 32 ∗ DN c 33 ∗ DN c 34 ∗ DN c 35 ∗ AT c 36 8 ∗ AT c 37 8 ∗ DN c 38 ∗ DN c 39 ∗ AT c 40 4 ∗ AT c 41 3 ∗ AT c 42 4 ∗ AT c 43 3 ∗ AT c 44 8 ∗ AT c 45 6 ∗ AT c 46 8 ∗ AT c 47 6 ∗ AT c 48 1 ∗ AT c 49 2 ∗ AT c 50 1)

theorem ends_dn (c : Dev nD) : ends c ⊢ (bigSep Finset.univ fun i : Fin 51 => DN (F := F) c i) := by
  rw [fin51]
  show ends c ⊢ iprop(DN c 0 ∗ DN c 1 ∗ DN c 2 ∗ DN c 3 ∗ DN c 4 ∗ DN c 5 ∗ DN c 6 ∗ DN c 7 ∗ DN c 8 ∗ DN c 9 ∗ DN c 10 ∗ DN c 11 ∗ DN c 12 ∗ DN c 13 ∗ DN c 14 ∗ DN c 15 ∗ DN c 16 ∗ DN c 17 ∗ DN c 18 ∗ DN c 19 ∗ DN c 20 ∗ DN c 21 ∗ DN c 22 ∗ DN c 23 ∗ DN c 24 ∗ DN c 25 ∗ DN c 26 ∗ DN c 27 ∗ DN c 28 ∗ DN c 29 ∗ DN c 30 ∗ DN c 31 ∗ DN c 32 ∗ DN c 33 ∗ DN c 34 ∗ DN c 35 ∗ DN c 36 ∗ DN c 37 ∗ DN c 38 ∗ DN c 39 ∗ DN c 40 ∗ DN c 41 ∗ DN c 42 ∗ DN c 43 ∗ DN c 44 ∗ DN c 45 ∗ DN c 46 ∗ DN c 47 ∗ DN c 48 ∗ DN c 49 ∗ DN c 50)
  unfold ends
  iintro ⟨A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50⟩
  isplitl [A0]; · iapply (dn_of c 0 (.qgS 0) rfl 0 (du_qgS c 0 0 (Or.inl rfl))); iexact A0
  isplitl [A1]; · iapply (dn_of c 1 (.qgS 1) rfl 1 (du_qgS c 1 1 (Or.inr (le_refl 1)))); iexact A1
  isplitl [A2]; · iapply (dn_of c 2 (.qgS 2) rfl 1 (du_qgS c 2 1 (Or.inr (le_refl 1)))); iexact A2
  isplitl [A3]; · iapply (dn_of c 3 (.qgS 3) rfl 1 (du_qgS c 3 1 (Or.inr (le_refl 1)))); iexact A3
  isplitl [A4]; · iapply (dn_of c 4 (.qgS 4) rfl 1 (du_qgS c 4 1 (Or.inr (le_refl 1)))); iexact A4
  isplitl [A5]; · iapply (dn_of c 5 (.qgS 5) rfl 1 (du_qgS c 5 1 (Or.inr (le_refl 1)))); iexact A5
  isplitl [A6]; · iapply (dn_of c 6 (.qgS 6) rfl 1 (du_qgS c 6 1 (Or.inr (le_refl 1)))); iexact A6
  isplitl [A7]; · iapply (dn_of c 7 (.qgS 7) rfl 1 (du_qgS c 7 1 (Or.inr (le_refl 1)))); iexact A7
  isplitl [A8]; · iapply (dn_of c 8 (.qgR 0) rfl 0 (du_qgR c 0 0 (Or.inl rfl))); iexact A8
  isplitl [A9]; · iapply (dn_of c 9 (.qgR 1) rfl 1 (du_qgR c 1 1 (Or.inr (le_refl 1)))); iexact A9
  isplitl [A10]; · iapply (dn_of c 10 (.qgR 2) rfl 1 (du_qgR c 2 1 (Or.inr (le_refl 1)))); iexact A10
  isplitl [A11]; · iapply (dn_of c 11 (.qgR 3) rfl 1 (du_qgR c 3 1 (Or.inr (le_refl 1)))); iexact A11
  isplitl [A12]; · iapply (dn_of c 12 (.qgR 4) rfl 1 (du_qgR c 4 1 (Or.inr (le_refl 1)))); iexact A12
  isplitl [A13]; · iapply (dn_of c 13 (.qgR 5) rfl 1 (du_qgR c 5 1 (Or.inr (le_refl 1)))); iexact A13
  isplitl [A14]; · iapply (dn_of c 14 (.qgR 6) rfl 1 (du_qgR c 6 1 (Or.inr (le_refl 1)))); iexact A14
  isplitl [A15]; · iapply (dn_of c 15 (.qgR 7) rfl 1 (du_qgR c 7 1 (Or.inr (le_refl 1)))); iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iapply (dn_of c 30 (.sc 14) rfl 0 (du_sc c 14 0 (by omega))); iexact A30
  isplitl [A31]; · iapply (dn_of c 31 (.sc 15) rfl 0 (du_sc c 15 0 (by omega))); iexact A31
  isplitl [A32]; · iexact A32
  isplitl [A33]; · iexact A33
  isplitl [A34]; · iexact A34
  isplitl [A35]; · iexact A35
  isplitl [A36]; · iapply (dn_of c 36 (.loc 0) rfl 8 (du_loc c 0)); iexact A36
  isplitl [A37]; · iapply (dn_of c 37 (.loc 1) rfl 8 (du_loc c 1)); iexact A37
  isplitl [A38]; · iexact A38
  isplitl [A39]; · iexact A39
  isplitl [A40]; · iapply (dn_of c 40 .ndS0 rfl 4 (du_ndS0 c)); iexact A40
  isplitl [A41]; · iapply (dn_of c 41 .ndS1 rfl 3 (du_ndS1 c)); iexact A41
  isplitl [A42]; · iapply (dn_of c 42 .ndR0 rfl 4 (du_ndR0 c)); iexact A42
  isplitl [A43]; · iapply (dn_of c 43 .ndR1 rfl 3 (du_ndR1 c)); iexact A43
  isplitl [A44]; · iapply (dn_of c 44 .rgS0 rfl 8 (du_rgS0 c)); iexact A44
  isplitl [A45]; · iapply (dn_of c 45 .rgS1 rfl 6 (du_rgS1 c)); iexact A45
  isplitl [A46]; · iapply (dn_of c 46 .rgR0 rfl 8 (du_rgR0 c)); iexact A46
  isplitl [A47]; · iapply (dn_of c 47 .rgR1 rfl 6 (du_rgR1 c)); iexact A47
  isplitl [A48]; · iapply (dn_of c 48 .credit rfl 1 (du_credit c)); iexact A48
  isplitl [A49]; · iapply (dn_of c 49 .mini rfl 2 (du_mini c)); iexact A49
  iapply (dn_of c 50 .bar rfl 1 (du_bar c)); iexact A50

theorem rd4 (c : Dev nD) : (bigSep Finset.univ fun k : Fin 4 => (readerAt ES (c, k) 0 : sProp 𝕄))
    ⊢ iprop(readerAt ES (c, (0 : Fin 4)) 0 ∗ readerAt ES (c, (1 : Fin 4)) 0 ∗ readerAt ES (c, (2 : Fin 4)) 0 ∗ readerAt ES (c, (3 : Fin 4)) 0) := by
  rw [bigSep_univ_eq_bigSepL [0, 1, 2, 3] (by decide) (by decide)]
  exact Entails.refl _

theorem cp_init (c : Dev nD) : ctx m κ ι ⊢ iprop(pa ncM c -∗ pa rcM c -∗ (bigSep Finset.univ fun k : Fin 4 => readerAt ES (c, k) 0) -∗
    |={Set.univ}=> (CP c 0 ∗ readerAt ES (c, (0 : Fin 4)) 1 ∗ readerAt ES (c, (1 : Fin 4)) 1 ∗ readerAt ES (c, (2 : Fin 4)) 1 ∗ readerAt ES (c, (3 : Fin 4)) 1)) := by
  iintro #Hctx Hn Hr Hrd
  ihave Hn := (nc_cut c) $$ Hn
  icases Hn with ⟨N0, N1⟩
  ihave Hr := (rc_cut c) $$ Hr
  icases Hr with ⟨R0, R1⟩
  ihave Hrd := (rd4 c) $$ Hrd
  icases Hrd with ⟨D0, D1, D2, D3⟩
  unfold pa slot
  icases N0 with ⟨%f0, N0⟩
  icases N1 with ⟨%f1, N1⟩
  icases R0 with ⟨%f2, R0⟩
  icases R1 with ⟨%f3, R1⟩
  imod (nd0_rel m κ ι c 0 f0) $$ Hctx D0 N0 with ⟨D0, #E0⟩
  imod (nd1_rel m κ ι c 0 f1) $$ Hctx D1 N1 with ⟨D1, #E1⟩
  imod (rs0_rel m κ ι c 0 f2) $$ Hctx D2 R0 with ⟨D2, #E2⟩
  imod (rs1_rel m κ ι c 0 f3) $$ Hctx D3 R1 with ⟨D3, #E3⟩
  imodintro
  isplitr
  · iapply (show CPv (F := F) c 1 1 1 1 0 0 0 0 0 ⊢ CP c 0 from Entails.refl _)
    unfold CPv
    isplitr; · iexact E0
    isplitr; · iexact E1
    isplitr; · iexact E2
    isplitr; · iexact E3
    isplitr; · iapply (ctx_reach m κ ι c 42); iexact Hctx
    isplitr; · iapply (ctx_reach m κ ι c 43); iexact Hctx
    isplitr; · iapply (ctx_reach m κ ι c 46); iexact Hctx
    isplitr; · iapply (ctx_reach m κ ι c 47); iexact Hctx
    iapply (ctx_reach m κ ι c 49); iexact Hctx
  isplitl [D0]; · iexact D0
  isplitl [D1]; · iexact D1
  isplitl [D2]; · iexact D2
  iexact D3

set_option maxRecDepth 8000 in
theorem body_run (c : Dev nD) {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} {Q : PUnit → sProp 𝕄} :
    ctx m κ ι ⊢ iprop(lin c -∗ startCr c -∗ KA m c -∗ VA m c -∗ scr c -∗ (∃ W : Waits sig ℕ, owes (c : Thread nD τ) (O₀ c) W) -∗ pt xM c (aX m c) -∗ pt wqM c (aWq m c) -∗ pt woM c (aWo m c) -∗ pa oM c
      -∗ ((∃ W : Waits sig ℕ, owes (c : Thread nD τ) 0 W) -∗ pt xM c (aX m c) -∗ pt wqM c (aWq m c) -∗ pt woM c (aWo m c) -∗ pt oM c (OUT m) -∗ KA m c -∗ VA m c -∗ scr c
        -∗ (bigSep Finset.univ fun i : Fin 51 => semVal (cl c (semOf i)) 0) -∗ Q ⟨⟩)
      -∗ WP c (cc0_body xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23) Q) := by
  rw [cc0_body_eq_skeleton]
  unfold cc0_body_skel
  iintro #Hctx Hlin Hcr HKA HVA Hscr Ho Hx Hwq Hwo Hout Hk
  ihave Hlin := (show lin c ⊢ iprop((bigSep Finset.univ fun i : Fin 51 => AT (F := F) c i 0) ∗ (bigSepL (evBar ++ (evSc c ++ evT)) (tok c) ∗ TK c 0 ∗ LK c 0 ∗ SK c 0) ∗ WK c 0
    ∗ bigSep Finset.univ fun k : Fin 4 => readerAt ES (c, k) 0) from Entails.refl _) $$ Hlin
  icases Hlin with ⟨HAT, ⟨Htk, HTK, HLK, HSK⟩, HWK, Hrd⟩
  ihave HAT := (at_all c) $$ HAT
  icases HAT with ⟨A0, A1, A2, A3, A4, A5, A6, A7, A8, A9, A10, A11, A12, A13, A14, A15, A16, A17, A18, A19, A20, A21, A22, A23, A24, A25, A26, A27, A28, A29, A30, A31, A32, A33, A34, A35, A36, A37, A38, A39, A40, A41, A42, A43, A44, A45, A46, A47, A48, A49, A50⟩
  ihave Hcr := (show startCr c ⊢ iprop(CD c 50 1 7 ∗ CR c 0 ∗ KC0 c ∗ KC1 (F := F) c) from Entails.refl _) $$ Hcr
  icases Hcr with ⟨Cbar, HCR, K0, K1⟩
  ihave Hscr := (show scr c ⊢ iprop(pa qM c ∗ pa gM c ∗ pa kcM c ∗ pa vcM c ∗ pa ndM c ∗ pa nsM c ∗ pa ncM c ∗ pa kbM c ∗ pa vbM c ∗ pa paM c ∗ pa rsM c ∗ pa (F := F) rcM c) from Entails.refl _) $$ Hscr
  icases Hscr with ⟨Sq, Sg, Skc, Svc, Snd, Sns, Snc, Skb, Svb, Spa, Srs, Src⟩
  imod (cp_init m κ ι c) $$ Hctx Snc Src Hrd with ⟨#HCP, D0, D1, D2, D3⟩
  ihave Hbb := (bb_init c) $$ [Sg Skb Svb]
  · isplitl [Sg]; · iexact Sg
    isplitl [Skb] <;> iassumption
  ihave Sns := (ns_cut c) $$ Sns
  icases Sns with ⟨Sn0, Sn1⟩
  ihave Srs := (rs_cut c) $$ Srs
  icases Srs with ⟨Sr0, Sr1⟩
  ihave Hout := (out_cut c) $$ Hout
  icases Hout with ⟨Oown, Oth⟩
  ihave HCS := (CS_zero c) $$ A48
  ihave Ho := (show iprop((∃ W : Waits sig ℕ, owes (c : Thread nD τ) (O₀ c) W) ∗ bigSepL (evBar ++ (evSc c ++ evT)) (tok c)) ⊢ OBB (F := F) c 0 from Entails.refl _) $$ [Ho Htk]
  · isplitl [Ho] <;> iassumption
  iapply (wp_seq c)
  iapply (p73 m κ ι c) $$ Hctx Ho Hbb HCP Cbar A50 HSK HKA HVA Hx Hwq Sq HTK HCR A9 A10 A11 A12 A13 A14 A15 HLK Skc Svc A36 A37 Snd A1 A2 A3 A4 A5 A6 A7 Sn0 HWK A42 Sn1 D0 A43 A40 D1 HCS A41 K0 K1 A16 A17 A18 A19 A20 A21 A22 A23 A24 A25 A26 A27 A28 A29 A38 A39 A32 A33 A34 A35 Hwo Spa A49 Sr0 A46 Sr1 D2 A47 A44 D3 A45 Oown Oth
  iintro A50 Hx Hwq A9 A10 A11 A12 A13 A14 A15 Gs G1 G2 G3 G4 G5 G6 G7 HKA - HVA A36 A37 FkcM FvcM A1 P1 A2 P2 A3 P3 A4 P4 A5 P5 A6 P6 A7 P7 - - A43 Nc1 A42 A41 Sn1 A40 Sn0 Nc0 FndM A16 A17 A18 A19 A20 A21 A22 A23 A24 A25 A26 A27 A28 A29 A38 A39 A32 A33 A34 A35 FqM FkbM FvbM Hwo - - Rc1 - Sr1 Sr0 Rc0 FpaM A49 Y0 Y1 Y2 A45 Y3 CD45 A47 A44 Y4 A48 - CD44 - HO A46 Y7
  simp only [Prog.lift, Prog.bind_op, Prog.bind_ret, Prog.pure_eq_ret]
  iapply (ag1_back m κ ι c 47 5 5 (by decide) (by decide) rfl (by decide) rfl rfl rfl) $$ Hctx CD45 HO A45
  iintro HO A45 - Y5
  iapply (ag0_back m κ ι c 47 7 6 (by decide) (by decide) rfl (by decide) rfl rfl rfl) $$ Hctx CD44 HO A44
  iintro HO A44 - Y6
  ihave Hend := (show iprop(AT c 0 0 ∗ AT c 1 1 ∗ AT c 2 1 ∗ AT c 3 1 ∗ AT c 4 1 ∗ AT c 5 1 ∗ AT c 6 1 ∗ AT c 7 1 ∗ AT c 8 0 ∗ AT c 9 1 ∗ AT c 10 1 ∗ AT c 11 1 ∗ AT c 12 1 ∗ AT c 13 1 ∗ AT c 14 1 ∗ AT c 15 1 ∗ DN c 16 ∗ DN c 17 ∗ DN c 18 ∗ DN c 19 ∗ DN c 20 ∗ DN c 21 ∗ DN c 22 ∗ DN c 23 ∗ DN c 24 ∗ DN c 25 ∗ DN c 26 ∗ DN c 27 ∗ DN c 28 ∗ DN c 29 ∗ AT c 30 0 ∗ AT c 31 0 ∗ DN c 32 ∗ DN c 33 ∗ DN c 34 ∗ DN c 35 ∗ AT c 36 8 ∗ AT c 37 8 ∗ DN c 38 ∗ DN c 39 ∗ AT c 40 4 ∗ AT c 41 3 ∗ AT c 42 4 ∗ AT c 43 3 ∗ AT c 44 8 ∗ AT c 45 6 ∗ AT c 46 8 ∗ AT c 47 6 ∗ AT c 48 1 ∗ AT c 49 2 ∗ AT c 50 1) ⊢ ends (F := F) c from Entails.refl _) $$ [A0 A1 A2 A3 A4 A5 A6 A7 A8 A9 A10 A11 A12 A13 A14 A15 A16 A17 A18 A19 A20 A21 A22 A23 A24 A25 A26 A27 A28 A29 A30 A31 A32 A33 A34 A35 A36 A37 A38 A39 A40 A41 A42 A43 A44 A45 A46 A47 A48 A49 A50]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    isplitl [A27]; · iexact A27
    isplitl [A28]; · iexact A28
    isplitl [A29]; · iexact A29
    isplitl [A30]; · iexact A30
    isplitl [A31]; · iexact A31
    isplitl [A32]; · iexact A32
    isplitl [A33]; · iexact A33
    isplitl [A34]; · iexact A34
    isplitl [A35]; · iexact A35
    isplitl [A36]; · iexact A36
    isplitl [A37]; · iexact A37
    isplitl [A38]; · iexact A38
    isplitl [A39]; · iexact A39
    isplitl [A40]; · iexact A40
    isplitl [A41]; · iexact A41
    isplitl [A42]; · iexact A42
    isplitl [A43]; · iexact A43
    isplitl [A44]; · iexact A44
    isplitl [A45]; · iexact A45
    isplitl [A46]; · iexact A46
    isplitl [A47]; · iexact A47
    isplitl [A48]; · iexact A48
    isplitl [A49]; · iexact A49
    iexact A50
  ihave Hend := (ends_dn c) $$ Hend
  imod (all_close m κ ι c) $$ [Hend] with Hsem
  · isplitr; · iexact Hctx
    iexact Hend
  ihave Hout := (out_join m c) $$ [Y0 Y1 Y2 Y3 Y4 Y5 Y6 Y7]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6] <;> iassumption
  ihave Sg := (rows_back m c) $$ [P1 P2 P3 P4 P5 P6 P7 Gs G1 G2 G3 G4 G5 G6 G7]
  · isplitl [P1]; · iexact P1
    isplitl [P2]; · iexact P2
    isplitl [P3]; · iexact P3
    isplitl [P4]; · iexact P4
    isplitl [P5]; · iexact P5
    isplitl [P6]; · iexact P6
    isplitl [P7]; · iexact P7
    isplitl [Gs]; · iexact Gs
    isplitl [G1]; · iexact G1
    isplitl [G2]; · iexact G2
    isplitl [G3]; · iexact G3
    isplitl [G4]; · iexact G4
    isplitl [G5]; · iexact G5
    isplitl [G6]; · iexact G6
    iexact G7
  ihave Nc0 := (pt_pa (ndCm 0 z2) c _) $$ Nc0
  ihave Nc1 := (pt_pa (ndCm 1 o2) c _) $$ Nc1
  ihave Rc0 := (pt_pa (rsCm 0 z2) c _) $$ Rc0
  ihave Rc1 := (pt_pa (rsCm 1 o2) c _) $$ Rc1
  ihave Snc := (nc_join c) $$ [Nc0 Nc1]
  · isplitl [Nc0] <;> iassumption
  ihave Src := (rc_join c) $$ [Rc0 Rc1]
  · isplitl [Rc0] <;> iassumption
  ihave Sns := (ns_join c) $$ [Sn0 Sn1]
  · isplitl [Sn0] <;> iassumption
  ihave Srs := (rs_join c) $$ [Sr0 Sr1]
  · isplitl [Sr0] <;> iassumption
  ihave Sq := (pt_pa qM c _) $$ FqM
  ihave Skc := (pt_pa kcM c _) $$ FkcM
  ihave Svc := (pt_pa vcM c _) $$ FvcM
  ihave Snd := (pt_pa ndM c _) $$ FndM
  ihave Skb := (pt_pa kbM c _) $$ FkbM
  ihave Svb := (pt_pa vbM c _) $$ FvbM
  ihave Spa := (pt_pa paM c _) $$ FpaM
  ihave Hscr := (show iprop(pa qM c ∗ pa gM c ∗ pa kcM c ∗ pa vcM c ∗ pa ndM c ∗ pa nsM c ∗ pa ncM c ∗ pa kbM c ∗ pa vbM c ∗ pa paM c ∗ pa rsM c ∗ pa (F := F) rcM c) ⊢ scr c from Entails.refl _) $$ [Sq Sg Skc Svc Snd Sns Snc Skb Svb Spa Srs Src]
  · isplitl [Sq]; · iexact Sq
    isplitl [Sg]; · iexact Sg
    isplitl [Skc]; · iexact Skc
    isplitl [Svc]; · iexact Svc
    isplitl [Snd]; · iexact Snd
    isplitl [Sns]; · iexact Sns
    isplitl [Snc]; · iexact Snc
    isplitl [Skb]; · iexact Skb
    isplitl [Svb]; · iexact Svb
    isplitl [Spa]; · iexact Spa
    isplitl [Srs]; · iexact Srs
    iexact Src
  ihave HO := (show OB (F := F) c 47 ⊢ iprop(∃ W : Waits sig ℕ, owes (c : Thread nD τ) 0 W) from (by unfold OB Ob; iintro ⟨H, -⟩; iexact H)) $$ HO
  iapply (wp_done c)
  iapply Hk $$ HO Hx Hwq Hwo Hout HKA HVA Hscr Hsem

end Cert.KernelIdeal.Pf
end
-- ==== Proof.Launch.lean ====
module

public import proofs.«01_k».proof.Proof.Close
public import proofs.«01_k».proof.Proof.Gen.KernelIdeal.Points

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites
open Idealize.ShloMosaic.Pipeline (Dat Cfg Window BodyObligation cellOf)

variable {F : FTy → Type} [FloatOps F] [Named F]

local notation "𝕄" => MT nD τ sig ℕ (Elt F) ℕ UU ℕ

set_option maxHeartbeats 1000000

variable (m : (ℓ : Loc nD τ sig) → Buf (Elt F) ℓ) (ρ : Dev nD → PrngReg)

/-! ## The launch's ghost state -/

/-- The kernel's own counters: all but the barrier's. -/
def osem (i : Fin 50) : SemLoc sig := semOf i.castSucc
theorem ownSemFacts : Pipeline.OwnSemFacts cfg0.spec osem := by decide +kernel

def kcell (x : Dev nD × Fin 51) : GSem nD τ sig := cl x.1 (semOf x.2)
theorem semOf_injective : Function.Injective semOf := by decide +kernel
theorem kcell_injective : Function.Injective kcell := by
  rintro ⟨c, k⟩ ⟨c', k'⟩ h
  have h1 : c = c' := congrArg (fun g : GSem nD τ sig => g.1.1) h
  have h2 : k = k' := semOf_injective (congrArg Prod.snd h)
  rw [h1, h2]
def cells51 : Finset (GSem nD τ sig) := Finset.univ.map ⟨kcell, kcell_injective⟩

def u₀ : UU :=
  (initOf (Pipeline.cells cfgs cellOf_inj) (Pipeline.launchToks cfgs cellOf_inj), (initOf cells51 toks, initSlots Finset.univ 4))

/-- What every device may read of the launch: the counters' rounds and the slots. -/
def slotInvs : sProp 𝕄 := iprop(∃ ι : Dev nD × Fin 4 → ℕ, bigSep Finset.univ fun k : Dev nD × Fin 4 => slotInv ES (ι k) k (slotOf k))
instance slotInvs_persistent : BI.Persistent (slotInvs (F := F)) := by unfold slotInvs; infer_instance

/-- What stays with device `c` from the launch: its places, its tokens, its writes and its readers' counts. -/
def linT (c : Dev nD) : sProp 𝕄 :=
  iprop(bigSepL allT (tok c) ∗ WK c 0 ∗ bigSep Finset.univ fun k : Fin 4 => readerAt ES (c, k) 0)

def G (c : Dev nD) : sProp 𝕄 :=
  iprop((bigSep Finset.univ fun k : Fin 51 => roundState ER (Rd m) (kcell (c, k)) 0)
    ∗ (bigSep Finset.univ fun k : Fin 51 => reached ER (kcell (c, k)) 0)
    ∗ (bigSep Finset.univ fun k : Fin 51 => atPos ER (kcell (c, k)) 0 ∅ 0) ∗ linT c ∗ slotInvs)

def recs (κ : Dev nD × Fin 51 → ℕ) (ι : Dev nD × Fin 4 → ℕ) : sProp 𝕄 :=
  iprop((bigSep Finset.univ fun x : Dev nD × Fin 51 => cellInv ER (Rd m) (κ x) (cl x.1 (semOf x.2)))
    ∗ (bigSep Finset.univ fun x : Dev nD × Fin 51 => reached ER (cl x.1 (semOf x.2)) 0)
    ∗ (bigSep Finset.univ fun k : Dev nD × Fin 4 => slotInv ES (ι k) k (slotOf k)))
instance recs_persistent (κ : Dev nD × Fin 51 → ℕ) (ι : Dev nD × Fin 4 → ℕ) : BI.Persistent (recs m κ ι) := by unfold recs; infer_instance

def G' (c : Dev nD) : sProp 𝕄 := iprop(∃ κ ι, recs m κ ι ∗ lin c)

theorem fund_all : BI.own ((embR : Emb (URounds (GSem nD τ sig) ℕ × USlots (Dev nD × Fin 4)) 𝕄) (initOf cells51 toks, initSlots Finset.univ 4)) ⊢ (|={Set.univ}=> bigSep Finset.univ (G m) : sProp 𝕄) := by
  have hX (Φ : GSem nD τ sig → sProp 𝕄) : bigSep cells51 Φ = bigSep Finset.univ fun c : Dev nD => bigSep Finset.univ fun k : Fin 51 => Φ (kcell (c, k)) := by
    unfold cells51; rw [bigSep_map, bigSep_univ_prod]; rfl
  have hR : (bigSep Finset.univ fun k : Dev nD × Fin 4 => (readerAt ES k 0 : sProp 𝕄)) = bigSep Finset.univ fun c : Dev nD => bigSep Finset.univ fun k : Fin 4 => readerAt ES (c, k) 0 :=
    bigSep_univ_prod _
  iintro HX
  ihave HX := (own_pair_emb embR _ _) $$ HX
  icases HX with ⟨HX, HS⟩
  imod (Rounds.fund ER (Rd m) cells51 toks) $$ HX with ⟨Hst, Hr, Hat, Htok⟩
  imod (slots_init ES Finset.univ 4 slotOf) $$ HS with ⟨%ι, -, #Hsl, Hrd, Hwk⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (deal_toks (F := F)) $$ Htok
  ihave Hwk := (deal_wk (F := F)) $$ Hwk
  ihave Hrd := (Entails.of_eq hR) $$ Hrd
  unfold G linT; simp only [bigSep_sep']
  isplitl [Hst]; · iexact Hst
  isplitl [Hr]; · iexact Hr
  isplitl [Hat]; · iexact Hat
  isplitl [Htok Hwk Hrd]
  · isplitl [Htok]; · iexact Htok
    isplitl [Hwk] <;> iassumption
  iapply (BI.bigSep_of_persistent Finset.univ slotInvs)
  unfold slotInvs
  iexists ι
  iexact Hsl

theorem fin_last (Φ : Fin 51 → sProp 𝕄) : bigSep Finset.univ Φ = iprop(Φ 50 ∗ bigSep Finset.univ fun k : Fin 50 => Φ k.castSucc) := by
  have e : (Finset.univ : Finset (Fin 51)) = insert 50 (Finset.univ.map Fin.castSuccEmb) := by decide +kernel
  rw [e, bigSep_insert (by decide +kernel), bigSep_map]
  rfl

theorem unscopedSems0_eq (c : Dev nD) : (unscopedSems0 c : sProp 𝕄) = semVal (cl c (semOf 50)) 0 := by
  unfold unscopedSems0; rw [bigSep_eq_bigSepL_of_eq [semOf 50] (by decide +kernel) (by decide +kernel)]; rfl

theorem sems0_eq (c : Dev nD) :
    (bigSep Finset.univ fun k : Fin 51 => semVal (cl c (semOf k)) 0 : sProp 𝕄)
      = iprop(unscopedSems0 c ∗ Pipeline.ownSems0 (Ix := ℕ) (Name := ℕ) (U := UU) (Lvl := ℕ) (Val := Elt F) (τ := τ) osem c) := by
  rw [fin_last, unscopedSems0_eq]; rfl

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 51 => reached ER (kcell (c, k)) 0)
          ∗ (bigSep Finset.univ fun k : Fin 51 => atPos ER (kcell (c, k)) 0 ∅ 0) ∗ linT c ∗ slotInvs) := by
  unfold G
  iintro ⟨Hos, Hus, Hst, Hrest⟩
  ihave Hv := (Entails.of_eq (sems0_eq (F := F) c).symm) $$ [Hos Hus]
  · isplitl [Hus] <;> iassumption
  imod (show iprop((bigSep Finset.univ fun k : Fin 51 => semVal (cl c (semOf k)) 0) ∗ bigSep Finset.univ fun k : Fin 51 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  iexact Hrest

theorem lin_intro (c : Dev nD) : iprop((bigSep Finset.univ fun k : Fin 51 => atPos ER (kcell (c, k)) 0 ∅ 0) ∗ linT c) ⊢ (lin c : sProp 𝕄) := by
  unfold linT lin
  iintro ⟨Hat, Htok, Hwk, Hrd⟩
  isplitl [Hat]; · iexact Hat
  isplitl [Htok]; · iapply (deal_own c); iexact Htok
  isplitl [Hwk] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (κ : Dev nD × Fin 51 → ℕ) (ι : Dev nD × Fin 4 → ℕ) (c : Dev nD) :
    iprop(recs m κ ι ∗ ((bigSep Finset.univ fun k : Fin 51 => atPos ER (kcell (c, k)) 0 ∅ 0) ∗ linT c)) ⊢ G' m c := by
  unfold G'
  iintro ⟨HR, HL⟩
  iexists κ, ι
  isplitl [HR]; · iexact HR
  iapply (lin_intro c); iexact HL

theorem regroup :
    (bigSep Finset.univ fun c : Dev nD => iprop((bigSep Finset.univ fun k => iprop(∃ κ : ℕ, cellInv ER (Rd m) κ (kcell (c, k))))
          ∗ (bigSep Finset.univ fun k : Fin 51 => reached ER (kcell (c, k)) 0)
          ∗ (bigSep Finset.univ fun k : Fin 51 => atPos ER (kcell (c, k)) 0 ∅ 0) ∗ linT c ∗ slotInvs) : sProp 𝕄)
      ⊢ bigSep Finset.univ (G' m) := by
  rw [bigSep_sep', bigSep_sep', bigSep_sep', bigSep_sep', ← bigSep_univ_prod (fun ck : Dev nD × Fin 51 => iprop(∃ κ : ℕ, cellInv ER (Rd m) κ (kcell ck))),
    ← bigSep_univ_prod (fun ck : Dev nD × Fin 51 => (reached ER (kcell ck) 0 : sProp 𝕄))]
  iintro ⟨HI, #HR, Hat, Hl, Hs⟩
  ihave HK := (BI.bigSep_exists_pi Finset.univ (fun (ck : Dev nD × Fin 51) (κ : ℕ) => (cellInv ER (Rd m) κ (kcell ck) : sProp 𝕄))) $$ HI
  icases HK with ⟨%κ, #HI⟩
  ihave Hs := (show (bigSep Finset.univ fun _ : Dev nD => slotInvs (F := F)) ⊢ iprop(∃ ι : Dev nD × Fin 4 → ℕ, bigSep Finset.univ fun k : Dev nD × Fin 4 => slotInv ES (ι k) k (slotOf k)) from bigSep_elim (Φ := fun _ : Dev nD => slotInvs (F := F)) (Finset.mem_univ (0 : Dev nD))) $$ Hs
  icases Hs with ⟨%ι, #Hs⟩
  iapply (bigSep_with_persistent (R := recs m κ ι) fun c _ => G'_intro m κ ι c)
  isplitr
  · unfold recs
    isplitl; · iexact HI
    isplitl; · iexact HR
    iexact Hs
  · iapply (Entails.of_eq (bigSep_sep' Finset.univ (fun c : Dev nD => bigSep Finset.univ fun k : Fin 51 => (atPos ER (kcell (c, k)) 0 ∅ 0 : sProp 𝕄)) linT).symm)
    isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Pf
end
-- ==== Proof.RunMain.lean ====
module

public import proofs.«01_k».proof.Proof.Launch
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites
open Idealize.ShloMosaic.Pipeline (Dat Cfg Window BodyObligation cellOf)

variable {F : FTy → Type} [FloatOps F] [Named F]

local notation "𝕄" => MT nD τ sig ℕ (Elt F) ℕ UU ℕ

set_option maxHeartbeats 1000000

variable (m : (ℓ : Loc nD τ sig) → Buf (Elt F) ℓ) (ρ : Dev nD → PrngReg)

/-! ## The pipeline's proof data -/

theorem fin_N (t : Fin cfg0.N) : t = t0_0 := fin_N0 t

/-- What device `c`'s body starts from. -/
def start (c : Dev nD) : sProp 𝕄 := iprop((∃ κ ι, ctx m κ ι ∗ lin c) ∗ startCr c ∗ KA m c ∗ VA m c)
def sems (c : Dev nD) : sProp 𝕄 := bigSep Finset.univ fun i : Fin 51 => semVal (cl c (semOf i)) 0
def Φ₀ (c : Dev nD) : sProp 𝕄 := iprop(start m c ∗ scr c)
/-- What it leaves: the caches, the scratch buffers and every counter at zero. -/
def Φ₁ (c : Dev nD) : sProp 𝕄 := iprop((KA m c ∗ VA m c) ∗ scr c ∗ sems c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => aX m c
    | ⟨1, _⟩ => aWq m c
    | ⟨2, _⟩ => aWo m c
    | ⟨3, _⟩ => OUT m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem blkX (c : Dev nD) (t : Fin cfg0.N) : ((cfg0.win (0 : Fin 4)).blk t).view.read (Elt F) (m ((c : Thread nD τ).loc main_arg0)) = aX m c := by
  rw [fin_N t]; funext i; unfold aX
  show m ((c : Thread nD τ).loc main_arg0) _ = m ((c : Thread nD τ).loc main_arg0) _
  congr 1
  funext a; apply Fin.ext; fin_cases a <;> exact (Nat.zero_add _).trans (Nat.one_mul _)
theorem blkWq (c : Dev nD) (t : Fin cfg0.N) : ((cfg0.win (1 : Fin 4)).blk t).view.read (Elt F) (m ((c : Thread nD τ).loc main_arg1)) = aWq m c := by
  rw [fin_N t]; funext i; unfold aWq
  show m ((c : Thread nD τ).loc main_arg1) _ = m ((c : Thread nD τ).loc main_arg1) _
  congr 1
  funext a; apply Fin.ext; fin_cases a <;> exact (Nat.zero_add _).trans (Nat.one_mul _)
theorem blkWo (c : Dev nD) (t : Fin cfg0.N) : ((cfg0.win (2 : Fin 4)).blk t).view.read (Elt F) (m ((c : Thread nD τ).loc main_arg4)) = aWo m c := by
  rw [fin_N t]; funext i; unfold aWo
  show m ((c : Thread nD τ).loc main_arg4) _ = m ((c : Thread nD τ).loc main_arg4) _
  congr 1
  funext a; apply Fin.ext; fin_cases a <;> exact (Nat.zero_add _).trans (Nat.one_mul _)

theorem before0 (c : Dev nD) (d) : (dats m ρ 0 c).before (0 : Fin 4) t0_0 d = aX m c := by
  unfold Dat.before; rw [if_pos (fetch0_0 t0_0)]; exact blkX m c t0_0
theorem before1 (c : Dev nD) (d) : (dats m ρ 0 c).before (1 : Fin 4) t0_0 d = aWq m c := by
  unfold Dat.before; rw [if_pos (fetch0_1 t0_0)]; exact blkWq m c t0_0
theorem before2 (c : Dev nD) (d) : (dats m ρ 0 c).before (2 : Fin 4) t0_0 d = aWo m c := by
  unfold Dat.before; rw [if_pos (fetch0_2 t0_0)]; exact blkWo m c t0_0

/-- A staging buffer of device `c` at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_pt (c : Dev nD) (b : Ref sig .tc) (X : b.ty.Contents (Elt F)) : stg c b X = (((c : Thread nD τ).loc b) ↦[(View.whole b).set]{fullShare} X : sProp 𝕄) := by
  rw [View.set_whole]
  refine Entails.antisymm ?_ ?_
  · unfold stg; show iprop(∃ f : Buf (Elt F) (((c : Dev nD) : Thread nD τ).loc b), ⌜f = X⌝ ∗ (((c : Thread nD τ).loc b) ↦{fullShare} f)) ⊢ (((c : Thread nD τ).loc b) ↦{fullShare} X)
    iintro ⟨%f, %h, H⟩; subst h; iexact H
  · unfold stg; show (((c : Thread nD τ).loc b) ↦{fullShare} X) ⊢ iprop(∃ f : Buf (Elt F) (((c : Dev nD) : Thread nD τ).loc b), ⌜f = X⌝ ∗ (((c : Thread nD τ).loc b) ↦{fullShare} f))
    iintro H; iexists X; isplitr; · ipureintro; rfl
    iexact H

theorem whole_pa (c : Dev nD) (b : Ref sig .tc) :
    iprop(∃ f : Buf (Elt F) ((c : Thread nD τ).loc b), ((c : Thread nD τ).loc b) ↦{fullShare} f) = (slot ((c : Thread nD τ).loc b) (View.whole b).set : sProp 𝕄) := by
  unfold slot; rw [View.set_whole]

def bodyPost (c : Dev nD) : sProp 𝕄 :=
  iprop(Φ₁ m c ∗ (dats m ρ 0 c).owesAt 0 t0_0.succ ∗ stg c cc0_stg0_0 (aX m c) ∗ stg c cc0_stg1_0 (aWq m c) ∗ stg c cc0_stg2_0 (aWo m c) ∗ stg c cc0_stg3_0 (OUT m))
def bodyPre' (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

theorem owes_in (c : Dev nD) : (dats m ρ 0 c).owesAt 0 t0_0.castSucc ⊢ iprop(∃ W : Waits sig ℕ, owes (c : Thread nD τ) (O₀ c) W) := by
  unfold Dat.owesAt Pipeline.owesWithin
  iintro ⟨%W, -, H⟩; iexists W; iexact H
theorem owes_out (c : Dev nD) : iprop(∃ W : Waits sig ℕ, owes (c : Thread nD τ) 0 W) ⊢ (dats m ρ 0 c).owesAt 0 t0_0.succ := by
  unfold Dat.owesAt Pipeline.owesWithin
  iintro ⟨%W, H⟩; iexists W
  isplitr; · ipureintro; exact fun _ _ => Or.inl trivial
  iexact H

theorem in0 (c : Dev nD) : iprop(∃ d, stg c cc0_stg0_0 ((dats m ρ 0 c).before (0 : Fin 4) t0_0 d)) ⊢ pt xM c (aX m c) := by
  iintro ⟨%d, H⟩
  iapply (show stg c cc0_stg0_0 ((dats m ρ 0 c).before (0 : Fin 4) t0_0 d) ⊢ pt xM c (aX m c) from by rw [before0, stg_pt])
  iexact H
theorem in1 (c : Dev nD) : iprop(∃ d, stg c cc0_stg1_0 ((dats m ρ 0 c).before (1 : Fin 4) t0_0 d)) ⊢ pt wqM c (aWq m c) := by
  iintro ⟨%d, H⟩
  iapply (show stg c cc0_stg1_0 ((dats m ρ 0 c).before (1 : Fin 4) t0_0 d) ⊢ pt wqM c (aWq m c) from by rw [before1, stg_pt])
  iexact H
theorem in2 (c : Dev nD) : iprop(∃ d, stg c cc0_stg2_0 ((dats m ρ 0 c).before (2 : Fin 4) t0_0 d)) ⊢ pt woM c (aWo m c) := by
  iintro ⟨%d, H⟩
  iapply (show stg c cc0_stg2_0 ((dats m ρ 0 c).before (2 : Fin 4) t0_0 d) ⊢ pt woM c (aWo m c) from by rw [before2, stg_pt])
  iexact H
theorem in3 (c : Dev nD) : iprop(∃ d, stg c cc0_stg3_0 ((dats m ρ 0 c).before (3 : Fin 4) t0_0 d)) ⊢ (pa oM c : sProp 𝕄) := by
  iintro ⟨%d, H⟩
  iapply (show stg c cc0_stg3_0 ((dats m ρ 0 c).before (3 : Fin 4) t0_0 d) ⊢ (pa oM c : sProp 𝕄) from by
    rw [stg_pt, View.set_whole]; refine BIBase.Entails.trans ?_ (Entails.of_eq (whole_pa c cc0_stg3_0)); iintro H; iexists _; iexact H)
  iexact H

theorem body_main (c : Dev nD) {h0 : xM.IsWhole} {h1 : wqM.IsWhole} {h2 : kM.IsWhole} {h3 : vM.IsWhole} {h4 : woM.IsWhole} {h5 : oM.IsWhole} {h6 : qM.IsWhole} {h7 : gM.IsWhole} {h8 : kcM.IsWhole} {h9 : vcM.IsWhole} {h10 : ndM.IsWhole} {h11 : nsM.IsWhole} {h12 : ncM.IsWhole} {h13 : kbM.IsWhole} {h14 : vbM.IsWhole} {h15 : paM.IsWhole} {h16 : rsM.IsWhole} {h17 : rcM.IsWhole} :
    bodyPre' m ρ c ⊢ WP c (cc0_body xM h0 wqM h1 kM h2 vM h3 woM h4 oM h5 qM h6 gM h7 kcM h8 vcM h9 ndM h10 nsM h11 ncM h12 kbM h13 vbM h14 paM h15 rsM h16 rcM h17 cc0_scratch12 cc0_scratch13 cc0_scratch14 cc0_scratch15 cc0_scratch16 cc0_scratch17 cc0_scratch18 cc0_scratch19 cc0_scratch20 cc0_scratch21 cc0_scratch22 cc0_scratch23) (fun _ => bodyPost m ρ c) := by
  unfold bodyPre' Φ₀ start
  iintro ⟨⟨⟨⟨%κ, %ι, #Hctx, Hlin⟩, Hcr, HK, HV⟩, Hscr⟩, Ho, Hx, Hwq, Hwo, Hout⟩
  ihave Ho := (owes_in m ρ c) $$ Ho
  ihave Hx := (in0 m ρ c) $$ Hx
  ihave Hwq := (in1 m ρ c) $$ Hwq
  ihave Hwo := (in2 m ρ c) $$ Hwo
  ihave Hout := (in3 m ρ c) $$ Hout
  iapply (body_run m κ ι c) $$ Hctx Hlin Hcr HK HV Hscr Ho Hx Hwq Hwo Hout
  iintro Ho Hx Hwq Hwo Hout HK HV Hscr Hs
  unfold bodyPost Φ₁
  isplitl [HK HV Hscr Hs]
  · isplitl [HK HV]
    · isplitl [HK] <;> iassumption
    isplitl [Hscr]; · iexact Hscr
    unfold sems; iexact Hs
  isplitl [Ho]; · iapply (owes_out m ρ c); iexact Ho
  isplitl [Hx]; · iapply (Entails.of_eq (stg_pt c cc0_stg0_0 (aX m c)).symm); iexact Hx
  isplitl [Hwq]; · iapply (Entails.of_eq (stg_pt c cc0_stg1_0 (aWq m c)).symm); iexact Hwq
  isplitl [Hwo]; · iapply (Entails.of_eq (stg_pt c cc0_stg2_0 (aWo m c)).symm); iexact Hwo
  iapply (Entails.of_eq (stg_pt c cc0_stg3_0 (OUT m)).symm); iexact Hout

theorem phi_in (c : Dev nD) : (dats m ρ 0 c).Φ t0_0.castSucc = Φ₀ m c := rfl
theorem phi_out (c : Dev nD) : (dats m ρ 0 c).Φ t0_0.succ = Φ₁ m c := rfl
attribute [local irreducible] OUT aX aWq aWo in
theorem after0 (c : Dev nD) : (dats m ρ 0 c).after 0 t0_0 = aX m c := rfl
attribute [local irreducible] OUT aX aWq aWo in
theorem after1 (c : Dev nD) : (dats m ρ 0 c).after 1 t0_0 = aWq m c := rfl
attribute [local irreducible] OUT aX aWq aWo in
theorem after2 (c : Dev nD) : (dats m ρ 0 c).after 2 t0_0 = aWo m c := rfl
attribute [local irreducible] OUT aX aWq aWo in
theorem after3 (c : Dev nD) : (dats m ρ 0 c).after 3 t0_0 = OUT m := rfl
theorem defs_at : (defs₀ (F := F)) Proc.tc 0 (t0_0, cfg0.slots t0_0) = bodyAt0 (F := F) t0_0 := rfl
theorem body_at : bodyAt0 (F := F) t0_0 = (cc0_body xM (Memref.isWhole_whole _) wqM (Memref.isWhole_whole _) kM (Memref.isWhole_whole _) vM (Memref.isWhole_whole _) woM (Memref.isWhole_whole _) oM (Memref.isWhole_whole _) qM (Memref.isWhole_whole _) gM (Memref.isWhole_whole _) kcM (Memref.isWhole_whole _) vcM (Memref.isWhole_whole _) ndM (Memref.isWhole_whole _) nsM (Memref.isWhole_whole _) ncM (Memref.isWhole_whole _) kbM (Memref.isWhole_whole _) vbM (Memref.isWhole_whole _) paM (Memref.isWhole_whole _) rsM (Memref.isWhole_whole _) rcM (Memref.isWhole_whole _) cc0_scratch12 cc0_scratch13 cc0_scratch14 cc0_scratch15 cc0_scratch16 cc0_scratch17 cc0_scratch18 cc0_scratch19 cc0_scratch20 cc0_scratch21 cc0_scratch22 cc0_scratch23) := by with_reducible congr 1

theorem body_obligation (c : Dev nD) : BodyObligation (dats (F := F) m ρ 0 c) (defs₀ (F := F)) 𝒱₀ 0 Set.univ := fun t => by
  rw [fin_N t]
  rw [bigSep_W, bigSep_W]
  simp only [owns_whole_eq]
  rw [defs_at, phi_in, phi_out]
  refine BIBase.Entails.trans (Q := bodyPre' m ρ c) ?_ (BIBase.Entails.trans (Q := wp frame (wpE (defs₀ (F := F)) 𝒱₀ c none) Set.univ (bodyAt0 t0_0) (fun _ => bodyPost m ρ c)) ?_ ?_)
  · unfold bodyPre' stg
    exact Entails.refl _
  · rw [body_at]; exact body_main m ρ c
  · unfold bodyPost stg
    rw [after0, after1, after2, after3]

/-! ## The launch theorem's side conditions -/

theorem scr_eq (c : Dev nD) : Pipeline.scopedRest cfg0.spec c = (scr c : sProp 𝕄) := by
  refine (scopedRest0_eq c).trans ?_
  unfold scr
  simp only [whole_pa]

theorem ka_intro (c : Dev nD) : (((c : Thread nD τ).loc main_arg2) ↦{fullShare} m ((c : Thread nD τ).loc main_arg2) : sProp 𝕄) ⊢ KA m c := by
  unfold KA aK
  have e : kM.view.set = Finset.univ := View.set_whole _
  rw [e]
  iintro H; iexists fullShare; iexact H
theorem va_intro (c : Dev nD) : (((c : Thread nD τ).loc main_arg3) ↦{fullShare} m ((c : Thread nD τ).loc main_arg3) : sProp 𝕄) ⊢ VA m c := by
  unfold VA aV
  have e : vM.view.set = Finset.univ := View.set_whole _
  rw [e]
  iintro H; iexists fullShare; iexact H

theorem ka_read (c : Dev nD) (s' : Phys nD τ sig (Elt F)) :
    iprop(KA m c ∗ SI s') ⊢ (iprop(⌜s'.mem.mem ((c : Thread nD τ).loc main_arg2) = m ((c : Thread nD τ).loc main_arg2)⌝ ∗ SI s') : sProp 𝕄) := by
  unfold KA aK
  have e : kM.view.set = Finset.univ := View.set_whole _
  rw [e]
  iintro ⟨⟨%q, H⟩, HSI⟩
  icombine HSI H gives %h
  isplitr
  · ipureintro; exact Buf.eq_of_forall_mem_univ h
  · iexact HSI
theorem va_read (c : Dev nD) (s' : Phys nD τ sig (Elt F)) :
    iprop(VA m c ∗ SI s') ⊢ (iprop(⌜s'.mem.mem ((c : Thread nD τ).loc main_arg3) = m ((c : Thread nD τ).loc main_arg3)⌝ ∗ SI s') : sProp 𝕄) := by
  unfold VA aV
  have e : vM.view.set = Finset.univ := View.set_whole _
  rw [e]
  iintro ⟨⟨%q, H⟩, HSI⟩
  icombine HSI H gives %h
  isplitr
  · ipureintro; exact Buf.eq_of_forall_mem_univ h
  · iexact HSI

theorem start_intro (c : Dev nD) :
    iprop(Pipeline.unscopedRestP Pipeline.Prefetch.none cfg0.spec c (fun b => m ((c : Thread nD τ).loc b)) ∗ levAts (SiteBlocks.L 48) SiteBlocks.lv
        ∗ Pipeline.launchCred O₀ c ∗ prngReg c (ρ c) ∗ G' m c)
      ⊢ |={Set.univ}=> iprop(start m c ∗ emp) := by
  have e : (Pipeline.unscopedRestP Pipeline.Prefetch.none cfg0.spec c (fun b => m ((c : Thread nD τ).loc b)) : sProp 𝕄)
      = iprop((((c : Thread nD τ).loc main_arg2) ↦{fullShare} m ((c : Thread nD τ).loc main_arg2)) ∗ (((c : Thread nD τ).loc main_arg3) ↦{fullShare} m ((c : Thread nD τ).loc main_arg3))) := by
    rw [Pipeline.unscopedRestP_none]
    exact unscopedRest0_eq c (fun b => m ((c : Thread nD τ).loc b))
  rw [e]
  unfold G' start startCr
  iintro ⟨⟨HK, HV⟩, Hlev, Hcr, -, ⟨%κ, %ι, HR, Hl⟩⟩
  ihave Hcr := (creds c) $$ Hcr
  imodintro
  isplitl
  · isplitl [HR Hl Hlev]
    · iexists κ, ι
      isplitl [HR Hlev]
      · unfold recs ctx
        icases HR with ⟨H1, H2, H3⟩
        isplitl [H1]; · iexact H1
        isplitl [H2]; · iexact H2
        isplitl [H3]; · iexact H3
        iexact Hlev
      · iexact Hl
    isplitl [Hcr]; · iexact Hcr
    isplitl [HK]; · iapply (ka_intro m c); iexact HK
    iapply (va_intro m c); iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(((KA m c ∗ VA m c) ∗ unscopedSems0 c) ∗ Pipeline.ownSems0 osem c ∗ Pipeline.scopedRest cfg0.spec c) := by
  rw [show (dats m ρ 0 c).Φ (Fin.last cfg0.N) = Φ₁ m c from rfl, scr_eq]
  unfold Φ₁ sems
  iintro ⟨HKV, Hr, Hs⟩
  ihave Hs := (Entails.of_eq (sems0_eq (F := F) c)) $$ Hs
  icases Hs with ⟨Hu, Ho⟩
  isplitl [HKV Hu]
  · isplitl [HKV] <;> iassumption
  isplitl [Ho] <;> iassumption

theorem ev_ix' (c : Dev nD) : ∀ e ∈ evBar ++ (evSc c ++ evT), 0 < e.ix ∧ e.ix < 48 := by
  fin_cases c <;> decide +kernel

theorem waits (c : Dev nD) : (levAts (SiteBlocks.L 48) SiteBlocks.lv : sProp 𝕄) ⊢ Pipeline.cellsWaits cfgs (dats m ρ) 0 0 c :=
  Pipeline.cellsWaits_intro cfgs (dats m ρ) 0 0 c fun w s t =>
    SiteBlocks.mayWait_of (by decide) c _ _ (fun g k h => by
      rcases t with ⟨_ | _, ht⟩
      · obtain ⟨x, hx, hg, hk⟩ := tallyL_pos h
        obtain ⟨e, he, rfl⟩ := List.mem_map.mp hx
        have := ev_ix' c e he
        subst hg; subst hk
        exact ⟨SiteBlocks.mem_L _ _ this.2, this.1⟩
      · exact absurd h (Nat.lt_irrefl 0))

/-! ## The run -/

def finalA (c : Dev nD) (w : Fin cfg0.W) : Buf (Elt F) ((cfg0.win w).arr.view.loc (c : Thread nD τ)) := (dats m ρ 0 c).arrAt w cfg0.N

/-- What the run leaves: the windows' arrays at their final contents, the caches as they were, every counter at zero. -/
def QC : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 8000 in
/-- Every weakly fair execution of @main, on the eight devices, from any memory with zero counters, terminates in a state that `QC` describes. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := SiteBlocks.L 48) (lv := SiteBlocks.lv) (hL := SiteBlocks.hL 48) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop((KA m c ∗ VA m c) ∗ unscopedSems0 c)) (Z := fun _ => iprop(emp))
    (hX := start_intro m ρ) (hin := phi0_intro m ρ) (hout := phi1_exit m ρ)
    (QY := fun c s => (s.mem ((c : Thread nD τ).loc main_arg2) = m ((c : Thread nD τ).loc main_arg2) ∧ s.mem ((c : Thread nD τ).loc main_arg3) = m ((c : Thread nD τ).loc main_arg3))
      ∧ ∀ sm : SemLoc sig, sm.isScoped .tc = false → s.sem ((c.tc : Thread nD τ), sm) = 0)
    (hY := fun c s' => by
      iintro ⟨⟨⟨HK, HV⟩, Hu⟩, -, HSI⟩
      ihave H := (ka_read m c s') $$ [HK HSI]
      · isplitl [HK] <;> iassumption
      icases H with ⟨%hk, HSI⟩
      ihave H := (va_read m c s') $$ [HV HSI]
      · isplitl [HV] <;> iassumption
      icases H with ⟨%hv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨⟨hk, hv⟩, hs⟩
      · iexact HSI)
    (hQ := fun _ h hs => ⟨fun c => ⟨fun w => (h c).1 w, (h c).2.2.1⟩, sem_eq_zero hs fun c => (h c).2.2.2⟩)

/-- The frame: every input array as it was, every counter at zero. -/
theorem frame_run : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 (0 : Fin 4)).trans ((dats m ρ 0 c).arrAt_in (0 : Fin 4) rfl _),
    ((h.1 c).1 (1 : Fin 4)).trans ((dats m ρ 0 c).arrAt_in (1 : Fin 4) rfl _), (h.1 c).2.1, (h.1 c).2.2,
    ((h.1 c).1 (2 : Fin 4)).trans ((dats m ρ 0 c).arrAt_in (2 : Fin 4) rfl _)⟩, h.2⟩) (run_main m ρ)

end Cert.KernelIdeal.Pf
end
-- ==== Proof.FrameP.lean ====
module

public import proofs.«01_k».proof.Defs
public import proofs.«01_k».proof.Proof.RunMain
public import proofs.«01_k».proof.Proof.Gen.Kernel

@[expose] public section

noncomputable section

namespace Cert.Proof

open Idealize.ShloMosaic Idealize.SL.Sem

/-- On the bits a named constant is its own pattern, so the ideal program read on the bits is the kernel's. -/
local instance namedBits : Named Bits where
  named _ _ {_} bits := bits

set_option maxHeartbeats 2000000
set_option maxRecDepth 20000

/-- The two programs' kernel tables are the same on the bits, -/
theorem defs₀_same : Cert.Kernel.defs₀ (F := Bits) = Cert.KernelIdeal.defs₀ (F := Bits) := by
  unfold Cert.Kernel.defs₀ Cert.KernelIdeal.defs₀
  apply congrArg Defs.onTc
  funext l a
  match l, a with
  | 0, (t, s) => rfl
  | ⟨_ + 1, h⟩, _ => exact absurd h (Nat.not_lt.2 (Nat.le_add_left _ _))

/-- so are their tables with the regions, -/
theorem defs_same : Cert.Kernel.defs (F := Bits) = Cert.KernelIdeal.defs (F := Bits) :=
  congrArg (fun d => Pipeline.defs (Cert.Kernel.pcfgs (F := Bits)) d) defs₀_same

/-- and so are their main functions. -/
theorem main_same : Cert.Kernel.main (F := Bits) = Cert.KernelIdeal.main (F := Bits) := rfl

/-- The kernel's frame: the ideal program's run, read on the bits. -/
theorem frame_kernel : Cert.quiescent_Kernel := fun m ρ _ => by
  have h := Cert.KernelIdeal.Pf.frame_run (F := Bits) m ρ
  rw [defs_same]
  exact h

end Cert.Proof
end
-- ==== Proof.Ref.lean ====
module

public import proofs.«01_k».proof.Proof.Gen.ReferenceIdeal.Run
public import Idealize.ShloMosaic.Lib.Quiescent

@[expose] public section

noncomputable section

namespace Cert.ReferenceIdeal.Pf

open Cert.ReferenceIdeal Cert.ReferenceIdeal.Gen
open Idealize.ShloMosaic Idealize.ShloMosaic.TcCoe Idealize.ShloMosaic.StableHlo Idealize.SL.Sem

variable {F : FTy → Type} [FloatOps F]

/-- The reference runs: every execution terminates, its arguments unchanged and its counters at zero. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (Value.run m ρ)

end Cert.ReferenceIdeal.Pf
end
-- ==== Proof.Frames.lean ====
module

public import proofs.«01_k».proof.Defs
public import proofs.«01_k».proof.Proof.RunMain
public import proofs.«01_k».proof.Proof.Ref
public import proofs.«01_k».proof.Proof.Gen.Kernel

@[expose] public section

noncomputable section

namespace Cert.Proof

open Idealize.ShloMosaic Idealize.SL.Sem

theorem frame_ideal : Cert.quiescent_KernelIdeal := fun m ρ _ => Cert.KernelIdeal.Pf.frame_run m ρ

theorem frame_ref : Cert.quiescent_ReferenceIdeal := fun m ρ _ => Cert.ReferenceIdeal.Pf.run_frame m ρ

theorem preserves : Cert.preserves_Kernel_KernelIdeal :=
  IdealRules.named_const.statement Cert.KernelIdeal.κ "mask" .f32 0xCE6E6B28#32 ⊥ rfl

end Cert.Proof
end
-- ==== Proof.Maths.lean ====
module

public import Idealize.ShloMosaic.PureOps.Ideal

@[expose] public section

noncomputable section

namespace Cert.KernelIdeal.Pf

open Idealize.ShloMosaic

/-! ## Sums and weighted means of extended reals -/

/-- A sum over `a * b` numbers, `b` at a time. -/
theorem sum_blocks (a b n : ℕ) (hn : n = a * b) (f : Fin n → EReal) :
    ∑ x, f x = ∑ i : Fin a, ∑ j : Fin b, f ⟨b * i.val + j.val, by
      subst hn; calc b * i.val + j.val < b * i.val + b := by omega
        _ = (i.val + 1) * b := by ring
        _ ≤ a * b := Nat.mul_le_mul_right _ i.isLt⟩ := by
  subst hn
  rw [← Fintype.sum_prod_type', ← Equiv.sum_comp finProdFinEquiv]
  refine Finset.sum_congr rfl fun x _ => congrArg f (Fin.ext ?_)
  show x.2.val + b * x.1.val = b * x.1.val + x.2.val
  rw [Nat.add_comm]

/-- Numbers that are zero from `1152` on add up to the sum of the first `1152`. -/
theorem sum_short (f : Fin 8192 → EReal) (h : ∀ j, 1152 ≤ j.val → f j = 0) :
    ∑ j, f j = ∑ j : Fin 1152, f ⟨j.val, by omega⟩ := by
  have e := Fin.sum_univ_add (a := 1152) (b := 7040) (M := EReal) f
  refine e.trans ?_
  rw [Finset.sum_eq_zero (f := fun i : Fin 7040 => f (Fin.natAdd 1152 i)) fun i _ => h _ (by simp), add_zero]
  rfl

theorem coe_sum {ι : Type} (s : Finset ι) (f : ι → ℝ) : ∑ j ∈ s, ((f j : ℝ) : EReal) = ((∑ j ∈ s, f j : ℝ) : EReal) := by
  classical
  induction s using Finset.induction with
  | empty => simp
  | insert a s ha ih => rw [Finset.sum_insert ha, Finset.sum_insert ha, ih, EReal.coe_add]

/-- The greatest of finitely many numbers, each real or `⊥` and one real, is real. -/
theorem max_real {ι : Type} (s : Finset ι) (f : ι → EReal) (h : ∀ j ∈ s, f j < ⊤) (i : ι) (hi : i ∈ s) (h0 : ⊥ < f i) :
    ∃ r : ℝ, s.fold max ⊥ f = (r : EReal) := by
  have h1 : s.fold max ⊥ f < ⊤ := (Finset.fold_max_lt _).2 ⟨bot_lt_top, h⟩
  have h2 : ⊥ < s.fold max ⊥ f := (Finset.lt_fold_max _).2 (Or.inr ⟨i, hi, h0⟩)
  exact ⟨(s.fold max ⊥ f).toReal, (EReal.coe_toReal h1.ne h2.ne').symm⟩

theorem sum_mul_real {ι : Type} (s : Finset ι) (f : ι → EReal) (r : ℝ) (hr : 0 ≤ r) : (∑ j ∈ s, f j) * (r : EReal) = ∑ j ∈ s, f j * (r : EReal) := by
  classical
  induction s using Finset.induction with
  | empty => simp
  | insert a s ha ih =>
    rw [Finset.sum_insert ha, Finset.sum_insert ha, EReal.right_distrib_of_nonneg_of_ne_top (by exact_mod_cast hr) (EReal.coe_ne_top r), ih]

/-- Weights that are exponentials of real numbers less their greatest give the mean the exponentials themselves give. -/
theorem mean_shift {n : ℕ} [NeZero n] (S V : Fin n → EReal) (hS : ∀ j, ∃ r : ℝ, S j = r) :
    ∑ j, V j * Ideal.div (Ideal.exp (S j - Finset.univ.fold max ⊥ S)) (∑ k, Ideal.exp (S k - Finset.univ.fold max ⊥ S))
      = Ideal.div (∑ j, Ideal.exp (S j) * V j) (∑ j, Ideal.exp (S j)) := by
  obtain ⟨μ, hμ⟩ := max_real Finset.univ S (fun j _ => by obtain ⟨r, e⟩ := hS j; rw [e]; exact EReal.coe_lt_top r) 0 (Finset.mem_univ _)
    (by obtain ⟨r, e⟩ := hS 0; rw [e]; exact EReal.bot_lt_coe r)
  rw [hμ]
  choose s hs using hS
  obtain rfl : S = fun j => ((s j : ℝ) : EReal) := funext hs
  have hz : 0 < ∑ j, Real.exp (s j) := Finset.sum_pos (fun j _ => Real.exp_pos _) ⟨0, Finset.mem_univ _⟩
  have hz' : 0 < ∑ j, Real.exp (s j - μ) := Finset.sum_pos (fun j _ => Real.exp_pos _) ⟨0, Finset.mem_univ _⟩
  simp only [← EReal.coe_sub, Ideal.exp_coe, coe_sum]
  rw [Ideal.div_coe (hz.ne'), sum_mul_real _ _ _ (by positivity)]
  simp only [Ideal.div_coe (hz'.ne'), ← EReal.coe_mul]
  refine Finset.sum_congr rfl fun j _ => ?_
  rw [mul_comm _ (V j), mul_assoc, ← EReal.coe_mul]
  refine congrArg (V j * ·) (congrArg _ ?_)
  simp only [Real.exp_sub, ← Finset.sum_div]
  have := Real.exp_pos μ
  field_simp

/-- Scores that are `⊥` from `1152` on: the weighted mean of all is that of the first `1152`. -/
theorem mean_short (S V : Fin 8192 → EReal) (h0 : ∃ r : ℝ, S 0 = r) (hS : ∀ j, S j < ⊤) (hb : ∀ j, 1152 ≤ j.val → S j = ⊥) :
    ∑ j, V j * Ideal.div (Ideal.exp (S j - Finset.univ.fold max ⊥ S)) (∑ k, Ideal.exp (S k - Finset.univ.fold max ⊥ S))
      = ∑ j : Fin 1152, Ideal.div (Ideal.exp (S ⟨j.val, by omega⟩ - Finset.univ.fold max ⊥ fun k : Fin 1152 => S ⟨k.val, by omega⟩))
          (∑ k : Fin 1152, Ideal.exp (S ⟨k.val, by omega⟩ - Finset.univ.fold max ⊥ fun k : Fin 1152 => S ⟨k.val, by omega⟩))
          * V ⟨j.val, by omega⟩ := by
  have hM : (Finset.univ.fold max ⊥ fun k : Fin 1152 => S ⟨k.val, by omega⟩) = Finset.univ.fold max ⊥ S := by
    apply le_antisymm
    · exact (Finset.fold_max_le _).2 ⟨bot_le, fun k _ => (Finset.le_fold_max _).2 (Or.inr ⟨_, Finset.mem_univ _, le_rfl⟩)⟩
    · refine (Finset.fold_max_le _).2 ⟨bot_le, fun k _ => ?_⟩
      by_cases hk : 1152 ≤ k.val
      · rw [hb k hk]; exact bot_le
      · exact (Finset.le_fold_max _).2 (Or.inr ⟨⟨k.val, by omega⟩, Finset.mem_univ _, le_rfl⟩)
  rw [hM]
  obtain ⟨r0, e0⟩ := h0
  obtain ⟨μ, hμ⟩ := max_real Finset.univ S (fun j _ => hS j) 0 (Finset.mem_univ _) (by rw [e0]; exact EReal.bot_lt_coe r0)
  rw [hμ]
  have hexp : ∀ j, ∃ r : ℝ, 0 ≤ r ∧ Ideal.exp (S j - (μ : EReal)) = r := by
    intro j
    rcases eq_or_ne (S j) ⊥ with e | e
    · exact ⟨0, le_rfl, by rw [e, EReal.bot_sub]; simp⟩
    · refine ⟨Real.exp ((S j).toReal - μ), (Real.exp_pos _).le, ?_⟩
      conv_lhs => rw [← EReal.coe_toReal (hS j).ne e]
      rw [← EReal.coe_sub, Ideal.exp_coe]
  choose x hx0 hx using hexp
  have hp : 0 < x 0 := by
    have := hx 0
    rw [e0, ← EReal.coe_sub, Ideal.exp_coe, EReal.coe_eq_coe_iff] at this
    rw [← this]; exact Real.exp_pos _
  have hz : 0 < ∑ j, x j := Finset.sum_pos' (fun j _ => hx0 j) ⟨0, Finset.mem_univ _, hp⟩
  have hZ : ∑ k, Ideal.exp (S k - (μ : EReal)) = ((∑ j, x j : ℝ) : EReal) := by
    rw [← coe_sum]; exact Finset.sum_congr rfl fun j _ => hx j
  have hZ' : ∑ k : Fin 1152, Ideal.exp (S ⟨k.val, by omega⟩ - (μ : EReal)) = ∑ k, Ideal.exp (S k - (μ : EReal)) := by
    symm
    exact sum_short (fun k => Ideal.exp (S k - (μ : EReal))) fun j hj => by rw [hb j hj, EReal.bot_sub]; simp
  rw [hZ', hZ]
  rw [sum_short _ fun j hj => by
    rw [hb j hj, EReal.bot_sub, Ideal.exp_bot, Ideal.div_coe hz.ne', zero_mul, mul_zero]]
  exact Finset.sum_congr rfl fun j _ => mul_comm _ _

/-- The device `k` places before a device, for eight values of `k`, is every device. -/
theorem ring_sum (f : Fin 8 → EReal) (c : Fin 8) :
    ∑ k ∈ Finset.range 8, f ⟨(c.val + 7 * k) % 8, Nat.mod_lt _ (by decide)⟩ = ∑ d, f d := by
  rw [Finset.sum_range]
  have h : Function.Bijective fun k : Fin 8 => (⟨(c.val + 7 * k.val) % 8, Nat.mod_lt _ (by decide)⟩ : Fin 8) := by
    revert c; decide
  exact h.sum_comp f

end Cert.KernelIdeal.Pf
end
-- ==== Proof.ValB.lean ====
module

public import proofs.«01_k».proof.Proof.Base
public import proofs.«01_k».proof.Proof.Maths
public import Idealize.ShloMosaic.Lib.Pointwise

@[expose] public section

set_option maxRecDepth 16384

noncomputable section

namespace Cert.KernelIdeal.Pf

open Cert.KernelIdeal Cert.KernelIdeal.Gen
open Idealize.ShloMosaic
open Idealize.ShloMosaic.TcCoe

/-! ## Reads of the buffers, and what goes round the two rings -/

theorem rdN_at (n : ℕ) (h : n < 8) (f : Vec Ideal S64x33x128 .f32) (a : Fin 8) (i : Fin 33) (d : Fin 128) :
    rdN n h f (ix3 a i d) = f (ix3 ⟨8 * n + a.val, by omega⟩ i d) := by
  refine congrArg f (funext fun x => Fin.ext ?_)
  fin_cases x
  · show 8 * n + 1 * a.val = 8 * n + a.val; omega
  · show 0 + 1 * i.val = i.val; omega
  · show 0 + 1 * d.val = d.val; omega
theorem rdQ_at (n : ℕ) (h : n < 8) (f : Vec Ideal S1024x1024 .f32) (i : Fin 992) (d : Fin 128) :
    rdQ n h f (ix2 i d) = f (ix2 ⟨32 + i.val, by omega⟩ ⟨128 * n + d.val, by omega⟩) := by
  refine congrArg f (funext fun x => Fin.ext ?_)
  fin_cases x
  · show 32 + 1 * i.val = 32 + i.val; omega
  · show 128 * n + 1 * d.val = 128 * n + d.val; omega
theorem rdKB_at (n : ℕ) (h : n < 8) (f : Vec Ideal S1152x8x128 .f32) (j : Fin 1152) (d : Fin 128) :
    rdKB n h f (ix3 j 0 d) = f (ix3 j ⟨n, h⟩ d) := by
  refine congrArg f (funext fun x => Fin.ext ?_)
  fin_cases x
  · show 0 + 1 * j.val = j.val; omega
  · show n + 1 * 0 = n; omega
  · show 0 + 1 * d.val = d.val; omega
theorem rdVB_at (n : ℕ) (h : n < 8) (f : Vec Ideal S1152x8x128 .f32) (j : Fin 1152) (d : Fin 128) :
    rdVB n h f (ix3 j 0 d) = f (ix3 j ⟨n, h⟩ d) := by
  refine congrArg f (funext fun x => Fin.ext ?_)
  fin_cases x
  · show 0 + 1 * j.val = j.val; omega
  · show n + 1 * 0 = n; omega
  · show 0 + 1 * d.val = d.val; omega
theorem rdWo_at (n : ℕ) (h : n < 8) (f : Vec Ideal S1024x1024 .f32) (i : Fin 128) (d : Fin 1024) :
    rdWo n h f (ix2 i d) = f (ix2 ⟨128 * n + i.val, by omega⟩ d) := by
  refine congrArg f (funext fun x => Fin.ext ?_)
  fin_cases x
  · show 128 * n + 1 * i.val = 128 * n + i.val; omega
  · show 0 + 1 * d.val = d.val; omega
theorem rdP_at (n : ℕ) (h : n < 8) (f : Vec Ideal S1024x1024 .f32) (i : Fin 128) (d : Fin 1024) :
    rdP n h f (ix2 i d) = f (ix2 ⟨128 * n + i.val, by omega⟩ d) := by
  refine congrArg f (funext fun x => Fin.ext ?_)
  fin_cases x
  · show 128 * n + 1 * i.val = 128 * n + i.val; omega
  · show 0 + 1 * d.val = d.val; omega

/-- Reading whole what was stored through a re-indexed view and re-indexed before that. -/
theorem read_through {sp : Space} {s s' : Shape} (v : View sig .tc sp s .f32) (h : s'.numel = s.numel) (hc : s.ShapeCasts s') (hc' : s'.ShapeCasts s)
    (f : v.ty.Contents (Elt Ideal)) (p : Vec Ideal s .f32) :
    v.read (Elt Ideal) ((v.reshape s' h).write (Elt Ideal) f (shapeCast s' p hc) Finset.univ) = p := by
  have e : shapeCast s' (v.read (Elt Ideal) ((v.reshape s' h).write (Elt Ideal) f (shapeCast s' p hc) Finset.univ)) hc = shapeCast s' p hc :=
    View.read_write_univ (v := v.reshape s' h) (Val := Elt Ideal) f (shapeCast s' p hc)
  have e' := congrArg (fun z => shapeCast s z hc') e
  rwa [shapeCast_shapeCast, shapeCast_shapeCast] at e'

theorem ndR_eq (s : ℕ) (h : s < 2) (p : Vec Ideal S1x8x33x128 .f32) : ndR s h p = p := by
  have e : (ndSt s h).view.read (Elt Ideal) (ndW s h p) = shapeCast S8x33x128 p (show Shape.ShapeCasts S1x8x33x128 S8x33x128 from by decide) := by
    refine (Memref.read_squeeze_slice nsM _ _ _ (show Shape.ShapeCasts S1x8x33x128 S8x33x128 from by decide) _).trans (congrArg (fun z => shapeCast S8x33x128 z _) ?_)
    exact View.read_write_univ (v := nsM.access (Rect.unit (s := S2x8x33x128) ![s, 0, 0, 0] S1x8x33x128.size (inbNd s h))) (Val := Elt Ideal) jk p
  unfold ndR ndL
  rw [e]
  exact read_through (ncM.slice (Rect.unit (s := S2x8x33x128) ![s, 0, 0, 0] S1x8x33x128.size (inbNd s h)) (fun _ => rfl)).view _ _ (show Shape.ShapeCasts S8x33x128 S1x8x33x128 from by decide) _ p

theorem rsR_eq (s : ℕ) (h : s < 2) (p : Vec Ideal S1x128x1024 .f32) : rsR s h p = p := by
  have e : (rsSt s h).view.read (Elt Ideal) (rsW s h p) = shapeCast S128x1024 p (show Shape.ShapeCasts S1x128x1024 S128x1024 from by decide) := by
    refine (Memref.read_squeeze_slice rsM _ _ _ (show Shape.ShapeCasts S1x128x1024 S128x1024 from by decide) _).trans (congrArg (fun z => shapeCast S128x1024 z _) ?_)
    exact View.read_write_univ (v := rsM.access (Rect.unit (s := S2x128x1024) ![s, 0, 0] S1x128x1024.size (inbRs s h))) (Val := Elt Ideal) jk p
  unfold rsR rsL
  rw [e]
  exact read_through (rcM.slice (Rect.unit (s := S2x128x1024) ![s, 0, 0] S1x128x1024.size (inbRs s h)) (fun _ => rfl)).view _ _ (show Shape.ShapeCasts S128x1024 S1x128x1024 from by decide) _ p

theorem pay32_at (n : Vec Ideal S8x33x128 .f32) (a : Fin 8) (i : Fin 33) (d : Fin 128) :
    k0_pay32 n (ix4 0 a i d) = n (ix3 a i d) := by
  pointwise [k0_pay32]
theorem pay33_at (n : Vec Ideal S8x33x128 .f32) (p : Vec Ideal S1x8x33x128 .f32) (a : Fin 8) (i : Fin 33) (d : Fin 128) :
    k0_pay33 n p (ix4 0 a i d) = n (ix3 a i d) + p (ix4 0 a i d) := by
  pointwise [k0_pay33]
theorem pay65_at (n : Vec Ideal S128x1024 .f32) (i : Fin 128) (d : Fin 1024) :
    k0_pay65 n (ix3 0 i d) = n (ix2 i d) := by
  pointwise [k0_pay65]
theorem pay66_at (n : Vec Ideal S128x1024 .f32) (e : Vec Ideal S1x128x1024 .f32) (i : Fin 128) (d : Fin 1024) :
    k0_pay66 n e (ix3 0 i d) = n (ix2 i d) + e (ix3 0 i d) := by
  pointwise [k0_pay66]
theorem pay75_at (n : Vec Ideal S128x1024 .f32) (e : Vec Ideal S1x128x1024 .f32) (i : Fin 128) (d : Fin 1024) :
    k0_pay75 e n (ix3 0 i d) = n (ix2 i d) + e (ix3 0 i d) := by
  pointwise [k0_pay75]
  try rw [add_comm]
theorem pay43_at (p : Vec Ideal S1x8x33x128 .f32) (n : Vec Ideal S8x33x128 .f32) (a : Fin 8) (i : Fin 32) (d : Fin 128) :
    k0_pay43 (k0_pay41 p) n (ix3 a i d) = n (ix3 a ⟨i.val, by omega⟩ d) + p (ix4 0 a ⟨i.val, by omega⟩ d) := by
  pointwise [k0_pay43, k0_pay42, k0_pay41]
  try rw [add_comm]
theorem pay44_at (p : Vec Ideal S1x8x33x128 .f32) (n : Vec Ideal S8x33x128 .f32) (a : Fin 8) (i : Fin 32) :
    k0_pay44 (k0_pay41 p) n (ix2 a i) = n (ix3 a 32 ⟨i.val, by omega⟩) + p (ix4 0 a 32 ⟨i.val, by omega⟩) := by
  pointwise [k0_pay44, k0_pay42, k0_pay41]
  try rw [add_comm]

theorem sh7_sh (c : Dev nD) (k : ℕ) : sh (sh c 7) (7 * k) = sh c (7 * (k + 1)) := by
  apply Fin.ext
  show ((c.val + 7) % 8 + 7 * k) % 8 = (c.val + 7 * (k + 1)) % 8
  omega
theorem sh7_zero (c : Dev nD) : sh c (7 * 0) = c := by
  apply Fin.ext
  show (c.val + 7 * 0) % 8 = c.val
  have := c.isLt; simp only [nD] at this; omega

variable (m : (ℓ : Loc nD τ sig) → Buf (Elt Ideal) ℓ)

theorem SN_at (a : Fin 8) (i : Fin 33) (d : Fin 128) : ∀ (h : ℕ) (hh : h ≤ 6) (c : Dev nD) (n : ℕ) (hn : n < 8), n = (c.val + 15 - h) % 8 →
    SN m h c (ix4 0 a i d) = ∑ k ∈ Finset.range (h + 1), ND m (sh c (7 * k)) (ix3 ⟨8 * n + a.val, by omega⟩ i d)
  | 0, _, c, n, hn, e => by
    subst e
    rw [Finset.sum_range_one, sh7_zero, SN, pay32_at, rdN_at]
    rfl
  | h + 1, hh, c, n, hn, e => by
    have hc := c.isLt; simp only [nD] at hc
    rw [Finset.sum_range_succ', sh7_zero, SN, pay33_at, rdN_at, ndR_eq,
      SN_at a i d h (by omega) (sh c 7) n hn (by subst e; show _ = ((c.val + 7) % 8 + 15 - h) % 8; omega), add_comm]
    simp only [sh7_sh]
    have en : (c.val + 14 - h) % 8 = n := by omega
    simp only [en]

theorem SR_at (i : Fin 128) (d : Fin 1024) : ∀ (h : ℕ) (hh : h ≤ 6) (c : Dev nD) (n : ℕ) (hn : n < 8), n = (c.val + 15 - h) % 8 →
    SR m h c (ix3 0 i d) = ∑ k ∈ Finset.range (h + 1), PA m (sh c (7 * k)) (ix2 ⟨128 * n + i.val, by omega⟩ d)
  | 0, _, c, n, hn, e => by
    subst e
    rw [Finset.sum_range_one, sh7_zero, SR, pay65_at, rdP_at]
    rfl
  | h + 1, hh, c, n, hn, e => by
    have hc := c.isLt; simp only [nD] at hc
    rw [Finset.sum_range_succ', sh7_zero, SR, pay66_at, rdP_at, rsR_eq,
      SR_at i d h (by omega) (sh c 7) n hn (by subst e; show _ = ((c.val + 7) % 8 + 15 - h) % 8; omega), add_comm]
    simp only [sh7_sh]
    have en : (c.val + 14 - h) % 8 = n := by omega
    simp only [en]

/-- Own part and what came round: every device's part. -/
theorem ring_all (f : Dev nD → EReal) (c : Dev nD) : f c + ∑ k ∈ Finset.range (6 + 1), f (sh (sh c 7) (7 * k)) = ∑ d : Fin 8, f d := by
  rw [← ring_sum f c, Finset.sum_range_succ' _ 7, add_comm]
  simp only [sh7_sh]
  congr 1
  exact congrArg f (sh7_zero c).symm

theorem v714_at (c : Dev nD) (a : Fin 8) (i : Fin 32) (d : Fin 128) :
    v714 m c (ix3 a i d) = ∑ e : Fin 8, ND m e (ix3 ⟨8 * c.val + a.val, by have := c.isLt; simp only [nD] at this; omega⟩ ⟨i.val, by omega⟩ d) := by
  have hc := c.isLt; simp only [nD] at hc
  rw [← ring_all (fun e => ND m e (ix3 ⟨8 * c.val + a.val, by omega⟩ ⟨i.val, by omega⟩ d)) c]
  unfold v714 v709
  rw [pay43_at, rdN_at, ndR_eq, SN_at m a _ d 6 le_rfl (sh c 7) c.val hc (by show _ = ((c.val + 7) % 8 + 15 - 6) % 8; omega)]

theorem v716_at (c : Dev nD) (a : Fin 8) (i : Fin 32) :
    v716 m c (ix2 a i) = ∑ e : Fin 8, ND m e (ix3 ⟨8 * c.val + a.val, by have := c.isLt; simp only [nD] at this; omega⟩ 32 ⟨i.val, by omega⟩) := by
  have hc := c.isLt; simp only [nD] at hc
  rw [← ring_all (fun e => ND m e (ix3 ⟨8 * c.val + a.val, by omega⟩ 32 ⟨i.val, by omega⟩)) c]
  unfold v716 v709
  rw [pay44_at, rdN_at, ndR_eq, SN_at m a _ _ 6 le_rfl (sh c 7) c.val hc (by show _ = ((c.val + 7) % 8 + 15 - 6) % 8; omega)]

theorem own_emb (n : ℕ) (h : n < 8) (i : Fin 128) (d r : Fin 1024) (hr : r.val = 128 * n + i.val) :
    (oM.access (Rect.unit (s := S1x1024x1024) ![0, 128 * n, 0] S1x128x1024.size (inbOut n h))).emb (ix3 0 i d) = (ix3 0 r d : S1x1024x1024.Idx) := by
  funext a; apply Fin.ext
  fin_cases a
  · show 0 + 1 * 0 = 0; omega
  · show 128 * n + 1 * i.val = r.val; omega
  · show 0 + 1 * d.val = d.val; omega

theorem own_at (n : ℕ) (h : n < 8) (p : Vec Ideal S1x128x1024 .f32) (i : Fin 128) (d r : Fin 1024) (hr : r.val = 128 * n + i.val) :
    ((oM.access (Rect.unit (s := S1x1024x1024) ![0, 128 * n, 0] S1x128x1024.size (inbOut n h))).write (Elt Ideal) jk p Finset.univ : Vec Ideal S1x1024x1024 .f32) (ix3 0 r d) = p (ix3 0 i d) := by
  rw [← own_emb n h i d r hr]
  exact View.write_emb_of_mem (v := oM.access (Rect.unit (s := S1x1024x1024) ![0, 128 * n, 0] S1x128x1024.size (inbOut n h))) (Val := Elt Ideal) jk p (Finset.mem_univ _)

theorem OW_at (c : Dev nD) (i : Fin 128) (d : Fin 1024) (r : Fin 1024) (hr : r.val = 128 * c.val + i.val) :
    OW m c (ix3 0 r d) = k0_pay75 (rsR 0 (by decide) (SR m 6 (sh c 7))) (rdP c.val c.isLt (PA m c)) (ix3 0 i d) := by
  unfold OW
  exact own_at c.val c.isLt _ i d r hr

theorem OUT_at (r : Fin 1024) (d : Fin 1024) : OUT m (ix3 0 r d) = ∑ e : Fin 8, PA m e (ix2 r d) := by
  have hb : r.val / 128 < 8 := by omega
  show OW m ⟨r.val / 128, hb⟩ (ix3 0 r d) = _
  generalize hc : (⟨r.val / 128, hb⟩ : Dev nD) = c
  have hcv : c.val = r.val / 128 := by rw [← hc]
  rw [OW_at m c ⟨r.val % 128, by omega⟩ d r (by show r.val = 128 * c.val + r.val % 128; omega), pay75_at, rdP_at, rsR_eq,
    SR_at m _ d 6 le_rfl (sh c 7) c.val (by omega) (by show _ = ((c.val + 7) % 8 + 15 - 6) % 8; omega)]
  have er : ∀ h, (⟨128 * c.val + r.val % 128, h⟩ : Fin 1024) = r := fun h => Fin.ext (by show 128 * c.val + r.val % 128 = r.val; omega)
  simp only [er]
  exact ring_all (fun e => PA m e (ix2 r d)) c

end Cert.KernelIdeal.Pf
end
-- ==== Proof.Spec.lean ====
module

public import proofs.«01_k».proof.Proof.Maths
public import Idealize.ShloMosaic.Lib.WordCmp

@[expose] public section

noncomputable section

namespace Cert.KernelIdeal.Pf

open Idealize.ShloMosaic Idealize.ShloMosaic.WordCmp

/-! ## The attention both programs compute, over the whole arguments -/

/-- The factor every score is multiplied by. -/
def sc : EReal := Ideal.ofBits FTy.f32 0x3DB504F3#32

variable (X : Fin 1024 → Fin 1024 → EReal) (W : Fin 1024 → Fin 8192 → EReal) (K V : Fin 8192 → Fin 64 → Fin 128 → EReal)
  (O : Fin 8192 → Fin 1024 → EReal)

/-- Query `i` of head `h`. -/
def QS (h : Fin 64) (i : Fin 1024) (d : Fin 128) : EReal := ∑ t : Fin 1024, X i t * W t ⟨h.val * 128 + d.val, by omega⟩
/-- Its score against key `j`. -/
def SG (h : Fin 64) (i : Fin 1024) (j : Fin 8192) : EReal := (∑ d : Fin 128, QS X W h i d * K j h d) * sc
/-- The score, `⊥` where it is masked. -/
def TS (h : Fin 64) (i : Fin 1024) (j : Fin 8192) : EReal :=
  Scalar.select
    (IntOp.ori
      (IntOp.cmpi CmpIPredicate.sle (IntOp.absi (IntOp.subi (BitVec.ofNat 32 i.val) (BitVec.ofNat 32 j.val))) 128#32)
      (IntOp.ori (IntOp.cmpi CmpIPredicate.slt (BitVec.ofNat 32 j.val) 32#32) (IntOp.cmpi CmpIPredicate.slt (BitVec.ofNat 32 i.val) 32#32)))
    (SG X W K h i j) (Ideal.ofBits FTy.f32 0xFF800000#32)
/-- One head's attention. -/
def ATT (h : Fin 64) (i : Fin 1024) (d : Fin 128) : EReal :=
  ∑ j : Fin 8192, V j h d * Ideal.div
    (Ideal.exp (TS X W K h i j - Finset.fold max (Ideal.ofBits FTy.f32 0xFF800000#32) (fun k => TS X W K h i k) Finset.univ))
    (∑ l : Fin 8192, Ideal.exp (TS X W K h i l - Finset.fold max (Ideal.ofBits FTy.f32 0xFF800000#32) (fun k => TS X W K h i k) Finset.univ))
/-- The result. -/
def RES (i col : Fin 1024) : EReal :=
  ∑ x : Fin 8192, ATT X W K V ⟨x.val / 128, by omega⟩ i ⟨x.val % 128, by omega⟩ * O x col

theorem ninf_eq : Ideal.ofBits FTy.f32 0xFF800000#32 = ⊥ := by simp [Ideal.ofBits, Ideal.ieee]

theorem sc_real : ∃ r : ℝ, sc = r := ⟨_, by
  unfold sc
  simp only [Ideal.ofBits, Ideal.ieee]
  rw [if_neg (by decide), if_neg (by decide)]⟩

theorem sum_real {n : ℕ} (f : Fin n → EReal) (h : ∀ j, ∃ r : ℝ, f j = r) : ∃ r : ℝ, ∑ j, f j = r := by
  choose g hg using h
  exact ⟨_, by rw [Finset.sum_congr rfl fun j _ => hg j, coe_sum]⟩
theorem mul_real {a b : EReal} (ha : ∃ r : ℝ, a = r) (hb : ∃ r : ℝ, b = r) : ∃ r : ℝ, a * b = r := by
  obtain ⟨x, rfl⟩ := ha; obtain ⟨y, rfl⟩ := hb
  exact ⟨x * y, (EReal.coe_mul x y).symm⟩

theorem SG_real (hX : ∀ i t, ∃ r : ℝ, X i t = r) (hW : ∀ t e, ∃ r : ℝ, W t e = r) (hK : ∀ j h d, ∃ r : ℝ, K j h d = r)
    (h : Fin 64) (i : Fin 1024) (j : Fin 8192) : ∃ r : ℝ, SG X W K h i j = r :=
  mul_real (sum_real _ fun d => mul_real (sum_real _ fun t => mul_real (hX _ _) (hW _ _)) (hK _ _ _)) sc_real

/-! ### Which scores are masked -/

theorem absi_sub (r j : ℕ) (h : r < j) (hj : j < 2 ^ 31) :
    IntOp.absi (IntOp.subi (BitVec.ofNat 32 r) (BitVec.ofNat 32 j)) = BitVec.ofNat 32 (j - r) := by
  have e : (BitVec.ofNat 32 r - BitVec.ofNat 32 j).toNat = 2 ^ 32 - (j - r) := by
    rw [BitVec.toNat_sub, BitVec.toNat_ofNat, BitVec.toNat_ofNat]; omega
  have hm : (BitVec.ofNat 32 r - BitVec.ofNat 32 j).msb = true := by
    rw [BitVec.msb_eq_decide, e]; simp only [decide_eq_true_eq]; omega
  show (if (BitVec.ofNat 32 r - BitVec.ofNat 32 j).msb then -(BitVec.ofNat 32 r - BitVec.ofNat 32 j) else _) = _
  rw [if_pos hm]
  apply BitVec.eq_of_toNat_eq
  rw [BitVec.toNat_neg, e, BitVec.toNat_ofNat]; omega

/-- The first 32 rows attend to everything, -/
theorem TS_global (h : Fin 64) (i : Fin 1024) (j : Fin 8192) (hi : i.val < 32) : TS X W K h i j = SG X W K h i j := by
  have e : IntOp.cmpi CmpIPredicate.slt (BitVec.ofNat 32 i.val) 32#32 = 1#1 :=
    (cmpi_slt_ofNat_eq_one_iff (w := 32) (b := 32) (by omega) (by omega)).2 hi
  unfold TS
  rw [e]
  have : ∀ a b : BitVec 1, IntOp.ori a (IntOp.ori b 1#1) = 1#1 := by decide
  rw [this]
  rfl

/-- everything to the first 32 columns, -/
theorem TS_col (h : Fin 64) (i : Fin 1024) (j : Fin 8192) (hj : j.val < 32) : TS X W K h i j = SG X W K h i j := by
  have e : IntOp.cmpi CmpIPredicate.slt (BitVec.ofNat 32 j.val) 32#32 = 1#1 :=
    (cmpi_slt_ofNat_eq_one_iff (w := 32) (b := 32) (by omega) (by omega)).2 hj
  unfold TS
  rw [e]
  have : ∀ a b : BitVec 1, IntOp.ori a (IntOp.ori 1#1 b) = 1#1 := by decide
  rw [this]
  rfl

/-- the other rows to nothing from column 1152 on. -/
theorem TS_far (h : Fin 64) (i : Fin 1024) (j : Fin 8192) (hi : 32 ≤ i.val) (hj : 1152 ≤ j.val) : TS X W K h i j = ⊥ := by
  have e : IntOp.cmpi CmpIPredicate.slt (BitVec.ofNat 32 i.val) 32#32 = 0#1 :=
    (cmpi_slt_ofNat_eq_zero_iff (w := 32) (b := 32) (by omega) (by omega)).2 (by omega)
  have e' : IntOp.cmpi CmpIPredicate.slt (BitVec.ofNat 32 j.val) 32#32 = 0#1 :=
    (cmpi_slt_ofNat_eq_zero_iff (w := 32) (b := 32) (by omega) (by omega)).2 (by omega)
  have e'' : IntOp.cmpi CmpIPredicate.sle (BitVec.ofNat 32 (j.val - i.val)) 128#32 = 0#1 :=
    (cmpi_sle_ofNat_eq_zero_iff (w := 32) (b := 128) (by omega) (by omega)).2 (by omega)
  unfold TS
  rw [e, e', absi_sub _ _ (by omega) (by omega), e'', ninf_eq]
  rfl

theorem TS_lt (hX : ∀ i t, ∃ r : ℝ, X i t = r) (hW : ∀ t e, ∃ r : ℝ, W t e = r) (hK : ∀ j h d, ∃ r : ℝ, K j h d = r)
    (h : Fin 64) (i : Fin 1024) (j : Fin 8192) : TS X W K h i j < ⊤ := by
  obtain ⟨r, e⟩ := SG_real X W K hX hW hK h i j
  unfold TS Scalar.select
  split
  · rw [e]; exact EReal.coe_lt_top r
  · rw [ninf_eq]; exact bot_lt_top

/-- In the first 32 rows a head's attention is the exponentials' sums' quotient. -/
theorem ATT_global (hX : ∀ i t, ∃ r : ℝ, X i t = r) (hW : ∀ t e, ∃ r : ℝ, W t e = r) (hK : ∀ j h d, ∃ r : ℝ, K j h d = r)
    (h : Fin 64) (i : Fin 1024) (d : Fin 128) (hi : i.val < 32) :
    ATT X W K V h i d = Ideal.div (∑ j, Ideal.exp (SG X W K h i j) * V j h d) (∑ j, Ideal.exp (SG X W K h i j)) := by
  unfold ATT
  simp only [ninf_eq, TS_global X W K h i _ hi]
  exact mean_shift (fun j => SG X W K h i j) (fun j => V j h d) fun j => SG_real X W K hX hW hK h i j

/-- In the others it is the band's weighted mean. -/
theorem ATT_local (hX : ∀ i t, ∃ r : ℝ, X i t = r) (hW : ∀ t e, ∃ r : ℝ, W t e = r) (hK : ∀ j h d, ∃ r : ℝ, K j h d = r)
    (h : Fin 64) (i : Fin 1024) (d : Fin 128) (hi : 32 ≤ i.val) :
    ATT X W K V h i d = ∑ j : Fin 1152, Ideal.div (Ideal.exp (TS X W K h i ⟨j.val, by omega⟩ - Finset.univ.fold max ⊥ fun k : Fin 1152 => TS X W K h i ⟨k.val, by omega⟩))
          (∑ k : Fin 1152, Ideal.exp (TS X W K h i ⟨k.val, by omega⟩ - Finset.univ.fold max ⊥ fun k : Fin 1152 => TS X W K h i ⟨k.val, by omega⟩))
          * V ⟨j.val, by omega⟩ h d := by
  unfold ATT
  simp only [ninf_eq]
  exact mean_short (fun j => TS X W K h i j) (fun j => V j h d) (by rw [TS_col X W K h i 0 (by decide)]; exact SG_real X W K hX hW hK h i 0)
    (fun j => TS_lt X W K hX hW hK h i j) fun j hj => TS_far X W K h i j hi hj

end Cert.KernelIdeal.Pf
end
-- ==== Proof.ValA.lean ====
module

public import proofs.«01_k».proof.Proof.Base
public import proofs.«01_k».proof.Proof.Spec
public import Idealize.ShloMosaic.Lib.Pointwise

@[expose] public section

set_option maxRecDepth 16384

noncomputable section

namespace Cert.KernelIdeal.Pf

open Cert.KernelIdeal Cert.KernelIdeal.Gen
open Idealize.ShloMosaic
open Idealize.ShloMosaic.TcCoe

/-! ## What the queries and the first 32 queries' sums are -/

theorem pay2_at (x : Vec Ideal S1x1024x1024 .f32) (w : Vec Ideal S1024x1024 .f32) (i k : Fin 1024) :
    k0_pay2 x w (ix2 i k) = ∑ t : Fin 1024, x (ix3 0 i t) * w (ix2 t k) := by
  pointwise [k0_pay2, k0_pay1]

theorem pay3_at (x : Vec Ideal S1x1024x1024 .f32) (w : Vec Ideal S1024x1024 .f32) (i : Fin 32) (k : Fin 1024) :
    k0_pay4 (k0_pay3 x w) (ix3 0 i k) = ∑ t : Fin 1024, x (ix3 0 ⟨i.val, by omega⟩ t) * w (ix2 t k) := by
  pointwise [k0_pay4, k0_pay3, k0_pay1]

theorem pay5_at (q : Vec Ideal S8x32x1024 .f32) (h : Fin 64) (i : Fin 32) (d : Fin 128) :
    k0_pay5 q (ix3 h i d) = q (ix3 ⟨h.val / 8, by omega⟩ i ⟨h.val % 8 * 128 + d.val, by omega⟩) := by
  pointwise [k0_pay5]

/-- The exponential of a score. -/
def ex (q : Vec Ideal S64x32x128 .f32) (k : Vec Ideal S128x64x128 .f32) (h : Fin 64) (i : Fin 32) (j : Fin 128) : EReal :=
  Ideal.exp ((∑ t : Fin 128, q (ix3 h i t) * k (ix3 j h t)) * sc)

theorem pay10_at (q n : Vec Ideal S64x32x128 .f32) (k v : Vec Ideal S128x64x128 .f32) (h : Fin 64) (i : Fin 32) (d : Fin 128) :
    k0_pay10 q n (k0_pay8 k) v (ix3 h i d) = n (ix3 h i d) + ∑ j : Fin 128, ex q k h i j * v (ix3 j h d) := by
  unfold ex sc
  pointwise [k0_pay10, k0_pay9, k0_pay8]
theorem pay11_at (q : Vec Ideal S64x32x128 .f32) (e : Vec Ideal S64x32 .f32) (k : Vec Ideal S128x64x128 .f32) (h : Fin 64) (i : Fin 32) :
    k0_pay11 q e (k0_pay8 k) (ix2 h i) = e (ix2 h i) + ∑ j : Fin 128, ex q k h i j := by
  unfold ex sc
  pointwise [k0_pay11, k0_pay9, k0_pay8]

theorem pay31_at (q n : Vec Ideal S64x32x128 .f32) (e : Vec Ideal S64x32 .f32) (k v : Vec Ideal S128x64x128 .f32) (h : Fin 64) (i : Fin 32) (d : Fin 128) :
    k0_pay31 q n e k v (ix3 h ⟨i.val, by omega⟩ d) = n (ix3 h i d) + ∑ j : Fin 128, ex q k h i j * v (ix3 j h d) := by
  unfold ex sc
  pointwise [k0_pay31]
theorem pay31_den (q n : Vec Ideal S64x32x128 .f32) (e : Vec Ideal S64x32 .f32) (k v : Vec Ideal S128x64x128 .f32) (h : Fin 64) (i : Fin 32) :
    k0_pay31 q n e k v (ix3 h 32 ⟨i.val, by omega⟩) = e (ix2 h i) + ∑ j : Fin 128, ex q k h i j := by
  unfold ex sc
  pointwise [k0_pay31]
  try rw [dif_neg (by decide), dif_pos i.isLt]

theorem pay6_at (h : Fin 64) (i : Fin 32) (d : Fin 128) : (k0_pay6 : FVec Ideal S64x32x128 .f32) (ix3 h i d) = 0 := by
  pointwise [k0_pay6]
theorem pay7_at (h : Fin 64) (i : Fin 32) : (k0_pay7 : FVec Ideal S64x32 .f32) (ix2 h i) = 0 := by
  pointwise [k0_pay7]

variable (m : (ℓ : Loc nD τ sig) → Buf (Elt Ideal) ℓ)

theorem kc_at (c : Dev nD) (n : ℕ) (hn : n < 8) (j : Fin 128) (h : Fin 64) (d : Fin 128) :
    kc m c n hn (ix3 j h d) = aK m c (ix4 0 ⟨128 * n + j.val, by omega⟩ h d) := by
  unfold kc
  rw [show (kCh n hn).view.read (Elt Ideal) (aK m c) = shapeCast S128x64x128 (extractStridedSlice S1x128x64x128 ![0, 128 * n, 0, 0] (aK m c) ⟨rfl, inbChunk n hn⟩) (show Shape.ShapeCasts S1x128x64x128 S128x64x128 from by decide) from by
    refine (Memref.read_squeeze_slice kM _ _ _ (show Shape.ShapeCasts S1x128x64x128 S128x64x128 from by decide) _).trans (congrArg (fun z => shapeCast S128x64x128 z _) ?_)
    exact funext fun x => congrArg (aK m c) (funext fun a => Fin.ext (congrArg (_ + ·) (Nat.one_mul _)))]
  pointwise

theorem vc_at (c : Dev nD) (n : ℕ) (hn : n < 8) (j : Fin 128) (h : Fin 64) (d : Fin 128) :
    vc m c n hn (ix3 j h d) = aV m c (ix4 0 ⟨128 * n + j.val, by omega⟩ h d) := by
  unfold vc
  rw [show (vCh n hn).view.read (Elt Ideal) (aV m c) = shapeCast S128x64x128 (extractStridedSlice S1x128x64x128 ![0, 128 * n, 0, 0] (aV m c) ⟨rfl, inbChunk n hn⟩) (show Shape.ShapeCasts S1x128x64x128 S128x64x128 from by decide) from by
    refine (Memref.read_squeeze_slice vM _ _ _ (show Shape.ShapeCasts S1x128x64x128 S128x64x128 from by decide) _).trans (congrArg (fun z => shapeCast S128x64x128 z _) ?_)
    exact funext fun x => congrArg (aV m c) (funext fun a => Fin.ext (congrArg (_ + ·) (Nat.one_mul _)))]
  pointwise

theorem QG_at (b : Fin 8) (i : Fin 32) (k : Fin 1024) :
    QG m (ix3 b i k) = ∑ t : Fin 1024, aX m b (ix3 0 ⟨i.val, by omega⟩ t) * aWq m b (ix2 t k) := by
  rw [← pay3_at]
  have e := congrFun (View.read_write_univ (v := gAcc b.val b.isLt) (Val := Elt Ideal) jk (k0_pay4 (k0_pay3 (aX m b) (aWq m b)))) (ix3 0 i k)
  refine Eq.trans ?_ e
  show QW m b (ix3 b i k) = QW m b ((gAcc b.val b.isLt).emb (ix3 0 i k))
  congr 1
  funext a; apply Fin.ext
  fin_cases a
  · show b.val = b.val + 1 * 0; omega
  · show i.val = 0 + 1 * i.val; omega
  · show k.val = 0 + 1 * k.val; omega

theorem gq_at (h : Fin 64) (i : Fin 32) (d : Fin 128) :
    gq m (ix3 h i d) = ∑ t : Fin 1024, aX m ⟨h.val / 8, by show h.val / 8 < 8; omega⟩ (ix3 0 ⟨i.val, by omega⟩ t) * aWq m ⟨h.val / 8, by show h.val / 8 < 8; omega⟩ (ix2 t ⟨h.val % 8 * 128 + d.val, by omega⟩) := by
  rw [gq, pay5_at, QG_at]

/-- The exponential of the score of query `i` of head `h` against row `j` of device `c`'s keys. -/
def EX (c : Dev nD) (h : Fin 64) (i : Fin 32) (j : Fin 1024) : EReal :=
  Ideal.exp ((∑ t : Fin 128, gq m (ix3 h i t) * aK m c (ix4 0 j h t)) * sc)

theorem ex_at (c : Dev nD) (n : ℕ) (hn : n < 8) (h : Fin 64) (i : Fin 32) (j : Fin 128) :
    ex (gq m) (kc m c n hn) h i j = EX m c h i ⟨128 * n + j.val, by omega⟩ := by
  unfold ex EX
  simp only [kc_at]

theorem ND_num (c : Dev nD) (h : Fin 64) (i : Fin 32) (d : Fin 128) :
    ND m c (ix3 h ⟨i.val, by omega⟩ d) = ∑ j : Fin 1024, EX m c h i j * aV m c (ix4 0 j h d) := by
  rw [sum_blocks 8 128 1024 rfl, Fin.sum_univ_eight]
  unfold ND
  rw [pay31_at]
  rw [show nu7 m c (ix3 h i d) = nu6 m c (ix3 h i d) + _ from pay10_at (gq m) (nu6 m c) (kc m c 6 (by decide)) (vc m c 6 (by decide)) h i d,
    show nu6 m c (ix3 h i d) = nu5 m c (ix3 h i d) + _ from pay10_at (gq m) (nu5 m c) (kc m c 5 (by decide)) (vc m c 5 (by decide)) h i d,
    show nu5 m c (ix3 h i d) = nu4 m c (ix3 h i d) + _ from pay10_at (gq m) (nu4 m c) (kc m c 4 (by decide)) (vc m c 4 (by decide)) h i d,
    show nu4 m c (ix3 h i d) = nu3 m c (ix3 h i d) + _ from pay10_at (gq m) (nu3 m c) (kc m c 3 (by decide)) (vc m c 3 (by decide)) h i d,
    show nu3 m c (ix3 h i d) = nu2 m c (ix3 h i d) + _ from pay10_at (gq m) (nu2 m c) (kc m c 2 (by decide)) (vc m c 2 (by decide)) h i d,
    show nu2 m c (ix3 h i d) = nu1 m c (ix3 h i d) + _ from pay10_at (gq m) (nu1 m c) (kc m c 1 (by decide)) (vc m c 1 (by decide)) h i d,
    show nu1 m c (ix3 h i d) = _ from pay10_at (gq m) (k0_pay6 (F := Ideal)) (kc m c 0 (by decide)) (vc m c 0 (by decide)) h i d,
    pay6_at, zero_add]
  simp only [ex_at, vc_at]
  rfl

theorem ND_den (c : Dev nD) (h : Fin 64) (i : Fin 32) :
    ND m c (ix3 h 32 ⟨i.val, by omega⟩) = ∑ j : Fin 1024, EX m c h i j := by
  rw [sum_blocks 8 128 1024 rfl, Fin.sum_univ_eight]
  unfold ND
  rw [pay31_den]
  rw [show de7 m c (ix2 h i) = de6 m c (ix2 h i) + _ from pay11_at (gq m) (de6 m c) (kc m c 6 (by decide)) h i,
    show de6 m c (ix2 h i) = de5 m c (ix2 h i) + _ from pay11_at (gq m) (de5 m c) (kc m c 5 (by decide)) h i,
    show de5 m c (ix2 h i) = de4 m c (ix2 h i) + _ from pay11_at (gq m) (de4 m c) (kc m c 4 (by decide)) h i,
    show de4 m c (ix2 h i) = de3 m c (ix2 h i) + _ from pay11_at (gq m) (de3 m c) (kc m c 3 (by decide)) h i,
    show de3 m c (ix2 h i) = de2 m c (ix2 h i) + _ from pay11_at (gq m) (de2 m c) (kc m c 2 (by decide)) h i,
    show de2 m c (ix2 h i) = de1 m c (ix2 h i) + _ from pay11_at (gq m) (de1 m c) (kc m c 1 (by decide)) h i,
    show de1 m c (ix2 h i) = _ from pay11_at (gq m) (k0_pay7 (F := Ideal)) (kc m c 0 (by decide)) h i,
    pay7_at, zero_add]
  simp only [ex_at]
  rfl

end Cert.KernelIdeal.Pf
end
-- ==== Proof.ValC.lean ====
module

public import proofs.«01_k».proof.Proof.ValA
public import Idealize.ShloMosaic.Lib.Pointwise

@[expose] public section

set_option maxRecDepth 16384

noncomputable section

namespace Cert.KernelIdeal.Pf

open Cert.KernelIdeal Cert.KernelIdeal.Gen
open Idealize.ShloMosaic
open Idealize.ShloMosaic.TcCoe

/-! ## One head after another through the output matrix -/

/-- The score of local query `i` (row `32 + i`) against column `x` of the band, `⊥` where it is masked. -/
def MS (q : Vec Ideal S992x128 .f32) (k : Vec Ideal S1152x1x128 .f32) (i : Fin 992) (x : Fin 1152) : EReal :=
  Scalar.select
    (IntOp.ori
      (IntOp.cmpi CmpIPredicate.sle
        (IntOp.absi (IntOp.subi (IntOp.addi (BitVec.ofNat 32 i.val) 32#32) (BitVec.ofNat 32 x.val)))
        128#32)
      (IntOp.cmpi CmpIPredicate.slt (BitVec.ofNat 32 x.val) 32#32))
    ((∑ t : Fin 128, q (ix2 i t) * k (ix3 x 0 t)) * sc)
    (Named.named κ "mask" 0xCE6E6B28#32 : Ideal .f32)

/-- One head's attention at row `i`: the gathered numerators over the denominators for the first 32 rows, the band's
    weighted mean for the others. -/
def head (n : Fin 8) (N : FVec Ideal S8x32x128 .f32) (D : FVec Ideal S8x32 .f32) (q : Vec Ideal S992x128 .f32) (k v : Vec Ideal S1152x1x128 .f32)
    (i : Fin 1024) (d : Fin 128) : EReal :=
  if h : i.val < 32 then Ideal.div (N (ix3 n ⟨i.val, h⟩ d)) (D (ix2 n ⟨i.val, h⟩))
  else ∑ x : Fin 1152,
    Ideal.div (Ideal.exp (MS q k ⟨i.val - 32, by omega⟩ x - Finset.fold max (Ideal.ofBits FTy.f32 0xFF800000#32) (fun y => MS q k ⟨i.val - 32, by omega⟩ y) Finset.univ))
      (∑ z : Fin 1152, Ideal.exp (MS q k ⟨i.val - 32, by omega⟩ z - Finset.fold max (Ideal.ofBits FTy.f32 0xFF800000#32) (fun y => MS q k ⟨i.val - 32, by omega⟩ y) Finset.univ))
      * v (ix3 x 0 d)

section
variable (N : FVec Ideal S8x32x128 .f32) (D : FVec Ideal S8x32 .f32) (A : FVec Ideal S1024x1024 .f32) (q q' : Vec Ideal S992x128 .f32)
  (k v k' v' : Vec Ideal S1152x1x128 .f32) (w w' : Vec Ideal S128x1024 .f32) (i j : Fin 1024)

theorem pay48_at : k0_pay48 N D k0_pay45 k0_pay46 q (k0_pay47 k) v w (ix2 i j) = ∑ d : Fin 128, head 0 N D q k v i d * w (ix2 d j) := by
  unfold head MS sc
  pointwise [k0_pay48, k0_pay47, k0_pay46, k0_pay45]
theorem pay51_at : k0_pay51 N D A (k0_pay49 v) (k0_pay50 k0_pay45 q k) w (ix2 i j) = A (ix2 i j) + ∑ d : Fin 128, head 1 N D q k v i d * w (ix2 d j) := by
  unfold head MS sc
  pointwise [k0_pay51, k0_pay50, k0_pay49, k0_pay45]
theorem pay54_at : k0_pay54 N D A (k0_pay52 v) (k0_pay53 k0_pay45 q k) (constant S992x128 .f32 0x00000000#32) w (ix2 i j)
    = A (ix2 i j) + ∑ d : Fin 128, head 2 N D q k v i d * w (ix2 d j) := by
  unfold head MS sc
  pointwise [k0_pay54, k0_pay53, k0_pay52, k0_pay45]
theorem pay55_at (d : Fin 128) : k0_pay55 N D k0_pay45 q k v (ix2 i d) = head 3 N D q k v i d := by
  unfold head MS sc
  pointwise [k0_pay55, k0_pay45]
theorem pay56_at (B : FVec Ideal S1024x128 .f32) : k0_pay56 N D k0_pay45 A B w' q k v w (ix2 i j)
    = A (ix2 i j) + ∑ d : Fin 128, B (ix2 i d) * w' (ix2 d j) + ∑ d : Fin 128, head 4 N D q k v i d * w (ix2 d j) := by
  unfold head MS sc
  pointwise [k0_pay56, k0_pay45]
theorem pay57_at : k0_pay57 N D k0_pay45 A q k v w (ix2 i j) = A (ix2 i j) + ∑ d : Fin 128, head 5 N D q k v i d * w (ix2 d j) := by
  unfold head MS sc
  pointwise [k0_pay57, k0_pay45]
theorem pay61_at : k0_pay61 N D k0_pay45 A (k0_pay58 v) (k0_pay59 q k) k0_pay60 w (ix2 i j) = A (ix2 i j) + ∑ d : Fin 128, head 6 N D q k v i d * w (ix2 d j) := by
  unfold head MS sc
  pointwise [k0_pay61, k0_pay60, k0_pay59, k0_pay58, k0_pay45]
theorem pay64_at : k0_pay64 N D A (k0_pay62 v) (k0_pay63 k0_pay45 q k) w (ix2 i j) = A (ix2 i j) + ∑ d : Fin 128, head 7 N D q k v i d * w (ix2 d j) := by
  unfold head MS sc
  pointwise [k0_pay64, k0_pay63, k0_pay62, k0_pay45]
end

variable (m : (ℓ : Loc nD τ sig) → Buf (Elt Ideal) ℓ)

theorem PA_at (c : Dev nD) (i j : Fin 1024) :
    PA m c (ix2 i j) = ∑ n : Fin 8, ∑ d : Fin 128, head n (v714 m c) (v716 m c) (bq m c n.val n.isLt) (bk m c n.val n.isLt) (bv m c n.val n.isLt) i d
      * bw m c n.val n.isLt (ix2 d j) := by
  rw [Fin.sum_univ_eight]
  unfold PA
  rw [pay64_at]
  unfold v964
  rw [pay61_at]
  unfold v932
  rw [pay57_at]
  unfold v900
  rw [pay56_at]
  unfold v836 v864
  rw [pay54_at]
  simp only [pay55_at]
  unfold v804
  rw [pay51_at]
  unfold v772
  rw [pay48_at]
  rfl

end Cert.KernelIdeal.Pf
end
-- ==== Proof.ValD.lean ====
module

public import proofs.«01_k».proof.Proof.Scatter
public import proofs.«01_k».proof.Proof.ValA
public import Idealize.ShloMosaic.Lib.Pointwise

@[expose] public section

set_option maxRecDepth 16384

noncomputable section

namespace Cert.KernelIdeal.Pf

open Cert.KernelIdeal Cert.KernelIdeal.Gen
open Idealize.ShloMosaic
open Idealize.ShloMosaic.TcCoe

/-! ## The band's keys and values -/

/-- Device `c`'s head `n`. -/
def hd (c : Dev nD) (n : Fin 8) : Fin 64 := ⟨8 * c.val + n.val, by have : c.val < 8 := c.isLt; omega⟩

variable (m : (ℓ : Loc nD τ sig) → Buf (Elt Ideal) ℓ)

theorem klo_emb (a : Fin 1024) (j : Fin 1152) (n : Fin 8) (t : Fin 128) (h : j.val = a.val) :
    kbLo.view.emb (ix3 a n t) = (ix3 j n t : S1152x8x128.Idx) := by
  funext b; apply Fin.ext
  fin_cases b
  · show 0 + 1 * a.val = j.val; omega
  · show 0 + 1 * n.val = n.val; omega
  · show 0 + 1 * t.val = t.val; omega
theorem khi_emb (a : Fin 128) (j : Fin 1152) (n : Fin 8) (t : Fin 128) (h : j.val = 1024 + a.val) :
    kbHi.view.emb (ix3 a n t) = (ix3 j n t : S1152x8x128.Idx) := by
  funext b; apply Fin.ext
  fin_cases b
  · show 1024 + 1 * a.val = j.val; omega
  · show 0 + 1 * n.val = n.val; omega
  · show 0 + 1 * t.val = t.val; omega

theorem klo_at (p : Vec Ideal S1024x8x128 .f32) (a : Fin 1024) (j : Fin 1152) (n : Fin 8) (t : Fin 128) (h : j.val = a.val) :
    (kbLo.view.write (Elt Ideal) jk p Finset.univ : Vec Ideal S1152x8x128 .f32) (ix3 j n t) = p (ix3 a n t) := by
  rw [← klo_emb a j n t h]
  exact View.write_emb_of_mem (v := kbLo.view) (Val := Elt Ideal) jk p (Finset.mem_univ _)
theorem khi_at (p : Vec Ideal S128x8x128 .f32) (a : Fin 128) (j : Fin 1152) (n : Fin 8) (t : Fin 128) (h : j.val = 1024 + a.val) :
    (kbHi.view.write (Elt Ideal) jk p Finset.univ : Vec Ideal S1152x8x128 .f32) (ix3 j n t) = p (ix3 a n t) := by
  rw [← khi_emb a j n t h]
  exact View.write_emb_of_mem (v := kbHi.view) (Val := Elt Ideal) jk p (Finset.mem_univ _)

theorem kHd_at (c e : Dev nD) (j : Fin 1024) (n : Fin 8) (t : Fin 128) :
    (kHd c.val c.isLt).view.read (Elt Ideal) (aK m e) (ix3 j n t) = aK m e (ix4 0 j (hd c n) t) := by
  rw [show (kHd c.val c.isLt).view.read (Elt Ideal) (aK m e) = shapeCast S1024x8x128 (extractStridedSlice S1x1024x8x128 ![0, 0, 8 * c.val, 0] (aK m e) ⟨rfl, inbHeads c.val c.isLt⟩) (show Shape.ShapeCasts S1x1024x8x128 S1024x8x128 from by decide) from by
    refine (Memref.read_squeeze_slice kM _ _ _ (show Shape.ShapeCasts S1x1024x8x128 S1024x8x128 from by decide) _).trans (congrArg (fun z => shapeCast S1024x8x128 z _) ?_)
    exact funext fun x => congrArg (aK m e) (funext fun a => Fin.ext (congrArg (_ + ·) (Nat.one_mul _)))]
  unfold hd
  pointwise
theorem kHd'_at (c e : Dev nD) (j : Fin 128) (n : Fin 8) (t : Fin 128) :
    (kHd' c.val c.isLt).view.read (Elt Ideal) (aK m e) (ix3 j n t) = aK m e (ix4 0 ⟨j.val, by omega⟩ (hd c n) t) := by
  rw [show (kHd' c.val c.isLt).view.read (Elt Ideal) (aK m e) = shapeCast S128x8x128 (extractStridedSlice S1x128x8x128 ![0, 0, 8 * c.val, 0] (aK m e) ⟨rfl, inbHeads' c.val c.isLt⟩) (show Shape.ShapeCasts S1x128x8x128 S128x8x128 from by decide) from by
    refine (Memref.read_squeeze_slice kM _ _ _ (show Shape.ShapeCasts S1x128x8x128 S128x8x128 from by decide) _).trans (congrArg (fun z => shapeCast S128x8x128 z _) ?_)
    exact funext fun x => congrArg (aK m e) (funext fun a => Fin.ext (congrArg (_ + ·) (Nat.one_mul _)))]
  unfold hd
  pointwise

theorem KB_lo (c : Dev nD) (j : Fin 1152) (n : Fin 8) (t : Fin 128) (h : j.val < 1024) :
    KB m c (ix3 j n t) = aK m 0 (ix4 0 ⟨j.val, h⟩ (hd c n) t) := by
  unfold KB
  rw [if_pos (mem_klo.2 h), klo_at _ ⟨j.val, h⟩ j n t rfl, kHd_at]
theorem KB_hi (c : Dev nD) (j : Fin 1152) (n : Fin 8) (t : Fin 128) (h : 1024 ≤ j.val) :
    KB m c (ix3 j n t) = aK m 1 (ix4 0 ⟨j.val - 1024, by omega⟩ (hd c n) t) := by
  unfold KB
  rw [if_neg (fun e => absurd (mem_klo.1 e) (Nat.not_lt.2 h)), khi_at _ ⟨j.val - 1024, by omega⟩ j n t (by show j.val = 1024 + (j.val - 1024); omega), kHd'_at]

theorem vlo_emb (a : Fin 1024) (j : Fin 1152) (n : Fin 8) (t : Fin 128) (h : j.val = a.val) :
    vbLo.view.emb (ix3 a n t) = (ix3 j n t : S1152x8x128.Idx) := by
  funext b; apply Fin.ext
  fin_cases b
  · show 0 + 1 * a.val = j.val; omega
  · show 0 + 1 * n.val = n.val; omega
  · show 0 + 1 * t.val = t.val; omega
theorem vhi_emb (a : Fin 128) (j : Fin 1152) (n : Fin 8) (t : Fin 128) (h : j.val = 1024 + a.val) :
    vbHi.view.emb (ix3 a n t) = (ix3 j n t : S1152x8x128.Idx) := by
  funext b; apply Fin.ext
  fin_cases b
  · show 1024 + 1 * a.val = j.val; omega
  · show 0 + 1 * n.val = n.val; omega
  · show 0 + 1 * t.val = t.val; omega

theorem vlo_at (p : Vec Ideal S1024x8x128 .f32) (a : Fin 1024) (j : Fin 1152) (n : Fin 8) (t : Fin 128) (h : j.val = a.val) :
    (vbLo.view.write (Elt Ideal) jk p Finset.univ : Vec Ideal S1152x8x128 .f32) (ix3 j n t) = p (ix3 a n t) := by
  rw [← vlo_emb a j n t h]
  exact View.write_emb_of_mem (v := vbLo.view) (Val := Elt Ideal) jk p (Finset.mem_univ _)
theorem vhi_at (p : Vec Ideal S128x8x128 .f32) (a : Fin 128) (j : Fin 1152) (n : Fin 8) (t : Fin 128) (h : j.val = 1024 + a.val) :
    (vbHi.view.write (Elt Ideal) jk p Finset.univ : Vec Ideal S1152x8x128 .f32) (ix3 j n t) = p (ix3 a n t) := by
  rw [← vhi_emb a j n t h]
  exact View.write_emb_of_mem (v := vbHi.view) (Val := Elt Ideal) jk p (Finset.mem_univ _)

theorem vHd_at (c e : Dev nD) (j : Fin 1024) (n : Fin 8) (t : Fin 128) :
    (vHd c.val c.isLt).view.read (Elt Ideal) (aV m e) (ix3 j n t) = aV m e (ix4 0 j (hd c n) t) := by
  rw [show (vHd c.val c.isLt).view.read (Elt Ideal) (aV m e) = shapeCast S1024x8x128 (extractStridedSlice S1x1024x8x128 ![0, 0, 8 * c.val, 0] (aV m e) ⟨rfl, inbHeads c.val c.isLt⟩) (show Shape.ShapeCasts S1x1024x8x128 S1024x8x128 from by decide) from by
    refine (Memref.read_squeeze_slice vM _ _ _ (show Shape.ShapeCasts S1x1024x8x128 S1024x8x128 from by decide) _).trans (congrArg (fun z => shapeCast S1024x8x128 z _) ?_)
    exact funext fun x => congrArg (aV m e) (funext fun a => Fin.ext (congrArg (_ + ·) (Nat.one_mul _)))]
  unfold hd
  pointwise
theorem vHd'_at (c e : Dev nD) (j : Fin 128) (n : Fin 8) (t : Fin 128) :
    (vHd' c.val c.isLt).view.read (Elt Ideal) (aV m e) (ix3 j n t) = aV m e (ix4 0 ⟨j.val, by omega⟩ (hd c n) t) := by
  rw [show (vHd' c.val c.isLt).view.read (Elt Ideal) (aV m e) = shapeCast S128x8x128 (extractStridedSlice S1x128x8x128 ![0, 0, 8 * c.val, 0] (aV m e) ⟨rfl, inbHeads' c.val c.isLt⟩) (show Shape.ShapeCasts S1x128x8x128 S128x8x128 from by decide) from by
    refine (Memref.read_squeeze_slice vM _ _ _ (show Shape.ShapeCasts S1x128x8x128 S128x8x128 from by decide) _).trans (congrArg (fun z => shapeCast S128x8x128 z _) ?_)
    exact funext fun x => congrArg (aV m e) (funext fun a => Fin.ext (congrArg (_ + ·) (Nat.one_mul _)))]
  unfold hd
  pointwise

theorem VB_lo (c : Dev nD) (j : Fin 1152) (n : Fin 8) (t : Fin 128) (h : j.val < 1024) :
    VB m c (ix3 j n t) = aV m 0 (ix4 0 ⟨j.val, h⟩ (hd c n) t) := by
  unfold VB
  rw [if_pos (mem_vlo.2 h), vlo_at _ ⟨j.val, h⟩ j n t rfl, vHd_at]
theorem VB_hi (c : Dev nD) (j : Fin 1152) (n : Fin 8) (t : Fin 128) (h : 1024 ≤ j.val) :
    VB m c (ix3 j n t) = aV m 1 (ix4 0 ⟨j.val - 1024, by omega⟩ (hd c n) t) := by
  unfold VB
  rw [if_neg (fun e => absurd (mem_vlo.1 e) (Nat.not_lt.2 h)), vhi_at _ ⟨j.val - 1024, by omega⟩ j n t (by show j.val = 1024 + (j.val - 1024); omega), vHd'_at]

end Cert.KernelIdeal.Pf
end
-- ==== Proof.Val.lean ====
module

public import proofs.«01_k».proof.Proof.ValB
public import proofs.«01_k».proof.Proof.ValC
public import proofs.«01_k».proof.Proof.ValD

@[expose] public section

set_option maxRecDepth 16384

noncomputable section

namespace Cert.KernelIdeal.Pf

open Cert.KernelIdeal Cert.KernelIdeal.Gen
open Idealize.ShloMosaic Idealize.ShloMosaic.WordCmp
open Idealize.ShloMosaic.TcCoe

/-! ## The kernel computes the attention of the whole arguments -/

/-- The devices' arguments are their parts of the whole arguments, which are finite where the attention reads them. -/
structure Parts (m : (ℓ : Loc nD τ sig) → Buf (Elt Ideal) ℓ) (X : Fin 1024 → Fin 1024 → EReal) (W : Fin 1024 → Fin 8192 → EReal)
    (K V : Fin 8192 → Fin 64 → Fin 128 → EReal) (O : Fin 8192 → Fin 1024 → EReal) : Prop where
  x : ∀ (c : Dev nD) (i t : Fin 1024), aX m c (ix3 0 i t) = X i t
  w : ∀ (c : Dev nD) (t e : Fin 1024) (e' : Fin 8192), e'.val = 1024 * c.val + e.val → aWq m c (ix2 t e) = W t e'
  k : ∀ (c : Dev nD) (j : Fin 1024) (j' : Fin 8192), j'.val = 1024 * c.val + j.val → ∀ h d, aK m c (ix4 0 j h d) = K j' h d
  v : ∀ (c : Dev nD) (j : Fin 1024) (j' : Fin 8192), j'.val = 1024 * c.val + j.val → ∀ h d, aV m c (ix4 0 j h d) = V j' h d
  o : ∀ (c : Dev nD) (e : Fin 1024) (e' : Fin 8192), e'.val = 1024 * c.val + e.val → ∀ t, aWo m c (ix2 e t) = O e' t
  rx : ∀ i t, ∃ r : ℝ, X i t = r
  rw : ∀ t e, ∃ r : ℝ, W t e = r
  rk : ∀ j h d, ∃ r : ℝ, K j h d = r

variable {m : (ℓ : Loc nD τ sig) → Buf (Elt Ideal) ℓ} {X : Fin 1024 → Fin 1024 → EReal} {W : Fin 1024 → Fin 8192 → EReal}
  {K V : Fin 8192 → Fin 64 → Fin 128 → EReal} {O : Fin 8192 → Fin 1024 → EReal} (P : Parts m X W K V O)

include P

/-! ### The first 32 rows -/

theorem gq_S (h : Fin 64) (i : Fin 32) (d : Fin 128) : gq m (ix3 h i d) = QS X W h ⟨i.val, by omega⟩ d := by
  rw [gq_at]
  unfold QS
  refine Finset.sum_congr rfl fun t _ => ?_
  rw [P.x, P.w _ _ _ ⟨h.val * 128 + d.val, by omega⟩ (by show h.val * 128 + d.val = 1024 * (h.val / 8) + (h.val % 8 * 128 + d.val); omega)]

theorem EX_S (c : Dev nD) (h : Fin 64) (i : Fin 32) (j : Fin 1024) (j' : Fin 8192) (e : j'.val = 1024 * c.val + j.val) :
    EX m c h i j = Ideal.exp (SG X W K h ⟨i.val, by omega⟩ j') := by
  unfold EX SG
  simp only [gq_S P, P.k c j j' e]

theorem num_S (c : Dev nD) (n : Fin 8) (i : Fin 32) (d : Fin 128) :
    v714 m c (ix3 n i d) = ∑ j : Fin 8192, Ideal.exp (SG X W K (hd c n) ⟨i.val, by omega⟩ j) * V j (hd c n) d := by
  rw [v714_at, sum_blocks 8 1024 8192 rfl]
  refine Finset.sum_congr rfl fun e _ => ?_
  refine (ND_num m e (hd c n) i d).trans (Finset.sum_congr rfl fun j _ => ?_)
  rw [EX_S P e (hd c n) i j ⟨1024 * e.val + j.val, by omega⟩ rfl, P.v e j ⟨1024 * e.val + j.val, by omega⟩ rfl]

theorem den_S (c : Dev nD) (n : Fin 8) (i : Fin 32) :
    v716 m c (ix2 n i) = ∑ j : Fin 8192, Ideal.exp (SG X W K (hd c n) ⟨i.val, by omega⟩ j) := by
  rw [v716_at, sum_blocks 8 1024 8192 rfl]
  refine Finset.sum_congr rfl fun e _ => ?_
  refine (ND_den m e (hd c n) i).trans (Finset.sum_congr rfl fun j _ => ?_)
  exact EX_S P e (hd c n) i j ⟨1024 * e.val + j.val, by omega⟩ rfl

/-! ### The other rows -/

theorem bq_S (c : Dev nD) (n : Fin 8) (i : Fin 992) (r : Fin 1024) (e : r.val = 32 + i.val) (d : Fin 128) :
    bq m c n.val n.isLt (ix2 i d) = QS X W (hd c n) r d := by
  refine (rdQ_at n.val n.isLt (Q0 m c) i d).trans ((pay2_at _ _ _ _).trans ?_)
  unfold QS
  refine Finset.sum_congr rfl fun t _ => ?_
  rw [P.x, P.w c t _ ⟨(hd c n).val * 128 + d.val, by omega⟩ (by show (8 * c.val + n.val) * 128 + d.val = 1024 * c.val + (128 * n.val + d.val); omega)]
  congr 2
  exact Fin.ext e.symm

theorem bk_S (c : Dev nD) (n : Fin 8) (j : Fin 1152) (t : Fin 128) : bk m c n.val n.isLt (ix3 j 0 t) = K ⟨j.val, by omega⟩ (hd c n) t := by
  refine (rdKB_at n.val n.isLt (KB m c) j t).trans ?_
  by_cases h : j.val < 1024
  · exact (KB_lo m c j n t h).trans (P.k 0 _ _ (by show j.val = 1024 * 0 + j.val; omega) _ _)
  · exact (KB_hi m c j n t (by omega)).trans (P.k 1 _ _ (by show j.val = 1024 * 1 + (j.val - 1024); omega) _ _)
theorem bv_S (c : Dev nD) (n : Fin 8) (j : Fin 1152) (t : Fin 128) : bv m c n.val n.isLt (ix3 j 0 t) = V ⟨j.val, by omega⟩ (hd c n) t := by
  refine (rdVB_at n.val n.isLt (VB m c) j t).trans ?_
  by_cases h : j.val < 1024
  · exact (VB_lo m c j n t h).trans (P.v 0 _ _ (by show j.val = 1024 * 0 + j.val; omega) _ _)
  · exact (VB_hi m c j n t (by omega)).trans (P.v 1 _ _ (by show j.val = 1024 * 1 + (j.val - 1024); omega) _ _)

theorem MS_S (c : Dev nD) (n : Fin 8) (r : Fin 1024) (hr : 32 ≤ r.val) (x : Fin 1152) :
    MS (bq m c n.val n.isLt) (bk m c n.val n.isLt) ⟨r.val - 32, by omega⟩ x = TS X W K (hd c n) r ⟨x.val, by omega⟩ := by
  have e1 : IntOp.addi (BitVec.ofNat 32 (r.val - 32)) 32#32 = BitVec.ofNat 32 r.val :=
    (addi_ofNat (r.val - 32) 32).trans (by rw [Nat.sub_add_cancel hr])
  have e2 : IntOp.cmpi CmpIPredicate.slt (BitVec.ofNat 32 r.val) 32#32 = 0#1 :=
    (cmpi_slt_ofNat_eq_zero_iff (w := 32) (b := 32) (by omega) (by omega)).2 (by omega)
  have e3 : ∀ b : BitVec 1, IntOp.ori b 0#1 = b := by decide
  have e4 : (Named.named κ "mask" 0xCE6E6B28#32 : Ideal .f32) = Ideal.ofBits FTy.f32 0xFF800000#32 := by
    rw [ninf_eq]; rfl
  unfold MS TS SG
  rw [e2, e3, e4]
  simp only [e1, bq_S P c n ⟨r.val - 32, by omega⟩ r (by show r.val = 32 + (r.val - 32); omega), bk_S P]

/-! ### Together -/

theorem ctx_S (c : Dev nD) (n : Fin 8) (r : Fin 1024) (d : Fin 128) :
    head n (v714 m c) (v716 m c) (bq m c n.val n.isLt) (bk m c n.val n.isLt) (bv m c n.val n.isLt) r d = ATT X W K V (hd c n) r d := by
  unfold head
  split
  · next h =>
    rw [ATT_global X W K V P.rx P.rw P.rk (hd c n) r d h, num_S P, den_S P]
  · next h =>
    rw [ATT_local X W K V P.rx P.rw P.rk (hd c n) r d (by omega), ninf_eq]
    simp only [MS_S P c n r (by omega), bv_S P]

theorem OUT_S (r col : Fin 1024) : OUT m (ix3 0 r col) = RES X W K V O r col := by
  rw [OUT_at]
  unfold RES
  rw [sum_blocks 8 1024 8192 rfl]
  refine Finset.sum_congr rfl fun c _ => ?_
  rw [PA_at, sum_blocks 8 128 1024 rfl]
  refine Finset.sum_congr rfl fun n _ => Finset.sum_congr rfl fun d _ => ?_
  rw [ctx_S P]
  have hw := (rdWo_at n.val n.isLt (aWo m c) d col).trans (P.o c _ ⟨1024 * c.val + (128 * n.val + d.val), by have : c.val < 8 := c.isLt; omega⟩ rfl col)
  refine (congrArg (_ * ·) hw).trans ?_
  congr 2
  · exact Fin.ext (by show 8 * c.val + n.val = (1024 * c.val + (128 * n.val + d.val)) / 128; omega)
  · exact Fin.ext (by show d.val = (1024 * c.val + (128 * n.val + d.val)) % 128; omega)

end Cert.KernelIdeal.Pf
end
-- ==== Proof.RefVal.lean ====
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Pf

open Cert.ReferenceIdeal Cert.ReferenceIdeal.Gen Idealize.ShloMosaic Idealize.ShloMosaic.TcCoe
open Cert.KernelIdeal.Pf

variable (m : (ℓ : Loc nD τ sig) → Buf (Elt Ideal) ℓ)

/-- The reference's five arguments, by coordinates. -/
def rX (i t : Fin 1024) : EReal := (m ((Dev.tc 0).loc main_arg0) : Vec Ideal S1x1024x1024 .f32) (ix3 0 i t)
def rW (t : Fin 1024) (e : Fin 8192) : EReal := (m ((Dev.tc 0).loc main_arg1) : Vec Ideal S1024x8192 .f32) (ix2 t e)
def rK (j : Fin 8192) (h : Fin 64) (d : Fin 128) : EReal := (m ((Dev.tc 0).loc main_arg2) : Vec Ideal S1x8192x64x128 .f32) (ix4 0 j h d)
def rV (j : Fin 8192) (h : Fin 64) (d : Fin 128) : EReal := (m ((Dev.tc 0).loc main_arg3) : Vec Ideal S1x8192x64x128 .f32) (ix4 0 j h d)
def rO (e : Fin 8192) (t : Fin 1024) : EReal := (m ((Dev.tc 0).loc main_arg4) : Vec Ideal S8192x1024 .f32) (ix2 e t)

/-- A `stablehlo.reduce` by `or` is 1 where it meets a 1. -/
theorem foldl_ori {ι : Type} (f : ι → BitVec 1) : ∀ (l : List ι) (init : BitVec 1), (init = 1#1 ∨ ∃ n ∈ l, f n = 1#1) →
    l.foldl (fun r n => IntOp.ori r (f n)) init = 1#1
  | [], _, h => h.elim id fun ⟨_, hn, _⟩ => nomatch hn
  | a :: l, init, h => foldl_ori f l _ <| by
    have o1 : ∀ b : BitVec 1, IntOp.ori 1#1 b = 1#1 := by decide
    have o2 : ∀ b : BitVec 1, IntOp.ori b 1#1 = 1#1 := by decide
    rcases h with h | ⟨n, hn, e⟩
    · exact Or.inl (by rw [h]; exact o1 (f a))
    · rcases List.mem_cons.1 hn with rfl | hn
      · exact Or.inl ((congrArg (IntOp.ori init) e).trans (o2 init))
      · exact Or.inr ⟨n, hn, e⟩

theorem reduce_ori {s t u : Shape} {axes : List (Fin s.rank)} (x : s.Idx → BitVec 1) (init : u.Idx → BitVec 1) (h : s.ReducesTo axes t)
    (hu : 0 < u.numel) (hx : ∀ j, ∃ i, h.drop i = j ∧ x i = 1#1) : Host.reduce IntOp.ori x init h hu = fun _ => 1#1 := by
  funext j
  rw [Host.reduce_eq_foldl]
  obtain ⟨i, hi, e⟩ := hx j
  refine foldl_ori x _ _ (Or.inr ⟨i, ?_, e⟩)
  rw [List.mem_filter]
  exact ⟨List.mem_map.2 ⟨s.rowMajor i, List.mem_finRange _, Equiv.symm_apply_apply _ _⟩, by simp [hi]⟩

/-- The reference computes that attention: no row is masked altogether, since the mask holds column 0. -/
theorem ref_at (i j : Fin 1024) :
    (Value.res_main_v42 m 0 : Vec Ideal S1x1024x1024 .f32) (ix3 0 i j) = RES (rX m) (rW m) (rK m) (rV m) (rO m) i j := by
  unfold RES ATT TS SG QS sc rX rW rK rV rO
  unfold Value.res_main_v42
  clean_types
  rw [reduce_ori (hx := by
    intro r
    refine ⟨ix2 (r 0) 0, ?_, ?_⟩
    · funext a
      fin_cases a
      rfl
    · show IntOp.ori _ (IntOp.ori 1#1 _) = 1#1
      have : ∀ a b : BitVec 1, IntOp.ori a (IntOp.ori 1#1 b) = 1#1 := by decide
      exact this _ _)]
  pointwise
  rfl

end Cert.ReferenceIdeal.Pf
end
-- ==== Proof.Fin.lean ====
module

public import proofs.«01_k».proof.Defs
public import Idealize.ShloMosaic.Lib.ReduceAll
public import Idealize.ShloMosaic.Lib.Pointwise

@[expose] public section

set_option maxRecDepth 16384

noncomputable section

namespace Cert.Pre_finite_KernelIdeal

open Idealize.ShloMosaic

instance facts : Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide

theorem inf_eq : Ideal.ofBits FTy.f32 0x7F800000#32 = ⊤ := by simp [Ideal.ofBits, Ideal.ieee]

theorem real_of {x : EReal} (h : Ideal.cmp .olt (max x (-x)) (Ideal.ofBits FTy.f32 0x7F800000#32) = 1#1) : ∃ r : ℝ, x = r := by
  rw [inf_eq] at h
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x with
  | bot => simp at h'
  | top => simp at h'
  | coe r => exact ⟨r, rfl⟩

variable (x : FVec Ideal S1x1024x1024 .f32) (w : FVec Ideal S1024x1024 .f32) (k v : FVec Ideal S1x1024x64x128 .f32) (o : FVec Ideal S1024x1024 .f32)

instance : Subsingleton S_.Idx := ⟨fun a b => funext fun i => i.elim0⟩

/-- The precondition says that the three arrays' elements are finite. -/
theorem reals (h : fn x w k v o = fun _ => 1#1) :
    (∀ i, ∃ r : ℝ, x i = r) ∧ (∀ i, ∃ r : ℝ, w i = r) ∧ ∀ i, ∃ r : ℝ, k i = r := by
  have h0 := congrFun h (fun i => i.elim0)
  dsimp only [fn] at h0
  obtain ⟨h2, hk⟩ := IntOp.andi_eq_one.1 h0
  obtain ⟨hx, hw⟩ := IntOp.andi_eq_one.1 h2
  exact ⟨fun i => real_of (Host.reduce_andi_all _ _ _ _ _ hx i), fun i => real_of (Host.reduce_andi_all _ _ _ _ _ hw i),
    fun i => real_of (Host.reduce_andi_all _ _ _ _ _ hk i)⟩

end Cert.Pre_finite_KernelIdeal

namespace Cert.Pre_finite_ReferenceIdeal

open Idealize.ShloMosaic

instance facts : Facts := by constructor <;> decide

end Cert.Pre_finite_ReferenceIdeal
end
-- ==== Proof.Alg.lean ====
module

public import proofs.«01_k».proof.Defs
public import proofs.«01_k».proof.Proof.RunMain
public import proofs.«01_k».proof.Proof.Val
public import proofs.«01_k».proof.Proof.RefVal
public import proofs.«01_k».proof.Proof.Fin
public import Idealize.ShloMosaic.Lib.Layout
public import Idealize.ShloMosaic.Lib.Pipeline.ValueKit.Geometry

@[expose] public section

set_option maxRecDepth 16384

noncomputable section

namespace Cert.KernelIdeal.Pf

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The result the run leaves -/

attribute [local irreducible] OUT in
theorem final3 (c : Dev nD) : finalA m ρ c 3 = OUT m := by
  unfold finalA
  refine (dats m ρ 0 c).arrAt_eq_of_covers 3 (OUT m) (by decide +kernel) (fun t _ y => ?_)
  rw [fin_N t]
  refine congrArg (OUT m) ?_
  funext a; apply Fin.ext
  fin_cases a
  · exact (Nat.zero_add _).symm.trans (by congr 1; exact (Nat.one_mul _).symm)
  · exact (Nat.zero_add _).symm.trans (by congr 1; exact (Nat.one_mul _).symm)
  · exact (Nat.zero_add _).symm.trans (by congr 1; exact (Nat.one_mul _).symm)

end Cert.KernelIdeal.Pf

namespace Cert.Proof

open Idealize.ShloMosaic Idealize.ShloMosaic.TcCoe Idealize.SL.Sem
open Cert.KernelIdeal.Pf Cert.ReferenceIdeal.Pf

theorem parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Pre_KernelIdeal_finite_KernelIdeal m)
    (H : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) :
    Parts m (rX m') (rW m') (rK m') (rV m') (rO m') := by
  have hx : ∀ (c : Dev Cert.KernelIdeal.nD) (i t : Fin 1024), aX m c (ix3 0 i t) = rX m' i t := fun c i t => congrFun (H c).1 (ix3 0 i t)
  have hw : ∀ (c : Dev Cert.KernelIdeal.nD) (t e : Fin 1024) (e' : Fin 8192), e'.val = 1024 * c.val + e.val → aWq m c (ix2 t e) = rW m' t e' := fun c t e e' he =>
    (congrFun (H c).2.1 (ix2 t e)).trans <| congrArg (m' (((0 : Dev Cert.ReferenceIdeal.nD).tc : Thread Cert.ReferenceIdeal.nD Cert.ReferenceIdeal.τ).loc Cert.ReferenceIdeal.main_arg1)) <| by
      funext a; apply Fin.ext
      fin_cases a
      · rfl
      · show c.val * 1024 + e.val = e'.val; omega
  have hk : ∀ (c : Dev Cert.KernelIdeal.nD) (j : Fin 1024) (j' : Fin 8192), j'.val = 1024 * c.val + j.val → ∀ h d, aK m c (ix4 0 j h d) = rK m' j' h d := fun c j j' he h d =>
    (congrFun (H c).2.2.1 (ix4 0 j h d)).trans <| congrArg (m' (((0 : Dev Cert.ReferenceIdeal.nD).tc : Thread Cert.ReferenceIdeal.nD Cert.ReferenceIdeal.τ).loc Cert.ReferenceIdeal.main_arg2)) <| by
      funext a; apply Fin.ext
      fin_cases a
      · rfl
      · show c.val * 1024 + j.val = j'.val; omega
      · rfl
      · rfl
  have hv : ∀ (c : Dev Cert.KernelIdeal.nD) (j : Fin 1024) (j' : Fin 8192), j'.val = 1024 * c.val + j.val → ∀ h d, aV m c (ix4 0 j h d) = rV m' j' h d := fun c j j' he h d =>
    (congrFun (H c).2.2.2.1 (ix4 0 j h d)).trans <| congrArg (m' (((0 : Dev Cert.ReferenceIdeal.nD).tc : Thread Cert.ReferenceIdeal.nD Cert.ReferenceIdeal.τ).loc Cert.ReferenceIdeal.main_arg3)) <| by
      funext a; apply Fin.ext
      fin_cases a
      · rfl
      · show c.val * 1024 + j.val = j'.val; omega
      · rfl
      · rfl
  have ho : ∀ (c : Dev Cert.KernelIdeal.nD) (e : Fin 1024) (e' : Fin 8192), e'.val = 1024 * c.val + e.val → ∀ t, aWo m c (ix2 e t) = rO m' e' t := fun c e e' he t =>
    (congrFun (H c).2.2.2.2 (ix2 e t)).trans <| congrArg (m' (((0 : Dev Cert.ReferenceIdeal.nD).tc : Thread Cert.ReferenceIdeal.nD Cert.ReferenceIdeal.τ).loc Cert.ReferenceIdeal.main_arg4)) <| by
      funext a; apply Fin.ext
      fin_cases a
      · show c.val * 1024 + e.val = e'.val; omega
      · rfl
  have hr := fun c => Cert.Pre_finite_KernelIdeal.reals _ _ _ _ _ (hp c)
  refine ⟨hx, hw, hk, hv, ho, fun i t => ?_, fun t e => ?_, fun j h d => ?_⟩
  · rw [← hx 0 i t]; exact (hr 0).1 _
  · rw [← hw ⟨e.val / 1024, by show e.val / 1024 < 8; omega⟩ t ⟨e.val % 1024, by omega⟩ e (by show e.val = 1024 * (e.val / 1024) + e.val % 1024; omega)]
    exact (hr _).2.1 _
  · rw [← hk ⟨j.val / 1024, by show j.val / 1024 < 8; omega⟩ ⟨j.val % 1024, by omega⟩ j (by show j.val = 1024 * (j.val / 1024) + j.val % 1024; omega)]
    exact (hr _).2.2 _

theorem ext_rows {f g : Vec Ideal Cert.KernelIdeal.S1x1024x1024 .f32} (h : ∀ r col : Fin 1024, f (ix3 0 r col) = g (ix3 0 r col)) : f = g := by
  funext i
  have e : i = ix3 0 (i 1) (i 2) := by
    funext a
    fin_cases a
    · exact Fin.ext (by have : (i 0).val < 1 := (i 0).isLt; show (i 0).val = 0; omega)
    · rfl
    · rfl
  rw [e]
  exact h _ _

/-- The kernel's result and the reference's are the same array. -/
theorem same_result {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (P : Parts m (rX m') (rW m') (rK m') (rV m') (rO m')) :
    (Cert.KernelIdeal.Pf.OUT m : Vec Ideal Cert.KernelIdeal.S1x1024x1024 .f32) = Cert.ReferenceIdeal.Value.res_main_v42 m' 0 := by
  exact ext_rows fun r col => (OUT_S P r col).trans (ref_at m' r col).symm

theorem algebraic : Cert.algebraic_KernelIdeal_ReferenceIdeal_pre_finite_KernelIdeal := fun m g m' g' hp H =>
  ⟨Cert.ReferenceIdeal.Value.res_main_v42 m' 0,
    (θ_run Cert.KernelIdeal.defs _ _).mono (fun _ h c => ⟨((h.1 c).1 (3 : Fin 4)).trans ((final3 m g c).trans (same_result (parts m m' hp H))),
      ((h.1 c).1 (0 : Fin 4)).trans ((dats m g 0 c).arrAt_in (0 : Fin 4) rfl _),
      ((h.1 c).1 (1 : Fin 4)).trans ((dats m g 0 c).arrAt_in (1 : Fin 4) rfl _), (h.1 c).2.1, (h.1 c).2.2,
      ((h.1 c).1 (2 : Fin 4)).trans ((dats m g 0 c).arrAt_in (2 : Fin 4) rfl _)⟩) (run_main m g),
    (θ_run Cert.ReferenceIdeal.defs _ _).mono (fun _ h => h 0) (Cert.ReferenceIdeal.Value.run m' g')⟩

end Cert.Proof
end
-- ==== Proof.lean ====
module

public import proofs.«01_k».proof.Defs
public import proofs.«01_k».proof.Proof.FrameP
public import proofs.«01_k».proof.Proof.Frames
public import proofs.«01_k».proof.Proof.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_KernelIdeal.facts, Cert.Pre_finite_ReferenceIdeal.facts,
    frame_kernel, frame_ideal, fun m ρ _ => Cert.KernelIdeal.Pf.frame_run m ρ, frame_ref, fun m ρ _ => Cert.ReferenceIdeal.Pf.run_frame m ρ,
    preserves, algebraic⟩

end Cert.Proof

end
